-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_args [hPre_finite_args : Cert.Pre_finite_args.Facts] (m : (ℓ : Loc Cert.KernelIdeal.nD Cert.KernelIdeal.τ Cert.KernelIdeal.sig) → Buf (Elt Ideal) ℓ) : Prop :=
  ∀ c : Dev Cert.KernelIdeal.nD,
    (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_args [hPre_finite_args : Cert.Pre_finite_args.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_DownDw (m : (ℓ : Loc Cert.DownDw.nD Cert.DownDw.τ Cert.DownDw.sig) → Buf (Elt Bits) ℓ) : Prop :=
  True

def Pre_DownDwIdeal (m : (ℓ : Loc Cert.DownDwIdeal.nD Cert.DownDwIdeal.τ Cert.DownDwIdeal.sig) → Buf (Elt Ideal) ℓ) : Prop :=
  True

def Pre_DownDwReferenceIdeal (m : (ℓ : Loc Cert.DownDwReferenceIdeal.nD Cert.DownDwReferenceIdeal.τ Cert.DownDwReferenceIdeal.sig) → Buf (Elt Ideal) ℓ) : Prop :=
  True

def Pre_DownDx (m : (ℓ : Loc Cert.DownDx.nD Cert.DownDx.τ Cert.DownDx.sig) → Buf (Elt Bits) ℓ) : Prop :=
  True

def Pre_DownDxIdeal (m : (ℓ : Loc Cert.DownDxIdeal.nD Cert.DownDxIdeal.τ Cert.DownDxIdeal.sig) → Buf (Elt Ideal) ℓ) : Prop :=
  True

def Pre_DownDxReferenceIdeal (m : (ℓ : Loc Cert.DownDxReferenceIdeal.nD Cert.DownDxReferenceIdeal.τ Cert.DownDxReferenceIdeal.sig) → Buf (Elt Ideal) ℓ) : Prop :=
  True

def Pre_UpDw (m : (ℓ : Loc Cert.UpDw.nD Cert.UpDw.τ Cert.UpDw.sig) → Buf (Elt Bits) ℓ) : Prop :=
  True

def Pre_UpDwIdeal (m : (ℓ : Loc Cert.UpDwIdeal.nD Cert.UpDwIdeal.τ Cert.UpDwIdeal.sig) → Buf (Elt Ideal) ℓ) : Prop :=
  True

def Pre_UpDwReferenceIdeal (m : (ℓ : Loc Cert.UpDwReferenceIdeal.nD Cert.UpDwReferenceIdeal.τ Cert.UpDwReferenceIdeal.sig) → Buf (Elt Ideal) ℓ) : Prop :=
  True

def Pre_UpDx (m : (ℓ : Loc Cert.UpDx.nD Cert.UpDx.τ Cert.UpDx.sig) → Buf (Elt Bits) ℓ) : Prop :=
  True

def Pre_UpDxIdeal (m : (ℓ : Loc Cert.UpDxIdeal.nD Cert.UpDxIdeal.τ Cert.UpDxIdeal.sig) → Buf (Elt Ideal) ℓ) : Prop :=
  True

def Pre_UpDxReferenceIdeal (m : (ℓ : Loc Cert.UpDxReferenceIdeal.nD Cert.UpDxReferenceIdeal.τ Cert.UpDxReferenceIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpReferenceIdeal (m : (ℓ : Loc Cert.UpReferenceIdeal.nD Cert.UpReferenceIdeal.τ Cert.UpReferenceIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_SquareDw (m : (ℓ : Loc Cert.SquareDw.nD Cert.SquareDw.τ Cert.SquareDw.sig) → Buf (Elt Bits) ℓ) : Prop :=
  True

def Pre_SquareDwIdeal (m : (ℓ : Loc Cert.SquareDwIdeal.nD Cert.SquareDwIdeal.τ Cert.SquareDwIdeal.sig) → Buf (Elt Ideal) ℓ) : Prop :=
  True

def Pre_SquareDwReferenceIdeal (m : (ℓ : Loc Cert.SquareDwReferenceIdeal.nD Cert.SquareDwReferenceIdeal.τ Cert.SquareDwReferenceIdeal.sig) → Buf (Elt Ideal) ℓ) : Prop :=
  True

def Pre_KvDw (m : (ℓ : Loc Cert.KvDw.nD Cert.KvDw.τ Cert.KvDw.sig) → Buf (Elt Bits) ℓ) : Prop :=
  True

def Pre_KvDwIdeal (m : (ℓ : Loc Cert.KvDwIdeal.nD Cert.KvDwIdeal.τ Cert.KvDwIdeal.sig) → Buf (Elt Ideal) ℓ) : Prop :=
  True

def Pre_KvDwReferenceIdeal (m : (ℓ : Loc Cert.KvDwReferenceIdeal.nD Cert.KvDwReferenceIdeal.τ Cert.KvDwReferenceIdeal.sig) → Buf (Elt Ideal) ℓ) : Prop :=
  True

def Pre_PleProjDw (m : (ℓ : Loc Cert.PleProjDw.nD Cert.PleProjDw.τ Cert.PleProjDw.sig) → Buf (Elt Bits) ℓ) : Prop :=
  True

def Pre_PleProjDwIdeal (m : (ℓ : Loc Cert.PleProjDwIdeal.nD Cert.PleProjDwIdeal.τ Cert.PleProjDwIdeal.sig) → Buf (Elt Ideal) ℓ) : Prop :=
  True

def Pre_PleProjDwReferenceIdeal (m : (ℓ : Loc Cert.PleProjDwReferenceIdeal.nD Cert.PleProjDwReferenceIdeal.τ Cert.PleProjDwReferenceIdeal.sig) → Buf (Elt Ideal) ℓ) : Prop :=
  True

def Pre_AttnOutDx (m : (ℓ : Loc Cert.AttnOutDx.nD Cert.AttnOutDx.τ Cert.AttnOutDx.sig) → Buf (Elt Bits) ℓ) : Prop :=
  True

def Pre_AttnOutDxIdeal (m : (ℓ : Loc Cert.AttnOutDxIdeal.nD Cert.AttnOutDxIdeal.τ Cert.AttnOutDxIdeal.sig) → Buf (Elt Ideal) ℓ) : Prop :=
  True

def Pre_AttnOutDxReferenceIdeal (m : (ℓ : Loc Cert.AttnOutDxReferenceIdeal.nD Cert.AttnOutDxReferenceIdeal.τ Cert.AttnOutDxReferenceIdeal.sig) → Buf (Elt Ideal) ℓ) : Prop :=
  True

def Pre_SsmOutDw (m : (ℓ : Loc Cert.SsmOutDw.nD Cert.SsmOutDw.τ Cert.SsmOutDw.sig) → Buf (Elt Bits) ℓ) : Prop :=
  True

def Pre_SsmOutDwIdeal (m : (ℓ : Loc Cert.SsmOutDwIdeal.nD Cert.SsmOutDwIdeal.τ Cert.SsmOutDwIdeal.sig) → Buf (Elt Ideal) ℓ) : Prop :=
  True

def Pre_SsmOutDwReferenceIdeal (m : (ℓ : Loc Cert.SsmOutDwReferenceIdeal.nD Cert.SsmOutDwReferenceIdeal.τ Cert.SsmOutDwReferenceIdeal.sig) → Buf (Elt Ideal) ℓ) : Prop :=
  True

def Pre_SsmOutDx (m : (ℓ : Loc Cert.SsmOutDx.nD Cert.SsmOutDx.τ Cert.SsmOutDx.sig) → Buf (Elt Bits) ℓ) : Prop :=
  True

def Pre_SsmOutDxIdeal (m : (ℓ : Loc Cert.SsmOutDxIdeal.nD Cert.SsmOutDxIdeal.τ Cert.SsmOutDxIdeal.sig) → Buf (Elt Ideal) ℓ) : Prop :=
  True

def Pre_SsmOutDxReferenceIdeal (m : (ℓ : Loc Cert.SsmOutDxReferenceIdeal.nD Cert.SsmOutDxReferenceIdeal.τ Cert.SsmOutDxReferenceIdeal.sig) → Buf (Elt Ideal) ℓ) : Prop :=
  True

def Pre_SsmZDw (m : (ℓ : Loc Cert.SsmZDw.nD Cert.SsmZDw.τ Cert.SsmZDw.sig) → Buf (Elt Bits) ℓ) : Prop :=
  True

def Pre_SsmZDwIdeal (m : (ℓ : Loc Cert.SsmZDwIdeal.nD Cert.SsmZDwIdeal.τ Cert.SsmZDwIdeal.sig) → Buf (Elt Ideal) ℓ) : Prop :=
  True

def Pre_SsmZDwReferenceIdeal (m : (ℓ : Loc Cert.SsmZDwReferenceIdeal.nD Cert.SsmZDwReferenceIdeal.τ Cert.SsmZDwReferenceIdeal.sig) → Buf (Elt Ideal) ℓ) : Prop :=
  True

def Pre_SsmZDx (m : (ℓ : Loc Cert.SsmZDx.nD Cert.SsmZDx.τ Cert.SsmZDx.sig) → Buf (Elt Bits) ℓ) : Prop :=
  True

def Pre_SsmZDxIdeal (m : (ℓ : Loc Cert.SsmZDxIdeal.nD Cert.SsmZDxIdeal.τ Cert.SsmZDxIdeal.sig) → Buf (Elt Ideal) ℓ) : Prop :=
  True

def Pre_SsmZDxReferenceIdeal (m : (ℓ : Loc Cert.SsmZDxReferenceIdeal.nD Cert.SsmZDxReferenceIdeal.τ Cert.SsmZDxReferenceIdeal.sig) → Buf (Elt Ideal) ℓ) : Prop :=
  True

def Pre_SsmDtDw (m : (ℓ : Loc Cert.SsmDtDw.nD Cert.SsmDtDw.τ Cert.SsmDtDw.sig) → Buf (Elt Bits) ℓ) : Prop :=
  True

def Pre_SsmDtDwIdeal (m : (ℓ : Loc Cert.SsmDtDwIdeal.nD Cert.SsmDtDwIdeal.τ Cert.SsmDtDwIdeal.sig) → Buf (Elt Ideal) ℓ) : Prop :=
  True

def Pre_SsmDtDwReferenceIdeal (m : (ℓ : Loc Cert.SsmDtDwReferenceIdeal.nD Cert.SsmDtDwReferenceIdeal.τ Cert.SsmDtDwReferenceIdeal.sig) → Buf (Elt Ideal) ℓ) : Prop :=
  True

def Pre_SsmDtDx (m : (ℓ : Loc Cert.SsmDtDx.nD Cert.SsmDtDx.τ Cert.SsmDtDx.sig) → Buf (Elt Bits) ℓ) : Prop :=
  True

def Pre_SsmDtDxIdeal (m : (ℓ : Loc Cert.SsmDtDxIdeal.nD Cert.SsmDtDxIdeal.τ Cert.SsmDtDxIdeal.sig) → Buf (Elt Ideal) ℓ) : Prop :=
  True

def Pre_SsmDtDxReferenceIdeal (m : (ℓ : Loc Cert.SsmDtDxReferenceIdeal.nD Cert.SsmDtDxReferenceIdeal.τ Cert.SsmDtDxReferenceIdeal.sig) → Buf (Elt Ideal) ℓ) : Prop :=
  True

def Pre_SsmXbcDw (m : (ℓ : Loc Cert.SsmXbcDw.nD Cert.SsmXbcDw.τ Cert.SsmXbcDw.sig) → Buf (Elt Bits) ℓ) : Prop :=
  True

def Pre_SsmXbcDwIdeal (m : (ℓ : Loc Cert.SsmXbcDwIdeal.nD Cert.SsmXbcDwIdeal.τ Cert.SsmXbcDwIdeal.sig) → Buf (Elt Ideal) ℓ) : Prop :=
  True

def Pre_SsmXbcDwReferenceIdeal (m : (ℓ : Loc Cert.SsmXbcDwReferenceIdeal.nD Cert.SsmXbcDwReferenceIdeal.τ Cert.SsmXbcDwReferenceIdeal.sig) → Buf (Elt Ideal) ℓ) : Prop :=
  True

def Pre_SsmOut (m : (ℓ : Loc Cert.SsmOut.nD Cert.SsmOut.τ Cert.SsmOut.sig) → Buf (Elt Bits) ℓ) : Prop :=
  True

def Pre_SsmOutIdeal (m : (ℓ : Loc Cert.SsmOutIdeal.nD Cert.SsmOutIdeal.τ Cert.SsmOutIdeal.sig) → Buf (Elt Ideal) ℓ) : Prop :=
  True

def Pre_SsmOutReferenceIdeal (m : (ℓ : Loc Cert.SsmOutReferenceIdeal.nD Cert.SsmOutReferenceIdeal.τ Cert.SsmOutReferenceIdeal.sig) → Buf (Elt Ideal) ℓ) : Prop :=
  True

def Pre_AttnQ (m : (ℓ : Loc Cert.AttnQ.nD Cert.AttnQ.τ Cert.AttnQ.sig) → Buf (Elt Bits) ℓ) : Prop :=
  True

def Pre_AttnQIdeal (m : (ℓ : Loc Cert.AttnQIdeal.nD Cert.AttnQIdeal.τ Cert.AttnQIdeal.sig) → Buf (Elt Ideal) ℓ) : Prop :=
  True

def Pre_AttnQReferenceIdeal (m : (ℓ : Loc Cert.AttnQReferenceIdeal.nD Cert.AttnQReferenceIdeal.τ Cert.AttnQReferenceIdeal.sig) → Buf (Elt Ideal) ℓ) : Prop :=
  True

def Pre_AttnOut (m : (ℓ : Loc Cert.AttnOut.nD Cert.AttnOut.τ Cert.AttnOut.sig) → Buf (Elt Bits) ℓ) : Prop :=
  True

def Pre_AttnOutIdeal (m : (ℓ : Loc Cert.AttnOutIdeal.nD Cert.AttnOutIdeal.τ Cert.AttnOutIdeal.sig) → Buf (Elt Ideal) ℓ) : Prop :=
  True

def Pre_AttnOutReferenceIdeal (m : (ℓ : Loc Cert.AttnOutReferenceIdeal.nD Cert.AttnOutReferenceIdeal.τ Cert.AttnOutReferenceIdeal.sig) → Buf (Elt Ideal) ℓ) : Prop :=
  True

def Pre_Kv (m : (ℓ : Loc Cert.Kv.nD Cert.Kv.τ Cert.Kv.sig) → Buf (Elt Bits) ℓ) : Prop :=
  True

def Pre_KvIdeal (m : (ℓ : Loc Cert.KvIdeal.nD Cert.KvIdeal.τ Cert.KvIdeal.sig) → Buf (Elt Ideal) ℓ) : Prop :=
  True

def Pre_KvReferenceIdeal (m : (ℓ : Loc Cert.KvReferenceIdeal.nD Cert.KvReferenceIdeal.τ Cert.KvReferenceIdeal.sig) → Buf (Elt Ideal) ℓ) : Prop :=
  True

def Pre_PleGate (m : (ℓ : Loc Cert.PleGate.nD Cert.PleGate.τ Cert.PleGate.sig) → Buf (Elt Bits) ℓ) : Prop :=
  True

def Pre_PleGateIdeal (m : (ℓ : Loc Cert.PleGateIdeal.nD Cert.PleGateIdeal.τ Cert.PleGateIdeal.sig) → Buf (Elt Ideal) ℓ) : Prop :=
  True

def Pre_PleGateReferenceIdeal (m : (ℓ : Loc Cert.PleGateReferenceIdeal.nD Cert.PleGateReferenceIdeal.τ Cert.PleGateReferenceIdeal.sig) → Buf (Elt Ideal) ℓ) : Prop :=
  True

def Pre_PleProj (m : (ℓ : Loc Cert.PleProj.nD Cert.PleProj.τ Cert.PleProj.sig) → Buf (Elt Bits) ℓ) : Prop :=
  True

def Pre_PleProjIdeal (m : (ℓ : Loc Cert.PleProjIdeal.nD Cert.PleProjIdeal.τ Cert.PleProjIdeal.sig) → Buf (Elt Ideal) ℓ) : Prop :=
  True

def Pre_PleProjReferenceIdeal (m : (ℓ : Loc Cert.PleProjReferenceIdeal.nD Cert.PleProjReferenceIdeal.τ Cert.PleProjReferenceIdeal.sig) → Buf (Elt Ideal) ℓ) : Prop :=
  True

def Pre_FfnNormBwd (m : (ℓ : Loc Cert.FfnNormBwd.nD Cert.FfnNormBwd.τ Cert.FfnNormBwd.sig) → Buf (Elt Bits) ℓ) : Prop :=
  True

def Pre_FfnNormBwdIdeal (m : (ℓ : Loc Cert.FfnNormBwdIdeal.nD Cert.FfnNormBwdIdeal.τ Cert.FfnNormBwdIdeal.sig) → Buf (Elt Ideal) ℓ) : Prop :=
  True

def Pre_FfnNormBwdReferenceIdeal (m : (ℓ : Loc Cert.FfnNormBwdReferenceIdeal.nD Cert.FfnNormBwdReferenceIdeal.τ Cert.FfnNormBwdReferenceIdeal.sig) → Buf (Elt Ideal) ℓ) : Prop :=
  True

def Pre_GateNormBwd (m : (ℓ : Loc Cert.GateNormBwd.nD Cert.GateNormBwd.τ Cert.GateNormBwd.sig) → Buf (Elt Bits) ℓ) : Prop :=
  True

def Pre_GateNormBwdIdeal (m : (ℓ : Loc Cert.GateNormBwdIdeal.nD Cert.GateNormBwdIdeal.τ Cert.GateNormBwdIdeal.sig) → Buf (Elt Ideal) ℓ) : Prop :=
  True

def Pre_GateNormBwdReferenceIdeal (m : (ℓ : Loc Cert.GateNormBwdReferenceIdeal.nD Cert.GateNormBwdReferenceIdeal.τ Cert.GateNormBwdReferenceIdeal.sig) → Buf (Elt Ideal) ℓ) : Prop :=
  True

def Pre_KvNormBwd (m : (ℓ : Loc Cert.KvNormBwd.nD Cert.KvNormBwd.τ Cert.KvNormBwd.sig) → Buf (Elt Bits) ℓ) : Prop :=
  True

def Pre_KvNormBwdIdeal (m : (ℓ : Loc Cert.KvNormBwdIdeal.nD Cert.KvNormBwdIdeal.τ Cert.KvNormBwdIdeal.sig) → Buf (Elt Ideal) ℓ) : Prop :=
  True

def Pre_KvNormBwdReferenceIdeal (m : (ℓ : Loc Cert.KvNormBwdReferenceIdeal.nD Cert.KvNormBwdReferenceIdeal.τ Cert.KvNormBwdReferenceIdeal.sig) → Buf (Elt Ideal) ℓ) : Prop :=
  True

def Pre_SsmNormBwd (m : (ℓ : Loc Cert.SsmNormBwd.nD Cert.SsmNormBwd.τ Cert.SsmNormBwd.sig) → Buf (Elt Bits) ℓ) : Prop :=
  True

def Pre_SsmNormBwdIdeal (m : (ℓ : Loc Cert.SsmNormBwdIdeal.nD Cert.SsmNormBwdIdeal.τ Cert.SsmNormBwdIdeal.sig) → Buf (Elt Ideal) ℓ) : Prop :=
  True

def Pre_SsmNormBwdReferenceIdeal (m : (ℓ : Loc Cert.SsmNormBwdReferenceIdeal.nD Cert.SsmNormBwdReferenceIdeal.τ Cert.SsmNormBwdReferenceIdeal.sig) → Buf (Elt Ideal) ℓ) : Prop :=
  True

def Pre_PleBwd (m : (ℓ : Loc Cert.PleBwd.nD Cert.PleBwd.τ Cert.PleBwd.sig) → Buf (Elt Bits) ℓ) : Prop :=
  True

def Pre_PleBwdIdeal (m : (ℓ : Loc Cert.PleBwdIdeal.nD Cert.PleBwdIdeal.τ Cert.PleBwdIdeal.sig) → Buf (Elt Ideal) ℓ) : Prop :=
  True

def Pre_PleBwdReferenceIdeal (m : (ℓ : Loc Cert.PleBwdReferenceIdeal.nD Cert.PleBwdReferenceIdeal.τ Cert.PleBwdReferenceIdeal.sig) → Buf (Elt Ideal) ℓ) : Prop :=
  True

def Pre_Ple (m : (ℓ : Loc Cert.Ple.nD Cert.Ple.τ Cert.Ple.sig) → Buf (Elt Bits) ℓ) : Prop :=
  True

def Pre_PleIdeal (m : (ℓ : Loc Cert.PleIdeal.nD Cert.PleIdeal.τ Cert.PleIdeal.sig) → Buf (Elt Ideal) ℓ) : Prop :=
  True

def Pre_PleReferenceIdeal (m : (ℓ : Loc Cert.PleReferenceIdeal.nD Cert.PleReferenceIdeal.τ Cert.PleReferenceIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormReferenceIdeal (m : (ℓ : Loc Cert.NormReferenceIdeal.nD Cert.NormReferenceIdeal.τ Cert.NormReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_args [hKernelIdeal : Cert.KernelIdeal.Facts] [hPre_finite_args : Cert.Pre_finite_args.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_args m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_args [hReferenceIdeal : Cert.ReferenceIdeal.Facts] [hPre_finite_args : Cert.Pre_finite_args.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_args m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_DownDw [hDownDw : Cert.DownDw.Facts] : Prop :=
  ∀ (m : (ℓ : Loc Cert.DownDw.nD Cert.DownDw.τ Cert.DownDw.sig) → Buf (Elt Bits) ℓ) (g : Dev Cert.DownDw.nD → PrngReg), Pre_DownDw m →
    θ_run (Cert.DownDw.defs (F := Bits)) (onTc (τ := Cert.DownDw.τ) (Cert.DownDw.main (F := Bits))) ⟨m, fun _ => 0, g⟩ (fun r => (∀ c : Dev Cert.DownDw.nD,
      r.2.mem ((c.tc : Thread Cert.DownDw.nD Cert.DownDw.τ).loc Cert.DownDw.main_arg0) = m ((c.tc : Thread Cert.DownDw.nD Cert.DownDw.τ).loc Cert.DownDw.main_arg0)
      ∧ r.2.mem ((c.tc : Thread Cert.DownDw.nD Cert.DownDw.τ).loc Cert.DownDw.main_arg1) = m ((c.tc : Thread Cert.DownDw.nD Cert.DownDw.τ).loc Cert.DownDw.main_arg1))
      ∧ r.2.sem = fun _ => 0)

def quiescent_DownDwIdeal [hDownDwIdeal : Cert.DownDwIdeal.Facts] : Prop :=
  ∀ (m : (ℓ : Loc Cert.DownDwIdeal.nD Cert.DownDwIdeal.τ Cert.DownDwIdeal.sig) → Buf (Elt Ideal) ℓ) (g : Dev Cert.DownDwIdeal.nD → PrngReg), Pre_DownDwIdeal m →
    θ_run (Cert.DownDwIdeal.defs (F := Ideal)) (onTc (τ := Cert.DownDwIdeal.τ) (Cert.DownDwIdeal.main (F := Ideal))) ⟨m, fun _ => 0, g⟩ (fun r => (∀ c : Dev Cert.DownDwIdeal.nD,
      r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
      ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ r.2.sem = fun _ => 0)

def quiescent_DownDwReferenceIdeal [hDownDwReferenceIdeal : Cert.DownDwReferenceIdeal.Facts] : Prop :=
  ∀ (m : (ℓ : Loc Cert.DownDwReferenceIdeal.nD Cert.DownDwReferenceIdeal.τ Cert.DownDwReferenceIdeal.sig) → Buf (Elt Ideal) ℓ) (g : Dev Cert.DownDwReferenceIdeal.nD → PrngReg), Pre_DownDwReferenceIdeal m →
    θ_run (Cert.DownDwReferenceIdeal.defs (F := Ideal)) (onTc (τ := Cert.DownDwReferenceIdeal.τ) (Cert.DownDwReferenceIdeal.main (F := Ideal))) ⟨m, fun _ => 0, g⟩ (fun r => (∀ c : Dev Cert.DownDwReferenceIdeal.nD,
      r.2.mem ((c.tc : Thread Cert.DownDwReferenceIdeal.nD Cert.DownDwReferenceIdeal.τ).loc Cert.DownDwReferenceIdeal.main_arg0) = m ((c.tc : Thread Cert.DownDwReferenceIdeal.nD Cert.DownDwReferenceIdeal.τ).loc Cert.DownDwReferenceIdeal.main_arg0)
      ∧ r.2.mem ((c.tc : Thread Cert.DownDwReferenceIdeal.nD Cert.DownDwReferenceIdeal.τ).loc Cert.DownDwReferenceIdeal.main_arg1) = m ((c.tc : Thread Cert.DownDwReferenceIdeal.nD Cert.DownDwReferenceIdeal.τ).loc Cert.DownDwReferenceIdeal.main_arg1))
      ∧ r.2.sem = fun _ => 0)

def quiescent_DownDx [hDownDx : Cert.DownDx.Facts] : Prop :=
  ∀ (m : (ℓ : Loc Cert.DownDx.nD Cert.DownDx.τ Cert.DownDx.sig) → Buf (Elt Bits) ℓ) (g : Dev Cert.DownDx.nD → PrngReg), Pre_DownDx m →
    θ_run (Cert.DownDx.defs (F := Bits)) (onTc (τ := Cert.DownDx.τ) (Cert.DownDx.main (F := Bits))) ⟨m, fun _ => 0, g⟩ (fun r => (∀ c : Dev Cert.DownDx.nD,
      r.2.mem ((c.tc : Thread Cert.DownDx.nD Cert.DownDx.τ).loc Cert.DownDx.main_arg0) = m ((c.tc : Thread Cert.DownDx.nD Cert.DownDx.τ).loc Cert.DownDx.main_arg0)
      ∧ r.2.mem ((c.tc : Thread Cert.DownDx.nD Cert.DownDx.τ).loc Cert.DownDx.main_arg1) = m ((c.tc : Thread Cert.DownDx.nD Cert.DownDx.τ).loc Cert.DownDx.main_arg1))
      ∧ r.2.sem = fun _ => 0)

def quiescent_DownDxIdeal [hDownDxIdeal : Cert.DownDxIdeal.Facts] : Prop :=
  ∀ (m : (ℓ : Loc Cert.DownDxIdeal.nD Cert.DownDxIdeal.τ Cert.DownDxIdeal.sig) → Buf (Elt Ideal) ℓ) (g : Dev Cert.DownDxIdeal.nD → PrngReg), Pre_DownDxIdeal m →
    θ_run (Cert.DownDxIdeal.defs (F := Ideal)) (onTc (τ := Cert.DownDxIdeal.τ) (Cert.DownDxIdeal.main (F := Ideal))) ⟨m, fun _ => 0, g⟩ (fun r => (∀ c : Dev Cert.DownDxIdeal.nD,
      r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
      ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1))
      ∧ r.2.sem = fun _ => 0)

def quiescent_DownDxReferenceIdeal [hDownDxReferenceIdeal : Cert.DownDxReferenceIdeal.Facts] : Prop :=
  ∀ (m : (ℓ : Loc Cert.DownDxReferenceIdeal.nD Cert.DownDxReferenceIdeal.τ Cert.DownDxReferenceIdeal.sig) → Buf (Elt Ideal) ℓ) (g : Dev Cert.DownDxReferenceIdeal.nD → PrngReg), Pre_DownDxReferenceIdeal m →
    θ_run (Cert.DownDxReferenceIdeal.defs (F := Ideal)) (onTc (τ := Cert.DownDxReferenceIdeal.τ) (Cert.DownDxReferenceIdeal.main (F := Ideal))) ⟨m, fun _ => 0, g⟩ (fun r => (∀ c : Dev Cert.DownDxReferenceIdeal.nD,
      r.2.mem ((c.tc : Thread Cert.DownDxReferenceIdeal.nD Cert.DownDxReferenceIdeal.τ).loc Cert.DownDxReferenceIdeal.main_arg0) = m ((c.tc : Thread Cert.DownDxReferenceIdeal.nD Cert.DownDxReferenceIdeal.τ).loc Cert.DownDxReferenceIdeal.main_arg0)
      ∧ r.2.mem ((c.tc : Thread Cert.DownDxReferenceIdeal.nD Cert.DownDxReferenceIdeal.τ).loc Cert.DownDxReferenceIdeal.main_arg1) = m ((c.tc : Thread Cert.DownDxReferenceIdeal.nD Cert.DownDxReferenceIdeal.τ).loc Cert.DownDxReferenceIdeal.main_arg1))
      ∧ r.2.sem = fun _ => 0)

def quiescent_UpDw [hUpDw : Cert.UpDw.Facts] : Prop :=
  ∀ (m : (ℓ : Loc Cert.UpDw.nD Cert.UpDw.τ Cert.UpDw.sig) → Buf (Elt Bits) ℓ) (g : Dev Cert.UpDw.nD → PrngReg), Pre_UpDw m →
    θ_run (Cert.UpDw.defs (F := Bits)) (onTc (τ := Cert.UpDw.τ) (Cert.UpDw.main (F := Bits))) ⟨m, fun _ => 0, g⟩ (fun r => (∀ c : Dev Cert.UpDw.nD,
      r.2.mem ((c.tc : Thread Cert.UpDw.nD Cert.UpDw.τ).loc Cert.UpDw.main_arg0) = m ((c.tc : Thread Cert.UpDw.nD Cert.UpDw.τ).loc Cert.UpDw.main_arg0)
      ∧ r.2.mem ((c.tc : Thread Cert.UpDw.nD Cert.UpDw.τ).loc Cert.UpDw.main_arg1) = m ((c.tc : Thread Cert.UpDw.nD Cert.UpDw.τ).loc Cert.UpDw.main_arg1))
      ∧ r.2.sem = fun _ => 0)

def quiescent_UpDwIdeal [hUpDwIdeal : Cert.UpDwIdeal.Facts] : Prop :=
  ∀ (m : (ℓ : Loc Cert.UpDwIdeal.nD Cert.UpDwIdeal.τ Cert.UpDwIdeal.sig) → Buf (Elt Ideal) ℓ) (g : Dev Cert.UpDwIdeal.nD → PrngReg), Pre_UpDwIdeal m →
    θ_run (Cert.UpDwIdeal.defs (F := Ideal)) (onTc (τ := Cert.UpDwIdeal.τ) (Cert.UpDwIdeal.main (F := Ideal))) ⟨m, fun _ => 0, g⟩ (fun r => (∀ c : Dev Cert.UpDwIdeal.nD,
      r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
      ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ r.2.sem = fun _ => 0)

def quiescent_UpDwReferenceIdeal [hUpDwReferenceIdeal : Cert.UpDwReferenceIdeal.Facts] : Prop :=
  ∀ (m : (ℓ : Loc Cert.UpDwReferenceIdeal.nD Cert.UpDwReferenceIdeal.τ Cert.UpDwReferenceIdeal.sig) → Buf (Elt Ideal) ℓ) (g : Dev Cert.UpDwReferenceIdeal.nD → PrngReg), Pre_UpDwReferenceIdeal m →
    θ_run (Cert.UpDwReferenceIdeal.defs (F := Ideal)) (onTc (τ := Cert.UpDwReferenceIdeal.τ) (Cert.UpDwReferenceIdeal.main (F := Ideal))) ⟨m, fun _ => 0, g⟩ (fun r => (∀ c : Dev Cert.UpDwReferenceIdeal.nD,
      r.2.mem ((c.tc : Thread Cert.UpDwReferenceIdeal.nD Cert.UpDwReferenceIdeal.τ).loc Cert.UpDwReferenceIdeal.main_arg0) = m ((c.tc : Thread Cert.UpDwReferenceIdeal.nD Cert.UpDwReferenceIdeal.τ).loc Cert.UpDwReferenceIdeal.main_arg0)
      ∧ r.2.mem ((c.tc : Thread Cert.UpDwReferenceIdeal.nD Cert.UpDwReferenceIdeal.τ).loc Cert.UpDwReferenceIdeal.main_arg1) = m ((c.tc : Thread Cert.UpDwReferenceIdeal.nD Cert.UpDwReferenceIdeal.τ).loc Cert.UpDwReferenceIdeal.main_arg1))
      ∧ r.2.sem = fun _ => 0)

def quiescent_UpDx [hUpDx : Cert.UpDx.Facts] : Prop :=
  ∀ (m : (ℓ : Loc Cert.UpDx.nD Cert.UpDx.τ Cert.UpDx.sig) → Buf (Elt Bits) ℓ) (g : Dev Cert.UpDx.nD → PrngReg), Pre_UpDx m →
    θ_run (Cert.UpDx.defs (F := Bits)) (onTc (τ := Cert.UpDx.τ) (Cert.UpDx.main (F := Bits))) ⟨m, fun _ => 0, g⟩ (fun r => (∀ c : Dev Cert.UpDx.nD,
      r.2.mem ((c.tc : Thread Cert.UpDx.nD Cert.UpDx.τ).loc Cert.UpDx.main_arg0) = m ((c.tc : Thread Cert.UpDx.nD Cert.UpDx.τ).loc Cert.UpDx.main_arg0)
      ∧ r.2.mem ((c.tc : Thread Cert.UpDx.nD Cert.UpDx.τ).loc Cert.UpDx.main_arg1) = m ((c.tc : Thread Cert.UpDx.nD Cert.UpDx.τ).loc Cert.UpDx.main_arg1))
      ∧ r.2.sem = fun _ => 0)

def quiescent_UpDxIdeal [hUpDxIdeal : Cert.UpDxIdeal.Facts] : Prop :=
  ∀ (m : (ℓ : Loc Cert.UpDxIdeal.nD Cert.UpDxIdeal.τ Cert.UpDxIdeal.sig) → Buf (Elt Ideal) ℓ) (g : Dev Cert.UpDxIdeal.nD → PrngReg), Pre_UpDxIdeal m →
    θ_run (Cert.UpDxIdeal.defs (F := Ideal)) (onTc (τ := Cert.UpDxIdeal.τ) (Cert.UpDxIdeal.main (F := Ideal))) ⟨m, fun _ => 0, g⟩ (fun r => (∀ c : Dev Cert.UpDxIdeal.nD,
      r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
      ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1))
      ∧ r.2.sem = fun _ => 0)

def quiescent_UpDxReferenceIdeal [hUpDxReferenceIdeal : Cert.UpDxReferenceIdeal.Facts] : Prop :=
  ∀ (m : (ℓ : Loc Cert.UpDxReferenceIdeal.nD Cert.UpDxReferenceIdeal.τ Cert.UpDxReferenceIdeal.sig) → Buf (Elt Ideal) ℓ) (g : Dev Cert.UpDxReferenceIdeal.nD → PrngReg), Pre_UpDxReferenceIdeal m →
    θ_run (Cert.UpDxReferenceIdeal.defs (F := Ideal)) (onTc (τ := Cert.UpDxReferenceIdeal.τ) (Cert.UpDxReferenceIdeal.main (F := Ideal))) ⟨m, fun _ => 0, g⟩ (fun r => (∀ c : Dev Cert.UpDxReferenceIdeal.nD,
      r.2.mem ((c.tc : Thread Cert.UpDxReferenceIdeal.nD Cert.UpDxReferenceIdeal.τ).loc Cert.UpDxReferenceIdeal.main_arg0) = m ((c.tc : Thread Cert.UpDxReferenceIdeal.nD Cert.UpDxReferenceIdeal.τ).loc Cert.UpDxReferenceIdeal.main_arg0)
      ∧ r.2.mem ((c.tc : Thread Cert.UpDxReferenceIdeal.nD Cert.UpDxReferenceIdeal.τ).loc Cert.UpDxReferenceIdeal.main_arg1) = m ((c.tc : Thread Cert.UpDxReferenceIdeal.nD Cert.UpDxReferenceIdeal.τ).loc Cert.UpDxReferenceIdeal.main_arg1))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpReferenceIdeal [hUpReferenceIdeal : Cert.UpReferenceIdeal.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2))
      ∧ r.2.sem = fun _ => 0)

def quiescent_SquareDw [hSquareDw : Cert.SquareDw.Facts] : Prop :=
  ∀ (m : (ℓ : Loc Cert.SquareDw.nD Cert.SquareDw.τ Cert.SquareDw.sig) → Buf (Elt Bits) ℓ) (g : Dev Cert.SquareDw.nD → PrngReg), Pre_SquareDw m →
    θ_run (Cert.SquareDw.defs (F := Bits)) (onTc (τ := Cert.SquareDw.τ) (Cert.SquareDw.main (F := Bits))) ⟨m, fun _ => 0, g⟩ (fun r => (∀ c : Dev Cert.SquareDw.nD,
      r.2.mem ((c.tc : Thread Cert.SquareDw.nD Cert.SquareDw.τ).loc Cert.SquareDw.main_arg0) = m ((c.tc : Thread Cert.SquareDw.nD Cert.SquareDw.τ).loc Cert.SquareDw.main_arg0)
      ∧ r.2.mem ((c.tc : Thread Cert.SquareDw.nD Cert.SquareDw.τ).loc Cert.SquareDw.main_arg1) = m ((c.tc : Thread Cert.SquareDw.nD Cert.SquareDw.τ).loc Cert.SquareDw.main_arg1))
      ∧ r.2.sem = fun _ => 0)

def quiescent_SquareDwIdeal [hSquareDwIdeal : Cert.SquareDwIdeal.Facts] : Prop :=
  ∀ (m : (ℓ : Loc Cert.SquareDwIdeal.nD Cert.SquareDwIdeal.τ Cert.SquareDwIdeal.sig) → Buf (Elt Ideal) ℓ) (g : Dev Cert.SquareDwIdeal.nD → PrngReg), Pre_SquareDwIdeal m →
    θ_run (Cert.SquareDwIdeal.defs (F := Ideal)) (onTc (τ := Cert.SquareDwIdeal.τ) (Cert.SquareDwIdeal.main (F := Ideal))) ⟨m, fun _ => 0, g⟩ (fun r => (∀ c : Dev Cert.SquareDwIdeal.nD,
      r.2.mem ((c.tc : Thread Cert.SquareDwIdeal.nD Cert.SquareDwIdeal.τ).loc Cert.SquareDwIdeal.main_arg0) = m ((c.tc : Thread Cert.SquareDwIdeal.nD Cert.SquareDwIdeal.τ).loc Cert.SquareDwIdeal.main_arg0)
      ∧ r.2.mem ((c.tc : Thread Cert.SquareDwIdeal.nD Cert.SquareDwIdeal.τ).loc Cert.SquareDwIdeal.main_arg1) = m ((c.tc : Thread Cert.SquareDwIdeal.nD Cert.SquareDwIdeal.τ).loc Cert.SquareDwIdeal.main_arg1))
      ∧ r.2.sem = fun _ => 0)

def quiescent_SquareDwReferenceIdeal [hSquareDwReferenceIdeal : Cert.SquareDwReferenceIdeal.Facts] : Prop :=
  ∀ (m : (ℓ : Loc Cert.SquareDwReferenceIdeal.nD Cert.SquareDwReferenceIdeal.τ Cert.SquareDwReferenceIdeal.sig) → Buf (Elt Ideal) ℓ) (g : Dev Cert.SquareDwReferenceIdeal.nD → PrngReg), Pre_SquareDwReferenceIdeal m →
    θ_run (Cert.SquareDwReferenceIdeal.defs (F := Ideal)) (onTc (τ := Cert.SquareDwReferenceIdeal.τ) (Cert.SquareDwReferenceIdeal.main (F := Ideal))) ⟨m, fun _ => 0, g⟩ (fun r => (∀ c : Dev Cert.SquareDwReferenceIdeal.nD,
      r.2.mem ((c.tc : Thread Cert.SquareDwReferenceIdeal.nD Cert.SquareDwReferenceIdeal.τ).loc Cert.SquareDwReferenceIdeal.main_arg0) = m ((c.tc : Thread Cert.SquareDwReferenceIdeal.nD Cert.SquareDwReferenceIdeal.τ).loc Cert.SquareDwReferenceIdeal.main_arg0)
      ∧ r.2.mem ((c.tc : Thread Cert.SquareDwReferenceIdeal.nD Cert.SquareDwReferenceIdeal.τ).loc Cert.SquareDwReferenceIdeal.main_arg1) = m ((c.tc : Thread Cert.SquareDwReferenceIdeal.nD Cert.SquareDwReferenceIdeal.τ).loc Cert.SquareDwReferenceIdeal.main_arg1))
      ∧ r.2.sem = fun _ => 0)

def quiescent_KvDw [hKvDw : Cert.KvDw.Facts] : Prop :=
  ∀ (m : (ℓ : Loc Cert.KvDw.nD Cert.KvDw.τ Cert.KvDw.sig) → Buf (Elt Bits) ℓ) (g : Dev Cert.KvDw.nD → PrngReg), Pre_KvDw m →
    θ_run (Cert.KvDw.defs (F := Bits)) (onTc (τ := Cert.KvDw.τ) (Cert.KvDw.main (F := Bits))) ⟨m, fun _ => 0, g⟩ (fun r => (∀ c : Dev Cert.KvDw.nD,
      r.2.mem ((c.tc : Thread Cert.KvDw.nD Cert.KvDw.τ).loc Cert.KvDw.main_arg0) = m ((c.tc : Thread Cert.KvDw.nD Cert.KvDw.τ).loc Cert.KvDw.main_arg0)
      ∧ r.2.mem ((c.tc : Thread Cert.KvDw.nD Cert.KvDw.τ).loc Cert.KvDw.main_arg1) = m ((c.tc : Thread Cert.KvDw.nD Cert.KvDw.τ).loc Cert.KvDw.main_arg1))
      ∧ r.2.sem = fun _ => 0)

def quiescent_KvDwIdeal [hKvDwIdeal : Cert.KvDwIdeal.Facts] : Prop :=
  ∀ (m : (ℓ : Loc Cert.KvDwIdeal.nD Cert.KvDwIdeal.τ Cert.KvDwIdeal.sig) → Buf (Elt Ideal) ℓ) (g : Dev Cert.KvDwIdeal.nD → PrngReg), Pre_KvDwIdeal m →
    θ_run (Cert.KvDwIdeal.defs (F := Ideal)) (onTc (τ := Cert.KvDwIdeal.τ) (Cert.KvDwIdeal.main (F := Ideal))) ⟨m, fun _ => 0, g⟩ (fun r => (∀ c : Dev Cert.KvDwIdeal.nD,
      r.2.mem ((c.tc : Thread Cert.KvDwIdeal.nD Cert.KvDwIdeal.τ).loc Cert.KvDwIdeal.main_arg0) = m ((c.tc : Thread Cert.KvDwIdeal.nD Cert.KvDwIdeal.τ).loc Cert.KvDwIdeal.main_arg0)
      ∧ r.2.mem ((c.tc : Thread Cert.KvDwIdeal.nD Cert.KvDwIdeal.τ).loc Cert.KvDwIdeal.main_arg1) = m ((c.tc : Thread Cert.KvDwIdeal.nD Cert.KvDwIdeal.τ).loc Cert.KvDwIdeal.main_arg1))
      ∧ r.2.sem = fun _ => 0)

def quiescent_KvDwReferenceIdeal [hKvDwReferenceIdeal : Cert.KvDwReferenceIdeal.Facts] : Prop :=
  ∀ (m : (ℓ : Loc Cert.KvDwReferenceIdeal.nD Cert.KvDwReferenceIdeal.τ Cert.KvDwReferenceIdeal.sig) → Buf (Elt Ideal) ℓ) (g : Dev Cert.KvDwReferenceIdeal.nD → PrngReg), Pre_KvDwReferenceIdeal m →
    θ_run (Cert.KvDwReferenceIdeal.defs (F := Ideal)) (onTc (τ := Cert.KvDwReferenceIdeal.τ) (Cert.KvDwReferenceIdeal.main (F := Ideal))) ⟨m, fun _ => 0, g⟩ (fun r => (∀ c : Dev Cert.KvDwReferenceIdeal.nD,
      r.2.mem ((c.tc : Thread Cert.KvDwReferenceIdeal.nD Cert.KvDwReferenceIdeal.τ).loc Cert.KvDwReferenceIdeal.main_arg0) = m ((c.tc : Thread Cert.KvDwReferenceIdeal.nD Cert.KvDwReferenceIdeal.τ).loc Cert.KvDwReferenceIdeal.main_arg0)
      ∧ r.2.mem ((c.tc : Thread Cert.KvDwReferenceIdeal.nD Cert.KvDwReferenceIdeal.τ).loc Cert.KvDwReferenceIdeal.main_arg1) = m ((c.tc : Thread Cert.KvDwReferenceIdeal.nD Cert.KvDwReferenceIdeal.τ).loc Cert.KvDwReferenceIdeal.main_arg1))
      ∧ r.2.sem = fun _ => 0)

def quiescent_PleProjDw [hPleProjDw : Cert.PleProjDw.Facts] : Prop :=
  ∀ (m : (ℓ : Loc Cert.PleProjDw.nD Cert.PleProjDw.τ Cert.PleProjDw.sig) → Buf (Elt Bits) ℓ) (g : Dev Cert.PleProjDw.nD → PrngReg), Pre_PleProjDw m →
    θ_run (Cert.PleProjDw.defs (F := Bits)) (onTc (τ := Cert.PleProjDw.τ) (Cert.PleProjDw.main (F := Bits))) ⟨m, fun _ => 0, g⟩ (fun r => (∀ c : Dev Cert.PleProjDw.nD,
      r.2.mem ((c.tc : Thread Cert.PleProjDw.nD Cert.PleProjDw.τ).loc Cert.PleProjDw.main_arg0) = m ((c.tc : Thread Cert.PleProjDw.nD Cert.PleProjDw.τ).loc Cert.PleProjDw.main_arg0)
      ∧ r.2.mem ((c.tc : Thread Cert.PleProjDw.nD Cert.PleProjDw.τ).loc Cert.PleProjDw.main_arg1) = m ((c.tc : Thread Cert.PleProjDw.nD Cert.PleProjDw.τ).loc Cert.PleProjDw.main_arg1))
      ∧ r.2.sem = fun _ => 0)

def quiescent_PleProjDwIdeal [hPleProjDwIdeal : Cert.PleProjDwIdeal.Facts] : Prop :=
  ∀ (m : (ℓ : Loc Cert.PleProjDwIdeal.nD Cert.PleProjDwIdeal.τ Cert.PleProjDwIdeal.sig) → Buf (Elt Ideal) ℓ) (g : Dev Cert.PleProjDwIdeal.nD → PrngReg), Pre_PleProjDwIdeal m →
    θ_run (Cert.PleProjDwIdeal.defs (F := Ideal)) (onTc (τ := Cert.PleProjDwIdeal.τ) (Cert.PleProjDwIdeal.main (F := Ideal))) ⟨m, fun _ => 0, g⟩ (fun r => (∀ c : Dev Cert.PleProjDwIdeal.nD,
      r.2.mem ((c.tc : Thread Cert.PleProjDwIdeal.nD Cert.PleProjDwIdeal.τ).loc Cert.PleProjDwIdeal.main_arg0) = m ((c.tc : Thread Cert.PleProjDwIdeal.nD Cert.PleProjDwIdeal.τ).loc Cert.PleProjDwIdeal.main_arg0)
      ∧ r.2.mem ((c.tc : Thread Cert.PleProjDwIdeal.nD Cert.PleProjDwIdeal.τ).loc Cert.PleProjDwIdeal.main_arg1) = m ((c.tc : Thread Cert.PleProjDwIdeal.nD Cert.PleProjDwIdeal.τ).loc Cert.PleProjDwIdeal.main_arg1))
      ∧ r.2.sem = fun _ => 0)

def quiescent_PleProjDwReferenceIdeal [hPleProjDwReferenceIdeal : Cert.PleProjDwReferenceIdeal.Facts] : Prop :=
  ∀ (m : (ℓ : Loc Cert.PleProjDwReferenceIdeal.nD Cert.PleProjDwReferenceIdeal.τ Cert.PleProjDwReferenceIdeal.sig) → Buf (Elt Ideal) ℓ) (g : Dev Cert.PleProjDwReferenceIdeal.nD → PrngReg), Pre_PleProjDwReferenceIdeal m →
    θ_run (Cert.PleProjDwReferenceIdeal.defs (F := Ideal)) (onTc (τ := Cert.PleProjDwReferenceIdeal.τ) (Cert.PleProjDwReferenceIdeal.main (F := Ideal))) ⟨m, fun _ => 0, g⟩ (fun r => (∀ c : Dev Cert.PleProjDwReferenceIdeal.nD,
      r.2.mem ((c.tc : Thread Cert.PleProjDwReferenceIdeal.nD Cert.PleProjDwReferenceIdeal.τ).loc Cert.PleProjDwReferenceIdeal.main_arg0) = m ((c.tc : Thread Cert.PleProjDwReferenceIdeal.nD Cert.PleProjDwReferenceIdeal.τ).loc Cert.PleProjDwReferenceIdeal.main_arg0)
      ∧ r.2.mem ((c.tc : Thread Cert.PleProjDwReferenceIdeal.nD Cert.PleProjDwReferenceIdeal.τ).loc Cert.PleProjDwReferenceIdeal.main_arg1) = m ((c.tc : Thread Cert.PleProjDwReferenceIdeal.nD Cert.PleProjDwReferenceIdeal.τ).loc Cert.PleProjDwReferenceIdeal.main_arg1))
      ∧ r.2.sem = fun _ => 0)

def quiescent_AttnOutDx [hAttnOutDx : Cert.AttnOutDx.Facts] : Prop :=
  ∀ (m : (ℓ : Loc Cert.AttnOutDx.nD Cert.AttnOutDx.τ Cert.AttnOutDx.sig) → Buf (Elt Bits) ℓ) (g : Dev Cert.AttnOutDx.nD → PrngReg), Pre_AttnOutDx m →
    θ_run (Cert.AttnOutDx.defs (F := Bits)) (onTc (τ := Cert.AttnOutDx.τ) (Cert.AttnOutDx.main (F := Bits))) ⟨m, fun _ => 0, g⟩ (fun r => (∀ c : Dev Cert.AttnOutDx.nD,
      r.2.mem ((c.tc : Thread Cert.AttnOutDx.nD Cert.AttnOutDx.τ).loc Cert.AttnOutDx.main_arg0) = m ((c.tc : Thread Cert.AttnOutDx.nD Cert.AttnOutDx.τ).loc Cert.AttnOutDx.main_arg0)
      ∧ r.2.mem ((c.tc : Thread Cert.AttnOutDx.nD Cert.AttnOutDx.τ).loc Cert.AttnOutDx.main_arg1) = m ((c.tc : Thread Cert.AttnOutDx.nD Cert.AttnOutDx.τ).loc Cert.AttnOutDx.main_arg1))
      ∧ r.2.sem = fun _ => 0)

def quiescent_AttnOutDxIdeal [hAttnOutDxIdeal : Cert.AttnOutDxIdeal.Facts] : Prop :=
  ∀ (m : (ℓ : Loc Cert.AttnOutDxIdeal.nD Cert.AttnOutDxIdeal.τ Cert.AttnOutDxIdeal.sig) → Buf (Elt Ideal) ℓ) (g : Dev Cert.AttnOutDxIdeal.nD → PrngReg), Pre_AttnOutDxIdeal m →
    θ_run (Cert.AttnOutDxIdeal.defs (F := Ideal)) (onTc (τ := Cert.AttnOutDxIdeal.τ) (Cert.AttnOutDxIdeal.main (F := Ideal))) ⟨m, fun _ => 0, g⟩ (fun r => (∀ c : Dev Cert.AttnOutDxIdeal.nD,
      r.2.mem ((c.tc : Thread Cert.AttnOutDxIdeal.nD Cert.AttnOutDxIdeal.τ).loc Cert.AttnOutDxIdeal.main_arg0) = m ((c.tc : Thread Cert.AttnOutDxIdeal.nD Cert.AttnOutDxIdeal.τ).loc Cert.AttnOutDxIdeal.main_arg0)
      ∧ r.2.mem ((c.tc : Thread Cert.AttnOutDxIdeal.nD Cert.AttnOutDxIdeal.τ).loc Cert.AttnOutDxIdeal.main_arg1) = m ((c.tc : Thread Cert.AttnOutDxIdeal.nD Cert.AttnOutDxIdeal.τ).loc Cert.AttnOutDxIdeal.main_arg1))
      ∧ r.2.sem = fun _ => 0)

def quiescent_AttnOutDxReferenceIdeal [hAttnOutDxReferenceIdeal : Cert.AttnOutDxReferenceIdeal.Facts] : Prop :=
  ∀ (m : (ℓ : Loc Cert.AttnOutDxReferenceIdeal.nD Cert.AttnOutDxReferenceIdeal.τ Cert.AttnOutDxReferenceIdeal.sig) → Buf (Elt Ideal) ℓ) (g : Dev Cert.AttnOutDxReferenceIdeal.nD → PrngReg), Pre_AttnOutDxReferenceIdeal m →
    θ_run (Cert.AttnOutDxReferenceIdeal.defs (F := Ideal)) (onTc (τ := Cert.AttnOutDxReferenceIdeal.τ) (Cert.AttnOutDxReferenceIdeal.main (F := Ideal))) ⟨m, fun _ => 0, g⟩ (fun r => (∀ c : Dev Cert.AttnOutDxReferenceIdeal.nD,
      r.2.mem ((c.tc : Thread Cert.AttnOutDxReferenceIdeal.nD Cert.AttnOutDxReferenceIdeal.τ).loc Cert.AttnOutDxReferenceIdeal.main_arg0) = m ((c.tc : Thread Cert.AttnOutDxReferenceIdeal.nD Cert.AttnOutDxReferenceIdeal.τ).loc Cert.AttnOutDxReferenceIdeal.main_arg0)
      ∧ r.2.mem ((c.tc : Thread Cert.AttnOutDxReferenceIdeal.nD Cert.AttnOutDxReferenceIdeal.τ).loc Cert.AttnOutDxReferenceIdeal.main_arg1) = m ((c.tc : Thread Cert.AttnOutDxReferenceIdeal.nD Cert.AttnOutDxReferenceIdeal.τ).loc Cert.AttnOutDxReferenceIdeal.main_arg1))
      ∧ r.2.sem = fun _ => 0)

def quiescent_SsmOutDw [hSsmOutDw : Cert.SsmOutDw.Facts] : Prop :=
  ∀ (m : (ℓ : Loc Cert.SsmOutDw.nD Cert.SsmOutDw.τ Cert.SsmOutDw.sig) → Buf (Elt Bits) ℓ) (g : Dev Cert.SsmOutDw.nD → PrngReg), Pre_SsmOutDw m →
    θ_run (Cert.SsmOutDw.defs (F := Bits)) (onTc (τ := Cert.SsmOutDw.τ) (Cert.SsmOutDw.main (F := Bits))) ⟨m, fun _ => 0, g⟩ (fun r => (∀ c : Dev Cert.SsmOutDw.nD,
      r.2.mem ((c.tc : Thread Cert.SsmOutDw.nD Cert.SsmOutDw.τ).loc Cert.SsmOutDw.main_arg0) = m ((c.tc : Thread Cert.SsmOutDw.nD Cert.SsmOutDw.τ).loc Cert.SsmOutDw.main_arg0)
      ∧ r.2.mem ((c.tc : Thread Cert.SsmOutDw.nD Cert.SsmOutDw.τ).loc Cert.SsmOutDw.main_arg1) = m ((c.tc : Thread Cert.SsmOutDw.nD Cert.SsmOutDw.τ).loc Cert.SsmOutDw.main_arg1))
      ∧ r.2.sem = fun _ => 0)

def quiescent_SsmOutDwIdeal [hSsmOutDwIdeal : Cert.SsmOutDwIdeal.Facts] : Prop :=
  ∀ (m : (ℓ : Loc Cert.SsmOutDwIdeal.nD Cert.SsmOutDwIdeal.τ Cert.SsmOutDwIdeal.sig) → Buf (Elt Ideal) ℓ) (g : Dev Cert.SsmOutDwIdeal.nD → PrngReg), Pre_SsmOutDwIdeal m →
    θ_run (Cert.SsmOutDwIdeal.defs (F := Ideal)) (onTc (τ := Cert.SsmOutDwIdeal.τ) (Cert.SsmOutDwIdeal.main (F := Ideal))) ⟨m, fun _ => 0, g⟩ (fun r => (∀ c : Dev Cert.SsmOutDwIdeal.nD,
      r.2.mem ((c.tc : Thread Cert.SsmOutDwIdeal.nD Cert.SsmOutDwIdeal.τ).loc Cert.SsmOutDwIdeal.main_arg0) = m ((c.tc : Thread Cert.SsmOutDwIdeal.nD Cert.SsmOutDwIdeal.τ).loc Cert.SsmOutDwIdeal.main_arg0)
      ∧ r.2.mem ((c.tc : Thread Cert.SsmOutDwIdeal.nD Cert.SsmOutDwIdeal.τ).loc Cert.SsmOutDwIdeal.main_arg1) = m ((c.tc : Thread Cert.SsmOutDwIdeal.nD Cert.SsmOutDwIdeal.τ).loc Cert.SsmOutDwIdeal.main_arg1))
      ∧ r.2.sem = fun _ => 0)

def quiescent_SsmOutDwReferenceIdeal [hSsmOutDwReferenceIdeal : Cert.SsmOutDwReferenceIdeal.Facts] : Prop :=
  ∀ (m : (ℓ : Loc Cert.SsmOutDwReferenceIdeal.nD Cert.SsmOutDwReferenceIdeal.τ Cert.SsmOutDwReferenceIdeal.sig) → Buf (Elt Ideal) ℓ) (g : Dev Cert.SsmOutDwReferenceIdeal.nD → PrngReg), Pre_SsmOutDwReferenceIdeal m →
    θ_run (Cert.SsmOutDwReferenceIdeal.defs (F := Ideal)) (onTc (τ := Cert.SsmOutDwReferenceIdeal.τ) (Cert.SsmOutDwReferenceIdeal.main (F := Ideal))) ⟨m, fun _ => 0, g⟩ (fun r => (∀ c : Dev Cert.SsmOutDwReferenceIdeal.nD,
      r.2.mem ((c.tc : Thread Cert.SsmOutDwReferenceIdeal.nD Cert.SsmOutDwReferenceIdeal.τ).loc Cert.SsmOutDwReferenceIdeal.main_arg0) = m ((c.tc : Thread Cert.SsmOutDwReferenceIdeal.nD Cert.SsmOutDwReferenceIdeal.τ).loc Cert.SsmOutDwReferenceIdeal.main_arg0)
      ∧ r.2.mem ((c.tc : Thread Cert.SsmOutDwReferenceIdeal.nD Cert.SsmOutDwReferenceIdeal.τ).loc Cert.SsmOutDwReferenceIdeal.main_arg1) = m ((c.tc : Thread Cert.SsmOutDwReferenceIdeal.nD Cert.SsmOutDwReferenceIdeal.τ).loc Cert.SsmOutDwReferenceIdeal.main_arg1))
      ∧ r.2.sem = fun _ => 0)

def quiescent_SsmOutDx [hSsmOutDx : Cert.SsmOutDx.Facts] : Prop :=
  ∀ (m : (ℓ : Loc Cert.SsmOutDx.nD Cert.SsmOutDx.τ Cert.SsmOutDx.sig) → Buf (Elt Bits) ℓ) (g : Dev Cert.SsmOutDx.nD → PrngReg), Pre_SsmOutDx m →
    θ_run (Cert.SsmOutDx.defs (F := Bits)) (onTc (τ := Cert.SsmOutDx.τ) (Cert.SsmOutDx.main (F := Bits))) ⟨m, fun _ => 0, g⟩ (fun r => (∀ c : Dev Cert.SsmOutDx.nD,
      r.2.mem ((c.tc : Thread Cert.SsmOutDx.nD Cert.SsmOutDx.τ).loc Cert.SsmOutDx.main_arg0) = m ((c.tc : Thread Cert.SsmOutDx.nD Cert.SsmOutDx.τ).loc Cert.SsmOutDx.main_arg0)
      ∧ r.2.mem ((c.tc : Thread Cert.SsmOutDx.nD Cert.SsmOutDx.τ).loc Cert.SsmOutDx.main_arg1) = m ((c.tc : Thread Cert.SsmOutDx.nD Cert.SsmOutDx.τ).loc Cert.SsmOutDx.main_arg1))
      ∧ r.2.sem = fun _ => 0)

def quiescent_SsmOutDxIdeal [hSsmOutDxIdeal : Cert.SsmOutDxIdeal.Facts] : Prop :=
  ∀ (m : (ℓ : Loc Cert.SsmOutDxIdeal.nD Cert.SsmOutDxIdeal.τ Cert.SsmOutDxIdeal.sig) → Buf (Elt Ideal) ℓ) (g : Dev Cert.SsmOutDxIdeal.nD → PrngReg), Pre_SsmOutDxIdeal m →
    θ_run (Cert.SsmOutDxIdeal.defs (F := Ideal)) (onTc (τ := Cert.SsmOutDxIdeal.τ) (Cert.SsmOutDxIdeal.main (F := Ideal))) ⟨m, fun _ => 0, g⟩ (fun r => (∀ c : Dev Cert.SsmOutDxIdeal.nD,
      r.2.mem ((c.tc : Thread Cert.SsmOutDxIdeal.nD Cert.SsmOutDxIdeal.τ).loc Cert.SsmOutDxIdeal.main_arg0) = m ((c.tc : Thread Cert.SsmOutDxIdeal.nD Cert.SsmOutDxIdeal.τ).loc Cert.SsmOutDxIdeal.main_arg0)
      ∧ r.2.mem ((c.tc : Thread Cert.SsmOutDxIdeal.nD Cert.SsmOutDxIdeal.τ).loc Cert.SsmOutDxIdeal.main_arg1) = m ((c.tc : Thread Cert.SsmOutDxIdeal.nD Cert.SsmOutDxIdeal.τ).loc Cert.SsmOutDxIdeal.main_arg1))
      ∧ r.2.sem = fun _ => 0)

def quiescent_SsmOutDxReferenceIdeal [hSsmOutDxReferenceIdeal : Cert.SsmOutDxReferenceIdeal.Facts] : Prop :=
  ∀ (m : (ℓ : Loc Cert.SsmOutDxReferenceIdeal.nD Cert.SsmOutDxReferenceIdeal.τ Cert.SsmOutDxReferenceIdeal.sig) → Buf (Elt Ideal) ℓ) (g : Dev Cert.SsmOutDxReferenceIdeal.nD → PrngReg), Pre_SsmOutDxReferenceIdeal m →
    θ_run (Cert.SsmOutDxReferenceIdeal.defs (F := Ideal)) (onTc (τ := Cert.SsmOutDxReferenceIdeal.τ) (Cert.SsmOutDxReferenceIdeal.main (F := Ideal))) ⟨m, fun _ => 0, g⟩ (fun r => (∀ c : Dev Cert.SsmOutDxReferenceIdeal.nD,
      r.2.mem ((c.tc : Thread Cert.SsmOutDxReferenceIdeal.nD Cert.SsmOutDxReferenceIdeal.τ).loc Cert.SsmOutDxReferenceIdeal.main_arg0) = m ((c.tc : Thread Cert.SsmOutDxReferenceIdeal.nD Cert.SsmOutDxReferenceIdeal.τ).loc Cert.SsmOutDxReferenceIdeal.main_arg0)
      ∧ r.2.mem ((c.tc : Thread Cert.SsmOutDxReferenceIdeal.nD Cert.SsmOutDxReferenceIdeal.τ).loc Cert.SsmOutDxReferenceIdeal.main_arg1) = m ((c.tc : Thread Cert.SsmOutDxReferenceIdeal.nD Cert.SsmOutDxReferenceIdeal.τ).loc Cert.SsmOutDxReferenceIdeal.main_arg1))
      ∧ r.2.sem = fun _ => 0)

def quiescent_SsmZDw [hSsmZDw : Cert.SsmZDw.Facts] : Prop :=
  ∀ (m : (ℓ : Loc Cert.SsmZDw.nD Cert.SsmZDw.τ Cert.SsmZDw.sig) → Buf (Elt Bits) ℓ) (g : Dev Cert.SsmZDw.nD → PrngReg), Pre_SsmZDw m →
    θ_run (Cert.SsmZDw.defs (F := Bits)) (onTc (τ := Cert.SsmZDw.τ) (Cert.SsmZDw.main (F := Bits))) ⟨m, fun _ => 0, g⟩ (fun r => (∀ c : Dev Cert.SsmZDw.nD,
      r.2.mem ((c.tc : Thread Cert.SsmZDw.nD Cert.SsmZDw.τ).loc Cert.SsmZDw.main_arg0) = m ((c.tc : Thread Cert.SsmZDw.nD Cert.SsmZDw.τ).loc Cert.SsmZDw.main_arg0)
      ∧ r.2.mem ((c.tc : Thread Cert.SsmZDw.nD Cert.SsmZDw.τ).loc Cert.SsmZDw.main_arg1) = m ((c.tc : Thread Cert.SsmZDw.nD Cert.SsmZDw.τ).loc Cert.SsmZDw.main_arg1))
      ∧ r.2.sem = fun _ => 0)

def quiescent_SsmZDwIdeal [hSsmZDwIdeal : Cert.SsmZDwIdeal.Facts] : Prop :=
  ∀ (m : (ℓ : Loc Cert.SsmZDwIdeal.nD Cert.SsmZDwIdeal.τ Cert.SsmZDwIdeal.sig) → Buf (Elt Ideal) ℓ) (g : Dev Cert.SsmZDwIdeal.nD → PrngReg), Pre_SsmZDwIdeal m →
    θ_run (Cert.SsmZDwIdeal.defs (F := Ideal)) (onTc (τ := Cert.SsmZDwIdeal.τ) (Cert.SsmZDwIdeal.main (F := Ideal))) ⟨m, fun _ => 0, g⟩ (fun r => (∀ c : Dev Cert.SsmZDwIdeal.nD,
      r.2.mem ((c.tc : Thread Cert.SsmZDwIdeal.nD Cert.SsmZDwIdeal.τ).loc Cert.SsmZDwIdeal.main_arg0) = m ((c.tc : Thread Cert.SsmZDwIdeal.nD Cert.SsmZDwIdeal.τ).loc Cert.SsmZDwIdeal.main_arg0)
      ∧ r.2.mem ((c.tc : Thread Cert.SsmZDwIdeal.nD Cert.SsmZDwIdeal.τ).loc Cert.SsmZDwIdeal.main_arg1) = m ((c.tc : Thread Cert.SsmZDwIdeal.nD Cert.SsmZDwIdeal.τ).loc Cert.SsmZDwIdeal.main_arg1))
      ∧ r.2.sem = fun _ => 0)

def quiescent_SsmZDwReferenceIdeal [hSsmZDwReferenceIdeal : Cert.SsmZDwReferenceIdeal.Facts] : Prop :=
  ∀ (m : (ℓ : Loc Cert.SsmZDwReferenceIdeal.nD Cert.SsmZDwReferenceIdeal.τ Cert.SsmZDwReferenceIdeal.sig) → Buf (Elt Ideal) ℓ) (g : Dev Cert.SsmZDwReferenceIdeal.nD → PrngReg), Pre_SsmZDwReferenceIdeal m →
    θ_run (Cert.SsmZDwReferenceIdeal.defs (F := Ideal)) (onTc (τ := Cert.SsmZDwReferenceIdeal.τ) (Cert.SsmZDwReferenceIdeal.main (F := Ideal))) ⟨m, fun _ => 0, g⟩ (fun r => (∀ c : Dev Cert.SsmZDwReferenceIdeal.nD,
      r.2.mem ((c.tc : Thread Cert.SsmZDwReferenceIdeal.nD Cert.SsmZDwReferenceIdeal.τ).loc Cert.SsmZDwReferenceIdeal.main_arg0) = m ((c.tc : Thread Cert.SsmZDwReferenceIdeal.nD Cert.SsmZDwReferenceIdeal.τ).loc Cert.SsmZDwReferenceIdeal.main_arg0)
      ∧ r.2.mem ((c.tc : Thread Cert.SsmZDwReferenceIdeal.nD Cert.SsmZDwReferenceIdeal.τ).loc Cert.SsmZDwReferenceIdeal.main_arg1) = m ((c.tc : Thread Cert.SsmZDwReferenceIdeal.nD Cert.SsmZDwReferenceIdeal.τ).loc Cert.SsmZDwReferenceIdeal.main_arg1))
      ∧ r.2.sem = fun _ => 0)

def quiescent_SsmZDx [hSsmZDx : Cert.SsmZDx.Facts] : Prop :=
  ∀ (m : (ℓ : Loc Cert.SsmZDx.nD Cert.SsmZDx.τ Cert.SsmZDx.sig) → Buf (Elt Bits) ℓ) (g : Dev Cert.SsmZDx.nD → PrngReg), Pre_SsmZDx m →
    θ_run (Cert.SsmZDx.defs (F := Bits)) (onTc (τ := Cert.SsmZDx.τ) (Cert.SsmZDx.main (F := Bits))) ⟨m, fun _ => 0, g⟩ (fun r => (∀ c : Dev Cert.SsmZDx.nD,
      r.2.mem ((c.tc : Thread Cert.SsmZDx.nD Cert.SsmZDx.τ).loc Cert.SsmZDx.main_arg0) = m ((c.tc : Thread Cert.SsmZDx.nD Cert.SsmZDx.τ).loc Cert.SsmZDx.main_arg0)
      ∧ r.2.mem ((c.tc : Thread Cert.SsmZDx.nD Cert.SsmZDx.τ).loc Cert.SsmZDx.main_arg1) = m ((c.tc : Thread Cert.SsmZDx.nD Cert.SsmZDx.τ).loc Cert.SsmZDx.main_arg1))
      ∧ r.2.sem = fun _ => 0)

def quiescent_SsmZDxIdeal [hSsmZDxIdeal : Cert.SsmZDxIdeal.Facts] : Prop :=
  ∀ (m : (ℓ : Loc Cert.SsmZDxIdeal.nD Cert.SsmZDxIdeal.τ Cert.SsmZDxIdeal.sig) → Buf (Elt Ideal) ℓ) (g : Dev Cert.SsmZDxIdeal.nD → PrngReg), Pre_SsmZDxIdeal m →
    θ_run (Cert.SsmZDxIdeal.defs (F := Ideal)) (onTc (τ := Cert.SsmZDxIdeal.τ) (Cert.SsmZDxIdeal.main (F := Ideal))) ⟨m, fun _ => 0, g⟩ (fun r => (∀ c : Dev Cert.SsmZDxIdeal.nD,
      r.2.mem ((c.tc : Thread Cert.SsmZDxIdeal.nD Cert.SsmZDxIdeal.τ).loc Cert.SsmZDxIdeal.main_arg0) = m ((c.tc : Thread Cert.SsmZDxIdeal.nD Cert.SsmZDxIdeal.τ).loc Cert.SsmZDxIdeal.main_arg0)
      ∧ r.2.mem ((c.tc : Thread Cert.SsmZDxIdeal.nD Cert.SsmZDxIdeal.τ).loc Cert.SsmZDxIdeal.main_arg1) = m ((c.tc : Thread Cert.SsmZDxIdeal.nD Cert.SsmZDxIdeal.τ).loc Cert.SsmZDxIdeal.main_arg1))
      ∧ r.2.sem = fun _ => 0)

def quiescent_SsmZDxReferenceIdeal [hSsmZDxReferenceIdeal : Cert.SsmZDxReferenceIdeal.Facts] : Prop :=
  ∀ (m : (ℓ : Loc Cert.SsmZDxReferenceIdeal.nD Cert.SsmZDxReferenceIdeal.τ Cert.SsmZDxReferenceIdeal.sig) → Buf (Elt Ideal) ℓ) (g : Dev Cert.SsmZDxReferenceIdeal.nD → PrngReg), Pre_SsmZDxReferenceIdeal m →
    θ_run (Cert.SsmZDxReferenceIdeal.defs (F := Ideal)) (onTc (τ := Cert.SsmZDxReferenceIdeal.τ) (Cert.SsmZDxReferenceIdeal.main (F := Ideal))) ⟨m, fun _ => 0, g⟩ (fun r => (∀ c : Dev Cert.SsmZDxReferenceIdeal.nD,
      r.2.mem ((c.tc : Thread Cert.SsmZDxReferenceIdeal.nD Cert.SsmZDxReferenceIdeal.τ).loc Cert.SsmZDxReferenceIdeal.main_arg0) = m ((c.tc : Thread Cert.SsmZDxReferenceIdeal.nD Cert.SsmZDxReferenceIdeal.τ).loc Cert.SsmZDxReferenceIdeal.main_arg0)
      ∧ r.2.mem ((c.tc : Thread Cert.SsmZDxReferenceIdeal.nD Cert.SsmZDxReferenceIdeal.τ).loc Cert.SsmZDxReferenceIdeal.main_arg1) = m ((c.tc : Thread Cert.SsmZDxReferenceIdeal.nD Cert.SsmZDxReferenceIdeal.τ).loc Cert.SsmZDxReferenceIdeal.main_arg1))
      ∧ r.2.sem = fun _ => 0)

def quiescent_SsmDtDw [hSsmDtDw : Cert.SsmDtDw.Facts] : Prop :=
  ∀ (m : (ℓ : Loc Cert.SsmDtDw.nD Cert.SsmDtDw.τ Cert.SsmDtDw.sig) → Buf (Elt Bits) ℓ) (g : Dev Cert.SsmDtDw.nD → PrngReg), Pre_SsmDtDw m →
    θ_run (Cert.SsmDtDw.defs (F := Bits)) (onTc (τ := Cert.SsmDtDw.τ) (Cert.SsmDtDw.main (F := Bits))) ⟨m, fun _ => 0, g⟩ (fun r => (∀ c : Dev Cert.SsmDtDw.nD,
      r.2.mem ((c.tc : Thread Cert.SsmDtDw.nD Cert.SsmDtDw.τ).loc Cert.SsmDtDw.main_arg0) = m ((c.tc : Thread Cert.SsmDtDw.nD Cert.SsmDtDw.τ).loc Cert.SsmDtDw.main_arg0)
      ∧ r.2.mem ((c.tc : Thread Cert.SsmDtDw.nD Cert.SsmDtDw.τ).loc Cert.SsmDtDw.main_arg1) = m ((c.tc : Thread Cert.SsmDtDw.nD Cert.SsmDtDw.τ).loc Cert.SsmDtDw.main_arg1))
      ∧ r.2.sem = fun _ => 0)

def quiescent_SsmDtDwIdeal [hSsmDtDwIdeal : Cert.SsmDtDwIdeal.Facts] : Prop :=
  ∀ (m : (ℓ : Loc Cert.SsmDtDwIdeal.nD Cert.SsmDtDwIdeal.τ Cert.SsmDtDwIdeal.sig) → Buf (Elt Ideal) ℓ) (g : Dev Cert.SsmDtDwIdeal.nD → PrngReg), Pre_SsmDtDwIdeal m →
    θ_run (Cert.SsmDtDwIdeal.defs (F := Ideal)) (onTc (τ := Cert.SsmDtDwIdeal.τ) (Cert.SsmDtDwIdeal.main (F := Ideal))) ⟨m, fun _ => 0, g⟩ (fun r => (∀ c : Dev Cert.SsmDtDwIdeal.nD,
      r.2.mem ((c.tc : Thread Cert.SsmDtDwIdeal.nD Cert.SsmDtDwIdeal.τ).loc Cert.SsmDtDwIdeal.main_arg0) = m ((c.tc : Thread Cert.SsmDtDwIdeal.nD Cert.SsmDtDwIdeal.τ).loc Cert.SsmDtDwIdeal.main_arg0)
      ∧ r.2.mem ((c.tc : Thread Cert.SsmDtDwIdeal.nD Cert.SsmDtDwIdeal.τ).loc Cert.SsmDtDwIdeal.main_arg1) = m ((c.tc : Thread Cert.SsmDtDwIdeal.nD Cert.SsmDtDwIdeal.τ).loc Cert.SsmDtDwIdeal.main_arg1))
      ∧ r.2.sem = fun _ => 0)

def quiescent_SsmDtDwReferenceIdeal [hSsmDtDwReferenceIdeal : Cert.SsmDtDwReferenceIdeal.Facts] : Prop :=
  ∀ (m : (ℓ : Loc Cert.SsmDtDwReferenceIdeal.nD Cert.SsmDtDwReferenceIdeal.τ Cert.SsmDtDwReferenceIdeal.sig) → Buf (Elt Ideal) ℓ) (g : Dev Cert.SsmDtDwReferenceIdeal.nD → PrngReg), Pre_SsmDtDwReferenceIdeal m →
    θ_run (Cert.SsmDtDwReferenceIdeal.defs (F := Ideal)) (onTc (τ := Cert.SsmDtDwReferenceIdeal.τ) (Cert.SsmDtDwReferenceIdeal.main (F := Ideal))) ⟨m, fun _ => 0, g⟩ (fun r => (∀ c : Dev Cert.SsmDtDwReferenceIdeal.nD,
      r.2.mem ((c.tc : Thread Cert.SsmDtDwReferenceIdeal.nD Cert.SsmDtDwReferenceIdeal.τ).loc Cert.SsmDtDwReferenceIdeal.main_arg0) = m ((c.tc : Thread Cert.SsmDtDwReferenceIdeal.nD Cert.SsmDtDwReferenceIdeal.τ).loc Cert.SsmDtDwReferenceIdeal.main_arg0)
      ∧ r.2.mem ((c.tc : Thread Cert.SsmDtDwReferenceIdeal.nD Cert.SsmDtDwReferenceIdeal.τ).loc Cert.SsmDtDwReferenceIdeal.main_arg1) = m ((c.tc : Thread Cert.SsmDtDwReferenceIdeal.nD Cert.SsmDtDwReferenceIdeal.τ).loc Cert.SsmDtDwReferenceIdeal.main_arg1))
      ∧ r.2.sem = fun _ => 0)

def quiescent_SsmDtDx [hSsmDtDx : Cert.SsmDtDx.Facts] : Prop :=
  ∀ (m : (ℓ : Loc Cert.SsmDtDx.nD Cert.SsmDtDx.τ Cert.SsmDtDx.sig) → Buf (Elt Bits) ℓ) (g : Dev Cert.SsmDtDx.nD → PrngReg), Pre_SsmDtDx m →
    θ_run (Cert.SsmDtDx.defs (F := Bits)) (onTc (τ := Cert.SsmDtDx.τ) (Cert.SsmDtDx.main (F := Bits))) ⟨m, fun _ => 0, g⟩ (fun r => (∀ c : Dev Cert.SsmDtDx.nD,
      r.2.mem ((c.tc : Thread Cert.SsmDtDx.nD Cert.SsmDtDx.τ).loc Cert.SsmDtDx.main_arg0) = m ((c.tc : Thread Cert.SsmDtDx.nD Cert.SsmDtDx.τ).loc Cert.SsmDtDx.main_arg0)
      ∧ r.2.mem ((c.tc : Thread Cert.SsmDtDx.nD Cert.SsmDtDx.τ).loc Cert.SsmDtDx.main_arg1) = m ((c.tc : Thread Cert.SsmDtDx.nD Cert.SsmDtDx.τ).loc Cert.SsmDtDx.main_arg1)
      ∧ r.2.mem ((c.tc : Thread Cert.SsmDtDx.nD Cert.SsmDtDx.τ).loc Cert.SsmDtDx.main_arg2) = m ((c.tc : Thread Cert.SsmDtDx.nD Cert.SsmDtDx.τ).loc Cert.SsmDtDx.main_arg2))
      ∧ r.2.sem = fun _ => 0)

def quiescent_SsmDtDxIdeal [hSsmDtDxIdeal : Cert.SsmDtDxIdeal.Facts] : Prop :=
  ∀ (m : (ℓ : Loc Cert.SsmDtDxIdeal.nD Cert.SsmDtDxIdeal.τ Cert.SsmDtDxIdeal.sig) → Buf (Elt Ideal) ℓ) (g : Dev Cert.SsmDtDxIdeal.nD → PrngReg), Pre_SsmDtDxIdeal m →
    θ_run (Cert.SsmDtDxIdeal.defs (F := Ideal)) (onTc (τ := Cert.SsmDtDxIdeal.τ) (Cert.SsmDtDxIdeal.main (F := Ideal))) ⟨m, fun _ => 0, g⟩ (fun r => (∀ c : Dev Cert.SsmDtDxIdeal.nD,
      r.2.mem ((c.tc : Thread Cert.SsmDtDxIdeal.nD Cert.SsmDtDxIdeal.τ).loc Cert.SsmDtDxIdeal.main_arg0) = m ((c.tc : Thread Cert.SsmDtDxIdeal.nD Cert.SsmDtDxIdeal.τ).loc Cert.SsmDtDxIdeal.main_arg0)
      ∧ r.2.mem ((c.tc : Thread Cert.SsmDtDxIdeal.nD Cert.SsmDtDxIdeal.τ).loc Cert.SsmDtDxIdeal.main_arg1) = m ((c.tc : Thread Cert.SsmDtDxIdeal.nD Cert.SsmDtDxIdeal.τ).loc Cert.SsmDtDxIdeal.main_arg1)
      ∧ r.2.mem ((c.tc : Thread Cert.SsmDtDxIdeal.nD Cert.SsmDtDxIdeal.τ).loc Cert.SsmDtDxIdeal.main_arg2) = m ((c.tc : Thread Cert.SsmDtDxIdeal.nD Cert.SsmDtDxIdeal.τ).loc Cert.SsmDtDxIdeal.main_arg2))
      ∧ r.2.sem = fun _ => 0)

def quiescent_SsmDtDxReferenceIdeal [hSsmDtDxReferenceIdeal : Cert.SsmDtDxReferenceIdeal.Facts] : Prop :=
  ∀ (m : (ℓ : Loc Cert.SsmDtDxReferenceIdeal.nD Cert.SsmDtDxReferenceIdeal.τ Cert.SsmDtDxReferenceIdeal.sig) → Buf (Elt Ideal) ℓ) (g : Dev Cert.SsmDtDxReferenceIdeal.nD → PrngReg), Pre_SsmDtDxReferenceIdeal m →
    θ_run (Cert.SsmDtDxReferenceIdeal.defs (F := Ideal)) (onTc (τ := Cert.SsmDtDxReferenceIdeal.τ) (Cert.SsmDtDxReferenceIdeal.main (F := Ideal))) ⟨m, fun _ => 0, g⟩ (fun r => (∀ c : Dev Cert.SsmDtDxReferenceIdeal.nD,
      r.2.mem ((c.tc : Thread Cert.SsmDtDxReferenceIdeal.nD Cert.SsmDtDxReferenceIdeal.τ).loc Cert.SsmDtDxReferenceIdeal.main_arg0) = m ((c.tc : Thread Cert.SsmDtDxReferenceIdeal.nD Cert.SsmDtDxReferenceIdeal.τ).loc Cert.SsmDtDxReferenceIdeal.main_arg0)
      ∧ r.2.mem ((c.tc : Thread Cert.SsmDtDxReferenceIdeal.nD Cert.SsmDtDxReferenceIdeal.τ).loc Cert.SsmDtDxReferenceIdeal.main_arg1) = m ((c.tc : Thread Cert.SsmDtDxReferenceIdeal.nD Cert.SsmDtDxReferenceIdeal.τ).loc Cert.SsmDtDxReferenceIdeal.main_arg1)
      ∧ r.2.mem ((c.tc : Thread Cert.SsmDtDxReferenceIdeal.nD Cert.SsmDtDxReferenceIdeal.τ).loc Cert.SsmDtDxReferenceIdeal.main_arg2) = m ((c.tc : Thread Cert.SsmDtDxReferenceIdeal.nD Cert.SsmDtDxReferenceIdeal.τ).loc Cert.SsmDtDxReferenceIdeal.main_arg2))
      ∧ r.2.sem = fun _ => 0)

def quiescent_SsmXbcDw [hSsmXbcDw : Cert.SsmXbcDw.Facts] : Prop :=
  ∀ (m : (ℓ : Loc Cert.SsmXbcDw.nD Cert.SsmXbcDw.τ Cert.SsmXbcDw.sig) → Buf (Elt Bits) ℓ) (g : Dev Cert.SsmXbcDw.nD → PrngReg), Pre_SsmXbcDw m →
    θ_run (Cert.SsmXbcDw.defs (F := Bits)) (onTc (τ := Cert.SsmXbcDw.τ) (Cert.SsmXbcDw.main (F := Bits))) ⟨m, fun _ => 0, g⟩ (fun r => (∀ c : Dev Cert.SsmXbcDw.nD,
      r.2.mem ((c.tc : Thread Cert.SsmXbcDw.nD Cert.SsmXbcDw.τ).loc Cert.SsmXbcDw.main_arg0) = m ((c.tc : Thread Cert.SsmXbcDw.nD Cert.SsmXbcDw.τ).loc Cert.SsmXbcDw.main_arg0)
      ∧ r.2.mem ((c.tc : Thread Cert.SsmXbcDw.nD Cert.SsmXbcDw.τ).loc Cert.SsmXbcDw.main_arg1) = m ((c.tc : Thread Cert.SsmXbcDw.nD Cert.SsmXbcDw.τ).loc Cert.SsmXbcDw.main_arg1))
      ∧ r.2.sem = fun _ => 0)

def quiescent_SsmXbcDwIdeal [hSsmXbcDwIdeal : Cert.SsmXbcDwIdeal.Facts] : Prop :=
  ∀ (m : (ℓ : Loc Cert.SsmXbcDwIdeal.nD Cert.SsmXbcDwIdeal.τ Cert.SsmXbcDwIdeal.sig) → Buf (Elt Ideal) ℓ) (g : Dev Cert.SsmXbcDwIdeal.nD → PrngReg), Pre_SsmXbcDwIdeal m →
    θ_run (Cert.SsmXbcDwIdeal.defs (F := Ideal)) (onTc (τ := Cert.SsmXbcDwIdeal.τ) (Cert.SsmXbcDwIdeal.main (F := Ideal))) ⟨m, fun _ => 0, g⟩ (fun r => (∀ c : Dev Cert.SsmXbcDwIdeal.nD,
      r.2.mem ((c.tc : Thread Cert.SsmXbcDwIdeal.nD Cert.SsmXbcDwIdeal.τ).loc Cert.SsmXbcDwIdeal.main_arg0) = m ((c.tc : Thread Cert.SsmXbcDwIdeal.nD Cert.SsmXbcDwIdeal.τ).loc Cert.SsmXbcDwIdeal.main_arg0)
      ∧ r.2.mem ((c.tc : Thread Cert.SsmXbcDwIdeal.nD Cert.SsmXbcDwIdeal.τ).loc Cert.SsmXbcDwIdeal.main_arg1) = m ((c.tc : Thread Cert.SsmXbcDwIdeal.nD Cert.SsmXbcDwIdeal.τ).loc Cert.SsmXbcDwIdeal.main_arg1))
      ∧ r.2.sem = fun _ => 0)

def quiescent_SsmXbcDwReferenceIdeal [hSsmXbcDwReferenceIdeal : Cert.SsmXbcDwReferenceIdeal.Facts] : Prop :=
  ∀ (m : (ℓ : Loc Cert.SsmXbcDwReferenceIdeal.nD Cert.SsmXbcDwReferenceIdeal.τ Cert.SsmXbcDwReferenceIdeal.sig) → Buf (Elt Ideal) ℓ) (g : Dev Cert.SsmXbcDwReferenceIdeal.nD → PrngReg), Pre_SsmXbcDwReferenceIdeal m →
    θ_run (Cert.SsmXbcDwReferenceIdeal.defs (F := Ideal)) (onTc (τ := Cert.SsmXbcDwReferenceIdeal.τ) (Cert.SsmXbcDwReferenceIdeal.main (F := Ideal))) ⟨m, fun _ => 0, g⟩ (fun r => (∀ c : Dev Cert.SsmXbcDwReferenceIdeal.nD,
      r.2.mem ((c.tc : Thread Cert.SsmXbcDwReferenceIdeal.nD Cert.SsmXbcDwReferenceIdeal.τ).loc Cert.SsmXbcDwReferenceIdeal.main_arg0) = m ((c.tc : Thread Cert.SsmXbcDwReferenceIdeal.nD Cert.SsmXbcDwReferenceIdeal.τ).loc Cert.SsmXbcDwReferenceIdeal.main_arg0)
      ∧ r.2.mem ((c.tc : Thread Cert.SsmXbcDwReferenceIdeal.nD Cert.SsmXbcDwReferenceIdeal.τ).loc Cert.SsmXbcDwReferenceIdeal.main_arg1) = m ((c.tc : Thread Cert.SsmXbcDwReferenceIdeal.nD Cert.SsmXbcDwReferenceIdeal.τ).loc Cert.SsmXbcDwReferenceIdeal.main_arg1))
      ∧ r.2.sem = fun _ => 0)

def quiescent_SsmOut [hSsmOut : Cert.SsmOut.Facts] : Prop :=
  ∀ (m : (ℓ : Loc Cert.SsmOut.nD Cert.SsmOut.τ Cert.SsmOut.sig) → Buf (Elt Bits) ℓ) (g : Dev Cert.SsmOut.nD → PrngReg), Pre_SsmOut m →
    θ_run (Cert.SsmOut.defs (F := Bits)) (onTc (τ := Cert.SsmOut.τ) (Cert.SsmOut.main (F := Bits))) ⟨m, fun _ => 0, g⟩ (fun r => (∀ c : Dev Cert.SsmOut.nD,
      r.2.mem ((c.tc : Thread Cert.SsmOut.nD Cert.SsmOut.τ).loc Cert.SsmOut.main_arg0) = m ((c.tc : Thread Cert.SsmOut.nD Cert.SsmOut.τ).loc Cert.SsmOut.main_arg0)
      ∧ r.2.mem ((c.tc : Thread Cert.SsmOut.nD Cert.SsmOut.τ).loc Cert.SsmOut.main_arg1) = m ((c.tc : Thread Cert.SsmOut.nD Cert.SsmOut.τ).loc Cert.SsmOut.main_arg1)
      ∧ r.2.mem ((c.tc : Thread Cert.SsmOut.nD Cert.SsmOut.τ).loc Cert.SsmOut.main_arg2) = m ((c.tc : Thread Cert.SsmOut.nD Cert.SsmOut.τ).loc Cert.SsmOut.main_arg2))
      ∧ r.2.sem = fun _ => 0)

def quiescent_SsmOutIdeal [hSsmOutIdeal : Cert.SsmOutIdeal.Facts] : Prop :=
  ∀ (m : (ℓ : Loc Cert.SsmOutIdeal.nD Cert.SsmOutIdeal.τ Cert.SsmOutIdeal.sig) → Buf (Elt Ideal) ℓ) (g : Dev Cert.SsmOutIdeal.nD → PrngReg), Pre_SsmOutIdeal m →
    θ_run (Cert.SsmOutIdeal.defs (F := Ideal)) (onTc (τ := Cert.SsmOutIdeal.τ) (Cert.SsmOutIdeal.main (F := Ideal))) ⟨m, fun _ => 0, g⟩ (fun r => (∀ c : Dev Cert.SsmOutIdeal.nD,
      r.2.mem ((c.tc : Thread Cert.SsmOutIdeal.nD Cert.SsmOutIdeal.τ).loc Cert.SsmOutIdeal.main_arg0) = m ((c.tc : Thread Cert.SsmOutIdeal.nD Cert.SsmOutIdeal.τ).loc Cert.SsmOutIdeal.main_arg0)
      ∧ r.2.mem ((c.tc : Thread Cert.SsmOutIdeal.nD Cert.SsmOutIdeal.τ).loc Cert.SsmOutIdeal.main_arg1) = m ((c.tc : Thread Cert.SsmOutIdeal.nD Cert.SsmOutIdeal.τ).loc Cert.SsmOutIdeal.main_arg1)
      ∧ r.2.mem ((c.tc : Thread Cert.SsmOutIdeal.nD Cert.SsmOutIdeal.τ).loc Cert.SsmOutIdeal.main_arg2) = m ((c.tc : Thread Cert.SsmOutIdeal.nD Cert.SsmOutIdeal.τ).loc Cert.SsmOutIdeal.main_arg2))
      ∧ r.2.sem = fun _ => 0)

def quiescent_SsmOutReferenceIdeal [hSsmOutReferenceIdeal : Cert.SsmOutReferenceIdeal.Facts] : Prop :=
  ∀ (m : (ℓ : Loc Cert.SsmOutReferenceIdeal.nD Cert.SsmOutReferenceIdeal.τ Cert.SsmOutReferenceIdeal.sig) → Buf (Elt Ideal) ℓ) (g : Dev Cert.SsmOutReferenceIdeal.nD → PrngReg), Pre_SsmOutReferenceIdeal m →
    θ_run (Cert.SsmOutReferenceIdeal.defs (F := Ideal)) (onTc (τ := Cert.SsmOutReferenceIdeal.τ) (Cert.SsmOutReferenceIdeal.main (F := Ideal))) ⟨m, fun _ => 0, g⟩ (fun r => (∀ c : Dev Cert.SsmOutReferenceIdeal.nD,
      r.2.mem ((c.tc : Thread Cert.SsmOutReferenceIdeal.nD Cert.SsmOutReferenceIdeal.τ).loc Cert.SsmOutReferenceIdeal.main_arg0) = m ((c.tc : Thread Cert.SsmOutReferenceIdeal.nD Cert.SsmOutReferenceIdeal.τ).loc Cert.SsmOutReferenceIdeal.main_arg0)
      ∧ r.2.mem ((c.tc : Thread Cert.SsmOutReferenceIdeal.nD Cert.SsmOutReferenceIdeal.τ).loc Cert.SsmOutReferenceIdeal.main_arg1) = m ((c.tc : Thread Cert.SsmOutReferenceIdeal.nD Cert.SsmOutReferenceIdeal.τ).loc Cert.SsmOutReferenceIdeal.main_arg1)
      ∧ r.2.mem ((c.tc : Thread Cert.SsmOutReferenceIdeal.nD Cert.SsmOutReferenceIdeal.τ).loc Cert.SsmOutReferenceIdeal.main_arg2) = m ((c.tc : Thread Cert.SsmOutReferenceIdeal.nD Cert.SsmOutReferenceIdeal.τ).loc Cert.SsmOutReferenceIdeal.main_arg2))
      ∧ r.2.sem = fun _ => 0)

def quiescent_AttnQ [hAttnQ : Cert.AttnQ.Facts] : Prop :=
  ∀ (m : (ℓ : Loc Cert.AttnQ.nD Cert.AttnQ.τ Cert.AttnQ.sig) → Buf (Elt Bits) ℓ) (g : Dev Cert.AttnQ.nD → PrngReg), Pre_AttnQ m →
    θ_run (Cert.AttnQ.defs (F := Bits)) (onTc (τ := Cert.AttnQ.τ) (Cert.AttnQ.main (F := Bits))) ⟨m, fun _ => 0, g⟩ (fun r => (∀ c : Dev Cert.AttnQ.nD,
      r.2.mem ((c.tc : Thread Cert.AttnQ.nD Cert.AttnQ.τ).loc Cert.AttnQ.main_arg0) = m ((c.tc : Thread Cert.AttnQ.nD Cert.AttnQ.τ).loc Cert.AttnQ.main_arg0)
      ∧ r.2.mem ((c.tc : Thread Cert.AttnQ.nD Cert.AttnQ.τ).loc Cert.AttnQ.main_arg1) = m ((c.tc : Thread Cert.AttnQ.nD Cert.AttnQ.τ).loc Cert.AttnQ.main_arg1))
      ∧ r.2.sem = fun _ => 0)

def quiescent_AttnQIdeal [hAttnQIdeal : Cert.AttnQIdeal.Facts] : Prop :=
  ∀ (m : (ℓ : Loc Cert.AttnQIdeal.nD Cert.AttnQIdeal.τ Cert.AttnQIdeal.sig) → Buf (Elt Ideal) ℓ) (g : Dev Cert.AttnQIdeal.nD → PrngReg), Pre_AttnQIdeal m →
    θ_run (Cert.AttnQIdeal.defs (F := Ideal)) (onTc (τ := Cert.AttnQIdeal.τ) (Cert.AttnQIdeal.main (F := Ideal))) ⟨m, fun _ => 0, g⟩ (fun r => (∀ c : Dev Cert.AttnQIdeal.nD,
      r.2.mem ((c.tc : Thread Cert.AttnQIdeal.nD Cert.AttnQIdeal.τ).loc Cert.AttnQIdeal.main_arg0) = m ((c.tc : Thread Cert.AttnQIdeal.nD Cert.AttnQIdeal.τ).loc Cert.AttnQIdeal.main_arg0)
      ∧ r.2.mem ((c.tc : Thread Cert.AttnQIdeal.nD Cert.AttnQIdeal.τ).loc Cert.AttnQIdeal.main_arg1) = m ((c.tc : Thread Cert.AttnQIdeal.nD Cert.AttnQIdeal.τ).loc Cert.AttnQIdeal.main_arg1))
      ∧ r.2.sem = fun _ => 0)

def quiescent_AttnQReferenceIdeal [hAttnQReferenceIdeal : Cert.AttnQReferenceIdeal.Facts] : Prop :=
  ∀ (m : (ℓ : Loc Cert.AttnQReferenceIdeal.nD Cert.AttnQReferenceIdeal.τ Cert.AttnQReferenceIdeal.sig) → Buf (Elt Ideal) ℓ) (g : Dev Cert.AttnQReferenceIdeal.nD → PrngReg), Pre_AttnQReferenceIdeal m →
    θ_run (Cert.AttnQReferenceIdeal.defs (F := Ideal)) (onTc (τ := Cert.AttnQReferenceIdeal.τ) (Cert.AttnQReferenceIdeal.main (F := Ideal))) ⟨m, fun _ => 0, g⟩ (fun r => (∀ c : Dev Cert.AttnQReferenceIdeal.nD,
      r.2.mem ((c.tc : Thread Cert.AttnQReferenceIdeal.nD Cert.AttnQReferenceIdeal.τ).loc Cert.AttnQReferenceIdeal.main_arg0) = m ((c.tc : Thread Cert.AttnQReferenceIdeal.nD Cert.AttnQReferenceIdeal.τ).loc Cert.AttnQReferenceIdeal.main_arg0)
      ∧ r.2.mem ((c.tc : Thread Cert.AttnQReferenceIdeal.nD Cert.AttnQReferenceIdeal.τ).loc Cert.AttnQReferenceIdeal.main_arg1) = m ((c.tc : Thread Cert.AttnQReferenceIdeal.nD Cert.AttnQReferenceIdeal.τ).loc Cert.AttnQReferenceIdeal.main_arg1))
      ∧ r.2.sem = fun _ => 0)

def quiescent_AttnOut [hAttnOut : Cert.AttnOut.Facts] : Prop :=
  ∀ (m : (ℓ : Loc Cert.AttnOut.nD Cert.AttnOut.τ Cert.AttnOut.sig) → Buf (Elt Bits) ℓ) (g : Dev Cert.AttnOut.nD → PrngReg), Pre_AttnOut m →
    θ_run (Cert.AttnOut.defs (F := Bits)) (onTc (τ := Cert.AttnOut.τ) (Cert.AttnOut.main (F := Bits))) ⟨m, fun _ => 0, g⟩ (fun r => (∀ c : Dev Cert.AttnOut.nD,
      r.2.mem ((c.tc : Thread Cert.AttnOut.nD Cert.AttnOut.τ).loc Cert.AttnOut.main_arg0) = m ((c.tc : Thread Cert.AttnOut.nD Cert.AttnOut.τ).loc Cert.AttnOut.main_arg0)
      ∧ r.2.mem ((c.tc : Thread Cert.AttnOut.nD Cert.AttnOut.τ).loc Cert.AttnOut.main_arg1) = m ((c.tc : Thread Cert.AttnOut.nD Cert.AttnOut.τ).loc Cert.AttnOut.main_arg1)
      ∧ r.2.mem ((c.tc : Thread Cert.AttnOut.nD Cert.AttnOut.τ).loc Cert.AttnOut.main_arg2) = m ((c.tc : Thread Cert.AttnOut.nD Cert.AttnOut.τ).loc Cert.AttnOut.main_arg2))
      ∧ r.2.sem = fun _ => 0)

def quiescent_AttnOutIdeal [hAttnOutIdeal : Cert.AttnOutIdeal.Facts] : Prop :=
  ∀ (m : (ℓ : Loc Cert.AttnOutIdeal.nD Cert.AttnOutIdeal.τ Cert.AttnOutIdeal.sig) → Buf (Elt Ideal) ℓ) (g : Dev Cert.AttnOutIdeal.nD → PrngReg), Pre_AttnOutIdeal m →
    θ_run (Cert.AttnOutIdeal.defs (F := Ideal)) (onTc (τ := Cert.AttnOutIdeal.τ) (Cert.AttnOutIdeal.main (F := Ideal))) ⟨m, fun _ => 0, g⟩ (fun r => (∀ c : Dev Cert.AttnOutIdeal.nD,
      r.2.mem ((c.tc : Thread Cert.AttnOutIdeal.nD Cert.AttnOutIdeal.τ).loc Cert.AttnOutIdeal.main_arg0) = m ((c.tc : Thread Cert.AttnOutIdeal.nD Cert.AttnOutIdeal.τ).loc Cert.AttnOutIdeal.main_arg0)
      ∧ r.2.mem ((c.tc : Thread Cert.AttnOutIdeal.nD Cert.AttnOutIdeal.τ).loc Cert.AttnOutIdeal.main_arg1) = m ((c.tc : Thread Cert.AttnOutIdeal.nD Cert.AttnOutIdeal.τ).loc Cert.AttnOutIdeal.main_arg1)
      ∧ r.2.mem ((c.tc : Thread Cert.AttnOutIdeal.nD Cert.AttnOutIdeal.τ).loc Cert.AttnOutIdeal.main_arg2) = m ((c.tc : Thread Cert.AttnOutIdeal.nD Cert.AttnOutIdeal.τ).loc Cert.AttnOutIdeal.main_arg2))
      ∧ r.2.sem = fun _ => 0)

def quiescent_AttnOutReferenceIdeal [hAttnOutReferenceIdeal : Cert.AttnOutReferenceIdeal.Facts] : Prop :=
  ∀ (m : (ℓ : Loc Cert.AttnOutReferenceIdeal.nD Cert.AttnOutReferenceIdeal.τ Cert.AttnOutReferenceIdeal.sig) → Buf (Elt Ideal) ℓ) (g : Dev Cert.AttnOutReferenceIdeal.nD → PrngReg), Pre_AttnOutReferenceIdeal m →
    θ_run (Cert.AttnOutReferenceIdeal.defs (F := Ideal)) (onTc (τ := Cert.AttnOutReferenceIdeal.τ) (Cert.AttnOutReferenceIdeal.main (F := Ideal))) ⟨m, fun _ => 0, g⟩ (fun r => (∀ c : Dev Cert.AttnOutReferenceIdeal.nD,
      r.2.mem ((c.tc : Thread Cert.AttnOutReferenceIdeal.nD Cert.AttnOutReferenceIdeal.τ).loc Cert.AttnOutReferenceIdeal.main_arg0) = m ((c.tc : Thread Cert.AttnOutReferenceIdeal.nD Cert.AttnOutReferenceIdeal.τ).loc Cert.AttnOutReferenceIdeal.main_arg0)
      ∧ r.2.mem ((c.tc : Thread Cert.AttnOutReferenceIdeal.nD Cert.AttnOutReferenceIdeal.τ).loc Cert.AttnOutReferenceIdeal.main_arg1) = m ((c.tc : Thread Cert.AttnOutReferenceIdeal.nD Cert.AttnOutReferenceIdeal.τ).loc Cert.AttnOutReferenceIdeal.main_arg1)
      ∧ r.2.mem ((c.tc : Thread Cert.AttnOutReferenceIdeal.nD Cert.AttnOutReferenceIdeal.τ).loc Cert.AttnOutReferenceIdeal.main_arg2) = m ((c.tc : Thread Cert.AttnOutReferenceIdeal.nD Cert.AttnOutReferenceIdeal.τ).loc Cert.AttnOutReferenceIdeal.main_arg2))
      ∧ r.2.sem = fun _ => 0)

def quiescent_Kv [hKv : Cert.Kv.Facts] : Prop :=
  ∀ (m : (ℓ : Loc Cert.Kv.nD Cert.Kv.τ Cert.Kv.sig) → Buf (Elt Bits) ℓ) (g : Dev Cert.Kv.nD → PrngReg), Pre_Kv m →
    θ_run (Cert.Kv.defs (F := Bits)) (onTc (τ := Cert.Kv.τ) (Cert.Kv.main (F := Bits))) ⟨m, fun _ => 0, g⟩ (fun r => (∀ c : Dev Cert.Kv.nD,
      r.2.mem ((c.tc : Thread Cert.Kv.nD Cert.Kv.τ).loc Cert.Kv.main_arg0) = m ((c.tc : Thread Cert.Kv.nD Cert.Kv.τ).loc Cert.Kv.main_arg0)
      ∧ r.2.mem ((c.tc : Thread Cert.Kv.nD Cert.Kv.τ).loc Cert.Kv.main_arg1) = m ((c.tc : Thread Cert.Kv.nD Cert.Kv.τ).loc Cert.Kv.main_arg1))
      ∧ r.2.sem = fun _ => 0)

def quiescent_KvIdeal [hKvIdeal : Cert.KvIdeal.Facts] : Prop :=
  ∀ (m : (ℓ : Loc Cert.KvIdeal.nD Cert.KvIdeal.τ Cert.KvIdeal.sig) → Buf (Elt Ideal) ℓ) (g : Dev Cert.KvIdeal.nD → PrngReg), Pre_KvIdeal m →
    θ_run (Cert.KvIdeal.defs (F := Ideal)) (onTc (τ := Cert.KvIdeal.τ) (Cert.KvIdeal.main (F := Ideal))) ⟨m, fun _ => 0, g⟩ (fun r => (∀ c : Dev Cert.KvIdeal.nD,
      r.2.mem ((c.tc : Thread Cert.KvIdeal.nD Cert.KvIdeal.τ).loc Cert.KvIdeal.main_arg0) = m ((c.tc : Thread Cert.KvIdeal.nD Cert.KvIdeal.τ).loc Cert.KvIdeal.main_arg0)
      ∧ r.2.mem ((c.tc : Thread Cert.KvIdeal.nD Cert.KvIdeal.τ).loc Cert.KvIdeal.main_arg1) = m ((c.tc : Thread Cert.KvIdeal.nD Cert.KvIdeal.τ).loc Cert.KvIdeal.main_arg1))
      ∧ r.2.sem = fun _ => 0)

def quiescent_KvReferenceIdeal [hKvReferenceIdeal : Cert.KvReferenceIdeal.Facts] : Prop :=
  ∀ (m : (ℓ : Loc Cert.KvReferenceIdeal.nD Cert.KvReferenceIdeal.τ Cert.KvReferenceIdeal.sig) → Buf (Elt Ideal) ℓ) (g : Dev Cert.KvReferenceIdeal.nD → PrngReg), Pre_KvReferenceIdeal m →
    θ_run (Cert.KvReferenceIdeal.defs (F := Ideal)) (onTc (τ := Cert.KvReferenceIdeal.τ) (Cert.KvReferenceIdeal.main (F := Ideal))) ⟨m, fun _ => 0, g⟩ (fun r => (∀ c : Dev Cert.KvReferenceIdeal.nD,
      r.2.mem ((c.tc : Thread Cert.KvReferenceIdeal.nD Cert.KvReferenceIdeal.τ).loc Cert.KvReferenceIdeal.main_arg0) = m ((c.tc : Thread Cert.KvReferenceIdeal.nD Cert.KvReferenceIdeal.τ).loc Cert.KvReferenceIdeal.main_arg0)
      ∧ r.2.mem ((c.tc : Thread Cert.KvReferenceIdeal.nD Cert.KvReferenceIdeal.τ).loc Cert.KvReferenceIdeal.main_arg1) = m ((c.tc : Thread Cert.KvReferenceIdeal.nD Cert.KvReferenceIdeal.τ).loc Cert.KvReferenceIdeal.main_arg1))
      ∧ r.2.sem = fun _ => 0)

def quiescent_PleGate [hPleGate : Cert.PleGate.Facts] : Prop :=
  ∀ (m : (ℓ : Loc Cert.PleGate.nD Cert.PleGate.τ Cert.PleGate.sig) → Buf (Elt Bits) ℓ) (g : Dev Cert.PleGate.nD → PrngReg), Pre_PleGate m →
    θ_run (Cert.PleGate.defs (F := Bits)) (onTc (τ := Cert.PleGate.τ) (Cert.PleGate.main (F := Bits))) ⟨m, fun _ => 0, g⟩ (fun r => (∀ c : Dev Cert.PleGate.nD,
      r.2.mem ((c.tc : Thread Cert.PleGate.nD Cert.PleGate.τ).loc Cert.PleGate.main_arg0) = m ((c.tc : Thread Cert.PleGate.nD Cert.PleGate.τ).loc Cert.PleGate.main_arg0)
      ∧ r.2.mem ((c.tc : Thread Cert.PleGate.nD Cert.PleGate.τ).loc Cert.PleGate.main_arg1) = m ((c.tc : Thread Cert.PleGate.nD Cert.PleGate.τ).loc Cert.PleGate.main_arg1))
      ∧ r.2.sem = fun _ => 0)

def quiescent_PleGateIdeal [hPleGateIdeal : Cert.PleGateIdeal.Facts] : Prop :=
  ∀ (m : (ℓ : Loc Cert.PleGateIdeal.nD Cert.PleGateIdeal.τ Cert.PleGateIdeal.sig) → Buf (Elt Ideal) ℓ) (g : Dev Cert.PleGateIdeal.nD → PrngReg), Pre_PleGateIdeal m →
    θ_run (Cert.PleGateIdeal.defs (F := Ideal)) (onTc (τ := Cert.PleGateIdeal.τ) (Cert.PleGateIdeal.main (F := Ideal))) ⟨m, fun _ => 0, g⟩ (fun r => (∀ c : Dev Cert.PleGateIdeal.nD,
      r.2.mem ((c.tc : Thread Cert.PleGateIdeal.nD Cert.PleGateIdeal.τ).loc Cert.PleGateIdeal.main_arg0) = m ((c.tc : Thread Cert.PleGateIdeal.nD Cert.PleGateIdeal.τ).loc Cert.PleGateIdeal.main_arg0)
      ∧ r.2.mem ((c.tc : Thread Cert.PleGateIdeal.nD Cert.PleGateIdeal.τ).loc Cert.PleGateIdeal.main_arg1) = m ((c.tc : Thread Cert.PleGateIdeal.nD Cert.PleGateIdeal.τ).loc Cert.PleGateIdeal.main_arg1))
      ∧ r.2.sem = fun _ => 0)

def quiescent_PleGateReferenceIdeal [hPleGateReferenceIdeal : Cert.PleGateReferenceIdeal.Facts] : Prop :=
  ∀ (m : (ℓ : Loc Cert.PleGateReferenceIdeal.nD Cert.PleGateReferenceIdeal.τ Cert.PleGateReferenceIdeal.sig) → Buf (Elt Ideal) ℓ) (g : Dev Cert.PleGateReferenceIdeal.nD → PrngReg), Pre_PleGateReferenceIdeal m →
    θ_run (Cert.PleGateReferenceIdeal.defs (F := Ideal)) (onTc (τ := Cert.PleGateReferenceIdeal.τ) (Cert.PleGateReferenceIdeal.main (F := Ideal))) ⟨m, fun _ => 0, g⟩ (fun r => (∀ c : Dev Cert.PleGateReferenceIdeal.nD,
      r.2.mem ((c.tc : Thread Cert.PleGateReferenceIdeal.nD Cert.PleGateReferenceIdeal.τ).loc Cert.PleGateReferenceIdeal.main_arg0) = m ((c.tc : Thread Cert.PleGateReferenceIdeal.nD Cert.PleGateReferenceIdeal.τ).loc Cert.PleGateReferenceIdeal.main_arg0)
      ∧ r.2.mem ((c.tc : Thread Cert.PleGateReferenceIdeal.nD Cert.PleGateReferenceIdeal.τ).loc Cert.PleGateReferenceIdeal.main_arg1) = m ((c.tc : Thread Cert.PleGateReferenceIdeal.nD Cert.PleGateReferenceIdeal.τ).loc Cert.PleGateReferenceIdeal.main_arg1))
      ∧ r.2.sem = fun _ => 0)

def quiescent_PleProj [hPleProj : Cert.PleProj.Facts] : Prop :=
  ∀ (m : (ℓ : Loc Cert.PleProj.nD Cert.PleProj.τ Cert.PleProj.sig) → Buf (Elt Bits) ℓ) (g : Dev Cert.PleProj.nD → PrngReg), Pre_PleProj m →
    θ_run (Cert.PleProj.defs (F := Bits)) (onTc (τ := Cert.PleProj.τ) (Cert.PleProj.main (F := Bits))) ⟨m, fun _ => 0, g⟩ (fun r => (∀ c : Dev Cert.PleProj.nD,
      r.2.mem ((c.tc : Thread Cert.PleProj.nD Cert.PleProj.τ).loc Cert.PleProj.main_arg0) = m ((c.tc : Thread Cert.PleProj.nD Cert.PleProj.τ).loc Cert.PleProj.main_arg0)
      ∧ r.2.mem ((c.tc : Thread Cert.PleProj.nD Cert.PleProj.τ).loc Cert.PleProj.main_arg1) = m ((c.tc : Thread Cert.PleProj.nD Cert.PleProj.τ).loc Cert.PleProj.main_arg1))
      ∧ r.2.sem = fun _ => 0)

def quiescent_PleProjIdeal [hPleProjIdeal : Cert.PleProjIdeal.Facts] : Prop :=
  ∀ (m : (ℓ : Loc Cert.PleProjIdeal.nD Cert.PleProjIdeal.τ Cert.PleProjIdeal.sig) → Buf (Elt Ideal) ℓ) (g : Dev Cert.PleProjIdeal.nD → PrngReg), Pre_PleProjIdeal m →
    θ_run (Cert.PleProjIdeal.defs (F := Ideal)) (onTc (τ := Cert.PleProjIdeal.τ) (Cert.PleProjIdeal.main (F := Ideal))) ⟨m, fun _ => 0, g⟩ (fun r => (∀ c : Dev Cert.PleProjIdeal.nD,
      r.2.mem ((c.tc : Thread Cert.PleProjIdeal.nD Cert.PleProjIdeal.τ).loc Cert.PleProjIdeal.main_arg0) = m ((c.tc : Thread Cert.PleProjIdeal.nD Cert.PleProjIdeal.τ).loc Cert.PleProjIdeal.main_arg0)
      ∧ r.2.mem ((c.tc : Thread Cert.PleProjIdeal.nD Cert.PleProjIdeal.τ).loc Cert.PleProjIdeal.main_arg1) = m ((c.tc : Thread Cert.PleProjIdeal.nD Cert.PleProjIdeal.τ).loc Cert.PleProjIdeal.main_arg1))
      ∧ r.2.sem = fun _ => 0)

def quiescent_PleProjReferenceIdeal [hPleProjReferenceIdeal : Cert.PleProjReferenceIdeal.Facts] : Prop :=
  ∀ (m : (ℓ : Loc Cert.PleProjReferenceIdeal.nD Cert.PleProjReferenceIdeal.τ Cert.PleProjReferenceIdeal.sig) → Buf (Elt Ideal) ℓ) (g : Dev Cert.PleProjReferenceIdeal.nD → PrngReg), Pre_PleProjReferenceIdeal m →
    θ_run (Cert.PleProjReferenceIdeal.defs (F := Ideal)) (onTc (τ := Cert.PleProjReferenceIdeal.τ) (Cert.PleProjReferenceIdeal.main (F := Ideal))) ⟨m, fun _ => 0, g⟩ (fun r => (∀ c : Dev Cert.PleProjReferenceIdeal.nD,
      r.2.mem ((c.tc : Thread Cert.PleProjReferenceIdeal.nD Cert.PleProjReferenceIdeal.τ).loc Cert.PleProjReferenceIdeal.main_arg0) = m ((c.tc : Thread Cert.PleProjReferenceIdeal.nD Cert.PleProjReferenceIdeal.τ).loc Cert.PleProjReferenceIdeal.main_arg0)
      ∧ r.2.mem ((c.tc : Thread Cert.PleProjReferenceIdeal.nD Cert.PleProjReferenceIdeal.τ).loc Cert.PleProjReferenceIdeal.main_arg1) = m ((c.tc : Thread Cert.PleProjReferenceIdeal.nD Cert.PleProjReferenceIdeal.τ).loc Cert.PleProjReferenceIdeal.main_arg1))
      ∧ r.2.sem = fun _ => 0)

def quiescent_FfnNormBwd [hFfnNormBwd : Cert.FfnNormBwd.Facts] : Prop :=
  ∀ (m : (ℓ : Loc Cert.FfnNormBwd.nD Cert.FfnNormBwd.τ Cert.FfnNormBwd.sig) → Buf (Elt Bits) ℓ) (g : Dev Cert.FfnNormBwd.nD → PrngReg), Pre_FfnNormBwd m →
    θ_run (Cert.FfnNormBwd.defs (F := Bits)) (onTc (τ := Cert.FfnNormBwd.τ) (Cert.FfnNormBwd.main (F := Bits))) ⟨m, fun _ => 0, g⟩ (fun r => (∀ c : Dev Cert.FfnNormBwd.nD,
      r.2.mem ((c.tc : Thread Cert.FfnNormBwd.nD Cert.FfnNormBwd.τ).loc Cert.FfnNormBwd.main_arg0) = m ((c.tc : Thread Cert.FfnNormBwd.nD Cert.FfnNormBwd.τ).loc Cert.FfnNormBwd.main_arg0)
      ∧ r.2.mem ((c.tc : Thread Cert.FfnNormBwd.nD Cert.FfnNormBwd.τ).loc Cert.FfnNormBwd.main_arg1) = m ((c.tc : Thread Cert.FfnNormBwd.nD Cert.FfnNormBwd.τ).loc Cert.FfnNormBwd.main_arg1)
      ∧ r.2.mem ((c.tc : Thread Cert.FfnNormBwd.nD Cert.FfnNormBwd.τ).loc Cert.FfnNormBwd.main_arg2) = m ((c.tc : Thread Cert.FfnNormBwd.nD Cert.FfnNormBwd.τ).loc Cert.FfnNormBwd.main_arg2)
      ∧ r.2.mem ((c.tc : Thread Cert.FfnNormBwd.nD Cert.FfnNormBwd.τ).loc Cert.FfnNormBwd.main_arg3) = m ((c.tc : Thread Cert.FfnNormBwd.nD Cert.FfnNormBwd.τ).loc Cert.FfnNormBwd.main_arg3)
      ∧ r.2.mem ((c.tc : Thread Cert.FfnNormBwd.nD Cert.FfnNormBwd.τ).loc Cert.FfnNormBwd.main_arg4) = m ((c.tc : Thread Cert.FfnNormBwd.nD Cert.FfnNormBwd.τ).loc Cert.FfnNormBwd.main_arg4)
      ∧ r.2.mem ((c.tc : Thread Cert.FfnNormBwd.nD Cert.FfnNormBwd.τ).loc Cert.FfnNormBwd.main_arg5) = m ((c.tc : Thread Cert.FfnNormBwd.nD Cert.FfnNormBwd.τ).loc Cert.FfnNormBwd.main_arg5))
      ∧ r.2.sem = fun _ => 0)

def quiescent_FfnNormBwdIdeal [hFfnNormBwdIdeal : Cert.FfnNormBwdIdeal.Facts] : Prop :=
  ∀ (m : (ℓ : Loc Cert.FfnNormBwdIdeal.nD Cert.FfnNormBwdIdeal.τ Cert.FfnNormBwdIdeal.sig) → Buf (Elt Ideal) ℓ) (g : Dev Cert.FfnNormBwdIdeal.nD → PrngReg), Pre_FfnNormBwdIdeal m →
    θ_run (Cert.FfnNormBwdIdeal.defs (F := Ideal)) (onTc (τ := Cert.FfnNormBwdIdeal.τ) (Cert.FfnNormBwdIdeal.main (F := Ideal))) ⟨m, fun _ => 0, g⟩ (fun r => (∀ c : Dev Cert.FfnNormBwdIdeal.nD,
      r.2.mem ((c.tc : Thread Cert.FfnNormBwdIdeal.nD Cert.FfnNormBwdIdeal.τ).loc Cert.FfnNormBwdIdeal.main_arg0) = m ((c.tc : Thread Cert.FfnNormBwdIdeal.nD Cert.FfnNormBwdIdeal.τ).loc Cert.FfnNormBwdIdeal.main_arg0)
      ∧ r.2.mem ((c.tc : Thread Cert.FfnNormBwdIdeal.nD Cert.FfnNormBwdIdeal.τ).loc Cert.FfnNormBwdIdeal.main_arg1) = m ((c.tc : Thread Cert.FfnNormBwdIdeal.nD Cert.FfnNormBwdIdeal.τ).loc Cert.FfnNormBwdIdeal.main_arg1)
      ∧ r.2.mem ((c.tc : Thread Cert.FfnNormBwdIdeal.nD Cert.FfnNormBwdIdeal.τ).loc Cert.FfnNormBwdIdeal.main_arg2) = m ((c.tc : Thread Cert.FfnNormBwdIdeal.nD Cert.FfnNormBwdIdeal.τ).loc Cert.FfnNormBwdIdeal.main_arg2)
      ∧ r.2.mem ((c.tc : Thread Cert.FfnNormBwdIdeal.nD Cert.FfnNormBwdIdeal.τ).loc Cert.FfnNormBwdIdeal.main_arg3) = m ((c.tc : Thread Cert.FfnNormBwdIdeal.nD Cert.FfnNormBwdIdeal.τ).loc Cert.FfnNormBwdIdeal.main_arg3)
      ∧ r.2.mem ((c.tc : Thread Cert.FfnNormBwdIdeal.nD Cert.FfnNormBwdIdeal.τ).loc Cert.FfnNormBwdIdeal.main_arg4) = m ((c.tc : Thread Cert.FfnNormBwdIdeal.nD Cert.FfnNormBwdIdeal.τ).loc Cert.FfnNormBwdIdeal.main_arg4)
      ∧ r.2.mem ((c.tc : Thread Cert.FfnNormBwdIdeal.nD Cert.FfnNormBwdIdeal.τ).loc Cert.FfnNormBwdIdeal.main_arg5) = m ((c.tc : Thread Cert.FfnNormBwdIdeal.nD Cert.FfnNormBwdIdeal.τ).loc Cert.FfnNormBwdIdeal.main_arg5))
      ∧ r.2.sem = fun _ => 0)

def quiescent_FfnNormBwdReferenceIdeal [hFfnNormBwdReferenceIdeal : Cert.FfnNormBwdReferenceIdeal.Facts] : Prop :=
  ∀ (m : (ℓ : Loc Cert.FfnNormBwdReferenceIdeal.nD Cert.FfnNormBwdReferenceIdeal.τ Cert.FfnNormBwdReferenceIdeal.sig) → Buf (Elt Ideal) ℓ) (g : Dev Cert.FfnNormBwdReferenceIdeal.nD → PrngReg), Pre_FfnNormBwdReferenceIdeal m →
    θ_run (Cert.FfnNormBwdReferenceIdeal.defs (F := Ideal)) (onTc (τ := Cert.FfnNormBwdReferenceIdeal.τ) (Cert.FfnNormBwdReferenceIdeal.main (F := Ideal))) ⟨m, fun _ => 0, g⟩ (fun r => (∀ c : Dev Cert.FfnNormBwdReferenceIdeal.nD,
      r.2.mem ((c.tc : Thread Cert.FfnNormBwdReferenceIdeal.nD Cert.FfnNormBwdReferenceIdeal.τ).loc Cert.FfnNormBwdReferenceIdeal.main_arg0) = m ((c.tc : Thread Cert.FfnNormBwdReferenceIdeal.nD Cert.FfnNormBwdReferenceIdeal.τ).loc Cert.FfnNormBwdReferenceIdeal.main_arg0)
      ∧ r.2.mem ((c.tc : Thread Cert.FfnNormBwdReferenceIdeal.nD Cert.FfnNormBwdReferenceIdeal.τ).loc Cert.FfnNormBwdReferenceIdeal.main_arg1) = m ((c.tc : Thread Cert.FfnNormBwdReferenceIdeal.nD Cert.FfnNormBwdReferenceIdeal.τ).loc Cert.FfnNormBwdReferenceIdeal.main_arg1)
      ∧ r.2.mem ((c.tc : Thread Cert.FfnNormBwdReferenceIdeal.nD Cert.FfnNormBwdReferenceIdeal.τ).loc Cert.FfnNormBwdReferenceIdeal.main_arg2) = m ((c.tc : Thread Cert.FfnNormBwdReferenceIdeal.nD Cert.FfnNormBwdReferenceIdeal.τ).loc Cert.FfnNormBwdReferenceIdeal.main_arg2)
      ∧ r.2.mem ((c.tc : Thread Cert.FfnNormBwdReferenceIdeal.nD Cert.FfnNormBwdReferenceIdeal.τ).loc Cert.FfnNormBwdReferenceIdeal.main_arg3) = m ((c.tc : Thread Cert.FfnNormBwdReferenceIdeal.nD Cert.FfnNormBwdReferenceIdeal.τ).loc Cert.FfnNormBwdReferenceIdeal.main_arg3)
      ∧ r.2.mem ((c.tc : Thread Cert.FfnNormBwdReferenceIdeal.nD Cert.FfnNormBwdReferenceIdeal.τ).loc Cert.FfnNormBwdReferenceIdeal.main_arg4) = m ((c.tc : Thread Cert.FfnNormBwdReferenceIdeal.nD Cert.FfnNormBwdReferenceIdeal.τ).loc Cert.FfnNormBwdReferenceIdeal.main_arg4)
      ∧ r.2.mem ((c.tc : Thread Cert.FfnNormBwdReferenceIdeal.nD Cert.FfnNormBwdReferenceIdeal.τ).loc Cert.FfnNormBwdReferenceIdeal.main_arg5) = m ((c.tc : Thread Cert.FfnNormBwdReferenceIdeal.nD Cert.FfnNormBwdReferenceIdeal.τ).loc Cert.FfnNormBwdReferenceIdeal.main_arg5))
      ∧ r.2.sem = fun _ => 0)

def quiescent_GateNormBwd [hGateNormBwd : Cert.GateNormBwd.Facts] : Prop :=
  ∀ (m : (ℓ : Loc Cert.GateNormBwd.nD Cert.GateNormBwd.τ Cert.GateNormBwd.sig) → Buf (Elt Bits) ℓ) (g : Dev Cert.GateNormBwd.nD → PrngReg), Pre_GateNormBwd m →
    θ_run (Cert.GateNormBwd.defs (F := Bits)) (onTc (τ := Cert.GateNormBwd.τ) (Cert.GateNormBwd.main (F := Bits))) ⟨m, fun _ => 0, g⟩ (fun r => (∀ c : Dev Cert.GateNormBwd.nD,
      r.2.mem ((c.tc : Thread Cert.GateNormBwd.nD Cert.GateNormBwd.τ).loc Cert.GateNormBwd.main_arg0) = m ((c.tc : Thread Cert.GateNormBwd.nD Cert.GateNormBwd.τ).loc Cert.GateNormBwd.main_arg0)
      ∧ r.2.mem ((c.tc : Thread Cert.GateNormBwd.nD Cert.GateNormBwd.τ).loc Cert.GateNormBwd.main_arg1) = m ((c.tc : Thread Cert.GateNormBwd.nD Cert.GateNormBwd.τ).loc Cert.GateNormBwd.main_arg1)
      ∧ r.2.mem ((c.tc : Thread Cert.GateNormBwd.nD Cert.GateNormBwd.τ).loc Cert.GateNormBwd.main_arg2) = m ((c.tc : Thread Cert.GateNormBwd.nD Cert.GateNormBwd.τ).loc Cert.GateNormBwd.main_arg2)
      ∧ r.2.mem ((c.tc : Thread Cert.GateNormBwd.nD Cert.GateNormBwd.τ).loc Cert.GateNormBwd.main_arg3) = m ((c.tc : Thread Cert.GateNormBwd.nD Cert.GateNormBwd.τ).loc Cert.GateNormBwd.main_arg3)
      ∧ r.2.mem ((c.tc : Thread Cert.GateNormBwd.nD Cert.GateNormBwd.τ).loc Cert.GateNormBwd.main_arg4) = m ((c.tc : Thread Cert.GateNormBwd.nD Cert.GateNormBwd.τ).loc Cert.GateNormBwd.main_arg4))
      ∧ r.2.sem = fun _ => 0)

def quiescent_GateNormBwdIdeal [hGateNormBwdIdeal : Cert.GateNormBwdIdeal.Facts] : Prop :=
  ∀ (m : (ℓ : Loc Cert.GateNormBwdIdeal.nD Cert.GateNormBwdIdeal.τ Cert.GateNormBwdIdeal.sig) → Buf (Elt Ideal) ℓ) (g : Dev Cert.GateNormBwdIdeal.nD → PrngReg), Pre_GateNormBwdIdeal m →
    θ_run (Cert.GateNormBwdIdeal.defs (F := Ideal)) (onTc (τ := Cert.GateNormBwdIdeal.τ) (Cert.GateNormBwdIdeal.main (F := Ideal))) ⟨m, fun _ => 0, g⟩ (fun r => (∀ c : Dev Cert.GateNormBwdIdeal.nD,
      r.2.mem ((c.tc : Thread Cert.GateNormBwdIdeal.nD Cert.GateNormBwdIdeal.τ).loc Cert.GateNormBwdIdeal.main_arg0) = m ((c.tc : Thread Cert.GateNormBwdIdeal.nD Cert.GateNormBwdIdeal.τ).loc Cert.GateNormBwdIdeal.main_arg0)
      ∧ r.2.mem ((c.tc : Thread Cert.GateNormBwdIdeal.nD Cert.GateNormBwdIdeal.τ).loc Cert.GateNormBwdIdeal.main_arg1) = m ((c.tc : Thread Cert.GateNormBwdIdeal.nD Cert.GateNormBwdIdeal.τ).loc Cert.GateNormBwdIdeal.main_arg1)
      ∧ r.2.mem ((c.tc : Thread Cert.GateNormBwdIdeal.nD Cert.GateNormBwdIdeal.τ).loc Cert.GateNormBwdIdeal.main_arg2) = m ((c.tc : Thread Cert.GateNormBwdIdeal.nD Cert.GateNormBwdIdeal.τ).loc Cert.GateNormBwdIdeal.main_arg2)
      ∧ r.2.mem ((c.tc : Thread Cert.GateNormBwdIdeal.nD Cert.GateNormBwdIdeal.τ).loc Cert.GateNormBwdIdeal.main_arg3) = m ((c.tc : Thread Cert.GateNormBwdIdeal.nD Cert.GateNormBwdIdeal.τ).loc Cert.GateNormBwdIdeal.main_arg3)
      ∧ r.2.mem ((c.tc : Thread Cert.GateNormBwdIdeal.nD Cert.GateNormBwdIdeal.τ).loc Cert.GateNormBwdIdeal.main_arg4) = m ((c.tc : Thread Cert.GateNormBwdIdeal.nD Cert.GateNormBwdIdeal.τ).loc Cert.GateNormBwdIdeal.main_arg4))
      ∧ r.2.sem = fun _ => 0)

def quiescent_GateNormBwdReferenceIdeal [hGateNormBwdReferenceIdeal : Cert.GateNormBwdReferenceIdeal.Facts] : Prop :=
  ∀ (m : (ℓ : Loc Cert.GateNormBwdReferenceIdeal.nD Cert.GateNormBwdReferenceIdeal.τ Cert.GateNormBwdReferenceIdeal.sig) → Buf (Elt Ideal) ℓ) (g : Dev Cert.GateNormBwdReferenceIdeal.nD → PrngReg), Pre_GateNormBwdReferenceIdeal m →
    θ_run (Cert.GateNormBwdReferenceIdeal.defs (F := Ideal)) (onTc (τ := Cert.GateNormBwdReferenceIdeal.τ) (Cert.GateNormBwdReferenceIdeal.main (F := Ideal))) ⟨m, fun _ => 0, g⟩ (fun r => (∀ c : Dev Cert.GateNormBwdReferenceIdeal.nD,
      r.2.mem ((c.tc : Thread Cert.GateNormBwdReferenceIdeal.nD Cert.GateNormBwdReferenceIdeal.τ).loc Cert.GateNormBwdReferenceIdeal.main_arg0) = m ((c.tc : Thread Cert.GateNormBwdReferenceIdeal.nD Cert.GateNormBwdReferenceIdeal.τ).loc Cert.GateNormBwdReferenceIdeal.main_arg0)
      ∧ r.2.mem ((c.tc : Thread Cert.GateNormBwdReferenceIdeal.nD Cert.GateNormBwdReferenceIdeal.τ).loc Cert.GateNormBwdReferenceIdeal.main_arg1) = m ((c.tc : Thread Cert.GateNormBwdReferenceIdeal.nD Cert.GateNormBwdReferenceIdeal.τ).loc Cert.GateNormBwdReferenceIdeal.main_arg1)
      ∧ r.2.mem ((c.tc : Thread Cert.GateNormBwdReferenceIdeal.nD Cert.GateNormBwdReferenceIdeal.τ).loc Cert.GateNormBwdReferenceIdeal.main_arg2) = m ((c.tc : Thread Cert.GateNormBwdReferenceIdeal.nD Cert.GateNormBwdReferenceIdeal.τ).loc Cert.GateNormBwdReferenceIdeal.main_arg2)
      ∧ r.2.mem ((c.tc : Thread Cert.GateNormBwdReferenceIdeal.nD Cert.GateNormBwdReferenceIdeal.τ).loc Cert.GateNormBwdReferenceIdeal.main_arg3) = m ((c.tc : Thread Cert.GateNormBwdReferenceIdeal.nD Cert.GateNormBwdReferenceIdeal.τ).loc Cert.GateNormBwdReferenceIdeal.main_arg3)
      ∧ r.2.mem ((c.tc : Thread Cert.GateNormBwdReferenceIdeal.nD Cert.GateNormBwdReferenceIdeal.τ).loc Cert.GateNormBwdReferenceIdeal.main_arg4) = m ((c.tc : Thread Cert.GateNormBwdReferenceIdeal.nD Cert.GateNormBwdReferenceIdeal.τ).loc Cert.GateNormBwdReferenceIdeal.main_arg4))
      ∧ r.2.sem = fun _ => 0)

def quiescent_KvNormBwd [hKvNormBwd : Cert.KvNormBwd.Facts] : Prop :=
  ∀ (m : (ℓ : Loc Cert.KvNormBwd.nD Cert.KvNormBwd.τ Cert.KvNormBwd.sig) → Buf (Elt Bits) ℓ) (g : Dev Cert.KvNormBwd.nD → PrngReg), Pre_KvNormBwd m →
    θ_run (Cert.KvNormBwd.defs (F := Bits)) (onTc (τ := Cert.KvNormBwd.τ) (Cert.KvNormBwd.main (F := Bits))) ⟨m, fun _ => 0, g⟩ (fun r => (∀ c : Dev Cert.KvNormBwd.nD,
      r.2.mem ((c.tc : Thread Cert.KvNormBwd.nD Cert.KvNormBwd.τ).loc Cert.KvNormBwd.main_arg0) = m ((c.tc : Thread Cert.KvNormBwd.nD Cert.KvNormBwd.τ).loc Cert.KvNormBwd.main_arg0)
      ∧ r.2.mem ((c.tc : Thread Cert.KvNormBwd.nD Cert.KvNormBwd.τ).loc Cert.KvNormBwd.main_arg1) = m ((c.tc : Thread Cert.KvNormBwd.nD Cert.KvNormBwd.τ).loc Cert.KvNormBwd.main_arg1)
      ∧ r.2.mem ((c.tc : Thread Cert.KvNormBwd.nD Cert.KvNormBwd.τ).loc Cert.KvNormBwd.main_arg2) = m ((c.tc : Thread Cert.KvNormBwd.nD Cert.KvNormBwd.τ).loc Cert.KvNormBwd.main_arg2)
      ∧ r.2.mem ((c.tc : Thread Cert.KvNormBwd.nD Cert.KvNormBwd.τ).loc Cert.KvNormBwd.main_arg3) = m ((c.tc : Thread Cert.KvNormBwd.nD Cert.KvNormBwd.τ).loc Cert.KvNormBwd.main_arg3)
      ∧ r.2.mem ((c.tc : Thread Cert.KvNormBwd.nD Cert.KvNormBwd.τ).loc Cert.KvNormBwd.main_arg4) = m ((c.tc : Thread Cert.KvNormBwd.nD Cert.KvNormBwd.τ).loc Cert.KvNormBwd.main_arg4))
      ∧ r.2.sem = fun _ => 0)

def quiescent_KvNormBwdIdeal [hKvNormBwdIdeal : Cert.KvNormBwdIdeal.Facts] : Prop :=
  ∀ (m : (ℓ : Loc Cert.KvNormBwdIdeal.nD Cert.KvNormBwdIdeal.τ Cert.KvNormBwdIdeal.sig) → Buf (Elt Ideal) ℓ) (g : Dev Cert.KvNormBwdIdeal.nD → PrngReg), Pre_KvNormBwdIdeal m →
    θ_run (Cert.KvNormBwdIdeal.defs (F := Ideal)) (onTc (τ := Cert.KvNormBwdIdeal.τ) (Cert.KvNormBwdIdeal.main (F := Ideal))) ⟨m, fun _ => 0, g⟩ (fun r => (∀ c : Dev Cert.KvNormBwdIdeal.nD,
      r.2.mem ((c.tc : Thread Cert.KvNormBwdIdeal.nD Cert.KvNormBwdIdeal.τ).loc Cert.KvNormBwdIdeal.main_arg0) = m ((c.tc : Thread Cert.KvNormBwdIdeal.nD Cert.KvNormBwdIdeal.τ).loc Cert.KvNormBwdIdeal.main_arg0)
      ∧ r.2.mem ((c.tc : Thread Cert.KvNormBwdIdeal.nD Cert.KvNormBwdIdeal.τ).loc Cert.KvNormBwdIdeal.main_arg1) = m ((c.tc : Thread Cert.KvNormBwdIdeal.nD Cert.KvNormBwdIdeal.τ).loc Cert.KvNormBwdIdeal.main_arg1)
      ∧ r.2.mem ((c.tc : Thread Cert.KvNormBwdIdeal.nD Cert.KvNormBwdIdeal.τ).loc Cert.KvNormBwdIdeal.main_arg2) = m ((c.tc : Thread Cert.KvNormBwdIdeal.nD Cert.KvNormBwdIdeal.τ).loc Cert.KvNormBwdIdeal.main_arg2)
      ∧ r.2.mem ((c.tc : Thread Cert.KvNormBwdIdeal.nD Cert.KvNormBwdIdeal.τ).loc Cert.KvNormBwdIdeal.main_arg3) = m ((c.tc : Thread Cert.KvNormBwdIdeal.nD Cert.KvNormBwdIdeal.τ).loc Cert.KvNormBwdIdeal.main_arg3)
      ∧ r.2.mem ((c.tc : Thread Cert.KvNormBwdIdeal.nD Cert.KvNormBwdIdeal.τ).loc Cert.KvNormBwdIdeal.main_arg4) = m ((c.tc : Thread Cert.KvNormBwdIdeal.nD Cert.KvNormBwdIdeal.τ).loc Cert.KvNormBwdIdeal.main_arg4))
      ∧ r.2.sem = fun _ => 0)

def quiescent_KvNormBwdReferenceIdeal [hKvNormBwdReferenceIdeal : Cert.KvNormBwdReferenceIdeal.Facts] : Prop :=
  ∀ (m : (ℓ : Loc Cert.KvNormBwdReferenceIdeal.nD Cert.KvNormBwdReferenceIdeal.τ Cert.KvNormBwdReferenceIdeal.sig) → Buf (Elt Ideal) ℓ) (g : Dev Cert.KvNormBwdReferenceIdeal.nD → PrngReg), Pre_KvNormBwdReferenceIdeal m →
    θ_run (Cert.KvNormBwdReferenceIdeal.defs (F := Ideal)) (onTc (τ := Cert.KvNormBwdReferenceIdeal.τ) (Cert.KvNormBwdReferenceIdeal.main (F := Ideal))) ⟨m, fun _ => 0, g⟩ (fun r => (∀ c : Dev Cert.KvNormBwdReferenceIdeal.nD,
      r.2.mem ((c.tc : Thread Cert.KvNormBwdReferenceIdeal.nD Cert.KvNormBwdReferenceIdeal.τ).loc Cert.KvNormBwdReferenceIdeal.main_arg0) = m ((c.tc : Thread Cert.KvNormBwdReferenceIdeal.nD Cert.KvNormBwdReferenceIdeal.τ).loc Cert.KvNormBwdReferenceIdeal.main_arg0)
      ∧ r.2.mem ((c.tc : Thread Cert.KvNormBwdReferenceIdeal.nD Cert.KvNormBwdReferenceIdeal.τ).loc Cert.KvNormBwdReferenceIdeal.main_arg1) = m ((c.tc : Thread Cert.KvNormBwdReferenceIdeal.nD Cert.KvNormBwdReferenceIdeal.τ).loc Cert.KvNormBwdReferenceIdeal.main_arg1)
      ∧ r.2.mem ((c.tc : Thread Cert.KvNormBwdReferenceIdeal.nD Cert.KvNormBwdReferenceIdeal.τ).loc Cert.KvNormBwdReferenceIdeal.main_arg2) = m ((c.tc : Thread Cert.KvNormBwdReferenceIdeal.nD Cert.KvNormBwdReferenceIdeal.τ).loc Cert.KvNormBwdReferenceIdeal.main_arg2)
      ∧ r.2.mem ((c.tc : Thread Cert.KvNormBwdReferenceIdeal.nD Cert.KvNormBwdReferenceIdeal.τ).loc Cert.KvNormBwdReferenceIdeal.main_arg3) = m ((c.tc : Thread Cert.KvNormBwdReferenceIdeal.nD Cert.KvNormBwdReferenceIdeal.τ).loc Cert.KvNormBwdReferenceIdeal.main_arg3)
      ∧ r.2.mem ((c.tc : Thread Cert.KvNormBwdReferenceIdeal.nD Cert.KvNormBwdReferenceIdeal.τ).loc Cert.KvNormBwdReferenceIdeal.main_arg4) = m ((c.tc : Thread Cert.KvNormBwdReferenceIdeal.nD Cert.KvNormBwdReferenceIdeal.τ).loc Cert.KvNormBwdReferenceIdeal.main_arg4))
      ∧ r.2.sem = fun _ => 0)

def quiescent_SsmNormBwd [hSsmNormBwd : Cert.SsmNormBwd.Facts] : Prop :=
  ∀ (m : (ℓ : Loc Cert.SsmNormBwd.nD Cert.SsmNormBwd.τ Cert.SsmNormBwd.sig) → Buf (Elt Bits) ℓ) (g : Dev Cert.SsmNormBwd.nD → PrngReg), Pre_SsmNormBwd m →
    θ_run (Cert.SsmNormBwd.defs (F := Bits)) (onTc (τ := Cert.SsmNormBwd.τ) (Cert.SsmNormBwd.main (F := Bits))) ⟨m, fun _ => 0, g⟩ (fun r => (∀ c : Dev Cert.SsmNormBwd.nD,
      r.2.mem ((c.tc : Thread Cert.SsmNormBwd.nD Cert.SsmNormBwd.τ).loc Cert.SsmNormBwd.main_arg0) = m ((c.tc : Thread Cert.SsmNormBwd.nD Cert.SsmNormBwd.τ).loc Cert.SsmNormBwd.main_arg0)
      ∧ r.2.mem ((c.tc : Thread Cert.SsmNormBwd.nD Cert.SsmNormBwd.τ).loc Cert.SsmNormBwd.main_arg1) = m ((c.tc : Thread Cert.SsmNormBwd.nD Cert.SsmNormBwd.τ).loc Cert.SsmNormBwd.main_arg1)
      ∧ r.2.mem ((c.tc : Thread Cert.SsmNormBwd.nD Cert.SsmNormBwd.τ).loc Cert.SsmNormBwd.main_arg2) = m ((c.tc : Thread Cert.SsmNormBwd.nD Cert.SsmNormBwd.τ).loc Cert.SsmNormBwd.main_arg2)
      ∧ r.2.mem ((c.tc : Thread Cert.SsmNormBwd.nD Cert.SsmNormBwd.τ).loc Cert.SsmNormBwd.main_arg3) = m ((c.tc : Thread Cert.SsmNormBwd.nD Cert.SsmNormBwd.τ).loc Cert.SsmNormBwd.main_arg3)
      ∧ r.2.mem ((c.tc : Thread Cert.SsmNormBwd.nD Cert.SsmNormBwd.τ).loc Cert.SsmNormBwd.main_arg4) = m ((c.tc : Thread Cert.SsmNormBwd.nD Cert.SsmNormBwd.τ).loc Cert.SsmNormBwd.main_arg4)
      ∧ r.2.mem ((c.tc : Thread Cert.SsmNormBwd.nD Cert.SsmNormBwd.τ).loc Cert.SsmNormBwd.main_arg5) = m ((c.tc : Thread Cert.SsmNormBwd.nD Cert.SsmNormBwd.τ).loc Cert.SsmNormBwd.main_arg5))
      ∧ r.2.sem = fun _ => 0)

def quiescent_SsmNormBwdIdeal [hSsmNormBwdIdeal : Cert.SsmNormBwdIdeal.Facts] : Prop :=
  ∀ (m : (ℓ : Loc Cert.SsmNormBwdIdeal.nD Cert.SsmNormBwdIdeal.τ Cert.SsmNormBwdIdeal.sig) → Buf (Elt Ideal) ℓ) (g : Dev Cert.SsmNormBwdIdeal.nD → PrngReg), Pre_SsmNormBwdIdeal m →
    θ_run (Cert.SsmNormBwdIdeal.defs (F := Ideal)) (onTc (τ := Cert.SsmNormBwdIdeal.τ) (Cert.SsmNormBwdIdeal.main (F := Ideal))) ⟨m, fun _ => 0, g⟩ (fun r => (∀ c : Dev Cert.SsmNormBwdIdeal.nD,
      r.2.mem ((c.tc : Thread Cert.SsmNormBwdIdeal.nD Cert.SsmNormBwdIdeal.τ).loc Cert.SsmNormBwdIdeal.main_arg0) = m ((c.tc : Thread Cert.SsmNormBwdIdeal.nD Cert.SsmNormBwdIdeal.τ).loc Cert.SsmNormBwdIdeal.main_arg0)
      ∧ r.2.mem ((c.tc : Thread Cert.SsmNormBwdIdeal.nD Cert.SsmNormBwdIdeal.τ).loc Cert.SsmNormBwdIdeal.main_arg1) = m ((c.tc : Thread Cert.SsmNormBwdIdeal.nD Cert.SsmNormBwdIdeal.τ).loc Cert.SsmNormBwdIdeal.main_arg1)
      ∧ r.2.mem ((c.tc : Thread Cert.SsmNormBwdIdeal.nD Cert.SsmNormBwdIdeal.τ).loc Cert.SsmNormBwdIdeal.main_arg2) = m ((c.tc : Thread Cert.SsmNormBwdIdeal.nD Cert.SsmNormBwdIdeal.τ).loc Cert.SsmNormBwdIdeal.main_arg2)
      ∧ r.2.mem ((c.tc : Thread Cert.SsmNormBwdIdeal.nD Cert.SsmNormBwdIdeal.τ).loc Cert.SsmNormBwdIdeal.main_arg3) = m ((c.tc : Thread Cert.SsmNormBwdIdeal.nD Cert.SsmNormBwdIdeal.τ).loc Cert.SsmNormBwdIdeal.main_arg3)
      ∧ r.2.mem ((c.tc : Thread Cert.SsmNormBwdIdeal.nD Cert.SsmNormBwdIdeal.τ).loc Cert.SsmNormBwdIdeal.main_arg4) = m ((c.tc : Thread Cert.SsmNormBwdIdeal.nD Cert.SsmNormBwdIdeal.τ).loc Cert.SsmNormBwdIdeal.main_arg4)
      ∧ r.2.mem ((c.tc : Thread Cert.SsmNormBwdIdeal.nD Cert.SsmNormBwdIdeal.τ).loc Cert.SsmNormBwdIdeal.main_arg5) = m ((c.tc : Thread Cert.SsmNormBwdIdeal.nD Cert.SsmNormBwdIdeal.τ).loc Cert.SsmNormBwdIdeal.main_arg5))
      ∧ r.2.sem = fun _ => 0)

def quiescent_SsmNormBwdReferenceIdeal [hSsmNormBwdReferenceIdeal : Cert.SsmNormBwdReferenceIdeal.Facts] : Prop :=
  ∀ (m : (ℓ : Loc Cert.SsmNormBwdReferenceIdeal.nD Cert.SsmNormBwdReferenceIdeal.τ Cert.SsmNormBwdReferenceIdeal.sig) → Buf (Elt Ideal) ℓ) (g : Dev Cert.SsmNormBwdReferenceIdeal.nD → PrngReg), Pre_SsmNormBwdReferenceIdeal m →
    θ_run (Cert.SsmNormBwdReferenceIdeal.defs (F := Ideal)) (onTc (τ := Cert.SsmNormBwdReferenceIdeal.τ) (Cert.SsmNormBwdReferenceIdeal.main (F := Ideal))) ⟨m, fun _ => 0, g⟩ (fun r => (∀ c : Dev Cert.SsmNormBwdReferenceIdeal.nD,
      r.2.mem ((c.tc : Thread Cert.SsmNormBwdReferenceIdeal.nD Cert.SsmNormBwdReferenceIdeal.τ).loc Cert.SsmNormBwdReferenceIdeal.main_arg0) = m ((c.tc : Thread Cert.SsmNormBwdReferenceIdeal.nD Cert.SsmNormBwdReferenceIdeal.τ).loc Cert.SsmNormBwdReferenceIdeal.main_arg0)
      ∧ r.2.mem ((c.tc : Thread Cert.SsmNormBwdReferenceIdeal.nD Cert.SsmNormBwdReferenceIdeal.τ).loc Cert.SsmNormBwdReferenceIdeal.main_arg1) = m ((c.tc : Thread Cert.SsmNormBwdReferenceIdeal.nD Cert.SsmNormBwdReferenceIdeal.τ).loc Cert.SsmNormBwdReferenceIdeal.main_arg1)
      ∧ r.2.mem ((c.tc : Thread Cert.SsmNormBwdReferenceIdeal.nD Cert.SsmNormBwdReferenceIdeal.τ).loc Cert.SsmNormBwdReferenceIdeal.main_arg2) = m ((c.tc : Thread Cert.SsmNormBwdReferenceIdeal.nD Cert.SsmNormBwdReferenceIdeal.τ).loc Cert.SsmNormBwdReferenceIdeal.main_arg2)
      ∧ r.2.mem ((c.tc : Thread Cert.SsmNormBwdReferenceIdeal.nD Cert.SsmNormBwdReferenceIdeal.τ).loc Cert.SsmNormBwdReferenceIdeal.main_arg3) = m ((c.tc : Thread Cert.SsmNormBwdReferenceIdeal.nD Cert.SsmNormBwdReferenceIdeal.τ).loc Cert.SsmNormBwdReferenceIdeal.main_arg3)
      ∧ r.2.mem ((c.tc : Thread Cert.SsmNormBwdReferenceIdeal.nD Cert.SsmNormBwdReferenceIdeal.τ).loc Cert.SsmNormBwdReferenceIdeal.main_arg4) = m ((c.tc : Thread Cert.SsmNormBwdReferenceIdeal.nD Cert.SsmNormBwdReferenceIdeal.τ).loc Cert.SsmNormBwdReferenceIdeal.main_arg4)
      ∧ r.2.mem ((c.tc : Thread Cert.SsmNormBwdReferenceIdeal.nD Cert.SsmNormBwdReferenceIdeal.τ).loc Cert.SsmNormBwdReferenceIdeal.main_arg5) = m ((c.tc : Thread Cert.SsmNormBwdReferenceIdeal.nD Cert.SsmNormBwdReferenceIdeal.τ).loc Cert.SsmNormBwdReferenceIdeal.main_arg5))
      ∧ r.2.sem = fun _ => 0)

def quiescent_PleBwd [hPleBwd : Cert.PleBwd.Facts] : Prop :=
  ∀ (m : (ℓ : Loc Cert.PleBwd.nD Cert.PleBwd.τ Cert.PleBwd.sig) → Buf (Elt Bits) ℓ) (g : Dev Cert.PleBwd.nD → PrngReg), Pre_PleBwd m →
    θ_run (Cert.PleBwd.defs (F := Bits)) (onTc (τ := Cert.PleBwd.τ) (Cert.PleBwd.main (F := Bits))) ⟨m, fun _ => 0, g⟩ (fun r => (∀ c : Dev Cert.PleBwd.nD,
      r.2.mem ((c.tc : Thread Cert.PleBwd.nD Cert.PleBwd.τ).loc Cert.PleBwd.main_arg0) = m ((c.tc : Thread Cert.PleBwd.nD Cert.PleBwd.τ).loc Cert.PleBwd.main_arg0)
      ∧ r.2.mem ((c.tc : Thread Cert.PleBwd.nD Cert.PleBwd.τ).loc Cert.PleBwd.main_arg1) = m ((c.tc : Thread Cert.PleBwd.nD Cert.PleBwd.τ).loc Cert.PleBwd.main_arg1)
      ∧ r.2.mem ((c.tc : Thread Cert.PleBwd.nD Cert.PleBwd.τ).loc Cert.PleBwd.main_arg2) = m ((c.tc : Thread Cert.PleBwd.nD Cert.PleBwd.τ).loc Cert.PleBwd.main_arg2))
      ∧ r.2.sem = fun _ => 0)

def quiescent_PleBwdIdeal [hPleBwdIdeal : Cert.PleBwdIdeal.Facts] : Prop :=
  ∀ (m : (ℓ : Loc Cert.PleBwdIdeal.nD Cert.PleBwdIdeal.τ Cert.PleBwdIdeal.sig) → Buf (Elt Ideal) ℓ) (g : Dev Cert.PleBwdIdeal.nD → PrngReg), Pre_PleBwdIdeal m →
    θ_run (Cert.PleBwdIdeal.defs (F := Ideal)) (onTc (τ := Cert.PleBwdIdeal.τ) (Cert.PleBwdIdeal.main (F := Ideal))) ⟨m, fun _ => 0, g⟩ (fun r => (∀ c : Dev Cert.PleBwdIdeal.nD,
      r.2.mem ((c.tc : Thread Cert.PleBwdIdeal.nD Cert.PleBwdIdeal.τ).loc Cert.PleBwdIdeal.main_arg0) = m ((c.tc : Thread Cert.PleBwdIdeal.nD Cert.PleBwdIdeal.τ).loc Cert.PleBwdIdeal.main_arg0)
      ∧ r.2.mem ((c.tc : Thread Cert.PleBwdIdeal.nD Cert.PleBwdIdeal.τ).loc Cert.PleBwdIdeal.main_arg1) = m ((c.tc : Thread Cert.PleBwdIdeal.nD Cert.PleBwdIdeal.τ).loc Cert.PleBwdIdeal.main_arg1)
      ∧ r.2.mem ((c.tc : Thread Cert.PleBwdIdeal.nD Cert.PleBwdIdeal.τ).loc Cert.PleBwdIdeal.main_arg2) = m ((c.tc : Thread Cert.PleBwdIdeal.nD Cert.PleBwdIdeal.τ).loc Cert.PleBwdIdeal.main_arg2))
      ∧ r.2.sem = fun _ => 0)

def quiescent_PleBwdReferenceIdeal [hPleBwdReferenceIdeal : Cert.PleBwdReferenceIdeal.Facts] : Prop :=
  ∀ (m : (ℓ : Loc Cert.PleBwdReferenceIdeal.nD Cert.PleBwdReferenceIdeal.τ Cert.PleBwdReferenceIdeal.sig) → Buf (Elt Ideal) ℓ) (g : Dev Cert.PleBwdReferenceIdeal.nD → PrngReg), Pre_PleBwdReferenceIdeal m →
    θ_run (Cert.PleBwdReferenceIdeal.defs (F := Ideal)) (onTc (τ := Cert.PleBwdReferenceIdeal.τ) (Cert.PleBwdReferenceIdeal.main (F := Ideal))) ⟨m, fun _ => 0, g⟩ (fun r => (∀ c : Dev Cert.PleBwdReferenceIdeal.nD,
      r.2.mem ((c.tc : Thread Cert.PleBwdReferenceIdeal.nD Cert.PleBwdReferenceIdeal.τ).loc Cert.PleBwdReferenceIdeal.main_arg0) = m ((c.tc : Thread Cert.PleBwdReferenceIdeal.nD Cert.PleBwdReferenceIdeal.τ).loc Cert.PleBwdReferenceIdeal.main_arg0)
      ∧ r.2.mem ((c.tc : Thread Cert.PleBwdReferenceIdeal.nD Cert.PleBwdReferenceIdeal.τ).loc Cert.PleBwdReferenceIdeal.main_arg1) = m ((c.tc : Thread Cert.PleBwdReferenceIdeal.nD Cert.PleBwdReferenceIdeal.τ).loc Cert.PleBwdReferenceIdeal.main_arg1)
      ∧ r.2.mem ((c.tc : Thread Cert.PleBwdReferenceIdeal.nD Cert.PleBwdReferenceIdeal.τ).loc Cert.PleBwdReferenceIdeal.main_arg2) = m ((c.tc : Thread Cert.PleBwdReferenceIdeal.nD Cert.PleBwdReferenceIdeal.τ).loc Cert.PleBwdReferenceIdeal.main_arg2))
      ∧ r.2.sem = fun _ => 0)

def quiescent_Ple [hPle : Cert.Ple.Facts] : Prop :=
  ∀ (m : (ℓ : Loc Cert.Ple.nD Cert.Ple.τ Cert.Ple.sig) → Buf (Elt Bits) ℓ) (g : Dev Cert.Ple.nD → PrngReg), Pre_Ple m →
    θ_run (Cert.Ple.defs (F := Bits)) (onTc (τ := Cert.Ple.τ) (Cert.Ple.main (F := Bits))) ⟨m, fun _ => 0, g⟩ (fun r => (∀ c : Dev Cert.Ple.nD,
      r.2.mem ((c.tc : Thread Cert.Ple.nD Cert.Ple.τ).loc Cert.Ple.main_arg0) = m ((c.tc : Thread Cert.Ple.nD Cert.Ple.τ).loc Cert.Ple.main_arg0)
      ∧ r.2.mem ((c.tc : Thread Cert.Ple.nD Cert.Ple.τ).loc Cert.Ple.main_arg1) = m ((c.tc : Thread Cert.Ple.nD Cert.Ple.τ).loc Cert.Ple.main_arg1)
      ∧ r.2.mem ((c.tc : Thread Cert.Ple.nD Cert.Ple.τ).loc Cert.Ple.main_arg2) = m ((c.tc : Thread Cert.Ple.nD Cert.Ple.τ).loc Cert.Ple.main_arg2))
      ∧ r.2.sem = fun _ => 0)

def quiescent_PleIdeal [hPleIdeal : Cert.PleIdeal.Facts] : Prop :=
  ∀ (m : (ℓ : Loc Cert.PleIdeal.nD Cert.PleIdeal.τ Cert.PleIdeal.sig) → Buf (Elt Ideal) ℓ) (g : Dev Cert.PleIdeal.nD → PrngReg), Pre_PleIdeal m →
    θ_run (Cert.PleIdeal.defs (F := Ideal)) (onTc (τ := Cert.PleIdeal.τ) (Cert.PleIdeal.main (F := Ideal))) ⟨m, fun _ => 0, g⟩ (fun r => (∀ c : Dev Cert.PleIdeal.nD,
      r.2.mem ((c.tc : Thread Cert.PleIdeal.nD Cert.PleIdeal.τ).loc Cert.PleIdeal.main_arg0) = m ((c.tc : Thread Cert.PleIdeal.nD Cert.PleIdeal.τ).loc Cert.PleIdeal.main_arg0)
      ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
      ∧ r.2.mem ((c.tc : Thread Cert.PleIdeal.nD Cert.PleIdeal.τ).loc Cert.PleIdeal.main_arg2) = m ((c.tc : Thread Cert.PleIdeal.nD Cert.PleIdeal.τ).loc Cert.PleIdeal.main_arg2))
      ∧ r.2.sem = fun _ => 0)

def quiescent_PleReferenceIdeal [hPleReferenceIdeal : Cert.PleReferenceIdeal.Facts] : Prop :=
  ∀ (m : (ℓ : Loc Cert.PleReferenceIdeal.nD Cert.PleReferenceIdeal.τ Cert.PleReferenceIdeal.sig) → Buf (Elt Ideal) ℓ) (g : Dev Cert.PleReferenceIdeal.nD → PrngReg), Pre_PleReferenceIdeal m →
    θ_run (Cert.PleReferenceIdeal.defs (F := Ideal)) (onTc (τ := Cert.PleReferenceIdeal.τ) (Cert.PleReferenceIdeal.main (F := Ideal))) ⟨m, fun _ => 0, g⟩ (fun r => (∀ c : Dev Cert.PleReferenceIdeal.nD,
      r.2.mem ((c.tc : Thread Cert.PleReferenceIdeal.nD Cert.PleReferenceIdeal.τ).loc Cert.PleReferenceIdeal.main_arg0) = m ((c.tc : Thread Cert.PleReferenceIdeal.nD Cert.PleReferenceIdeal.τ).loc Cert.PleReferenceIdeal.main_arg0)
      ∧ r.2.mem ((c.tc : Thread Cert.PleReferenceIdeal.nD Cert.PleReferenceIdeal.τ).loc Cert.PleReferenceIdeal.main_arg1) = m ((c.tc : Thread Cert.PleReferenceIdeal.nD Cert.PleReferenceIdeal.τ).loc Cert.PleReferenceIdeal.main_arg1)
      ∧ r.2.mem ((c.tc : Thread Cert.PleReferenceIdeal.nD Cert.PleReferenceIdeal.τ).loc Cert.PleReferenceIdeal.main_arg2) = m ((c.tc : Thread Cert.PleReferenceIdeal.nD Cert.PleReferenceIdeal.τ).loc Cert.PleReferenceIdeal.main_arg2))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormReferenceIdeal [hNormReferenceIdeal : Cert.NormReferenceIdeal.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1))
      ∧ r.2.sem = fun _ => 0)

def preserves_Kernel_KernelIdeal : Prop :=
  True

def algebraic_KernelIdeal_ReferenceIdeal_pre_finite_args [hKernelIdeal : Cert.KernelIdeal.Facts] [hReferenceIdeal : Cert.ReferenceIdeal.Facts] [hPre_finite_args : Cert.Pre_finite_args.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_args m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v24_0)) (v1 : (c : Dev Cert.KernelIdeal.nD) → Buf (Elt Ideal) ((c.tc : Thread Cert.KernelIdeal.nD Cert.KernelIdeal.τ).loc Cert.KernelIdeal.main_v24_1)) (v2 : (c : Dev Cert.KernelIdeal.nD) → Buf (Elt Ideal) ((c.tc : Thread Cert.KernelIdeal.nD Cert.KernelIdeal.τ).loc Cert.KernelIdeal.main_v24_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24_0) = v0 c
          ∧ r.2.mem ((c.tc : Thread Cert.KernelIdeal.nD Cert.KernelIdeal.τ).loc Cert.KernelIdeal.main_v24_1) = v1 c
          ∧ r.2.mem ((c.tc : Thread Cert.KernelIdeal.nD Cert.KernelIdeal.τ).loc Cert.KernelIdeal.main_v24_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_v53) = v1 c
          ∧ r.2.mem ((c.tc : Thread Cert.ReferenceIdeal.nD Cert.ReferenceIdeal.τ).loc Cert.ReferenceIdeal.main_v54) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_DownDw_DownDwIdeal : Prop :=
  True

def algebraic_DownDwIdeal_DownDwReferenceIdeal [hDownDwIdeal : Cert.DownDwIdeal.Facts] [hDownDwReferenceIdeal : Cert.DownDwReferenceIdeal.Facts] : Prop :=
  ∀ (m : (ℓ : Loc Cert.DownDwIdeal.nD Cert.DownDwIdeal.τ Cert.DownDwIdeal.sig) → Buf (Elt Ideal) ℓ) (g : Dev Cert.DownDwIdeal.nD → PrngReg)
    (m' : (ℓ : Loc Cert.DownDwReferenceIdeal.nD Cert.DownDwReferenceIdeal.τ Cert.DownDwReferenceIdeal.sig) → Buf (Elt Ideal) ℓ) (g' : Dev Cert.DownDwReferenceIdeal.nD → PrngReg), Pre_DownDwIdeal m →
    (∀ c : Dev Cert.DownDwIdeal.nD,
      m' ((c.tc : Thread Cert.DownDwReferenceIdeal.nD Cert.DownDwReferenceIdeal.τ).loc Cert.DownDwReferenceIdeal.main_arg0) = m ((c.tc : Thread Cert.DownDwIdeal.nD Cert.DownDwIdeal.τ).loc Cert.DownDwIdeal.main_arg0)
      ∧ m' ((c.tc : Thread Cert.DownDwReferenceIdeal.nD Cert.DownDwReferenceIdeal.τ).loc Cert.DownDwReferenceIdeal.main_arg1) = m ((c.tc : Thread Cert.DownDwIdeal.nD Cert.DownDwIdeal.τ).loc Cert.DownDwIdeal.main_arg1)) →
    ∃ (v0 : (c : Dev Cert.DownDwIdeal.nD) → Buf (Elt Ideal) ((c.tc : Thread Cert.DownDwIdeal.nD Cert.DownDwIdeal.τ).loc Cert.DownDwIdeal.main_v0)),
      θ_run (Cert.DownDwIdeal.defs (F := Ideal)) (onTc (τ := Cert.DownDwIdeal.τ) (Cert.DownDwIdeal.main (F := Ideal))) ⟨m, fun _ => 0, g⟩ (fun r => ∀ c : Dev Cert.DownDwIdeal.nD,
          r.2.mem ((c.tc : Thread Cert.DownDwIdeal.nD Cert.DownDwIdeal.τ).loc Cert.DownDwIdeal.main_v0) = v0 c
          ∧ r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
          ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ θ_run (Cert.DownDwReferenceIdeal.defs (F := Ideal)) (onTc (τ := Cert.DownDwReferenceIdeal.τ) (Cert.DownDwReferenceIdeal.main (F := Ideal))) ⟨m', fun _ => 0, g'⟩ (fun r => ∀ c : Dev Cert.DownDwReferenceIdeal.nD,
          r.2.mem ((c.tc : Thread Cert.DownDwReferenceIdeal.nD Cert.DownDwReferenceIdeal.τ).loc Cert.DownDwReferenceIdeal.main_v5) = v0 c
          ∧ r.2.mem ((c.tc : Thread Cert.DownDwReferenceIdeal.nD Cert.DownDwReferenceIdeal.τ).loc Cert.DownDwReferenceIdeal.main_arg0) = m' ((c.tc : Thread Cert.DownDwReferenceIdeal.nD Cert.DownDwReferenceIdeal.τ).loc Cert.DownDwReferenceIdeal.main_arg0)
          ∧ r.2.mem ((c.tc : Thread Cert.DownDwReferenceIdeal.nD Cert.DownDwReferenceIdeal.τ).loc Cert.DownDwReferenceIdeal.main_arg1) = m' ((c.tc : Thread Cert.DownDwReferenceIdeal.nD Cert.DownDwReferenceIdeal.τ).loc Cert.DownDwReferenceIdeal.main_arg1))

def preserves_DownDx_DownDxIdeal : Prop :=
  True

def algebraic_DownDxIdeal_DownDxReferenceIdeal [hDownDxIdeal : Cert.DownDxIdeal.Facts] [hDownDxReferenceIdeal : Cert.DownDxReferenceIdeal.Facts] : Prop :=
  ∀ (m : (ℓ : Loc Cert.DownDxIdeal.nD Cert.DownDxIdeal.τ Cert.DownDxIdeal.sig) → Buf (Elt Ideal) ℓ) (g : Dev Cert.DownDxIdeal.nD → PrngReg)
    (m' : (ℓ : Loc Cert.DownDxReferenceIdeal.nD Cert.DownDxReferenceIdeal.τ Cert.DownDxReferenceIdeal.sig) → Buf (Elt Ideal) ℓ) (g' : Dev Cert.DownDxReferenceIdeal.nD → PrngReg), Pre_DownDxIdeal m →
    (∀ c : Dev Cert.DownDxIdeal.nD,
      m' ((c.tc : Thread Cert.DownDxReferenceIdeal.nD Cert.DownDxReferenceIdeal.τ).loc Cert.DownDxReferenceIdeal.main_arg0) = m ((c.tc : Thread Cert.DownDxIdeal.nD Cert.DownDxIdeal.τ).loc Cert.DownDxIdeal.main_arg0)
      ∧ m' ((c.tc : Thread Cert.DownDxReferenceIdeal.nD Cert.DownDxReferenceIdeal.τ).loc Cert.DownDxReferenceIdeal.main_arg1) = m ((c.tc : Thread Cert.DownDxIdeal.nD Cert.DownDxIdeal.τ).loc Cert.DownDxIdeal.main_arg1)) →
    ∃ (v0 : (c : Dev Cert.DownDxIdeal.nD) → Buf (Elt Ideal) ((c.tc : Thread Cert.DownDxIdeal.nD Cert.DownDxIdeal.τ).loc Cert.DownDxIdeal.main_v0)),
      θ_run (Cert.DownDxIdeal.defs (F := Ideal)) (onTc (τ := Cert.DownDxIdeal.τ) (Cert.DownDxIdeal.main (F := Ideal))) ⟨m, fun _ => 0, g⟩ (fun r => ∀ c : Dev Cert.DownDxIdeal.nD,
          r.2.mem ((c.tc : Thread Cert.DownDxIdeal.nD Cert.DownDxIdeal.τ).loc Cert.DownDxIdeal.main_v0) = v0 c
          ∧ r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
          ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1))
      ∧ θ_run (Cert.DownDxReferenceIdeal.defs (F := Ideal)) (onTc (τ := Cert.DownDxReferenceIdeal.τ) (Cert.DownDxReferenceIdeal.main (F := Ideal))) ⟨m', fun _ => 0, g'⟩ (fun r => ∀ c : Dev Cert.DownDxReferenceIdeal.nD,
          r.2.mem ((c.tc : Thread Cert.DownDxReferenceIdeal.nD Cert.DownDxReferenceIdeal.τ).loc Cert.DownDxReferenceIdeal.main_v4) = v0 c
          ∧ r.2.mem ((c.tc : Thread Cert.DownDxReferenceIdeal.nD Cert.DownDxReferenceIdeal.τ).loc Cert.DownDxReferenceIdeal.main_arg0) = m' ((c.tc : Thread Cert.DownDxReferenceIdeal.nD Cert.DownDxReferenceIdeal.τ).loc Cert.DownDxReferenceIdeal.main_arg0)
          ∧ r.2.mem ((c.tc : Thread Cert.DownDxReferenceIdeal.nD Cert.DownDxReferenceIdeal.τ).loc Cert.DownDxReferenceIdeal.main_arg1) = m' ((c.tc : Thread Cert.DownDxReferenceIdeal.nD Cert.DownDxReferenceIdeal.τ).loc Cert.DownDxReferenceIdeal.main_arg1))

def preserves_UpDw_UpDwIdeal : Prop :=
  True

def algebraic_UpDwIdeal_UpDwReferenceIdeal [hUpDwIdeal : Cert.UpDwIdeal.Facts] [hUpDwReferenceIdeal : Cert.UpDwReferenceIdeal.Facts] : Prop :=
  ∀ (m : (ℓ : Loc Cert.UpDwIdeal.nD Cert.UpDwIdeal.τ Cert.UpDwIdeal.sig) → Buf (Elt Ideal) ℓ) (g : Dev Cert.UpDwIdeal.nD → PrngReg)
    (m' : (ℓ : Loc Cert.UpDwReferenceIdeal.nD Cert.UpDwReferenceIdeal.τ Cert.UpDwReferenceIdeal.sig) → Buf (Elt Ideal) ℓ) (g' : Dev Cert.UpDwReferenceIdeal.nD → PrngReg), Pre_UpDwIdeal m →
    (∀ c : Dev Cert.UpDwIdeal.nD,
      m' ((c.tc : Thread Cert.UpDwReferenceIdeal.nD Cert.UpDwReferenceIdeal.τ).loc Cert.UpDwReferenceIdeal.main_arg0) = m ((c.tc : Thread Cert.UpDwIdeal.nD Cert.UpDwIdeal.τ).loc Cert.UpDwIdeal.main_arg0)
      ∧ m' ((c.tc : Thread Cert.UpDwReferenceIdeal.nD Cert.UpDwReferenceIdeal.τ).loc Cert.UpDwReferenceIdeal.main_arg1) = m ((c.tc : Thread Cert.UpDwIdeal.nD Cert.UpDwIdeal.τ).loc Cert.UpDwIdeal.main_arg1)) →
    ∃ (v0 : (c : Dev Cert.UpDwIdeal.nD) → Buf (Elt Ideal) ((c.tc : Thread Cert.UpDwIdeal.nD Cert.UpDwIdeal.τ).loc Cert.UpDwIdeal.main_v0)),
      θ_run (Cert.UpDwIdeal.defs (F := Ideal)) (onTc (τ := Cert.UpDwIdeal.τ) (Cert.UpDwIdeal.main (F := Ideal))) ⟨m, fun _ => 0, g⟩ (fun r => ∀ c : Dev Cert.UpDwIdeal.nD,
          r.2.mem ((c.tc : Thread Cert.UpDwIdeal.nD Cert.UpDwIdeal.τ).loc Cert.UpDwIdeal.main_v0) = v0 c
          ∧ r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
          ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ θ_run (Cert.UpDwReferenceIdeal.defs (F := Ideal)) (onTc (τ := Cert.UpDwReferenceIdeal.τ) (Cert.UpDwReferenceIdeal.main (F := Ideal))) ⟨m', fun _ => 0, g'⟩ (fun r => ∀ c : Dev Cert.UpDwReferenceIdeal.nD,
          r.2.mem ((c.tc : Thread Cert.UpDwReferenceIdeal.nD Cert.UpDwReferenceIdeal.τ).loc Cert.UpDwReferenceIdeal.main_v5) = v0 c
          ∧ r.2.mem ((c.tc : Thread Cert.UpDwReferenceIdeal.nD Cert.UpDwReferenceIdeal.τ).loc Cert.UpDwReferenceIdeal.main_arg0) = m' ((c.tc : Thread Cert.UpDwReferenceIdeal.nD Cert.UpDwReferenceIdeal.τ).loc Cert.UpDwReferenceIdeal.main_arg0)
          ∧ r.2.mem ((c.tc : Thread Cert.UpDwReferenceIdeal.nD Cert.UpDwReferenceIdeal.τ).loc Cert.UpDwReferenceIdeal.main_arg1) = m' ((c.tc : Thread Cert.UpDwReferenceIdeal.nD Cert.UpDwReferenceIdeal.τ).loc Cert.UpDwReferenceIdeal.main_arg1))

def preserves_UpDx_UpDxIdeal : Prop :=
  True

def algebraic_UpDxIdeal_UpDxReferenceIdeal [hUpDxIdeal : Cert.UpDxIdeal.Facts] [hUpDxReferenceIdeal : Cert.UpDxReferenceIdeal.Facts] : Prop :=
  ∀ (m : (ℓ : Loc Cert.UpDxIdeal.nD Cert.UpDxIdeal.τ Cert.UpDxIdeal.sig) → Buf (Elt Ideal) ℓ) (g : Dev Cert.UpDxIdeal.nD → PrngReg)
    (m' : (ℓ : Loc Cert.UpDxReferenceIdeal.nD Cert.UpDxReferenceIdeal.τ Cert.UpDxReferenceIdeal.sig) → Buf (Elt Ideal) ℓ) (g' : Dev Cert.UpDxReferenceIdeal.nD → PrngReg), Pre_UpDxIdeal m →
    (∀ c : Dev Cert.UpDxIdeal.nD,
      m' ((c.tc : Thread Cert.UpDxReferenceIdeal.nD Cert.UpDxReferenceIdeal.τ).loc Cert.UpDxReferenceIdeal.main_arg0) = m ((c.tc : Thread Cert.UpDxIdeal.nD Cert.UpDxIdeal.τ).loc Cert.UpDxIdeal.main_arg0)
      ∧ m' ((c.tc : Thread Cert.UpDxReferenceIdeal.nD Cert.UpDxReferenceIdeal.τ).loc Cert.UpDxReferenceIdeal.main_arg1) = m ((c.tc : Thread Cert.UpDxIdeal.nD Cert.UpDxIdeal.τ).loc Cert.UpDxIdeal.main_arg1)) →
    ∃ (v0 : (c : Dev Cert.UpDxIdeal.nD) → Buf (Elt Ideal) ((c.tc : Thread Cert.UpDxIdeal.nD Cert.UpDxIdeal.τ).loc Cert.UpDxIdeal.main_v1)),
      θ_run (Cert.UpDxIdeal.defs (F := Ideal)) (onTc (τ := Cert.UpDxIdeal.τ) (Cert.UpDxIdeal.main (F := Ideal))) ⟨m, fun _ => 0, g⟩ (fun r => ∀ c : Dev Cert.UpDxIdeal.nD,
          r.2.mem ((c.tc : Thread Cert.UpDxIdeal.nD Cert.UpDxIdeal.τ).loc Cert.UpDxIdeal.main_v1) = v0 c
          ∧ r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
          ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1))
      ∧ θ_run (Cert.UpDxReferenceIdeal.defs (F := Ideal)) (onTc (τ := Cert.UpDxReferenceIdeal.τ) (Cert.UpDxReferenceIdeal.main (F := Ideal))) ⟨m', fun _ => 0, g'⟩ (fun r => ∀ c : Dev Cert.UpDxReferenceIdeal.nD,
          r.2.mem ((c.tc : Thread Cert.UpDxReferenceIdeal.nD Cert.UpDxReferenceIdeal.τ).loc Cert.UpDxReferenceIdeal.main_v5) = v0 c
          ∧ r.2.mem ((c.tc : Thread Cert.UpDxReferenceIdeal.nD Cert.UpDxReferenceIdeal.τ).loc Cert.UpDxReferenceIdeal.main_arg0) = m' ((c.tc : Thread Cert.UpDxReferenceIdeal.nD Cert.UpDxReferenceIdeal.τ).loc Cert.UpDxReferenceIdeal.main_arg0)
          ∧ r.2.mem ((c.tc : Thread Cert.UpDxReferenceIdeal.nD Cert.UpDxReferenceIdeal.τ).loc Cert.UpDxReferenceIdeal.main_arg1) = m' ((c.tc : Thread Cert.UpDxReferenceIdeal.nD Cert.UpDxReferenceIdeal.τ).loc Cert.UpDxReferenceIdeal.main_arg1))

def preserves_Up_UpIdeal : Prop :=
  True

def algebraic_UpIdeal_UpReferenceIdeal [hUpIdeal : Cert.UpIdeal.Facts] [hUpReferenceIdeal : Cert.UpReferenceIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpReferenceIdeal.nD Cert.UpReferenceIdeal.τ Cert.UpReferenceIdeal.sig) → Buf (Elt Ideal) ℓ) (g' : Dev Cert.UpReferenceIdeal.nD → PrngReg), Pre_UpIdeal m →
    (∀ c : Dev Cert.UpIdeal.nD,
      m' ((c.tc : Thread Cert.UpReferenceIdeal.nD Cert.UpReferenceIdeal.τ).loc Cert.UpReferenceIdeal.main_arg0) = m ((c.tc : Thread Cert.UpIdeal.nD Cert.UpIdeal.τ).loc Cert.UpIdeal.main_arg0)
      ∧ m' ((c.tc : Thread Cert.UpReferenceIdeal.nD Cert.UpReferenceIdeal.τ).loc Cert.UpReferenceIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v0)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpReferenceIdeal.defs (F := Ideal)) (onTc (τ := Cert.UpReferenceIdeal.τ) (Cert.UpReferenceIdeal.main (F := Ideal))) ⟨m', fun _ => 0, g'⟩ (fun r => ∀ c : Dev Cert.UpReferenceIdeal.nD,
          r.2.mem ((c.tc : Thread Cert.UpReferenceIdeal.nD Cert.UpReferenceIdeal.τ).loc Cert.UpReferenceIdeal.main_v2) = v0 c
          ∧ r.2.mem ((c.tc : Thread Cert.UpReferenceIdeal.nD Cert.UpReferenceIdeal.τ).loc Cert.UpReferenceIdeal.main_arg0) = m' ((c.tc : Thread Cert.UpReferenceIdeal.nD Cert.UpReferenceIdeal.τ).loc Cert.UpReferenceIdeal.main_arg0)
          ∧ r.2.mem ((c.tc : Thread Cert.UpReferenceIdeal.nD Cert.UpReferenceIdeal.τ).loc Cert.UpReferenceIdeal.main_arg1) = m' ((c.tc : Thread Cert.UpReferenceIdeal.nD Cert.UpReferenceIdeal.τ).loc Cert.UpReferenceIdeal.main_arg1))

def preserves_Down_DownIdeal : Prop :=
  True

def algebraic_DownIdeal_DownReferenceIdeal [hDownIdeal : Cert.DownIdeal.Facts] [hDownReferenceIdeal : Cert.DownReferenceIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownIdeal m →
    (∀ c : Dev Cert.DownIdeal.nD,
      m' ((c.tc : Thread Cert.DownReferenceIdeal.nD Cert.DownReferenceIdeal.τ).loc Cert.DownReferenceIdeal.main_arg0) = m ((c.tc : Thread Cert.DownIdeal.nD Cert.DownIdeal.τ).loc Cert.DownIdeal.main_arg0)
      ∧ m' ((c.tc : Thread Cert.DownReferenceIdeal.nD Cert.DownReferenceIdeal.τ).loc Cert.DownReferenceIdeal.main_arg1) = m ((c.tc : Thread Cert.DownIdeal.nD Cert.DownIdeal.τ).loc Cert.DownIdeal.main_arg1)
      ∧ m' ((c.tc : Thread Cert.DownReferenceIdeal.nD Cert.DownReferenceIdeal.τ).loc Cert.DownReferenceIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v3) = v0 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1)
          ∧ r.2.mem ((c.tc : Thread Cert.DownReferenceIdeal.nD Cert.DownReferenceIdeal.τ).loc Cert.DownReferenceIdeal.main_arg2) = m' ((c.tc : Thread Cert.DownReferenceIdeal.nD Cert.DownReferenceIdeal.τ).loc Cert.DownReferenceIdeal.main_arg2))

def preserves_SquareDw_SquareDwIdeal : Prop :=
  True

def algebraic_SquareDwIdeal_SquareDwReferenceIdeal [hSquareDwIdeal : Cert.SquareDwIdeal.Facts] [hSquareDwReferenceIdeal : Cert.SquareDwReferenceIdeal.Facts] : Prop :=
  ∀ (m : (ℓ : Loc Cert.SquareDwIdeal.nD Cert.SquareDwIdeal.τ Cert.SquareDwIdeal.sig) → Buf (Elt Ideal) ℓ) (g : Dev Cert.SquareDwIdeal.nD → PrngReg)
    (m' : (ℓ : Loc Cert.SquareDwReferenceIdeal.nD Cert.SquareDwReferenceIdeal.τ Cert.SquareDwReferenceIdeal.sig) → Buf (Elt Ideal) ℓ) (g' : Dev Cert.SquareDwReferenceIdeal.nD → PrngReg), Pre_SquareDwIdeal m →
    (∀ c : Dev Cert.SquareDwIdeal.nD,
      m' ((c.tc : Thread Cert.SquareDwReferenceIdeal.nD Cert.SquareDwReferenceIdeal.τ).loc Cert.SquareDwReferenceIdeal.main_arg0) = m ((c.tc : Thread Cert.SquareDwIdeal.nD Cert.SquareDwIdeal.τ).loc Cert.SquareDwIdeal.main_arg0)
      ∧ m' ((c.tc : Thread Cert.SquareDwReferenceIdeal.nD Cert.SquareDwReferenceIdeal.τ).loc Cert.SquareDwReferenceIdeal.main_arg1) = m ((c.tc : Thread Cert.SquareDwIdeal.nD Cert.SquareDwIdeal.τ).loc Cert.SquareDwIdeal.main_arg1)) →
    ∃ (v0 : (c : Dev Cert.SquareDwIdeal.nD) → Buf (Elt Ideal) ((c.tc : Thread Cert.SquareDwIdeal.nD Cert.SquareDwIdeal.τ).loc Cert.SquareDwIdeal.main_v0)),
      θ_run (Cert.SquareDwIdeal.defs (F := Ideal)) (onTc (τ := Cert.SquareDwIdeal.τ) (Cert.SquareDwIdeal.main (F := Ideal))) ⟨m, fun _ => 0, g⟩ (fun r => ∀ c : Dev Cert.SquareDwIdeal.nD,
          r.2.mem ((c.tc : Thread Cert.SquareDwIdeal.nD Cert.SquareDwIdeal.τ).loc Cert.SquareDwIdeal.main_v0) = v0 c
          ∧ r.2.mem ((c.tc : Thread Cert.SquareDwIdeal.nD Cert.SquareDwIdeal.τ).loc Cert.SquareDwIdeal.main_arg0) = m ((c.tc : Thread Cert.SquareDwIdeal.nD Cert.SquareDwIdeal.τ).loc Cert.SquareDwIdeal.main_arg0)
          ∧ r.2.mem ((c.tc : Thread Cert.SquareDwIdeal.nD Cert.SquareDwIdeal.τ).loc Cert.SquareDwIdeal.main_arg1) = m ((c.tc : Thread Cert.SquareDwIdeal.nD Cert.SquareDwIdeal.τ).loc Cert.SquareDwIdeal.main_arg1))
      ∧ θ_run (Cert.SquareDwReferenceIdeal.defs (F := Ideal)) (onTc (τ := Cert.SquareDwReferenceIdeal.τ) (Cert.SquareDwReferenceIdeal.main (F := Ideal))) ⟨m', fun _ => 0, g'⟩ (fun r => ∀ c : Dev Cert.SquareDwReferenceIdeal.nD,
          r.2.mem ((c.tc : Thread Cert.SquareDwReferenceIdeal.nD Cert.SquareDwReferenceIdeal.τ).loc Cert.SquareDwReferenceIdeal.main_v5) = v0 c
          ∧ r.2.mem ((c.tc : Thread Cert.SquareDwReferenceIdeal.nD Cert.SquareDwReferenceIdeal.τ).loc Cert.SquareDwReferenceIdeal.main_arg0) = m' ((c.tc : Thread Cert.SquareDwReferenceIdeal.nD Cert.SquareDwReferenceIdeal.τ).loc Cert.SquareDwReferenceIdeal.main_arg0)
          ∧ r.2.mem ((c.tc : Thread Cert.SquareDwReferenceIdeal.nD Cert.SquareDwReferenceIdeal.τ).loc Cert.SquareDwReferenceIdeal.main_arg1) = m' ((c.tc : Thread Cert.SquareDwReferenceIdeal.nD Cert.SquareDwReferenceIdeal.τ).loc Cert.SquareDwReferenceIdeal.main_arg1))

def preserves_KvDw_KvDwIdeal : Prop :=
  True

def algebraic_KvDwIdeal_KvDwReferenceIdeal [hKvDwIdeal : Cert.KvDwIdeal.Facts] [hKvDwReferenceIdeal : Cert.KvDwReferenceIdeal.Facts] : Prop :=
  ∀ (m : (ℓ : Loc Cert.KvDwIdeal.nD Cert.KvDwIdeal.τ Cert.KvDwIdeal.sig) → Buf (Elt Ideal) ℓ) (g : Dev Cert.KvDwIdeal.nD → PrngReg)
    (m' : (ℓ : Loc Cert.KvDwReferenceIdeal.nD Cert.KvDwReferenceIdeal.τ Cert.KvDwReferenceIdeal.sig) → Buf (Elt Ideal) ℓ) (g' : Dev Cert.KvDwReferenceIdeal.nD → PrngReg), Pre_KvDwIdeal m →
    (∀ c : Dev Cert.KvDwIdeal.nD,
      m' ((c.tc : Thread Cert.KvDwReferenceIdeal.nD Cert.KvDwReferenceIdeal.τ).loc Cert.KvDwReferenceIdeal.main_arg0) = m ((c.tc : Thread Cert.KvDwIdeal.nD Cert.KvDwIdeal.τ).loc Cert.KvDwIdeal.main_arg0)
      ∧ m' ((c.tc : Thread Cert.KvDwReferenceIdeal.nD Cert.KvDwReferenceIdeal.τ).loc Cert.KvDwReferenceIdeal.main_arg1) = m ((c.tc : Thread Cert.KvDwIdeal.nD Cert.KvDwIdeal.τ).loc Cert.KvDwIdeal.main_arg1)) →
    ∃ (v0 : (c : Dev Cert.KvDwIdeal.nD) → Buf (Elt Ideal) ((c.tc : Thread Cert.KvDwIdeal.nD Cert.KvDwIdeal.τ).loc Cert.KvDwIdeal.main_v0)),
      θ_run (Cert.KvDwIdeal.defs (F := Ideal)) (onTc (τ := Cert.KvDwIdeal.τ) (Cert.KvDwIdeal.main (F := Ideal))) ⟨m, fun _ => 0, g⟩ (fun r => ∀ c : Dev Cert.KvDwIdeal.nD,
          r.2.mem ((c.tc : Thread Cert.KvDwIdeal.nD Cert.KvDwIdeal.τ).loc Cert.KvDwIdeal.main_v0) = v0 c
          ∧ r.2.mem ((c.tc : Thread Cert.KvDwIdeal.nD Cert.KvDwIdeal.τ).loc Cert.KvDwIdeal.main_arg0) = m ((c.tc : Thread Cert.KvDwIdeal.nD Cert.KvDwIdeal.τ).loc Cert.KvDwIdeal.main_arg0)
          ∧ r.2.mem ((c.tc : Thread Cert.KvDwIdeal.nD Cert.KvDwIdeal.τ).loc Cert.KvDwIdeal.main_arg1) = m ((c.tc : Thread Cert.KvDwIdeal.nD Cert.KvDwIdeal.τ).loc Cert.KvDwIdeal.main_arg1))
      ∧ θ_run (Cert.KvDwReferenceIdeal.defs (F := Ideal)) (onTc (τ := Cert.KvDwReferenceIdeal.τ) (Cert.KvDwReferenceIdeal.main (F := Ideal))) ⟨m', fun _ => 0, g'⟩ (fun r => ∀ c : Dev Cert.KvDwReferenceIdeal.nD,
          r.2.mem ((c.tc : Thread Cert.KvDwReferenceIdeal.nD Cert.KvDwReferenceIdeal.τ).loc Cert.KvDwReferenceIdeal.main_v4) = v0 c
          ∧ r.2.mem ((c.tc : Thread Cert.KvDwReferenceIdeal.nD Cert.KvDwReferenceIdeal.τ).loc Cert.KvDwReferenceIdeal.main_arg0) = m' ((c.tc : Thread Cert.KvDwReferenceIdeal.nD Cert.KvDwReferenceIdeal.τ).loc Cert.KvDwReferenceIdeal.main_arg0)
          ∧ r.2.mem ((c.tc : Thread Cert.KvDwReferenceIdeal.nD Cert.KvDwReferenceIdeal.τ).loc Cert.KvDwReferenceIdeal.main_arg1) = m' ((c.tc : Thread Cert.KvDwReferenceIdeal.nD Cert.KvDwReferenceIdeal.τ).loc Cert.KvDwReferenceIdeal.main_arg1))

def preserves_PleProjDw_PleProjDwIdeal : Prop :=
  True

def algebraic_PleProjDwIdeal_PleProjDwReferenceIdeal [hPleProjDwIdeal : Cert.PleProjDwIdeal.Facts] [hPleProjDwReferenceIdeal : Cert.PleProjDwReferenceIdeal.Facts] : Prop :=
  ∀ (m : (ℓ : Loc Cert.PleProjDwIdeal.nD Cert.PleProjDwIdeal.τ Cert.PleProjDwIdeal.sig) → Buf (Elt Ideal) ℓ) (g : Dev Cert.PleProjDwIdeal.nD → PrngReg)
    (m' : (ℓ : Loc Cert.PleProjDwReferenceIdeal.nD Cert.PleProjDwReferenceIdeal.τ Cert.PleProjDwReferenceIdeal.sig) → Buf (Elt Ideal) ℓ) (g' : Dev Cert.PleProjDwReferenceIdeal.nD → PrngReg), Pre_PleProjDwIdeal m →
    (∀ c : Dev Cert.PleProjDwIdeal.nD,
      m' ((c.tc : Thread Cert.PleProjDwReferenceIdeal.nD Cert.PleProjDwReferenceIdeal.τ).loc Cert.PleProjDwReferenceIdeal.main_arg0) = m ((c.tc : Thread Cert.PleProjDwIdeal.nD Cert.PleProjDwIdeal.τ).loc Cert.PleProjDwIdeal.main_arg0)
      ∧ m' ((c.tc : Thread Cert.PleProjDwReferenceIdeal.nD Cert.PleProjDwReferenceIdeal.τ).loc Cert.PleProjDwReferenceIdeal.main_arg1) = m ((c.tc : Thread Cert.PleProjDwIdeal.nD Cert.PleProjDwIdeal.τ).loc Cert.PleProjDwIdeal.main_arg1)) →
    ∃ (v0 : (c : Dev Cert.PleProjDwIdeal.nD) → Buf (Elt Ideal) ((c.tc : Thread Cert.PleProjDwIdeal.nD Cert.PleProjDwIdeal.τ).loc Cert.PleProjDwIdeal.main_v0)),
      θ_run (Cert.PleProjDwIdeal.defs (F := Ideal)) (onTc (τ := Cert.PleProjDwIdeal.τ) (Cert.PleProjDwIdeal.main (F := Ideal))) ⟨m, fun _ => 0, g⟩ (fun r => ∀ c : Dev Cert.PleProjDwIdeal.nD,
          r.2.mem ((c.tc : Thread Cert.PleProjDwIdeal.nD Cert.PleProjDwIdeal.τ).loc Cert.PleProjDwIdeal.main_v0) = v0 c
          ∧ r.2.mem ((c.tc : Thread Cert.PleProjDwIdeal.nD Cert.PleProjDwIdeal.τ).loc Cert.PleProjDwIdeal.main_arg0) = m ((c.tc : Thread Cert.PleProjDwIdeal.nD Cert.PleProjDwIdeal.τ).loc Cert.PleProjDwIdeal.main_arg0)
          ∧ r.2.mem ((c.tc : Thread Cert.PleProjDwIdeal.nD Cert.PleProjDwIdeal.τ).loc Cert.PleProjDwIdeal.main_arg1) = m ((c.tc : Thread Cert.PleProjDwIdeal.nD Cert.PleProjDwIdeal.τ).loc Cert.PleProjDwIdeal.main_arg1))
      ∧ θ_run (Cert.PleProjDwReferenceIdeal.defs (F := Ideal)) (onTc (τ := Cert.PleProjDwReferenceIdeal.τ) (Cert.PleProjDwReferenceIdeal.main (F := Ideal))) ⟨m', fun _ => 0, g'⟩ (fun r => ∀ c : Dev Cert.PleProjDwReferenceIdeal.nD,
          r.2.mem ((c.tc : Thread Cert.PleProjDwReferenceIdeal.nD Cert.PleProjDwReferenceIdeal.τ).loc Cert.PleProjDwReferenceIdeal.main_v4) = v0 c
          ∧ r.2.mem ((c.tc : Thread Cert.PleProjDwReferenceIdeal.nD Cert.PleProjDwReferenceIdeal.τ).loc Cert.PleProjDwReferenceIdeal.main_arg0) = m' ((c.tc : Thread Cert.PleProjDwReferenceIdeal.nD Cert.PleProjDwReferenceIdeal.τ).loc Cert.PleProjDwReferenceIdeal.main_arg0)
          ∧ r.2.mem ((c.tc : Thread Cert.PleProjDwReferenceIdeal.nD Cert.PleProjDwReferenceIdeal.τ).loc Cert.PleProjDwReferenceIdeal.main_arg1) = m' ((c.tc : Thread Cert.PleProjDwReferenceIdeal.nD Cert.PleProjDwReferenceIdeal.τ).loc Cert.PleProjDwReferenceIdeal.main_arg1))

def preserves_AttnOutDx_AttnOutDxIdeal : Prop :=
  True

def algebraic_AttnOutDxIdeal_AttnOutDxReferenceIdeal [hAttnOutDxIdeal : Cert.AttnOutDxIdeal.Facts] [hAttnOutDxReferenceIdeal : Cert.AttnOutDxReferenceIdeal.Facts] : Prop :=
  ∀ (m : (ℓ : Loc Cert.AttnOutDxIdeal.nD Cert.AttnOutDxIdeal.τ Cert.AttnOutDxIdeal.sig) → Buf (Elt Ideal) ℓ) (g : Dev Cert.AttnOutDxIdeal.nD → PrngReg)
    (m' : (ℓ : Loc Cert.AttnOutDxReferenceIdeal.nD Cert.AttnOutDxReferenceIdeal.τ Cert.AttnOutDxReferenceIdeal.sig) → Buf (Elt Ideal) ℓ) (g' : Dev Cert.AttnOutDxReferenceIdeal.nD → PrngReg), Pre_AttnOutDxIdeal m →
    (∀ c : Dev Cert.AttnOutDxIdeal.nD,
      m' ((c.tc : Thread Cert.AttnOutDxReferenceIdeal.nD Cert.AttnOutDxReferenceIdeal.τ).loc Cert.AttnOutDxReferenceIdeal.main_arg0) = m ((c.tc : Thread Cert.AttnOutDxIdeal.nD Cert.AttnOutDxIdeal.τ).loc Cert.AttnOutDxIdeal.main_arg0)
      ∧ m' ((c.tc : Thread Cert.AttnOutDxReferenceIdeal.nD Cert.AttnOutDxReferenceIdeal.τ).loc Cert.AttnOutDxReferenceIdeal.main_arg1) = m ((c.tc : Thread Cert.AttnOutDxIdeal.nD Cert.AttnOutDxIdeal.τ).loc Cert.AttnOutDxIdeal.main_arg1)) →
    ∃ (v0 : (c : Dev Cert.AttnOutDxIdeal.nD) → Buf (Elt Ideal) ((c.tc : Thread Cert.AttnOutDxIdeal.nD Cert.AttnOutDxIdeal.τ).loc Cert.AttnOutDxIdeal.main_v0)),
      θ_run (Cert.AttnOutDxIdeal.defs (F := Ideal)) (onTc (τ := Cert.AttnOutDxIdeal.τ) (Cert.AttnOutDxIdeal.main (F := Ideal))) ⟨m, fun _ => 0, g⟩ (fun r => ∀ c : Dev Cert.AttnOutDxIdeal.nD,
          r.2.mem ((c.tc : Thread Cert.AttnOutDxIdeal.nD Cert.AttnOutDxIdeal.τ).loc Cert.AttnOutDxIdeal.main_v0) = v0 c
          ∧ r.2.mem ((c.tc : Thread Cert.AttnOutDxIdeal.nD Cert.AttnOutDxIdeal.τ).loc Cert.AttnOutDxIdeal.main_arg0) = m ((c.tc : Thread Cert.AttnOutDxIdeal.nD Cert.AttnOutDxIdeal.τ).loc Cert.AttnOutDxIdeal.main_arg0)
          ∧ r.2.mem ((c.tc : Thread Cert.AttnOutDxIdeal.nD Cert.AttnOutDxIdeal.τ).loc Cert.AttnOutDxIdeal.main_arg1) = m ((c.tc : Thread Cert.AttnOutDxIdeal.nD Cert.AttnOutDxIdeal.τ).loc Cert.AttnOutDxIdeal.main_arg1))
      ∧ θ_run (Cert.AttnOutDxReferenceIdeal.defs (F := Ideal)) (onTc (τ := Cert.AttnOutDxReferenceIdeal.τ) (Cert.AttnOutDxReferenceIdeal.main (F := Ideal))) ⟨m', fun _ => 0, g'⟩ (fun r => ∀ c : Dev Cert.AttnOutDxReferenceIdeal.nD,
          r.2.mem ((c.tc : Thread Cert.AttnOutDxReferenceIdeal.nD Cert.AttnOutDxReferenceIdeal.τ).loc Cert.AttnOutDxReferenceIdeal.main_v5) = v0 c
          ∧ r.2.mem ((c.tc : Thread Cert.AttnOutDxReferenceIdeal.nD Cert.AttnOutDxReferenceIdeal.τ).loc Cert.AttnOutDxReferenceIdeal.main_arg0) = m' ((c.tc : Thread Cert.AttnOutDxReferenceIdeal.nD Cert.AttnOutDxReferenceIdeal.τ).loc Cert.AttnOutDxReferenceIdeal.main_arg0)
          ∧ r.2.mem ((c.tc : Thread Cert.AttnOutDxReferenceIdeal.nD Cert.AttnOutDxReferenceIdeal.τ).loc Cert.AttnOutDxReferenceIdeal.main_arg1) = m' ((c.tc : Thread Cert.AttnOutDxReferenceIdeal.nD Cert.AttnOutDxReferenceIdeal.τ).loc Cert.AttnOutDxReferenceIdeal.main_arg1))

def preserves_SsmOutDw_SsmOutDwIdeal : Prop :=
  True

def algebraic_SsmOutDwIdeal_SsmOutDwReferenceIdeal [hSsmOutDwIdeal : Cert.SsmOutDwIdeal.Facts] [hSsmOutDwReferenceIdeal : Cert.SsmOutDwReferenceIdeal.Facts] : Prop :=
  ∀ (m : (ℓ : Loc Cert.SsmOutDwIdeal.nD Cert.SsmOutDwIdeal.τ Cert.SsmOutDwIdeal.sig) → Buf (Elt Ideal) ℓ) (g : Dev Cert.SsmOutDwIdeal.nD → PrngReg)
    (m' : (ℓ : Loc Cert.SsmOutDwReferenceIdeal.nD Cert.SsmOutDwReferenceIdeal.τ Cert.SsmOutDwReferenceIdeal.sig) → Buf (Elt Ideal) ℓ) (g' : Dev Cert.SsmOutDwReferenceIdeal.nD → PrngReg), Pre_SsmOutDwIdeal m →
    (∀ c : Dev Cert.SsmOutDwIdeal.nD,
      m' ((c.tc : Thread Cert.SsmOutDwReferenceIdeal.nD Cert.SsmOutDwReferenceIdeal.τ).loc Cert.SsmOutDwReferenceIdeal.main_arg0) = m ((c.tc : Thread Cert.SsmOutDwIdeal.nD Cert.SsmOutDwIdeal.τ).loc Cert.SsmOutDwIdeal.main_arg0)
      ∧ m' ((c.tc : Thread Cert.SsmOutDwReferenceIdeal.nD Cert.SsmOutDwReferenceIdeal.τ).loc Cert.SsmOutDwReferenceIdeal.main_arg1) = m ((c.tc : Thread Cert.SsmOutDwIdeal.nD Cert.SsmOutDwIdeal.τ).loc Cert.SsmOutDwIdeal.main_arg1)) →
    ∃ (v0 : (c : Dev Cert.SsmOutDwIdeal.nD) → Buf (Elt Ideal) ((c.tc : Thread Cert.SsmOutDwIdeal.nD Cert.SsmOutDwIdeal.τ).loc Cert.SsmOutDwIdeal.main_v0)),
      θ_run (Cert.SsmOutDwIdeal.defs (F := Ideal)) (onTc (τ := Cert.SsmOutDwIdeal.τ) (Cert.SsmOutDwIdeal.main (F := Ideal))) ⟨m, fun _ => 0, g⟩ (fun r => ∀ c : Dev Cert.SsmOutDwIdeal.nD,
          r.2.mem ((c.tc : Thread Cert.SsmOutDwIdeal.nD Cert.SsmOutDwIdeal.τ).loc Cert.SsmOutDwIdeal.main_v0) = v0 c
          ∧ r.2.mem ((c.tc : Thread Cert.SsmOutDwIdeal.nD Cert.SsmOutDwIdeal.τ).loc Cert.SsmOutDwIdeal.main_arg0) = m ((c.tc : Thread Cert.SsmOutDwIdeal.nD Cert.SsmOutDwIdeal.τ).loc Cert.SsmOutDwIdeal.main_arg0)
          ∧ r.2.mem ((c.tc : Thread Cert.SsmOutDwIdeal.nD Cert.SsmOutDwIdeal.τ).loc Cert.SsmOutDwIdeal.main_arg1) = m ((c.tc : Thread Cert.SsmOutDwIdeal.nD Cert.SsmOutDwIdeal.τ).loc Cert.SsmOutDwIdeal.main_arg1))
      ∧ θ_run (Cert.SsmOutDwReferenceIdeal.defs (F := Ideal)) (onTc (τ := Cert.SsmOutDwReferenceIdeal.τ) (Cert.SsmOutDwReferenceIdeal.main (F := Ideal))) ⟨m', fun _ => 0, g'⟩ (fun r => ∀ c : Dev Cert.SsmOutDwReferenceIdeal.nD,
          r.2.mem ((c.tc : Thread Cert.SsmOutDwReferenceIdeal.nD Cert.SsmOutDwReferenceIdeal.τ).loc Cert.SsmOutDwReferenceIdeal.main_v5) = v0 c
          ∧ r.2.mem ((c.tc : Thread Cert.SsmOutDwReferenceIdeal.nD Cert.SsmOutDwReferenceIdeal.τ).loc Cert.SsmOutDwReferenceIdeal.main_arg0) = m' ((c.tc : Thread Cert.SsmOutDwReferenceIdeal.nD Cert.SsmOutDwReferenceIdeal.τ).loc Cert.SsmOutDwReferenceIdeal.main_arg0)
          ∧ r.2.mem ((c.tc : Thread Cert.SsmOutDwReferenceIdeal.nD Cert.SsmOutDwReferenceIdeal.τ).loc Cert.SsmOutDwReferenceIdeal.main_arg1) = m' ((c.tc : Thread Cert.SsmOutDwReferenceIdeal.nD Cert.SsmOutDwReferenceIdeal.τ).loc Cert.SsmOutDwReferenceIdeal.main_arg1))

def preserves_SsmOutDx_SsmOutDxIdeal : Prop :=
  True

def algebraic_SsmOutDxIdeal_SsmOutDxReferenceIdeal [hSsmOutDxIdeal : Cert.SsmOutDxIdeal.Facts] [hSsmOutDxReferenceIdeal : Cert.SsmOutDxReferenceIdeal.Facts] : Prop :=
  ∀ (m : (ℓ : Loc Cert.SsmOutDxIdeal.nD Cert.SsmOutDxIdeal.τ Cert.SsmOutDxIdeal.sig) → Buf (Elt Ideal) ℓ) (g : Dev Cert.SsmOutDxIdeal.nD → PrngReg)
    (m' : (ℓ : Loc Cert.SsmOutDxReferenceIdeal.nD Cert.SsmOutDxReferenceIdeal.τ Cert.SsmOutDxReferenceIdeal.sig) → Buf (Elt Ideal) ℓ) (g' : Dev Cert.SsmOutDxReferenceIdeal.nD → PrngReg), Pre_SsmOutDxIdeal m →
    (∀ c : Dev Cert.SsmOutDxIdeal.nD,
      m' ((c.tc : Thread Cert.SsmOutDxReferenceIdeal.nD Cert.SsmOutDxReferenceIdeal.τ).loc Cert.SsmOutDxReferenceIdeal.main_arg0) = m ((c.tc : Thread Cert.SsmOutDxIdeal.nD Cert.SsmOutDxIdeal.τ).loc Cert.SsmOutDxIdeal.main_arg0)
      ∧ m' ((c.tc : Thread Cert.SsmOutDxReferenceIdeal.nD Cert.SsmOutDxReferenceIdeal.τ).loc Cert.SsmOutDxReferenceIdeal.main_arg1) = m ((c.tc : Thread Cert.SsmOutDxIdeal.nD Cert.SsmOutDxIdeal.τ).loc Cert.SsmOutDxIdeal.main_arg1)) →
    ∃ (v0 : (c : Dev Cert.SsmOutDxIdeal.nD) → Buf (Elt Ideal) ((c.tc : Thread Cert.SsmOutDxIdeal.nD Cert.SsmOutDxIdeal.τ).loc Cert.SsmOutDxIdeal.main_v0)),
      θ_run (Cert.SsmOutDxIdeal.defs (F := Ideal)) (onTc (τ := Cert.SsmOutDxIdeal.τ) (Cert.SsmOutDxIdeal.main (F := Ideal))) ⟨m, fun _ => 0, g⟩ (fun r => ∀ c : Dev Cert.SsmOutDxIdeal.nD,
          r.2.mem ((c.tc : Thread Cert.SsmOutDxIdeal.nD Cert.SsmOutDxIdeal.τ).loc Cert.SsmOutDxIdeal.main_v0) = v0 c
          ∧ r.2.mem ((c.tc : Thread Cert.SsmOutDxIdeal.nD Cert.SsmOutDxIdeal.τ).loc Cert.SsmOutDxIdeal.main_arg0) = m ((c.tc : Thread Cert.SsmOutDxIdeal.nD Cert.SsmOutDxIdeal.τ).loc Cert.SsmOutDxIdeal.main_arg0)
          ∧ r.2.mem ((c.tc : Thread Cert.SsmOutDxIdeal.nD Cert.SsmOutDxIdeal.τ).loc Cert.SsmOutDxIdeal.main_arg1) = m ((c.tc : Thread Cert.SsmOutDxIdeal.nD Cert.SsmOutDxIdeal.τ).loc Cert.SsmOutDxIdeal.main_arg1))
      ∧ θ_run (Cert.SsmOutDxReferenceIdeal.defs (F := Ideal)) (onTc (τ := Cert.SsmOutDxReferenceIdeal.τ) (Cert.SsmOutDxReferenceIdeal.main (F := Ideal))) ⟨m', fun _ => 0, g'⟩ (fun r => ∀ c : Dev Cert.SsmOutDxReferenceIdeal.nD,
          r.2.mem ((c.tc : Thread Cert.SsmOutDxReferenceIdeal.nD Cert.SsmOutDxReferenceIdeal.τ).loc Cert.SsmOutDxReferenceIdeal.main_v4) = v0 c
          ∧ r.2.mem ((c.tc : Thread Cert.SsmOutDxReferenceIdeal.nD Cert.SsmOutDxReferenceIdeal.τ).loc Cert.SsmOutDxReferenceIdeal.main_arg0) = m' ((c.tc : Thread Cert.SsmOutDxReferenceIdeal.nD Cert.SsmOutDxReferenceIdeal.τ).loc Cert.SsmOutDxReferenceIdeal.main_arg0)
          ∧ r.2.mem ((c.tc : Thread Cert.SsmOutDxReferenceIdeal.nD Cert.SsmOutDxReferenceIdeal.τ).loc Cert.SsmOutDxReferenceIdeal.main_arg1) = m' ((c.tc : Thread Cert.SsmOutDxReferenceIdeal.nD Cert.SsmOutDxReferenceIdeal.τ).loc Cert.SsmOutDxReferenceIdeal.main_arg1))

def preserves_SsmZDw_SsmZDwIdeal : Prop :=
  True

def algebraic_SsmZDwIdeal_SsmZDwReferenceIdeal [hSsmZDwIdeal : Cert.SsmZDwIdeal.Facts] [hSsmZDwReferenceIdeal : Cert.SsmZDwReferenceIdeal.Facts] : Prop :=
  ∀ (m : (ℓ : Loc Cert.SsmZDwIdeal.nD Cert.SsmZDwIdeal.τ Cert.SsmZDwIdeal.sig) → Buf (Elt Ideal) ℓ) (g : Dev Cert.SsmZDwIdeal.nD → PrngReg)
    (m' : (ℓ : Loc Cert.SsmZDwReferenceIdeal.nD Cert.SsmZDwReferenceIdeal.τ Cert.SsmZDwReferenceIdeal.sig) → Buf (Elt Ideal) ℓ) (g' : Dev Cert.SsmZDwReferenceIdeal.nD → PrngReg), Pre_SsmZDwIdeal m →
    (∀ c : Dev Cert.SsmZDwIdeal.nD,
      m' ((c.tc : Thread Cert.SsmZDwReferenceIdeal.nD Cert.SsmZDwReferenceIdeal.τ).loc Cert.SsmZDwReferenceIdeal.main_arg0) = m ((c.tc : Thread Cert.SsmZDwIdeal.nD Cert.SsmZDwIdeal.τ).loc Cert.SsmZDwIdeal.main_arg0)
      ∧ m' ((c.tc : Thread Cert.SsmZDwReferenceIdeal.nD Cert.SsmZDwReferenceIdeal.τ).loc Cert.SsmZDwReferenceIdeal.main_arg1) = m ((c.tc : Thread Cert.SsmZDwIdeal.nD Cert.SsmZDwIdeal.τ).loc Cert.SsmZDwIdeal.main_arg1)) →
    ∃ (v0 : (c : Dev Cert.SsmZDwIdeal.nD) → Buf (Elt Ideal) ((c.tc : Thread Cert.SsmZDwIdeal.nD Cert.SsmZDwIdeal.τ).loc Cert.SsmZDwIdeal.main_v0)),
      θ_run (Cert.SsmZDwIdeal.defs (F := Ideal)) (onTc (τ := Cert.SsmZDwIdeal.τ) (Cert.SsmZDwIdeal.main (F := Ideal))) ⟨m, fun _ => 0, g⟩ (fun r => ∀ c : Dev Cert.SsmZDwIdeal.nD,
          r.2.mem ((c.tc : Thread Cert.SsmZDwIdeal.nD Cert.SsmZDwIdeal.τ).loc Cert.SsmZDwIdeal.main_v0) = v0 c
          ∧ r.2.mem ((c.tc : Thread Cert.SsmZDwIdeal.nD Cert.SsmZDwIdeal.τ).loc Cert.SsmZDwIdeal.main_arg0) = m ((c.tc : Thread Cert.SsmZDwIdeal.nD Cert.SsmZDwIdeal.τ).loc Cert.SsmZDwIdeal.main_arg0)
          ∧ r.2.mem ((c.tc : Thread Cert.SsmZDwIdeal.nD Cert.SsmZDwIdeal.τ).loc Cert.SsmZDwIdeal.main_arg1) = m ((c.tc : Thread Cert.SsmZDwIdeal.nD Cert.SsmZDwIdeal.τ).loc Cert.SsmZDwIdeal.main_arg1))
      ∧ θ_run (Cert.SsmZDwReferenceIdeal.defs (F := Ideal)) (onTc (τ := Cert.SsmZDwReferenceIdeal.τ) (Cert.SsmZDwReferenceIdeal.main (F := Ideal))) ⟨m', fun _ => 0, g'⟩ (fun r => ∀ c : Dev Cert.SsmZDwReferenceIdeal.nD,
          r.2.mem ((c.tc : Thread Cert.SsmZDwReferenceIdeal.nD Cert.SsmZDwReferenceIdeal.τ).loc Cert.SsmZDwReferenceIdeal.main_v5) = v0 c
          ∧ r.2.mem ((c.tc : Thread Cert.SsmZDwReferenceIdeal.nD Cert.SsmZDwReferenceIdeal.τ).loc Cert.SsmZDwReferenceIdeal.main_arg0) = m' ((c.tc : Thread Cert.SsmZDwReferenceIdeal.nD Cert.SsmZDwReferenceIdeal.τ).loc Cert.SsmZDwReferenceIdeal.main_arg0)
          ∧ r.2.mem ((c.tc : Thread Cert.SsmZDwReferenceIdeal.nD Cert.SsmZDwReferenceIdeal.τ).loc Cert.SsmZDwReferenceIdeal.main_arg1) = m' ((c.tc : Thread Cert.SsmZDwReferenceIdeal.nD Cert.SsmZDwReferenceIdeal.τ).loc Cert.SsmZDwReferenceIdeal.main_arg1))

def preserves_SsmZDx_SsmZDxIdeal : Prop :=
  True

def algebraic_SsmZDxIdeal_SsmZDxReferenceIdeal [hSsmZDxIdeal : Cert.SsmZDxIdeal.Facts] [hSsmZDxReferenceIdeal : Cert.SsmZDxReferenceIdeal.Facts] : Prop :=
  ∀ (m : (ℓ : Loc Cert.SsmZDxIdeal.nD Cert.SsmZDxIdeal.τ Cert.SsmZDxIdeal.sig) → Buf (Elt Ideal) ℓ) (g : Dev Cert.SsmZDxIdeal.nD → PrngReg)
    (m' : (ℓ : Loc Cert.SsmZDxReferenceIdeal.nD Cert.SsmZDxReferenceIdeal.τ Cert.SsmZDxReferenceIdeal.sig) → Buf (Elt Ideal) ℓ) (g' : Dev Cert.SsmZDxReferenceIdeal.nD → PrngReg), Pre_SsmZDxIdeal m →
    (∀ c : Dev Cert.SsmZDxIdeal.nD,
      m' ((c.tc : Thread Cert.SsmZDxReferenceIdeal.nD Cert.SsmZDxReferenceIdeal.τ).loc Cert.SsmZDxReferenceIdeal.main_arg0) = m ((c.tc : Thread Cert.SsmZDxIdeal.nD Cert.SsmZDxIdeal.τ).loc Cert.SsmZDxIdeal.main_arg0)
      ∧ m' ((c.tc : Thread Cert.SsmZDxReferenceIdeal.nD Cert.SsmZDxReferenceIdeal.τ).loc Cert.SsmZDxReferenceIdeal.main_arg1) = m ((c.tc : Thread Cert.SsmZDxIdeal.nD Cert.SsmZDxIdeal.τ).loc Cert.SsmZDxIdeal.main_arg1)) →
    ∃ (v0 : (c : Dev Cert.SsmZDxIdeal.nD) → Buf (Elt Ideal) ((c.tc : Thread Cert.SsmZDxIdeal.nD Cert.SsmZDxIdeal.τ).loc Cert.SsmZDxIdeal.main_v1)),
      θ_run (Cert.SsmZDxIdeal.defs (F := Ideal)) (onTc (τ := Cert.SsmZDxIdeal.τ) (Cert.SsmZDxIdeal.main (F := Ideal))) ⟨m, fun _ => 0, g⟩ (fun r => ∀ c : Dev Cert.SsmZDxIdeal.nD,
          r.2.mem ((c.tc : Thread Cert.SsmZDxIdeal.nD Cert.SsmZDxIdeal.τ).loc Cert.SsmZDxIdeal.main_v1) = v0 c
          ∧ r.2.mem ((c.tc : Thread Cert.SsmZDxIdeal.nD Cert.SsmZDxIdeal.τ).loc Cert.SsmZDxIdeal.main_arg0) = m ((c.tc : Thread Cert.SsmZDxIdeal.nD Cert.SsmZDxIdeal.τ).loc Cert.SsmZDxIdeal.main_arg0)
          ∧ r.2.mem ((c.tc : Thread Cert.SsmZDxIdeal.nD Cert.SsmZDxIdeal.τ).loc Cert.SsmZDxIdeal.main_arg1) = m ((c.tc : Thread Cert.SsmZDxIdeal.nD Cert.SsmZDxIdeal.τ).loc Cert.SsmZDxIdeal.main_arg1))
      ∧ θ_run (Cert.SsmZDxReferenceIdeal.defs (F := Ideal)) (onTc (τ := Cert.SsmZDxReferenceIdeal.τ) (Cert.SsmZDxReferenceIdeal.main (F := Ideal))) ⟨m', fun _ => 0, g'⟩ (fun r => ∀ c : Dev Cert.SsmZDxReferenceIdeal.nD,
          r.2.mem ((c.tc : Thread Cert.SsmZDxReferenceIdeal.nD Cert.SsmZDxReferenceIdeal.τ).loc Cert.SsmZDxReferenceIdeal.main_v5) = v0 c
          ∧ r.2.mem ((c.tc : Thread Cert.SsmZDxReferenceIdeal.nD Cert.SsmZDxReferenceIdeal.τ).loc Cert.SsmZDxReferenceIdeal.main_arg0) = m' ((c.tc : Thread Cert.SsmZDxReferenceIdeal.nD Cert.SsmZDxReferenceIdeal.τ).loc Cert.SsmZDxReferenceIdeal.main_arg0)
          ∧ r.2.mem ((c.tc : Thread Cert.SsmZDxReferenceIdeal.nD Cert.SsmZDxReferenceIdeal.τ).loc Cert.SsmZDxReferenceIdeal.main_arg1) = m' ((c.tc : Thread Cert.SsmZDxReferenceIdeal.nD Cert.SsmZDxReferenceIdeal.τ).loc Cert.SsmZDxReferenceIdeal.main_arg1))

def preserves_SsmDtDw_SsmDtDwIdeal : Prop :=
  True

def algebraic_SsmDtDwIdeal_SsmDtDwReferenceIdeal [hSsmDtDwIdeal : Cert.SsmDtDwIdeal.Facts] [hSsmDtDwReferenceIdeal : Cert.SsmDtDwReferenceIdeal.Facts] : Prop :=
  ∀ (m : (ℓ : Loc Cert.SsmDtDwIdeal.nD Cert.SsmDtDwIdeal.τ Cert.SsmDtDwIdeal.sig) → Buf (Elt Ideal) ℓ) (g : Dev Cert.SsmDtDwIdeal.nD → PrngReg)
    (m' : (ℓ : Loc Cert.SsmDtDwReferenceIdeal.nD Cert.SsmDtDwReferenceIdeal.τ Cert.SsmDtDwReferenceIdeal.sig) → Buf (Elt Ideal) ℓ) (g' : Dev Cert.SsmDtDwReferenceIdeal.nD → PrngReg), Pre_SsmDtDwIdeal m →
    (∀ c : Dev Cert.SsmDtDwIdeal.nD,
      m' ((c.tc : Thread Cert.SsmDtDwReferenceIdeal.nD Cert.SsmDtDwReferenceIdeal.τ).loc Cert.SsmDtDwReferenceIdeal.main_arg0) = m ((c.tc : Thread Cert.SsmDtDwIdeal.nD Cert.SsmDtDwIdeal.τ).loc Cert.SsmDtDwIdeal.main_arg0)
      ∧ m' ((c.tc : Thread Cert.SsmDtDwReferenceIdeal.nD Cert.SsmDtDwReferenceIdeal.τ).loc Cert.SsmDtDwReferenceIdeal.main_arg1) = m ((c.tc : Thread Cert.SsmDtDwIdeal.nD Cert.SsmDtDwIdeal.τ).loc Cert.SsmDtDwIdeal.main_arg1)) →
    ∃ (v0 : (c : Dev Cert.SsmDtDwIdeal.nD) → Buf (Elt Ideal) ((c.tc : Thread Cert.SsmDtDwIdeal.nD Cert.SsmDtDwIdeal.τ).loc Cert.SsmDtDwIdeal.main_v0)),
      θ_run (Cert.SsmDtDwIdeal.defs (F := Ideal)) (onTc (τ := Cert.SsmDtDwIdeal.τ) (Cert.SsmDtDwIdeal.main (F := Ideal))) ⟨m, fun _ => 0, g⟩ (fun r => ∀ c : Dev Cert.SsmDtDwIdeal.nD,
          r.2.mem ((c.tc : Thread Cert.SsmDtDwIdeal.nD Cert.SsmDtDwIdeal.τ).loc Cert.SsmDtDwIdeal.main_v0) = v0 c
          ∧ r.2.mem ((c.tc : Thread Cert.SsmDtDwIdeal.nD Cert.SsmDtDwIdeal.τ).loc Cert.SsmDtDwIdeal.main_arg0) = m ((c.tc : Thread Cert.SsmDtDwIdeal.nD Cert.SsmDtDwIdeal.τ).loc Cert.SsmDtDwIdeal.main_arg0)
          ∧ r.2.mem ((c.tc : Thread Cert.SsmDtDwIdeal.nD Cert.SsmDtDwIdeal.τ).loc Cert.SsmDtDwIdeal.main_arg1) = m ((c.tc : Thread Cert.SsmDtDwIdeal.nD Cert.SsmDtDwIdeal.τ).loc Cert.SsmDtDwIdeal.main_arg1))
      ∧ θ_run (Cert.SsmDtDwReferenceIdeal.defs (F := Ideal)) (onTc (τ := Cert.SsmDtDwReferenceIdeal.τ) (Cert.SsmDtDwReferenceIdeal.main (F := Ideal))) ⟨m', fun _ => 0, g'⟩ (fun r => ∀ c : Dev Cert.SsmDtDwReferenceIdeal.nD,
          r.2.mem ((c.tc : Thread Cert.SsmDtDwReferenceIdeal.nD Cert.SsmDtDwReferenceIdeal.τ).loc Cert.SsmDtDwReferenceIdeal.main_v5) = v0 c
          ∧ r.2.mem ((c.tc : Thread Cert.SsmDtDwReferenceIdeal.nD Cert.SsmDtDwReferenceIdeal.τ).loc Cert.SsmDtDwReferenceIdeal.main_arg0) = m' ((c.tc : Thread Cert.SsmDtDwReferenceIdeal.nD Cert.SsmDtDwReferenceIdeal.τ).loc Cert.SsmDtDwReferenceIdeal.main_arg0)
          ∧ r.2.mem ((c.tc : Thread Cert.SsmDtDwReferenceIdeal.nD Cert.SsmDtDwReferenceIdeal.τ).loc Cert.SsmDtDwReferenceIdeal.main_arg1) = m' ((c.tc : Thread Cert.SsmDtDwReferenceIdeal.nD Cert.SsmDtDwReferenceIdeal.τ).loc Cert.SsmDtDwReferenceIdeal.main_arg1))

def preserves_SsmDtDx_SsmDtDxIdeal : Prop :=
  True

def algebraic_SsmDtDxIdeal_SsmDtDxReferenceIdeal [hSsmDtDxIdeal : Cert.SsmDtDxIdeal.Facts] [hSsmDtDxReferenceIdeal : Cert.SsmDtDxReferenceIdeal.Facts] : Prop :=
  ∀ (m : (ℓ : Loc Cert.SsmDtDxIdeal.nD Cert.SsmDtDxIdeal.τ Cert.SsmDtDxIdeal.sig) → Buf (Elt Ideal) ℓ) (g : Dev Cert.SsmDtDxIdeal.nD → PrngReg)
    (m' : (ℓ : Loc Cert.SsmDtDxReferenceIdeal.nD Cert.SsmDtDxReferenceIdeal.τ Cert.SsmDtDxReferenceIdeal.sig) → Buf (Elt Ideal) ℓ) (g' : Dev Cert.SsmDtDxReferenceIdeal.nD → PrngReg), Pre_SsmDtDxIdeal m →
    (∀ c : Dev Cert.SsmDtDxIdeal.nD,
      m' ((c.tc : Thread Cert.SsmDtDxReferenceIdeal.nD Cert.SsmDtDxReferenceIdeal.τ).loc Cert.SsmDtDxReferenceIdeal.main_arg0) = m ((c.tc : Thread Cert.SsmDtDxIdeal.nD Cert.SsmDtDxIdeal.τ).loc Cert.SsmDtDxIdeal.main_arg0)
      ∧ m' ((c.tc : Thread Cert.SsmDtDxReferenceIdeal.nD Cert.SsmDtDxReferenceIdeal.τ).loc Cert.SsmDtDxReferenceIdeal.main_arg1) = m ((c.tc : Thread Cert.SsmDtDxIdeal.nD Cert.SsmDtDxIdeal.τ).loc Cert.SsmDtDxIdeal.main_arg1)
      ∧ m' ((c.tc : Thread Cert.SsmDtDxReferenceIdeal.nD Cert.SsmDtDxReferenceIdeal.τ).loc Cert.SsmDtDxReferenceIdeal.main_arg2) = m ((c.tc : Thread Cert.SsmDtDxIdeal.nD Cert.SsmDtDxIdeal.τ).loc Cert.SsmDtDxIdeal.main_arg2)) →
    ∃ (v0 : (c : Dev Cert.SsmDtDxIdeal.nD) → Buf (Elt Ideal) ((c.tc : Thread Cert.SsmDtDxIdeal.nD Cert.SsmDtDxIdeal.τ).loc Cert.SsmDtDxIdeal.main_v1)),
      θ_run (Cert.SsmDtDxIdeal.defs (F := Ideal)) (onTc (τ := Cert.SsmDtDxIdeal.τ) (Cert.SsmDtDxIdeal.main (F := Ideal))) ⟨m, fun _ => 0, g⟩ (fun r => ∀ c : Dev Cert.SsmDtDxIdeal.nD,
          r.2.mem ((c.tc : Thread Cert.SsmDtDxIdeal.nD Cert.SsmDtDxIdeal.τ).loc Cert.SsmDtDxIdeal.main_v1) = v0 c
          ∧ r.2.mem ((c.tc : Thread Cert.SsmDtDxIdeal.nD Cert.SsmDtDxIdeal.τ).loc Cert.SsmDtDxIdeal.main_arg0) = m ((c.tc : Thread Cert.SsmDtDxIdeal.nD Cert.SsmDtDxIdeal.τ).loc Cert.SsmDtDxIdeal.main_arg0)
          ∧ r.2.mem ((c.tc : Thread Cert.SsmDtDxIdeal.nD Cert.SsmDtDxIdeal.τ).loc Cert.SsmDtDxIdeal.main_arg1) = m ((c.tc : Thread Cert.SsmDtDxIdeal.nD Cert.SsmDtDxIdeal.τ).loc Cert.SsmDtDxIdeal.main_arg1)
          ∧ r.2.mem ((c.tc : Thread Cert.SsmDtDxIdeal.nD Cert.SsmDtDxIdeal.τ).loc Cert.SsmDtDxIdeal.main_arg2) = m ((c.tc : Thread Cert.SsmDtDxIdeal.nD Cert.SsmDtDxIdeal.τ).loc Cert.SsmDtDxIdeal.main_arg2))
      ∧ θ_run (Cert.SsmDtDxReferenceIdeal.defs (F := Ideal)) (onTc (τ := Cert.SsmDtDxReferenceIdeal.τ) (Cert.SsmDtDxReferenceIdeal.main (F := Ideal))) ⟨m', fun _ => 0, g'⟩ (fun r => ∀ c : Dev Cert.SsmDtDxReferenceIdeal.nD,
          r.2.mem ((c.tc : Thread Cert.SsmDtDxReferenceIdeal.nD Cert.SsmDtDxReferenceIdeal.τ).loc Cert.SsmDtDxReferenceIdeal.main_v6) = v0 c
          ∧ r.2.mem ((c.tc : Thread Cert.SsmDtDxReferenceIdeal.nD Cert.SsmDtDxReferenceIdeal.τ).loc Cert.SsmDtDxReferenceIdeal.main_arg0) = m' ((c.tc : Thread Cert.SsmDtDxReferenceIdeal.nD Cert.SsmDtDxReferenceIdeal.τ).loc Cert.SsmDtDxReferenceIdeal.main_arg0)
          ∧ r.2.mem ((c.tc : Thread Cert.SsmDtDxReferenceIdeal.nD Cert.SsmDtDxReferenceIdeal.τ).loc Cert.SsmDtDxReferenceIdeal.main_arg1) = m' ((c.tc : Thread Cert.SsmDtDxReferenceIdeal.nD Cert.SsmDtDxReferenceIdeal.τ).loc Cert.SsmDtDxReferenceIdeal.main_arg1)
          ∧ r.2.mem ((c.tc : Thread Cert.SsmDtDxReferenceIdeal.nD Cert.SsmDtDxReferenceIdeal.τ).loc Cert.SsmDtDxReferenceIdeal.main_arg2) = m' ((c.tc : Thread Cert.SsmDtDxReferenceIdeal.nD Cert.SsmDtDxReferenceIdeal.τ).loc Cert.SsmDtDxReferenceIdeal.main_arg2))

def preserves_SsmXbcDw_SsmXbcDwIdeal : Prop :=
  True

def algebraic_SsmXbcDwIdeal_SsmXbcDwReferenceIdeal [hSsmXbcDwIdeal : Cert.SsmXbcDwIdeal.Facts] [hSsmXbcDwReferenceIdeal : Cert.SsmXbcDwReferenceIdeal.Facts] : Prop :=
  ∀ (m : (ℓ : Loc Cert.SsmXbcDwIdeal.nD Cert.SsmXbcDwIdeal.τ Cert.SsmXbcDwIdeal.sig) → Buf (Elt Ideal) ℓ) (g : Dev Cert.SsmXbcDwIdeal.nD → PrngReg)
    (m' : (ℓ : Loc Cert.SsmXbcDwReferenceIdeal.nD Cert.SsmXbcDwReferenceIdeal.τ Cert.SsmXbcDwReferenceIdeal.sig) → Buf (Elt Ideal) ℓ) (g' : Dev Cert.SsmXbcDwReferenceIdeal.nD → PrngReg), Pre_SsmXbcDwIdeal m →
    (∀ c : Dev Cert.SsmXbcDwIdeal.nD,
      m' ((c.tc : Thread Cert.SsmXbcDwReferenceIdeal.nD Cert.SsmXbcDwReferenceIdeal.τ).loc Cert.SsmXbcDwReferenceIdeal.main_arg0) = m ((c.tc : Thread Cert.SsmXbcDwIdeal.nD Cert.SsmXbcDwIdeal.τ).loc Cert.SsmXbcDwIdeal.main_arg0)
      ∧ m' ((c.tc : Thread Cert.SsmXbcDwReferenceIdeal.nD Cert.SsmXbcDwReferenceIdeal.τ).loc Cert.SsmXbcDwReferenceIdeal.main_arg1) = m ((c.tc : Thread Cert.SsmXbcDwIdeal.nD Cert.SsmXbcDwIdeal.τ).loc Cert.SsmXbcDwIdeal.main_arg1)) →
    ∃ (v0 : (c : Dev Cert.SsmXbcDwIdeal.nD) → Buf (Elt Ideal) ((c.tc : Thread Cert.SsmXbcDwIdeal.nD Cert.SsmXbcDwIdeal.τ).loc Cert.SsmXbcDwIdeal.main_v0)),
      θ_run (Cert.SsmXbcDwIdeal.defs (F := Ideal)) (onTc (τ := Cert.SsmXbcDwIdeal.τ) (Cert.SsmXbcDwIdeal.main (F := Ideal))) ⟨m, fun _ => 0, g⟩ (fun r => ∀ c : Dev Cert.SsmXbcDwIdeal.nD,
          r.2.mem ((c.tc : Thread Cert.SsmXbcDwIdeal.nD Cert.SsmXbcDwIdeal.τ).loc Cert.SsmXbcDwIdeal.main_v0) = v0 c
          ∧ r.2.mem ((c.tc : Thread Cert.SsmXbcDwIdeal.nD Cert.SsmXbcDwIdeal.τ).loc Cert.SsmXbcDwIdeal.main_arg0) = m ((c.tc : Thread Cert.SsmXbcDwIdeal.nD Cert.SsmXbcDwIdeal.τ).loc Cert.SsmXbcDwIdeal.main_arg0)
          ∧ r.2.mem ((c.tc : Thread Cert.SsmXbcDwIdeal.nD Cert.SsmXbcDwIdeal.τ).loc Cert.SsmXbcDwIdeal.main_arg1) = m ((c.tc : Thread Cert.SsmXbcDwIdeal.nD Cert.SsmXbcDwIdeal.τ).loc Cert.SsmXbcDwIdeal.main_arg1))
      ∧ θ_run (Cert.SsmXbcDwReferenceIdeal.defs (F := Ideal)) (onTc (τ := Cert.SsmXbcDwReferenceIdeal.τ) (Cert.SsmXbcDwReferenceIdeal.main (F := Ideal))) ⟨m', fun _ => 0, g'⟩ (fun r => ∀ c : Dev Cert.SsmXbcDwReferenceIdeal.nD,
          r.2.mem ((c.tc : Thread Cert.SsmXbcDwReferenceIdeal.nD Cert.SsmXbcDwReferenceIdeal.τ).loc Cert.SsmXbcDwReferenceIdeal.main_v5) = v0 c
          ∧ r.2.mem ((c.tc : Thread Cert.SsmXbcDwReferenceIdeal.nD Cert.SsmXbcDwReferenceIdeal.τ).loc Cert.SsmXbcDwReferenceIdeal.main_arg0) = m' ((c.tc : Thread Cert.SsmXbcDwReferenceIdeal.nD Cert.SsmXbcDwReferenceIdeal.τ).loc Cert.SsmXbcDwReferenceIdeal.main_arg0)
          ∧ r.2.mem ((c.tc : Thread Cert.SsmXbcDwReferenceIdeal.nD Cert.SsmXbcDwReferenceIdeal.τ).loc Cert.SsmXbcDwReferenceIdeal.main_arg1) = m' ((c.tc : Thread Cert.SsmXbcDwReferenceIdeal.nD Cert.SsmXbcDwReferenceIdeal.τ).loc Cert.SsmXbcDwReferenceIdeal.main_arg1))

def preserves_SsmOut_SsmOutIdeal : Prop :=
  True

def algebraic_SsmOutIdeal_SsmOutReferenceIdeal [hSsmOutIdeal : Cert.SsmOutIdeal.Facts] [hSsmOutReferenceIdeal : Cert.SsmOutReferenceIdeal.Facts] : Prop :=
  ∀ (m : (ℓ : Loc Cert.SsmOutIdeal.nD Cert.SsmOutIdeal.τ Cert.SsmOutIdeal.sig) → Buf (Elt Ideal) ℓ) (g : Dev Cert.SsmOutIdeal.nD → PrngReg)
    (m' : (ℓ : Loc Cert.SsmOutReferenceIdeal.nD Cert.SsmOutReferenceIdeal.τ Cert.SsmOutReferenceIdeal.sig) → Buf (Elt Ideal) ℓ) (g' : Dev Cert.SsmOutReferenceIdeal.nD → PrngReg), Pre_SsmOutIdeal m →
    (∀ c : Dev Cert.SsmOutIdeal.nD,
      m' ((c.tc : Thread Cert.SsmOutReferenceIdeal.nD Cert.SsmOutReferenceIdeal.τ).loc Cert.SsmOutReferenceIdeal.main_arg0) = m ((c.tc : Thread Cert.SsmOutIdeal.nD Cert.SsmOutIdeal.τ).loc Cert.SsmOutIdeal.main_arg0)
      ∧ m' ((c.tc : Thread Cert.SsmOutReferenceIdeal.nD Cert.SsmOutReferenceIdeal.τ).loc Cert.SsmOutReferenceIdeal.main_arg1) = m ((c.tc : Thread Cert.SsmOutIdeal.nD Cert.SsmOutIdeal.τ).loc Cert.SsmOutIdeal.main_arg1)
      ∧ m' ((c.tc : Thread Cert.SsmOutReferenceIdeal.nD Cert.SsmOutReferenceIdeal.τ).loc Cert.SsmOutReferenceIdeal.main_arg2) = m ((c.tc : Thread Cert.SsmOutIdeal.nD Cert.SsmOutIdeal.τ).loc Cert.SsmOutIdeal.main_arg2)) →
    ∃ (v0 : (c : Dev Cert.SsmOutIdeal.nD) → Buf (Elt Ideal) ((c.tc : Thread Cert.SsmOutIdeal.nD Cert.SsmOutIdeal.τ).loc Cert.SsmOutIdeal.main_v0)),
      θ_run (Cert.SsmOutIdeal.defs (F := Ideal)) (onTc (τ := Cert.SsmOutIdeal.τ) (Cert.SsmOutIdeal.main (F := Ideal))) ⟨m, fun _ => 0, g⟩ (fun r => ∀ c : Dev Cert.SsmOutIdeal.nD,
          r.2.mem ((c.tc : Thread Cert.SsmOutIdeal.nD Cert.SsmOutIdeal.τ).loc Cert.SsmOutIdeal.main_v0) = v0 c
          ∧ r.2.mem ((c.tc : Thread Cert.SsmOutIdeal.nD Cert.SsmOutIdeal.τ).loc Cert.SsmOutIdeal.main_arg0) = m ((c.tc : Thread Cert.SsmOutIdeal.nD Cert.SsmOutIdeal.τ).loc Cert.SsmOutIdeal.main_arg0)
          ∧ r.2.mem ((c.tc : Thread Cert.SsmOutIdeal.nD Cert.SsmOutIdeal.τ).loc Cert.SsmOutIdeal.main_arg1) = m ((c.tc : Thread Cert.SsmOutIdeal.nD Cert.SsmOutIdeal.τ).loc Cert.SsmOutIdeal.main_arg1)
          ∧ r.2.mem ((c.tc : Thread Cert.SsmOutIdeal.nD Cert.SsmOutIdeal.τ).loc Cert.SsmOutIdeal.main_arg2) = m ((c.tc : Thread Cert.SsmOutIdeal.nD Cert.SsmOutIdeal.τ).loc Cert.SsmOutIdeal.main_arg2))
      ∧ θ_run (Cert.SsmOutReferenceIdeal.defs (F := Ideal)) (onTc (τ := Cert.SsmOutReferenceIdeal.τ) (Cert.SsmOutReferenceIdeal.main (F := Ideal))) ⟨m', fun _ => 0, g'⟩ (fun r => ∀ c : Dev Cert.SsmOutReferenceIdeal.nD,
          r.2.mem ((c.tc : Thread Cert.SsmOutReferenceIdeal.nD Cert.SsmOutReferenceIdeal.τ).loc Cert.SsmOutReferenceIdeal.main_v3) = v0 c
          ∧ r.2.mem ((c.tc : Thread Cert.SsmOutReferenceIdeal.nD Cert.SsmOutReferenceIdeal.τ).loc Cert.SsmOutReferenceIdeal.main_arg0) = m' ((c.tc : Thread Cert.SsmOutReferenceIdeal.nD Cert.SsmOutReferenceIdeal.τ).loc Cert.SsmOutReferenceIdeal.main_arg0)
          ∧ r.2.mem ((c.tc : Thread Cert.SsmOutReferenceIdeal.nD Cert.SsmOutReferenceIdeal.τ).loc Cert.SsmOutReferenceIdeal.main_arg1) = m' ((c.tc : Thread Cert.SsmOutReferenceIdeal.nD Cert.SsmOutReferenceIdeal.τ).loc Cert.SsmOutReferenceIdeal.main_arg1)
          ∧ r.2.mem ((c.tc : Thread Cert.SsmOutReferenceIdeal.nD Cert.SsmOutReferenceIdeal.τ).loc Cert.SsmOutReferenceIdeal.main_arg2) = m' ((c.tc : Thread Cert.SsmOutReferenceIdeal.nD Cert.SsmOutReferenceIdeal.τ).loc Cert.SsmOutReferenceIdeal.main_arg2))

def preserves_AttnQ_AttnQIdeal : Prop :=
  True

def algebraic_AttnQIdeal_AttnQReferenceIdeal [hAttnQIdeal : Cert.AttnQIdeal.Facts] [hAttnQReferenceIdeal : Cert.AttnQReferenceIdeal.Facts] : Prop :=
  ∀ (m : (ℓ : Loc Cert.AttnQIdeal.nD Cert.AttnQIdeal.τ Cert.AttnQIdeal.sig) → Buf (Elt Ideal) ℓ) (g : Dev Cert.AttnQIdeal.nD → PrngReg)
    (m' : (ℓ : Loc Cert.AttnQReferenceIdeal.nD Cert.AttnQReferenceIdeal.τ Cert.AttnQReferenceIdeal.sig) → Buf (Elt Ideal) ℓ) (g' : Dev Cert.AttnQReferenceIdeal.nD → PrngReg), Pre_AttnQIdeal m →
    (∀ c : Dev Cert.AttnQIdeal.nD,
      m' ((c.tc : Thread Cert.AttnQReferenceIdeal.nD Cert.AttnQReferenceIdeal.τ).loc Cert.AttnQReferenceIdeal.main_arg0) = m ((c.tc : Thread Cert.AttnQIdeal.nD Cert.AttnQIdeal.τ).loc Cert.AttnQIdeal.main_arg0)
      ∧ m' ((c.tc : Thread Cert.AttnQReferenceIdeal.nD Cert.AttnQReferenceIdeal.τ).loc Cert.AttnQReferenceIdeal.main_arg1) = m ((c.tc : Thread Cert.AttnQIdeal.nD Cert.AttnQIdeal.τ).loc Cert.AttnQIdeal.main_arg1)) →
    ∃ (v0 : (c : Dev Cert.AttnQIdeal.nD) → Buf (Elt Ideal) ((c.tc : Thread Cert.AttnQIdeal.nD Cert.AttnQIdeal.τ).loc Cert.AttnQIdeal.main_v0)),
      θ_run (Cert.AttnQIdeal.defs (F := Ideal)) (onTc (τ := Cert.AttnQIdeal.τ) (Cert.AttnQIdeal.main (F := Ideal))) ⟨m, fun _ => 0, g⟩ (fun r => ∀ c : Dev Cert.AttnQIdeal.nD,
          r.2.mem ((c.tc : Thread Cert.AttnQIdeal.nD Cert.AttnQIdeal.τ).loc Cert.AttnQIdeal.main_v0) = v0 c
          ∧ r.2.mem ((c.tc : Thread Cert.AttnQIdeal.nD Cert.AttnQIdeal.τ).loc Cert.AttnQIdeal.main_arg0) = m ((c.tc : Thread Cert.AttnQIdeal.nD Cert.AttnQIdeal.τ).loc Cert.AttnQIdeal.main_arg0)
          ∧ r.2.mem ((c.tc : Thread Cert.AttnQIdeal.nD Cert.AttnQIdeal.τ).loc Cert.AttnQIdeal.main_arg1) = m ((c.tc : Thread Cert.AttnQIdeal.nD Cert.AttnQIdeal.τ).loc Cert.AttnQIdeal.main_arg1))
      ∧ θ_run (Cert.AttnQReferenceIdeal.defs (F := Ideal)) (onTc (τ := Cert.AttnQReferenceIdeal.τ) (Cert.AttnQReferenceIdeal.main (F := Ideal))) ⟨m', fun _ => 0, g'⟩ (fun r => ∀ c : Dev Cert.AttnQReferenceIdeal.nD,
          r.2.mem ((c.tc : Thread Cert.AttnQReferenceIdeal.nD Cert.AttnQReferenceIdeal.τ).loc Cert.AttnQReferenceIdeal.main_v3) = v0 c
          ∧ r.2.mem ((c.tc : Thread Cert.AttnQReferenceIdeal.nD Cert.AttnQReferenceIdeal.τ).loc Cert.AttnQReferenceIdeal.main_arg0) = m' ((c.tc : Thread Cert.AttnQReferenceIdeal.nD Cert.AttnQReferenceIdeal.τ).loc Cert.AttnQReferenceIdeal.main_arg0)
          ∧ r.2.mem ((c.tc : Thread Cert.AttnQReferenceIdeal.nD Cert.AttnQReferenceIdeal.τ).loc Cert.AttnQReferenceIdeal.main_arg1) = m' ((c.tc : Thread Cert.AttnQReferenceIdeal.nD Cert.AttnQReferenceIdeal.τ).loc Cert.AttnQReferenceIdeal.main_arg1))

def preserves_AttnOut_AttnOutIdeal : Prop :=
  True

def algebraic_AttnOutIdeal_AttnOutReferenceIdeal [hAttnOutIdeal : Cert.AttnOutIdeal.Facts] [hAttnOutReferenceIdeal : Cert.AttnOutReferenceIdeal.Facts] : Prop :=
  ∀ (m : (ℓ : Loc Cert.AttnOutIdeal.nD Cert.AttnOutIdeal.τ Cert.AttnOutIdeal.sig) → Buf (Elt Ideal) ℓ) (g : Dev Cert.AttnOutIdeal.nD → PrngReg)
    (m' : (ℓ : Loc Cert.AttnOutReferenceIdeal.nD Cert.AttnOutReferenceIdeal.τ Cert.AttnOutReferenceIdeal.sig) → Buf (Elt Ideal) ℓ) (g' : Dev Cert.AttnOutReferenceIdeal.nD → PrngReg), Pre_AttnOutIdeal m →
    (∀ c : Dev Cert.AttnOutIdeal.nD,
      m' ((c.tc : Thread Cert.AttnOutReferenceIdeal.nD Cert.AttnOutReferenceIdeal.τ).loc Cert.AttnOutReferenceIdeal.main_arg0) = m ((c.tc : Thread Cert.AttnOutIdeal.nD Cert.AttnOutIdeal.τ).loc Cert.AttnOutIdeal.main_arg0)
      ∧ m' ((c.tc : Thread Cert.AttnOutReferenceIdeal.nD Cert.AttnOutReferenceIdeal.τ).loc Cert.AttnOutReferenceIdeal.main_arg1) = m ((c.tc : Thread Cert.AttnOutIdeal.nD Cert.AttnOutIdeal.τ).loc Cert.AttnOutIdeal.main_arg1)
      ∧ m' ((c.tc : Thread Cert.AttnOutReferenceIdeal.nD Cert.AttnOutReferenceIdeal.τ).loc Cert.AttnOutReferenceIdeal.main_arg2) = m ((c.tc : Thread Cert.AttnOutIdeal.nD Cert.AttnOutIdeal.τ).loc Cert.AttnOutIdeal.main_arg2)) →
    ∃ (v0 : (c : Dev Cert.AttnOutIdeal.nD) → Buf (Elt Ideal) ((c.tc : Thread Cert.AttnOutIdeal.nD Cert.AttnOutIdeal.τ).loc Cert.AttnOutIdeal.main_v0)),
      θ_run (Cert.AttnOutIdeal.defs (F := Ideal)) (onTc (τ := Cert.AttnOutIdeal.τ) (Cert.AttnOutIdeal.main (F := Ideal))) ⟨m, fun _ => 0, g⟩ (fun r => ∀ c : Dev Cert.AttnOutIdeal.nD,
          r.2.mem ((c.tc : Thread Cert.AttnOutIdeal.nD Cert.AttnOutIdeal.τ).loc Cert.AttnOutIdeal.main_v0) = v0 c
          ∧ r.2.mem ((c.tc : Thread Cert.AttnOutIdeal.nD Cert.AttnOutIdeal.τ).loc Cert.AttnOutIdeal.main_arg0) = m ((c.tc : Thread Cert.AttnOutIdeal.nD Cert.AttnOutIdeal.τ).loc Cert.AttnOutIdeal.main_arg0)
          ∧ r.2.mem ((c.tc : Thread Cert.AttnOutIdeal.nD Cert.AttnOutIdeal.τ).loc Cert.AttnOutIdeal.main_arg1) = m ((c.tc : Thread Cert.AttnOutIdeal.nD Cert.AttnOutIdeal.τ).loc Cert.AttnOutIdeal.main_arg1)
          ∧ r.2.mem ((c.tc : Thread Cert.AttnOutIdeal.nD Cert.AttnOutIdeal.τ).loc Cert.AttnOutIdeal.main_arg2) = m ((c.tc : Thread Cert.AttnOutIdeal.nD Cert.AttnOutIdeal.τ).loc Cert.AttnOutIdeal.main_arg2))
      ∧ θ_run (Cert.AttnOutReferenceIdeal.defs (F := Ideal)) (onTc (τ := Cert.AttnOutReferenceIdeal.τ) (Cert.AttnOutReferenceIdeal.main (F := Ideal))) ⟨m', fun _ => 0, g'⟩ (fun r => ∀ c : Dev Cert.AttnOutReferenceIdeal.nD,
          r.2.mem ((c.tc : Thread Cert.AttnOutReferenceIdeal.nD Cert.AttnOutReferenceIdeal.τ).loc Cert.AttnOutReferenceIdeal.main_v3) = v0 c
          ∧ r.2.mem ((c.tc : Thread Cert.AttnOutReferenceIdeal.nD Cert.AttnOutReferenceIdeal.τ).loc Cert.AttnOutReferenceIdeal.main_arg0) = m' ((c.tc : Thread Cert.AttnOutReferenceIdeal.nD Cert.AttnOutReferenceIdeal.τ).loc Cert.AttnOutReferenceIdeal.main_arg0)
          ∧ r.2.mem ((c.tc : Thread Cert.AttnOutReferenceIdeal.nD Cert.AttnOutReferenceIdeal.τ).loc Cert.AttnOutReferenceIdeal.main_arg1) = m' ((c.tc : Thread Cert.AttnOutReferenceIdeal.nD Cert.AttnOutReferenceIdeal.τ).loc Cert.AttnOutReferenceIdeal.main_arg1)
          ∧ r.2.mem ((c.tc : Thread Cert.AttnOutReferenceIdeal.nD Cert.AttnOutReferenceIdeal.τ).loc Cert.AttnOutReferenceIdeal.main_arg2) = m' ((c.tc : Thread Cert.AttnOutReferenceIdeal.nD Cert.AttnOutReferenceIdeal.τ).loc Cert.AttnOutReferenceIdeal.main_arg2))

def preserves_Kv_KvIdeal : Prop :=
  True

def algebraic_KvIdeal_KvReferenceIdeal [hKvIdeal : Cert.KvIdeal.Facts] [hKvReferenceIdeal : Cert.KvReferenceIdeal.Facts] : Prop :=
  ∀ (m : (ℓ : Loc Cert.KvIdeal.nD Cert.KvIdeal.τ Cert.KvIdeal.sig) → Buf (Elt Ideal) ℓ) (g : Dev Cert.KvIdeal.nD → PrngReg)
    (m' : (ℓ : Loc Cert.KvReferenceIdeal.nD Cert.KvReferenceIdeal.τ Cert.KvReferenceIdeal.sig) → Buf (Elt Ideal) ℓ) (g' : Dev Cert.KvReferenceIdeal.nD → PrngReg), Pre_KvIdeal m →
    (∀ c : Dev Cert.KvIdeal.nD,
      m' ((c.tc : Thread Cert.KvReferenceIdeal.nD Cert.KvReferenceIdeal.τ).loc Cert.KvReferenceIdeal.main_arg0) = m ((c.tc : Thread Cert.KvIdeal.nD Cert.KvIdeal.τ).loc Cert.KvIdeal.main_arg0)
      ∧ m' ((c.tc : Thread Cert.KvReferenceIdeal.nD Cert.KvReferenceIdeal.τ).loc Cert.KvReferenceIdeal.main_arg1) = m ((c.tc : Thread Cert.KvIdeal.nD Cert.KvIdeal.τ).loc Cert.KvIdeal.main_arg1)) →
    ∃ (v0 : (c : Dev Cert.KvIdeal.nD) → Buf (Elt Ideal) ((c.tc : Thread Cert.KvIdeal.nD Cert.KvIdeal.τ).loc Cert.KvIdeal.main_v0)),
      θ_run (Cert.KvIdeal.defs (F := Ideal)) (onTc (τ := Cert.KvIdeal.τ) (Cert.KvIdeal.main (F := Ideal))) ⟨m, fun _ => 0, g⟩ (fun r => ∀ c : Dev Cert.KvIdeal.nD,
          r.2.mem ((c.tc : Thread Cert.KvIdeal.nD Cert.KvIdeal.τ).loc Cert.KvIdeal.main_v0) = v0 c
          ∧ r.2.mem ((c.tc : Thread Cert.KvIdeal.nD Cert.KvIdeal.τ).loc Cert.KvIdeal.main_arg0) = m ((c.tc : Thread Cert.KvIdeal.nD Cert.KvIdeal.τ).loc Cert.KvIdeal.main_arg0)
          ∧ r.2.mem ((c.tc : Thread Cert.KvIdeal.nD Cert.KvIdeal.τ).loc Cert.KvIdeal.main_arg1) = m ((c.tc : Thread Cert.KvIdeal.nD Cert.KvIdeal.τ).loc Cert.KvIdeal.main_arg1))
      ∧ θ_run (Cert.KvReferenceIdeal.defs (F := Ideal)) (onTc (τ := Cert.KvReferenceIdeal.τ) (Cert.KvReferenceIdeal.main (F := Ideal))) ⟨m', fun _ => 0, g'⟩ (fun r => ∀ c : Dev Cert.KvReferenceIdeal.nD,
          r.2.mem ((c.tc : Thread Cert.KvReferenceIdeal.nD Cert.KvReferenceIdeal.τ).loc Cert.KvReferenceIdeal.main_v3) = v0 c
          ∧ r.2.mem ((c.tc : Thread Cert.KvReferenceIdeal.nD Cert.KvReferenceIdeal.τ).loc Cert.KvReferenceIdeal.main_arg0) = m' ((c.tc : Thread Cert.KvReferenceIdeal.nD Cert.KvReferenceIdeal.τ).loc Cert.KvReferenceIdeal.main_arg0)
          ∧ r.2.mem ((c.tc : Thread Cert.KvReferenceIdeal.nD Cert.KvReferenceIdeal.τ).loc Cert.KvReferenceIdeal.main_arg1) = m' ((c.tc : Thread Cert.KvReferenceIdeal.nD Cert.KvReferenceIdeal.τ).loc Cert.KvReferenceIdeal.main_arg1))

def preserves_PleGate_PleGateIdeal : Prop :=
  True

def algebraic_PleGateIdeal_PleGateReferenceIdeal [hPleGateIdeal : Cert.PleGateIdeal.Facts] [hPleGateReferenceIdeal : Cert.PleGateReferenceIdeal.Facts] : Prop :=
  ∀ (m : (ℓ : Loc Cert.PleGateIdeal.nD Cert.PleGateIdeal.τ Cert.PleGateIdeal.sig) → Buf (Elt Ideal) ℓ) (g : Dev Cert.PleGateIdeal.nD → PrngReg)
    (m' : (ℓ : Loc Cert.PleGateReferenceIdeal.nD Cert.PleGateReferenceIdeal.τ Cert.PleGateReferenceIdeal.sig) → Buf (Elt Ideal) ℓ) (g' : Dev Cert.PleGateReferenceIdeal.nD → PrngReg), Pre_PleGateIdeal m →
    (∀ c : Dev Cert.PleGateIdeal.nD,
      m' ((c.tc : Thread Cert.PleGateReferenceIdeal.nD Cert.PleGateReferenceIdeal.τ).loc Cert.PleGateReferenceIdeal.main_arg0) = m ((c.tc : Thread Cert.PleGateIdeal.nD Cert.PleGateIdeal.τ).loc Cert.PleGateIdeal.main_arg0)
      ∧ m' ((c.tc : Thread Cert.PleGateReferenceIdeal.nD Cert.PleGateReferenceIdeal.τ).loc Cert.PleGateReferenceIdeal.main_arg1) = m ((c.tc : Thread Cert.PleGateIdeal.nD Cert.PleGateIdeal.τ).loc Cert.PleGateIdeal.main_arg1)) →
    ∃ (v0 : (c : Dev Cert.PleGateIdeal.nD) → Buf (Elt Ideal) ((c.tc : Thread Cert.PleGateIdeal.nD Cert.PleGateIdeal.τ).loc Cert.PleGateIdeal.main_v0)),
      θ_run (Cert.PleGateIdeal.defs (F := Ideal)) (onTc (τ := Cert.PleGateIdeal.τ) (Cert.PleGateIdeal.main (F := Ideal))) ⟨m, fun _ => 0, g⟩ (fun r => ∀ c : Dev Cert.PleGateIdeal.nD,
          r.2.mem ((c.tc : Thread Cert.PleGateIdeal.nD Cert.PleGateIdeal.τ).loc Cert.PleGateIdeal.main_v0) = v0 c
          ∧ r.2.mem ((c.tc : Thread Cert.PleGateIdeal.nD Cert.PleGateIdeal.τ).loc Cert.PleGateIdeal.main_arg0) = m ((c.tc : Thread Cert.PleGateIdeal.nD Cert.PleGateIdeal.τ).loc Cert.PleGateIdeal.main_arg0)
          ∧ r.2.mem ((c.tc : Thread Cert.PleGateIdeal.nD Cert.PleGateIdeal.τ).loc Cert.PleGateIdeal.main_arg1) = m ((c.tc : Thread Cert.PleGateIdeal.nD Cert.PleGateIdeal.τ).loc Cert.PleGateIdeal.main_arg1))
      ∧ θ_run (Cert.PleGateReferenceIdeal.defs (F := Ideal)) (onTc (τ := Cert.PleGateReferenceIdeal.τ) (Cert.PleGateReferenceIdeal.main (F := Ideal))) ⟨m', fun _ => 0, g'⟩ (fun r => ∀ c : Dev Cert.PleGateReferenceIdeal.nD,
          r.2.mem ((c.tc : Thread Cert.PleGateReferenceIdeal.nD Cert.PleGateReferenceIdeal.τ).loc Cert.PleGateReferenceIdeal.main_v2) = v0 c
          ∧ r.2.mem ((c.tc : Thread Cert.PleGateReferenceIdeal.nD Cert.PleGateReferenceIdeal.τ).loc Cert.PleGateReferenceIdeal.main_arg0) = m' ((c.tc : Thread Cert.PleGateReferenceIdeal.nD Cert.PleGateReferenceIdeal.τ).loc Cert.PleGateReferenceIdeal.main_arg0)
          ∧ r.2.mem ((c.tc : Thread Cert.PleGateReferenceIdeal.nD Cert.PleGateReferenceIdeal.τ).loc Cert.PleGateReferenceIdeal.main_arg1) = m' ((c.tc : Thread Cert.PleGateReferenceIdeal.nD Cert.PleGateReferenceIdeal.τ).loc Cert.PleGateReferenceIdeal.main_arg1))

def preserves_PleProj_PleProjIdeal : Prop :=
  True

def algebraic_PleProjIdeal_PleProjReferenceIdeal [hPleProjIdeal : Cert.PleProjIdeal.Facts] [hPleProjReferenceIdeal : Cert.PleProjReferenceIdeal.Facts] : Prop :=
  ∀ (m : (ℓ : Loc Cert.PleProjIdeal.nD Cert.PleProjIdeal.τ Cert.PleProjIdeal.sig) → Buf (Elt Ideal) ℓ) (g : Dev Cert.PleProjIdeal.nD → PrngReg)
    (m' : (ℓ : Loc Cert.PleProjReferenceIdeal.nD Cert.PleProjReferenceIdeal.τ Cert.PleProjReferenceIdeal.sig) → Buf (Elt Ideal) ℓ) (g' : Dev Cert.PleProjReferenceIdeal.nD → PrngReg), Pre_PleProjIdeal m →
    (∀ c : Dev Cert.PleProjIdeal.nD,
      m' ((c.tc : Thread Cert.PleProjReferenceIdeal.nD Cert.PleProjReferenceIdeal.τ).loc Cert.PleProjReferenceIdeal.main_arg0) = m ((c.tc : Thread Cert.PleProjIdeal.nD Cert.PleProjIdeal.τ).loc Cert.PleProjIdeal.main_arg0)
      ∧ m' ((c.tc : Thread Cert.PleProjReferenceIdeal.nD Cert.PleProjReferenceIdeal.τ).loc Cert.PleProjReferenceIdeal.main_arg1) = m ((c.tc : Thread Cert.PleProjIdeal.nD Cert.PleProjIdeal.τ).loc Cert.PleProjIdeal.main_arg1)) →
    ∃ (v0 : (c : Dev Cert.PleProjIdeal.nD) → Buf (Elt Ideal) ((c.tc : Thread Cert.PleProjIdeal.nD Cert.PleProjIdeal.τ).loc Cert.PleProjIdeal.main_v0)),
      θ_run (Cert.PleProjIdeal.defs (F := Ideal)) (onTc (τ := Cert.PleProjIdeal.τ) (Cert.PleProjIdeal.main (F := Ideal))) ⟨m, fun _ => 0, g⟩ (fun r => ∀ c : Dev Cert.PleProjIdeal.nD,
          r.2.mem ((c.tc : Thread Cert.PleProjIdeal.nD Cert.PleProjIdeal.τ).loc Cert.PleProjIdeal.main_v0) = v0 c
          ∧ r.2.mem ((c.tc : Thread Cert.PleProjIdeal.nD Cert.PleProjIdeal.τ).loc Cert.PleProjIdeal.main_arg0) = m ((c.tc : Thread Cert.PleProjIdeal.nD Cert.PleProjIdeal.τ).loc Cert.PleProjIdeal.main_arg0)
          ∧ r.2.mem ((c.tc : Thread Cert.PleProjIdeal.nD Cert.PleProjIdeal.τ).loc Cert.PleProjIdeal.main_arg1) = m ((c.tc : Thread Cert.PleProjIdeal.nD Cert.PleProjIdeal.τ).loc Cert.PleProjIdeal.main_arg1))
      ∧ θ_run (Cert.PleProjReferenceIdeal.defs (F := Ideal)) (onTc (τ := Cert.PleProjReferenceIdeal.τ) (Cert.PleProjReferenceIdeal.main (F := Ideal))) ⟨m', fun _ => 0, g'⟩ (fun r => ∀ c : Dev Cert.PleProjReferenceIdeal.nD,
          r.2.mem ((c.tc : Thread Cert.PleProjReferenceIdeal.nD Cert.PleProjReferenceIdeal.τ).loc Cert.PleProjReferenceIdeal.main_v1) = v0 c
          ∧ r.2.mem ((c.tc : Thread Cert.PleProjReferenceIdeal.nD Cert.PleProjReferenceIdeal.τ).loc Cert.PleProjReferenceIdeal.main_arg0) = m' ((c.tc : Thread Cert.PleProjReferenceIdeal.nD Cert.PleProjReferenceIdeal.τ).loc Cert.PleProjReferenceIdeal.main_arg0)
          ∧ r.2.mem ((c.tc : Thread Cert.PleProjReferenceIdeal.nD Cert.PleProjReferenceIdeal.τ).loc Cert.PleProjReferenceIdeal.main_arg1) = m' ((c.tc : Thread Cert.PleProjReferenceIdeal.nD Cert.PleProjReferenceIdeal.τ).loc Cert.PleProjReferenceIdeal.main_arg1))

def preserves_FfnNormBwd_FfnNormBwdIdeal : Prop :=
  True

def algebraic_FfnNormBwdIdeal_FfnNormBwdReferenceIdeal [hFfnNormBwdIdeal : Cert.FfnNormBwdIdeal.Facts] [hFfnNormBwdReferenceIdeal : Cert.FfnNormBwdReferenceIdeal.Facts] : Prop :=
  ∀ (m : (ℓ : Loc Cert.FfnNormBwdIdeal.nD Cert.FfnNormBwdIdeal.τ Cert.FfnNormBwdIdeal.sig) → Buf (Elt Ideal) ℓ) (g : Dev Cert.FfnNormBwdIdeal.nD → PrngReg)
    (m' : (ℓ : Loc Cert.FfnNormBwdReferenceIdeal.nD Cert.FfnNormBwdReferenceIdeal.τ Cert.FfnNormBwdReferenceIdeal.sig) → Buf (Elt Ideal) ℓ) (g' : Dev Cert.FfnNormBwdReferenceIdeal.nD → PrngReg), Pre_FfnNormBwdIdeal m →
    (∀ c : Dev Cert.FfnNormBwdIdeal.nD,
      m' ((c.tc : Thread Cert.FfnNormBwdReferenceIdeal.nD Cert.FfnNormBwdReferenceIdeal.τ).loc Cert.FfnNormBwdReferenceIdeal.main_arg0) = m ((c.tc : Thread Cert.FfnNormBwdIdeal.nD Cert.FfnNormBwdIdeal.τ).loc Cert.FfnNormBwdIdeal.main_arg0)
      ∧ m' ((c.tc : Thread Cert.FfnNormBwdReferenceIdeal.nD Cert.FfnNormBwdReferenceIdeal.τ).loc Cert.FfnNormBwdReferenceIdeal.main_arg1) = m ((c.tc : Thread Cert.FfnNormBwdIdeal.nD Cert.FfnNormBwdIdeal.τ).loc Cert.FfnNormBwdIdeal.main_arg1)
      ∧ m' ((c.tc : Thread Cert.FfnNormBwdReferenceIdeal.nD Cert.FfnNormBwdReferenceIdeal.τ).loc Cert.FfnNormBwdReferenceIdeal.main_arg2) = m ((c.tc : Thread Cert.FfnNormBwdIdeal.nD Cert.FfnNormBwdIdeal.τ).loc Cert.FfnNormBwdIdeal.main_arg2)
      ∧ m' ((c.tc : Thread Cert.FfnNormBwdReferenceIdeal.nD Cert.FfnNormBwdReferenceIdeal.τ).loc Cert.FfnNormBwdReferenceIdeal.main_arg3) = m ((c.tc : Thread Cert.FfnNormBwdIdeal.nD Cert.FfnNormBwdIdeal.τ).loc Cert.FfnNormBwdIdeal.main_arg3)
      ∧ m' ((c.tc : Thread Cert.FfnNormBwdReferenceIdeal.nD Cert.FfnNormBwdReferenceIdeal.τ).loc Cert.FfnNormBwdReferenceIdeal.main_arg4) = m ((c.tc : Thread Cert.FfnNormBwdIdeal.nD Cert.FfnNormBwdIdeal.τ).loc Cert.FfnNormBwdIdeal.main_arg4)
      ∧ m' ((c.tc : Thread Cert.FfnNormBwdReferenceIdeal.nD Cert.FfnNormBwdReferenceIdeal.τ).loc Cert.FfnNormBwdReferenceIdeal.main_arg5) = m ((c.tc : Thread Cert.FfnNormBwdIdeal.nD Cert.FfnNormBwdIdeal.τ).loc Cert.FfnNormBwdIdeal.main_arg5)) →
    ∃ (v0 : (c : Dev Cert.FfnNormBwdIdeal.nD) → Buf (Elt Ideal) ((c.tc : Thread Cert.FfnNormBwdIdeal.nD Cert.FfnNormBwdIdeal.τ).loc Cert.FfnNormBwdIdeal.main_v2_0)) (v1 : (c : Dev Cert.FfnNormBwdIdeal.nD) → Buf (Elt Ideal) ((c.tc : Thread Cert.FfnNormBwdIdeal.nD Cert.FfnNormBwdIdeal.τ).loc Cert.FfnNormBwdIdeal.main_v2_1)) (v2 : (c : Dev Cert.FfnNormBwdIdeal.nD) → Buf (Elt Ideal) ((c.tc : Thread Cert.FfnNormBwdIdeal.nD Cert.FfnNormBwdIdeal.τ).loc Cert.FfnNormBwdIdeal.main_v2_2)),
      θ_run (Cert.FfnNormBwdIdeal.defs (F := Ideal)) (onTc (τ := Cert.FfnNormBwdIdeal.τ) (Cert.FfnNormBwdIdeal.main (F := Ideal))) ⟨m, fun _ => 0, g⟩ (fun r => ∀ c : Dev Cert.FfnNormBwdIdeal.nD,
          r.2.mem ((c.tc : Thread Cert.FfnNormBwdIdeal.nD Cert.FfnNormBwdIdeal.τ).loc Cert.FfnNormBwdIdeal.main_v2_0) = v0 c
          ∧ r.2.mem ((c.tc : Thread Cert.FfnNormBwdIdeal.nD Cert.FfnNormBwdIdeal.τ).loc Cert.FfnNormBwdIdeal.main_v2_1) = v1 c
          ∧ r.2.mem ((c.tc : Thread Cert.FfnNormBwdIdeal.nD Cert.FfnNormBwdIdeal.τ).loc Cert.FfnNormBwdIdeal.main_v2_2) = v2 c
          ∧ r.2.mem ((c.tc : Thread Cert.FfnNormBwdIdeal.nD Cert.FfnNormBwdIdeal.τ).loc Cert.FfnNormBwdIdeal.main_arg0) = m ((c.tc : Thread Cert.FfnNormBwdIdeal.nD Cert.FfnNormBwdIdeal.τ).loc Cert.FfnNormBwdIdeal.main_arg0)
          ∧ r.2.mem ((c.tc : Thread Cert.FfnNormBwdIdeal.nD Cert.FfnNormBwdIdeal.τ).loc Cert.FfnNormBwdIdeal.main_arg1) = m ((c.tc : Thread Cert.FfnNormBwdIdeal.nD Cert.FfnNormBwdIdeal.τ).loc Cert.FfnNormBwdIdeal.main_arg1)
          ∧ r.2.mem ((c.tc : Thread Cert.FfnNormBwdIdeal.nD Cert.FfnNormBwdIdeal.τ).loc Cert.FfnNormBwdIdeal.main_arg2) = m ((c.tc : Thread Cert.FfnNormBwdIdeal.nD Cert.FfnNormBwdIdeal.τ).loc Cert.FfnNormBwdIdeal.main_arg2)
          ∧ r.2.mem ((c.tc : Thread Cert.FfnNormBwdIdeal.nD Cert.FfnNormBwdIdeal.τ).loc Cert.FfnNormBwdIdeal.main_arg3) = m ((c.tc : Thread Cert.FfnNormBwdIdeal.nD Cert.FfnNormBwdIdeal.τ).loc Cert.FfnNormBwdIdeal.main_arg3)
          ∧ r.2.mem ((c.tc : Thread Cert.FfnNormBwdIdeal.nD Cert.FfnNormBwdIdeal.τ).loc Cert.FfnNormBwdIdeal.main_arg4) = m ((c.tc : Thread Cert.FfnNormBwdIdeal.nD Cert.FfnNormBwdIdeal.τ).loc Cert.FfnNormBwdIdeal.main_arg4)
          ∧ r.2.mem ((c.tc : Thread Cert.FfnNormBwdIdeal.nD Cert.FfnNormBwdIdeal.τ).loc Cert.FfnNormBwdIdeal.main_arg5) = m ((c.tc : Thread Cert.FfnNormBwdIdeal.nD Cert.FfnNormBwdIdeal.τ).loc Cert.FfnNormBwdIdeal.main_arg5))
      ∧ θ_run (Cert.FfnNormBwdReferenceIdeal.defs (F := Ideal)) (onTc (τ := Cert.FfnNormBwdReferenceIdeal.τ) (Cert.FfnNormBwdReferenceIdeal.main (F := Ideal))) ⟨m', fun _ => 0, g'⟩ (fun r => ∀ c : Dev Cert.FfnNormBwdReferenceIdeal.nD,
          r.2.mem ((c.tc : Thread Cert.FfnNormBwdReferenceIdeal.nD Cert.FfnNormBwdReferenceIdeal.τ).loc Cert.FfnNormBwdReferenceIdeal.main_v43) = v0 c
          ∧ r.2.mem ((c.tc : Thread Cert.FfnNormBwdReferenceIdeal.nD Cert.FfnNormBwdReferenceIdeal.τ).loc Cert.FfnNormBwdReferenceIdeal.main_v44) = v1 c
          ∧ r.2.mem ((c.tc : Thread Cert.FfnNormBwdReferenceIdeal.nD Cert.FfnNormBwdReferenceIdeal.τ).loc Cert.FfnNormBwdReferenceIdeal.main_v45) = v2 c
          ∧ r.2.mem ((c.tc : Thread Cert.FfnNormBwdReferenceIdeal.nD Cert.FfnNormBwdReferenceIdeal.τ).loc Cert.FfnNormBwdReferenceIdeal.main_arg0) = m' ((c.tc : Thread Cert.FfnNormBwdReferenceIdeal.nD Cert.FfnNormBwdReferenceIdeal.τ).loc Cert.FfnNormBwdReferenceIdeal.main_arg0)
          ∧ r.2.mem ((c.tc : Thread Cert.FfnNormBwdReferenceIdeal.nD Cert.FfnNormBwdReferenceIdeal.τ).loc Cert.FfnNormBwdReferenceIdeal.main_arg1) = m' ((c.tc : Thread Cert.FfnNormBwdReferenceIdeal.nD Cert.FfnNormBwdReferenceIdeal.τ).loc Cert.FfnNormBwdReferenceIdeal.main_arg1)
          ∧ r.2.mem ((c.tc : Thread Cert.FfnNormBwdReferenceIdeal.nD Cert.FfnNormBwdReferenceIdeal.τ).loc Cert.FfnNormBwdReferenceIdeal.main_arg2) = m' ((c.tc : Thread Cert.FfnNormBwdReferenceIdeal.nD Cert.FfnNormBwdReferenceIdeal.τ).loc Cert.FfnNormBwdReferenceIdeal.main_arg2)
          ∧ r.2.mem ((c.tc : Thread Cert.FfnNormBwdReferenceIdeal.nD Cert.FfnNormBwdReferenceIdeal.τ).loc Cert.FfnNormBwdReferenceIdeal.main_arg3) = m' ((c.tc : Thread Cert.FfnNormBwdReferenceIdeal.nD Cert.FfnNormBwdReferenceIdeal.τ).loc Cert.FfnNormBwdReferenceIdeal.main_arg3)
          ∧ r.2.mem ((c.tc : Thread Cert.FfnNormBwdReferenceIdeal.nD Cert.FfnNormBwdReferenceIdeal.τ).loc Cert.FfnNormBwdReferenceIdeal.main_arg4) = m' ((c.tc : Thread Cert.FfnNormBwdReferenceIdeal.nD Cert.FfnNormBwdReferenceIdeal.τ).loc Cert.FfnNormBwdReferenceIdeal.main_arg4)
          ∧ r.2.mem ((c.tc : Thread Cert.FfnNormBwdReferenceIdeal.nD Cert.FfnNormBwdReferenceIdeal.τ).loc Cert.FfnNormBwdReferenceIdeal.main_arg5) = m' ((c.tc : Thread Cert.FfnNormBwdReferenceIdeal.nD Cert.FfnNormBwdReferenceIdeal.τ).loc Cert.FfnNormBwdReferenceIdeal.main_arg5))

def preserves_GateNormBwd_GateNormBwdIdeal : Prop :=
  True

def algebraic_GateNormBwdIdeal_GateNormBwdReferenceIdeal [hGateNormBwdIdeal : Cert.GateNormBwdIdeal.Facts] [hGateNormBwdReferenceIdeal : Cert.GateNormBwdReferenceIdeal.Facts] : Prop :=
  ∀ (m : (ℓ : Loc Cert.GateNormBwdIdeal.nD Cert.GateNormBwdIdeal.τ Cert.GateNormBwdIdeal.sig) → Buf (Elt Ideal) ℓ) (g : Dev Cert.GateNormBwdIdeal.nD → PrngReg)
    (m' : (ℓ : Loc Cert.GateNormBwdReferenceIdeal.nD Cert.GateNormBwdReferenceIdeal.τ Cert.GateNormBwdReferenceIdeal.sig) → Buf (Elt Ideal) ℓ) (g' : Dev Cert.GateNormBwdReferenceIdeal.nD → PrngReg), Pre_GateNormBwdIdeal m →
    (∀ c : Dev Cert.GateNormBwdIdeal.nD,
      m' ((c.tc : Thread Cert.GateNormBwdReferenceIdeal.nD Cert.GateNormBwdReferenceIdeal.τ).loc Cert.GateNormBwdReferenceIdeal.main_arg0) = m ((c.tc : Thread Cert.GateNormBwdIdeal.nD Cert.GateNormBwdIdeal.τ).loc Cert.GateNormBwdIdeal.main_arg0)
      ∧ m' ((c.tc : Thread Cert.GateNormBwdReferenceIdeal.nD Cert.GateNormBwdReferenceIdeal.τ).loc Cert.GateNormBwdReferenceIdeal.main_arg1) = m ((c.tc : Thread Cert.GateNormBwdIdeal.nD Cert.GateNormBwdIdeal.τ).loc Cert.GateNormBwdIdeal.main_arg1)
      ∧ m' ((c.tc : Thread Cert.GateNormBwdReferenceIdeal.nD Cert.GateNormBwdReferenceIdeal.τ).loc Cert.GateNormBwdReferenceIdeal.main_arg2) = m ((c.tc : Thread Cert.GateNormBwdIdeal.nD Cert.GateNormBwdIdeal.τ).loc Cert.GateNormBwdIdeal.main_arg2)
      ∧ m' ((c.tc : Thread Cert.GateNormBwdReferenceIdeal.nD Cert.GateNormBwdReferenceIdeal.τ).loc Cert.GateNormBwdReferenceIdeal.main_arg3) = m ((c.tc : Thread Cert.GateNormBwdIdeal.nD Cert.GateNormBwdIdeal.τ).loc Cert.GateNormBwdIdeal.main_arg3)
      ∧ m' ((c.tc : Thread Cert.GateNormBwdReferenceIdeal.nD Cert.GateNormBwdReferenceIdeal.τ).loc Cert.GateNormBwdReferenceIdeal.main_arg4) = m ((c.tc : Thread Cert.GateNormBwdIdeal.nD Cert.GateNormBwdIdeal.τ).loc Cert.GateNormBwdIdeal.main_arg4)) →
    ∃ (v0 : (c : Dev Cert.GateNormBwdIdeal.nD) → Buf (Elt Ideal) ((c.tc : Thread Cert.GateNormBwdIdeal.nD Cert.GateNormBwdIdeal.τ).loc Cert.GateNormBwdIdeal.main_v1_0)) (v1 : (c : Dev Cert.GateNormBwdIdeal.nD) → Buf (Elt Ideal) ((c.tc : Thread Cert.GateNormBwdIdeal.nD Cert.GateNormBwdIdeal.τ).loc Cert.GateNormBwdIdeal.main_v1_1)) (v2 : (c : Dev Cert.GateNormBwdIdeal.nD) → Buf (Elt Ideal) ((c.tc : Thread Cert.GateNormBwdIdeal.nD Cert.GateNormBwdIdeal.τ).loc Cert.GateNormBwdIdeal.main_v1_2)),
      θ_run (Cert.GateNormBwdIdeal.defs (F := Ideal)) (onTc (τ := Cert.GateNormBwdIdeal.τ) (Cert.GateNormBwdIdeal.main (F := Ideal))) ⟨m, fun _ => 0, g⟩ (fun r => ∀ c : Dev Cert.GateNormBwdIdeal.nD,
          r.2.mem ((c.tc : Thread Cert.GateNormBwdIdeal.nD Cert.GateNormBwdIdeal.τ).loc Cert.GateNormBwdIdeal.main_v1_0) = v0 c
          ∧ r.2.mem ((c.tc : Thread Cert.GateNormBwdIdeal.nD Cert.GateNormBwdIdeal.τ).loc Cert.GateNormBwdIdeal.main_v1_1) = v1 c
          ∧ r.2.mem ((c.tc : Thread Cert.GateNormBwdIdeal.nD Cert.GateNormBwdIdeal.τ).loc Cert.GateNormBwdIdeal.main_v1_2) = v2 c
          ∧ r.2.mem ((c.tc : Thread Cert.GateNormBwdIdeal.nD Cert.GateNormBwdIdeal.τ).loc Cert.GateNormBwdIdeal.main_arg0) = m ((c.tc : Thread Cert.GateNormBwdIdeal.nD Cert.GateNormBwdIdeal.τ).loc Cert.GateNormBwdIdeal.main_arg0)
          ∧ r.2.mem ((c.tc : Thread Cert.GateNormBwdIdeal.nD Cert.GateNormBwdIdeal.τ).loc Cert.GateNormBwdIdeal.main_arg1) = m ((c.tc : Thread Cert.GateNormBwdIdeal.nD Cert.GateNormBwdIdeal.τ).loc Cert.GateNormBwdIdeal.main_arg1)
          ∧ r.2.mem ((c.tc : Thread Cert.GateNormBwdIdeal.nD Cert.GateNormBwdIdeal.τ).loc Cert.GateNormBwdIdeal.main_arg2) = m ((c.tc : Thread Cert.GateNormBwdIdeal.nD Cert.GateNormBwdIdeal.τ).loc Cert.GateNormBwdIdeal.main_arg2)
          ∧ r.2.mem ((c.tc : Thread Cert.GateNormBwdIdeal.nD Cert.GateNormBwdIdeal.τ).loc Cert.GateNormBwdIdeal.main_arg3) = m ((c.tc : Thread Cert.GateNormBwdIdeal.nD Cert.GateNormBwdIdeal.τ).loc Cert.GateNormBwdIdeal.main_arg3)
          ∧ r.2.mem ((c.tc : Thread Cert.GateNormBwdIdeal.nD Cert.GateNormBwdIdeal.τ).loc Cert.GateNormBwdIdeal.main_arg4) = m ((c.tc : Thread Cert.GateNormBwdIdeal.nD Cert.GateNormBwdIdeal.τ).loc Cert.GateNormBwdIdeal.main_arg4))
      ∧ θ_run (Cert.GateNormBwdReferenceIdeal.defs (F := Ideal)) (onTc (τ := Cert.GateNormBwdReferenceIdeal.τ) (Cert.GateNormBwdReferenceIdeal.main (F := Ideal))) ⟨m', fun _ => 0, g'⟩ (fun r => ∀ c : Dev Cert.GateNormBwdReferenceIdeal.nD,
          r.2.mem ((c.tc : Thread Cert.GateNormBwdReferenceIdeal.nD Cert.GateNormBwdReferenceIdeal.τ).loc Cert.GateNormBwdReferenceIdeal.main_v41) = v0 c
          ∧ r.2.mem ((c.tc : Thread Cert.GateNormBwdReferenceIdeal.nD Cert.GateNormBwdReferenceIdeal.τ).loc Cert.GateNormBwdReferenceIdeal.main_v42) = v1 c
          ∧ r.2.mem ((c.tc : Thread Cert.GateNormBwdReferenceIdeal.nD Cert.GateNormBwdReferenceIdeal.τ).loc Cert.GateNormBwdReferenceIdeal.main_v43) = v2 c
          ∧ r.2.mem ((c.tc : Thread Cert.GateNormBwdReferenceIdeal.nD Cert.GateNormBwdReferenceIdeal.τ).loc Cert.GateNormBwdReferenceIdeal.main_arg0) = m' ((c.tc : Thread Cert.GateNormBwdReferenceIdeal.nD Cert.GateNormBwdReferenceIdeal.τ).loc Cert.GateNormBwdReferenceIdeal.main_arg0)
          ∧ r.2.mem ((c.tc : Thread Cert.GateNormBwdReferenceIdeal.nD Cert.GateNormBwdReferenceIdeal.τ).loc Cert.GateNormBwdReferenceIdeal.main_arg1) = m' ((c.tc : Thread Cert.GateNormBwdReferenceIdeal.nD Cert.GateNormBwdReferenceIdeal.τ).loc Cert.GateNormBwdReferenceIdeal.main_arg1)
          ∧ r.2.mem ((c.tc : Thread Cert.GateNormBwdReferenceIdeal.nD Cert.GateNormBwdReferenceIdeal.τ).loc Cert.GateNormBwdReferenceIdeal.main_arg2) = m' ((c.tc : Thread Cert.GateNormBwdReferenceIdeal.nD Cert.GateNormBwdReferenceIdeal.τ).loc Cert.GateNormBwdReferenceIdeal.main_arg2)
          ∧ r.2.mem ((c.tc : Thread Cert.GateNormBwdReferenceIdeal.nD Cert.GateNormBwdReferenceIdeal.τ).loc Cert.GateNormBwdReferenceIdeal.main_arg3) = m' ((c.tc : Thread Cert.GateNormBwdReferenceIdeal.nD Cert.GateNormBwdReferenceIdeal.τ).loc Cert.GateNormBwdReferenceIdeal.main_arg3)
          ∧ r.2.mem ((c.tc : Thread Cert.GateNormBwdReferenceIdeal.nD Cert.GateNormBwdReferenceIdeal.τ).loc Cert.GateNormBwdReferenceIdeal.main_arg4) = m' ((c.tc : Thread Cert.GateNormBwdReferenceIdeal.nD Cert.GateNormBwdReferenceIdeal.τ).loc Cert.GateNormBwdReferenceIdeal.main_arg4))

def preserves_KvNormBwd_KvNormBwdIdeal : Prop :=
  True

def algebraic_KvNormBwdIdeal_KvNormBwdReferenceIdeal [hKvNormBwdIdeal : Cert.KvNormBwdIdeal.Facts] [hKvNormBwdReferenceIdeal : Cert.KvNormBwdReferenceIdeal.Facts] : Prop :=
  ∀ (m : (ℓ : Loc Cert.KvNormBwdIdeal.nD Cert.KvNormBwdIdeal.τ Cert.KvNormBwdIdeal.sig) → Buf (Elt Ideal) ℓ) (g : Dev Cert.KvNormBwdIdeal.nD → PrngReg)
    (m' : (ℓ : Loc Cert.KvNormBwdReferenceIdeal.nD Cert.KvNormBwdReferenceIdeal.τ Cert.KvNormBwdReferenceIdeal.sig) → Buf (Elt Ideal) ℓ) (g' : Dev Cert.KvNormBwdReferenceIdeal.nD → PrngReg), Pre_KvNormBwdIdeal m →
    (∀ c : Dev Cert.KvNormBwdIdeal.nD,
      m' ((c.tc : Thread Cert.KvNormBwdReferenceIdeal.nD Cert.KvNormBwdReferenceIdeal.τ).loc Cert.KvNormBwdReferenceIdeal.main_arg0) = m ((c.tc : Thread Cert.KvNormBwdIdeal.nD Cert.KvNormBwdIdeal.τ).loc Cert.KvNormBwdIdeal.main_arg0)
      ∧ m' ((c.tc : Thread Cert.KvNormBwdReferenceIdeal.nD Cert.KvNormBwdReferenceIdeal.τ).loc Cert.KvNormBwdReferenceIdeal.main_arg1) = m ((c.tc : Thread Cert.KvNormBwdIdeal.nD Cert.KvNormBwdIdeal.τ).loc Cert.KvNormBwdIdeal.main_arg1)
      ∧ m' ((c.tc : Thread Cert.KvNormBwdReferenceIdeal.nD Cert.KvNormBwdReferenceIdeal.τ).loc Cert.KvNormBwdReferenceIdeal.main_arg2) = m ((c.tc : Thread Cert.KvNormBwdIdeal.nD Cert.KvNormBwdIdeal.τ).loc Cert.KvNormBwdIdeal.main_arg2)
      ∧ m' ((c.tc : Thread Cert.KvNormBwdReferenceIdeal.nD Cert.KvNormBwdReferenceIdeal.τ).loc Cert.KvNormBwdReferenceIdeal.main_arg3) = m ((c.tc : Thread Cert.KvNormBwdIdeal.nD Cert.KvNormBwdIdeal.τ).loc Cert.KvNormBwdIdeal.main_arg3)
      ∧ m' ((c.tc : Thread Cert.KvNormBwdReferenceIdeal.nD Cert.KvNormBwdReferenceIdeal.τ).loc Cert.KvNormBwdReferenceIdeal.main_arg4) = m ((c.tc : Thread Cert.KvNormBwdIdeal.nD Cert.KvNormBwdIdeal.τ).loc Cert.KvNormBwdIdeal.main_arg4)) →
    ∃ (v0 : (c : Dev Cert.KvNormBwdIdeal.nD) → Buf (Elt Ideal) ((c.tc : Thread Cert.KvNormBwdIdeal.nD Cert.KvNormBwdIdeal.τ).loc Cert.KvNormBwdIdeal.main_v1_0)) (v1 : (c : Dev Cert.KvNormBwdIdeal.nD) → Buf (Elt Ideal) ((c.tc : Thread Cert.KvNormBwdIdeal.nD Cert.KvNormBwdIdeal.τ).loc Cert.KvNormBwdIdeal.main_v1_1)) (v2 : (c : Dev Cert.KvNormBwdIdeal.nD) → Buf (Elt Ideal) ((c.tc : Thread Cert.KvNormBwdIdeal.nD Cert.KvNormBwdIdeal.τ).loc Cert.KvNormBwdIdeal.main_v1_2)),
      θ_run (Cert.KvNormBwdIdeal.defs (F := Ideal)) (onTc (τ := Cert.KvNormBwdIdeal.τ) (Cert.KvNormBwdIdeal.main (F := Ideal))) ⟨m, fun _ => 0, g⟩ (fun r => ∀ c : Dev Cert.KvNormBwdIdeal.nD,
          r.2.mem ((c.tc : Thread Cert.KvNormBwdIdeal.nD Cert.KvNormBwdIdeal.τ).loc Cert.KvNormBwdIdeal.main_v1_0) = v0 c
          ∧ r.2.mem ((c.tc : Thread Cert.KvNormBwdIdeal.nD Cert.KvNormBwdIdeal.τ).loc Cert.KvNormBwdIdeal.main_v1_1) = v1 c
          ∧ r.2.mem ((c.tc : Thread Cert.KvNormBwdIdeal.nD Cert.KvNormBwdIdeal.τ).loc Cert.KvNormBwdIdeal.main_v1_2) = v2 c
          ∧ r.2.mem ((c.tc : Thread Cert.KvNormBwdIdeal.nD Cert.KvNormBwdIdeal.τ).loc Cert.KvNormBwdIdeal.main_arg0) = m ((c.tc : Thread Cert.KvNormBwdIdeal.nD Cert.KvNormBwdIdeal.τ).loc Cert.KvNormBwdIdeal.main_arg0)
          ∧ r.2.mem ((c.tc : Thread Cert.KvNormBwdIdeal.nD Cert.KvNormBwdIdeal.τ).loc Cert.KvNormBwdIdeal.main_arg1) = m ((c.tc : Thread Cert.KvNormBwdIdeal.nD Cert.KvNormBwdIdeal.τ).loc Cert.KvNormBwdIdeal.main_arg1)
          ∧ r.2.mem ((c.tc : Thread Cert.KvNormBwdIdeal.nD Cert.KvNormBwdIdeal.τ).loc Cert.KvNormBwdIdeal.main_arg2) = m ((c.tc : Thread Cert.KvNormBwdIdeal.nD Cert.KvNormBwdIdeal.τ).loc Cert.KvNormBwdIdeal.main_arg2)
          ∧ r.2.mem ((c.tc : Thread Cert.KvNormBwdIdeal.nD Cert.KvNormBwdIdeal.τ).loc Cert.KvNormBwdIdeal.main_arg3) = m ((c.tc : Thread Cert.KvNormBwdIdeal.nD Cert.KvNormBwdIdeal.τ).loc Cert.KvNormBwdIdeal.main_arg3)
          ∧ r.2.mem ((c.tc : Thread Cert.KvNormBwdIdeal.nD Cert.KvNormBwdIdeal.τ).loc Cert.KvNormBwdIdeal.main_arg4) = m ((c.tc : Thread Cert.KvNormBwdIdeal.nD Cert.KvNormBwdIdeal.τ).loc Cert.KvNormBwdIdeal.main_arg4))
      ∧ θ_run (Cert.KvNormBwdReferenceIdeal.defs (F := Ideal)) (onTc (τ := Cert.KvNormBwdReferenceIdeal.τ) (Cert.KvNormBwdReferenceIdeal.main (F := Ideal))) ⟨m', fun _ => 0, g'⟩ (fun r => ∀ c : Dev Cert.KvNormBwdReferenceIdeal.nD,
          r.2.mem ((c.tc : Thread Cert.KvNormBwdReferenceIdeal.nD Cert.KvNormBwdReferenceIdeal.τ).loc Cert.KvNormBwdReferenceIdeal.main_v40) = v0 c
          ∧ r.2.mem ((c.tc : Thread Cert.KvNormBwdReferenceIdeal.nD Cert.KvNormBwdReferenceIdeal.τ).loc Cert.KvNormBwdReferenceIdeal.main_v41) = v1 c
          ∧ r.2.mem ((c.tc : Thread Cert.KvNormBwdReferenceIdeal.nD Cert.KvNormBwdReferenceIdeal.τ).loc Cert.KvNormBwdReferenceIdeal.main_v42) = v2 c
          ∧ r.2.mem ((c.tc : Thread Cert.KvNormBwdReferenceIdeal.nD Cert.KvNormBwdReferenceIdeal.τ).loc Cert.KvNormBwdReferenceIdeal.main_arg0) = m' ((c.tc : Thread Cert.KvNormBwdReferenceIdeal.nD Cert.KvNormBwdReferenceIdeal.τ).loc Cert.KvNormBwdReferenceIdeal.main_arg0)
          ∧ r.2.mem ((c.tc : Thread Cert.KvNormBwdReferenceIdeal.nD Cert.KvNormBwdReferenceIdeal.τ).loc Cert.KvNormBwdReferenceIdeal.main_arg1) = m' ((c.tc : Thread Cert.KvNormBwdReferenceIdeal.nD Cert.KvNormBwdReferenceIdeal.τ).loc Cert.KvNormBwdReferenceIdeal.main_arg1)
          ∧ r.2.mem ((c.tc : Thread Cert.KvNormBwdReferenceIdeal.nD Cert.KvNormBwdReferenceIdeal.τ).loc Cert.KvNormBwdReferenceIdeal.main_arg2) = m' ((c.tc : Thread Cert.KvNormBwdReferenceIdeal.nD Cert.KvNormBwdReferenceIdeal.τ).loc Cert.KvNormBwdReferenceIdeal.main_arg2)
          ∧ r.2.mem ((c.tc : Thread Cert.KvNormBwdReferenceIdeal.nD Cert.KvNormBwdReferenceIdeal.τ).loc Cert.KvNormBwdReferenceIdeal.main_arg3) = m' ((c.tc : Thread Cert.KvNormBwdReferenceIdeal.nD Cert.KvNormBwdReferenceIdeal.τ).loc Cert.KvNormBwdReferenceIdeal.main_arg3)
          ∧ r.2.mem ((c.tc : Thread Cert.KvNormBwdReferenceIdeal.nD Cert.KvNormBwdReferenceIdeal.τ).loc Cert.KvNormBwdReferenceIdeal.main_arg4) = m' ((c.tc : Thread Cert.KvNormBwdReferenceIdeal.nD Cert.KvNormBwdReferenceIdeal.τ).loc Cert.KvNormBwdReferenceIdeal.main_arg4))

def preserves_SsmNormBwd_SsmNormBwdIdeal : Prop :=
  True

def algebraic_SsmNormBwdIdeal_SsmNormBwdReferenceIdeal [hSsmNormBwdIdeal : Cert.SsmNormBwdIdeal.Facts] [hSsmNormBwdReferenceIdeal : Cert.SsmNormBwdReferenceIdeal.Facts] : Prop :=
  ∀ (m : (ℓ : Loc Cert.SsmNormBwdIdeal.nD Cert.SsmNormBwdIdeal.τ Cert.SsmNormBwdIdeal.sig) → Buf (Elt Ideal) ℓ) (g : Dev Cert.SsmNormBwdIdeal.nD → PrngReg)
    (m' : (ℓ : Loc Cert.SsmNormBwdReferenceIdeal.nD Cert.SsmNormBwdReferenceIdeal.τ Cert.SsmNormBwdReferenceIdeal.sig) → Buf (Elt Ideal) ℓ) (g' : Dev Cert.SsmNormBwdReferenceIdeal.nD → PrngReg), Pre_SsmNormBwdIdeal m →
    (∀ c : Dev Cert.SsmNormBwdIdeal.nD,
      m' ((c.tc : Thread Cert.SsmNormBwdReferenceIdeal.nD Cert.SsmNormBwdReferenceIdeal.τ).loc Cert.SsmNormBwdReferenceIdeal.main_arg0) = m ((c.tc : Thread Cert.SsmNormBwdIdeal.nD Cert.SsmNormBwdIdeal.τ).loc Cert.SsmNormBwdIdeal.main_arg0)
      ∧ m' ((c.tc : Thread Cert.SsmNormBwdReferenceIdeal.nD Cert.SsmNormBwdReferenceIdeal.τ).loc Cert.SsmNormBwdReferenceIdeal.main_arg1) = m ((c.tc : Thread Cert.SsmNormBwdIdeal.nD Cert.SsmNormBwdIdeal.τ).loc Cert.SsmNormBwdIdeal.main_arg1)
      ∧ m' ((c.tc : Thread Cert.SsmNormBwdReferenceIdeal.nD Cert.SsmNormBwdReferenceIdeal.τ).loc Cert.SsmNormBwdReferenceIdeal.main_arg2) = m ((c.tc : Thread Cert.SsmNormBwdIdeal.nD Cert.SsmNormBwdIdeal.τ).loc Cert.SsmNormBwdIdeal.main_arg2)
      ∧ m' ((c.tc : Thread Cert.SsmNormBwdReferenceIdeal.nD Cert.SsmNormBwdReferenceIdeal.τ).loc Cert.SsmNormBwdReferenceIdeal.main_arg3) = m ((c.tc : Thread Cert.SsmNormBwdIdeal.nD Cert.SsmNormBwdIdeal.τ).loc Cert.SsmNormBwdIdeal.main_arg3)
      ∧ m' ((c.tc : Thread Cert.SsmNormBwdReferenceIdeal.nD Cert.SsmNormBwdReferenceIdeal.τ).loc Cert.SsmNormBwdReferenceIdeal.main_arg4) = m ((c.tc : Thread Cert.SsmNormBwdIdeal.nD Cert.SsmNormBwdIdeal.τ).loc Cert.SsmNormBwdIdeal.main_arg4)
      ∧ m' ((c.tc : Thread Cert.SsmNormBwdReferenceIdeal.nD Cert.SsmNormBwdReferenceIdeal.τ).loc Cert.SsmNormBwdReferenceIdeal.main_arg5) = m ((c.tc : Thread Cert.SsmNormBwdIdeal.nD Cert.SsmNormBwdIdeal.τ).loc Cert.SsmNormBwdIdeal.main_arg5)) →
    ∃ (v0 : (c : Dev Cert.SsmNormBwdIdeal.nD) → Buf (Elt Ideal) ((c.tc : Thread Cert.SsmNormBwdIdeal.nD Cert.SsmNormBwdIdeal.τ).loc Cert.SsmNormBwdIdeal.main_v2_0)) (v1 : (c : Dev Cert.SsmNormBwdIdeal.nD) → Buf (Elt Ideal) ((c.tc : Thread Cert.SsmNormBwdIdeal.nD Cert.SsmNormBwdIdeal.τ).loc Cert.SsmNormBwdIdeal.main_v2_1)) (v2 : (c : Dev Cert.SsmNormBwdIdeal.nD) → Buf (Elt Ideal) ((c.tc : Thread Cert.SsmNormBwdIdeal.nD Cert.SsmNormBwdIdeal.τ).loc Cert.SsmNormBwdIdeal.main_v2_2)),
      θ_run (Cert.SsmNormBwdIdeal.defs (F := Ideal)) (onTc (τ := Cert.SsmNormBwdIdeal.τ) (Cert.SsmNormBwdIdeal.main (F := Ideal))) ⟨m, fun _ => 0, g⟩ (fun r => ∀ c : Dev Cert.SsmNormBwdIdeal.nD,
          r.2.mem ((c.tc : Thread Cert.SsmNormBwdIdeal.nD Cert.SsmNormBwdIdeal.τ).loc Cert.SsmNormBwdIdeal.main_v2_0) = v0 c
          ∧ r.2.mem ((c.tc : Thread Cert.SsmNormBwdIdeal.nD Cert.SsmNormBwdIdeal.τ).loc Cert.SsmNormBwdIdeal.main_v2_1) = v1 c
          ∧ r.2.mem ((c.tc : Thread Cert.SsmNormBwdIdeal.nD Cert.SsmNormBwdIdeal.τ).loc Cert.SsmNormBwdIdeal.main_v2_2) = v2 c
          ∧ r.2.mem ((c.tc : Thread Cert.SsmNormBwdIdeal.nD Cert.SsmNormBwdIdeal.τ).loc Cert.SsmNormBwdIdeal.main_arg0) = m ((c.tc : Thread Cert.SsmNormBwdIdeal.nD Cert.SsmNormBwdIdeal.τ).loc Cert.SsmNormBwdIdeal.main_arg0)
          ∧ r.2.mem ((c.tc : Thread Cert.SsmNormBwdIdeal.nD Cert.SsmNormBwdIdeal.τ).loc Cert.SsmNormBwdIdeal.main_arg1) = m ((c.tc : Thread Cert.SsmNormBwdIdeal.nD Cert.SsmNormBwdIdeal.τ).loc Cert.SsmNormBwdIdeal.main_arg1)
          ∧ r.2.mem ((c.tc : Thread Cert.SsmNormBwdIdeal.nD Cert.SsmNormBwdIdeal.τ).loc Cert.SsmNormBwdIdeal.main_arg2) = m ((c.tc : Thread Cert.SsmNormBwdIdeal.nD Cert.SsmNormBwdIdeal.τ).loc Cert.SsmNormBwdIdeal.main_arg2)
          ∧ r.2.mem ((c.tc : Thread Cert.SsmNormBwdIdeal.nD Cert.SsmNormBwdIdeal.τ).loc Cert.SsmNormBwdIdeal.main_arg3) = m ((c.tc : Thread Cert.SsmNormBwdIdeal.nD Cert.SsmNormBwdIdeal.τ).loc Cert.SsmNormBwdIdeal.main_arg3)
          ∧ r.2.mem ((c.tc : Thread Cert.SsmNormBwdIdeal.nD Cert.SsmNormBwdIdeal.τ).loc Cert.SsmNormBwdIdeal.main_arg4) = m ((c.tc : Thread Cert.SsmNormBwdIdeal.nD Cert.SsmNormBwdIdeal.τ).loc Cert.SsmNormBwdIdeal.main_arg4)
          ∧ r.2.mem ((c.tc : Thread Cert.SsmNormBwdIdeal.nD Cert.SsmNormBwdIdeal.τ).loc Cert.SsmNormBwdIdeal.main_arg5) = m ((c.tc : Thread Cert.SsmNormBwdIdeal.nD Cert.SsmNormBwdIdeal.τ).loc Cert.SsmNormBwdIdeal.main_arg5))
      ∧ θ_run (Cert.SsmNormBwdReferenceIdeal.defs (F := Ideal)) (onTc (τ := Cert.SsmNormBwdReferenceIdeal.τ) (Cert.SsmNormBwdReferenceIdeal.main (F := Ideal))) ⟨m', fun _ => 0, g'⟩ (fun r => ∀ c : Dev Cert.SsmNormBwdReferenceIdeal.nD,
          r.2.mem ((c.tc : Thread Cert.SsmNormBwdReferenceIdeal.nD Cert.SsmNormBwdReferenceIdeal.τ).loc Cert.SsmNormBwdReferenceIdeal.main_v43) = v0 c
          ∧ r.2.mem ((c.tc : Thread Cert.SsmNormBwdReferenceIdeal.nD Cert.SsmNormBwdReferenceIdeal.τ).loc Cert.SsmNormBwdReferenceIdeal.main_v44) = v1 c
          ∧ r.2.mem ((c.tc : Thread Cert.SsmNormBwdReferenceIdeal.nD Cert.SsmNormBwdReferenceIdeal.τ).loc Cert.SsmNormBwdReferenceIdeal.main_v45) = v2 c
          ∧ r.2.mem ((c.tc : Thread Cert.SsmNormBwdReferenceIdeal.nD Cert.SsmNormBwdReferenceIdeal.τ).loc Cert.SsmNormBwdReferenceIdeal.main_arg0) = m' ((c.tc : Thread Cert.SsmNormBwdReferenceIdeal.nD Cert.SsmNormBwdReferenceIdeal.τ).loc Cert.SsmNormBwdReferenceIdeal.main_arg0)
          ∧ r.2.mem ((c.tc : Thread Cert.SsmNormBwdReferenceIdeal.nD Cert.SsmNormBwdReferenceIdeal.τ).loc Cert.SsmNormBwdReferenceIdeal.main_arg1) = m' ((c.tc : Thread Cert.SsmNormBwdReferenceIdeal.nD Cert.SsmNormBwdReferenceIdeal.τ).loc Cert.SsmNormBwdReferenceIdeal.main_arg1)
          ∧ r.2.mem ((c.tc : Thread Cert.SsmNormBwdReferenceIdeal.nD Cert.SsmNormBwdReferenceIdeal.τ).loc Cert.SsmNormBwdReferenceIdeal.main_arg2) = m' ((c.tc : Thread Cert.SsmNormBwdReferenceIdeal.nD Cert.SsmNormBwdReferenceIdeal.τ).loc Cert.SsmNormBwdReferenceIdeal.main_arg2)
          ∧ r.2.mem ((c.tc : Thread Cert.SsmNormBwdReferenceIdeal.nD Cert.SsmNormBwdReferenceIdeal.τ).loc Cert.SsmNormBwdReferenceIdeal.main_arg3) = m' ((c.tc : Thread Cert.SsmNormBwdReferenceIdeal.nD Cert.SsmNormBwdReferenceIdeal.τ).loc Cert.SsmNormBwdReferenceIdeal.main_arg3)
          ∧ r.2.mem ((c.tc : Thread Cert.SsmNormBwdReferenceIdeal.nD Cert.SsmNormBwdReferenceIdeal.τ).loc Cert.SsmNormBwdReferenceIdeal.main_arg4) = m' ((c.tc : Thread Cert.SsmNormBwdReferenceIdeal.nD Cert.SsmNormBwdReferenceIdeal.τ).loc Cert.SsmNormBwdReferenceIdeal.main_arg4)
          ∧ r.2.mem ((c.tc : Thread Cert.SsmNormBwdReferenceIdeal.nD Cert.SsmNormBwdReferenceIdeal.τ).loc Cert.SsmNormBwdReferenceIdeal.main_arg5) = m' ((c.tc : Thread Cert.SsmNormBwdReferenceIdeal.nD Cert.SsmNormBwdReferenceIdeal.τ).loc Cert.SsmNormBwdReferenceIdeal.main_arg5))

def preserves_PleBwd_PleBwdIdeal : Prop :=
  True

def algebraic_PleBwdIdeal_PleBwdReferenceIdeal [hPleBwdIdeal : Cert.PleBwdIdeal.Facts] [hPleBwdReferenceIdeal : Cert.PleBwdReferenceIdeal.Facts] : Prop :=
  ∀ (m : (ℓ : Loc Cert.PleBwdIdeal.nD Cert.PleBwdIdeal.τ Cert.PleBwdIdeal.sig) → Buf (Elt Ideal) ℓ) (g : Dev Cert.PleBwdIdeal.nD → PrngReg)
    (m' : (ℓ : Loc Cert.PleBwdReferenceIdeal.nD Cert.PleBwdReferenceIdeal.τ Cert.PleBwdReferenceIdeal.sig) → Buf (Elt Ideal) ℓ) (g' : Dev Cert.PleBwdReferenceIdeal.nD → PrngReg), Pre_PleBwdIdeal m →
    (∀ c : Dev Cert.PleBwdIdeal.nD,
      m' ((c.tc : Thread Cert.PleBwdReferenceIdeal.nD Cert.PleBwdReferenceIdeal.τ).loc Cert.PleBwdReferenceIdeal.main_arg0) = m ((c.tc : Thread Cert.PleBwdIdeal.nD Cert.PleBwdIdeal.τ).loc Cert.PleBwdIdeal.main_arg0)
      ∧ m' ((c.tc : Thread Cert.PleBwdReferenceIdeal.nD Cert.PleBwdReferenceIdeal.τ).loc Cert.PleBwdReferenceIdeal.main_arg1) = m ((c.tc : Thread Cert.PleBwdIdeal.nD Cert.PleBwdIdeal.τ).loc Cert.PleBwdIdeal.main_arg1)
      ∧ m' ((c.tc : Thread Cert.PleBwdReferenceIdeal.nD Cert.PleBwdReferenceIdeal.τ).loc Cert.PleBwdReferenceIdeal.main_arg2) = m ((c.tc : Thread Cert.PleBwdIdeal.nD Cert.PleBwdIdeal.τ).loc Cert.PleBwdIdeal.main_arg2)) →
    ∃ (v0 : (c : Dev Cert.PleBwdIdeal.nD) → Buf (Elt Ideal) ((c.tc : Thread Cert.PleBwdIdeal.nD Cert.PleBwdIdeal.τ).loc Cert.PleBwdIdeal.main_v0_0)) (v1 : (c : Dev Cert.PleBwdIdeal.nD) → Buf (Elt Ideal) ((c.tc : Thread Cert.PleBwdIdeal.nD Cert.PleBwdIdeal.τ).loc Cert.PleBwdIdeal.main_v0_1)),
      θ_run (Cert.PleBwdIdeal.defs (F := Ideal)) (onTc (τ := Cert.PleBwdIdeal.τ) (Cert.PleBwdIdeal.main (F := Ideal))) ⟨m, fun _ => 0, g⟩ (fun r => ∀ c : Dev Cert.PleBwdIdeal.nD,
          r.2.mem ((c.tc : Thread Cert.PleBwdIdeal.nD Cert.PleBwdIdeal.τ).loc Cert.PleBwdIdeal.main_v0_0) = v0 c
          ∧ r.2.mem ((c.tc : Thread Cert.PleBwdIdeal.nD Cert.PleBwdIdeal.τ).loc Cert.PleBwdIdeal.main_v0_1) = v1 c
          ∧ r.2.mem ((c.tc : Thread Cert.PleBwdIdeal.nD Cert.PleBwdIdeal.τ).loc Cert.PleBwdIdeal.main_arg0) = m ((c.tc : Thread Cert.PleBwdIdeal.nD Cert.PleBwdIdeal.τ).loc Cert.PleBwdIdeal.main_arg0)
          ∧ r.2.mem ((c.tc : Thread Cert.PleBwdIdeal.nD Cert.PleBwdIdeal.τ).loc Cert.PleBwdIdeal.main_arg1) = m ((c.tc : Thread Cert.PleBwdIdeal.nD Cert.PleBwdIdeal.τ).loc Cert.PleBwdIdeal.main_arg1)
          ∧ r.2.mem ((c.tc : Thread Cert.PleBwdIdeal.nD Cert.PleBwdIdeal.τ).loc Cert.PleBwdIdeal.main_arg2) = m ((c.tc : Thread Cert.PleBwdIdeal.nD Cert.PleBwdIdeal.τ).loc Cert.PleBwdIdeal.main_arg2))
      ∧ θ_run (Cert.PleBwdReferenceIdeal.defs (F := Ideal)) (onTc (τ := Cert.PleBwdReferenceIdeal.τ) (Cert.PleBwdReferenceIdeal.main (F := Ideal))) ⟨m', fun _ => 0, g'⟩ (fun r => ∀ c : Dev Cert.PleBwdReferenceIdeal.nD,
          r.2.mem ((c.tc : Thread Cert.PleBwdReferenceIdeal.nD Cert.PleBwdReferenceIdeal.τ).loc Cert.PleBwdReferenceIdeal.main_v13) = v0 c
          ∧ r.2.mem ((c.tc : Thread Cert.PleBwdReferenceIdeal.nD Cert.PleBwdReferenceIdeal.τ).loc Cert.PleBwdReferenceIdeal.main_v14) = v1 c
          ∧ r.2.mem ((c.tc : Thread Cert.PleBwdReferenceIdeal.nD Cert.PleBwdReferenceIdeal.τ).loc Cert.PleBwdReferenceIdeal.main_arg0) = m' ((c.tc : Thread Cert.PleBwdReferenceIdeal.nD Cert.PleBwdReferenceIdeal.τ).loc Cert.PleBwdReferenceIdeal.main_arg0)
          ∧ r.2.mem ((c.tc : Thread Cert.PleBwdReferenceIdeal.nD Cert.PleBwdReferenceIdeal.τ).loc Cert.PleBwdReferenceIdeal.main_arg1) = m' ((c.tc : Thread Cert.PleBwdReferenceIdeal.nD Cert.PleBwdReferenceIdeal.τ).loc Cert.PleBwdReferenceIdeal.main_arg1)
          ∧ r.2.mem ((c.tc : Thread Cert.PleBwdReferenceIdeal.nD Cert.PleBwdReferenceIdeal.τ).loc Cert.PleBwdReferenceIdeal.main_arg2) = m' ((c.tc : Thread Cert.PleBwdReferenceIdeal.nD Cert.PleBwdReferenceIdeal.τ).loc Cert.PleBwdReferenceIdeal.main_arg2))

def preserves_Ple_PleIdeal : Prop :=
  True

def algebraic_PleIdeal_PleReferenceIdeal [hPleIdeal : Cert.PleIdeal.Facts] [hPleReferenceIdeal : Cert.PleReferenceIdeal.Facts] : Prop :=
  ∀ (m : (ℓ : Loc Cert.PleIdeal.nD Cert.PleIdeal.τ Cert.PleIdeal.sig) → Buf (Elt Ideal) ℓ) (g : Dev Cert.PleIdeal.nD → PrngReg)
    (m' : (ℓ : Loc Cert.PleReferenceIdeal.nD Cert.PleReferenceIdeal.τ Cert.PleReferenceIdeal.sig) → Buf (Elt Ideal) ℓ) (g' : Dev Cert.PleReferenceIdeal.nD → PrngReg), Pre_PleIdeal m →
    (∀ c : Dev Cert.PleIdeal.nD,
      m' ((c.tc : Thread Cert.PleReferenceIdeal.nD Cert.PleReferenceIdeal.τ).loc Cert.PleReferenceIdeal.main_arg0) = m ((c.tc : Thread Cert.PleIdeal.nD Cert.PleIdeal.τ).loc Cert.PleIdeal.main_arg0)
      ∧ m' ((c.tc : Thread Cert.PleReferenceIdeal.nD Cert.PleReferenceIdeal.τ).loc Cert.PleReferenceIdeal.main_arg1) = m ((c.tc : Thread Cert.PleIdeal.nD Cert.PleIdeal.τ).loc Cert.PleIdeal.main_arg1)
      ∧ m' ((c.tc : Thread Cert.PleReferenceIdeal.nD Cert.PleReferenceIdeal.τ).loc Cert.PleReferenceIdeal.main_arg2) = m ((c.tc : Thread Cert.PleIdeal.nD Cert.PleIdeal.τ).loc Cert.PleIdeal.main_arg2)) →
    ∃ (v0 : (c : Dev Cert.PleIdeal.nD) → Buf (Elt Ideal) ((c.tc : Thread Cert.PleIdeal.nD Cert.PleIdeal.τ).loc Cert.PleIdeal.main_v0)),
      θ_run (Cert.PleIdeal.defs (F := Ideal)) (onTc (τ := Cert.PleIdeal.τ) (Cert.PleIdeal.main (F := Ideal))) ⟨m, fun _ => 0, g⟩ (fun r => ∀ c : Dev Cert.PleIdeal.nD,
          r.2.mem ((c.tc : Thread Cert.PleIdeal.nD Cert.PleIdeal.τ).loc Cert.PleIdeal.main_v0) = v0 c
          ∧ r.2.mem ((c.tc : Thread Cert.PleIdeal.nD Cert.PleIdeal.τ).loc Cert.PleIdeal.main_arg0) = m ((c.tc : Thread Cert.PleIdeal.nD Cert.PleIdeal.τ).loc Cert.PleIdeal.main_arg0)
          ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
          ∧ r.2.mem ((c.tc : Thread Cert.PleIdeal.nD Cert.PleIdeal.τ).loc Cert.PleIdeal.main_arg2) = m ((c.tc : Thread Cert.PleIdeal.nD Cert.PleIdeal.τ).loc Cert.PleIdeal.main_arg2))
      ∧ θ_run (Cert.PleReferenceIdeal.defs (F := Ideal)) (onTc (τ := Cert.PleReferenceIdeal.τ) (Cert.PleReferenceIdeal.main (F := Ideal))) ⟨m', fun _ => 0, g'⟩ (fun r => ∀ c : Dev Cert.PleReferenceIdeal.nD,
          r.2.mem ((c.tc : Thread Cert.PleReferenceIdeal.nD Cert.PleReferenceIdeal.τ).loc Cert.PleReferenceIdeal.main_v7) = v0 c
          ∧ r.2.mem ((c.tc : Thread Cert.PleReferenceIdeal.nD Cert.PleReferenceIdeal.τ).loc Cert.PleReferenceIdeal.main_arg0) = m' ((c.tc : Thread Cert.PleReferenceIdeal.nD Cert.PleReferenceIdeal.τ).loc Cert.PleReferenceIdeal.main_arg0)
          ∧ r.2.mem ((c.tc : Thread Cert.PleReferenceIdeal.nD Cert.PleReferenceIdeal.τ).loc Cert.PleReferenceIdeal.main_arg1) = m' ((c.tc : Thread Cert.PleReferenceIdeal.nD Cert.PleReferenceIdeal.τ).loc Cert.PleReferenceIdeal.main_arg1)
          ∧ r.2.mem ((c.tc : Thread Cert.PleReferenceIdeal.nD Cert.PleReferenceIdeal.τ).loc Cert.PleReferenceIdeal.main_arg2) = m' ((c.tc : Thread Cert.PleReferenceIdeal.nD Cert.PleReferenceIdeal.τ).loc Cert.PleReferenceIdeal.main_arg2))

def preserves_Norm_NormIdeal : Prop :=
  True

def algebraic_NormIdeal_NormReferenceIdeal [hNormIdeal : Cert.NormIdeal.Facts] [hNormReferenceIdeal : Cert.NormReferenceIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormReferenceIdeal.nD Cert.NormReferenceIdeal.τ Cert.NormReferenceIdeal.sig) → Buf (Elt Ideal) ℓ) (g' : Dev Cert.NormReferenceIdeal.nD → PrngReg), Pre_NormIdeal m →
    (∀ c : Dev Cert.NormIdeal.nD,
      m' ((c.tc : Thread Cert.NormReferenceIdeal.nD Cert.NormReferenceIdeal.τ).loc Cert.NormReferenceIdeal.main_arg0) = m ((c.tc : Thread Cert.NormIdeal.nD Cert.NormIdeal.τ).loc Cert.NormIdeal.main_arg0)
      ∧ m' ((c.tc : Thread Cert.NormReferenceIdeal.nD Cert.NormReferenceIdeal.τ).loc Cert.NormReferenceIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v1) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormReferenceIdeal.defs (F := Ideal)) (onTc (τ := Cert.NormReferenceIdeal.τ) (Cert.NormReferenceIdeal.main (F := Ideal))) ⟨m', fun _ => 0, g'⟩ (fun r => ∀ c : Dev Cert.NormReferenceIdeal.nD,
          r.2.mem ((c.tc : Thread Cert.NormReferenceIdeal.nD Cert.NormReferenceIdeal.τ).loc Cert.NormReferenceIdeal.main_v13) = v0 c
          ∧ r.2.mem ((c.tc : Thread Cert.NormReferenceIdeal.nD Cert.NormReferenceIdeal.τ).loc Cert.NormReferenceIdeal.main_arg0) = m' ((c.tc : Thread Cert.NormReferenceIdeal.nD Cert.NormReferenceIdeal.τ).loc Cert.NormReferenceIdeal.main_arg0)
          ∧ r.2.mem ((c.tc : Thread Cert.NormReferenceIdeal.nD Cert.NormReferenceIdeal.τ).loc Cert.NormReferenceIdeal.main_arg1) = m' ((c.tc : Thread Cert.NormReferenceIdeal.nD Cert.NormReferenceIdeal.τ).loc Cert.NormReferenceIdeal.main_arg1))

def Claim : Prop :=
  ∃ (hKernel : Cert.Kernel.Facts) (hKernelIdeal : Cert.KernelIdeal.Facts) (hReferenceIdeal : Cert.ReferenceIdeal.Facts) (hDownDw : Cert.DownDw.Facts) (hDownDwIdeal : Cert.DownDwIdeal.Facts) (hDownDwReferenceIdeal : Cert.DownDwReferenceIdeal.Facts) (hDownDx : Cert.DownDx.Facts) (hDownDxIdeal : Cert.DownDxIdeal.Facts) (hDownDxReferenceIdeal : Cert.DownDxReferenceIdeal.Facts) (hUpDw : Cert.UpDw.Facts) (hUpDwIdeal : Cert.UpDwIdeal.Facts) (hUpDwReferenceIdeal : Cert.UpDwReferenceIdeal.Facts) (hUpDx : Cert.UpDx.Facts) (hUpDxIdeal : Cert.UpDxIdeal.Facts) (hUpDxReferenceIdeal : Cert.UpDxReferenceIdeal.Facts) (hUp : Cert.Up.Facts) (hUpIdeal : Cert.UpIdeal.Facts) (hUpReferenceIdeal : Cert.UpReferenceIdeal.Facts) (hDown : Cert.Down.Facts) (hDownIdeal : Cert.DownIdeal.Facts) (hDownReferenceIdeal : Cert.DownReferenceIdeal.Facts) (hSquareDw : Cert.SquareDw.Facts) (hSquareDwIdeal : Cert.SquareDwIdeal.Facts) (hSquareDwReferenceIdeal : Cert.SquareDwReferenceIdeal.Facts) (hKvDw : Cert.KvDw.Facts) (hKvDwIdeal : Cert.KvDwIdeal.Facts) (hKvDwReferenceIdeal : Cert.KvDwReferenceIdeal.Facts) (hPleProjDw : Cert.PleProjDw.Facts) (hPleProjDwIdeal : Cert.PleProjDwIdeal.Facts) (hPleProjDwReferenceIdeal : Cert.PleProjDwReferenceIdeal.Facts) (hAttnOutDx : Cert.AttnOutDx.Facts) (hAttnOutDxIdeal : Cert.AttnOutDxIdeal.Facts) (hAttnOutDxReferenceIdeal : Cert.AttnOutDxReferenceIdeal.Facts) (hSsmOutDw : Cert.SsmOutDw.Facts) (hSsmOutDwIdeal : Cert.SsmOutDwIdeal.Facts) (hSsmOutDwReferenceIdeal : Cert.SsmOutDwReferenceIdeal.Facts) (hSsmOutDx : Cert.SsmOutDx.Facts) (hSsmOutDxIdeal : Cert.SsmOutDxIdeal.Facts) (hSsmOutDxReferenceIdeal : Cert.SsmOutDxReferenceIdeal.Facts) (hSsmZDw : Cert.SsmZDw.Facts) (hSsmZDwIdeal : Cert.SsmZDwIdeal.Facts) (hSsmZDwReferenceIdeal : Cert.SsmZDwReferenceIdeal.Facts) (hSsmZDx : Cert.SsmZDx.Facts) (hSsmZDxIdeal : Cert.SsmZDxIdeal.Facts) (hSsmZDxReferenceIdeal : Cert.SsmZDxReferenceIdeal.Facts) (hSsmDtDw : Cert.SsmDtDw.Facts) (hSsmDtDwIdeal : Cert.SsmDtDwIdeal.Facts) (hSsmDtDwReferenceIdeal : Cert.SsmDtDwReferenceIdeal.Facts) (hSsmDtDx : Cert.SsmDtDx.Facts) (hSsmDtDxIdeal : Cert.SsmDtDxIdeal.Facts) (hSsmDtDxReferenceIdeal : Cert.SsmDtDxReferenceIdeal.Facts) (hSsmXbcDw : Cert.SsmXbcDw.Facts) (hSsmXbcDwIdeal : Cert.SsmXbcDwIdeal.Facts) (hSsmXbcDwReferenceIdeal : Cert.SsmXbcDwReferenceIdeal.Facts) (hSsmOut : Cert.SsmOut.Facts) (hSsmOutIdeal : Cert.SsmOutIdeal.Facts) (hSsmOutReferenceIdeal : Cert.SsmOutReferenceIdeal.Facts) (hAttnQ : Cert.AttnQ.Facts) (hAttnQIdeal : Cert.AttnQIdeal.Facts) (hAttnQReferenceIdeal : Cert.AttnQReferenceIdeal.Facts) (hAttnOut : Cert.AttnOut.Facts) (hAttnOutIdeal : Cert.AttnOutIdeal.Facts) (hAttnOutReferenceIdeal : Cert.AttnOutReferenceIdeal.Facts) (hKv : Cert.Kv.Facts) (hKvIdeal : Cert.KvIdeal.Facts) (hKvReferenceIdeal : Cert.KvReferenceIdeal.Facts) (hPleGate : Cert.PleGate.Facts) (hPleGateIdeal : Cert.PleGateIdeal.Facts) (hPleGateReferenceIdeal : Cert.PleGateReferenceIdeal.Facts) (hPleProj : Cert.PleProj.Facts) (hPleProjIdeal : Cert.PleProjIdeal.Facts) (hPleProjReferenceIdeal : Cert.PleProjReferenceIdeal.Facts) (hFfnNormBwd : Cert.FfnNormBwd.Facts) (hFfnNormBwdIdeal : Cert.FfnNormBwdIdeal.Facts) (hFfnNormBwdReferenceIdeal : Cert.FfnNormBwdReferenceIdeal.Facts) (hGateNormBwd : Cert.GateNormBwd.Facts) (hGateNormBwdIdeal : Cert.GateNormBwdIdeal.Facts) (hGateNormBwdReferenceIdeal : Cert.GateNormBwdReferenceIdeal.Facts) (hKvNormBwd : Cert.KvNormBwd.Facts) (hKvNormBwdIdeal : Cert.KvNormBwdIdeal.Facts) (hKvNormBwdReferenceIdeal : Cert.KvNormBwdReferenceIdeal.Facts) (hSsmNormBwd : Cert.SsmNormBwd.Facts) (hSsmNormBwdIdeal : Cert.SsmNormBwdIdeal.Facts) (hSsmNormBwdReferenceIdeal : Cert.SsmNormBwdReferenceIdeal.Facts) (hPleBwd : Cert.PleBwd.Facts) (hPleBwdIdeal : Cert.PleBwdIdeal.Facts) (hPleBwdReferenceIdeal : Cert.PleBwdReferenceIdeal.Facts) (hPle : Cert.Ple.Facts) (hPleIdeal : Cert.PleIdeal.Facts) (hPleReferenceIdeal : Cert.PleReferenceIdeal.Facts) (hNorm : Cert.Norm.Facts) (hNormIdeal : Cert.NormIdeal.Facts) (hNormReferenceIdeal : Cert.NormReferenceIdeal.Facts) (hPre_finite_args : Cert.Pre_finite_args.Facts),
    quiescent_Kernel (hKernel := hKernel)
    ∧ quiescent_KernelIdeal (hKernelIdeal := hKernelIdeal)
    ∧ quiescent_KernelIdeal_pre_finite_args (hKernelIdeal := hKernelIdeal) (hPre_finite_args := hPre_finite_args)
    ∧ quiescent_ReferenceIdeal (hReferenceIdeal := hReferenceIdeal)
    ∧ quiescent_ReferenceIdeal_pre_finite_args (hReferenceIdeal := hReferenceIdeal) (hPre_finite_args := hPre_finite_args)
    ∧ quiescent_DownDw (hDownDw := hDownDw)
    ∧ quiescent_DownDwIdeal (hDownDwIdeal := hDownDwIdeal)
    ∧ quiescent_DownDwReferenceIdeal (hDownDwReferenceIdeal := hDownDwReferenceIdeal)
    ∧ quiescent_DownDx (hDownDx := hDownDx)
    ∧ quiescent_DownDxIdeal (hDownDxIdeal := hDownDxIdeal)
    ∧ quiescent_DownDxReferenceIdeal (hDownDxReferenceIdeal := hDownDxReferenceIdeal)
    ∧ quiescent_UpDw (hUpDw := hUpDw)
    ∧ quiescent_UpDwIdeal (hUpDwIdeal := hUpDwIdeal)
    ∧ quiescent_UpDwReferenceIdeal (hUpDwReferenceIdeal := hUpDwReferenceIdeal)
    ∧ quiescent_UpDx (hUpDx := hUpDx)
    ∧ quiescent_UpDxIdeal (hUpDxIdeal := hUpDxIdeal)
    ∧ quiescent_UpDxReferenceIdeal (hUpDxReferenceIdeal := hUpDxReferenceIdeal)
    ∧ quiescent_Up (hUp := hUp)
    ∧ quiescent_UpIdeal (hUpIdeal := hUpIdeal)
    ∧ quiescent_UpReferenceIdeal (hUpReferenceIdeal := hUpReferenceIdeal)
    ∧ quiescent_Down (hDown := hDown)
    ∧ quiescent_DownIdeal (hDownIdeal := hDownIdeal)
    ∧ quiescent_DownReferenceIdeal (hDownReferenceIdeal := hDownReferenceIdeal)
    ∧ quiescent_SquareDw (hSquareDw := hSquareDw)
    ∧ quiescent_SquareDwIdeal (hSquareDwIdeal := hSquareDwIdeal)
    ∧ quiescent_SquareDwReferenceIdeal (hSquareDwReferenceIdeal := hSquareDwReferenceIdeal)
    ∧ quiescent_KvDw (hKvDw := hKvDw)
    ∧ quiescent_KvDwIdeal (hKvDwIdeal := hKvDwIdeal)
    ∧ quiescent_KvDwReferenceIdeal (hKvDwReferenceIdeal := hKvDwReferenceIdeal)
    ∧ quiescent_PleProjDw (hPleProjDw := hPleProjDw)
    ∧ quiescent_PleProjDwIdeal (hPleProjDwIdeal := hPleProjDwIdeal)
    ∧ quiescent_PleProjDwReferenceIdeal (hPleProjDwReferenceIdeal := hPleProjDwReferenceIdeal)
    ∧ quiescent_AttnOutDx (hAttnOutDx := hAttnOutDx)
    ∧ quiescent_AttnOutDxIdeal (hAttnOutDxIdeal := hAttnOutDxIdeal)
    ∧ quiescent_AttnOutDxReferenceIdeal (hAttnOutDxReferenceIdeal := hAttnOutDxReferenceIdeal)
    ∧ quiescent_SsmOutDw (hSsmOutDw := hSsmOutDw)
    ∧ quiescent_SsmOutDwIdeal (hSsmOutDwIdeal := hSsmOutDwIdeal)
    ∧ quiescent_SsmOutDwReferenceIdeal (hSsmOutDwReferenceIdeal := hSsmOutDwReferenceIdeal)
    ∧ quiescent_SsmOutDx (hSsmOutDx := hSsmOutDx)
    ∧ quiescent_SsmOutDxIdeal (hSsmOutDxIdeal := hSsmOutDxIdeal)
    ∧ quiescent_SsmOutDxReferenceIdeal (hSsmOutDxReferenceIdeal := hSsmOutDxReferenceIdeal)
    ∧ quiescent_SsmZDw (hSsmZDw := hSsmZDw)
    ∧ quiescent_SsmZDwIdeal (hSsmZDwIdeal := hSsmZDwIdeal)
    ∧ quiescent_SsmZDwReferenceIdeal (hSsmZDwReferenceIdeal := hSsmZDwReferenceIdeal)
    ∧ quiescent_SsmZDx (hSsmZDx := hSsmZDx)
    ∧ quiescent_SsmZDxIdeal (hSsmZDxIdeal := hSsmZDxIdeal)
    ∧ quiescent_SsmZDxReferenceIdeal (hSsmZDxReferenceIdeal := hSsmZDxReferenceIdeal)
    ∧ quiescent_SsmDtDw (hSsmDtDw := hSsmDtDw)
    ∧ quiescent_SsmDtDwIdeal (hSsmDtDwIdeal := hSsmDtDwIdeal)
    ∧ quiescent_SsmDtDwReferenceIdeal (hSsmDtDwReferenceIdeal := hSsmDtDwReferenceIdeal)
    ∧ quiescent_SsmDtDx (hSsmDtDx := hSsmDtDx)
    ∧ quiescent_SsmDtDxIdeal (hSsmDtDxIdeal := hSsmDtDxIdeal)
    ∧ quiescent_SsmDtDxReferenceIdeal (hSsmDtDxReferenceIdeal := hSsmDtDxReferenceIdeal)
    ∧ quiescent_SsmXbcDw (hSsmXbcDw := hSsmXbcDw)
    ∧ quiescent_SsmXbcDwIdeal (hSsmXbcDwIdeal := hSsmXbcDwIdeal)
    ∧ quiescent_SsmXbcDwReferenceIdeal (hSsmXbcDwReferenceIdeal := hSsmXbcDwReferenceIdeal)
    ∧ quiescent_SsmOut (hSsmOut := hSsmOut)
    ∧ quiescent_SsmOutIdeal (hSsmOutIdeal := hSsmOutIdeal)
    ∧ quiescent_SsmOutReferenceIdeal (hSsmOutReferenceIdeal := hSsmOutReferenceIdeal)
    ∧ quiescent_AttnQ (hAttnQ := hAttnQ)
    ∧ quiescent_AttnQIdeal (hAttnQIdeal := hAttnQIdeal)
    ∧ quiescent_AttnQReferenceIdeal (hAttnQReferenceIdeal := hAttnQReferenceIdeal)
    ∧ quiescent_AttnOut (hAttnOut := hAttnOut)
    ∧ quiescent_AttnOutIdeal (hAttnOutIdeal := hAttnOutIdeal)
    ∧ quiescent_AttnOutReferenceIdeal (hAttnOutReferenceIdeal := hAttnOutReferenceIdeal)
    ∧ quiescent_Kv (hKv := hKv)
    ∧ quiescent_KvIdeal (hKvIdeal := hKvIdeal)
    ∧ quiescent_KvReferenceIdeal (hKvReferenceIdeal := hKvReferenceIdeal)
    ∧ quiescent_PleGate (hPleGate := hPleGate)
    ∧ quiescent_PleGateIdeal (hPleGateIdeal := hPleGateIdeal)
    ∧ quiescent_PleGateReferenceIdeal (hPleGateReferenceIdeal := hPleGateReferenceIdeal)
    ∧ quiescent_PleProj (hPleProj := hPleProj)
    ∧ quiescent_PleProjIdeal (hPleProjIdeal := hPleProjIdeal)
    ∧ quiescent_PleProjReferenceIdeal (hPleProjReferenceIdeal := hPleProjReferenceIdeal)
    ∧ quiescent_FfnNormBwd (hFfnNormBwd := hFfnNormBwd)
    ∧ quiescent_FfnNormBwdIdeal (hFfnNormBwdIdeal := hFfnNormBwdIdeal)
    ∧ quiescent_FfnNormBwdReferenceIdeal (hFfnNormBwdReferenceIdeal := hFfnNormBwdReferenceIdeal)
    ∧ quiescent_GateNormBwd (hGateNormBwd := hGateNormBwd)
    ∧ quiescent_GateNormBwdIdeal (hGateNormBwdIdeal := hGateNormBwdIdeal)
    ∧ quiescent_GateNormBwdReferenceIdeal (hGateNormBwdReferenceIdeal := hGateNormBwdReferenceIdeal)
    ∧ quiescent_KvNormBwd (hKvNormBwd := hKvNormBwd)
    ∧ quiescent_KvNormBwdIdeal (hKvNormBwdIdeal := hKvNormBwdIdeal)
    ∧ quiescent_KvNormBwdReferenceIdeal (hKvNormBwdReferenceIdeal := hKvNormBwdReferenceIdeal)
    ∧ quiescent_SsmNormBwd (hSsmNormBwd := hSsmNormBwd)
    ∧ quiescent_SsmNormBwdIdeal (hSsmNormBwdIdeal := hSsmNormBwdIdeal)
    ∧ quiescent_SsmNormBwdReferenceIdeal (hSsmNormBwdReferenceIdeal := hSsmNormBwdReferenceIdeal)
    ∧ quiescent_PleBwd (hPleBwd := hPleBwd)
    ∧ quiescent_PleBwdIdeal (hPleBwdIdeal := hPleBwdIdeal)
    ∧ quiescent_PleBwdReferenceIdeal (hPleBwdReferenceIdeal := hPleBwdReferenceIdeal)
    ∧ quiescent_Ple (hPle := hPle)
    ∧ quiescent_PleIdeal (hPleIdeal := hPleIdeal)
    ∧ quiescent_PleReferenceIdeal (hPleReferenceIdeal := hPleReferenceIdeal)
    ∧ quiescent_Norm (hNorm := hNorm)
    ∧ quiescent_NormIdeal (hNormIdeal := hNormIdeal)
    ∧ quiescent_NormReferenceIdeal (hNormReferenceIdeal := hNormReferenceIdeal)
    ∧ preserves_Kernel_KernelIdeal
    ∧ algebraic_KernelIdeal_ReferenceIdeal_pre_finite_args (hKernelIdeal := hKernelIdeal) (hReferenceIdeal := hReferenceIdeal) (hPre_finite_args := hPre_finite_args)
    ∧ preserves_DownDw_DownDwIdeal
    ∧ algebraic_DownDwIdeal_DownDwReferenceIdeal (hDownDwIdeal := hDownDwIdeal) (hDownDwReferenceIdeal := hDownDwReferenceIdeal)
    ∧ preserves_DownDx_DownDxIdeal
    ∧ algebraic_DownDxIdeal_DownDxReferenceIdeal (hDownDxIdeal := hDownDxIdeal) (hDownDxReferenceIdeal := hDownDxReferenceIdeal)
    ∧ preserves_UpDw_UpDwIdeal
    ∧ algebraic_UpDwIdeal_UpDwReferenceIdeal (hUpDwIdeal := hUpDwIdeal) (hUpDwReferenceIdeal := hUpDwReferenceIdeal)
    ∧ preserves_UpDx_UpDxIdeal
    ∧ algebraic_UpDxIdeal_UpDxReferenceIdeal (hUpDxIdeal := hUpDxIdeal) (hUpDxReferenceIdeal := hUpDxReferenceIdeal)
    ∧ preserves_Up_UpIdeal
    ∧ algebraic_UpIdeal_UpReferenceIdeal (hUpIdeal := hUpIdeal) (hUpReferenceIdeal := hUpReferenceIdeal)
    ∧ preserves_Down_DownIdeal
    ∧ algebraic_DownIdeal_DownReferenceIdeal (hDownIdeal := hDownIdeal) (hDownReferenceIdeal := hDownReferenceIdeal)
    ∧ preserves_SquareDw_SquareDwIdeal
    ∧ algebraic_SquareDwIdeal_SquareDwReferenceIdeal (hSquareDwIdeal := hSquareDwIdeal) (hSquareDwReferenceIdeal := hSquareDwReferenceIdeal)
    ∧ preserves_KvDw_KvDwIdeal
    ∧ algebraic_KvDwIdeal_KvDwReferenceIdeal (hKvDwIdeal := hKvDwIdeal) (hKvDwReferenceIdeal := hKvDwReferenceIdeal)
    ∧ preserves_PleProjDw_PleProjDwIdeal
    ∧ algebraic_PleProjDwIdeal_PleProjDwReferenceIdeal (hPleProjDwIdeal := hPleProjDwIdeal) (hPleProjDwReferenceIdeal := hPleProjDwReferenceIdeal)
    ∧ preserves_AttnOutDx_AttnOutDxIdeal
    ∧ algebraic_AttnOutDxIdeal_AttnOutDxReferenceIdeal (hAttnOutDxIdeal := hAttnOutDxIdeal) (hAttnOutDxReferenceIdeal := hAttnOutDxReferenceIdeal)
    ∧ preserves_SsmOutDw_SsmOutDwIdeal
    ∧ algebraic_SsmOutDwIdeal_SsmOutDwReferenceIdeal (hSsmOutDwIdeal := hSsmOutDwIdeal) (hSsmOutDwReferenceIdeal := hSsmOutDwReferenceIdeal)
    ∧ preserves_SsmOutDx_SsmOutDxIdeal
    ∧ algebraic_SsmOutDxIdeal_SsmOutDxReferenceIdeal (hSsmOutDxIdeal := hSsmOutDxIdeal) (hSsmOutDxReferenceIdeal := hSsmOutDxReferenceIdeal)
    ∧ preserves_SsmZDw_SsmZDwIdeal
    ∧ algebraic_SsmZDwIdeal_SsmZDwReferenceIdeal (hSsmZDwIdeal := hSsmZDwIdeal) (hSsmZDwReferenceIdeal := hSsmZDwReferenceIdeal)
    ∧ preserves_SsmZDx_SsmZDxIdeal
    ∧ algebraic_SsmZDxIdeal_SsmZDxReferenceIdeal (hSsmZDxIdeal := hSsmZDxIdeal) (hSsmZDxReferenceIdeal := hSsmZDxReferenceIdeal)
    ∧ preserves_SsmDtDw_SsmDtDwIdeal
    ∧ algebraic_SsmDtDwIdeal_SsmDtDwReferenceIdeal (hSsmDtDwIdeal := hSsmDtDwIdeal) (hSsmDtDwReferenceIdeal := hSsmDtDwReferenceIdeal)
    ∧ preserves_SsmDtDx_SsmDtDxIdeal
    ∧ algebraic_SsmDtDxIdeal_SsmDtDxReferenceIdeal (hSsmDtDxIdeal := hSsmDtDxIdeal) (hSsmDtDxReferenceIdeal := hSsmDtDxReferenceIdeal)
    ∧ preserves_SsmXbcDw_SsmXbcDwIdeal
    ∧ algebraic_SsmXbcDwIdeal_SsmXbcDwReferenceIdeal (hSsmXbcDwIdeal := hSsmXbcDwIdeal) (hSsmXbcDwReferenceIdeal := hSsmXbcDwReferenceIdeal)
    ∧ preserves_SsmOut_SsmOutIdeal
    ∧ algebraic_SsmOutIdeal_SsmOutReferenceIdeal (hSsmOutIdeal := hSsmOutIdeal) (hSsmOutReferenceIdeal := hSsmOutReferenceIdeal)
    ∧ preserves_AttnQ_AttnQIdeal
    ∧ algebraic_AttnQIdeal_AttnQReferenceIdeal (hAttnQIdeal := hAttnQIdeal) (hAttnQReferenceIdeal := hAttnQReferenceIdeal)
    ∧ preserves_AttnOut_AttnOutIdeal
    ∧ algebraic_AttnOutIdeal_AttnOutReferenceIdeal (hAttnOutIdeal := hAttnOutIdeal) (hAttnOutReferenceIdeal := hAttnOutReferenceIdeal)
    ∧ preserves_Kv_KvIdeal
    ∧ algebraic_KvIdeal_KvReferenceIdeal (hKvIdeal := hKvIdeal) (hKvReferenceIdeal := hKvReferenceIdeal)
    ∧ preserves_PleGate_PleGateIdeal
    ∧ algebraic_PleGateIdeal_PleGateReferenceIdeal (hPleGateIdeal := hPleGateIdeal) (hPleGateReferenceIdeal := hPleGateReferenceIdeal)
    ∧ preserves_PleProj_PleProjIdeal
    ∧ algebraic_PleProjIdeal_PleProjReferenceIdeal (hPleProjIdeal := hPleProjIdeal) (hPleProjReferenceIdeal := hPleProjReferenceIdeal)
    ∧ preserves_FfnNormBwd_FfnNormBwdIdeal
    ∧ algebraic_FfnNormBwdIdeal_FfnNormBwdReferenceIdeal (hFfnNormBwdIdeal := hFfnNormBwdIdeal) (hFfnNormBwdReferenceIdeal := hFfnNormBwdReferenceIdeal)
    ∧ preserves_GateNormBwd_GateNormBwdIdeal
    ∧ algebraic_GateNormBwdIdeal_GateNormBwdReferenceIdeal (hGateNormBwdIdeal := hGateNormBwdIdeal) (hGateNormBwdReferenceIdeal := hGateNormBwdReferenceIdeal)
    ∧ preserves_KvNormBwd_KvNormBwdIdeal
    ∧ algebraic_KvNormBwdIdeal_KvNormBwdReferenceIdeal (hKvNormBwdIdeal := hKvNormBwdIdeal) (hKvNormBwdReferenceIdeal := hKvNormBwdReferenceIdeal)
    ∧ preserves_SsmNormBwd_SsmNormBwdIdeal
    ∧ algebraic_SsmNormBwdIdeal_SsmNormBwdReferenceIdeal (hSsmNormBwdIdeal := hSsmNormBwdIdeal) (hSsmNormBwdReferenceIdeal := hSsmNormBwdReferenceIdeal)
    ∧ preserves_PleBwd_PleBwdIdeal
    ∧ algebraic_PleBwdIdeal_PleBwdReferenceIdeal (hPleBwdIdeal := hPleBwdIdeal) (hPleBwdReferenceIdeal := hPleBwdReferenceIdeal)
    ∧ preserves_Ple_PleIdeal
    ∧ algebraic_PleIdeal_PleReferenceIdeal (hPleIdeal := hPleIdeal) (hPleReferenceIdeal := hPleReferenceIdeal)
    ∧ preserves_Norm_NormIdeal
    ∧ algebraic_NormIdeal_NormReferenceIdeal (hNormIdeal := hNormIdeal) (hNormReferenceIdeal := hNormReferenceIdeal)
-- ==== Pre_finite_args.lean ====
abbrev S4x2048x1024 : Shape := ⟨3, ![4, 2048, 1024]⟩
abbrev S4x2048x2048 : Shape := ⟨3, ![4, 2048, 2048]⟩
abbrev S_ : Shape := ⟨0, ![]⟩

class Facts : Prop where
  bitsLt_bf16_f32 : FTy.bits .bf16 < FTy.bits .f32
  bcast_S_S4x2048x1024 : S_.BroadcastsInDim S4x2048x1024 (![] : Fin 0 → Fin S4x2048x1024.rank)
  slices_S4x2048x2048_S4x2048x1024_0_0_0 : S4x2048x2048.Slices ![0, 0, 0] S4x2048x1024
  slices_S4x2048x2048_S4x2048x1024_0_0_1024 : S4x2048x2048.Slices ![0, 0, 1024] S4x2048x1024

variable [Facts]

def fn_part1 {F : FTy → Type} [FloatOps F] (main_v15 : IVec S4x2048x1024 1) (main_v19 : IVec S4x2048x1024 1) : IVec S4x2048x1024 1 :=
  let main_v20 : IVec S4x2048x1024 1 := andi main_v15 main_v19
  main_v20

def fn {F : FTy → Type} [FloatOps F] (main_arg0 : FVec F S4x2048x1024 .bf16) (main_arg1 : FVec F S4x2048x2048 .bf16) (main_arg2 : FVec F S4x2048x1024 .bf16) : IVec S4x2048x1024 1 :=
  let main_v0 : FVec F S4x2048x1024 .f32 := (extf .f32 · bitsLt_bf16_f32) main_arg0
  let main_v1 : FVec F S4x2048x1024 .f32 := Host.absf main_v0
  let main_cst : FVec F S_ .f32 := constant S_ .f32 0x7F800000#32
  let main_v2 : FVec F S4x2048x1024 .f32 := broadcastInDim S4x2048x1024 ![] bcast_S_S4x2048x1024 main_cst
  let main_v3 : IVec S4x2048x1024 1 := cmpf .olt main_v1 main_v2
  let main_v4 : FVec F S4x2048x1024 .bf16 := (extractStridedSlice S4x2048x1024 ![0, 0, 0] · slices_S4x2048x2048_S4x2048x1024_0_0_0) main_arg1
  let main_v5 : FVec F S4x2048x1024 .f32 := (extf .f32 · bitsLt_bf16_f32) main_v4
  let main_v6 : FVec F S4x2048x1024 .f32 := Host.absf main_v5
  let main_cst_0 : FVec F S_ .f32 := constant S_ .f32 0x7F800000#32
  let main_v7 : FVec F S4x2048x1024 .f32 := broadcastInDim S4x2048x1024 ![] bcast_S_S4x2048x1024 main_cst_0
  let main_v8 : IVec S4x2048x1024 1 := cmpf .olt main_v6 main_v7
  let main_v9 : IVec S4x2048x1024 1 := andi main_v3 main_v8
  let main_v10 : FVec F S4x2048x1024 .bf16 := (extractStridedSlice S4x2048x1024 ![0, 0, 1024] · slices_S4x2048x2048_S4x2048x1024_0_0_1024) main_arg1
  let main_v11 : FVec F S4x2048x1024 .f32 := (extf .f32 · bitsLt_bf16_f32) main_v10
  let main_v12 : FVec F S4x2048x1024 .f32 := Host.absf main_v11
  let main_cst_1 : FVec F S_ .f32 := constant S_ .f32 0x7F800000#32
  let main_v13 : FVec F S4x2048x1024 .f32 := broadcastInDim S4x2048x1024 ![] bcast_S_S4x2048x1024 main_cst_1
  let main_v14 : IVec S4x2048x1024 1 := cmpf .olt main_v12 main_v13
  let main_v15 : IVec S4x2048x1024 1 := andi main_v9 main_v14
  let main_v16 : FVec F S4x2048x1024 .f32 := (extf .f32 · bitsLt_bf16_f32) main_arg2
  let main_v17 : FVec F S4x2048x1024 .f32 := Host.absf main_v16
  let main_cst_2 : FVec F S_ .f32 := constant S_ .f32 0x7F800000#32
  let main_v18 : FVec F S4x2048x1024 .f32 := broadcastInDim S4x2048x1024 ![] bcast_S_S4x2048x1024 main_cst_2
  let main_v19 : IVec S4x2048x1024 1 := cmpf .olt main_v17 main_v18
  fn_part1 (F := F) main_v15 main_v19
-- ==== Kernel.lean ====
abbrev S4x2048x1024 : Shape := ⟨3, ![4, 2048, 1024]⟩
abbrev S4x2048x2048 : Shape := ⟨3, ![4, 2048, 2048]⟩
abbrev S4x16x128x16x128 : Shape := ⟨5, ![4, 16, 128, 16, 128]⟩
abbrev S4x16x16x128x128 : Shape := ⟨5, ![4, 16, 16, 128, 128]⟩
abbrev S4x2048x16x64 : Shape := ⟨4, ![4, 2048, 16, 64]⟩
abbrev S4x16x2048x2048 : Shape := ⟨4, ![4, 16, 2048, 2048]⟩
abbrev S_ : Shape := ⟨0, ![]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S4x16x2048 : Shape := ⟨3, ![4, 16, 2048]⟩
abbrev S4x8x2x4x4x128 : Shape := ⟨6, ![4, 8, 2, 4, 4, 128]⟩
abbrev S4x8x4x4x2x128 : Shape := ⟨6, ![4, 8, 4, 4, 2, 128]⟩
abbrev S4x8x4x1x1024 : Shape := ⟨5, ![4, 8, 4, 1, 1024]⟩
abbrev S1x512x128 : Shape := ⟨3, ![1, 512, 128]⟩
abbrev S1x2048x128 : Shape := ⟨3, ![1, 2048, 128]⟩
abbrev S1x1x16x128x128 : Shape := ⟨5, ![1, 1, 16, 128, 128]⟩
abbrev S1x1x1x1x1024 : Shape := ⟨5, ![1, 1, 1, 1, 1024]⟩
abbrev S512x128 : Shape := ⟨2, ![512, 128]⟩
abbrev S128x128 : Shape := ⟨2, ![128, 128]⟩
abbrev S1024x128 : Shape := ⟨2, ![1024, 128]⟩
abbrev S1x1024 : Shape := ⟨2, ![1, 1024]⟩
abbrev S128x256 : Shape := ⟨2, ![128, 256]⟩
abbrev S128x1024 : Shape := ⟨2, ![128, 1024]⟩
abbrev S512x1024 : Shape := ⟨2, ![512, 1024]⟩
abbrev S256x1024 : Shape := ⟨2, ![256, 1024]⟩
abbrev S1x1x1x128x128 : Shape := ⟨5, ![1, 1, 1, 128, 128]⟩
abbrev S1x128x128 : Shape := ⟨3, ![1, 128, 128]⟩
abbrev S128x768 : Shape := ⟨2, ![128, 768]⟩
abbrev S768x128 : Shape := ⟨2, ![768, 128]⟩
abbrev S128x512 : Shape := ⟨2, ![128, 512]⟩
abbrev S256x128 : Shape := ⟨2, ![256, 128]⟩
abbrev S256x768 : Shape := ⟨2, ![256, 768]⟩
abbrev S256x512 : Shape := ⟨2, ![256, 512]⟩
abbrev S256x256 : Shape := ⟨2, ![256, 256]⟩
abbrev S1x768 : Shape := ⟨2, ![1, 768]⟩
abbrev S1x256 : Shape := ⟨2, ![1, 256]⟩
abbrev S1x512 : Shape := ⟨2, ![1, 512]⟩

abbrev nBuf : Space → Nat
  | .hbm => 51
  | .vmem => 18
  | .smem => 0
  | _ => 0

abbrev bufTy : (tb : Table) → Fin (tcTables nBuf tb) → BufTy
  | .hbm, ⟨0, _⟩ => ⟨S4x2048x1024, .bf16⟩
  | .hbm, ⟨1, _⟩ => ⟨S4x2048x2048, .bf16⟩
  | .hbm, ⟨2, _⟩ => ⟨S4x2048x1024, .bf16⟩
  | .hbm, ⟨3, _⟩ => ⟨S4x16x128x16x128, .bf16⟩
  | .hbm, ⟨4, _⟩ => ⟨S4x16x16x128x128, .bf16⟩
  | .hbm, ⟨5, _⟩ => ⟨S4x2048x1024, .f32⟩
  | .hbm, ⟨6, _⟩ => ⟨S4x2048x16x64, .f32⟩
  | .hbm, ⟨7, _⟩ => ⟨S4x2048x1024, .bf16⟩
  | .hbm, ⟨8, _⟩ => ⟨S4x2048x1024, .f32⟩
  | .hbm, ⟨9, _⟩ => ⟨S4x2048x16x64, .f32⟩
  | .hbm, ⟨10, _⟩ => ⟨S4x16x2048x2048, .f32⟩
  | .hbm, ⟨11, _⟩ => ⟨S_, .f32⟩
  | .hbm, ⟨12, _⟩ => ⟨S4x16x2048x2048, .f32⟩
  | .hbm, ⟨13, _⟩ => ⟨S4x16x2048x2048, .f32⟩
  | .hbm, ⟨14, _⟩ => ⟨S2048, .i32⟩
  | .hbm, ⟨15, _⟩ => ⟨S2048x1, .i32⟩
  | .hbm, ⟨16, _⟩ => ⟨S2048, .i32⟩
  | .hbm, ⟨17, _⟩ => ⟨S1x2048, .i32⟩
  | .hbm, ⟨18, _⟩ => ⟨S2048x2048, .i32⟩
  | .hbm, ⟨19, _⟩ => ⟨S2048x2048, .i32⟩
  | .hbm, ⟨20, _⟩ => ⟨S2048x2048, .i1⟩
  | .hbm, ⟨21, _⟩ => ⟨S4x16x2048x2048, .f32⟩
  | .hbm, ⟨22, _⟩ => ⟨S4x16x2048x2048, .f32⟩
  | .hbm, ⟨23, _⟩ => ⟨S_, .f32⟩
  | .hbm, ⟨24, _⟩ => ⟨S4x16x2048x2048, .f32⟩
  | .hbm, ⟨25, _⟩ => ⟨S4x16x2048x2048, .f32⟩
  | .hbm, ⟨26, _⟩ => ⟨S4x16x2048x2048, .f32⟩
  | .hbm, ⟨27, _⟩ => ⟨S4x16x2048x2048, .f32⟩
  | .hbm, ⟨28, _⟩ => ⟨S4x16x2048x2048, .i1⟩
  | .hbm, ⟨29, _⟩ => ⟨S4x16x2048x2048, .f32⟩
  | .hbm, ⟨30, _⟩ => ⟨S4x16x2048x2048, .f32⟩
  | .hbm, ⟨31, _⟩ => ⟨S4x16x2048x2048, .f32⟩
  | .hbm, ⟨32, _⟩ => ⟨S4x16x2048x2048, .f32⟩
  | .hbm, ⟨33, _⟩ => ⟨S4x16x2048x2048, .f32⟩
  | .hbm, ⟨34, _⟩ => ⟨S4x16x2048x2048, .f32⟩
  | .hbm, ⟨35, _⟩ => ⟨S4x16x2048x2048, .f32⟩
  | .hbm, ⟨36, _⟩ => ⟨S4x16x2048x2048, .f32⟩
  | .hbm, ⟨37, _⟩ => ⟨S4x16x2048x2048, .f32⟩
  | .hbm, ⟨38, _⟩ => ⟨S_, .f32⟩
  | .hbm, ⟨39, _⟩ => ⟨S_, .f32⟩
  | .hbm, ⟨40, _⟩ => ⟨S4x16x2048x2048, .i1⟩
  | .hbm, ⟨41, _⟩ => ⟨S4x16x2048x2048, .f32⟩
  | .hbm, ⟨42, _⟩ => ⟨S4x16x2048x2048, .f32⟩
  | .hbm, ⟨43, _⟩ => ⟨S_, .f32⟩
  | .hbm, ⟨44, _⟩ => ⟨S4x16x2048, .f32⟩
  | .hbm, ⟨45, _⟩ => ⟨S4x8x2x4x4x128, .f32⟩
  | .hbm, ⟨46, _⟩ => ⟨S4x8x4x4x2x128, .f32⟩
  | .hbm, ⟨47, _⟩ => ⟨S4x8x4x1x1024, .f32⟩
  | .hbm, ⟨48, _⟩ => ⟨S4x2048x1024, .bf16⟩
  | .hbm, ⟨49, _⟩ => ⟨S4x2048x1024, .f32⟩
  | .hbm, ⟨50, _⟩ => ⟨S4x2048x1024, .f32⟩
  | .local _ .vmem, ⟨0, _⟩ => ⟨S1x512x128, .bf16⟩
  | .local _ .vmem, ⟨1, _⟩ => ⟨S1x512x128, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x1x16x128x128, .bf16⟩
  | .local _ .vmem, ⟨7, _⟩ => ⟨S1x1x16x128x128, .bf16⟩
  | .local _ .vmem, ⟨8, _⟩ => ⟨S1x512x128, .bf16⟩
  | .local _ .vmem, ⟨9, _⟩ => ⟨S1x512x128, .bf16⟩
  | .local _ .vmem, ⟨10, _⟩ => ⟨S1x1x1x1x1024, .f32⟩
  | .local _ .vmem, ⟨11, _⟩ => ⟨S1x1x1x1x1024, .f32⟩
  | .local _ .vmem, ⟨12, _⟩ => ⟨S1x512x128, .bf16⟩
  | .local _ .vmem, ⟨13, _⟩ => ⟨S1x512x128, .bf16⟩
  | .local _ .vmem, ⟨14, _⟩ => ⟨S1x2048x128, .f32⟩
  | .local _ .vmem, ⟨15, _⟩ => ⟨S1x2048x128, .f32⟩
  | .local _ .vmem, ⟨16, _⟩ => ⟨S1x2048x128, .f32⟩
  | .local _ .vmem, ⟨17, _⟩ => ⟨S1x2048x128, .f32⟩
  | _, _ => ⟨S4x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_call0_v0 : Ref sig .tc := ⟨.hbm, 22, rfl⟩
abbrev main_call0_call0_cst : Ref sig .tc := ⟨.hbm, 23, rfl⟩
abbrev main_call0_call0_v0 : Ref sig .tc := ⟨.hbm, 24, rfl⟩
abbrev main_call0_call0_v1 : Ref sig .tc := ⟨.hbm, 25, rfl⟩
abbrev main_call0_call0_v2 : Ref sig .tc := ⟨.hbm, 26, rfl⟩
abbrev main_call0_call0_v3 : Ref sig .tc := ⟨.hbm, 27, rfl⟩
abbrev main_call0_call0_v4 : Ref sig .tc := ⟨.hbm, 28, rfl⟩
abbrev main_call0_call0_v5 : Ref sig .tc := ⟨.hbm, 29, rfl⟩
abbrev main_call0_call0_v6 : Ref sig .tc := ⟨.hbm, 30, rfl⟩
abbrev main_call0_call0_v7 : Ref sig .tc := ⟨.hbm, 31, rfl⟩
abbrev main_call0_call0_v8 : Ref sig .tc := ⟨.hbm, 32, rfl⟩
abbrev main_call0_call0_v9 : Ref sig .tc := ⟨.hbm, 33, rfl⟩
abbrev main_call0_call0_v10 : Ref sig .tc := ⟨.hbm, 34, rfl⟩
abbrev main_call0_call0_v11 : Ref sig .tc := ⟨.hbm, 35, rfl⟩
abbrev main_call0_v1 : Ref sig .tc := ⟨.hbm, 36, rfl⟩
abbrev main_v18 : Ref sig .tc := ⟨.hbm, 37, rfl⟩
abbrev main_cst_0 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_v19 : Ref sig .tc := ⟨.hbm, 42, rfl⟩
abbrev main_cst_1 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24_0 : Ref sig .tc := ⟨.hbm, 48, rfl⟩
abbrev main_v24_1 : Ref sig .tc := ⟨.hbm, 49, rfl⟩
abbrev main_v24_2 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![4, 8, 4], ![false, false, false]⟩

@[reducible] def k0_t1_loop (i : grid0.Coords) : Scf.Loop 32 :=
  let c0_i32_48 : BitVec 32 := 0#32
  let arg2 : BitVec 32 := BitVec.ofNat 32 (i 2).val
  let c4_i32 : BitVec 32 := 4#32
  let v0 : BitVec 32 := Scalar.muli arg2 c4_i32
  let c0_i32_36 : BitVec 32 := 0#32
  let v95 : BitVec 1 := Scalar.cmpi .sgt v0 c0_i32_36
  let v96 : BitVec 32 := Scalar.extui v95
  let c0_i32_37 : BitVec 32 := 0#32
  let v97 : BitVec 1 := Scalar.cmpi .slt v0 c0_i32_37
  let v98 : BitVec 32 := Scalar.extui v97
  let v99 : BitVec 32 := Scalar.subi v96 v98
  let c4_i32_35 : BitVec 32 := 4#32
  let c0_i32_38 : BitVec 32 := 0#32
  let v100 : BitVec 1 := Scalar.cmpi .sgt c4_i32_35 c0_i32_38
  let v101 : BitVec 32 := Scalar.extui v100
  let c0_i32_39 : BitVec 32 := 0#32
  let v102 : BitVec 1 := Scalar.cmpi .slt c4_i32_35 c0_i32_39
  let v103 : BitVec 32 := Scalar.extui v102
  let v104 : BitVec 32 := Scalar.subi v101 v103
  let v105 : BitVec 1 := Scalar.cmpi .ne v99 v104
  let v106 : BitVec 32 := Scalar.remsi v0 c4_i32_35
  let c0_i32_40 : BitVec 32 := 0#32
  let v107 : BitVec 1 := Scalar.cmpi .ne v106 c0_i32_40
  let v108 : BitVec 1 := Scalar.andi v105 v107
  let v94 : BitVec 32 := Scalar.divsi v0 c4_i32_35
  let c1_i32 : BitVec 32 := 1#32
  let v109 : BitVec 32 := Scalar.subi v94 c1_i32
  let v110 : BitVec 32 := Scalar.select v108 v109 v94
  let c0_i32_41 : BitVec 32 := 0#32
  let v112 : BitVec 1 := Scalar.cmpi .sgt v110 c0_i32_41
  let v113 : BitVec 32 := Scalar.extui v112
  let c0_i32_42 : BitVec 32 := 0#32
  let v114 : BitVec 1 := Scalar.cmpi .slt v110 c0_i32_42
  let v115 : BitVec 32 := Scalar.extui v114
  let v116 : BitVec 32 := Scalar.subi v113 v115
  let c2_i32 : BitVec 32 := 2#32
  let c0_i32_43 : BitVec 32 := 0#32
  let v117 : BitVec 1 := Scalar.cmpi .sgt c2_i32 c0_i32_43
  let v118 : BitVec 32 := Scalar.extui v117
  let c0_i32_44 : BitVec 32 := 0#32
  let v119 : BitVec 1 := Scalar.cmpi .slt c2_i32 c0_i32_44
  let v120 : BitVec 32 := Scalar.extui v119
  let v121 : BitVec 32 := Scalar.subi v118 v120
  let v122 : BitVec 1 := Scalar.cmpi .ne v116 v121
  let v123 : BitVec 32 := Scalar.remsi v110 c2_i32
  let c0_i32_45 : BitVec 32 := 0#32
  let v124 : BitVec 1 := Scalar.cmpi .ne v123 c0_i32_45
  let v125 : BitVec 1 := Scalar.andi v122 v124
  let v111 : BitVec 32 := Scalar.divsi v110 c2_i32
  let c1_i32_46 : BitVec 32 := 1#32
  let v126 : BitVec 32 := Scalar.subi v111 c1_i32_46
  let v127 : BitVec 32 := Scalar.select v125 v126 v111
  let v129 : BitVec 32 := Scalar.subi v127 c0_i32_48
  let c1_i32_49 : BitVec 32 := 1#32
  let v131 : BitVec 32 := Scalar.divsi v129 c1_i32_49
  let v132 : BitVec 32 := Scalar.muli v131 c1_i32_49
  let v133 : BitVec 32 := Scalar.addi c0_i32_48 v132
  let c1_i32_50 : BitVec 32 := 1#32
  ⟨c0_i32_48, v133, c1_i32_50⟩
def k0_mult1 (i : grid0.Coords) (k0_t1 : Fin (k0_t1_loop i).trips) : BitVec 32 :=
  let c2_i32_283 : BitVec 32 := 2#32
  let c0_i32_48 : BitVec 32 := 0#32
  let c1_i32_50 : BitVec 32 := 1#32
  let arg12 : BitVec 32 := Scf.iv c0_i32_48 c1_i32_50 k0_t1
  let v816 : BitVec 32 := Scalar.muli c2_i32_283 arg12
  let c512_i32 : BitVec 32 := 512#32
  let v819 : BitVec 32 := Scalar.muli v816 c512_i32
  v819
def k0_off1 (i : grid0.Coords) (k0_t1 : Fin (k0_t1_loop i).trips) : Fin 3 → Nat :=
  let c0_286 : Index := 0#32
  let c2_i32_283 : BitVec 32 := 2#32
  let c0_i32_48 : BitVec 32 := 0#32
  let c1_i32_50 : BitVec 32 := 1#32
  let arg12 : BitVec 32 := Scf.iv c0_i32_48 c1_i32_50 k0_t1
  let v816 : BitVec 32 := Scalar.muli c2_i32_283 arg12
  let c512_i32 : BitVec 32 := 512#32
  let v819 : BitVec 32 := Scalar.muli v816 c512_i32
  let v820 : BitVec 32 := v819
  let v821 : Index := Scalar.indexCast v820
  let c0_287 : Index := 0#32
  ![0, v821.toNat, 0]
def k0_mult2 (i : grid0.Coords) (k0_t1 : Fin (k0_t1_loop i).trips) : BitVec 32 :=
  let c2_i32_284 : BitVec 32 := 2#32
  let c0_i32_48 : BitVec 32 := 0#32
  let c1_i32_50 : BitVec 32 := 1#32
  let arg12 : BitVec 32 := Scf.iv c0_i32_48 c1_i32_50 k0_t1
  let v817 : BitVec 32 := Scalar.muli c2_i32_284 arg12
  let c1_i32_285 : BitVec 32 := 1#32
  let v818 : BitVec 32 := Scalar.addi v817 c1_i32_285
  let c512_i32_292 : BitVec 32 := 512#32
  let v836 : BitVec 32 := Scalar.muli v818 c512_i32_292
  v836
def k0_off2 (i : grid0.Coords) (k0_t1 : Fin (k0_t1_loop i).trips) : Fin 3 → Nat :=
  let c0_293 : Index := 0#32
  let c2_i32_284 : BitVec 32 := 2#32
  let c0_i32_48 : BitVec 32 := 0#32
  let c1_i32_50 : BitVec 32 := 1#32
  let arg12 : BitVec 32 := Scf.iv c0_i32_48 c1_i32_50 k0_t1
  let v817 : BitVec 32 := Scalar.muli c2_i32_284 arg12
  let c1_i32_285 : BitVec 32 := 1#32
  let v818 : BitVec 32 := Scalar.addi v817 c1_i32_285
  let c512_i32_292 : BitVec 32 := 512#32
  let v836 : BitVec 32 := Scalar.muli v818 c512_i32_292
  let v837 : BitVec 32 := v836
  let v838 : Index := Scalar.indexCast v837
  let c0_294 : Index := 0#32
  ![0, v838.toNat, 0]
def k0_off3 (i : grid0.Coords) (k0_t1 : Fin (k0_t1_loop i).trips) (c0_i32_328 : BitVec 32) : Fin 5 → Nat :=
  let c0_329 : Index := 0#32
  let c0_330 : Index := 0#32
  let c2_i32_283 : BitVec 32 := 2#32
  let c0_i32_48 : BitVec 32 := 0#32
  let c1_i32_50 : BitVec 32 := 1#32
  let arg12 : BitVec 32 := Scf.iv c0_i32_48 c1_i32_50 k0_t1
  let v816 : BitVec 32 := Scalar.muli c2_i32_283 arg12
  let c4_i32_327 : BitVec 32 := 4#32
  let v1087 : BitVec 32 := Scalar.muli v816 c4_i32_327
  let v1088 : BitVec 32 := Scalar.addi v1087 c0_i32_328
  let v1089 : Index := Scalar.indexCast v1088
  let c0_331 : Index := 0#32
  let c0_332 : Index := 0#32
  ![0, 0, v1089.toNat, 0, 0]
def k0_off4 (i : grid0.Coords) (k0_t1 : Fin (k0_t1_loop i).trips) (c0_i32_366 : BitVec 32) : Fin 5 → Nat :=
  let c0_367 : Index := 0#32
  let c0_368 : Index := 0#32
  let c2_i32_284 : BitVec 32 := 2#32
  let c0_i32_48 : BitVec 32 := 0#32
  let c1_i32_50 : BitVec 32 := 1#32
  let arg12 : BitVec 32 := Scf.iv c0_i32_48 c1_i32_50 k0_t1
  let v817 : BitVec 32 := Scalar.muli c2_i32_284 arg12
  let c1_i32_285 : BitVec 32 := 1#32
  let v818 : BitVec 32 := Scalar.addi v817 c1_i32_285
  let c4_i32_365 : BitVec 32 := 4#32
  let v1138 : BitVec 32 := Scalar.muli v818 c4_i32_365
  let v1139 : BitVec 32 := Scalar.addi v1138 c0_i32_366
  let v1140 : Index := Scalar.indexCast v1139
  let c0_369 : Index := 0#32
  let c0_370 : Index := 0#32
  ![0, 0, v1140.toNat, 0, 0]
@[reducible] def k0_t2_loop (i : grid0.Coords) : Scf.Loop 32 :=
  let c0_i32_48 : BitVec 32 := 0#32
  let arg2 : BitVec 32 := BitVec.ofNat 32 (i 2).val
  let c4_i32 : BitVec 32 := 4#32
  let v0 : BitVec 32 := Scalar.muli arg2 c4_i32
  let c0_i32_36 : BitVec 32 := 0#32
  let v95 : BitVec 1 := Scalar.cmpi .sgt v0 c0_i32_36
  let v96 : BitVec 32 := Scalar.extui v95
  let c0_i32_37 : BitVec 32 := 0#32
  let v97 : BitVec 1 := Scalar.cmpi .slt v0 c0_i32_37
  let v98 : BitVec 32 := Scalar.extui v97
  let v99 : BitVec 32 := Scalar.subi v96 v98
  let c4_i32_35 : BitVec 32 := 4#32
  let c0_i32_38 : BitVec 32 := 0#32
  let v100 : BitVec 1 := Scalar.cmpi .sgt c4_i32_35 c0_i32_38
  let v101 : BitVec 32 := Scalar.extui v100
  let c0_i32_39 : BitVec 32 := 0#32
  let v102 : BitVec 1 := Scalar.cmpi .slt c4_i32_35 c0_i32_39
  let v103 : BitVec 32 := Scalar.extui v102
  let v104 : BitVec 32 := Scalar.subi v101 v103
  let v105 : BitVec 1 := Scalar.cmpi .ne v99 v104
  let v106 : BitVec 32 := Scalar.remsi v0 c4_i32_35
  let c0_i32_40 : BitVec 32 := 0#32
  let v107 : BitVec 1 := Scalar.cmpi .ne v106 c0_i32_40
  let v108 : BitVec 1 := Scalar.andi v105 v107
  let v94 : BitVec 32 := Scalar.divsi v0 c4_i32_35
  let c1_i32 : BitVec 32 := 1#32
  let v109 : BitVec 32 := Scalar.subi v94 c1_i32
  let v110 : BitVec 32 := Scalar.select v108 v109 v94
  let c0_i32_41 : BitVec 32 := 0#32
  let v112 : BitVec 1 := Scalar.cmpi .sgt v110 c0_i32_41
  let v113 : BitVec 32 := Scalar.extui v112
  let c0_i32_42 : BitVec 32 := 0#32
  let v114 : BitVec 1 := Scalar.cmpi .slt v110 c0_i32_42
  let v115 : BitVec 32 := Scalar.extui v114
  let v116 : BitVec 32 := Scalar.subi v113 v115
  let c2_i32 : BitVec 32 := 2#32
  let c0_i32_43 : BitVec 32 := 0#32
  let v117 : BitVec 1 := Scalar.cmpi .sgt c2_i32 c0_i32_43
  let v118 : BitVec 32 := Scalar.extui v117
  let c0_i32_44 : BitVec 32 := 0#32
  let v119 : BitVec 1 := Scalar.cmpi .slt c2_i32 c0_i32_44
  let v120 : BitVec 32 := Scalar.extui v119
  let v121 : BitVec 32 := Scalar.subi v118 v120
  let v122 : BitVec 1 := Scalar.cmpi .ne v116 v121
  let v123 : BitVec 32 := Scalar.remsi v110 c2_i32
  let c0_i32_45 : BitVec 32 := 0#32
  let v124 : BitVec 1 := Scalar.cmpi .ne v123 c0_i32_45
  let v125 : BitVec 1 := Scalar.andi v122 v124
  let v111 : BitVec 32 := Scalar.divsi v110 c2_i32
  let c1_i32_46 : BitVec 32 := 1#32
  let v126 : BitVec 32 := Scalar.subi v111 c1_i32_46
  let v127 : BitVec 32 := Scalar.select v125 v126 v111
  let v129 : BitVec 32 := Scalar.subi v127 c0_i32_48
  let c1_i32_49 : BitVec 32 := 1#32
  let v131 : BitVec 32 := Scalar.divsi v129 c1_i32_49
  let v132 : BitVec 32 := Scalar.muli v131 c1_i32_49
  let v133 : BitVec 32 := Scalar.addi c0_i32_48 v132
  let v130 : BitVec 32 := Scalar.addi c0_i32_48 v129
  let c1_i32_51 : BitVec 32 := 1#32
  ⟨v133, v130, c1_i32_51⟩
def k0_mult3 (i : grid0.Coords) (k0_t2 : Fin (k0_t2_loop i).trips) : BitVec 32 :=
  let c2_i32_283 : BitVec 32 := 2#32
  let c0_i32_48 : BitVec 32 := 0#32
  let arg2 : BitVec 32 := BitVec.ofNat 32 (i 2).val
  let c4_i32 : BitVec 32 := 4#32
  let v0 : BitVec 32 := Scalar.muli arg2 c4_i32
  let c0_i32_36 : BitVec 32 := 0#32
  let v95 : BitVec 1 := Scalar.cmpi .sgt v0 c0_i32_36
  let v96 : BitVec 32 := Scalar.extui v95
  let c0_i32_37 : BitVec 32 := 0#32
  let v97 : BitVec 1 := Scalar.cmpi .slt v0 c0_i32_37
  let v98 : BitVec 32 := Scalar.extui v97
  let v99 : BitVec 32 := Scalar.subi v96 v98
  let c4_i32_35 : BitVec 32 := 4#32
  let c0_i32_38 : BitVec 32 := 0#32
  let v100 : BitVec 1 := Scalar.cmpi .sgt c4_i32_35 c0_i32_38
  let v101 : BitVec 32 := Scalar.extui v100
  let c0_i32_39 : BitVec 32 := 0#32
  let v102 : BitVec 1 := Scalar.cmpi .slt c4_i32_35 c0_i32_39
  let v103 : BitVec 32 := Scalar.extui v102
  let v104 : BitVec 32 := Scalar.subi v101 v103
  let v105 : BitVec 1 := Scalar.cmpi .ne v99 v104
  let v106 : BitVec 32 := Scalar.remsi v0 c4_i32_35
  let c0_i32_40 : BitVec 32 := 0#32
  let v107 : BitVec 1 := Scalar.cmpi .ne v106 c0_i32_40
  let v108 : BitVec 1 := Scalar.andi v105 v107
  let v94 : BitVec 32 := Scalar.divsi v0 c4_i32_35
  let c1_i32 : BitVec 32 := 1#32
  let v109 : BitVec 32 := Scalar.subi v94 c1_i32
  let v110 : BitVec 32 := Scalar.select v108 v109 v94
  let c0_i32_41 : BitVec 32 := 0#32
  let v112 : BitVec 1 := Scalar.cmpi .sgt v110 c0_i32_41
  let v113 : BitVec 32 := Scalar.extui v112
  let c0_i32_42 : BitVec 32 := 0#32
  let v114 : BitVec 1 := Scalar.cmpi .slt v110 c0_i32_42
  let v115 : BitVec 32 := Scalar.extui v114
  let v116 : BitVec 32 := Scalar.subi v113 v115
  let c2_i32 : BitVec 32 := 2#32
  let c0_i32_43 : BitVec 32 := 0#32
  let v117 : BitVec 1 := Scalar.cmpi .sgt c2_i32 c0_i32_43
  let v118 : BitVec 32 := Scalar.extui v117
  let c0_i32_44 : BitVec 32 := 0#32
  let v119 : BitVec 1 := Scalar.cmpi .slt c2_i32 c0_i32_44
  let v120 : BitVec 32 := Scalar.extui v119
  let v121 : BitVec 32 := Scalar.subi v118 v120
  let v122 : BitVec 1 := Scalar.cmpi .ne v116 v121
  let v123 : BitVec 32 := Scalar.remsi v110 c2_i32
  let c0_i32_45 : BitVec 32 := 0#32
  let v124 : BitVec 1 := Scalar.cmpi .ne v123 c0_i32_45
  let v125 : BitVec 1 := Scalar.andi v122 v124
  let v111 : BitVec 32 := Scalar.divsi v110 c2_i32
  let c1_i32_46 : BitVec 32 := 1#32
  let v126 : BitVec 32 := Scalar.subi v111 c1_i32_46
  let v127 : BitVec 32 := Scalar.select v125 v126 v111
  let v129 : BitVec 32 := Scalar.subi v127 c0_i32_48
  let c1_i32_49 : BitVec 32 := 1#32
  let v131 : BitVec 32 := Scalar.divsi v129 c1_i32_49
  let v132 : BitVec 32 := Scalar.muli v131 c1_i32_49
  let v133 : BitVec 32 := Scalar.addi c0_i32_48 v132
  let c1_i32_51 : BitVec 32 := 1#32
  let arg12 : BitVec 32 := Scf.iv v133 c1_i32_51 k0_t2
  let v816 : BitVec 32 := Scalar.muli c2_i32_283 arg12
  let c512_i32 : BitVec 32 := 512#32
  let v819 : BitVec 32 := Scalar.muli v816 c512_i32
  v819
def k0_off5 (i : grid0.Coords) (k0_t2 : Fin (k0_t2_loop i).trips) : Fin 3 → Nat :=
  let c0_286 : Index := 0#32
  let c2_i32_283 : BitVec 32 := 2#32
  let c0_i32_48 : BitVec 32 := 0#32
  let arg2 : BitVec 32 := BitVec.ofNat 32 (i 2).val
  let c4_i32 : BitVec 32 := 4#32
  let v0 : BitVec 32 := Scalar.muli arg2 c4_i32
  let c0_i32_36 : BitVec 32 := 0#32
  let v95 : BitVec 1 := Scalar.cmpi .sgt v0 c0_i32_36
  let v96 : BitVec 32 := Scalar.extui v95
  let c0_i32_37 : BitVec 32 := 0#32
  let v97 : BitVec 1 := Scalar.cmpi .slt v0 c0_i32_37
  let v98 : BitVec 32 := Scalar.extui v97
  let v99 : BitVec 32 := Scalar.subi v96 v98
  let c4_i32_35 : BitVec 32 := 4#32
  let c0_i32_38 : BitVec 32 := 0#32
  let v100 : BitVec 1 := Scalar.cmpi .sgt c4_i32_35 c0_i32_38
  let v101 : BitVec 32 := Scalar.extui v100
  let c0_i32_39 : BitVec 32 := 0#32
  let v102 : BitVec 1 := Scalar.cmpi .slt c4_i32_35 c0_i32_39
  let v103 : BitVec 32 := Scalar.extui v102
  let v104 : BitVec 32 := Scalar.subi v101 v103
  let v105 : BitVec 1 := Scalar.cmpi .ne v99 v104
  let v106 : BitVec 32 := Scalar.remsi v0 c4_i32_35
  let c0_i32_40 : BitVec 32 := 0#32
  let v107 : BitVec 1 := Scalar.cmpi .ne v106 c0_i32_40
  let v108 : BitVec 1 := Scalar.andi v105 v107
  let v94 : BitVec 32 := Scalar.divsi v0 c4_i32_35
  let c1_i32 : BitVec 32 := 1#32
  let v109 : BitVec 32 := Scalar.subi v94 c1_i32
  let v110 : BitVec 32 := Scalar.select v108 v109 v94
  let c0_i32_41 : BitVec 32 := 0#32
  let v112 : BitVec 1 := Scalar.cmpi .sgt v110 c0_i32_41
  let v113 : BitVec 32 := Scalar.extui v112
  let c0_i32_42 : BitVec 32 := 0#32
  let v114 : BitVec 1 := Scalar.cmpi .slt v110 c0_i32_42
  let v115 : BitVec 32 := Scalar.extui v114
  let v116 : BitVec 32 := Scalar.subi v113 v115
  let c2_i32 : BitVec 32 := 2#32
  let c0_i32_43 : BitVec 32 := 0#32
  let v117 : BitVec 1 := Scalar.cmpi .sgt c2_i32 c0_i32_43
  let v118 : BitVec 32 := Scalar.extui v117
  let c0_i32_44 : BitVec 32 := 0#32
  let v119 : BitVec 1 := Scalar.cmpi .slt c2_i32 c0_i32_44
  let v120 : BitVec 32 := Scalar.extui v119
  let v121 : BitVec 32 := Scalar.subi v118 v120
  let v122 : BitVec 1 := Scalar.cmpi .ne v116 v121
  let v123 : BitVec 32 := Scalar.remsi v110 c2_i32
  let c0_i32_45 : BitVec 32 := 0#32
  let v124 : BitVec 1 := Scalar.cmpi .ne v123 c0_i32_45
  let v125 : BitVec 1 := Scalar.andi v122 v124
  let v111 : BitVec 32 := Scalar.divsi v110 c2_i32
  let c1_i32_46 : BitVec 32 := 1#32
  let v126 : BitVec 32 := Scalar.subi v111 c1_i32_46
  let v127 : BitVec 32 := Scalar.select v125 v126 v111
  let v129 : BitVec 32 := Scalar.subi v127 c0_i32_48
  let c1_i32_49 : BitVec 32 := 1#32
  let v131 : BitVec 32 := Scalar.divsi v129 c1_i32_49
  let v132 : BitVec 32 := Scalar.muli v131 c1_i32_49
  let v133 : BitVec 32 := Scalar.addi c0_i32_48 v132
  let c1_i32_51 : BitVec 32 := 1#32
  let arg12 : BitVec 32 := Scf.iv v133 c1_i32_51 k0_t2
  let v816 : BitVec 32 := Scalar.muli c2_i32_283 arg12
  let c512_i32 : BitVec 32 := 512#32
  let v819 : BitVec 32 := Scalar.muli v816 c512_i32
  let v820 : BitVec 32 := v819
  let v821 : Index := Scalar.indexCast v820
  let c0_287 : Index := 0#32
  ![0, v821.toNat, 0]
def k0_mult4 (i : grid0.Coords) (k0_t2 : Fin (k0_t2_loop i).trips) : BitVec 32 :=
  let c2_i32_284 : BitVec 32 := 2#32
  let c0_i32_48 : BitVec 32 := 0#32
  let arg2 : BitVec 32 := BitVec.ofNat 32 (i 2).val
  let c4_i32 : BitVec 32 := 4#32
  let v0 : BitVec 32 := Scalar.muli arg2 c4_i32
  let c0_i32_36 : BitVec 32 := 0#32
  let v95 : BitVec 1 := Scalar.cmpi .sgt v0 c0_i32_36
  let v96 : BitVec 32 := Scalar.extui v95
  let c0_i32_37 : BitVec 32 := 0#32
  let v97 : BitVec 1 := Scalar.cmpi .slt v0 c0_i32_37
  let v98 : BitVec 32 := Scalar.extui v97
  let v99 : BitVec 32 := Scalar.subi v96 v98
  let c4_i32_35 : BitVec 32 := 4#32
  let c0_i32_38 : BitVec 32 := 0#32
  let v100 : BitVec 1 := Scalar.cmpi .sgt c4_i32_35 c0_i32_38
  let v101 : BitVec 32 := Scalar.extui v100
  let c0_i32_39 : BitVec 32 := 0#32
  let v102 : BitVec 1 := Scalar.cmpi .slt c4_i32_35 c0_i32_39
  let v103 : BitVec 32 := Scalar.extui v102
  let v104 : BitVec 32 := Scalar.subi v101 v103
  let v105 : BitVec 1 := Scalar.cmpi .ne v99 v104
  let v106 : BitVec 32 := Scalar.remsi v0 c4_i32_35
  let c0_i32_40 : BitVec 32 := 0#32
  let v107 : BitVec 1 := Scalar.cmpi .ne v106 c0_i32_40
  let v108 : BitVec 1 := Scalar.andi v105 v107
  let v94 : BitVec 32 := Scalar.divsi v0 c4_i32_35
  let c1_i32 : BitVec 32 := 1#32
  let v109 : BitVec 32 := Scalar.subi v94 c1_i32
  let v110 : BitVec 32 := Scalar.select v108 v109 v94
  let c0_i32_41 : BitVec 32 := 0#32
  let v112 : BitVec 1 := Scalar.cmpi .sgt v110 c0_i32_41
  let v113 : BitVec 32 := Scalar.extui v112
  let c0_i32_42 : BitVec 32 := 0#32
  let v114 : BitVec 1 := Scalar.cmpi .slt v110 c0_i32_42
  let v115 : BitVec 32 := Scalar.extui v114
  let v116 : BitVec 32 := Scalar.subi v113 v115
  let c2_i32 : BitVec 32 := 2#32
  let c0_i32_43 : BitVec 32 := 0#32
  let v117 : BitVec 1 := Scalar.cmpi .sgt c2_i32 c0_i32_43
  let v118 : BitVec 32 := Scalar.extui v117
  let c0_i32_44 : BitVec 32 := 0#32
  let v119 : BitVec 1 := Scalar.cmpi .slt c2_i32 c0_i32_44
  let v120 : BitVec 32 := Scalar.extui v119
  let v121 : BitVec 32 := Scalar.subi v118 v120
  let v122 : BitVec 1 := Scalar.cmpi .ne v116 v121
  let v123 : BitVec 32 := Scalar.remsi v110 c2_i32
  let c0_i32_45 : BitVec 32 := 0#32
  let v124 : BitVec 1 := Scalar.cmpi .ne v123 c0_i32_45
  let v125 : BitVec 1 := Scalar.andi v122 v124
  let v111 : BitVec 32 := Scalar.divsi v110 c2_i32
  let c1_i32_46 : BitVec 32 := 1#32
  let v126 : BitVec 32 := Scalar.subi v111 c1_i32_46
  let v127 : BitVec 32 := Scalar.select v125 v126 v111
  let v129 : BitVec 32 := Scalar.subi v127 c0_i32_48
  let c1_i32_49 : BitVec 32 := 1#32
  let v131 : BitVec 32 := Scalar.divsi v129 c1_i32_49
  let v132 : BitVec 32 := Scalar.muli v131 c1_i32_49
  let v133 : BitVec 32 := Scalar.addi c0_i32_48 v132
  let c1_i32_51 : BitVec 32 := 1#32
  let arg12 : BitVec 32 := Scf.iv v133 c1_i32_51 k0_t2
  let v817 : BitVec 32 := Scalar.muli c2_i32_284 arg12
  let c1_i32_285 : BitVec 32 := 1#32
  let v818 : BitVec 32 := Scalar.addi v817 c1_i32_285
  let c512_i32_292 : BitVec 32 := 512#32
  let v836 : BitVec 32 := Scalar.muli v818 c512_i32_292
  v836
def k0_off6 (i : grid0.Coords) (k0_t2 : Fin (k0_t2_loop i).trips) : Fin 3 → Nat :=
  let c0_293 : Index := 0#32
  let c2_i32_284 : BitVec 32 := 2#32
  let c0_i32_48 : BitVec 32 := 0#32
  let arg2 : BitVec 32 := BitVec.ofNat 32 (i 2).val
  let c4_i32 : BitVec 32 := 4#32
  let v0 : BitVec 32 := Scalar.muli arg2 c4_i32
  let c0_i32_36 : BitVec 32 := 0#32
  let v95 : BitVec 1 := Scalar.cmpi .sgt v0 c0_i32_36
  let v96 : BitVec 32 := Scalar.extui v95
  let c0_i32_37 : BitVec 32 := 0#32
  let v97 : BitVec 1 := Scalar.cmpi .slt v0 c0_i32_37
  let v98 : BitVec 32 := Scalar.extui v97
  let v99 : BitVec 32 := Scalar.subi v96 v98
  let c4_i32_35 : BitVec 32 := 4#32
  let c0_i32_38 : BitVec 32 := 0#32
  let v100 : BitVec 1 := Scalar.cmpi .sgt c4_i32_35 c0_i32_38
  let v101 : BitVec 32 := Scalar.extui v100
  let c0_i32_39 : BitVec 32 := 0#32
  let v102 : BitVec 1 := Scalar.cmpi .slt c4_i32_35 c0_i32_39
  let v103 : BitVec 32 := Scalar.extui v102
  let v104 : BitVec 32 := Scalar.subi v101 v103
  let v105 : BitVec 1 := Scalar.cmpi .ne v99 v104
  let v106 : BitVec 32 := Scalar.remsi v0 c4_i32_35
  let c0_i32_40 : BitVec 32 := 0#32
  let v107 : BitVec 1 := Scalar.cmpi .ne v106 c0_i32_40
  let v108 : BitVec 1 := Scalar.andi v105 v107
  let v94 : BitVec 32 := Scalar.divsi v0 c4_i32_35
  let c1_i32 : BitVec 32 := 1#32
  let v109 : BitVec 32 := Scalar.subi v94 c1_i32
  let v110 : BitVec 32 := Scalar.select v108 v109 v94
  let c0_i32_41 : BitVec 32 := 0#32
  let v112 : BitVec 1 := Scalar.cmpi .sgt v110 c0_i32_41
  let v113 : BitVec 32 := Scalar.extui v112
  let c0_i32_42 : BitVec 32 := 0#32
  let v114 : BitVec 1 := Scalar.cmpi .slt v110 c0_i32_42
  let v115 : BitVec 32 := Scalar.extui v114
  let v116 : BitVec 32 := Scalar.subi v113 v115
  let c2_i32 : BitVec 32 := 2#32
  let c0_i32_43 : BitVec 32 := 0#32
  let v117 : BitVec 1 := Scalar.cmpi .sgt c2_i32 c0_i32_43
  let v118 : BitVec 32 := Scalar.extui v117
  let c0_i32_44 : BitVec 32 := 0#32
  let v119 : BitVec 1 := Scalar.cmpi .slt c2_i32 c0_i32_44
  let v120 : BitVec 32 := Scalar.extui v119
  let v121 : BitVec 32 := Scalar.subi v118 v120
  let v122 : BitVec 1 := Scalar.cmpi .ne v116 v121
  let v123 : BitVec 32 := Scalar.remsi v110 c2_i32
  let c0_i32_45 : BitVec 32 := 0#32
  let v124 : BitVec 1 := Scalar.cmpi .ne v123 c0_i32_45
  let v125 : BitVec 1 := Scalar.andi v122 v124
  let v111 : BitVec 32 := Scalar.divsi v110 c2_i32
  let c1_i32_46 : BitVec 32 := 1#32
  let v126 : BitVec 32 := Scalar.subi v111 c1_i32_46
  let v127 : BitVec 32 := Scalar.select v125 v126 v111
  let v129 : BitVec 32 := Scalar.subi v127 c0_i32_48
  let c1_i32_49 : BitVec 32 := 1#32
  let v131 : BitVec 32 := Scalar.divsi v129 c1_i32_49
  let v132 : BitVec 32 := Scalar.muli v131 c1_i32_49
  let v133 : BitVec 32 := Scalar.addi c0_i32_48 v132
  let c1_i32_51 : BitVec 32 := 1#32
  let arg12 : BitVec 32 := Scf.iv v133 c1_i32_51 k0_t2
  let v817 : BitVec 32 := Scalar.muli c2_i32_284 arg12
  let c1_i32_285 : BitVec 32 := 1#32
  let v818 : BitVec 32 := Scalar.addi v817 c1_i32_285
  let c512_i32_292 : BitVec 32 := 512#32
  let v836 : BitVec 32 := Scalar.muli v818 c512_i32_292
  let v837 : BitVec 32 := v836
  let v838 : Index := Scalar.indexCast v837
  let c0_294 : Index := 0#32
  ![0, v838.toNat, 0]
def k0_off7 (i : grid0.Coords) (k0_t2 : Fin (k0_t2_loop i).trips) (c0_i32_328 : BitVec 32) : Fin 5 → Nat :=
  let c0_329 : Index := 0#32
  let c0_330 : Index := 0#32
  let c2_i32_283 : BitVec 32 := 2#32
  let c0_i32_48 : BitVec 32 := 0#32
  let arg2 : BitVec 32 := BitVec.ofNat 32 (i 2).val
  let c4_i32 : BitVec 32 := 4#32
  let v0 : BitVec 32 := Scalar.muli arg2 c4_i32
  let c0_i32_36 : BitVec 32 := 0#32
  let v95 : BitVec 1 := Scalar.cmpi .sgt v0 c0_i32_36
  let v96 : BitVec 32 := Scalar.extui v95
  let c0_i32_37 : BitVec 32 := 0#32
  let v97 : BitVec 1 := Scalar.cmpi .slt v0 c0_i32_37
  let v98 : BitVec 32 := Scalar.extui v97
  let v99 : BitVec 32 := Scalar.subi v96 v98
  let c4_i32_35 : BitVec 32 := 4#32
  let c0_i32_38 : BitVec 32 := 0#32
  let v100 : BitVec 1 := Scalar.cmpi .sgt c4_i32_35 c0_i32_38
  let v101 : BitVec 32 := Scalar.extui v100
  let c0_i32_39 : BitVec 32 := 0#32
  let v102 : BitVec 1 := Scalar.cmpi .slt c4_i32_35 c0_i32_39
  let v103 : BitVec 32 := Scalar.extui v102
  let v104 : BitVec 32 := Scalar.subi v101 v103
  let v105 : BitVec 1 := Scalar.cmpi .ne v99 v104
  let v106 : BitVec 32 := Scalar.remsi v0 c4_i32_35
  let c0_i32_40 : BitVec 32 := 0#32
  let v107 : BitVec 1 := Scalar.cmpi .ne v106 c0_i32_40
  let v108 : BitVec 1 := Scalar.andi v105 v107
  let v94 : BitVec 32 := Scalar.divsi v0 c4_i32_35
  let c1_i32 : BitVec 32 := 1#32
  let v109 : BitVec 32 := Scalar.subi v94 c1_i32
  let v110 : BitVec 32 := Scalar.select v108 v109 v94
  let c0_i32_41 : BitVec 32 := 0#32
  let v112 : BitVec 1 := Scalar.cmpi .sgt v110 c0_i32_41
  let v113 : BitVec 32 := Scalar.extui v112
  let c0_i32_42 : BitVec 32 := 0#32
  let v114 : BitVec 1 := Scalar.cmpi .slt v110 c0_i32_42
  let v115 : BitVec 32 := Scalar.extui v114
  let v116 : BitVec 32 := Scalar.subi v113 v115
  let c2_i32 : BitVec 32 := 2#32
  let c0_i32_43 : BitVec 32 := 0#32
  let v117 : BitVec 1 := Scalar.cmpi .sgt c2_i32 c0_i32_43
  let v118 : BitVec 32 := Scalar.extui v117
  let c0_i32_44 : BitVec 32 := 0#32
  let v119 : BitVec 1 := Scalar.cmpi .slt c2_i32 c0_i32_44
  let v120 : BitVec 32 := Scalar.extui v119
  let v121 : BitVec 32 := Scalar.subi v118 v120
  let v122 : BitVec 1 := Scalar.cmpi .ne v116 v121
  let v123 : BitVec 32 := Scalar.remsi v110 c2_i32
  let c0_i32_45 : BitVec 32 := 0#32
  let v124 : BitVec 1 := Scalar.cmpi .ne v123 c0_i32_45
  let v125 : BitVec 1 := Scalar.andi v122 v124
  let v111 : BitVec 32 := Scalar.divsi v110 c2_i32
  let c1_i32_46 : BitVec 32 := 1#32
  let v126 : BitVec 32 := Scalar.subi v111 c1_i32_46
  let v127 : BitVec 32 := Scalar.select v125 v126 v111
  let v129 : BitVec 32 := Scalar.subi v127 c0_i32_48
  let c1_i32_49 : BitVec 32 := 1#32
  let v131 : BitVec 32 := Scalar.divsi v129 c1_i32_49
  let v132 : BitVec 32 := Scalar.muli v131 c1_i32_49
  let v133 : BitVec 32 := Scalar.addi c0_i32_48 v132
  let c1_i32_51 : BitVec 32 := 1#32
  let arg12 : BitVec 32 := Scf.iv v133 c1_i32_51 k0_t2
  let v816 : BitVec 32 := Scalar.muli c2_i32_283 arg12
  let c4_i32_327 : BitVec 32 := 4#32
  let v1087 : BitVec 32 := Scalar.muli v816 c4_i32_327
  let v1088 : BitVec 32 := Scalar.addi v1087 c0_i32_328
  let v1089 : Index := Scalar.indexCast v1088
  let c0_331 : Index := 0#32
  let c0_332 : Index := 0#32
  ![0, 0, v1089.toNat, 0, 0]
def k0_off8 (i : grid0.Coords) (k0_t2 : Fin (k0_t2_loop i).trips) (c0_i32_366 : BitVec 32) : Fin 5 → Nat :=
  let c0_367 : Index := 0#32
  let c0_368 : Index := 0#32
  let c2_i32_284 : BitVec 32 := 2#32
  let c0_i32_48 : BitVec 32 := 0#32
  let arg2 : BitVec 32 := BitVec.ofNat 32 (i 2).val
  let c4_i32 : BitVec 32 := 4#32
  let v0 : BitVec 32 := Scalar.muli arg2 c4_i32
  let c0_i32_36 : BitVec 32 := 0#32
  let v95 : BitVec 1 := Scalar.cmpi .sgt v0 c0_i32_36
  let v96 : BitVec 32 := Scalar.extui v95
  let c0_i32_37 : BitVec 32 := 0#32
  let v97 : BitVec 1 := Scalar.cmpi .slt v0 c0_i32_37
  let v98 : BitVec 32 := Scalar.extui v97
  let v99 : BitVec 32 := Scalar.subi v96 v98
  let c4_i32_35 : BitVec 32 := 4#32
  let c0_i32_38 : BitVec 32 := 0#32
  let v100 : BitVec 1 := Scalar.cmpi .sgt c4_i32_35 c0_i32_38
  let v101 : BitVec 32 := Scalar.extui v100
  let c0_i32_39 : BitVec 32 := 0#32
  let v102 : BitVec 1 := Scalar.cmpi .slt c4_i32_35 c0_i32_39
  let v103 : BitVec 32 := Scalar.extui v102
  let v104 : BitVec 32 := Scalar.subi v101 v103
  let v105 : BitVec 1 := Scalar.cmpi .ne v99 v104
  let v106 : BitVec 32 := Scalar.remsi v0 c4_i32_35
  let c0_i32_40 : BitVec 32 := 0#32
  let v107 : BitVec 1 := Scalar.cmpi .ne v106 c0_i32_40
  let v108 : BitVec 1 := Scalar.andi v105 v107
  let v94 : BitVec 32 := Scalar.divsi v0 c4_i32_35
  let c1_i32 : BitVec 32 := 1#32
  let v109 : BitVec 32 := Scalar.subi v94 c1_i32
  let v110 : BitVec 32 := Scalar.select v108 v109 v94
  let c0_i32_41 : BitVec 32 := 0#32
  let v112 : BitVec 1 := Scalar.cmpi .sgt v110 c0_i32_41
  let v113 : BitVec 32 := Scalar.extui v112
  let c0_i32_42 : BitVec 32 := 0#32
  let v114 : BitVec 1 := Scalar.cmpi .slt v110 c0_i32_42
  let v115 : BitVec 32 := Scalar.extui v114
  let v116 : BitVec 32 := Scalar.subi v113 v115
  let c2_i32 : BitVec 32 := 2#32
  let c0_i32_43 : BitVec 32 := 0#32
  let v117 : BitVec 1 := Scalar.cmpi .sgt c2_i32 c0_i32_43
  let v118 : BitVec 32 := Scalar.extui v117
  let c0_i32_44 : BitVec 32 := 0#32
  let v119 : BitVec 1 := Scalar.cmpi .slt c2_i32 c0_i32_44
  let v120 : BitVec 32 := Scalar.extui v119
  let v121 : BitVec 32 := Scalar.subi v118 v120
  let v122 : BitVec 1 := Scalar.cmpi .ne v116 v121
  let v123 : BitVec 32 := Scalar.remsi v110 c2_i32
  let c0_i32_45 : BitVec 32 := 0#32
  let v124 : BitVec 1 := Scalar.cmpi .ne v123 c0_i32_45
  let v125 : BitVec 1 := Scalar.andi v122 v124
  let v111 : BitVec 32 := Scalar.divsi v110 c2_i32
  let c1_i32_46 : BitVec 32 := 1#32
  let v126 : BitVec 32 := Scalar.subi v111 c1_i32_46
  let v127 : BitVec 32 := Scalar.select v125 v126 v111
  let v129 : BitVec 32 := Scalar.subi v127 c0_i32_48
  let c1_i32_49 : BitVec 32 := 1#32
  let v131 : BitVec 32 := Scalar.divsi v129 c1_i32_49
  let v132 : BitVec 32 := Scalar.muli v131 c1_i32_49
  let v133 : BitVec 32 := Scalar.addi c0_i32_48 v132
  let c1_i32_51 : BitVec 32 := 1#32
  let arg12 : BitVec 32 := Scf.iv v133 c1_i32_51 k0_t2
  let v817 : BitVec 32 := Scalar.muli c2_i32_284 arg12
  let c1_i32_285 : BitVec 32 := 1#32
  let v818 : BitVec 32 := Scalar.addi v817 c1_i32_285
  let c4_i32_365 : BitVec 32 := 4#32
  let v1138 : BitVec 32 := Scalar.muli v818 c4_i32_365
  let v1139 : BitVec 32 := Scalar.addi v1138 c0_i32_366
  let v1140 : Index := Scalar.indexCast v1139
  let c0_369 : Index := 0#32
  let c0_370 : Index := 0#32
  ![0, 0, v1140.toNat, 0, 0]
@[reducible] def k0_t3_loop (i : grid0.Coords) : Scf.Loop 32 :=
  let c0_i32_58 : BitVec 32 := 0#32
  let arg2 : BitVec 32 := BitVec.ofNat 32 (i 2).val
  let c4_i32 : BitVec 32 := 4#32
  let v0 : BitVec 32 := Scalar.muli arg2 c4_i32
  let c0_i32_36 : BitVec 32 := 0#32
  let v95 : BitVec 1 := Scalar.cmpi .sgt v0 c0_i32_36
  let v96 : BitVec 32 := Scalar.extui v95
  let c0_i32_37 : BitVec 32 := 0#32
  let v97 : BitVec 1 := Scalar.cmpi .slt v0 c0_i32_37
  let v98 : BitVec 32 := Scalar.extui v97
  let v99 : BitVec 32 := Scalar.subi v96 v98
  let c4_i32_35 : BitVec 32 := 4#32
  let c0_i32_38 : BitVec 32 := 0#32
  let v100 : BitVec 1 := Scalar.cmpi .sgt c4_i32_35 c0_i32_38
  let v101 : BitVec 32 := Scalar.extui v100
  let c0_i32_39 : BitVec 32 := 0#32
  let v102 : BitVec 1 := Scalar.cmpi .slt c4_i32_35 c0_i32_39
  let v103 : BitVec 32 := Scalar.extui v102
  let v104 : BitVec 32 := Scalar.subi v101 v103
  let v105 : BitVec 1 := Scalar.cmpi .ne v99 v104
  let v106 : BitVec 32 := Scalar.remsi v0 c4_i32_35
  let c0_i32_40 : BitVec 32 := 0#32
  let v107 : BitVec 1 := Scalar.cmpi .ne v106 c0_i32_40
  let v108 : BitVec 1 := Scalar.andi v105 v107
  let v94 : BitVec 32 := Scalar.divsi v0 c4_i32_35
  let c1_i32 : BitVec 32 := 1#32
  let v109 : BitVec 32 := Scalar.subi v94 c1_i32
  let v110 : BitVec 32 := Scalar.select v108 v109 v94
  let c2_i32_52 : BitVec 32 := 2#32
  let c0_i32_53 : BitVec 32 := 0#32
  let v136 : BitVec 1 := Scalar.cmpi .eq c2_i32_52 c0_i32_53
  let c1_i32_54 : BitVec 32 := 1#32
  let v137 : BitVec 32 := Scalar.select v136 c1_i32_54 c2_i32_52
  let v138 : BitVec 32 := Scalar.remsi v110 v137
  let c0_i32_56 : BitVec 32 := 0#32
  let v140 : BitVec 1 := Scalar.cmpi .slt v138 c0_i32_56
  let c0_i32_57 : BitVec 32 := 0#32
  let v141 : BitVec 1 := Scalar.cmpi .slt v137 c0_i32_57
  let v142 : BitVec 1 := Scalar.xori v140 v141
  let c0_i32_55 : BitVec 32 := 0#32
  let v139 : BitVec 1 := Scalar.cmpi .ne v138 c0_i32_55
  let v143 : BitVec 1 := Scalar.andi v142 v139
  let v144 : BitVec 32 := Scalar.addi v138 v137
  let v145 : BitVec 32 := Scalar.select v143 v144 v138
  let v146 : BitVec 32 := Scalar.subi v145 c0_i32_58
  let c1_i32_59 : BitVec 32 := 1#32
  let v148 : BitVec 32 := Scalar.divsi v146 c1_i32_59
  let v149 : BitVec 32 := Scalar.muli v148 c1_i32_59
  let v150 : BitVec 32 := Scalar.addi c0_i32_58 v149
  let c1_i32_60 : BitVec 32 := 1#32
  ⟨c0_i32_58, v150, c1_i32_60⟩
def k0_mult5 (i : grid0.Coords) : BitVec 32 :=
  let arg2 : BitVec 32 := BitVec.ofNat 32 (i 2).val
  let c4_i32 : BitVec 32 := 4#32
  let v0 : BitVec 32 := Scalar.muli arg2 c4_i32
  let c0_i32_36 : BitVec 32 := 0#32
  let v95 : BitVec 1 := Scalar.cmpi .sgt v0 c0_i32_36
  let v96 : BitVec 32 := Scalar.extui v95
  let c0_i32_37 : BitVec 32 := 0#32
  let v97 : BitVec 1 := Scalar.cmpi .slt v0 c0_i32_37
  let v98 : BitVec 32 := Scalar.extui v97
  let v99 : BitVec 32 := Scalar.subi v96 v98
  let c4_i32_35 : BitVec 32 := 4#32
  let c0_i32_38 : BitVec 32 := 0#32
  let v100 : BitVec 1 := Scalar.cmpi .sgt c4_i32_35 c0_i32_38
  let v101 : BitVec 32 := Scalar.extui v100
  let c0_i32_39 : BitVec 32 := 0#32
  let v102 : BitVec 1 := Scalar.cmpi .slt c4_i32_35 c0_i32_39
  let v103 : BitVec 32 := Scalar.extui v102
  let v104 : BitVec 32 := Scalar.subi v101 v103
  let v105 : BitVec 1 := Scalar.cmpi .ne v99 v104
  let v106 : BitVec 32 := Scalar.remsi v0 c4_i32_35
  let c0_i32_40 : BitVec 32 := 0#32
  let v107 : BitVec 1 := Scalar.cmpi .ne v106 c0_i32_40
  let v108 : BitVec 1 := Scalar.andi v105 v107
  let v94 : BitVec 32 := Scalar.divsi v0 c4_i32_35
  let c1_i32 : BitVec 32 := 1#32
  let v109 : BitVec 32 := Scalar.subi v94 c1_i32
  let v110 : BitVec 32 := Scalar.select v108 v109 v94
  let c1_i32_283 : BitVec 32 := 1#32
  let v816 : BitVec 32 := Scalar.subi v110 c1_i32_283
  let c512_i32 : BitVec 32 := 512#32
  let v817 : BitVec 32 := Scalar.muli v816 c512_i32
  v817
def k0_off9 (i : grid0.Coords) : Fin 3 → Nat :=
  let c0_284 : Index := 0#32
  let arg2 : BitVec 32 := BitVec.ofNat 32 (i 2).val
  let c4_i32 : BitVec 32 := 4#32
  let v0 : BitVec 32 := Scalar.muli arg2 c4_i32
  let c0_i32_36 : BitVec 32 := 0#32
  let v95 : BitVec 1 := Scalar.cmpi .sgt v0 c0_i32_36
  let v96 : BitVec 32 := Scalar.extui v95
  let c0_i32_37 : BitVec 32 := 0#32
  let v97 : BitVec 1 := Scalar.cmpi .slt v0 c0_i32_37
  let v98 : BitVec 32 := Scalar.extui v97
  let v99 : BitVec 32 := Scalar.subi v96 v98
  let c4_i32_35 : BitVec 32 := 4#32
  let c0_i32_38 : BitVec 32 := 0#32
  let v100 : BitVec 1 := Scalar.cmpi .sgt c4_i32_35 c0_i32_38
  let v101 : BitVec 32 := Scalar.extui v100
  let c0_i32_39 : BitVec 32 := 0#32
  let v102 : BitVec 1 := Scalar.cmpi .slt c4_i32_35 c0_i32_39
  let v103 : BitVec 32 := Scalar.extui v102
  let v104 : BitVec 32 := Scalar.subi v101 v103
  let v105 : BitVec 1 := Scalar.cmpi .ne v99 v104
  let v106 : BitVec 32 := Scalar.remsi v0 c4_i32_35
  let c0_i32_40 : BitVec 32 := 0#32
  let v107 : BitVec 1 := Scalar.cmpi .ne v106 c0_i32_40
  let v108 : BitVec 1 := Scalar.andi v105 v107
  let v94 : BitVec 32 := Scalar.divsi v0 c4_i32_35
  let c1_i32 : BitVec 32 := 1#32
  let v109 : BitVec 32 := Scalar.subi v94 c1_i32
  let v110 : BitVec 32 := Scalar.select v108 v109 v94
  let c1_i32_283 : BitVec 32 := 1#32
  let v816 : BitVec 32 := Scalar.subi v110 c1_i32_283
  let c512_i32 : BitVec 32 := 512#32
  let v817 : BitVec 32 := Scalar.muli v816 c512_i32
  let v818 : BitVec 32 := v817
  let v819 : Index := Scalar.indexCast v818
  let c0_285 : Index := 0#32
  ![0, v819.toNat, 0]
def k0_off10 (i : grid0.Coords) (c0_i32_305 : BitVec 32) : Fin 5 → Nat :=
  let c0_306 : Index := 0#32
  let c0_307 : Index := 0#32
  let arg2 : BitVec 32 := BitVec.ofNat 32 (i 2).val
  let c4_i32 : BitVec 32 := 4#32
  let v0 : BitVec 32 := Scalar.muli arg2 c4_i32
  let c0_i32_36 : BitVec 32 := 0#32
  let v95 : BitVec 1 := Scalar.cmpi .sgt v0 c0_i32_36
  let v96 : BitVec 32 := Scalar.extui v95
  let c0_i32_37 : BitVec 32 := 0#32
  let v97 : BitVec 1 := Scalar.cmpi .slt v0 c0_i32_37
  let v98 : BitVec 32 := Scalar.extui v97
  let v99 : BitVec 32 := Scalar.subi v96 v98
  let c4_i32_35 : BitVec 32 := 4#32
  let c0_i32_38 : BitVec 32 := 0#32
  let v100 : BitVec 1 := Scalar.cmpi .sgt c4_i32_35 c0_i32_38
  let v101 : BitVec 32 := Scalar.extui v100
  let c0_i32_39 : BitVec 32 := 0#32
  let v102 : BitVec 1 := Scalar.cmpi .slt c4_i32_35 c0_i32_39
  let v103 : BitVec 32 := Scalar.extui v102
  let v104 : BitVec 32 := Scalar.subi v101 v103
  let v105 : BitVec 1 := Scalar.cmpi .ne v99 v104
  let v106 : BitVec 32 := Scalar.remsi v0 c4_i32_35
  let c0_i32_40 : BitVec 32 := 0#32
  let v107 : BitVec 1 := Scalar.cmpi .ne v106 c0_i32_40
  let v108 : BitVec 1 := Scalar.andi v105 v107
  let v94 : BitVec 32 := Scalar.divsi v0 c4_i32_35
  let c1_i32 : BitVec 32 := 1#32
  let v109 : BitVec 32 := Scalar.subi v94 c1_i32
  let v110 : BitVec 32 := Scalar.select v108 v109 v94
  let c1_i32_283 : BitVec 32 := 1#32
  let v816 : BitVec 32 := Scalar.subi v110 c1_i32_283
  let c4_i32_304 : BitVec 32 := 4#32
  let v951 : BitVec 32 := Scalar.muli v816 c4_i32_304
  let v952 : BitVec 32 := Scalar.addi v951 c0_i32_305
  let v953 : Index := Scalar.indexCast v952
  let c0_308 : Index := 0#32
  let c0_309 : Index := 0#32
  ![0, 0, v953.toNat, 0, 0]
@[reducible] def k0_t4_loop (i : grid0.Coords) : Scf.Loop 32 :=
  let c0_i32_58 : BitVec 32 := 0#32
  let arg2 : BitVec 32 := BitVec.ofNat 32 (i 2).val
  let c4_i32 : BitVec 32 := 4#32
  let v0 : BitVec 32 := Scalar.muli arg2 c4_i32
  let c0_i32_36 : BitVec 32 := 0#32
  let v95 : BitVec 1 := Scalar.cmpi .sgt v0 c0_i32_36
  let v96 : BitVec 32 := Scalar.extui v95
  let c0_i32_37 : BitVec 32 := 0#32
  let v97 : BitVec 1 := Scalar.cmpi .slt v0 c0_i32_37
  let v98 : BitVec 32 := Scalar.extui v97
  let v99 : BitVec 32 := Scalar.subi v96 v98
  let c4_i32_35 : BitVec 32 := 4#32
  let c0_i32_38 : BitVec 32 := 0#32
  let v100 : BitVec 1 := Scalar.cmpi .sgt c4_i32_35 c0_i32_38
  let v101 : BitVec 32 := Scalar.extui v100
  let c0_i32_39 : BitVec 32 := 0#32
  let v102 : BitVec 1 := Scalar.cmpi .slt c4_i32_35 c0_i32_39
  let v103 : BitVec 32 := Scalar.extui v102
  let v104 : BitVec 32 := Scalar.subi v101 v103
  let v105 : BitVec 1 := Scalar.cmpi .ne v99 v104
  let v106 : BitVec 32 := Scalar.remsi v0 c4_i32_35
  let c0_i32_40 : BitVec 32 := 0#32
  let v107 : BitVec 1 := Scalar.cmpi .ne v106 c0_i32_40
  let v108 : BitVec 1 := Scalar.andi v105 v107
  let v94 : BitVec 32 := Scalar.divsi v0 c4_i32_35
  let c1_i32 : BitVec 32 := 1#32
  let v109 : BitVec 32 := Scalar.subi v94 c1_i32
  let v110 : BitVec 32 := Scalar.select v108 v109 v94
  let c2_i32_52 : BitVec 32 := 2#32
  let c0_i32_53 : BitVec 32 := 0#32
  let v136 : BitVec 1 := Scalar.cmpi .eq c2_i32_52 c0_i32_53
  let c1_i32_54 : BitVec 32 := 1#32
  let v137 : BitVec 32 := Scalar.select v136 c1_i32_54 c2_i32_52
  let v138 : BitVec 32 := Scalar.remsi v110 v137
  let c0_i32_56 : BitVec 32 := 0#32
  let v140 : BitVec 1 := Scalar.cmpi .slt v138 c0_i32_56
  let c0_i32_57 : BitVec 32 := 0#32
  let v141 : BitVec 1 := Scalar.cmpi .slt v137 c0_i32_57
  let v142 : BitVec 1 := Scalar.xori v140 v141
  let c0_i32_55 : BitVec 32 := 0#32
  let v139 : BitVec 1 := Scalar.cmpi .ne v138 c0_i32_55
  let v143 : BitVec 1 := Scalar.andi v142 v139
  let v144 : BitVec 32 := Scalar.addi v138 v137
  let v145 : BitVec 32 := Scalar.select v143 v144 v138
  let v146 : BitVec 32 := Scalar.subi v145 c0_i32_58
  let c1_i32_59 : BitVec 32 := 1#32
  let v148 : BitVec 32 := Scalar.divsi v146 c1_i32_59
  let v149 : BitVec 32 := Scalar.muli v148 c1_i32_59
  let v150 : BitVec 32 := Scalar.addi c0_i32_58 v149
  let v147 : BitVec 32 := Scalar.addi c0_i32_58 v146
  let c1_i32_61 : BitVec 32 := 1#32
  ⟨v150, v147, c1_i32_61⟩
def k0_mult6 (i : grid0.Coords) : BitVec 32 :=
  let arg2 : BitVec 32 := BitVec.ofNat 32 (i 2).val
  let c4_i32 : BitVec 32 := 4#32
  let v0 : BitVec 32 := Scalar.muli arg2 c4_i32
  let c0_i32_36 : BitVec 32 := 0#32
  let v95 : BitVec 1 := Scalar.cmpi .sgt v0 c0_i32_36
  let v96 : BitVec 32 := Scalar.extui v95
  let c0_i32_37 : BitVec 32 := 0#32
  let v97 : BitVec 1 := Scalar.cmpi .slt v0 c0_i32_37
  let v98 : BitVec 32 := Scalar.extui v97
  let v99 : BitVec 32 := Scalar.subi v96 v98
  let c4_i32_35 : BitVec 32 := 4#32
  let c0_i32_38 : BitVec 32 := 0#32
  let v100 : BitVec 1 := Scalar.cmpi .sgt c4_i32_35 c0_i32_38
  let v101 : BitVec 32 := Scalar.extui v100
  let c0_i32_39 : BitVec 32 := 0#32
  let v102 : BitVec 1 := Scalar.cmpi .slt c4_i32_35 c0_i32_39
  let v103 : BitVec 32 := Scalar.extui v102
  let v104 : BitVec 32 := Scalar.subi v101 v103
  let v105 : BitVec 1 := Scalar.cmpi .ne v99 v104
  let v106 : BitVec 32 := Scalar.remsi v0 c4_i32_35
  let c0_i32_40 : BitVec 32 := 0#32
  let v107 : BitVec 1 := Scalar.cmpi .ne v106 c0_i32_40
  let v108 : BitVec 1 := Scalar.andi v105 v107
  let v94 : BitVec 32 := Scalar.divsi v0 c4_i32_35
  let c1_i32 : BitVec 32 := 1#32
  let v109 : BitVec 32 := Scalar.subi v94 c1_i32
  let v110 : BitVec 32 := Scalar.select v108 v109 v94
  let c1_i32_283 : BitVec 32 := 1#32
  let v816 : BitVec 32 := Scalar.subi v110 c1_i32_283
  let c512_i32 : BitVec 32 := 512#32
  let v817 : BitVec 32 := Scalar.muli v816 c512_i32
  v817
def k0_off11 (i : grid0.Coords) : Fin 3 → Nat :=
  let c0_284 : Index := 0#32
  let arg2 : BitVec 32 := BitVec.ofNat 32 (i 2).val
  let c4_i32 : BitVec 32 := 4#32
  let v0 : BitVec 32 := Scalar.muli arg2 c4_i32
  let c0_i32_36 : BitVec 32 := 0#32
  let v95 : BitVec 1 := Scalar.cmpi .sgt v0 c0_i32_36
  let v96 : BitVec 32 := Scalar.extui v95
  let c0_i32_37 : BitVec 32 := 0#32
  let v97 : BitVec 1 := Scalar.cmpi .slt v0 c0_i32_37
  let v98 : BitVec 32 := Scalar.extui v97
  let v99 : BitVec 32 := Scalar.subi v96 v98
  let c4_i32_35 : BitVec 32 := 4#32
  let c0_i32_38 : BitVec 32 := 0#32
  let v100 : BitVec 1 := Scalar.cmpi .sgt c4_i32_35 c0_i32_38
  let v101 : BitVec 32 := Scalar.extui v100
  let c0_i32_39 : BitVec 32 := 0#32
  let v102 : BitVec 1 := Scalar.cmpi .slt c4_i32_35 c0_i32_39
  let v103 : BitVec 32 := Scalar.extui v102
  let v104 : BitVec 32 := Scalar.subi v101 v103
  let v105 : BitVec 1 := Scalar.cmpi .ne v99 v104
  let v106 : BitVec 32 := Scalar.remsi v0 c4_i32_35
  let c0_i32_40 : BitVec 32 := 0#32
  let v107 : BitVec 1 := Scalar.cmpi .ne v106 c0_i32_40
  let v108 : BitVec 1 := Scalar.andi v105 v107
  let v94 : BitVec 32 := Scalar.divsi v0 c4_i32_35
  let c1_i32 : BitVec 32 := 1#32
  let v109 : BitVec 32 := Scalar.subi v94 c1_i32
  let v110 : BitVec 32 := Scalar.select v108 v109 v94
  let c1_i32_283 : BitVec 32 := 1#32
  let v816 : BitVec 32 := Scalar.subi v110 c1_i32_283
  let c512_i32 : BitVec 32 := 512#32
  let v817 : BitVec 32 := Scalar.muli v816 c512_i32
  let v818 : BitVec 32 := v817
  let v819 : Index := Scalar.indexCast v818
  let c0_285 : Index := 0#32
  ![0, v819.toNat, 0]
def k0_off12 (i : grid0.Coords) (c0_i32_305 : BitVec 32) : Fin 5 → Nat :=
  let c0_306 : Index := 0#32
  let c0_307 : Index := 0#32
  let arg2 : BitVec 32 := BitVec.ofNat 32 (i 2).val
  let c4_i32 : BitVec 32 := 4#32
  let v0 : BitVec 32 := Scalar.muli arg2 c4_i32
  let c0_i32_36 : BitVec 32 := 0#32
  let v95 : BitVec 1 := Scalar.cmpi .sgt v0 c0_i32_36
  let v96 : BitVec 32 := Scalar.extui v95
  let c0_i32_37 : BitVec 32 := 0#32
  let v97 : BitVec 1 := Scalar.cmpi .slt v0 c0_i32_37
  let v98 : BitVec 32 := Scalar.extui v97
  let v99 : BitVec 32 := Scalar.subi v96 v98
  let c4_i32_35 : BitVec 32 := 4#32
  let c0_i32_38 : BitVec 32 := 0#32
  let v100 : BitVec 1 := Scalar.cmpi .sgt c4_i32_35 c0_i32_38
  let v101 : BitVec 32 := Scalar.extui v100
  let c0_i32_39 : BitVec 32 := 0#32
  let v102 : BitVec 1 := Scalar.cmpi .slt c4_i32_35 c0_i32_39
  let v103 : BitVec 32 := Scalar.extui v102
  let v104 : BitVec 32 := Scalar.subi v101 v103
  let v105 : BitVec 1 := Scalar.cmpi .ne v99 v104
  let v106 : BitVec 32 := Scalar.remsi v0 c4_i32_35
  let c0_i32_40 : BitVec 32 := 0#32
  let v107 : BitVec 1 := Scalar.cmpi .ne v106 c0_i32_40
  let v108 : BitVec 1 := Scalar.andi v105 v107
  let v94 : BitVec 32 := Scalar.divsi v0 c4_i32_35
  let c1_i32 : BitVec 32 := 1#32
  let v109 : BitVec 32 := Scalar.subi v94 c1_i32
  let v110 : BitVec 32 := Scalar.select v108 v109 v94
  let c1_i32_283 : BitVec 32 := 1#32
  let v816 : BitVec 32 := Scalar.subi v110 c1_i32_283
  let c4_i32_304 : BitVec 32 := 4#32
  let v951 : BitVec 32 := Scalar.muli v816 c4_i32_304
  let v952 : BitVec 32 := Scalar.addi v951 c0_i32_305
  let v953 : Index := Scalar.indexCast v952
  let c0_308 : Index := 0#32
  let c0_309 : Index := 0#32
  ![0, 0, v953.toNat, 0, 0]
def k0_mult7 (i : grid0.Coords) : BitVec 32 :=
  let arg2 : BitVec 32 := BitVec.ofNat 32 (i 2).val
  let c4_i32 : BitVec 32 := 4#32
  let v0 : BitVec 32 := Scalar.muli arg2 c4_i32
  let c0_i32_36 : BitVec 32 := 0#32
  let v95 : BitVec 1 := Scalar.cmpi .sgt v0 c0_i32_36
  let v96 : BitVec 32 := Scalar.extui v95
  let c0_i32_37 : BitVec 32 := 0#32
  let v97 : BitVec 1 := Scalar.cmpi .slt v0 c0_i32_37
  let v98 : BitVec 32 := Scalar.extui v97
  let v99 : BitVec 32 := Scalar.subi v96 v98
  let c4_i32_35 : BitVec 32 := 4#32
  let c0_i32_38 : BitVec 32 := 0#32
  let v100 : BitVec 1 := Scalar.cmpi .sgt c4_i32_35 c0_i32_38
  let v101 : BitVec 32 := Scalar.extui v100
  let c0_i32_39 : BitVec 32 := 0#32
  let v102 : BitVec 1 := Scalar.cmpi .slt c4_i32_35 c0_i32_39
  let v103 : BitVec 32 := Scalar.extui v102
  let v104 : BitVec 32 := Scalar.subi v101 v103
  let v105 : BitVec 1 := Scalar.cmpi .ne v99 v104
  let v106 : BitVec 32 := Scalar.remsi v0 c4_i32_35
  let c0_i32_40 : BitVec 32 := 0#32
  let v107 : BitVec 1 := Scalar.cmpi .ne v106 c0_i32_40
  let v108 : BitVec 1 := Scalar.andi v105 v107
  let v94 : BitVec 32 := Scalar.divsi v0 c4_i32_35
  let c1_i32 : BitVec 32 := 1#32
  let v109 : BitVec 32 := Scalar.subi v94 c1_i32
  let v110 : BitVec 32 := Scalar.select v108 v109 v94
  let c4_i32_62 : BitVec 32 := 4#32
  let v154 : BitVec 32 := Scalar.muli v110 c4_i32_62
  let c0_i32_63 : BitVec 32 := 0#32
  let v155 : BitVec 32 := Scalar.addi v154 c0_i32_63
  let c128_i32 : BitVec 32 := 128#32
  let v156 : BitVec 32 := Scalar.muli v155 c128_i32
  v156
def k0_off13 (i : grid0.Coords) (c0_i32_63 : BitVec 32) : Fin 3 → Nat :=
  let c0_64 : Index := 0#32
  let arg2 : BitVec 32 := BitVec.ofNat 32 (i 2).val
  let c4_i32 : BitVec 32 := 4#32
  let v0 : BitVec 32 := Scalar.muli arg2 c4_i32
  let c0_i32_36 : BitVec 32 := 0#32
  let v95 : BitVec 1 := Scalar.cmpi .sgt v0 c0_i32_36
  let v96 : BitVec 32 := Scalar.extui v95
  let c0_i32_37 : BitVec 32 := 0#32
  let v97 : BitVec 1 := Scalar.cmpi .slt v0 c0_i32_37
  let v98 : BitVec 32 := Scalar.extui v97
  let v99 : BitVec 32 := Scalar.subi v96 v98
  let c4_i32_35 : BitVec 32 := 4#32
  let c0_i32_38 : BitVec 32 := 0#32
  let v100 : BitVec 1 := Scalar.cmpi .sgt c4_i32_35 c0_i32_38
  let v101 : BitVec 32 := Scalar.extui v100
  let c0_i32_39 : BitVec 32 := 0#32
  let v102 : BitVec 1 := Scalar.cmpi .slt c4_i32_35 c0_i32_39
  let v103 : BitVec 32 := Scalar.extui v102
  let v104 : BitVec 32 := Scalar.subi v101 v103
  let v105 : BitVec 1 := Scalar.cmpi .ne v99 v104
  let v106 : BitVec 32 := Scalar.remsi v0 c4_i32_35
  let c0_i32_40 : BitVec 32 := 0#32
  let v107 : BitVec 1 := Scalar.cmpi .ne v106 c0_i32_40
  let v108 : BitVec 1 := Scalar.andi v105 v107
  let v94 : BitVec 32 := Scalar.divsi v0 c4_i32_35
  let c1_i32 : BitVec 32 := 1#32
  let v109 : BitVec 32 := Scalar.subi v94 c1_i32
  let v110 : BitVec 32 := Scalar.select v108 v109 v94
  let c4_i32_62 : BitVec 32 := 4#32
  let v154 : BitVec 32 := Scalar.muli v110 c4_i32_62
  let v155 : BitVec 32 := Scalar.addi v154 c0_i32_63
  let c128_i32 : BitVec 32 := 128#32
  let v156 : BitVec 32 := Scalar.muli v155 c128_i32
  let v157 : BitVec 32 := v156
  let v158 : Index := Scalar.indexCast v157
  let c0_65 : Index := 0#32
  ![0, v158.toNat, 0]
def k0_mult8 (i : grid0.Coords) : BitVec 32 :=
  let arg2 : BitVec 32 := BitVec.ofNat 32 (i 2).val
  let c4_i32 : BitVec 32 := 4#32
  let v0 : BitVec 32 := Scalar.muli arg2 c4_i32
  let c0_i32_36 : BitVec 32 := 0#32
  let v95 : BitVec 1 := Scalar.cmpi .sgt v0 c0_i32_36
  let v96 : BitVec 32 := Scalar.extui v95
  let c0_i32_37 : BitVec 32 := 0#32
  let v97 : BitVec 1 := Scalar.cmpi .slt v0 c0_i32_37
  let v98 : BitVec 32 := Scalar.extui v97
  let v99 : BitVec 32 := Scalar.subi v96 v98
  let c4_i32_35 : BitVec 32 := 4#32
  let c0_i32_38 : BitVec 32 := 0#32
  let v100 : BitVec 1 := Scalar.cmpi .sgt c4_i32_35 c0_i32_38
  let v101 : BitVec 32 := Scalar.extui v100
  let c0_i32_39 : BitVec 32 := 0#32
  let v102 : BitVec 1 := Scalar.cmpi .slt c4_i32_35 c0_i32_39
  let v103 : BitVec 32 := Scalar.extui v102
  let v104 : BitVec 32 := Scalar.subi v101 v103
  let v105 : BitVec 1 := Scalar.cmpi .ne v99 v104
  let v106 : BitVec 32 := Scalar.remsi v0 c4_i32_35
  let c0_i32_40 : BitVec 32 := 0#32
  let v107 : BitVec 1 := Scalar.cmpi .ne v106 c0_i32_40
  let v108 : BitVec 1 := Scalar.andi v105 v107
  let v94 : BitVec 32 := Scalar.divsi v0 c4_i32_35
  let c1_i32 : BitVec 32 := 1#32
  let v109 : BitVec 32 := Scalar.subi v94 c1_i32
  let v110 : BitVec 32 := Scalar.select v108 v109 v94
  let c4_i32_77 : BitVec 32 := 4#32
  let v197 : BitVec 32 := Scalar.muli v110 c4_i32_77
  let c1_i32_78 : BitVec 32 := 1#32
  let v198 : BitVec 32 := Scalar.addi v197 c1_i32_78
  let c128_i32_79 : BitVec 32 := 128#32
  let v199 : BitVec 32 := Scalar.muli v198 c128_i32_79
  v199
def k0_mult9 (i : grid0.Coords) : BitVec 32 :=
  let arg2 : BitVec 32 := BitVec.ofNat 32 (i 2).val
  let c4_i32 : BitVec 32 := 4#32
  let v0 : BitVec 32 := Scalar.muli arg2 c4_i32
  let c0_i32_36 : BitVec 32 := 0#32
  let v95 : BitVec 1 := Scalar.cmpi .sgt v0 c0_i32_36
  let v96 : BitVec 32 := Scalar.extui v95
  let c0_i32_37 : BitVec 32 := 0#32
  let v97 : BitVec 1 := Scalar.cmpi .slt v0 c0_i32_37
  let v98 : BitVec 32 := Scalar.extui v97
  let v99 : BitVec 32 := Scalar.subi v96 v98
  let c4_i32_35 : BitVec 32 := 4#32
  let c0_i32_38 : BitVec 32 := 0#32
  let v100 : BitVec 1 := Scalar.cmpi .sgt c4_i32_35 c0_i32_38
  let v101 : BitVec 32 := Scalar.extui v100
  let c0_i32_39 : BitVec 32 := 0#32
  let v102 : BitVec 1 := Scalar.cmpi .slt c4_i32_35 c0_i32_39
  let v103 : BitVec 32 := Scalar.extui v102
  let v104 : BitVec 32 := Scalar.subi v101 v103
  let v105 : BitVec 1 := Scalar.cmpi .ne v99 v104
  let v106 : BitVec 32 := Scalar.remsi v0 c4_i32_35
  let c0_i32_40 : BitVec 32 := 0#32
  let v107 : BitVec 1 := Scalar.cmpi .ne v106 c0_i32_40
  let v108 : BitVec 1 := Scalar.andi v105 v107
  let v94 : BitVec 32 := Scalar.divsi v0 c4_i32_35
  let c1_i32 : BitVec 32 := 1#32
  let v109 : BitVec 32 := Scalar.subi v94 c1_i32
  let v110 : BitVec 32 := Scalar.select v108 v109 v94
  let c4_i32_93 : BitVec 32 := 4#32
  let v242 : BitVec 32 := Scalar.muli v110 c4_i32_93
  let c2_i32_94 : BitVec 32 := 2#32
  let v243 : BitVec 32 := Scalar.addi v242 c2_i32_94
  let c128_i32_95 : BitVec 32 := 128#32
  let v244 : BitVec 32 := Scalar.muli v243 c128_i32_95
  v244
def k0_mult10 (i : grid0.Coords) : BitVec 32 :=
  let arg2 : BitVec 32 := BitVec.ofNat 32 (i 2).val
  let c4_i32 : BitVec 32 := 4#32
  let v0 : BitVec 32 := Scalar.muli arg2 c4_i32
  let c0_i32_36 : BitVec 32 := 0#32
  let v95 : BitVec 1 := Scalar.cmpi .sgt v0 c0_i32_36
  let v96 : BitVec 32 := Scalar.extui v95
  let c0_i32_37 : BitVec 32 := 0#32
  let v97 : BitVec 1 := Scalar.cmpi .slt v0 c0_i32_37
  let v98 : BitVec 32 := Scalar.extui v97
  let v99 : BitVec 32 := Scalar.subi v96 v98
  let c4_i32_35 : BitVec 32 := 4#32
  let c0_i32_38 : BitVec 32 := 0#32
  let v100 : BitVec 1 := Scalar.cmpi .sgt c4_i32_35 c0_i32_38
  let v101 : BitVec 32 := Scalar.extui v100
  let c0_i32_39 : BitVec 32 := 0#32
  let v102 : BitVec 1 := Scalar.cmpi .slt c4_i32_35 c0_i32_39
  let v103 : BitVec 32 := Scalar.extui v102
  let v104 : BitVec 32 := Scalar.subi v101 v103
  let v105 : BitVec 1 := Scalar.cmpi .ne v99 v104
  let v106 : BitVec 32 := Scalar.remsi v0 c4_i32_35
  let c0_i32_40 : BitVec 32 := 0#32
  let v107 : BitVec 1 := Scalar.cmpi .ne v106 c0_i32_40
  let v108 : BitVec 1 := Scalar.andi v105 v107
  let v94 : BitVec 32 := Scalar.divsi v0 c4_i32_35
  let c1_i32 : BitVec 32 := 1#32
  let v109 : BitVec 32 := Scalar.subi v94 c1_i32
  let v110 : BitVec 32 := Scalar.select v108 v109 v94
  let c4_i32_109 : BitVec 32 := 4#32
  let v287 : BitVec 32 := Scalar.muli v110 c4_i32_109
  let c3_i32 : BitVec 32 := 3#32
  let v288 : BitVec 32 := Scalar.addi v287 c3_i32
  let c128_i32_110 : BitVec 32 := 128#32
  let v289 : BitVec 32 := Scalar.muli v288 c128_i32_110
  v289
def k0_off14 (i : grid0.Coords) (c0_i32_208 : BitVec 32) : Fin 5 → Nat :=
  let c0_209 : Index := 0#32
  let c0_210 : Index := 0#32
  let arg2 : BitVec 32 := BitVec.ofNat 32 (i 2).val
  let c4_i32 : BitVec 32 := 4#32
  let v0 : BitVec 32 := Scalar.muli arg2 c4_i32
  let c0_i32_36 : BitVec 32 := 0#32
  let v95 : BitVec 1 := Scalar.cmpi .sgt v0 c0_i32_36
  let v96 : BitVec 32 := Scalar.extui v95
  let c0_i32_37 : BitVec 32 := 0#32
  let v97 : BitVec 1 := Scalar.cmpi .slt v0 c0_i32_37
  let v98 : BitVec 32 := Scalar.extui v97
  let v99 : BitVec 32 := Scalar.subi v96 v98
  let c4_i32_35 : BitVec 32 := 4#32
  let c0_i32_38 : BitVec 32 := 0#32
  let v100 : BitVec 1 := Scalar.cmpi .sgt c4_i32_35 c0_i32_38
  let v101 : BitVec 32 := Scalar.extui v100
  let c0_i32_39 : BitVec 32 := 0#32
  let v102 : BitVec 1 := Scalar.cmpi .slt c4_i32_35 c0_i32_39
  let v103 : BitVec 32 := Scalar.extui v102
  let v104 : BitVec 32 := Scalar.subi v101 v103
  let v105 : BitVec 1 := Scalar.cmpi .ne v99 v104
  let v106 : BitVec 32 := Scalar.remsi v0 c4_i32_35
  let c0_i32_40 : BitVec 32 := 0#32
  let v107 : BitVec 1 := Scalar.cmpi .ne v106 c0_i32_40
  let v108 : BitVec 1 := Scalar.andi v105 v107
  let v94 : BitVec 32 := Scalar.divsi v0 c4_i32_35
  let c1_i32 : BitVec 32 := 1#32
  let v109 : BitVec 32 := Scalar.subi v94 c1_i32
  let v110 : BitVec 32 := Scalar.select v108 v109 v94
  let c4_i32_207 : BitVec 32 := 4#32
  let v671 : BitVec 32 := Scalar.muli v110 c4_i32_207
  let v672 : BitVec 32 := Scalar.addi v671 c0_i32_208
  let v673 : Index := Scalar.indexCast v672
  let c0_211 : Index := 0#32
  let c0_212 : Index := 0#32
  ![0, 0, v673.toNat, 0, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_3 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_5 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, arg2.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x16x128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1x2048x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== ReferenceIdeal.lean ====
abbrev S4x2048x1024 : Shape := ⟨3, ![4, 2048, 1024]⟩
abbrev S4x2048x2048 : Shape := ⟨3, ![4, 2048, 2048]⟩
abbrev S4x2048x16x64 : Shape := ⟨4, ![4, 2048, 16, 64]⟩
abbrev S4x16x2048x2048 : Shape := ⟨4, ![4, 16, 2048, 2048]⟩
abbrev S_ : Shape := ⟨0, ![]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S4x16x64x2048 : Shape := ⟨4, ![4, 16, 64, 2048]⟩
abbrev S4x16x2048x64 : Shape := ⟨4, ![4, 16, 2048, 64]⟩

abbrev nBuf : Space → Nat
  | .hbm => 178
  | .vmem => 0
  | .smem => 0
  | _ => 0

abbrev hbmTy0_0 (i : Nat) : BufTy := match i % 128 with
  | 0 => ⟨S4x2048x1024, .bf16⟩
  | 1 => ⟨S4x2048x2048, .bf16⟩
  | 2 => ⟨S4x2048x1024, .bf16⟩
  | 3 => ⟨S4x2048x1024, .f32⟩
  | 4 => ⟨S4x2048x16x64, .f32⟩
  | 5 => ⟨S4x2048x1024, .bf16⟩
  | 6 => ⟨S4x2048x1024, .f32⟩
  | 7 => ⟨S4x2048x16x64, .f32⟩
  | 8 => ⟨S4x2048x1024, .bf16⟩
  | 9 => ⟨S4x2048x1024, .f32⟩
  | 10 => ⟨S4x2048x16x64, .f32⟩
  | 11 => ⟨S4x16x2048x2048, .f32⟩
  | 12 => ⟨S_, .f32⟩
  | 13 => ⟨S4x16x2048x2048, .f32⟩
  | 14 => ⟨S4x16x2048x2048, .f32⟩
  | 15 => ⟨S2048, .i32⟩
  | 16 => ⟨S2048x1, .i32⟩
  | 17 => ⟨S2048, .i32⟩
  | 18 => ⟨S1x2048, .i32⟩
  | 19 => ⟨S2048x2048, .i32⟩
  | 20 => ⟨S2048x2048, .i32⟩
  | 21 => ⟨S2048x2048, .i1⟩
  | 22 => ⟨S4x16x2048x2048, .f32⟩
  | 23 => ⟨S_, .f32⟩
  | 24 => ⟨S4x16x2048x2048, .f32⟩
  | 25 => ⟨S4x16x2048x2048, .f32⟩
  | 26 => ⟨S4x16x2048x2048, .f32⟩
  | 27 => ⟨S4x16x2048x2048, .f32⟩
  | 28 => ⟨S4x16x2048x2048, .i1⟩
  | 29 => ⟨S4x16x2048x2048, .f32⟩
  | 30 => ⟨S4x16x2048x2048, .f32⟩
  | 31 => ⟨S4x16x2048x2048, .f32⟩
  | 32 => ⟨S4x16x2048x2048, .f32⟩
  | 33 => ⟨S4x16x2048x2048, .f32⟩
  | 34 => ⟨S4x16x2048x2048, .f32⟩
  | 35 => ⟨S4x16x2048x2048, .f32⟩
  | 36 => ⟨S4x16x2048x2048, .f32⟩
  | 37 => ⟨S_, .f32⟩
  | 38 => ⟨S4x16x2048x2048, .f32⟩
  | 39 => ⟨S4x16x2048x2048, .i1⟩
  | 40 => ⟨S_, .f32⟩
  | 41 => ⟨S4x16x2048x2048, .f32⟩
  | 42 => ⟨S4x16x2048x2048, .f32⟩
  | 43 => ⟨S_, .f32⟩
  | 44 => ⟨S4x16x2048x2048, .f32⟩
  | 45 => ⟨S4x16x2048x2048, .i1⟩
  | 46 => ⟨S_, .f32⟩
  | 47 => ⟨S4x16x2048x2048, .f32⟩
  | 48 => ⟨S4x16x2048x2048, .f32⟩
  | 49 => ⟨S4x16x2048x2048, .f32⟩
  | 50 => ⟨S4x16x2048x2048, .f32⟩
  | 51 => ⟨S_, .f32⟩
  | 52 => ⟨S_, .f32⟩
  | 53 => ⟨S_, .i1⟩
  | 54 => ⟨S_, .f32⟩
  | 55 => ⟨S_, .f32⟩
  | 56 => ⟨S_, .f32⟩
  | 57 => ⟨S_, .f32⟩
  | 58 => ⟨S4x16x2048x2048, .f32⟩
  | 59 => ⟨S4x16x2048x2048, .i1⟩
  | 60 => ⟨S_, .f32⟩
  | 61 => ⟨S4x16x2048x2048, .f32⟩
  | 62 => ⟨S4x16x2048x2048, .f32⟩
  | 63 => ⟨S4x16x2048x2048, .f32⟩
  | 64 => ⟨S4x16x2048x2048, .f32⟩
  | 65 => ⟨S4x16x2048x2048, .f32⟩
  | 66 => ⟨S_, .f32⟩
  | 67 => ⟨S4x16x2048x2048, .f32⟩
  | 68 => ⟨S4x16x2048x2048, .f32⟩
  | 69 => ⟨S4x16x2048x2048, .f32⟩
  | 70 => ⟨S4x16x2048x2048, .f32⟩
  | 71 => ⟨S4x16x2048x2048, .f32⟩
  | 72 => ⟨S_, .f32⟩
  | 73 => ⟨S4x16x2048x2048, .f32⟩
  | 74 => ⟨S4x16x2048x2048, .f32⟩
  | 75 => ⟨S4x16x2048x2048, .f32⟩
  | 76 => ⟨S4x16x2048x2048, .f32⟩
  | 77 => ⟨S4x16x2048x2048, .i1⟩
  | 78 => ⟨S4x16x2048x2048, .f32⟩
  | 79 => ⟨S4x16x2048x2048, .f32⟩
  | 80 => ⟨S4x16x2048x2048, .f32⟩
  | 81 => ⟨S4x16x2048x2048, .f32⟩
  | 82 => ⟨S4x16x2048x2048, .f32⟩
  | 83 => ⟨S4x16x2048x2048, .f32⟩
  | 84 => ⟨S4x16x2048x2048, .f32⟩
  | 85 => ⟨S4x16x2048x2048, .f32⟩
  | 86 => ⟨S_, .f32⟩
  | 87 => ⟨S4x16x2048x2048, .f32⟩
  | 88 => ⟨S4x16x2048x2048, .i1⟩
  | 89 => ⟨S_, .f32⟩
  | 90 => ⟨S4x16x2048x2048, .f32⟩
  | 91 => ⟨S4x16x2048x2048, .f32⟩
  | 92 => ⟨S_, .f32⟩
  | 93 => ⟨S4x16x2048x2048, .f32⟩
  | 94 => ⟨S4x16x2048x2048, .i1⟩
  | 95 => ⟨S_, .f32⟩
  | 96 => ⟨S4x16x2048x2048, .f32⟩
  | 97 => ⟨S4x16x2048x2048, .f32⟩
  | 98 => ⟨S4x16x2048x2048, .f32⟩
  | 99 => ⟨S4x16x2048x2048, .f32⟩
  | 100 => ⟨S_, .f32⟩
  | 101 => ⟨S_, .f32⟩
  | 102 => ⟨S_, .i1⟩
  | 103 => ⟨S_, .f32⟩
  | 104 => ⟨S_, .f32⟩
  | 105 => ⟨S_, .f32⟩
  | 106 => ⟨S_, .f32⟩
  | 107 => ⟨S4x16x2048x2048, .f32⟩
  | 108 => ⟨S4x16x2048x2048, .i1⟩
  | 109 => ⟨S_, .f32⟩
  | 110 => ⟨S4x16x2048x2048, .f32⟩
  | 111 => ⟨S4x16x2048x2048, .f32⟩
  | 112 => ⟨S4x16x2048x2048, .f32⟩
  | 113 => ⟨S4x16x2048x2048, .f32⟩
  | 114 => ⟨S4x16x2048x2048, .f32⟩
  | 115 => ⟨S_, .f32⟩
  | 116 => ⟨S4x16x2048x2048, .f32⟩
  | 117 => ⟨S4x16x2048x2048, .f32⟩
  | 118 => ⟨S4x16x2048x2048, .f32⟩
  | 119 => ⟨S_, .f32⟩
  | 120 => ⟨S_, .f32⟩
  | 121 => ⟨S4x16x2048x2048, .i1⟩
  | 122 => ⟨S4x16x2048x2048, .f32⟩
  | 123 => ⟨S4x16x2048x2048, .f32⟩
  | 124 => ⟨S_, .f32⟩
  | 125 => ⟨S4x16x2048x2048, .f32⟩
  | 126 => ⟨S_, .f32⟩
  | 127 => ⟨S_, .f32⟩
  | _ => ⟨S4x2048x1024, .bf16⟩

abbrev hbmTy0_1 (i : Nat) : BufTy := match i % 128 with
  | 0 => ⟨S4x16x2048x2048, .f32⟩
  | 1 => ⟨S4x16x2048x2048, .f32⟩
  | 2 => ⟨S4x16x2048x2048, .f32⟩
  | 3 => ⟨S4x16x2048x2048, .f32⟩
  | 4 => ⟨S_, .f32⟩
  | 5 => ⟨S_, .f32⟩
  | 6 => ⟨S4x16x2048x2048, .i1⟩
  | 7 => ⟨S4x16x2048x2048, .f32⟩
  | 8 => ⟨S4x16x2048x2048, .f32⟩
  | 9 => ⟨S_, .f32⟩
  | 10 => ⟨S4x16x2048x2048, .f32⟩
  | 11 => ⟨S4x16x64x2048, .f32⟩
  | 12 => ⟨S4x2048x16x64, .f32⟩
  | 13 => ⟨S4x2048x1024, .f32⟩
  | 14 => ⟨S4x2048x16x64, .f32⟩
  | 15 => ⟨S4x16x64x2048, .f32⟩
  | 16 => ⟨S4x16x2048x2048, .f32⟩
  | 17 => ⟨S4x16x64x2048, .f32⟩
  | 18 => ⟨S4x2048x16x64, .f32⟩
  | 19 => ⟨S_, .f32⟩
  | 20 => ⟨S4x16x2048x2048, .f32⟩
  | 21 => ⟨S4x16x2048x2048, .f32⟩
  | 22 => ⟨S4x16x2048x2048, .f32⟩
  | 23 => ⟨S4x16x2048x2048, .f32⟩
  | 24 => ⟨S_, .f32⟩
  | 25 => ⟨S_, .f32⟩
  | 26 => ⟨S4x16x2048x2048, .f32⟩
  | 27 => ⟨S4x16x2048x2048, .f32⟩
  | 28 => ⟨S_, .f32⟩
  | 29 => ⟨S4x16x2048x2048, .f32⟩
  | 30 => ⟨S4x16x2048x2048, .f32⟩
  | 31 => ⟨S4x16x2048x2048, .f32⟩
  | 32 => ⟨S4x16x2048x2048, .f32⟩
  | 33 => ⟨S4x16x2048x2048, .f32⟩
  | 34 => ⟨S4x16x2048x2048, .f32⟩
  | 35 => ⟨S4x16x2048x2048, .f32⟩
  | 36 => ⟨S4x16x2048x2048, .f32⟩
  | 37 => ⟨S4x16x2048x2048, .f32⟩
  | 38 => ⟨S4x16x2048x2048, .f32⟩
  | 39 => ⟨S_, .f32⟩
  | 40 => ⟨S4x16x2048x2048, .f32⟩
  | 41 => ⟨S4x16x2048x2048, .f32⟩
  | 42 => ⟨S4x16x2048x64, .f32⟩
  | 43 => ⟨S4x2048x16x64, .f32⟩
  | 44 => ⟨S4x16x2048x64, .f32⟩
  | 45 => ⟨S4x2048x16x64, .f32⟩
  | 46 => ⟨S4x2048x1024, .f32⟩
  | 47 => ⟨S4x2048x1024, .bf16⟩
  | 48 => ⟨S4x2048x1024, .f32⟩
  | 49 => ⟨S4x2048x1024, .f32⟩
  | _ => ⟨S4x2048x1024, .bf16⟩

abbrev hbmTy (i : Nat) : BufTy := match i / 128 with
  | 0 => hbmTy0_0 i
  | 1 => hbmTy0_1 i
  | _ => ⟨S4x2048x1024, .bf16⟩

abbrev bufTy : (tb : Table) → Fin (tcTables nBuf tb) → BufTy
  | .hbm, ⟨i, _⟩ => hbmTy i
  | _, _ => ⟨S4x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_call0_v0 : Ref sig .tc := ⟨.hbm, 22, rfl⟩
abbrev main_call0_call0_cst : Ref sig .tc := ⟨.hbm, 23, rfl⟩
abbrev main_call0_call0_v0 : Ref sig .tc := ⟨.hbm, 24, rfl⟩
abbrev main_call0_call0_v1 : Ref sig .tc := ⟨.hbm, 25, rfl⟩
abbrev main_call0_call0_v2 : Ref sig .tc := ⟨.hbm, 26, rfl⟩
abbrev main_call0_call0_v3 : Ref sig .tc := ⟨.hbm, 27, rfl⟩
abbrev main_call0_call0_v4 : Ref sig .tc := ⟨.hbm, 28, rfl⟩
abbrev main_call0_call0_v5 : Ref sig .tc := ⟨.hbm, 29, rfl⟩
abbrev main_call0_call0_v6 : Ref sig .tc := ⟨.hbm, 30, rfl⟩
abbrev main_call0_call0_v7 : Ref sig .tc := ⟨.hbm, 31, rfl⟩
abbrev main_call0_call0_v8 : Ref sig .tc := ⟨.hbm, 32, rfl⟩
abbrev main_call0_call0_v9 : Ref sig .tc := ⟨.hbm, 33, rfl⟩
abbrev main_call0_call0_v10 : Ref sig .tc := ⟨.hbm, 34, rfl⟩
abbrev main_call0_call0_v11 : Ref sig .tc := ⟨.hbm, 35, rfl⟩
abbrev main_call0_v1_0 : Ref sig .tc := ⟨.hbm, 36, rfl⟩
abbrev main_call0_call0_cst_0 : Ref sig .tc := ⟨.hbm, 37, rfl⟩
abbrev main_call0_call0_v13 : Ref sig .tc := ⟨.hbm, 38, rfl⟩
abbrev main_call0_call0_v14 : Ref sig .tc := ⟨.hbm, 39, rfl⟩
abbrev main_call0_call0_cst_1 : Ref sig .tc := ⟨.hbm, 40, rfl⟩
abbrev main_call0_call0_v15 : Ref sig .tc := ⟨.hbm, 41, rfl⟩
abbrev main_call0_call0_v16 : Ref sig .tc := ⟨.hbm, 42, rfl⟩
abbrev main_call0_call0_cst_2 : Ref sig .tc := ⟨.hbm, 43, rfl⟩
abbrev main_call0_call0_v17 : Ref sig .tc := ⟨.hbm, 44, rfl⟩
abbrev main_call0_call0_v18 : Ref sig .tc := ⟨.hbm, 45, rfl⟩
abbrev main_call0_call0_cst_3 : Ref sig .tc := ⟨.hbm, 46, rfl⟩
abbrev main_call0_call0_v19 : Ref sig .tc := ⟨.hbm, 47, rfl⟩
abbrev main_call0_call0_v20 : Ref sig .tc := ⟨.hbm, 48, rfl⟩
abbrev main_call0_call0_v21 : Ref sig .tc := ⟨.hbm, 49, rfl⟩
abbrev main_v18_1 : Ref sig .tc := ⟨.hbm, 50, rfl⟩
abbrev main_call0_call0_cst_4 : Ref sig .tc := ⟨.hbm, 51, rfl⟩
abbrev main_call0_call0_cst_5 : Ref sig .tc := ⟨.hbm, 52, rfl⟩
abbrev main_call0_call0_v23 : Ref sig .tc := ⟨.hbm, 53, rfl⟩
abbrev main_call0_call0_cst_6 : Ref sig .tc := ⟨.hbm, 54, rfl⟩
abbrev main_call0_call0_cst_7 : Ref sig .tc := ⟨.hbm, 55, rfl⟩
abbrev main_call0_call0_v24 : Ref sig .tc := ⟨.hbm, 56, rfl⟩
abbrev main_call0_call0_cst_8 : Ref sig .tc := ⟨.hbm, 57, rfl⟩
abbrev main_call0_call0_v25 : Ref sig .tc := ⟨.hbm, 58, rfl⟩
abbrev main_call0_call0_v26 : Ref sig .tc := ⟨.hbm, 59, rfl⟩
abbrev main_call0_call0_cst_9 : Ref sig .tc := ⟨.hbm, 60, rfl⟩
abbrev main_call0_call0_v27 : Ref sig .tc := ⟨.hbm, 61, rfl⟩
abbrev main_call0_call0_v28 : Ref sig .tc := ⟨.hbm, 62, rfl⟩
abbrev main_call0_call0_v29 : Ref sig .tc := ⟨.hbm, 63, rfl⟩
abbrev main_call0_call0_v30 : Ref sig .tc := ⟨.hbm, 64, rfl⟩
abbrev main_call0_call0_v31 : Ref sig .tc := ⟨.hbm, 65, rfl⟩
abbrev main_call0_call0_cst_10 : Ref sig .tc := ⟨.hbm, 66, rfl⟩
abbrev main_call0_call0_v32 : Ref sig .tc := ⟨.hbm, 67, rfl⟩
abbrev main_v18_2 : Ref sig .tc := ⟨.hbm, 68, rfl⟩
abbrev main_v18_0 : Ref sig .tc := ⟨.hbm, 69, rfl⟩
abbrev main_v19 : Ref sig .tc := ⟨.hbm, 70, rfl⟩
abbrev main_call1_v0 : Ref sig .tc := ⟨.hbm, 71, rfl⟩
abbrev main_call1_call0_cst : Ref sig .tc := ⟨.hbm, 72, rfl⟩
abbrev main_call1_call0_v0 : Ref sig .tc := ⟨.hbm, 73, rfl⟩
abbrev main_call1_call0_v1 : Ref sig .tc := ⟨.hbm, 74, rfl⟩
abbrev main_call1_call0_v2 : Ref sig .tc := ⟨.hbm, 75, rfl⟩
abbrev main_call1_call0_v3 : Ref sig .tc := ⟨.hbm, 76, rfl⟩
abbrev main_call1_call0_v4 : Ref sig .tc := ⟨.hbm, 77, rfl⟩
abbrev main_call1_call0_v5 : Ref sig .tc := ⟨.hbm, 78, rfl⟩
abbrev main_call1_call0_v6 : Ref sig .tc := ⟨.hbm, 79, rfl⟩
abbrev main_call1_call0_v7 : Ref sig .tc := ⟨.hbm, 80, rfl⟩
abbrev main_call1_call0_v8 : Ref sig .tc := ⟨.hbm, 81, rfl⟩
abbrev main_call1_call0_v9 : Ref sig .tc := ⟨.hbm, 82, rfl⟩
abbrev main_call1_call0_v10 : Ref sig .tc := ⟨.hbm, 83, rfl⟩
abbrev main_call1_call0_v11 : Ref sig .tc := ⟨.hbm, 84, rfl⟩
abbrev main_call1_v1_0 : Ref sig .tc := ⟨.hbm, 85, rfl⟩
abbrev main_call1_call0_cst_0 : Ref sig .tc := ⟨.hbm, 86, rfl⟩
abbrev main_call1_call0_v13 : Ref sig .tc := ⟨.hbm, 87, rfl⟩
abbrev main_call1_call0_v14 : Ref sig .tc := ⟨.hbm, 88, rfl⟩
abbrev main_call1_call0_cst_1 : Ref sig .tc := ⟨.hbm, 89, rfl⟩
abbrev main_call1_call0_v15 : Ref sig .tc := ⟨.hbm, 90, rfl⟩
abbrev main_call1_call0_v16 : Ref sig .tc := ⟨.hbm, 91, rfl⟩
abbrev main_call1_call0_cst_2 : Ref sig .tc := ⟨.hbm, 92, rfl⟩
abbrev main_call1_call0_v17 : Ref sig .tc := ⟨.hbm, 93, rfl⟩
abbrev main_call1_call0_v18 : Ref sig .tc := ⟨.hbm, 94, rfl⟩
abbrev main_call1_call0_cst_3 : Ref sig .tc := ⟨.hbm, 95, rfl⟩
abbrev main_call1_call0_v19 : Ref sig .tc := ⟨.hbm, 96, rfl⟩
abbrev main_call1_call0_v20 : Ref sig .tc := ⟨.hbm, 97, rfl⟩
abbrev main_call1_call0_v21 : Ref sig .tc := ⟨.hbm, 98, rfl⟩
abbrev main_v20_1 : Ref sig .tc := ⟨.hbm, 99, rfl⟩
abbrev main_call1_call0_cst_4 : Ref sig .tc := ⟨.hbm, 100, rfl⟩
abbrev main_call1_call0_cst_5 : Ref sig .tc := ⟨.hbm, 101, rfl⟩
abbrev main_call1_call0_v23 : Ref sig .tc := ⟨.hbm, 102, rfl⟩
abbrev main_call1_call0_cst_6 : Ref sig .tc := ⟨.hbm, 103, rfl⟩
abbrev main_call1_call0_cst_7 : Ref sig .tc := ⟨.hbm, 104, rfl⟩
abbrev main_call1_call0_v24 : Ref sig .tc := ⟨.hbm, 105, rfl⟩
abbrev main_call1_call0_cst_8 : Ref sig .tc := ⟨.hbm, 106, rfl⟩
abbrev main_call1_call0_v25 : Ref sig .tc := ⟨.hbm, 107, rfl⟩
abbrev main_call1_call0_v26 : Ref sig .tc := ⟨.hbm, 108, rfl⟩
abbrev main_call1_call0_cst_9 : Ref sig .tc := ⟨.hbm, 109, rfl⟩
abbrev main_call1_call0_v27 : Ref sig .tc := ⟨.hbm, 110, rfl⟩
abbrev main_call1_call0_v28 : Ref sig .tc := ⟨.hbm, 111, rfl⟩
abbrev main_call1_call0_v29 : Ref sig .tc := ⟨.hbm, 112, rfl⟩
abbrev main_call1_call0_v30 : Ref sig .tc := ⟨.hbm, 113, rfl⟩
abbrev main_call1_call0_v31 : Ref sig .tc := ⟨.hbm, 114, rfl⟩
abbrev main_call1_call0_cst_10 : Ref sig .tc := ⟨.hbm, 115, rfl⟩
abbrev main_call1_call0_v32 : Ref sig .tc := ⟨.hbm, 116, rfl⟩
abbrev main_v20_2 : Ref sig .tc := ⟨.hbm, 117, rfl⟩
abbrev main_v20_0 : Ref sig .tc := ⟨.hbm, 118, rfl⟩
abbrev main_cst_0 : Ref sig .tc := ⟨.hbm, 119, rfl⟩
abbrev main_call2_v0 : Ref sig .tc := ⟨.hbm, 120, rfl⟩
abbrev main_v21_1 : Ref sig .tc := ⟨.hbm, 121, rfl⟩
abbrev main_call2_v2 : Ref sig .tc := ⟨.hbm, 122, rfl⟩
abbrev main_v21_0 : Ref sig .tc := ⟨.hbm, 123, rfl⟩
abbrev main_call2_cst : Ref sig .tc := ⟨.hbm, 124, rfl⟩
abbrev main_v21_2 : Ref sig .tc := ⟨.hbm, 125, rfl⟩
abbrev main_call3_cst : Ref sig .tc := ⟨.hbm, 126, rfl⟩
abbrev main_call3_v0 : Ref sig .tc := ⟨.hbm, 127, rfl⟩
abbrev main_v22 : Ref sig .tc := ⟨.hbm, 128, rfl⟩
abbrev main_v23 : Ref sig .tc := ⟨.hbm, 129, rfl⟩
abbrev main_v24 : Ref sig .tc := ⟨.hbm, 130, rfl⟩
abbrev main_v25 : Ref sig .tc := ⟨.hbm, 131, rfl⟩
abbrev main_cst_1 : Ref sig .tc := ⟨.hbm, 132, rfl⟩
abbrev main_call4_v0 : Ref sig .tc := ⟨.hbm, 133, rfl⟩
abbrev main_v26_1 : Ref sig .tc := ⟨.hbm, 134, rfl⟩
abbrev main_call4_v2 : Ref sig .tc := ⟨.hbm, 135, rfl⟩
abbrev main_v26_0 : Ref sig .tc := ⟨.hbm, 136, rfl⟩
abbrev main_call4_cst : Ref sig .tc := ⟨.hbm, 137, rfl⟩
abbrev main_v26_2 : Ref sig .tc := ⟨.hbm, 138, rfl⟩
abbrev main_v27 : Ref sig .tc := ⟨.hbm, 139, rfl⟩
abbrev main_v28 : Ref sig .tc := ⟨.hbm, 140, rfl⟩
abbrev main_v29 : Ref sig .tc := ⟨.hbm, 141, rfl⟩
abbrev main_v30 : Ref sig .tc := ⟨.hbm, 142, rfl⟩
abbrev main_v31 : Ref sig .tc := ⟨.hbm, 143, rfl⟩
abbrev main_v32 : Ref sig .tc := ⟨.hbm, 144, rfl⟩
abbrev main_v33 : Ref sig .tc := ⟨.hbm, 145, rfl⟩
abbrev main_v34 : Ref sig .tc := ⟨.hbm, 146, rfl⟩
abbrev main_call5_cst : Ref sig .tc := ⟨.hbm, 147, rfl⟩
abbrev main_call5_v0 : Ref sig .tc := ⟨.hbm, 148, rfl⟩
abbrev main_v35 : Ref sig .tc := ⟨.hbm, 149, rfl⟩
abbrev main_v36 : Ref sig .tc := ⟨.hbm, 150, rfl⟩
abbrev main_v37 : Ref sig .tc := ⟨.hbm, 151, rfl⟩
abbrev main_call6_cst : Ref sig .tc := ⟨.hbm, 152, rfl⟩
abbrev main_call6_v0 : Ref sig .tc := ⟨.hbm, 153, rfl⟩
abbrev main_v38 : Ref sig .tc := ⟨.hbm, 154, rfl⟩
abbrev main_v39 : Ref sig .tc := ⟨.hbm, 155, rfl⟩
abbrev main_call7_cst : Ref sig .tc := ⟨.hbm, 156, rfl⟩
abbrev main_call7_v0 : Ref sig .tc := ⟨.hbm, 157, rfl⟩
abbrev main_v40 : Ref sig .tc := ⟨.hbm, 158, rfl⟩
abbrev main_call8_v0 : Ref sig .tc := ⟨.hbm, 159, rfl⟩
abbrev main_call8_v1 : Ref sig .tc := ⟨.hbm, 160, rfl⟩
abbrev main_v41 : Ref sig .tc := ⟨.hbm, 161, rfl⟩
abbrev main_v42 : Ref sig .tc := ⟨.hbm, 162, rfl⟩
abbrev main_call9_v0 : Ref sig .tc := ⟨.hbm, 163, rfl⟩
abbrev main_call9_v1 : Ref sig .tc := ⟨.hbm, 164, rfl⟩
abbrev main_v43 : Ref sig .tc := ⟨.hbm, 165, rfl⟩
abbrev main_v44 : Ref sig .tc := ⟨.hbm, 166, rfl⟩
abbrev main_cst_2 : Ref sig .tc := ⟨.hbm, 167, rfl⟩
abbrev main_v45 : Ref sig .tc := ⟨.hbm, 168, rfl⟩
abbrev main_v46 : Ref sig .tc := ⟨.hbm, 169, rfl⟩
abbrev main_v47 : Ref sig .tc := ⟨.hbm, 170, rfl⟩
abbrev main_v48 : Ref sig .tc := ⟨.hbm, 171, rfl⟩
abbrev main_v49 : Ref sig .tc := ⟨.hbm, 172, rfl⟩
abbrev main_v50 : Ref sig .tc := ⟨.hbm, 173, rfl⟩
abbrev main_v51 : Ref sig .tc := ⟨.hbm, 174, rfl⟩
abbrev main_v52 : Ref sig .tc := ⟨.hbm, 175, rfl⟩
abbrev main_v53 : Ref sig .tc := ⟨.hbm, 176, rfl⟩
abbrev main_v54 : Ref sig .tc := ⟨.hbm, 177, rfl⟩

abbrev nD : Nat := 1
abbrev τ : Topo := Topo.v7x

variable {F : FTy → Type} [FloatOps F]
-- ==== DownDw.lean ====
abbrev S8192x2816 : Shape := ⟨2, ![8192, 2816]⟩
abbrev S8192x1024 : Shape := ⟨2, ![8192, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDwReferenceIdeal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S_, .f32⟩
  | .hbm, ⟨3, _⟩ => ⟨S2816x1024, .f32⟩
  | .hbm, ⟨4, _⟩ => ⟨S8192x2816, .f32⟩
  | .hbm, ⟨5, _⟩ => ⟨S8192x1024, .f32⟩
  | .hbm, ⟨6, _⟩ => ⟨S8192x1024, .f32⟩
  | .hbm, ⟨7, _⟩ => ⟨S1024x2816, .f32⟩
  | .hbm, ⟨8, _⟩ => ⟨S2816x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DownDx.lean ====
abbrev S8192x1024 : Shape := ⟨2, ![8192, 1024]⟩
abbrev S2816x1024 : Shape := ⟨2, ![2816, 1024]⟩
abbrev S8192x2816 : Shape := ⟨2, ![8192, 2816]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S8192x2816, .f32⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDxReferenceIdeal.lean ====
abbrev S8192x1024 : Shape := ⟨2, ![8192, 1024]⟩
abbrev S2816x1024 : Shape := ⟨2, ![2816, 1024]⟩
abbrev S_ : Shape := ⟨0, ![]⟩
abbrev S8192x2816 : Shape := ⟨2, ![8192, 2816]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S_, .f32⟩
  | .hbm, ⟨3, _⟩ => ⟨S8192x2816, .f32⟩
  | .hbm, ⟨4, _⟩ => ⟨S2816x1024, .f32⟩
  | .hbm, ⟨5, _⟩ => ⟨S8192x1024, .f32⟩
  | .hbm, ⟨6, _⟩ => ⟨S8192x1024, .f32⟩
  | .hbm, ⟨7, _⟩ => ⟨S8192x2816, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== UpDw.lean ====
abbrev S8192x1024 : Shape := ⟨2, ![8192, 1024]⟩
abbrev S8192x2816 : Shape := ⟨2, ![8192, 2816]⟩
abbrev S1024x2816 : Shape := ⟨2, ![1024, 2816]⟩
abbrev S1024x1024 : Shape := ⟨2, ![1024, 1024]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x2816, .bf16⟩
  | .hbm, ⟨2, _⟩ => ⟨S1024x2816, .f32⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDwReferenceIdeal.lean ====
abbrev S8192x1024 : Shape := ⟨2, ![8192, 1024]⟩
abbrev S8192x2816 : Shape := ⟨2, ![8192, 2816]⟩
abbrev S_ : Shape := ⟨0, ![]⟩
abbrev S1024x2816 : Shape := ⟨2, ![1024, 2816]⟩
abbrev S2816x1024 : Shape := ⟨2, ![2816, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2816, .bf16⟩
  | .hbm, ⟨2, _⟩ => ⟨S_, .f32⟩
  | .hbm, ⟨3, _⟩ => ⟨S1024x2816, .f32⟩
  | .hbm, ⟨4, _⟩ => ⟨S8192x1024, .f32⟩
  | .hbm, ⟨5, _⟩ => ⟨S8192x2816, .f32⟩
  | .hbm, ⟨6, _⟩ => ⟨S8192x2816, .f32⟩
  | .hbm, ⟨7, _⟩ => ⟨S2816x1024, .f32⟩
  | .hbm, ⟨8, _⟩ => ⟨S1024x2816, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== UpDx.lean ====
abbrev S8192x2816 : Shape := ⟨2, ![8192, 2816]⟩
abbrev S1024x5632 : Shape := ⟨2, ![1024, 5632]⟩
abbrev S1024x2816 : Shape := ⟨2, ![1024, 2816]⟩
abbrev S8192x1024 : Shape := ⟨2, ![8192, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x2816, .bf16⟩
  | .hbm, ⟨1, _⟩ => ⟨S1024x5632, .bf16⟩
  | .hbm, ⟨2, _⟩ => ⟨S1024x2816, .bf16⟩
  | .hbm, ⟨3, _⟩ => ⟨S8192x1024, .f32⟩
  | .local _ .vmem, ⟨0, _⟩ => ⟨S1024x2816, .bf16⟩
  | .local _ .vmem, ⟨1, _⟩ => ⟨S1024x2816, .bf16⟩
  | .local _ .vmem, ⟨2, _⟩ => ⟨S1024x2816, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDxReferenceIdeal.lean ====
abbrev S8192x2816 : Shape := ⟨2, ![8192, 2816]⟩
abbrev S1024x5632 : Shape := ⟨2, ![1024, 5632]⟩
abbrev S_ : Shape := ⟨0, ![]⟩
abbrev S8192x1024 : Shape := ⟨2, ![8192, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S1024x5632, .bf16⟩
  | .hbm, ⟨2, _⟩ => ⟨S_, .f32⟩
  | .hbm, ⟨3, _⟩ => ⟨S8192x1024, .f32⟩
  | .hbm, ⟨4, _⟩ => ⟨S1024x2816, .bf16⟩
  | .hbm, ⟨5, _⟩ => ⟨S1024x2816, .f32⟩
  | .hbm, ⟨6, _⟩ => ⟨S8192x2816, .f32⟩
  | .hbm, ⟨7, _⟩ => ⟨S8192x2816, .f32⟩
  | .hbm, ⟨8, _⟩ => ⟨S8192x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Up.lean ====
abbrev S8192x1024 : Shape := ⟨2, ![8192, 1024]⟩
abbrev S1024x5632 : Shape := ⟨2, ![1024, 5632]⟩
abbrev S8192x5632 : Shape := ⟨2, ![8192, 5632]⟩
abbrev S1024x1024 : Shape := ⟨2, ![1024, 1024]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x5632, .bf16⟩
  | .hbm, ⟨2, _⟩ => ⟨S8192x5632, .f32⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpReferenceIdeal.lean ====
abbrev S8192x1024 : Shape := ⟨2, ![8192, 1024]⟩
abbrev S1024x5632 : Shape := ⟨2, ![1024, 5632]⟩
abbrev S8192x5632 : Shape := ⟨2, ![8192, 5632]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x5632, .bf16⟩
  | .hbm, ⟨2, _⟩ => ⟨S8192x1024, .f32⟩
  | .hbm, ⟨3, _⟩ => ⟨S1024x5632, .f32⟩
  | .hbm, ⟨4, _⟩ => ⟨S8192x5632, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Down.lean ====
abbrev S8192x2816 : Shape := ⟨2, ![8192, 2816]⟩
abbrev S2816x1024 : Shape := ⟨2, ![2816, 1024]⟩
abbrev S8192x1024 : Shape := ⟨2, ![8192, 1024]⟩
abbrev S512x2816 : Shape := ⟨2, ![512, 2816]⟩
abbrev S512x1024 : Shape := ⟨2, ![512, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S8192x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![16, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownReferenceIdeal.lean ====
abbrev S8192x2816 : Shape := ⟨2, ![8192, 2816]⟩
abbrev S2816x1024 : Shape := ⟨2, ![2816, 1024]⟩
abbrev S8192x1024 : Shape := ⟨2, ![8192, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S8192x2816, .f32⟩
  | .hbm, ⟨4, _⟩ => ⟨S2816x1024, .f32⟩
  | .hbm, ⟨5, _⟩ => ⟨S8192x1024, .f32⟩
  | .hbm, ⟨6, _⟩ => ⟨S8192x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== SquareDw.lean ====
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== SquareDwReferenceIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KvDw.lean ====
abbrev S8192x1024 : Shape := ⟨2, ![8192, 1024]⟩
abbrev S8192x2048 : Shape := ⟨2, ![8192, 2048]⟩
abbrev S1024x2048 : Shape := ⟨2, ![1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .f32⟩
  | .hbm, ⟨2, _⟩ => ⟨S1024x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond2 (i : grid0.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KvDwReferenceIdeal.lean ====
abbrev S8192x1024 : Shape := ⟨2, ![8192, 1024]⟩
abbrev S8192x2048 : Shape := ⟨2, ![8192, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .f32⟩
  | .hbm, ⟨2, _⟩ => ⟨S_, .f32⟩
  | .hbm, ⟨3, _⟩ => ⟨S1024x2048, .f32⟩
  | .hbm, ⟨4, _⟩ => ⟨S8192x1024, .f32⟩
  | .hbm, ⟨5, _⟩ => ⟨S8192x2048, .f32⟩
  | .hbm, ⟨6, _⟩ => ⟨S2048x1024, .f32⟩
  | .hbm, ⟨7, _⟩ => ⟨S1024x2048, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== PleProjDw.lean ====
abbrev S8192x256 : Shape := ⟨2, ![8192, 256]⟩
abbrev S8192x1024 : Shape := ⟨2, ![8192, 1024]⟩
abbrev S256x1024 : Shape := ⟨2, ![256, 1024]⟩
abbrev S1024x256 : Shape := ⟨2, ![1024, 256]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x256, .f32⟩
  | .hbm, ⟨1, _⟩ => ⟨S8192x1024, .bf16⟩
  | .hbm, ⟨2, _⟩ => ⟨S256x1024, .f32⟩
  | .local _ .vmem, ⟨0, _⟩ => ⟨S1024x256, .f32⟩
  | .local _ .vmem, ⟨1, _⟩ => ⟨S1024x256, .f32⟩
  | .local _ .vmem, ⟨2, _⟩ => ⟨S1024x1024, .bf16⟩
  | .local _ .vmem, ⟨3, _⟩ => ⟨S1024x1024, .bf16⟩
  | .local _ .vmem, ⟨4, _⟩ => ⟨S256x1024, .f32⟩
  | .local _ .vmem, ⟨5, _⟩ => ⟨S256x1024, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== PleProjDwReferenceIdeal.lean ====
abbrev S8192x256 : Shape := ⟨2, ![8192, 256]⟩
abbrev S8192x1024 : Shape := ⟨2, ![8192, 1024]⟩
abbrev S_ : Shape := ⟨0, ![]⟩
abbrev S256x1024 : Shape := ⟨2, ![256, 1024]⟩
abbrev S1024x256 : Shape := ⟨2, ![1024, 256]⟩

abbrev nBuf : Space → Nat
  | .hbm => 8
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x1024, .bf16⟩
  | .hbm, ⟨2, _⟩ => ⟨S_, .f32⟩
  | .hbm, ⟨3, _⟩ => ⟨S256x1024, .f32⟩
  | .hbm, ⟨4, _⟩ => ⟨S8192x1024, .f32⟩
  | .hbm, ⟨5, _⟩ => ⟨S8192x1024, .f32⟩
  | .hbm, ⟨6, _⟩ => ⟨S1024x256, .f32⟩
  | .hbm, ⟨7, _⟩ => ⟨S256x1024, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== AttnOutDx.lean ====
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AttnOutDxReferenceIdeal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S_, .f32⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== SsmOutDw.lean ====
abbrev S8192x2048 : Shape := ⟨2, ![8192, 2048]⟩
abbrev S8192x1024 : Shape := ⟨2, ![8192, 1024]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SsmOutDwReferenceIdeal.lean ====
abbrev S8192x2048 : Shape := ⟨2, ![8192, 2048]⟩
abbrev S8192x1024 : Shape := ⟨2, ![8192, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S_, .f32⟩
  | .hbm, ⟨3, _⟩ => ⟨S2048x1024, .f32⟩
  | .hbm, ⟨4, _⟩ => ⟨S8192x2048, .f32⟩
  | .hbm, ⟨5, _⟩ => ⟨S8192x1024, .f32⟩
  | .hbm, ⟨6, _⟩ => ⟨S8192x1024, .f32⟩
  | .hbm, ⟨7, _⟩ => ⟨S1024x2048, .f32⟩
  | .hbm, ⟨8, _⟩ => ⟨S2048x1024, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== SsmOutDx.lean ====
abbrev S8192x1024 : Shape := ⟨2, ![8192, 1024]⟩
abbrev S2048x1024 : Shape := ⟨2, ![2048, 1024]⟩
abbrev S8192x2048 : Shape := ⟨2, ![8192, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S2048x1024, .bf16⟩
  | .hbm, ⟨2, _⟩ => ⟨S8192x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SsmOutDxReferenceIdeal.lean ====
abbrev S8192x1024 : Shape := ⟨2, ![8192, 1024]⟩
abbrev S2048x1024 : Shape := ⟨2, ![2048, 1024]⟩
abbrev S_ : Shape := ⟨0, ![]⟩
abbrev S8192x2048 : Shape := ⟨2, ![8192, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2048x1024, .bf16⟩
  | .hbm, ⟨2, _⟩ => ⟨S_, .f32⟩
  | .hbm, ⟨3, _⟩ => ⟨S8192x2048, .f32⟩
  | .hbm, ⟨4, _⟩ => ⟨S2048x1024, .f32⟩
  | .hbm, ⟨5, _⟩ => ⟨S8192x1024, .f32⟩
  | .hbm, ⟨6, _⟩ => ⟨S8192x1024, .f32⟩
  | .hbm, ⟨7, _⟩ => ⟨S8192x2048, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== SsmZDw.lean ====
abbrev S8192x1024 : Shape := ⟨2, ![8192, 1024]⟩
abbrev S8192x2048 : Shape := ⟨2, ![8192, 2048]⟩
abbrev S1024x2048 : Shape := ⟨2, ![1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S1024x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SsmZDwReferenceIdeal.lean ====
abbrev S8192x1024 : Shape := ⟨2, ![8192, 1024]⟩
abbrev S8192x2048 : Shape := ⟨2, ![8192, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S_, .f32⟩
  | .hbm, ⟨3, _⟩ => ⟨S1024x2048, .f32⟩
  | .hbm, ⟨4, _⟩ => ⟨S8192x1024, .f32⟩
  | .hbm, ⟨5, _⟩ => ⟨S8192x2048, .f32⟩
  | .hbm, ⟨6, _⟩ => ⟨S8192x2048, .f32⟩
  | .hbm, ⟨7, _⟩ => ⟨S2048x1024, .f32⟩
  | .hbm, ⟨8, _⟩ => ⟨S1024x2048, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== SsmZDx.lean ====
abbrev S8192x2048 : Shape := ⟨2, ![8192, 2048]⟩
abbrev S1024x5632 : Shape := ⟨2, ![1024, 5632]⟩
abbrev S1024x2048 : Shape := ⟨2, ![1024, 2048]⟩
abbrev S8192x1024 : Shape := ⟨2, ![8192, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S1024x5632, .bf16⟩
  | .hbm, ⟨2, _⟩ => ⟨S1024x2048, .bf16⟩
  | .hbm, ⟨3, _⟩ => ⟨S8192x1024, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SsmZDxReferenceIdeal.lean ====
abbrev S8192x2048 : Shape := ⟨2, ![8192, 2048]⟩
abbrev S1024x5632 : Shape := ⟨2, ![1024, 5632]⟩
abbrev S1024x2048 : Shape := ⟨2, ![1024, 2048]⟩
abbrev S_ : Shape := ⟨0, ![]⟩
abbrev S8192x1024 : Shape := ⟨2, ![8192, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1024x5632, .bf16⟩
  | .hbm, ⟨2, _⟩ => ⟨S1024x2048, .bf16⟩
  | .hbm, ⟨3, _⟩ => ⟨S_, .f32⟩
  | .hbm, ⟨4, _⟩ => ⟨S8192x1024, .f32⟩
  | .hbm, ⟨5, _⟩ => ⟨S1024x2048, .f32⟩
  | .hbm, ⟨6, _⟩ => ⟨S8192x2048, .f32⟩
  | .hbm, ⟨7, _⟩ => ⟨S8192x2048, .f32⟩
  | .hbm, ⟨8, _⟩ => ⟨S8192x1024, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== SsmDtDw.lean ====
abbrev S8192x1024 : Shape := ⟨2, ![8192, 1024]⟩
abbrev S8192x512 : Shape := ⟨2, ![8192, 512]⟩
abbrev S1024x512 : Shape := ⟨2, ![1024, 512]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x512, .bf16⟩
  | .hbm, ⟨2, _⟩ => ⟨S1024x512, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .f32⟩
  | .local _ .vmem, ⟨5, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== SsmDtDwReferenceIdeal.lean ====
abbrev S8192x1024 : Shape := ⟨2, ![8192, 1024]⟩
abbrev S8192x512 : Shape := ⟨2, ![8192, 512]⟩
abbrev S_ : Shape := ⟨0, ![]⟩
abbrev S1024x512 : Shape := ⟨2, ![1024, 512]⟩
abbrev S512x1024 : Shape := ⟨2, ![512, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x512, .bf16⟩
  | .hbm, ⟨2, _⟩ => ⟨S_, .f32⟩
  | .hbm, ⟨3, _⟩ => ⟨S1024x512, .f32⟩
  | .hbm, ⟨4, _⟩ => ⟨S8192x1024, .f32⟩
  | .hbm, ⟨5, _⟩ => ⟨S8192x512, .f32⟩
  | .hbm, ⟨6, _⟩ => ⟨S8192x512, .f32⟩
  | .hbm, ⟨7, _⟩ => ⟨S512x1024, .f32⟩
  | .hbm, ⟨8, _⟩ => ⟨S1024x512, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== SsmDtDx.lean ====
abbrev S8192x512 : Shape := ⟨2, ![8192, 512]⟩
abbrev S1024x5632 : Shape := ⟨2, ![1024, 5632]⟩
abbrev S8192x1024 : Shape := ⟨2, ![8192, 1024]⟩
abbrev S1024x512 : Shape := ⟨2, ![1024, 512]⟩
abbrev S1024x1024 : Shape := ⟨2, ![1024, 1024]⟩

abbrev nBuf : Space → Nat
  | .hbm => 5
  | .vmem => 8
  | .smem => 0
  | _ => 0

abbrev bufTy : (tb : Table) → Fin (tcTables nBuf tb) → BufTy
  | .hbm, ⟨0, _⟩ => ⟨S8192x512, .bf16⟩
  | .hbm, ⟨1, _⟩ => ⟨S1024x5632, .bf16⟩
  | .hbm, ⟨2, _⟩ => ⟨S8192x1024, .f32⟩
  | .hbm, ⟨3, _⟩ => ⟨S1024x512, .bf16⟩
  | .hbm, ⟨4, _⟩ => ⟨S8192x1024, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== SsmDtDxReferenceIdeal.lean ====
abbrev S8192x512 : Shape := ⟨2, ![8192, 512]⟩
abbrev S1024x5632 : Shape := ⟨2, ![1024, 5632]⟩
abbrev S8192x1024 : Shape := ⟨2, ![8192, 1024]⟩
abbrev S1024x512 : Shape := ⟨2, ![1024, 512]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S1024x5632, .bf16⟩
  | .hbm, ⟨2, _⟩ => ⟨S8192x1024, .f32⟩
  | .hbm, ⟨3, _⟩ => ⟨S1024x512, .bf16⟩
  | .hbm, ⟨4, _⟩ => ⟨S_, .f32⟩
  | .hbm, ⟨5, _⟩ => ⟨S8192x1024, .f32⟩
  | .hbm, ⟨6, _⟩ => ⟨S1024x512, .f32⟩
  | .hbm, ⟨7, _⟩ => ⟨S8192x512, .f32⟩
  | .hbm, ⟨8, _⟩ => ⟨S8192x512, .f32⟩
  | .hbm, ⟨9, _⟩ => ⟨S8192x1024, .f32⟩
  | .hbm, ⟨10, _⟩ => ⟨S8192x1024, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== SsmXbcDw.lean ====
abbrev S8192x1024 : Shape := ⟨2, ![8192, 1024]⟩
abbrev S8192x3072 : Shape := ⟨2, ![8192, 3072]⟩
abbrev S1024x3072 : Shape := ⟨2, ![1024, 3072]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x3072, .bf16⟩
  | .hbm, ⟨2, _⟩ => ⟨S1024x3072, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SsmXbcDwReferenceIdeal.lean ====
abbrev S8192x1024 : Shape := ⟨2, ![8192, 1024]⟩
abbrev S8192x3072 : Shape := ⟨2, ![8192, 3072]⟩
abbrev S_ : Shape := ⟨0, ![]⟩
abbrev S1024x3072 : Shape := ⟨2, ![1024, 3072]⟩
abbrev S3072x1024 : Shape := ⟨2, ![3072, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x3072, .bf16⟩
  | .hbm, ⟨2, _⟩ => ⟨S_, .f32⟩
  | .hbm, ⟨3, _⟩ => ⟨S1024x3072, .f32⟩
  | .hbm, ⟨4, _⟩ => ⟨S8192x1024, .f32⟩
  | .hbm, ⟨5, _⟩ => ⟨S8192x3072, .f32⟩
  | .hbm, ⟨6, _⟩ => ⟨S8192x3072, .f32⟩
  | .hbm, ⟨7, _⟩ => ⟨S3072x1024, .f32⟩
  | .hbm, ⟨8, _⟩ => ⟨S1024x3072, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== SsmOut.lean ====
abbrev S8192x2048 : Shape := ⟨2, ![8192, 2048]⟩
abbrev S2048x1024 : Shape := ⟨2, ![2048, 1024]⟩
abbrev S8192x1024 : Shape := ⟨2, ![8192, 1024]⟩
abbrev S1024x2048 : Shape := ⟨2, ![1024, 2048]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x2048, .bf16⟩
  | .hbm, ⟨1, _⟩ => ⟨S2048x1024, .bf16⟩
  | .hbm, ⟨2, _⟩ => ⟨S8192x1024, .f32⟩
  | .hbm, ⟨3, _⟩ => ⟨S8192x1024, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== SsmOutReferenceIdeal.lean ====
abbrev S8192x2048 : Shape := ⟨2, ![8192, 2048]⟩
abbrev S2048x1024 : Shape := ⟨2, ![2048, 1024]⟩
abbrev S8192x1024 : Shape := ⟨2, ![8192, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x1024, .bf16⟩
  | .hbm, ⟨2, _⟩ => ⟨S8192x1024, .f32⟩
  | .hbm, ⟨3, _⟩ => ⟨S8192x2048, .f32⟩
  | .hbm, ⟨4, _⟩ => ⟨S2048x1024, .f32⟩
  | .hbm, ⟨5, _⟩ => ⟨S8192x1024, .f32⟩
  | .hbm, ⟨6, _⟩ => ⟨S8192x1024, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== AttnQ.lean ====
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AttnQReferenceIdeal.lean ====
abbrev S8192x1024 : Shape := ⟨2, ![8192, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1024x1024, .f32⟩
  | .hbm, ⟨4, _⟩ => ⟨S8192x1024, .f32⟩
  | .hbm, ⟨5, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== AttnOut.lean ====
abbrev S8192x1024 : Shape := ⟨2, ![8192, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== AttnOutReferenceIdeal.lean ====
abbrev S8192x1024 : Shape := ⟨2, ![8192, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kv.lean ====
abbrev S8192x1024 : Shape := ⟨2, ![8192, 1024]⟩
abbrev S1024x2048 : Shape := ⟨2, ![1024, 2048]⟩
abbrev S8192x2048 : Shape := ⟨2, ![8192, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .bf16⟩
  | .hbm, ⟨2, _⟩ => ⟨S8192x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KvReferenceIdeal.lean ====
abbrev S8192x1024 : Shape := ⟨2, ![8192, 1024]⟩
abbrev S1024x2048 : Shape := ⟨2, ![1024, 2048]⟩
abbrev S8192x2048 : Shape := ⟨2, ![8192, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .bf16⟩
  | .hbm, ⟨2, _⟩ => ⟨S8192x1024, .f32⟩
  | .hbm, ⟨3, _⟩ => ⟨S1024x2048, .f32⟩
  | .hbm, ⟨4, _⟩ => ⟨S8192x2048, .f32⟩
  | .hbm, ⟨5, _⟩ => ⟨S8192x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== PleGate.lean ====
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== PleGateReferenceIdeal.lean ====
abbrev S8192x1024 : Shape := ⟨2, ![8192, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1024x1024, .f32⟩
  | .hbm, ⟨4, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== PleProj.lean ====
abbrev S8192x256 : Shape := ⟨2, ![8192, 256]⟩
abbrev S256x1024 : Shape := ⟨2, ![256, 1024]⟩
abbrev S8192x1024 : Shape := ⟨2, ![8192, 1024]⟩
abbrev S1024x256 : Shape := ⟨2, ![1024, 256]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x256, .f32⟩
  | .hbm, ⟨1, _⟩ => ⟨S256x1024, .bf16⟩
  | .hbm, ⟨2, _⟩ => ⟨S8192x1024, .f32⟩
  | .local _ .vmem, ⟨0, _⟩ => ⟨S1024x256, .f32⟩
  | .local _ .vmem, ⟨1, _⟩ => ⟨S1024x256, .f32⟩
  | .local _ .vmem, ⟨2, _⟩ => ⟨S256x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== PleProjReferenceIdeal.lean ====
abbrev S8192x256 : Shape := ⟨2, ![8192, 256]⟩
abbrev S256x1024 : Shape := ⟨2, ![256, 1024]⟩
abbrev S8192x1024 : Shape := ⟨2, ![8192, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S256x1024, .bf16⟩
  | .hbm, ⟨2, _⟩ => ⟨S256x1024, .f32⟩
  | .hbm, ⟨3, _⟩ => ⟨S8192x1024, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== FfnNormBwd.lean ====
abbrev S8192x2816 : Shape := ⟨2, ![8192, 2816]⟩
abbrev S1024x5632 : Shape := ⟨2, ![1024, 5632]⟩
abbrev S8192x1024 : Shape := ⟨2, ![8192, 1024]⟩
abbrev S1024 : Shape := ⟨1, ![1024]⟩
abbrev S1024x2816 : Shape := ⟨2, ![1024, 2816]⟩
abbrev S1x1024 : Shape := ⟨2, ![1, 1024]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩

abbrev nBuf : Space → Nat
  | .hbm => 11
  | .vmem => 16
  | .smem => 0
  | _ => 0

abbrev bufTy : (tb : Table) → Fin (tcTables nBuf tb) → BufTy
  | .hbm, ⟨0, _⟩ => ⟨S8192x2816, .bf16⟩
  | .hbm, ⟨1, _⟩ => ⟨S1024x5632, .bf16⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S8192x1024, .f32⟩
  | .hbm, ⟨6, _⟩ => ⟨S1024x2816, .bf16⟩
  | .hbm, ⟨7, _⟩ => ⟨S1x1024, .f32⟩
  | .hbm, ⟨8, _⟩ => ⟨S8192x1024, .f32⟩
  | .hbm, ⟨9, _⟩ => ⟨S8192x1024, .bf16⟩
  | .hbm, ⟨10, _⟩ => ⟨S1x1024, .f32⟩
  | .local _ .vmem, ⟨0, _⟩ => ⟨S512x2816, .bf16⟩
  | .local _ .vmem, ⟨1, _⟩ => ⟨S512x2816, .bf16⟩
  | .local _ .vmem, ⟨2, _⟩ => ⟨S1024x2816, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S1x1024, .f32⟩
  | .local _ .vmem, ⟨15, _⟩ => ⟨S512x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14

abbrev nD : Nat := 1
abbrev τ : Topo := Topo.v7x

variable {F : FTy → Type} [FloatOps F]

abbrev grid0 : Pipeline.Grid := ⟨2, ![16, 1], ![false, false]⟩

def k0_cond2 (i : grid0.Coords) : BitVec 1 :=
  let arg1 : BitVec 32 := BitVec.ofNat 32 (i 1).val
  let c0_i32_8 : BitVec 32 := 0#32
  let v12 : BitVec 1 := Scalar.cmpi .eq arg1 c0_i32_8
  let v13 : BitVec 32 := Scalar.extui v12
  let c0_i32_9 : BitVec 32 := 0#32
  let v14 : BitVec 1 := Scalar.cmpi .ne v13 c0_i32_9
  v14

def k0_cond3 (i : grid0.Coords) : BitVec 1 :=
  let arg0 : BitVec 32 := BitVec.ofNat 32 (i 0).val
  let c0_i32_30 : BitVec 32 := 0#32
  let v51 : BitVec 1 := Scalar.cmpi .eq arg0 c0_i32_30
  let v52 : BitVec 32 := Scalar.extui v51
  let c0_i32_31 : BitVec 32 := 0#32
  let v53 : BitVec 1 := Scalar.cmpi .ne v52 c0_i32_31
  v53

def k0_cond4 (i : grid0.Coords) : BitVec 1 :=
  let arg0 : BitVec 32 := BitVec.ofNat 32 (i 0).val
  let c0_i32_32 : BitVec 32 := 0#32
  let v54 : BitVec 1 := Scalar.cmpi .sgt arg0 c0_i32_32
  let v55 : BitVec 32 := Scalar.extui v54
  let c0_i32_33 : BitVec 32 := 0#32
  let v56 : BitVec 1 := Scalar.cmpi .ne v55 c0_i32_33
  v56

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== FfnNormBwdReferenceIdeal.lean ====
abbrev S8192x2816 : Shape := ⟨2, ![8192, 2816]⟩
abbrev S1024x5632 : Shape := ⟨2, ![1024, 5632]⟩
abbrev S8192x1024 : Shape := ⟨2, ![8192, 1024]⟩
abbrev S1024 : Shape := ⟨1, ![1024]⟩
abbrev S1024x2816 : Shape := ⟨2, ![1024, 2816]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 62
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S1024x5632, .bf16⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S8192x1024, .f32⟩
  | .hbm, ⟨6, _⟩ => ⟨S1024x2816, .bf16⟩
  | .hbm, ⟨7, _⟩ => ⟨S_, .f32⟩
  | .hbm, ⟨8, _⟩ => ⟨S8192x1024, .f32⟩
  | .hbm, ⟨9, _⟩ => ⟨S1024x2816, .f32⟩
  | .hbm, ⟨10, _⟩ => ⟨S8192x2816, .f32⟩
  | .hbm, ⟨11, _⟩ => ⟨S8192x2816, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1, .f32⟩
  | .hbm, ⟨25, _⟩ => ⟨S8192x1, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S8192x1024, .f32⟩
  | .hbm, ⟨30, _⟩ => ⟨S8192x1024, .f32⟩
  | .hbm, ⟨31, _⟩ => ⟨S1x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S1024, .f32⟩
  | .hbm, ⟨37, _⟩ => ⟨S1x1024, .f32⟩
  | .hbm, ⟨38, _⟩ => ⟨S8192x1024, .f32⟩
  | .hbm, ⟨39, _⟩ => ⟨S8192x1024, .f32⟩
  | .hbm, ⟨40, _⟩ => ⟨S_, .f32⟩
  | .hbm, ⟨41, _⟩ => ⟨S1024, .f32⟩
  | .hbm, ⟨42, _⟩ => ⟨S8192x1024, .f32⟩
  | .hbm, ⟨43, _⟩ => ⟨S_, .f32⟩
  | .hbm, ⟨44, _⟩ => ⟨S8192, .f32⟩
  | .hbm, ⟨45, _⟩ => ⟨S8192x1, .f32⟩
  | .hbm, ⟨46, _⟩ => ⟨S8192x1024, .f32⟩
  | .hbm, ⟨47, _⟩ => ⟨S8192x1024, .f32⟩
  | .hbm, ⟨48, _⟩ => ⟨S8192x1, .f32⟩
  | .hbm, ⟨49, _⟩ => ⟨S_, .f32⟩
  | .hbm, ⟨50, _⟩ => ⟨S8192x1, .f32⟩
  | .hbm, ⟨51, _⟩ => ⟨S8192x1, .f32⟩
  | .hbm, ⟨52, _⟩ => ⟨S_, .f32⟩
  | .hbm, ⟨53, _⟩ => ⟨S8192, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S8192x1024, .bf16⟩
  | .hbm, ⟨61, _⟩ => ⟨S1x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_5 : Ref sig .tc := ⟨.hbm, 40, rfl⟩
abbrev main_v28 : Ref sig .tc := ⟨.hbm, 41, rfl⟩
abbrev main_v29 : Ref sig .tc := ⟨.hbm, 42, rfl⟩
abbrev main_cst_6 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_7 : Ref sig .tc := ⟨.hbm, 49, rfl⟩
abbrev main_v35 : Ref sig .tc := ⟨.hbm, 50, rfl⟩
abbrev main_v36 : Ref sig .tc := ⟨.hbm, 51, rfl⟩
abbrev main_cst_8 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩

abbrev nD : Nat := 1
abbrev τ : Topo := Topo.v7x

variable {F : FTy → Type} [FloatOps F]
-- ==== GateNormBwd.lean ====
abbrev S8192x1024 : Shape := ⟨2, ![8192, 1024]⟩
abbrev S1024x1024 : Shape := ⟨2, ![1024, 1024]⟩
abbrev S1024 : Shape := ⟨1, ![1024]⟩
abbrev S1x1024 : Shape := ⟨2, ![1, 1024]⟩
abbrev S1024x1 : Shape := ⟨2, ![1024, 1]⟩

abbrev nBuf : Space → Nat
  | .hbm => 9
  | .vmem => 14
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S1x1024, .f32⟩
  | .hbm, ⟨6, _⟩ => ⟨S8192x1024, .f32⟩
  | .hbm, ⟨7, _⟩ => ⟨S8192x1024, .bf16⟩
  | .hbm, ⟨8, _⟩ => ⟨S1x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x1024, .bf16⟩
  | .local _ .vmem, ⟨12, _⟩ => ⟨S1x1024, .f32⟩
  | .local _ .vmem, ⟨13, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨2, ![8, 1], ![false, false]⟩

def k0_cond2 (i : grid0.Coords) : BitVec 1 :=
  let arg1 : BitVec 32 := BitVec.ofNat 32 (i 1).val
  let c0_i32_8 : BitVec 32 := 0#32
  let v11 : BitVec 1 := Scalar.cmpi .eq arg1 c0_i32_8
  let v12 : BitVec 32 := Scalar.extui v11
  let c0_i32_9 : BitVec 32 := 0#32
  let v13 : BitVec 1 := Scalar.cmpi .ne v12 c0_i32_9
  v13

def k0_cond3 (i : grid0.Coords) : BitVec 1 :=
  let arg0 : BitVec 32 := BitVec.ofNat 32 (i 0).val
  let c0_i32_28 : BitVec 32 := 0#32
  let v48 : BitVec 1 := Scalar.cmpi .eq arg0 c0_i32_28
  let v49 : BitVec 32 := Scalar.extui v48
  let c0_i32_29 : BitVec 32 := 0#32
  let v50 : BitVec 1 := Scalar.cmpi .ne v49 c0_i32_29
  v50

def k0_cond4 (i : grid0.Coords) : BitVec 1 :=
  let arg0 : BitVec 32 := BitVec.ofNat 32 (i 0).val
  let c0_i32_30 : BitVec 32 := 0#32
  let v51 : BitVec 1 := Scalar.cmpi .sgt arg0 c0_i32_30
  let v52 : BitVec 32 := Scalar.extui v51
  let c0_i32_31 : BitVec 32 := 0#32
  let v53 : BitVec 1 := Scalar.cmpi .ne v52 c0_i32_31
  v53

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== GateNormBwdReferenceIdeal.lean ====
abbrev S8192x1024 : Shape := ⟨2, ![8192, 1024]⟩
abbrev S1024x1024 : Shape := ⟨2, ![1024, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 59
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S_, .f32⟩
  | .hbm, ⟨6, _⟩ => ⟨S8192x1024, .f32⟩
  | .hbm, ⟨7, _⟩ => ⟨S1024x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x1024, .f32⟩
  | .hbm, ⟨27, _⟩ => ⟨S8192x1024, .f32⟩
  | .hbm, ⟨28, _⟩ => ⟨S1x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S1024, .f32⟩
  | .hbm, ⟨34, _⟩ => ⟨S1x1024, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S1024, .f32⟩
  | .hbm, ⟨39, _⟩ => ⟨S8192x1024, .f32⟩
  | .hbm, ⟨40, _⟩ => ⟨S_, .f32⟩
  | .hbm, ⟨41, _⟩ => ⟨S8192, .f32⟩
  | .hbm, ⟨42, _⟩ => ⟨S8192x1, .f32⟩
  | .hbm, ⟨43, _⟩ => ⟨S8192x1024, .f32⟩
  | .hbm, ⟨44, _⟩ => ⟨S8192x1024, .f32⟩
  | .hbm, ⟨45, _⟩ => ⟨S8192x1, .f32⟩
  | .hbm, ⟨46, _⟩ => ⟨S_, .f32⟩
  | .hbm, ⟨47, _⟩ => ⟨S8192x1, .f32⟩
  | .hbm, ⟨48, _⟩ => ⟨S8192x1, .f32⟩
  | .hbm, ⟨49, _⟩ => ⟨S_, .f32⟩
  | .hbm, ⟨50, _⟩ => ⟨S8192, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .bf16⟩
  | .hbm, ⟨58, _⟩ => ⟨S1x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_cst_6 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_cst_8 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩

abbrev nD : Nat := 1
abbrev τ : Topo := Topo.v7x

variable {F : FTy → Type} [FloatOps F]
-- ==== KvNormBwd.lean ====
abbrev S8192x2048 : Shape := ⟨2, ![8192, 2048]⟩
abbrev S1024x2048 : Shape := ⟨2, ![1024, 2048]⟩
abbrev S8192x1024 : Shape := ⟨2, ![8192, 1024]⟩
abbrev S1024 : Shape := ⟨1, ![1024]⟩
abbrev S1x1024 : Shape := ⟨2, ![1, 1024]⟩
abbrev S512x2048 : Shape := ⟨2, ![512, 2048]⟩
abbrev S512x1024 : Shape := ⟨2, ![512, 1024]⟩
abbrev S512 : Shape := ⟨1, ![512]⟩
abbrev S512x1 : Shape := ⟨2, ![512, 1]⟩

abbrev nBuf : Space → Nat
  | .hbm => 9
  | .vmem => 14
  | .smem => 0
  | _ => 0

abbrev bufTy : (tb : Table) → Fin (tcTables nBuf tb) → BufTy
  | .hbm, ⟨0, _⟩ => ⟨S8192x2048, .f32⟩
  | .hbm, ⟨1, _⟩ => ⟨S1024x2048, .bf16⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S1x1024, .f32⟩
  | .hbm, ⟨6, _⟩ => ⟨S8192x1024, .f32⟩
  | .hbm, ⟨7, _⟩ => ⟨S8192x1024, .bf16⟩
  | .hbm, ⟨8, _⟩ => ⟨S1x1024, .f32⟩
  | .local _ .vmem, ⟨0, _⟩ => ⟨S512x2048, .f32⟩
  | .local _ .vmem, ⟨1, _⟩ => ⟨S512x2048, .f32⟩
  | .local _ .vmem, ⟨2, _⟩ => ⟨S1024x2048, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | .local _ .vmem, ⟨13, _⟩ => ⟨S512x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨2, ![16, 1], ![false, false]⟩

def k0_cond2 (i : grid0.Coords) : BitVec 1 :=
  let arg1 : BitVec 32 := BitVec.ofNat 32 (i 1).val
  let c0_i32_8 : BitVec 32 := 0#32
  let v12 : BitVec 1 := Scalar.cmpi .eq arg1 c0_i32_8
  let v13 : BitVec 32 := Scalar.extui v12
  let c0_i32_9 : BitVec 32 := 0#32
  let v14 : BitVec 1 := Scalar.cmpi .ne v13 c0_i32_9
  v14

def k0_cond3 (i : grid0.Coords) : BitVec 1 :=
  let arg0 : BitVec 32 := BitVec.ofNat 32 (i 0).val
  let c0_i32_28 : BitVec 32 := 0#32
  let v49 : BitVec 1 := Scalar.cmpi .eq arg0 c0_i32_28
  let v50 : BitVec 32 := Scalar.extui v49
  let c0_i32_29 : BitVec 32 := 0#32
  let v51 : BitVec 1 := Scalar.cmpi .ne v50 c0_i32_29
  v51

def k0_cond4 (i : grid0.Coords) : BitVec 1 :=
  let arg0 : BitVec 32 := BitVec.ofNat 32 (i 0).val
  let c0_i32_30 : BitVec 32 := 0#32
  let v52 : BitVec 1 := Scalar.cmpi .sgt arg0 c0_i32_30
  let v53 : BitVec 32 := Scalar.extui v52
  let c0_i32_31 : BitVec 32 := 0#32
  let v54 : BitVec 1 := Scalar.cmpi .ne v53 c0_i32_31
  v54

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== KvNormBwdReferenceIdeal.lean ====
abbrev S8192x2048 : Shape := ⟨2, ![8192, 2048]⟩
abbrev S1024x2048 : Shape := ⟨2, ![1024, 2048]⟩
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 58
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1024x2048, .bf16⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S_, .f32⟩
  | .hbm, ⟨6, _⟩ => ⟨S8192x1024, .f32⟩
  | .hbm, ⟨7, _⟩ => ⟨S1024x2048, .f32⟩
  | .hbm, ⟨8, _⟩ => ⟨S8192x2048, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x1024, .f32⟩
  | .hbm, ⟨26, _⟩ => ⟨S8192x1024, .f32⟩
  | .hbm, ⟨27, _⟩ => ⟨S1x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S1024, .f32⟩
  | .hbm, ⟨38, _⟩ => ⟨S8192x1024, .f32⟩
  | .hbm, ⟨39, _⟩ => ⟨S_, .f32⟩
  | .hbm, ⟨40, _⟩ => ⟨S8192, .f32⟩
  | .hbm, ⟨41, _⟩ => ⟨S8192x1, .f32⟩
  | .hbm, ⟨42, _⟩ => ⟨S8192x1024, .f32⟩
  | .hbm, ⟨43, _⟩ => ⟨S8192x1024, .f32⟩
  | .hbm, ⟨44, _⟩ => ⟨S8192x1, .f32⟩
  | .hbm, ⟨45, _⟩ => ⟨S_, .f32⟩
  | .hbm, ⟨46, _⟩ => ⟨S8192x1, .f32⟩
  | .hbm, ⟨47, _⟩ => ⟨S8192x1, .f32⟩
  | .hbm, ⟨48, _⟩ => ⟨S_, .f32⟩
  | .hbm, ⟨49, _⟩ => ⟨S8192, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .bf16⟩
  | .hbm, ⟨57, _⟩ => ⟨S1x1024, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_cst_6 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_7 : Ref sig .tc := ⟨.hbm, 45, rfl⟩
abbrev main_v32 : Ref sig .tc := ⟨.hbm, 46, rfl⟩
abbrev main_v33 : Ref sig .tc := ⟨.hbm, 47, rfl⟩
abbrev main_cst_8 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩

abbrev nD : Nat := 1
abbrev τ : Topo := Topo.v7x

variable {F : FTy → Type} [FloatOps F]
-- ==== SsmNormBwd.lean ====
abbrev S8192x3072 : Shape := ⟨2, ![8192, 3072]⟩
abbrev S1024x5632 : Shape := ⟨2, ![1024, 5632]⟩
abbrev S8192x1024 : Shape := ⟨2, ![8192, 1024]⟩
abbrev S1024 : Shape := ⟨1, ![1024]⟩
abbrev S1024x3072 : Shape := ⟨2, ![1024, 3072]⟩
abbrev S1x1024 : Shape := ⟨2, ![1, 1024]⟩
abbrev S512x1024 : Shape := ⟨2, ![512, 1024]⟩
abbrev S1024x1024 : Shape := ⟨2, ![1024, 1024]⟩
abbrev S512 : Shape := ⟨1, ![512]⟩
abbrev S512x1 : Shape := ⟨2, ![512, 1]⟩

abbrev nBuf : Space → Nat
  | .hbm => 11
  | .vmem => 17
  | .smem => 0
  | _ => 0

abbrev bufTy : (tb : Table) → Fin (tcTables nBuf tb) → BufTy
  | .hbm, ⟨0, _⟩ => ⟨S8192x3072, .bf16⟩
  | .hbm, ⟨1, _⟩ => ⟨S1024x5632, .bf16⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S8192x1024, .f32⟩
  | .hbm, ⟨6, _⟩ => ⟨S1024x3072, .bf16⟩
  | .hbm, ⟨7, _⟩ => ⟨S1x1024, .f32⟩
  | .hbm, ⟨8, _⟩ => ⟨S8192x1024, .f32⟩
  | .hbm, ⟨9, _⟩ => ⟨S8192x1024, .bf16⟩
  | .hbm, ⟨10, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S1x1024, .f32⟩
  | .local _ .vmem, ⟨16, _⟩ => ⟨S512x1024, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨2, ![16, 3], ![false, false]⟩

def k0_cond2 (i : grid0.Coords) : BitVec 1 :=
  let arg1 : BitVec 32 := BitVec.ofNat 32 (i 1).val
  let c2_i32 : BitVec 32 := 2#32
  let v12 : BitVec 1 := Scalar.cmpi .eq arg1 c2_i32
  let v13 : BitVec 32 := Scalar.extui v12
  let c0_i32_8 : BitVec 32 := 0#32
  let v14 : BitVec 1 := Scalar.cmpi .ne v13 c0_i32_8
  v14

def k0_cond3 (i : grid0.Coords) : BitVec 1 :=
  let arg0 : BitVec 32 := BitVec.ofNat 32 (i 0).val
  let c0_i32_29 : BitVec 32 := 0#32
  let v51 : BitVec 1 := Scalar.cmpi .eq arg0 c0_i32_29
  let v52 : BitVec 32 := Scalar.extui v51
  let c0_i32_30 : BitVec 32 := 0#32
  let v53 : BitVec 1 := Scalar.cmpi .ne v52 c0_i32_30
  v53

def k0_cond4 (i : grid0.Coords) : BitVec 1 :=
  let arg0 : BitVec 32 := BitVec.ofNat 32 (i 0).val
  let c0_i32_31 : BitVec 32 := 0#32
  let v54 : BitVec 1 := Scalar.cmpi .sgt arg0 c0_i32_31
  let v55 : BitVec 32 := Scalar.extui v54
  let c0_i32_32 : BitVec 32 := 0#32
  let v56 : BitVec 1 := Scalar.cmpi .ne v55 c0_i32_32
  v56

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== SsmNormBwdReferenceIdeal.lean ====
abbrev S8192x3072 : Shape := ⟨2, ![8192, 3072]⟩
abbrev S1024x5632 : Shape := ⟨2, ![1024, 5632]⟩
abbrev S8192x1024 : Shape := ⟨2, ![8192, 1024]⟩
abbrev S1024 : Shape := ⟨1, ![1024]⟩
abbrev S1024x3072 : Shape := ⟨2, ![1024, 3072]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 62
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S1024x5632, .bf16⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S8192x1024, .f32⟩
  | .hbm, ⟨6, _⟩ => ⟨S1024x3072, .bf16⟩
  | .hbm, ⟨7, _⟩ => ⟨S_, .f32⟩
  | .hbm, ⟨8, _⟩ => ⟨S8192x1024, .f32⟩
  | .hbm, ⟨9, _⟩ => ⟨S1024x3072, .f32⟩
  | .hbm, ⟨10, _⟩ => ⟨S8192x3072, .f32⟩
  | .hbm, ⟨11, _⟩ => ⟨S8192x3072, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1, .f32⟩
  | .hbm, ⟨25, _⟩ => ⟨S8192x1, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S8192x1024, .f32⟩
  | .hbm, ⟨30, _⟩ => ⟨S8192x1024, .f32⟩
  | .hbm, ⟨31, _⟩ => ⟨S1x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S1024, .f32⟩
  | .hbm, ⟨37, _⟩ => ⟨S1x1024, .f32⟩
  | .hbm, ⟨38, _⟩ => ⟨S8192x1024, .f32⟩
  | .hbm, ⟨39, _⟩ => ⟨S8192x1024, .f32⟩
  | .hbm, ⟨40, _⟩ => ⟨S_, .f32⟩
  | .hbm, ⟨41, _⟩ => ⟨S1024, .f32⟩
  | .hbm, ⟨42, _⟩ => ⟨S8192x1024, .f32⟩
  | .hbm, ⟨43, _⟩ => ⟨S_, .f32⟩
  | .hbm, ⟨44, _⟩ => ⟨S8192, .f32⟩
  | .hbm, ⟨45, _⟩ => ⟨S8192x1, .f32⟩
  | .hbm, ⟨46, _⟩ => ⟨S8192x1024, .f32⟩
  | .hbm, ⟨47, _⟩ => ⟨S8192x1024, .f32⟩
  | .hbm, ⟨48, _⟩ => ⟨S8192x1, .f32⟩
  | .hbm, ⟨49, _⟩ => ⟨S_, .f32⟩
  | .hbm, ⟨50, _⟩ => ⟨S8192x1, .f32⟩
  | .hbm, ⟨51, _⟩ => ⟨S8192x1, .f32⟩
  | .hbm, ⟨52, _⟩ => ⟨S_, .f32⟩
  | .hbm, ⟨53, _⟩ => ⟨S8192, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S8192x1024, .bf16⟩
  | .hbm, ⟨61, _⟩ => ⟨S1x1024, .f32⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_5 : Ref sig .tc := ⟨.hbm, 40, rfl⟩
abbrev main_v28 : Ref sig .tc := ⟨.hbm, 41, rfl⟩
abbrev main_v29 : Ref sig .tc := ⟨.hbm, 42, rfl⟩
abbrev main_cst_6 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_7 : Ref sig .tc := ⟨.hbm, 49, rfl⟩
abbrev main_v35 : Ref sig .tc := ⟨.hbm, 50, rfl⟩
abbrev main_v36 : Ref sig .tc := ⟨.hbm, 51, rfl⟩
abbrev main_cst_8 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩

abbrev nD : Nat := 1
abbrev τ : Topo := Topo.v7x

variable {F : FTy → Type} [FloatOps F]
-- ==== PleBwd.lean ====
abbrev S8192x1024 : Shape := ⟨2, ![8192, 1024]⟩
abbrev S512x1024 : Shape := ⟨2, ![512, 1024]⟩

abbrev nBuf : Space → Nat
  | .hbm => 5
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .bf16⟩
  | .hbm, ⟨4, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== PleBwdReferenceIdeal.lean ====
abbrev S8192x1024 : Shape := ⟨2, ![8192, 1024]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S_, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .bf16⟩
  | .hbm, ⟨20, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Ple.lean ====
abbrev S8192x1024 : Shape := ⟨2, ![8192, 1024]⟩
abbrev S512x1024 : Shape := ⟨2, ![512, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== PleReferenceIdeal.lean ====
abbrev S8192x1024 : Shape := ⟨2, ![8192, 1024]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S_, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== Norm.lean ====
abbrev S8192x1024 : Shape := ⟨2, ![8192, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1x1024, .f32⟩
  | .hbm, ⟨3, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormReferenceIdeal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x1024, .f32⟩
  | .hbm, ⟨14, _⟩ => ⟨S8192x1024, .f32⟩
  | .hbm, ⟨15, _⟩ => ⟨S1x1024, .f32⟩
  | .hbm, ⟨16, _⟩ => ⟨S8192x1024, .f32⟩
  | .hbm, ⟨17, _⟩ => ⟨S8192x1024, .f32⟩
  | .hbm, ⟨18, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Proof.Trips.lean ====
/-
  The kernel's first two counted loops, over any float values: the loop over pairs of key tiles (`k0_t1`) and its
  remainder (`k0_t2`), which never runs. The offsets a trip loads and stores at, in closed form; one trip of the
  pair loop run at symbolic contents; and the two invariants the body's run goes through the loops by.
-/
module

public import proofs.«01_k».proof.Proof.Gen.KernelIdeal.Loops
public import Idealize.ShloMosaic.Lib.Exec
public import Idealize.ShloMosaic.Lib.Tactic
public import Idealize.ShloMosaic.Lib.Pipeline.Kit

@[expose] public section

set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## Trips and offsets -/

/-- The pair loop runs `i₂ / 2` trips, the single loop `i₂ % 2`, the remainders none. -/
theorem trips1 : ∀ i : grid0.Coords, (k0_t1_loop i).trips = (i 2).val / 2 := by decide +kernel
theorem trips2 : ∀ i : grid0.Coords, (k0_t2_loop i).trips = 0 := by decide +kernel
theorem trips3 : ∀ i : grid0.Coords, (k0_t3_loop i).trips = (i 2).val % 2 := by decide +kernel
theorem trips4 : ∀ i : grid0.Coords, (k0_t4_loop i).trips = 0 := by decide +kernel

/-- The pair loop's only trip takes key tiles 0 and 1. -/
theorem off1_eq : ∀ (i : grid0.Coords) (k : Fin (k0_t1_loop i).trips), k0_off1 i k = ![0, 0, 0] := by decide +kernel
theorem off2_eq : ∀ (i : grid0.Coords) (k : Fin (k0_t1_loop i).trips), k0_off2 i k = ![0, 512, 0] := by decide +kernel
theorem off3_eq : ∀ (i : grid0.Coords) (k : Fin (k0_t1_loop i).trips) (r : Fin 4),
    k0_off3 i k (BitVec.ofNat 32 r.val) = ![0, 0, r.val, 0, 0] := by decide +kernel
theorem off4_eq : ∀ (i : grid0.Coords) (k : Fin (k0_t1_loop i).trips) (r : Fin 4),
    k0_off4 i k (BitVec.ofNat 32 r.val) = ![0, 0, 4 + r.val, 0, 0] := by decide +kernel
/-- The single loop's only trip takes key tile `i₂ - 1`. -/
theorem off9_eq : ∀ (i : grid0.Coords), 0 < (k0_t3_loop i).trips → k0_off9 i = ![0, 512 * ((i 2).val - 1), 0] := by decide +kernel
theorem off10_eq : ∀ (i : grid0.Coords) (r : Fin 4), 0 < (k0_t3_loop i).trips →
    k0_off10 i (BitVec.ofNat 32 r.val) = ![0, 0, 4 * ((i 2).val - 1) + r.val, 0, 0] := by decide +kernel

instance closedOff1 (i : grid0.Coords) (k : Fin (k0_t1_loop i).trips) : ClosedOff (k0_off1 i k) := ⟨![0, 0, 0], off1_eq i k⟩
instance closedOff2 (i : grid0.Coords) (k : Fin (k0_t1_loop i).trips) : ClosedOff (k0_off2 i k) := ⟨![0, 512, 0], off2_eq i k⟩

/-! ## The pair loop -/

/-- What the three loops carry: the running sums of the log-probabilities and of the logits' gradients, and the
    gradient of the queries, transposed. -/
abbrev Carry (F : FTy → Type) : Type := FVec F S1x1024 .f32 × FVec F S1x1024 .f32 × FVec F S128x1024 .f32

section
variable (c : Dev nD) (i : grid0.Coords)
  (arg3 : Memref sig .tc .vmem S1x512x128 .bf16) (harg3 : arg3.IsWhole) (arg4 : Memref sig .tc .vmem S1x2048x128 .bf16) (harg4 : arg4.IsWhole)
  (arg5 : Memref sig .tc .vmem S1x2048x128 .bf16) (harg5 : arg5.IsWhole) (arg6 : Memref sig .tc .vmem S1x1x16x128x128 .bf16) (harg6 : arg6.IsWhole)
  (arg7 : Memref sig .tc .vmem S1x512x128 .bf16) (harg7 : arg7.IsWhole) (arg8 : Memref sig .tc .vmem S1x1x1x1x1024 .f32) (harg8 : arg8.IsWhole)
  (arg9 : Memref sig .tc .vmem S1x512x128 .bf16) (harg9 : arg9.IsWhole) (arg10 : Memref sig .tc .vmem S1x2048x128 .f32) (harg10 : arg10.IsWhole)
  (arg11 : Memref sig .tc .vmem S1x2048x128 .f32) (harg11 : arg11.IsWhole)
  (v44 v83 : FVec F S1024x128 .bf16) (v85 : FVec F S1x1024 .f32) (v92 : FVec F S128x256 .bf16) (v93 : FVec F S1x1024 .f32)
  (v110 v111 : BitVec 32) (v122 : BitVec 1) (v123 : BitVec 32)

/-- What a trip holds: the keys, the values and the transposed keys at their contents, the two gradients it adds into. -/
abbrev Held (X4 : BufTy.Contents (Elt F) arg4.view.ty) (X5 : BufTy.Contents (Elt F) arg5.view.ty) (X6 : BufTy.Contents (Elt F) arg6.view.ty)
    (f10 : BufTy.Contents (Elt F) arg10.view.ty) (f11 : BufTy.Contents (Elt F) arg11.view.ty) : sProp 𝕄 :=
  iprop((arg4.view.loc (c : Thread nD τ) ↦[arg4.view.set]{fullShare} X4) ∗ (arg5.view.loc (c : Thread nD τ) ↦[arg5.view.set]{fullShare} X5)
    ∗ (arg6.view.loc (c : Thread nD τ) ↦[arg6.view.set]{fullShare} X6) ∗ (arg10.view.loc (c : Thread nD τ) ↦[arg10.view.set]{fullShare} f10)
    ∗ (arg11.view.loc (c : Thread nD τ) ↦[arg11.view.set]{fullShare} f11))

/-- ONE TRIP of the pair loop: what it yields and the pieces it writes into the two gradients, as the run finds them. -/
@[irreducible] def trip1 (X4 : BufTy.Contents (Elt F) arg4.view.ty) (X5 : BufTy.Contents (Elt F) arg5.view.ty)
    (X6 : BufTy.Contents (Elt F) arg6.view.ty) (k : Fin (k0_t1_loop i).trips) :
    Σ' (R : Carry F → BufTy.Contents (Elt F) arg10.view.ty → BufTy.Contents (Elt F) arg11.view.ty → Carry F)
      (L10 : Carry F → BufTy.Contents (Elt F) arg10.view.ty → BufTy.Contents (Elt F) arg11.view.ty → List (View.Piece (Elt F) S1x2048x128 .f32)),
      { L11 : Carry F → BufTy.Contents (Elt F) arg10.view.ty → BufTy.Contents (Elt F) arg11.view.ty → List (View.Piece (Elt F) S1x2048x128 .f32) //
        ∀ (𝒱 : Variants) (bd : Option 𝒱.V) (E : Set ℕ) (acc : Carry F) (f10 : BufTy.Contents (Elt F) arg10.view.ty) (f11 : BufTy.Contents (Elt F) arg11.view.ty),
          Held (F := F) c arg4 arg5 arg6 arg10 arg11 X4 X5 X6 f10 f11
          ⊢ wp frame (wpE (defs₀ (F := F)) 𝒱 (c : Thread nD τ) bd) E
              (k0_t1_body (F := F) i arg3 harg3 arg4 harg4 arg5 harg5 arg6 harg6 arg7 harg7 arg8 harg8 arg9 harg9 arg10 harg10 arg11 harg11 v44 v83 v85 v92 v93 v110 v111 v122 v123 k acc)
              (fun yld => iprop(⌜yld = R acc f10 f11⌝ ∗ Held (F := F) c arg4 arg5 arg6 arg10 arg11 X4 X5 X6
                (arg10.view.writes (Elt F) f10 (L10 acc f10 f11)) (arg11.view.writes (Elt F) f11 (L11 acc f10 f11)))) } := by
  refine ⟨?_, ?_, ?_, fun 𝒱 bd E acc f10 f11 => ?run⟩
  case run =>
    unfold k0_t1_body
    iintro ⟨H4, H5, H6, H10, H11⟩
    sl_exec
    sl_step
    sl_close

/-- The trip's yield, and its pieces for the two gradients. -/
abbrev trip1R (X4 : BufTy.Contents (Elt F) arg4.view.ty) (X5 : BufTy.Contents (Elt F) arg5.view.ty)
    (X6 : BufTy.Contents (Elt F) arg6.view.ty) (k : Fin (k0_t1_loop i).trips) (acc : Carry F)
    (f10 : BufTy.Contents (Elt F) arg10.view.ty) (f11 : BufTy.Contents (Elt F) arg11.view.ty) : Carry F :=
  (trip1 c i arg3 harg3 arg4 harg4 arg5 harg5 arg6 harg6 arg7 harg7 arg8 harg8 arg9 harg9 arg10 harg10 arg11 harg11 v44 v83 v85 v92 v93 v110 v111 v122 v123 X4 X5 X6 k).1 acc f10 f11
abbrev trip1L10 (X4 : BufTy.Contents (Elt F) arg4.view.ty) (X5 : BufTy.Contents (Elt F) arg5.view.ty)
    (X6 : BufTy.Contents (Elt F) arg6.view.ty) (k : Fin (k0_t1_loop i).trips) (acc : Carry F)
    (f10 : BufTy.Contents (Elt F) arg10.view.ty) (f11 : BufTy.Contents (Elt F) arg11.view.ty) : List (View.Piece (Elt F) S1x2048x128 .f32) :=
  (trip1 c i arg3 harg3 arg4 harg4 arg5 harg5 arg6 harg6 arg7 harg7 arg8 harg8 arg9 harg9 arg10 harg10 arg11 harg11 v44 v83 v85 v92 v93 v110 v111 v122 v123 X4 X5 X6 k).2.1 acc f10 f11
abbrev trip1L11 (X4 : BufTy.Contents (Elt F) arg4.view.ty) (X5 : BufTy.Contents (Elt F) arg5.view.ty)
    (X6 : BufTy.Contents (Elt F) arg6.view.ty) (k : Fin (k0_t1_loop i).trips) (acc : Carry F)
    (f10 : BufTy.Contents (Elt F) arg10.view.ty) (f11 : BufTy.Contents (Elt F) arg11.view.ty) : List (View.Piece (Elt F) S1x2048x128 .f32) :=
  (trip1 c i arg3 harg3 arg4 harg4 arg5 harg5 arg6 harg6 arg7 harg7 arg8 harg8 arg9 harg9 arg10 harg10 arg11 harg11 v44 v83 v85 v92 v93 v110 v111 v122 v123 X4 X5 X6 k).2.2.1 acc f10 f11

/-- What is known before a trip: the carried values, and the pieces the two gradients have been written with, newest first. -/
abbrev State (F : FTy → Type) : Type := Carry F × List (View.Piece (Elt F) S1x2048x128 .f32) × List (View.Piece (Elt F) S1x2048x128 .f32)

/-- Trip `k` of the pair loop on such a state (past the last trip: the state itself). -/
@[irreducible] def st1Step (X4 : BufTy.Contents (Elt F) arg4.view.ty) (X5 : BufTy.Contents (Elt F) arg5.view.ty)
    (X6 : BufTy.Contents (Elt F) arg6.view.ty) (G10 : BufTy.Contents (Elt F) arg10.view.ty) (G11 : BufTy.Contents (Elt F) arg11.view.ty)
    (k : ℕ) (s : State F) : State F :=
  if h : k < (k0_t1_loop i).trips then
    (trip1R c i arg3 harg3 arg4 harg4 arg5 harg5 arg6 harg6 arg7 harg7 arg8 harg8 arg9 harg9 arg10 harg10 arg11 harg11 v44 v83 v85 v92 v93 v110 v111 v122 v123 X4 X5 X6 ⟨k, h⟩ s.1 (arg10.view.writes (Elt F) G10 s.2.1) (arg11.view.writes (Elt F) G11 s.2.2),
      trip1L10 c i arg3 harg3 arg4 harg4 arg5 harg5 arg6 harg6 arg7 harg7 arg8 harg8 arg9 harg9 arg10 harg10 arg11 harg11 v44 v83 v85 v92 v93 v110 v111 v122 v123 X4 X5 X6 ⟨k, h⟩ s.1 (arg10.view.writes (Elt F) G10 s.2.1) (arg11.view.writes (Elt F) G11 s.2.2) ++ s.2.1,
      trip1L11 c i arg3 harg3 arg4 harg4 arg5 harg5 arg6 harg6 arg7 harg7 arg8 harg8 arg9 harg9 arg10 harg10 arg11 harg11 v44 v83 v85 v92 v93 v110 v111 v122 v123 X4 X5 X6 ⟨k, h⟩ s.1 (arg10.view.writes (Elt F) G10 s.2.1) (arg11.view.writes (Elt F) G11 s.2.2) ++ s.2.2)
  else s

/-- The state before trip `k`. -/
abbrev st1 (X4 : BufTy.Contents (Elt F) arg4.view.ty) (X5 : BufTy.Contents (Elt F) arg5.view.ty)
    (X6 : BufTy.Contents (Elt F) arg6.view.ty) (G10 : BufTy.Contents (Elt F) arg10.view.ty) (G11 : BufTy.Contents (Elt F) arg11.view.ty)
    (init : Carry F) (k : ℕ) : State F :=
  Nat.rec (init, [], []) (fun k s => st1Step c i arg3 harg3 arg4 harg4 arg5 harg5 arg6 harg6 arg7 harg7 arg8 harg8 arg9 harg9 arg10 harg10 arg11 harg11 v44 v83 v85 v92 v93 v110 v111 v122 v123 X4 X5 X6 G10 G11 k s) k

theorem st1_succ (X4 : BufTy.Contents (Elt F) arg4.view.ty) (X5 : BufTy.Contents (Elt F) arg5.view.ty)
    (X6 : BufTy.Contents (Elt F) arg6.view.ty) (G10 : BufTy.Contents (Elt F) arg10.view.ty) (G11 : BufTy.Contents (Elt F) arg11.view.ty)
    (k : Fin (k0_t1_loop i).trips) (s : State F) :
    st1Step c i arg3 harg3 arg4 harg4 arg5 harg5 arg6 harg6 arg7 harg7 arg8 harg8 arg9 harg9 arg10 harg10 arg11 harg11 v44 v83 v85 v92 v93 v110 v111 v122 v123 X4 X5 X6 G10 G11 k.val s
      = (trip1R c i arg3 harg3 arg4 harg4 arg5 harg5 arg6 harg6 arg7 harg7 arg8 harg8 arg9 harg9 arg10 harg10 arg11 harg11 v44 v83 v85 v92 v93 v110 v111 v122 v123 X4 X5 X6 k s.1 (arg10.view.writes (Elt F) G10 s.2.1) (arg11.view.writes (Elt F) G11 s.2.2),
        trip1L10 c i arg3 harg3 arg4 harg4 arg5 harg5 arg6 harg6 arg7 harg7 arg8 harg8 arg9 harg9 arg10 harg10 arg11 harg11 v44 v83 v85 v92 v93 v110 v111 v122 v123 X4 X5 X6 k s.1 (arg10.view.writes (Elt F) G10 s.2.1) (arg11.view.writes (Elt F) G11 s.2.2) ++ s.2.1,
        trip1L11 c i arg3 harg3 arg4 harg4 arg5 harg5 arg6 harg6 arg7 harg7 arg8 harg8 arg9 harg9 arg10 harg10 arg11 harg11 v44 v83 v85 v92 v93 v110 v111 v122 v123 X4 X5 X6 k s.1 (arg10.view.writes (Elt F) G10 s.2.1) (arg11.view.writes (Elt F) G11 s.2.2) ++ s.2.2) := by
  unfold st1Step; exact dif_pos k.isLt

/-- The pair loop's invariant: the two gradients hold the pieces so far over the contents at entry, the carried value is the state's. -/
abbrev inv1 (X4 : BufTy.Contents (Elt F) arg4.view.ty) (X5 : BufTy.Contents (Elt F) arg5.view.ty)
    (X6 : BufTy.Contents (Elt F) arg6.view.ty) (G10 : BufTy.Contents (Elt F) arg10.view.ty) (G11 : BufTy.Contents (Elt F) arg11.view.ty)
    (init : Carry F) (k : ℕ) (acc : Carry F) : sProp 𝕄 :=
  iprop((arg4.view.loc (c : Thread nD τ) ↦[arg4.view.set]{fullShare} X4) ∗ (arg5.view.loc (c : Thread nD τ) ↦[arg5.view.set]{fullShare} X5)
    ∗ (arg6.view.loc (c : Thread nD τ) ↦[arg6.view.set]{fullShare} X6)
    ∗ (∃ f, (arg10.view.loc (c : Thread nD τ) ↦[arg10.view.set]{fullShare} f)
        ∗ ⌜f = arg10.view.writes (Elt F) G10 (st1 c i arg3 harg3 arg4 harg4 arg5 harg5 arg6 harg6 arg7 harg7 arg8 harg8 arg9 harg9 arg10 harg10 arg11 harg11 v44 v83 v85 v92 v93 v110 v111 v122 v123 X4 X5 X6 G10 G11 init k).2.1⌝)
    ∗ (∃ f, (arg11.view.loc (c : Thread nD τ) ↦[arg11.view.set]{fullShare} f)
        ∗ ⌜f = arg11.view.writes (Elt F) G11 (st1 c i arg3 harg3 arg4 harg4 arg5 harg5 arg6 harg6 arg7 harg7 arg8 harg8 arg9 harg9 arg10 harg10 arg11 harg11 v44 v83 v85 v92 v93 v110 v111 v122 v123 X4 X5 X6 G10 G11 init k).2.2⌝)
    ∗ ⌜acc = (st1 c i arg3 harg3 arg4 harg4 arg5 harg5 arg6 harg6 arg7 harg7 arg8 harg8 arg9 harg9 arg10 harg10 arg11 harg11 v44 v83 v85 v92 v93 v110 v111 v122 v123 X4 X5 X6 G10 G11 init k).1⌝)

set_option warn.classDefReducibility false in
/-- The pair loop by its invariant. -/
@[sl_loop] def loopInv1 (𝒱 : Variants) (bd : Option 𝒱.V) (E : Set ℕ)
    (X4 : BufTy.Contents (Elt F) arg4.view.ty) (X5 : BufTy.Contents (Elt F) arg5.view.ty)
    (X6 : BufTy.Contents (Elt F) arg6.view.ty) (G10 : BufTy.Contents (Elt F) arg10.view.ty) (G11 : BufTy.Contents (Elt F) arg11.view.ty)
    (init : Carry F) :
    LoopInvTy_k0_t1 (F := F) Unit ℕ (UR sig nD τ) ℕ 𝒱 c bd E i arg3 harg3 arg4 harg4 arg5 harg5 arg6 harg6 arg7 harg7 arg8 harg8 arg9 harg9 arg10 harg10 arg11 harg11 v44 v83 v85 v92 v93 v110 v111 v122 v123 init where
  inv := inv1 c i arg3 harg3 arg4 harg4 arg5 harg5 arg6 harg6 arg7 harg7 arg8 harg8 arg9 harg9 arg10 harg10 arg11 harg11 v44 v83 v85 v92 v93 v110 v111 v122 v123 X4 X5 X6 G10 G11 init
  step k acc := by
    iintro ⟨H4, H5, H6, ⟨%f10, H10, %h10⟩, ⟨%f11, H11, %h11⟩, %hacc⟩
    subst hacc
    iapply (wp_wand_r Idealize.ShloMosaic.frame (wpE (defs₀ (F := F)) 𝒱 (c : Thread nD τ) bd) E)
    isplitl [H4 H5 H6 H10 H11]
    · iapply ((trip1 c i arg3 harg3 arg4 harg4 arg5 harg5 arg6 harg6 arg7 harg7 arg8 harg8 arg9 harg9 arg10 harg10 arg11 harg11 v44 v83 v85 v92 v93 v110 v111 v122 v123 X4 X5 X6 k).2.2.2 𝒱 bd E (st1 c i arg3 harg3 arg4 harg4 arg5 harg5 arg6 harg6 arg7 harg7 arg8 harg8 arg9 harg9 arg10 harg10 arg11 harg11 v44 v83 v85 v92 v93 v110 v111 v122 v123 X4 X5 X6 G10 G11 init k).1 f10 f11)
      isplitl [H4]; · iexact H4
      isplitl [H5]; · iexact H5
      isplitl [H6]; · iexact H6
      isplitl [H10]; · iexact H10
      iexact H11
    · iintro %yld ⟨%hres, H4, H5, H6, H10, H11⟩
      isplitl [H4]; · iexact H4
      isplitl [H5]; · iexact H5
      isplitl [H6]; · iexact H6
      simp only [st1_succ]
      isplitl [H10]
      · iexists _; isplitl [H10]; · iexact H10
        ipureintro; rw [h10, h11, ← View.writes_append]
      isplitl [H11]
      · iexists _; isplitl [H11]; · iexact H11
        ipureintro; rw [h10, h11, ← View.writes_append]
      ipureintro; rw [hres, h10, h11]

set_option warn.classDefReducibility false in
/-- The pair loop's remainder never runs: it carries what it is given. -/
@[sl_loop] def loopInv2 (v133 : BitVec 32) (𝒱 : Variants) (bd : Option 𝒱.V) (E : Set ℕ) (init : Carry F) :
    LoopInvTy_k0_t2 (F := F) Unit ℕ (UR sig nD τ) ℕ 𝒱 c bd E i arg3 harg3 arg4 harg4 arg5 harg5 arg6 harg6 arg7 harg7 arg8 harg8 arg9 harg9 arg10 harg10 arg11 harg11 v44 v83 v85 v92 v93 v110 v111 v122 v123 v133 init where
  inv := fun _ acc => iprop(⌜acc = init⌝)
  step k acc := Fin.elim0 (Fin.cast (trips2 i) k)

end

end Cert.KernelIdeal.Hand

end
-- ==== Proof.Body.lean ====
/-
  One run of the kernel's body, over any float values, at a grid point that stays a variable: from the six input
  blocks and whatever the two running gradients hold, to the block of the queries' gradient and the two gradients
  added into. The body opens with a conditional that clears the two gradients at the first query tile; that part is
  run on its own in both cases, and everything after it once.
-/
module

public import proofs.«01_k».proof.Proof.Trips
public import Idealize.ShloMosaic.Lib.Pipeline.FrameBody
public import Idealize.ShloMosaic.Lib.VecWindow

@[expose] public section

set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

section
variable (c : Dev nD) (i : grid0.Coords)
  (arg3 : Memref sig .tc .vmem S1x512x128 .bf16) (harg3 : arg3.IsWhole) (arg4 : Memref sig .tc .vmem S1x2048x128 .bf16) (harg4 : arg4.IsWhole)
  (arg5 : Memref sig .tc .vmem S1x2048x128 .bf16) (harg5 : arg5.IsWhole) (arg6 : Memref sig .tc .vmem S1x1x16x128x128 .bf16) (harg6 : arg6.IsWhole)
  (arg7 : Memref sig .tc .vmem S1x512x128 .bf16) (harg7 : arg7.IsWhole) (arg8 : Memref sig .tc .vmem S1x1x1x1x1024 .f32) (harg8 : arg8.IsWhole)
  (arg9 : Memref sig .tc .vmem S1x512x128 .bf16) (harg9 : arg9.IsWhole) (arg10 : Memref sig .tc .vmem S1x2048x128 .f32) (harg10 : arg10.IsWhole)
  (arg11 : Memref sig .tc .vmem S1x2048x128 .f32) (harg11 : arg11.IsWhole)

/-- The condition of the body's conditional, from the grid coordinates: this is the first query tile. -/
abbrev isFirst (i : grid0.Coords) : Prop :=
  (Scalar.cmpi .ne (Scalar.extui (Scalar.cmpi .eq (Scalar.muli (BitVec.ofNat 32 (i 2).val) 4#32) 0#32)) 0#32) = 1#1

theorem isFirst_iff : ∀ i : grid0.Coords, isFirst i ↔ (i 2).val = 0 := by decide +kernel

/-- What the two gradients hold once the conditional is past. -/
def start10 (i : grid0.Coords) (d : Vec F S1x2048x128 .f32) : Vec F S1x2048x128 .f32 := if isFirst i then k0_pay274 (F := F) else d
def start11 (i : grid0.Coords) (d : Vec F S1x2048x128 .f32) : Vec F S1x2048x128 .f32 := if isFirst i then k0_pay275 (F := F) else d

/-- What the first part of the body passes on, from the block of the queries it has loaded. -/
abbrev opened (i : grid0.Coords) (v4 : Vec F S1x512x128 .bf16) :
    Σ' (v0 : BitVec 32) (v13 : FVec F S128x128 .bf16) (v16 : FVec F S128x128 .bf16) (v22 : FVec F S128x128 .bf16) (v25 : FVec F S128x128 .bf16) (v31 : FVec F S128x128 .bf16) (v34 : FVec F S128x128 .bf16) (v35 : FVec F S128x128 .bf16) (v36 : IVec S128x128 32) (v37 : FVec F S128x128 .bf16), BitVec 32 :=
  ⟨Scalar.muli (BitVec.ofNat 32 (i 2).val) 4#32, k0_pay279 v4, k0_pay280 v4, k0_pay283 v4, k0_pay284 v4, k0_pay287 v4, k0_pay288 v4, k0_pay289 v4,
    iota .tc S128x128 32 [1] iota_S128x128_d1_w32, k0_pay290 (F := F), 64#32⟩

theorem run_opening (𝒱 : Variants) (bd : Option 𝒱.V) (E : Set ℕ) (x0 : Vec F S1x512x128 .bf16) (d10 d11 : Vec F S1x2048x128 .f32) :
    (iprop(owns (c : Thread nD τ) arg3 fullShare x0 ∗ owns (c : Thread nD τ) arg10 fullShare d10 ∗ owns (c : Thread nD τ) arg11 fullShare d11) : sProp 𝕄)
      ⊢ wp frame (wpE (defs₀ (F := F)) 𝒱 (c : Thread nD τ) bd) E
          (k0_part25 (F := F) i arg3 harg3 arg4 harg4 arg5 harg5 arg6 harg6 arg7 harg7 arg8 harg8 arg9 harg9 arg10 harg10 arg11 harg11)
          (fun r => iprop(⌜r = opened i x0⌝ ∗ owns (c : Thread nD τ) arg3 fullShare x0
            ∗ owns (c : Thread nD τ) arg10 fullShare (start10 i d10) ∗ owns (c : Thread nD τ) arg11 fullShare (start11 i d11))) := by
  by_cases hc : isFirst i
  · unfold start10 start11
    simp only [if_pos hc]
    simp only [k0_part25_eq_skeleton]; unfold k0_part25_skel
    unfold owns
    iintro ⟨⟨%f3, %hf3, H3⟩, ⟨%f10, -, H10⟩, ⟨%f11, -, H11⟩⟩
    obtain rfl := harg3.eq_unread hf3
    sl_exec (disch := first | sl_exact hc)
    sl_step
    isplitr
    · ipureintro
      rw [View.readAt_full, harg3.read_unread]
      rfl
    isplitl [H3]
    · iexists _; isplitr; · ipureintro; exact harg3.read_unread _
      iexact H3
    isplitl [H10]
    · iexists _; isplitr; swap; · iexact H10
      ipureintro; exact View.read_writes_full _ _ _ _ _
    iexists _; isplitr; swap; · iexact H11
    ipureintro; exact View.read_writes_full _ _ _ _ _
  · unfold start10 start11
    simp only [if_neg hc]
    simp only [k0_part25_eq_skeleton]; unfold k0_part25_skel
    unfold owns
    iintro ⟨⟨%f3, %hf3, H3⟩, ⟨%f10, %hf10, H10⟩, ⟨%f11, %hf11, H11⟩⟩
    obtain rfl := harg3.eq_unread hf3
    sl_exec (disch := first | sl_exact hc)
    sl_step
    isplitr
    · ipureintro
      rw [View.readAt_full, harg3.read_unread]
      rfl
    isplitl [H3]
    · iexists _; isplitr; · ipureintro; exact harg3.read_unread _
      iexact H3
    isplitl [H10]
    · iexists _; isplitr; swap; · iexact H10
      ipureintro; exact hf10
    iexists _; isplitr; swap; · iexact H11
    ipureintro; exact hf11

/-- THE BODY: the pieces it writes into the block of the queries' gradient, and what the two running gradients read as when
    it is done, with the run that finds them. -/
@[irreducible] def bodyRun (x0 : Vec F S1x512x128 .bf16) (x1 x2 : Vec F S1x2048x128 .bf16) (x3 : Vec F S1x1x16x128x128 .bf16)
    (x4 : Vec F S1x512x128 .bf16) (x5 : Vec F S1x1x1x1x1024 .f32) :
    Σ' (L9 : Vec F S1x2048x128 .f32 → Vec F S1x2048x128 .f32 → List (View.Piece (Elt F) S1x512x128 .bf16))
      (Y10 : Vec F S1x2048x128 .f32 → Vec F S1x2048x128 .f32 → Vec F S1x2048x128 .f32),
      { Y11 : Vec F S1x2048x128 .f32 → Vec F S1x2048x128 .f32 → Vec F S1x2048x128 .f32 //
        ∀ (E : Set ℕ) (d10 d11 : Vec F S1x2048x128 .f32) (K : PUnit → sProp 𝕄),
          iprop(owns (c : Thread nD τ) arg3 fullShare x0 ∗ owns (c : Thread nD τ) arg4 fullShare x1 ∗ owns (c : Thread nD τ) arg5 fullShare x2
              ∗ owns (c : Thread nD τ) arg6 fullShare x3 ∗ owns (c : Thread nD τ) arg7 fullShare x4 ∗ owns (c : Thread nD τ) arg8 fullShare x5
              ∗ (∃ d, owns (c : Thread nD τ) arg9 fullShare d)
              ∗ owns (c : Thread nD τ) arg10 fullShare d10 ∗ owns (c : Thread nD τ) arg11 fullShare d11
              ∗ (iprop(owns (c : Thread nD τ) arg3 fullShare x0 ∗ owns (c : Thread nD τ) arg4 fullShare x1 ∗ owns (c : Thread nD τ) arg5 fullShare x2
                ∗ owns (c : Thread nD τ) arg6 fullShare x3 ∗ owns (c : Thread nD τ) arg7 fullShare x4 ∗ owns (c : Thread nD τ) arg8 fullShare x5
                ∗ (∃ f, arg9.view.loc (c : Thread nD τ) ↦[arg9.view.set]{fullShare} arg9.view.writes (Elt F) f (L9 (start10 i d10) (start11 i d11)))
                ∗ owns (c : Thread nD τ) arg10 fullShare (Y10 (start10 i d10) (start11 i d11))
                ∗ owns (c : Thread nD τ) arg11 fullShare (Y11 (start10 i d10) (start11 i d11))) -∗ K ⟨⟩))
            ⊢ wp frame (wpE (defs₀ (F := F)) Variants.none c none) E (cc0_sb_attn_bwd_3 (F := F) i arg3 harg3 arg4 harg4 arg5 harg5 arg6 harg6 arg7 harg7 arg8 harg8 arg9 harg9 arg10 harg10 arg11 harg11) K } := by
  refine ⟨?_, ?_, ?_, fun E d10 d11 K => ?run⟩
  case run =>
    generalize e10 : start10 i d10 = s10
    generalize e11 : start11 i d11 = s11
    simp only [cc0_sb_attn_bwd_3_eq_skeleton]; unfold cc0_sb_attn_bwd_3_skel
    iintro ⟨H3, H4, H5, H6, H7, H8, H9, H10, H11, Hk⟩
    rw [wp_bind]
    iapply (wp_wand_r Idealize.ShloMosaic.frame (wpE (defs₀ (F := F)) Variants.none (c : Thread nD τ) none) E)
    isplitl [H3 H10 H11]
    · iapply (run_opening c i arg3 harg3 arg4 harg4 arg5 harg5 arg6 harg6 arg7 harg7 arg8 harg8 arg9 harg9 arg10 harg10 arg11 harg11 Variants.none none E x0 d10 d11)
      isplitl [H3]; · iexact H3
      isplitl [H10]; · iexact H10
      iexact H11
    iintro %r ⟨%hr, H3, H10, H11⟩
    subst hr
    rw [e10, e11]
    clear e10 e11 d10 d11
    unfold owns
    icases H3 with ⟨%f3, %hf3, H3⟩
    icases H4 with ⟨%f4, %hf4, H4⟩
    icases H5 with ⟨%f5, %hf5, H5⟩
    icases H6 with ⟨%f6, %hf6, H6⟩
    icases H7 with ⟨%f7, %hf7, H7⟩
    icases H8 with ⟨%f8, %hf8, H8⟩
    icases H9 with ⟨%d9, %f9, -, H9⟩
    icases H10 with ⟨%f10, %hf10, H10⟩
    icases H11 with ⟨%f11, %hf11, H11⟩
    obtain rfl := harg3.eq_unread hf3; obtain rfl := harg4.eq_unread hf4; obtain rfl := harg5.eq_unread hf5
    obtain rfl := harg6.eq_unread hf6; obtain rfl := harg7.eq_unread hf7; obtain rfl := harg8.eq_unread hf8
    obtain rfl := harg10.eq_unread hf10; obtain rfl := harg11.eq_unread hf11
    dsimp only [opened]
    sl_exec
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]; · iexists _; iexact H9
    isplitl [H10]
    · iexists _; isplitr; swap; · iexact H10
      ipureintro; rfl
    iexists _; isplitr; swap; · iexact H11
    ipureintro; rfl

end

end Cert.KernelIdeal.Hand

end
-- ==== Proof.Frame.lean ====
/-
  The frame of the kernel over any float values: what the windows' buffers hold after each grid point, the body's
  obligation, and the launch. The two running gradients stay in their buffers over the four query tiles of a head
  pair: after a point they hold what the body makes of what they held before it.
-/
module

public import proofs.«01_k».proof.Proof.Body
public import proofs.«01_k».proof.Proof.Gen.KernelIdeal.Frame
public import proofs.«01_k».proof.Proof.Gen.KernelIdeal.Points
public import proofs.«01_k».proof.Proof.Gen.KernelIdeal.Launch
public import Idealize.ShloMosaic.Lib.Ring
public import Idealize.ShloMosaic.Lib.Claim
public import Idealize.ShloMosaic.Adequacy
public import Idealize.ShloMosaic.Init

@[expose] public section

set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.ShloMosaic.Pipeline (Dat Cfg Window BodyObligation cellOf)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The staging buffers at a point -/

abbrev mem0 (t : Fin cfg0.N) : Memref sig .tc .vmem S1x512x128 .bf16 := win0_0.stage (cfg0.slots t 0)
abbrev hmem0 (t : Fin cfg0.N) : (mem0 t).IsWhole := hstage0_0 ((cfg0.slots t 0).cast nbuf0_0)
abbrev mem1 (t : Fin cfg0.N) : Memref sig .tc .vmem S1x2048x128 .bf16 := win0_1.stage (cfg0.slots t 1)
abbrev hmem1 (t : Fin cfg0.N) : (mem1 t).IsWhole := hstage0_1 ((cfg0.slots t 1).cast nbuf0_1)
abbrev mem2 (t : Fin cfg0.N) : Memref sig .tc .vmem S1x2048x128 .bf16 := win0_2.stage (cfg0.slots t 2)
abbrev hmem2 (t : Fin cfg0.N) : (mem2 t).IsWhole := hstage0_2 ((cfg0.slots t 2).cast nbuf0_2)
abbrev mem3 (t : Fin cfg0.N) : Memref sig .tc .vmem S1x1x16x128x128 .bf16 := win0_3.stage (cfg0.slots t 3)
abbrev hmem3 (t : Fin cfg0.N) : (mem3 t).IsWhole := hstage0_3 ((cfg0.slots t 3).cast nbuf0_3)
abbrev mem4 (t : Fin cfg0.N) : Memref sig .tc .vmem S1x512x128 .bf16 := win0_4.stage (cfg0.slots t 4)
abbrev hmem4 (t : Fin cfg0.N) : (mem4 t).IsWhole := hstage0_4 ((cfg0.slots t 4).cast nbuf0_4)
abbrev mem5 (t : Fin cfg0.N) : Memref sig .tc .vmem S1x1x1x1x1024 .f32 := win0_5.stage (cfg0.slots t 5)
abbrev hmem5 (t : Fin cfg0.N) : (mem5 t).IsWhole := hstage0_5 ((cfg0.slots t 5).cast nbuf0_5)
abbrev mem6 (t : Fin cfg0.N) : Memref sig .tc .vmem S1x512x128 .bf16 := win0_6.stage (cfg0.slots t 6)
abbrev hmem6 (t : Fin cfg0.N) : (mem6 t).IsWhole := hstage0_6 ((cfg0.slots t 6).cast nbuf0_6)
abbrev mem7 (t : Fin cfg0.N) : Memref sig .tc .vmem S1x2048x128 .f32 := win0_7.stage (cfg0.slots t 7)
abbrev hmem7 (t : Fin cfg0.N) : (mem7 t).IsWhole := hstage0_7 ((cfg0.slots t 7).cast nbuf0_7)
abbrev mem8 (t : Fin cfg0.N) : Memref sig .tc .vmem S1x2048x128 .f32 := win0_8.stage (cfg0.slots t 8)
abbrev hmem8 (t : Fin cfg0.N) : (mem8 t).IsWhole := hstage0_8 ((cfg0.slots t 8).cast nbuf0_8)

/-- The third coordinate runs fastest: a point's query tile. -/
theorem coord2 (t : Fin cfg0.N) : (grid0.coords t 2).val = t.val % 4 := by
  have e : (grid0.coords t 2).val = t.val / 1 % 4 := Pipeline.Grid.coords_val t 2 (by decide) rfl
  rw [e, Nat.div_one]

theorem isFirst_at (t : Fin cfg0.N) : isFirst (grid0.coords t) ↔ t.val % 4 = 0 := by rw [isFirst_iff, coord2]

/-! ## What the buffers hold after a point -/

/-- The body's run at point `t`, on the point's buffers and input blocks. -/
abbrev runAt (c : Dev nD) (t : Fin cfg0.N) :=
  bodyRun (F := F) c (grid0.coords t) (mem0 t) (hmem0 t) (mem1 t) (hmem1 t) (mem2 t) (hmem2 t) (mem3 t) (hmem3 t) (mem4 t) (hmem4 t) (mem5 t) (hmem5 t) (mem6 t) (hmem6 t) (mem7 t) (hmem7 t) (mem8 t) (hmem8 t) (iblk m c 0 t) (iblk m c 1 t) (iblk m c 2 t) (iblk m c 3 t) (iblk m c 4 t) (iblk m c 5 t)

/-- The two running gradients after point `t`, from what they held before it. -/
def gradStep (c : Dev nD) (t : Fin cfg0.N) (d : Vec F S1x2048x128 .f32 × Vec F S1x2048x128 .f32) :
    Vec F S1x2048x128 .f32 × Vec F S1x2048x128 .f32 :=
  ((runAt m c t).2.1 (start10 (grid0.coords t) d.1) (start11 (grid0.coords t) d.2),
    (runAt m c t).2.2.1 (start10 (grid0.coords t) d.1) (start11 (grid0.coords t) d.2))

/-- The two running gradients after the point at position `n`; before the first point they hold anything (zeros are named). -/
def gradAt (c : Dev nD) : (n : ℕ) → n < cfg0.N → Vec F S1x2048x128 .f32 × Vec F S1x2048x128 .f32
  | 0, hn => gradStep m c ⟨0, hn⟩ (k0_pay274 (F := F), k0_pay275 (F := F))
  | n + 1, hn => gradStep m c ⟨n + 1, hn⟩ (gradAt c n (Nat.lt_of_succ_lt hn))

/-- The two running gradients at the start of point `t`. -/
def gradBefore (c : Dev nD) (t : Fin cfg0.N) : Vec F S1x2048x128 .f32 × Vec F S1x2048x128 .f32 :=
  if h : t.val = 0 then (k0_pay274 (F := F), k0_pay275 (F := F)) else gradAt m c (t.val - 1) (Nat.lt_of_le_of_lt (Nat.sub_le _ _) t.isLt)

theorem gradAt_eq (c : Dev nD) (t : Fin cfg0.N) : gradAt m c t.val t.isLt = gradStep m c t (gradBefore m c t) := by
  obtain ⟨n, hn⟩ := t
  cases n with
  | zero => rfl
  | succ n => rfl

/-- A block the queries' gradient's pieces are read back from (which one does not matter: they cover it). -/
abbrev base9 : View sig .tc .vmem S1x512x128 .bf16 := (Memref.whole cc0_stg6_0 : Memref sig .tc .vmem S1x512x128 .bf16).view

/-- The pieces of the queries' gradient at point `t`, and the block they make. -/
abbrev piecesAt (c : Dev nD) (t : Fin cfg0.N) : List (View.Piece (Elt F) S1x512x128 .bf16) :=
  (runAt m c t).1 (start10 (grid0.coords t) (gradBefore m c t).1) (start11 (grid0.coords t) (gradBefore m c t).2)
def queryAt (c : Dev nD) (t : Fin cfg0.N) : Vec F S1x512x128 .bf16 :=
  base9.read (Elt F) (base9.writes (Elt F) base9.junk (piecesAt m c t))

theorem cover9 (c : Dev nD) (t : Fin cfg0.N) (d10 d11 : Vec F S1x2048x128 .f32) (y : S1x512x128.Idx) :
    ∃ pc ∈ (runAt m c t).1 d10 d11, y ∈ pc.1.set :=
  View.cover_of_tiledL ((runAt m c t).1 d10 d11) S1x512x128.size (by sl_kernel_rfl) y

/-! ## The pipeline's proof data

The keys and the values are two windows of one array, so each input window holds its share of its array. -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => queryAt m c t
    | ⟨7, _⟩ => (gradAt m c t.val t.isLt).1
    | ⟨8, _⟩ => (gradAt m c t.val t.isLt).2
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = queryAt m c t := by dsimp only [dats]
theorem after7 (c : Dev nD) (t : Fin cfg0.N) : (dats m 0 c).after 7 t = (gradAt m c t.val t.isLt).1 := by dsimp only [dats]
theorem after8 (c : Dev nD) (t : Fin cfg0.N) : (dats m 0 c).after 8 t = (gradAt m c t.val t.isLt).2 := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d

/-- Past a head pair's first query tile a running gradient's buffer still holds what the point before left. -/
theorem before7 (c : Dev nD) (t : Fin cfg0.N) (h0 : ¬ t.val % 4 = 0) (d) : (dats m 0 c).before 7 t d = (gradBefore m c t).1 := by
  have hN : t.val < 128 := lt_of_lt_of_eq t.isLt (show cfg0.N = 128 from N_0)
  rw [Dat.before_out_kept _ 7 rfl t (by omega) (Bool.eq_false_iff.mpr fun h => by have := (flush0_7 _).mp h; dsimp only at this; omega)
    (fun _ => rfl) (fun _ _ => rfl)]
  unfold gradBefore
  rw [dif_neg (by omega)]
  dsimp only [dats]

/-- Past a head pair's first query tile a running gradient's buffer still holds what the point before left. -/
theorem before8 (c : Dev nD) (t : Fin cfg0.N) (h0 : ¬ t.val % 4 = 0) (d) : (dats m 0 c).before 8 t d = (gradBefore m c t).2 := by
  have hN : t.val < 128 := lt_of_lt_of_eq t.isLt (show cfg0.N = 128 from N_0)
  rw [Dat.before_out_kept _ 8 rfl t (by omega) (Bool.eq_false_iff.mpr fun h => by have := (flush0_8 _).mp h; dsimp only at this; omega)
    (fun _ => rfl) (fun _ _ => rfl)]
  unfold gradBefore
  rw [dif_neg (by omega)]
  dsimp only [dats]

/-- What the two gradients are once the conditional is past does not depend on what the buffers held before it at a first
    query tile, and is what the point before left at the others. -/
theorem start10_before (c : Dev nD) (t : Fin cfg0.N) (d) :
    start10 (F := F) (grid0.coords t) ((dats m 0 c).before 7 t d) = start10 (grid0.coords t) (gradBefore m c t).1 := by
  by_cases h0 : t.val % 4 = 0
  · unfold start10; rw [if_pos ((isFirst_at t).mpr h0), if_pos ((isFirst_at t).mpr h0)]
  · rw [before7 m c t h0]
theorem start11_before (c : Dev nD) (t : Fin cfg0.N) (d) :
    start11 (F := F) (grid0.coords t) ((dats m 0 c).before 8 t d) = start11 (grid0.coords t) (gradBefore m c t).2 := by
  by_cases h0 : t.val % 4 = 0
  · unfold start11; rw [if_pos ((isFirst_at t).mpr h0), if_pos ((isFirst_at t).mpr h0)]
  · rw [before8 m c t h0]

/-! ## The body's obligation -/

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (mem0 t) fullShare ((dats m 0 c).before 0 t d))
    ∗ (∃ d, owns (c : Thread nD τ) (mem1 t) fullShare ((dats m 0 c).before 1 t d))
    ∗ (∃ d, owns (c : Thread nD τ) (mem2 t) fullShare ((dats m 0 c).before 2 t d))
    ∗ (∃ d, owns (c : Thread nD τ) (mem3 t) fullShare ((dats m 0 c).before 3 t d))
    ∗ (∃ d, owns (c : Thread nD τ) (mem4 t) fullShare ((dats m 0 c).before 4 t d))
    ∗ (∃ d, owns (c : Thread nD τ) (mem5 t) fullShare ((dats m 0 c).before 5 t d))
    ∗ (∃ d, owns (c : Thread nD τ) (mem6 t) fullShare ((dats m 0 c).before 6 t d))
    ∗ (∃ d, owns (c : Thread nD τ) (mem7 t) fullShare ((dats m 0 c).before 7 t d))
    ∗ (∃ d, owns (c : Thread nD τ) (mem8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (mem0 t) fullShare ((dats m 0 c).after 0 t)
    ∗ owns (c : Thread nD τ) (mem1 t) fullShare ((dats m 0 c).after 1 t)
    ∗ owns (c : Thread nD τ) (mem2 t) fullShare ((dats m 0 c).after 2 t)
    ∗ owns (c : Thread nD τ) (mem3 t) fullShare ((dats m 0 c).after 3 t)
    ∗ owns (c : Thread nD τ) (mem4 t) fullShare ((dats m 0 c).after 4 t)
    ∗ owns (c : Thread nD τ) (mem5 t) fullShare ((dats m 0 c).after 5 t)
    ∗ owns (c : Thread nD τ) (mem6 t) fullShare ((dats m 0 c).after 6 t)
    ∗ owns (c : Thread nD τ) (mem7 t) fullShare ((dats m 0 c).after 7 t)
    ∗ owns (c : Thread nD τ) (mem8 t) fullShare ((dats m 0 c).after 8 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5, after6, after7, after8, gradAt_eq]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((runAt m c t).2.2.2 Set.univ _ _ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexact H7
  isplitl [H8]; · iexact H8
  rw [start10_before, start11_before]
  iintro ⟨H0, H1, H2, H3, H4, H5, ⟨%e6, H6⟩, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; exact View.read_writes_of_cover _ _ _ _ _ (cover9 m c t _ _)
  isplitl [H7]; · iexact H7
  iexact H8

theorem body_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

/-! ## The launch and the frame -/

set_option backward.isDefEq.respectTransparency.types false in
/-- Every run ends, with the pipeline's arrays at what the proof data says and every semaphore at zero. -/
theorem run_launch : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

theorem run_post : θ_run defs (onTc (τ := τ) (main (F := F))) (s₀ m ρ) (Pipeline.FramePost cfgs (dats m) 0 (V m)) :=
  (θ_run defs _ _).mono (fun _ h => h.1) (run_launch m ρ)

/-- THE FRAME, over any float values: the arguments end as they began and every semaphore is at zero. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_post m ρ)) ((θ_run defs _ _).mono (fun _ h => h.2) (run_launch m ρ))

end Cert.KernelIdeal.Hand

end
-- ==== Proof.Same.lean ====
/- The kernel over the machine's words and the kernel over any float values are one program: their texts agree, so their
tables of procedures do. -/
module

public import proofs.«01_k».proof.Defs
public import proofs.«01_k».proof.Proof.Gen.Kernel
public import proofs.«01_k».proof.Proof.Gen.KernelIdeal

@[expose] public section

set_option maxRecDepth 16384
set_option maxHeartbeats 4000000

noncomputable section

namespace Cert.Proof

open Idealize.ShloMosaic

theorem body_same : Cert.Kernel.cc0_sb_attn_bwd_3 (F := Bits) = Cert.KernelIdeal.cc0_sb_attn_bwd_3 (F := Bits) := rfl

theorem table_same : Cert.Kernel.defs₀ (F := Bits) = Cert.KernelIdeal.defs₀ (F := Bits) := by
  unfold Cert.Kernel.defs₀ Cert.KernelIdeal.defs₀
  refine congrArg Defs.onTc (funext fun l => ?_)
  match l with
  | 0 =>
    funext a
    obtain ⟨t, s⟩ := a
    dsimp only
    rw [body_same]
    rfl

theorem defs_same : Cert.Kernel.defs (F := Bits) = Cert.KernelIdeal.defs (F := Bits) := by
  unfold Cert.Kernel.defs Cert.KernelIdeal.defs
  exact congrArg (Pipeline.defs (Cert.KernelIdeal.pcfgs (F := Bits))) table_same

theorem main_same : Cert.Kernel.main (F := Bits) = Cert.KernelIdeal.main (F := Bits) := rfl

end Cert.Proof

end
-- ==== Proof.Stick.lean ====
/-
  The stick-breaking attention's gradient over the reals, for one query: its scores against the keys, `log (1 − σ)` of
  them over the earlier keys, the weights, the gradients of the weights' logarithms and of the scores.
-/
module

public import Mathlib.Analysis.SpecialFunctions.Log.Basic
public import Mathlib.Data.EReal.Operations
public import Mathlib.Algebra.BigOperators.Fin

@[expose] public section

noncomputable section

namespace Cert.Stick

open Finset

/-- `log (1 + exp x)`, written so that nothing overflows. -/
def sp (x : ℝ) : ℝ := max x 0 + Real.log (1 + Real.exp (-|x|))

theorem sp_neg (x : ℝ) : -sp (-x) = min x 0 - Real.log (1 + Real.exp (-|x|)) := by
  unfold sp
  rw [abs_neg]
  rcases le_total x 0 with h | h
  · rw [max_eq_left (by linarith), min_eq_left h]; ring
  · rw [max_eq_right (by linarith), min_eq_right h]; ring

theorem add_sp_neg (x : ℝ) : x + sp (-x) = sp x := by
  unfold sp
  rw [abs_neg]
  rcases le_total x 0 with h | h
  · rw [max_eq_left (by linarith), max_eq_right h]; ring
  · rw [max_eq_right (by linarith), max_eq_left h]; ring

theorem exp_sp (x : ℝ) : Real.exp (sp x) = 1 + Real.exp x := by
  unfold sp
  have hp : 0 < 1 + Real.exp (-|x|) := by positivity
  rw [Real.exp_add, Real.exp_log hp]
  rcases le_total x 0 with h | h
  · rw [max_eq_right h, abs_of_nonpos h]; simp
  · rw [max_eq_left h, abs_of_nonneg h, mul_add, ← Real.exp_add]; simp [add_comm]

/-- `σ x`. -/
def sg (x : ℝ) : ℝ := Real.exp (-sp (-x))

theorem exp_neg_sp (x : ℝ) : Real.exp (-sp x) = 1 - sg x := by
  have h1 : Real.exp (-sp x) = (1 + Real.exp x)⁻¹ := by rw [Real.exp_neg, exp_sp]
  have h2 : sg x = (1 + Real.exp (-x))⁻¹ := by unfold sg; rw [Real.exp_neg, exp_sp]
  rw [h1, h2, Real.exp_neg]
  have := Real.exp_pos x
  field_simp
  ring

/-- A query as the kernel meets it: its scaled entries, its output's gradient, its place, and the sum of all its
    earlier keys' `log (1 − σ)`. -/
structure Query where
  q : Fin 128 → ℝ
  o : Fin 128 → ℝ
  t : ℕ
  tot : ℝ

variable (k v : ℕ → Fin 128 → ℝ) (x : Query)

def z (s : ℕ) : ℝ := ∑ d, k s d * x.q d
def lk (s : ℕ) : ℝ := if s < x.t then -sp (z k x s) else 0
def lkSum (n : ℕ) : ℝ := ∑ s ∈ range n, lk k x s
def w (s : ℕ) : ℝ := if s < x.t then Real.exp (z k x s + (x.tot - lkSum k x s)) else 0
def dl (s : ℕ) : ℝ := (∑ d, v s d * x.o d) * w k x s
def dlSum (n : ℕ) : ℝ := ∑ s ∈ range n, dl k v x s
def dz (s : ℕ) : ℝ := if s < x.t then dl k v x s * (1 - sg (z k x s)) - dlSum k v x s * sg (z k x s) else 0
def dq (n : ℕ) (d : Fin 128) : ℝ := ∑ s ∈ range n, k s d * dz k v x s

/-- A sum over a block's earlier keys as a triangular product's. -/
theorem tri_sum (f : ℕ → ℝ) {r n : ℕ} (hr : r ≤ n) : ∑ j : Fin n, (if j.val < r then f j.val else 0) = ∑ j ∈ range r, f j := by
  rw [Fin.sum_univ_eq_sum_range (fun j => if j < r then f j else 0) n, ← Finset.sum_filter]
  congr 1
  ext j; simp; omega

theorem sum_range_split (f : ℕ → ℝ) (a b : ℕ) : ∑ j ∈ range (a + b), f j = ∑ j ∈ range a, f j + ∑ j ∈ range b, f (a + j) :=
  Finset.sum_range_add f a b

theorem lkSum_add (a b : ℕ) : lkSum k x (a + b) = lkSum k x a + ∑ j ∈ range b, lk k x (a + j) := Finset.sum_range_add _ a b
theorem dlSum_add (a b : ℕ) : dlSum k v x (a + b) = dlSum k v x a + ∑ j ∈ range b, dl k v x (a + j) := Finset.sum_range_add _ a b
theorem dq_add (a b : ℕ) (d : Fin 128) : dq k v x (a + b) d = dq k v x a d + ∑ j ∈ range b, k (a + j) d * dz k v x (a + j) :=
  Finset.sum_range_add _ a b

/-- Sums of reals among the extended reals. -/
theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem coe_sum_mul {ι : Type*} (s : Finset ι) (f g : ι → ℝ) :
    ∑ i ∈ s, ((f i : ℝ) : EReal) * ((g i : ℝ) : EReal) = ((∑ i ∈ s, f i * g i : ℝ) : EReal) := by
  rw [← coe_sum]; exact Finset.sum_congr rfl fun i _ => (EReal.coe_mul _ _).symm

end Cert.Stick

end
-- ==== Proof.Problem.lean ====
/-
  The attention's arguments as reals, and its queries: two heads lie side by side in 128 lanes, and a query is zero in
  the other head's lanes.
-/
module

public import proofs.«01_k».proof.Proof.Stick

@[expose] public section

noncomputable section

namespace Cert.Stick

open Finset (range)

/-- The queries, the keys, the values and the gradient of the output, by batch, place and lane. -/
structure Args where
  q : ℕ → ℕ → ℕ → ℝ
  k : ℕ → ℕ → ℕ → ℝ
  v : ℕ → ℕ → ℕ → ℝ
  o : ℕ → ℕ → ℕ → ℝ

namespace Args
variable (A : Args) (b p half t : ℕ)

/-- The keys and the values of the `p`-th pair of heads. -/
def keys : ℕ → Fin 128 → ℝ := fun s d => A.k b s (128 * p + d.val)
def values : ℕ → Fin 128 → ℝ := fun s d => A.v b s (128 * p + d.val)

def withTotal (tot : ℝ) : Query where
  q d := if d.val / 64 = half then A.q b t (128 * p + d.val) * (1 / 8) else 0
  o d := if d.val / 64 = half then A.o b t (128 * p + d.val) else 0
  t := t
  tot := tot

/-- The query at `t` of one head of the pair. -/
def query : Query := A.withTotal b p half t (lkSum (A.keys b p) (A.withTotal b p half t 0) 2048)

theorem total_any (a c : ℝ) (n : ℕ) : lkSum (A.keys b p) (A.withTotal b p half t a) n = lkSum (A.keys b p) (A.withTotal b p half t c) n :=
  Finset.sum_congr rfl fun _ _ => rfl
theorem query_tot : (A.query b p half t).tot = lkSum (A.keys b p) (A.query b p half t) 2048 := A.total_any b p half t _ _ _
theorem query_t : (A.query b p half t).t = t := rfl

end Args

/-- A sum over the lanes of one of the two heads. -/
theorem half_sum {half : ℕ} (hh : half < 2) (f : ℕ → ℝ) :
    (∑ d : Fin 128, if d.val / 64 = half then f d.val else 0) = ∑ e : Fin 64, f (64 * half + e.val) := by
  rw [Fin.sum_univ_eq_sum_range (fun d => if d / 64 = half then f d else 0) 128, show (128 : ℕ) = 64 + 64 from rfl, Finset.sum_range_add,
    Fin.sum_univ_eq_sum_range (fun e => f (64 * half + e)) 64]
  have h0 : ∀ n, n ∈ range 64 → (n / 64 = 0) := fun n hn => by have := Finset.mem_range.mp hn; omega
  have h1 : ∀ n, n ∈ range 64 → ((64 + n) / 64 = 1) := fun n hn => by have := Finset.mem_range.mp hn; omega
  rcases (by omega : half = 0 ∨ half = 1) with rfl | rfl
  · rw [Finset.sum_congr rfl fun n hn => if_pos (h0 n hn), Finset.sum_eq_zero (s := range 64) fun n hn => if_neg (by rw [h1 n hn]; decide), add_zero]
    simp
  · rw [Finset.sum_eq_zero (s := range 64) fun n hn => if_neg (by rw [h0 n hn]; decide), zero_add]
    exact Finset.sum_congr rfl fun n hn => if_pos (h1 n hn)

/-- What a query's own head's lanes of a product with it hold. -/
theorem query_z (A : Args) (b p t s : ℕ) {half : ℕ} (hh : half < 2) :
    z (A.keys b p) (A.query b p half t) s = (∑ e : Fin 64, A.q b t (128 * p + (64 * half + e.val)) * A.k b s (128 * p + (64 * half + e.val))) * (1 / 8) := by
  unfold z
  rw [Finset.sum_mul, ← half_sum hh fun d => A.q b t (128 * p + d) * A.k b s (128 * p + d) * (1 / 8)]
  refine Finset.sum_congr rfl fun d _ => ?_
  show A.k b s (128 * p + d.val) * (if d.val / 64 = half then A.q b t (128 * p + d.val) * (1 / 8) else 0) = _
  split
  · ring
  · rw [mul_zero]

theorem query_o (A : Args) (b p t s : ℕ) {half : ℕ} (hh : half < 2) :
    (∑ d, A.values b p s d * (A.query b p half t).o d) = ∑ e : Fin 64, A.o b t (128 * p + (64 * half + e.val)) * A.v b s (128 * p + (64 * half + e.val)) := by
  rw [← half_sum hh fun d => A.o b t (128 * p + d) * A.v b s (128 * p + d)]
  refine Finset.sum_congr rfl fun d _ => ?_
  show A.v b s (128 * p + d.val) * (if d.val / 64 = half then A.o b t (128 * p + d.val) else 0) = _
  split
  · ring
  · rw [mul_zero]

/-- What remains of the total from a key on. -/
theorem rest_of_total (A : Args) (b p half t : ℕ) {s : ℕ} (hs : s ≤ 2048) :
    (∑ n ∈ range (2048 - s), lk (A.keys b p) (A.query b p half t) (s + n)) = (A.query b p half t).tot - lkSum (A.keys b p) (A.query b p half t) s := by
  rw [Args.query_tot]
  unfold lkSum
  have e : range 2048 = range (s + (2048 - s)) := by congr 1; omega
  rw [e, Finset.sum_range_add]
  ring

end Cert.Stick

end
-- ==== Proof.Window.lean ====
/-
  A running sum along the last of four axes, as a window of that axis's whole length: from the first element up to the
  place, or from the place to the last.
-/
module

public import Idealize.ShloMosaic.Lib.Pointwise
public import proofs.«01_k».proof.Proof.Stick

@[expose] public section

noncomputable section

namespace Cert.Window

open Idealize.ShloMosaic
open Finset (range)

theorem fold_sum {α : Type} (l : List α) (f : α → EReal) (v : EReal) : l.foldl (fun r n => r + f n) v = v + (l.map f).sum := by
  induction l generalizing v with
  | nil => simp
  | cons a l ih => rw [List.foldl_cons, ih, List.map_cons, List.sum_cons, add_assoc]

abbrev Line : Shape := ⟨4, ![1, 1, 1, 2048]⟩
abbrev Block : Shape := ⟨4, ![4, 16, 2048, 2048]⟩

theorem line_numel : Line.numel = 2048 := by
  show ∏ a : Fin 4, (![1, 1, 1, 2048] : Fin 4 → ℕ) a = 2048
  simp [Fin.prod_univ_succ]

theorem line_place (n : Fin Line.numel) : (Line.rowMajor.symm n 0).val = 0 ∧ (Line.rowMajor.symm n 1).val = 0 ∧ (Line.rowMajor.symm n 2).val = 0 ∧ (Line.rowMajor.symm n 3).val = n.val := by
  have e := Shape.rowMajor_val_four (Line.rowMajor.symm n)
  rw [Equiv.apply_symm_apply] at e
  have h0 : (Line.rowMajor.symm n 0).val < 1 := (Line.rowMajor.symm n 0).isLt
  have h1 : (Line.rowMajor.symm n 1).val < 1 := (Line.rowMajor.symm n 1).isLt
  have h2 : (Line.rowMajor.symm n 2).val < 1 := (Line.rowMajor.symm n 2).isLt
  have e' : n.val = (((Line.rowMajor.symm n 0).val * 1 + (Line.rowMajor.symm n 1).val) * 1 + (Line.rowMajor.symm n 2).val) * 2048 + (Line.rowMajor.symm n 3).val := e
  omega

/-- A window's sum, where what each of its places holds is known. -/
theorem line_sum (g : ℕ → EReal) (f : Fin Line.numel → EReal) (h : ∀ n, f n = g n.val) :
    (List.finRange Line.numel).foldl (fun r n => r + f n) 0 = ∑ n ∈ range 2048, g n := by
  rw [fold_sum, zero_add, ← Fin.sum_univ_def, Finset.sum_congr rfl fun n _ => h n, Fin.sum_univ_eq_sum_range g, line_numel]

variable {x : Block.Idx → EReal} {f : ℕ → ℕ → ℕ → ℕ → ℝ} (hx : ∀ i : Block.Idx, x i = ((f (i 0).val (i 1).val (i 2).val (i 3).val : ℝ) : EReal))

include hx in
theorem upTo (h : Block.ReduceWindows (![1, 1, 1, 2048] : Fin 4 → ℕ) ![1, 1, 1, 1] ![0, 0, 0, 2047] ![0, 0, 0, 0] Block) (j : Block.Idx) :
    Ideal.hostReduceWindowAdd (s := Block) ![1, 1, 1, 2048] ![1, 1, 1, 1] ![0, 0, 0, 2047] ![0, 0, 0, 0] h x 0 j
      = ((∑ s ∈ range ((j 3).val + 1), f (j 0).val (j 1).val (j 2).val s : ℝ) : EReal) := by
  have j0 : (j 0).val < 4 := (j 0).isLt
  have j1 : (j 1).val < 16 := (j 1).isLt
  have j2 : (j 2).val < 2048 := (j 2).isLt
  have j3 : (j 3).val < 2048 := (j 3).isLt
  unfold Ideal.hostReduceWindowAdd Host.reduceWindow
  refine (line_sum (fun n => if 2047 ≤ (j 3).val + n then ((f (j 0).val (j 1).val (j 2).val ((j 3).val + n - 2047) : ℝ) : EReal) else 0) _ fun n => ?_).trans ?_
  · obtain ⟨p0, p1, p2, p3⟩ := line_place n
    have hn : n.val < 2048 := lt_of_lt_of_eq n.isLt line_numel
    dsimp only
    split
    · next hin =>
      have h3 : 2047 ≤ (j 3).val * 1 + (Line.rowMajor.symm n 3).val ∧ (j 3).val * 1 + (Line.rowMajor.symm n 3).val - 2047 < 2048 := hin 3
      rw [p3] at h3
      rw [if_pos (by omega), hx]
      show ((f ((j 0).val * 1 + (Line.rowMajor.symm n 0).val - 0) ((j 1).val * 1 + (Line.rowMajor.symm n 1).val - 0) ((j 2).val * 1 + (Line.rowMajor.symm n 2).val - 0)
        ((j 3).val * 1 + (Line.rowMajor.symm n 3).val - 2047) : ℝ) : EReal) = _
      rw [p0, p1, p2, p3]
      simp only [mul_one, add_zero, Nat.sub_zero]
    · next hin =>
      rw [if_neg fun hle => hin fun a => by
        match a with
        | ⟨0, _⟩ =>
          show 0 ≤ (j 0).val * 1 + (Line.rowMajor.symm n 0).val ∧ (j 0).val * 1 + (Line.rowMajor.symm n 0).val - 0 < 4
          omega
        | ⟨1, _⟩ =>
          show 0 ≤ (j 1).val * 1 + (Line.rowMajor.symm n 1).val ∧ (j 1).val * 1 + (Line.rowMajor.symm n 1).val - 0 < 16
          omega
        | ⟨2, _⟩ =>
          show 0 ≤ (j 2).val * 1 + (Line.rowMajor.symm n 2).val ∧ (j 2).val * 1 + (Line.rowMajor.symm n 2).val - 0 < 2048
          omega
        | ⟨3, _⟩ =>
          show 2047 ≤ (j 3).val * 1 + (Line.rowMajor.symm n 3).val ∧ (j 3).val * 1 + (Line.rowMajor.symm n 3).val - 2047 < 2048
          omega]
  · have e : range 2048 = range ((2047 - (j 3).val) + ((j 3).val + 1)) := by congr 1; omega
    rw [e, Finset.sum_range_add, Finset.sum_eq_zero fun n hn => if_neg (by have := Finset.mem_range.mp hn; omega), zero_add, ← Stick.coe_sum]
    refine Finset.sum_congr rfl fun n hn => ?_
    have := Finset.mem_range.mp hn
    rw [if_pos (by omega), show (j 3).val + (2047 - (j 3).val + n) - 2047 = n by omega]

include hx in
theorem onFrom (h : Block.ReduceWindows (![1, 1, 1, 2048] : Fin 4 → ℕ) ![1, 1, 1, 1] ![0, 0, 0, 0] ![0, 0, 0, 2047] Block) (j : Block.Idx) :
    Ideal.hostReduceWindowAdd (s := Block) ![1, 1, 1, 2048] ![1, 1, 1, 1] ![0, 0, 0, 0] ![0, 0, 0, 2047] h x 0 j
      = ((∑ s ∈ range (2048 - (j 3).val), f (j 0).val (j 1).val (j 2).val ((j 3).val + s) : ℝ) : EReal) := by
  have j0 : (j 0).val < 4 := (j 0).isLt
  have j1 : (j 1).val < 16 := (j 1).isLt
  have j2 : (j 2).val < 2048 := (j 2).isLt
  have j3 : (j 3).val < 2048 := (j 3).isLt
  unfold Ideal.hostReduceWindowAdd Host.reduceWindow
  refine (line_sum (fun n => if (j 3).val + n < 2048 then ((f (j 0).val (j 1).val (j 2).val ((j 3).val + n) : ℝ) : EReal) else 0) _ fun n => ?_).trans ?_
  · obtain ⟨p0, p1, p2, p3⟩ := line_place n
    have hn : n.val < 2048 := lt_of_lt_of_eq n.isLt line_numel
    dsimp only
    split
    · next hin =>
      have h3 : 0 ≤ (j 3).val * 1 + (Line.rowMajor.symm n 3).val ∧ (j 3).val * 1 + (Line.rowMajor.symm n 3).val - 0 < 2048 := hin 3
      rw [p3] at h3
      rw [if_pos (by omega), hx]
      show ((f ((j 0).val * 1 + (Line.rowMajor.symm n 0).val - 0) ((j 1).val * 1 + (Line.rowMajor.symm n 1).val - 0) ((j 2).val * 1 + (Line.rowMajor.symm n 2).val - 0)
        ((j 3).val * 1 + (Line.rowMajor.symm n 3).val - 0) : ℝ) : EReal) = _
      rw [p0, p1, p2, p3]
      simp only [mul_one, add_zero, Nat.sub_zero]
    · next hin =>
      rw [if_neg fun hle => hin fun a => by
        match a with
        | ⟨0, _⟩ =>
          show 0 ≤ (j 0).val * 1 + (Line.rowMajor.symm n 0).val ∧ (j 0).val * 1 + (Line.rowMajor.symm n 0).val - 0 < 4
          omega
        | ⟨1, _⟩ =>
          show 0 ≤ (j 1).val * 1 + (Line.rowMajor.symm n 1).val ∧ (j 1).val * 1 + (Line.rowMajor.symm n 1).val - 0 < 16
          omega
        | ⟨2, _⟩ =>
          show 0 ≤ (j 2).val * 1 + (Line.rowMajor.symm n 2).val ∧ (j 2).val * 1 + (Line.rowMajor.symm n 2).val - 0 < 2048
          omega
        | ⟨3, _⟩ =>
          show 0 ≤ (j 3).val * 1 + (Line.rowMajor.symm n 3).val ∧ (j 3).val * 1 + (Line.rowMajor.symm n 3).val - 0 < 2048
          omega]
  · have e : range 2048 = range ((2048 - (j 3).val) + (j 3).val) := by congr 1; omega
    rw [e, Finset.sum_range_add, Finset.sum_congr rfl fun n hn => if_pos (by have := Finset.mem_range.mp hn; omega),
      Finset.sum_eq_zero (s := range (j 3).val) fun n hn => if_neg (by omega), add_zero, Stick.coe_sum]

end Cert.Window

end
-- ==== Proof.RefValue.lean ====
/-
  The reference program over the extended reals, where its arguments are real: every array between the arguments and the
  three results, read at an index.
-/
module

public import proofs.«01_k».proof.Proof.Gen.ReferenceIdeal.Read
public import Idealize.ShloMosaic.Lib.Pointwise
public import proofs.«01_k».proof.Proof.Problem
public import proofs.«01_k».proof.Proof.Window

@[expose] public section

set_option maxRecDepth 16384

noncomputable section

namespace Cert.ReferenceIdeal.Hand

open Cert.ReferenceIdeal Cert.ReferenceIdeal.Gen Cert.ReferenceIdeal.Read Cert.Stick
open Idealize.ShloMosaic
open Finset (range)

/-! ## Scalars -/

theorem zero_word : (FloatOps.ofBits (F := Ideal) .f32 0x00000000#32 : EReal) = 0 := by
  show Ideal.ofBits .f32 0x00000000#32 = 0
  simp [Ideal.ofBits, Ideal.ieee, -EReal.coe_mul]

theorem eighth_word : (FloatOps.ofBits (F := Ideal) .f32 0x3E000000#32 : EReal) = ((1 / 8 : ℝ) : EReal) := by
  show Ideal.ofBits .f32 0x3E000000#32 = ((1 / 8 : ℝ) : EReal)
  simp [Ideal.ofBits, Ideal.ieee, -EReal.coe_mul]
  norm_num

theorem top_word : (FloatOps.ofBits (F := Ideal) .f32 0x7F800000#32 : EReal) = ⊤ := by
  show Ideal.ofBits .f32 0x7F800000#32 = ⊤
  simp [Ideal.ofBits, Ideal.ieee, -EReal.coe_mul]

theorem oeq_top (a : ℝ) : FloatOps.cmpf (F := Ideal) (φ := .f32) .oeq (a : EReal) (⊤ : EReal) = 0#1 := by
  show BitVec.ofBool (decide ((a : EReal) = ⊤)) = 0#1
  rw [decide_eq_false (EReal.coe_ne_top a)]
  rfl

theorem select_false {α : Type} (x y : α) : Scalar.select 0#1 x y = y := rfl
theorem select_true {α : Type} (x y : α) : Scalar.select 1#1 x y = x := rfl

theorem une_self (x : EReal) : FloatOps.cmpf (F := Ideal) (φ := .f32) .une x x = 0#1 := by
  show BitVec.ofBool (decide (x ≠ x)) = 0#1
  rw [decide_eq_false (by simp)]
  rfl

theorem neg_is (a : ℝ) : FloatOps.hostNegf (F := Ideal) (φ := .f32) (a : EReal) = ((-a : ℝ) : EReal) := by
  show -(a : EReal) = _
  rw [EReal.coe_neg]
theorem exp_is (a : ℝ) : FloatOps.hostUnary (F := Ideal) (φ := .f32) .exp (a : EReal) = ((Real.exp a : ℝ) : EReal) := Ideal.exp_coe a
theorem sub_is (a b : ℝ) : FloatOps.subf (F := Ideal) (φ := .f32) (a : EReal) (b : EReal) = ((a - b : ℝ) : EReal) := by
  show (a : EReal) - (b : EReal) = _
  rw [EReal.coe_sub]
theorem add_is (a b : ℝ) : FloatOps.addf (F := Ideal) (φ := .f32) (a : EReal) (b : EReal) = ((a + b : ℝ) : EReal) := by
  show (a : EReal) + (b : EReal) = _
  rw [EReal.coe_add]
theorem mul_is (a b : ℝ) : FloatOps.mulf (F := Ideal) (φ := .f32) (a : EReal) (b : EReal) = ((a * b : ℝ) : EReal) := by
  show (a : EReal) * (b : EReal) = _
  rw [EReal.coe_mul]

theorem coe_max (a b : ℝ) : max (a : EReal) (b : EReal) = ((max a b : ℝ) : EReal) := (EReal.coe_strictMono.monotone.map_max).symm

/-- The softplus as the program spells it, -/
theorem softplus_is (a : ℝ) :
    FloatOps.addf (F := Ideal) (φ := .f32) (FloatOps.maximumf (F := Ideal) (φ := .f32) (a : EReal) (0 : EReal))
      (FloatOps.hostUnary (F := Ideal) (φ := .f32) .log1p (FloatOps.hostUnary (F := Ideal) (φ := .f32) .exp (FloatOps.hostNegf (F := Ideal) (φ := .f32)
        (FloatOps.hostAbsf (F := Ideal) (φ := .f32) (FloatOps.subf (F := Ideal) (φ := .f32) (a : EReal) (0 : EReal)))))) = ((sp a : ℝ) : EReal) := by
  have h0 : FloatOps.subf (F := Ideal) (φ := .f32) (a : EReal) (0 : EReal) = (a : EReal) := by
    show (a : EReal) - 0 = a
    rw [sub_zero]
  have h1 : FloatOps.hostAbsf (F := Ideal) (φ := .f32) (a : EReal) = ((|a| : ℝ) : EReal) := by
    show max (a : EReal) (-(a : EReal)) = _
    rw [← EReal.coe_neg, coe_max]
    rfl
  rw [h0, h1, neg_is, exp_is]
  have h2 : FloatOps.hostUnary (F := Ideal) (φ := .f32) .log1p ((Real.exp (-|a|) : ℝ) : EReal) = ((Real.log (1 + Real.exp (-|a|)) : ℝ) : EReal) := by
    show Ideal.log (1 + ((Real.exp (-|a|) : ℝ) : EReal)) = _
    rw [← EReal.coe_one, ← EReal.coe_add, Ideal.log_coe, if_neg (by have := Real.exp_pos (-|a|); linarith)]
  have h3 : FloatOps.maximumf (F := Ideal) (φ := .f32) (a : EReal) (0 : EReal) = ((max a 0 : ℝ) : EReal) := by
    show max (a : EReal) 0 = _
    rw [← EReal.coe_zero, coe_max]
  rw [h2, h3, add_is]
  rfl

/-- The place's order, as the words' order. -/
theorem causal_word {t s : ℕ} (ht : t < 2048) (hs : s < 2048) : IntOp.cmpi .sgt (BitVec.ofNat 32 t) (BitVec.ofNat 32 s) = if s < t then 1#1 else 0#1 := by
  have e : ∀ n, n < 2048 → (BitVec.ofNat 32 n).toInt = (n : ℤ) := fun n hn => by
    rw [BitVec.toInt_eq_toNat_of_lt (by rw [BitVec.toNat_ofNat, Nat.mod_eq_of_lt (by omega)]; omega), BitVec.toNat_ofNat, Nat.mod_eq_of_lt (by omega)]
  show BitVec.ofBool ((BitVec.ofNat 32 s).slt (BitVec.ofNat 32 t)) = _
  rw [BitVec.slt_eq_decide, e s hs, e t ht]
  by_cases h : s < t
  · rw [if_pos h, decide_eq_true (by exact_mod_cast h)]; rfl
  · rw [if_neg h, decide_eq_false (by exact_mod_cast h)]; rfl

section
variable (A : Args)

/-- The keys, the values and the query of a score's row. -/
abbrev Ks (b h : ℕ) := A.keys b (h / 2)
abbrev Vs (b h : ℕ) := A.values b (h / 2)
abbrev Qy (b h t : ℕ) := A.query b (h / 2) (h % 2) t
end

/-! ## The arrays -/

section
variable {x0 : (⟨S4x2048x1024, .bf16⟩ : BufTy).Contents (Elt Ideal)} {x1 : (⟨S4x2048x2048, .bf16⟩ : BufTy).Contents (Elt Ideal)}
  {x2 : (⟨S4x2048x1024, .bf16⟩ : BufTy).Contents (Elt Ideal)} {A : Args}
  (hq : ∀ i : S4x2048x1024.Idx, x0 i = ((A.q (i 0).val (i 1).val (i 2).val : ℝ) : EReal))
  (hk : ∀ i : S4x2048x2048.Idx, (i 2).val < 1024 → x1 i = ((A.k (i 0).val (i 1).val (i 2).val : ℝ) : EReal))
  (hv : ∀ i : S4x2048x2048.Idx, 1024 ≤ (i 2).val → x1 i = ((A.v (i 0).val (i 1).val ((i 2).val - 1024) : ℝ) : EReal))
  (ho : ∀ i : S4x2048x1024.Idx, x2 i = ((A.o (i 0).val (i 1).val (i 2).val : ℝ) : EReal))

theorem split_place (i : S4x2048x16x64.Idx) :
    ((((i 0).val * 2048 + (i 1).val) * 16 + (i 2).val) * 64 + (i 3).val) / 2097152 = (i 0).val
      ∧ ((((i 0).val * 2048 + (i 1).val) * 16 + (i 2).val) * 64 + (i 3).val) / 1024 % 2048 = (i 1).val
      ∧ ((((i 0).val * 2048 + (i 1).val) * 16 + (i 2).val) * 64 + (i 3).val) % 1024 = 64 * (i 2).val + (i 3).val := by
  have h0 : (i 0).val < 4 := (i 0).isLt
  have h1 : (i 1).val < 2048 := (i 1).isLt
  have h2 : (i 2).val < 16 := (i 2).isLt
  have h3 : (i 3).val < 64 := (i 3).isLt
  omega

theorem joined_place (i : S4x2048x1024.Idx) :
    (((i 0).val * 2048 + (i 1).val) * 1024 + (i 2).val) / 2097152 = (i 0).val
      ∧ (((i 0).val * 2048 + (i 1).val) * 1024 + (i 2).val) / 1024 % 2048 = (i 1).val
      ∧ (((i 0).val * 2048 + (i 1).val) * 1024 + (i 2).val) / 64 % 16 = (i 2).val / 64
      ∧ (((i 0).val * 2048 + (i 1).val) * 1024 + (i 2).val) % 64 = (i 2).val % 64 := by
  have h0 : (i 0).val < 4 := (i 0).isLt
  have h1 : (i 1).val < 2048 := (i 1).isLt
  have h2 : (i 2).val < 1024 := (i 2).isLt
  omega

include hq in
theorem v1_is (i : S4x2048x16x64.Idx) : val_main_v1 (F := Ideal) x0 i = ((A.q (i 0).val (i 1).val (64 * (i 2).val + (i 3).val) : ℝ) : EReal) := by
  obtain ⟨e0, e1, e2⟩ := split_place i
  rw [val_main_v1_apply, val_main_v0_apply]
  refine (hq (idx_main_v1 i)).trans ?_
  show ((A.q (((((i 0).val * 2048 + (i 1).val) * 16 + (i 2).val) * 64 + (i 3).val) / 2097152) (((((i 0).val * 2048 + (i 1).val) * 16 + (i 2).val) * 64 + (i 3).val) / 1024 % 2048)
    (((((i 0).val * 2048 + (i 1).val) * 16 + (i 2).val) * 64 + (i 3).val) % 1024) : ℝ) : EReal) = _
  rw [e0, e1, e2]
include ho in
theorem v30_is (i : S4x2048x16x64.Idx) : val_main_v30 (F := Ideal) x2 i = ((A.o (i 0).val (i 1).val (64 * (i 2).val + (i 3).val) : ℝ) : EReal) := by
  obtain ⟨e0, e1, e2⟩ := split_place i
  rw [val_main_v30_apply, val_main_v29_apply]
  refine (ho (idx_main_v30 i)).trans ?_
  show ((A.o (((((i 0).val * 2048 + (i 1).val) * 16 + (i 2).val) * 64 + (i 3).val) / 2097152) (((((i 0).val * 2048 + (i 1).val) * 16 + (i 2).val) * 64 + (i 3).val) / 1024 % 2048)
    (((((i 0).val * 2048 + (i 1).val) * 16 + (i 2).val) * 64 + (i 3).val) % 1024) : ℝ) : EReal) = _
  rw [e0, e1, e2]
include hk in
theorem v4_is (i : S4x2048x16x64.Idx) : val_main_v4 (F := Ideal) x1 i = ((A.k (i 0).val (i 1).val (64 * (i 2).val + (i 3).val) : ℝ) : EReal) := by
  obtain ⟨e0, e1, e2⟩ := split_place i
  rw [val_main_v4_apply, val_main_v3_apply, val_main_v2_apply]
  refine (hk (idx_main_v2 (idx_main_v4 i)) ?_).trans ?_
  · show ((((i 0).val * 2048 + (i 1).val) * 16 + (i 2).val) * 64 + (i 3).val) % 1024 < 1024
    omega
  show ((A.k (((((i 0).val * 2048 + (i 1).val) * 16 + (i 2).val) * 64 + (i 3).val) / 2097152) (((((i 0).val * 2048 + (i 1).val) * 16 + (i 2).val) * 64 + (i 3).val) / 1024 % 2048)
    (((((i 0).val * 2048 + (i 1).val) * 16 + (i 2).val) * 64 + (i 3).val) % 1024) : ℝ) : EReal) = _
  rw [e0, e1, e2]
include hv in
theorem v7_is (i : S4x2048x16x64.Idx) : val_main_v7 (F := Ideal) x1 i = ((A.v (i 0).val (i 1).val (64 * (i 2).val + (i 3).val) : ℝ) : EReal) := by
  obtain ⟨e0, e1, e2⟩ := split_place i
  rw [val_main_v7_apply, val_main_v6_apply, val_main_v5_apply]
  refine (hv (idx_main_v5 (idx_main_v7 i)) ?_).trans ?_
  · show 1024 ≤ 1024 + ((((i 0).val * 2048 + (i 1).val) * 16 + (i 2).val) * 64 + (i 3).val) % 1024
    omega
  show ((A.v (((((i 0).val * 2048 + (i 1).val) * 16 + (i 2).val) * 64 + (i 3).val) / 2097152) (((((i 0).val * 2048 + (i 1).val) * 16 + (i 2).val) * 64 + (i 3).val) / 1024 % 2048)
    (1024 + ((((i 0).val * 2048 + (i 1).val) * 16 + (i 2).val) * 64 + (i 3).val) % 1024 - 1024) : ℝ) : EReal) = _
  rw [e0, e1, e2, Nat.add_sub_cancel_left]

theorem bound1 (i : S4x16x2048x2048.Idx) : (i 1).val < 16 := (i 1).isLt
theorem bound2 (i : S4x16x2048x2048.Idx) : (i 2).val < 2048 := (i 2).isLt
theorem bound3 (i : S4x16x2048x2048.Idx) : (i 3).val < 2048 := (i 3).isLt
theorem lane_eq (h e : ℕ) : 128 * (h / 2) + (64 * (h % 2) + e) = 64 * h + e := by omega

/- The scores, -/
include hq hk in
theorem v10_is (i : S4x16x2048x2048.Idx) : val_main_v10 (F := Ideal) x0 x1 i = ((z (Ks A (i 0).val (i 1).val) (Qy A (i 0).val (i 1).val (i 2).val) (i 3).val : ℝ) : EReal) := by
  rw [val_main_v10_apply, val_main_v9_apply, val_main_cst_apply, eighth_word, val_main_v8_apply]
  have e : (∑ k : Fin 64, val_main_v1 (F := Ideal) x0 (lidx_main_v8 i k) * val_main_v4 (F := Ideal) x1 (ridx_main_v8 i k))
      = ((∑ k : Fin 64, A.q (i 0).val (i 2).val (64 * (i 1).val + k.val) * A.k (i 0).val (i 3).val (64 * (i 1).val + k.val) : ℝ) : EReal) := by
    rw [← coe_sum_mul]
    refine Finset.sum_congr rfl fun k _ => ?_
    rw [v1_is hq, v4_is hk]
  rw [e, mul_is, query_z A _ _ _ _ (Nat.mod_lt _ (by norm_num))]
  simp only [lane_eq]

/-- the mask, -/
theorem v17_is (i : S2048x2048.Idx) : val_main_v17 (F := Ideal) i = if (i 1).val < (i 0).val then 1#1 else 0#1 := by
  have h0 : (i 0).val < 2048 := (i 0).isLt
  have h1 : (i 1).val < 2048 := (i 1).isLt
  rw [val_main_v17_apply, val_main_v15_apply, val_main_v16_apply, val_main_v12_apply, val_main_v14_apply, val_main_v11_apply, val_main_v13_apply]
  exact causal_word h0 h1

theorem v21_1_is (i : S4x16x2048x2048.Idx) : val_main_v21_1 (F := Ideal) i = if (i 3).val < (i 2).val then 1#1 else 0#1 := by
  rw [val_main_v21_1_apply, v17_is]
theorem v26_1_is (i : S4x16x2048x2048.Idx) : val_main_v26_1 (F := Ideal) i = if (i 3).val < (i 2).val then 1#1 else 0#1 := by
  rw [val_main_v26_1_apply, v17_is]

/- the softplus of the negated scores and of the scores, -/
include hq hk in
theorem arg0_is (i : S4x16x2048x2048.Idx) : val_main_call0_v0 (F := Ideal) x0 x1 i = ((-(z (Ks A (i 0).val (i 1).val) (Qy A (i 0).val (i 1).val (i 2).val) (i 3).val) : ℝ) : EReal) := by
  rw [val_main_call0_v0_apply, v10_is hq hk, neg_is]
include hq hk in
theorem sp0_is (i : S4x16x2048x2048.Idx) : val_main_call0_v1_0 (F := Ideal) x0 x1 i = ((sp (-(z (Ks A (i 0).val (i 1).val) (Qy A (i 0).val (i 1).val (i 2).val) (i 3).val)) : ℝ) : EReal) := by
  have hz : val_main_call0_call0_v0 (F := Ideal) i = (0 : EReal) := by
    rw [val_main_call0_call0_v0_apply, val_main_call0_call0_cst_apply]; exact zero_word
  have hz2 : val_main_call0_call0_v2 (F := Ideal) i = (0 : EReal) := by
    rw [val_main_call0_call0_v2_apply, val_main_call0_call0_cst_apply]; exact zero_word
  rw [val_main_call0_v1_0_apply, val_main_call0_call0_v4_apply, une_self, select_false, val_main_call0_call0_v11_apply, val_main_call0_call0_v1_apply,
    val_main_call0_call0_v10_apply, val_main_call0_call0_v9_apply, val_main_call0_call0_v8_apply, val_main_call0_call0_v7_apply, val_main_call0_call0_v3_apply, hz, hz2, arg0_is hq hk]
  exact softplus_is _
include hq hk in
theorem v18_0_is (i : S4x16x2048x2048.Idx) : val_main_v18_0 (F := Ideal) x0 x1 i = ((-sp (-(z (Ks A (i 0).val (i 1).val) (Qy A (i 0).val (i 1).val (i 2).val) (i 3).val)) : ℝ) : EReal) := by
  rw [val_main_v18_0_apply, sp0_is hq hk, neg_is]
include hq hk in
theorem v18_1_is (i : S4x16x2048x2048.Idx) : val_main_v18_1 (F := Ideal) x0 x1 i = ((Real.exp ((-(z (Ks A (i 0).val (i 1).val) (Qy A (i 0).val (i 1).val (i 2).val) (i 3).val)) - sp (-(z (Ks A (i 0).val (i 1).val) (Qy A (i 0).val (i 1).val (i 2).val) (i 3).val))) : ℝ) : EReal) := by
  have ha : val_main_call0_call0_v13 (F := Ideal) i = (⊤ : EReal) := by
    rw [val_main_call0_call0_v13_apply, val_main_call0_call0_cst_0_apply]; exact top_word
  have hb : val_main_call0_call0_v17 (F := Ideal) i = (⊤ : EReal) := by
    rw [val_main_call0_call0_v17_apply, val_main_call0_call0_cst_2_apply]; exact top_word
  rw [val_main_v18_1_apply, val_main_call0_call0_v21_apply, val_main_call0_call0_v16_apply, val_main_call0_call0_v14_apply, val_main_call0_call0_v20_apply, val_main_call0_call0_v18_apply, ha, hb,
    sp0_is hq hk, arg0_is hq hk, oeq_top, oeq_top, select_false, select_false, sub_is, exp_is]
include hq hk in
theorem arg1_is (i : S4x16x2048x2048.Idx) : val_main_call1_v0 (F := Ideal) x0 x1 i = ((- -(z (Ks A (i 0).val (i 1).val) (Qy A (i 0).val (i 1).val (i 2).val) (i 3).val) : ℝ) : EReal) := by
  rw [val_main_call1_v0_apply, val_main_v19_apply, v10_is hq hk, neg_is, neg_is]
include hq hk in
theorem sp1_is (i : S4x16x2048x2048.Idx) : val_main_call1_v1_0 (F := Ideal) x0 x1 i = ((sp (- -(z (Ks A (i 0).val (i 1).val) (Qy A (i 0).val (i 1).val (i 2).val) (i 3).val)) : ℝ) : EReal) := by
  have hz : val_main_call1_call0_v0 (F := Ideal) i = (0 : EReal) := by
    rw [val_main_call1_call0_v0_apply, val_main_call1_call0_cst_apply]; exact zero_word
  have hz2 : val_main_call1_call0_v2 (F := Ideal) i = (0 : EReal) := by
    rw [val_main_call1_call0_v2_apply, val_main_call1_call0_cst_apply]; exact zero_word
  rw [val_main_call1_v1_0_apply, val_main_call1_call0_v4_apply, une_self, select_false, val_main_call1_call0_v11_apply, val_main_call1_call0_v1_apply,
    val_main_call1_call0_v10_apply, val_main_call1_call0_v9_apply, val_main_call1_call0_v8_apply, val_main_call1_call0_v7_apply, val_main_call1_call0_v3_apply, hz, hz2, arg1_is hq hk]
  exact softplus_is _
include hq hk in
theorem v20_0_is (i : S4x16x2048x2048.Idx) : val_main_v20_0 (F := Ideal) x0 x1 i = ((-sp (- -(z (Ks A (i 0).val (i 1).val) (Qy A (i 0).val (i 1).val (i 2).val) (i 3).val)) : ℝ) : EReal) := by
  rw [val_main_v20_0_apply, sp1_is hq hk, neg_is]
include hq hk in
theorem v20_1_is (i : S4x16x2048x2048.Idx) : val_main_v20_1 (F := Ideal) x0 x1 i = ((Real.exp ((- -(z (Ks A (i 0).val (i 1).val) (Qy A (i 0).val (i 1).val (i 2).val) (i 3).val)) - sp (- -(z (Ks A (i 0).val (i 1).val) (Qy A (i 0).val (i 1).val (i 2).val) (i 3).val))) : ℝ) : EReal) := by
  have ha : val_main_call1_call0_v13 (F := Ideal) i = (⊤ : EReal) := by
    rw [val_main_call1_call0_v13_apply, val_main_call1_call0_cst_0_apply]; exact top_word
  have hb : val_main_call1_call0_v17 (F := Ideal) i = (⊤ : EReal) := by
    rw [val_main_call1_call0_v17_apply, val_main_call1_call0_cst_2_apply]; exact top_word
  rw [val_main_v20_1_apply, val_main_call1_call0_v21_apply, val_main_call1_call0_v16_apply, val_main_call1_call0_v14_apply, val_main_call1_call0_v20_apply, val_main_call1_call0_v18_apply, ha, hb,
    sp1_is hq hk, arg1_is hq hk, oeq_top, oeq_top, select_false, select_false, sub_is, exp_is]
/- which are the scores' sigmoids, -/
include hq hk in
theorem other_is (i : S4x16x2048x2048.Idx) : val_main_v18_1 (F := Ideal) x0 x1 i = ((1 - sg (z (Ks A (i 0).val (i 1).val) (Qy A (i 0).val (i 1).val (i 2).val) (i 3).val) : ℝ) : EReal) := by
  rw [v18_1_is hq hk, ← exp_neg_sp, ← add_sp_neg (z (Ks A (i 0).val (i 1).val) (Qy A (i 0).val (i 1).val (i 2).val) (i 3).val)]
  congr 2
  ring
include hq hk in
theorem sigma_is (i : S4x16x2048x2048.Idx) : val_main_v20_1 (F := Ideal) x0 x1 i = ((sg (z (Ks A (i 0).val (i 1).val) (Qy A (i 0).val (i 1).val (i 2).val) (i 3).val) : ℝ) : EReal) := by
  rw [v20_1_is hq hk, neg_neg]
  unfold sg
  congr 2
  have := add_sp_neg (z (Ks A (i 0).val (i 1).val) (Qy A (i 0).val (i 1).val (i 2).val) (i 3).val)
  linarith
/- the logarithms, their sums over the later keys, the weights, -/
include hq hk in
theorem v21_0_is (i : S4x16x2048x2048.Idx) : val_main_v21_0 (F := Ideal) x0 x1 i = ((lk (Ks A (i 0).val (i 1).val) (Qy A (i 0).val (i 1).val (i 2).val) (i 3).val : ℝ) : EReal) := by
  have hz : val_main_call2_v2 (F := Ideal) i = (0 : EReal) := by
    rw [val_main_call2_v2_apply, val_main_call2_v0_apply, val_main_cst_0_apply]; exact zero_word
  rw [val_main_v21_0_apply, hz, v20_0_is hq hk, v21_1_is, neg_neg]
  unfold lk
  rw [A.query_t]
  by_cases h : (i 3).val < (i 2).val
  · rw [if_pos h, if_pos h, select_true]
  · rw [if_neg h, if_neg h, select_false, EReal.coe_zero]
include hq hk in
theorem v22_is (i : S4x16x2048x2048.Idx) : val_main_v22 (F := Ideal) x0 x1 i = ((((Qy A (i 0).val (i 1).val (i 2).val)).tot - lkSum (Ks A (i 0).val (i 1).val) (Qy A (i 0).val (i 1).val (i 2).val) (i 3).val : ℝ) : EReal) := by
  have hz : (val_main_call3_v0 (F := Ideal)) (Shape.Idx.first h_S_) = (0 : EReal) := by
    rw [val_main_call3_v0_apply, val_main_call3_cst_apply]; exact zero_word
  unfold val_main_v22 Host.reduceWindowAdd
  rw [hz]
  refine (Window.onFrom (f := fun b h t s => lk (Ks A b h) (Qy A b h t) s) (v21_0_is hq hk) _ i).trans ?_
  rw [rest_of_total A _ _ _ _ (le_of_lt (bound3 i))]
include hq hk in
theorem v23_is (i : S4x16x2048x2048.Idx) : val_main_v23 (F := Ideal) x0 x1 i = ((((Qy A (i 0).val (i 1).val (i 2).val)).tot - lkSum (Ks A (i 0).val (i 1).val) (Qy A (i 0).val (i 1).val (i 2).val) (i 3).val - lk (Ks A (i 0).val (i 1).val) (Qy A (i 0).val (i 1).val (i 2).val) (i 3).val : ℝ) : EReal) := by
  rw [val_main_v23_apply, v22_is hq hk, v21_0_is hq hk, sub_is]
include hq hk in
theorem v25_is (i : S4x16x2048x2048.Idx) : val_main_v25 (F := Ideal) x0 x1 i = ((Real.exp (-sp (-(z (Ks A (i 0).val (i 1).val) (Qy A (i 0).val (i 1).val (i 2).val) (i 3).val)) + (((Qy A (i 0).val (i 1).val (i 2).val)).tot - lkSum (Ks A (i 0).val (i 1).val) (Qy A (i 0).val (i 1).val (i 2).val) (i 3).val - lk (Ks A (i 0).val (i 1).val) (Qy A (i 0).val (i 1).val (i 2).val) (i 3).val)) : ℝ) : EReal) := by
  rw [val_main_v25_apply, val_main_v24_apply, v18_0_is hq hk, v23_is hq hk, add_is, exp_is]

theorem weight_eq (b h t s : ℕ) (hs : s < t) :
    Real.exp (-sp (-z (Ks A b h) (Qy A b h t) s) + ((Qy A b h t).tot - lkSum (Ks A b h) (Qy A b h t) s - lk (Ks A b h) (Qy A b h t) s)) = w (Ks A b h) (Qy A b h t) s := by
  unfold w lk
  rw [A.query_t, if_pos hs, if_pos hs]
  congr 1
  have := add_sp_neg (z (Ks A b h) (Qy A b h t) s)
  linarith
include hq hk in
theorem v26_0_is (i : S4x16x2048x2048.Idx) : val_main_v26_0 (F := Ideal) x0 x1 i = ((w (Ks A (i 0).val (i 1).val) (Qy A (i 0).val (i 1).val (i 2).val) (i 3).val : ℝ) : EReal) := by
  have hz : val_main_call4_v2 (F := Ideal) i = (0 : EReal) := by
    rw [val_main_call4_v2_apply, val_main_call4_v0_apply, val_main_cst_1_apply]; exact zero_word
  rw [val_main_v26_0_apply, hz, v25_is hq hk, v26_1_is]
  by_cases h : (i 3).val < (i 2).val
  · rw [if_pos h, select_true, weight_eq _ _ _ _ h]
  · rw [if_neg h, select_false]
    unfold w
    rw [A.query_t, if_neg h, EReal.coe_zero]
/- the weights' gradients times the weights, their sums over the earlier keys, and the scores' gradients. -/
include ho in
theorem v31_is (i : S4x16x64x2048.Idx) : val_main_v31 (F := Ideal) x2 i = ((A.o (i 0).val (i 3).val (64 * (i 1).val + (i 2).val) : ℝ) : EReal) := by
  rw [val_main_v31_apply, v30_is ho]

include hv ho in
theorem v32_is (i : S4x16x2048x2048.Idx) : val_main_v32 (F := Ideal) x1 x2 i = ((∑ d, (Vs A (i 0).val (i 1).val) (i 3).val d * ((Qy A (i 0).val (i 1).val (i 2).val)).o d : ℝ) : EReal) := by
  rw [val_main_v32_apply]
  have e : (∑ k : Fin 64, val_main_v31 (F := Ideal) x2 (lidx_main_v32 i k) * val_main_v7 (F := Ideal) x1 (ridx_main_v32 i k))
      = ((∑ k : Fin 64, A.o (i 0).val (i 2).val (64 * (i 1).val + k.val) * A.v (i 0).val (i 3).val (64 * (i 1).val + k.val) : ℝ) : EReal) := by
    rw [← coe_sum_mul]
    refine Finset.sum_congr rfl fun k _ => ?_
    rw [v31_is ho, v7_is hv]
  rw [e, query_o A _ _ _ _ (Nat.mod_lt _ (by norm_num))]
  simp only [lane_eq]
include hq hk hv ho in
theorem v36_is (i : S4x16x2048x2048.Idx) : val_main_v36 (F := Ideal) x0 x1 x2 i = ((dl (Ks A (i 0).val (i 1).val) (Vs A (i 0).val (i 1).val) (Qy A (i 0).val (i 1).val (i 2).val) (i 3).val : ℝ) : EReal) := by
  have hz : val_main_call5_v0 (F := Ideal) i = (0 : EReal) := by
    rw [val_main_call5_v0_apply, val_main_call5_cst_apply]; exact zero_word
  rw [val_main_v36_apply, val_main_v35_apply, hz, v32_is hv ho, v25_is hq hk, v26_1_is]
  unfold dl
  by_cases h : (i 3).val < (i 2).val
  · rw [if_pos h, select_true, weight_eq _ _ _ _ h, mul_is]
  · rw [if_neg h, select_false]
    have e : w (Ks A (i 0).val (i 1).val) (Qy A (i 0).val (i 1).val (i 2).val) (i 3).val = 0 := by
      unfold w
      rw [A.query_t, if_neg h]
    rw [e, mul_zero, EReal.coe_zero]
    exact zero_mul _
include hq hk hv ho in
theorem v38_is (i : S4x16x2048x2048.Idx) : val_main_v38 (F := Ideal) x0 x1 x2 i = ((dlSum (Ks A (i 0).val (i 1).val) (Vs A (i 0).val (i 1).val) (Qy A (i 0).val (i 1).val (i 2).val) ((i 3).val + 1) : ℝ) : EReal) := by
  have hz : (val_main_call6_v0 (F := Ideal)) (Shape.Idx.first h_S_) = (0 : EReal) := by
    rw [val_main_call6_v0_apply, val_main_call6_cst_apply]; exact zero_word
  unfold val_main_v38 Host.reduceWindowAdd
  rw [hz]
  exact Window.upTo (f := fun b h t s => dl (Ks A b h) (Vs A b h) (Qy A b h t) s) (v36_is hq hk hv ho) _ i
include hq hk hv ho in
theorem v40_is (i : S4x16x2048x2048.Idx) : val_main_v40 (F := Ideal) x0 x1 x2 i = ((if (i 3).val < (i 2).val then dlSum (Ks A (i 0).val (i 1).val) (Vs A (i 0).val (i 1).val) (Qy A (i 0).val (i 1).val (i 2).val) (i 3).val else 0 : ℝ) : EReal) := by
  have hz : val_main_call7_v0 (F := Ideal) i = (0 : EReal) := by
    rw [val_main_call7_v0_apply, val_main_call7_cst_apply]; exact zero_word
  rw [val_main_v40_apply, hz, val_main_v39_apply, val_main_v37_apply, v36_is hq hk hv ho, v38_is hq hk hv ho, neg_is, add_is, v21_1_is]
  by_cases h : (i 3).val < (i 2).val
  · rw [if_pos h, if_pos h, select_true]
    unfold dlSum
    rw [Finset.sum_range_succ]
    congr 1
    ring
  · rw [if_neg h, if_neg h, select_false, EReal.coe_zero]
include hq hk hv ho in
theorem v44_is (i : S4x16x2048x2048.Idx) : val_main_v44 (F := Ideal) x0 x1 x2 i = ((dz (Ks A (i 0).val (i 1).val) (Vs A (i 0).val (i 1).val) (Qy A (i 0).val (i 1).val (i 2).val) (i 3).val : ℝ) : EReal) := by
  rw [val_main_v44_apply, val_main_v42_apply, val_main_v41_apply, val_main_call8_v1_apply, val_main_call8_v0_apply, val_main_v43_apply,
    val_main_call9_v1_apply, val_main_call9_v0_apply, v40_is hq hk hv ho, v36_is hq hk hv ho, other_is hq hk, sigma_is hq hk,
    neg_is, mul_is, neg_is, neg_is, neg_is, mul_is, neg_is, add_is]
  unfold dz
  rw [A.query_t]
  by_cases h : (i 3).val < (i 2).val
  · rw [if_pos h, if_pos h]
    congr 1
    ring
  · rw [if_neg h, if_neg h]
    have e : dl (Ks A (i 0).val (i 1).val) (Vs A (i 0).val (i 1).val) (Qy A (i 0).val (i 1).val (i 2).val) (i 3).val = 0 := by
      unfold dl w
      rw [A.query_t, if_neg h, mul_zero]
    rw [e]
    congr 1
    ring
include hq hk hv ho in
theorem v46_is (i : S4x16x2048x2048.Idx) : val_main_v46 (F := Ideal) x0 x1 x2 i = ((dz (Ks A (i 0).val (i 1).val) (Vs A (i 0).val (i 1).val) (Qy A (i 0).val (i 1).val (i 2).val) (i 3).val * (1 / 8) : ℝ) : EReal) := by
  rw [val_main_v46_apply, v44_is hq hk hv ho, val_main_v45_apply, val_main_cst_2_apply, eighth_word, mul_is]

/-! ## The results -/

theorem head_half (c : ℕ) : c / 64 / 2 = c / 128 := by omega
theorem head_lane (c : ℕ) : 64 * (c / 64) + c % 64 = c := by omega
theorem pair_lane (c : ℕ) : 128 * (c / 128) + c % 128 = c := by omega

include hq hk hv ho in
theorem queries_result (i : S4x2048x1024.Idx) : val_main_v52 (F := Ideal) x0 x1 x2 i = (((∑ s ∈ range 2048, A.k (i 0).val s (i 2).val * dz (A.keys (i 0).val ((i 2).val / 128)) (A.values (i 0).val ((i 2).val / 128)) (A.query (i 0).val ((i 2).val / 128) ((i 2).val / 64 % 2) (i 1).val) s) * (1 / 8) : ℝ) : EReal) := by
  obtain ⟨e0, e1, e2, e3⟩ := joined_place i
  rw [val_main_v52_apply, val_main_v51_apply, val_main_v50_apply]
  show val_main_v49 (F := Ideal) x0 x1 x2 (idx_main_v50 (idx_main_v51 i)) = _
  rw [val_main_v49_apply]
  have e : ∀ k : Fin 2048, val_main_v46 (F := Ideal) x0 x1 x2 (lidx_main_v49 (idx_main_v50 (idx_main_v51 i)) k) * val_main_v4 (F := Ideal) x1 (ridx_main_v49 (idx_main_v50 (idx_main_v51 i)) k)
      = ((dz (Ks A ((((i 0).val * 2048 + (i 1).val) * 1024 + (i 2).val) / 2097152) ((((i 0).val * 2048 + (i 1).val) * 1024 + (i 2).val) / 64 % 16)) (Vs A ((((i 0).val * 2048 + (i 1).val) * 1024 + (i 2).val) / 2097152) ((((i 0).val * 2048 + (i 1).val) * 1024 + (i 2).val) / 64 % 16)) (Qy A ((((i 0).val * 2048 + (i 1).val) * 1024 + (i 2).val) / 2097152) ((((i 0).val * 2048 + (i 1).val) * 1024 + (i 2).val) / 64 % 16) ((((i 0).val * 2048 + (i 1).val) * 1024 + (i 2).val) / 1024 % 2048)) k.val * (1 / 8) : ℝ) : EReal)
        * ((A.k ((((i 0).val * 2048 + (i 1).val) * 1024 + (i 2).val) / 2097152) k.val (64 * ((((i 0).val * 2048 + (i 1).val) * 1024 + (i 2).val) / 64 % 16) + (((i 0).val * 2048 + (i 1).val) * 1024 + (i 2).val) % 64) : ℝ) : EReal) := fun k => by
    rw [v46_is hq hk hv ho, v4_is hk]
  rw [Finset.sum_congr rfl fun k _ => e k, coe_sum_mul, e0, e1, e2, e3, head_lane]
  dsimp only [Ks, Vs, Qy]
  rw [head_half, Fin.sum_univ_eq_sum_range (fun k => dz (A.keys (i 0).val ((i 2).val / 128)) (A.values (i 0).val ((i 2).val / 128)) (A.query (i 0).val ((i 2).val / 128) ((i 2).val / 64 % 2) (i 1).val) k * (1 / 8) * A.k (i 0).val k (i 2).val) 2048, Finset.sum_mul]
  congr 1
  exact Finset.sum_congr rfl fun s _ => by ring
include hq hk hv ho in
theorem keys_result (i : S4x2048x1024.Idx) : val_main_v53 (F := Ideal) x0 x1 x2 i = ((∑ t ∈ range 2048, dz (A.keys (i 0).val ((i 2).val / 128)) (A.values (i 0).val ((i 2).val / 128)) (A.query (i 0).val ((i 2).val / 128) ((i 2).val / 64 % 2) t) (i 1).val * (A.q (i 0).val t (i 2).val * (1 / 8)) : ℝ) : EReal) := by
  obtain ⟨e0, e1, e2, e3⟩ := joined_place i
  rw [val_main_v53_apply, val_main_v48_apply, val_main_v47_apply]
  have e : ∀ k : Fin 2048, val_main_v46 (F := Ideal) x0 x1 x2 (lidx_main_v47 (idx_main_v48 (idx_main_v53 i)) k) * val_main_v1 (F := Ideal) x0 (ridx_main_v47 (idx_main_v48 (idx_main_v53 i)) k)
      = ((dz (Ks A ((((i 0).val * 2048 + (i 1).val) * 1024 + (i 2).val) / 2097152) ((((i 0).val * 2048 + (i 1).val) * 1024 + (i 2).val) / 64 % 16)) (Vs A ((((i 0).val * 2048 + (i 1).val) * 1024 + (i 2).val) / 2097152) ((((i 0).val * 2048 + (i 1).val) * 1024 + (i 2).val) / 64 % 16)) (Qy A ((((i 0).val * 2048 + (i 1).val) * 1024 + (i 2).val) / 2097152) ((((i 0).val * 2048 + (i 1).val) * 1024 + (i 2).val) / 64 % 16) k.val) ((((i 0).val * 2048 + (i 1).val) * 1024 + (i 2).val) / 1024 % 2048) * (1 / 8) : ℝ) : EReal)
        * ((A.q ((((i 0).val * 2048 + (i 1).val) * 1024 + (i 2).val) / 2097152) k.val (64 * ((((i 0).val * 2048 + (i 1).val) * 1024 + (i 2).val) / 64 % 16) + (((i 0).val * 2048 + (i 1).val) * 1024 + (i 2).val) % 64) : ℝ) : EReal) := fun k => by
    rw [v46_is hq hk hv ho, v1_is hq]
  rw [Finset.sum_congr rfl fun k _ => e k, coe_sum_mul, e0, e1, e2, e3, head_lane]
  dsimp only [Ks, Vs, Qy]
  rw [head_half, Fin.sum_univ_eq_sum_range (fun k => dz (A.keys (i 0).val ((i 2).val / 128)) (A.values (i 0).val ((i 2).val / 128)) (A.query (i 0).val ((i 2).val / 128) ((i 2).val / 64 % 2) k) (i 1).val * (1 / 8) * A.q (i 0).val k (i 2).val) 2048]
  congr 1
  exact Finset.sum_congr rfl fun s _ => by ring
include hq hk hv ho in
theorem values_result (i : S4x2048x1024.Idx) : val_main_v54 (F := Ideal) x0 x1 x2 i = ((∑ t ∈ range 2048, w (A.keys (i 0).val ((i 2).val / 128)) (A.query (i 0).val ((i 2).val / 128) ((i 2).val / 64 % 2) t) (i 1).val * A.o (i 0).val t (i 2).val : ℝ) : EReal) := by
  obtain ⟨e0, e1, e2, e3⟩ := joined_place i
  rw [val_main_v54_apply, val_main_v34_apply, val_main_v33_apply]
  have e : ∀ k : Fin 2048, val_main_v31 (F := Ideal) x2 (lidx_main_v33 (idx_main_v34 (idx_main_v54 i)) k) * val_main_v26_0 (F := Ideal) x0 x1 (ridx_main_v33 (idx_main_v34 (idx_main_v54 i)) k)
      = ((A.o ((((i 0).val * 2048 + (i 1).val) * 1024 + (i 2).val) / 2097152) k.val (64 * ((((i 0).val * 2048 + (i 1).val) * 1024 + (i 2).val) / 64 % 16) + (((i 0).val * 2048 + (i 1).val) * 1024 + (i 2).val) % 64) : ℝ) : EReal)
        * ((w (Ks A ((((i 0).val * 2048 + (i 1).val) * 1024 + (i 2).val) / 2097152) ((((i 0).val * 2048 + (i 1).val) * 1024 + (i 2).val) / 64 % 16)) (Qy A ((((i 0).val * 2048 + (i 1).val) * 1024 + (i 2).val) / 2097152) ((((i 0).val * 2048 + (i 1).val) * 1024 + (i 2).val) / 64 % 16) k.val) ((((i 0).val * 2048 + (i 1).val) * 1024 + (i 2).val) / 1024 % 2048) : ℝ) : EReal) := fun k => by
    rw [v31_is ho, v26_0_is hq hk]
  rw [Finset.sum_congr rfl fun k _ => e k, coe_sum_mul, e0, e1, e2, e3, head_lane]
  dsimp only [Ks, Vs, Qy]
  rw [head_half, Fin.sum_univ_eq_sum_range (fun k => A.o (i 0).val k (i 2).val * w (A.keys (i 0).val ((i 2).val / 128)) (A.query (i 0).val ((i 2).val / 128) ((i 2).val / 64 % 2) k) (i 1).val) 2048]
  congr 1
  exact Finset.sum_congr rfl fun s _ => by ring
end

end Cert.ReferenceIdeal.Hand

end
-- ==== Proof.Tile.lean ====
/-
  One tile of keys as the kernel computes it, in the mathematics' own order, over any float values: the scores of a
  tile of 512 keys against the stacked queries, `log σ` and `log (1 − σ)` of them, the exclusive prefix sums over the
  keys (one triangular product per block of 128), the weights, the gradient of the logits and what the tile adds to
  the three results. The single-tile loop's trip is this.
-/
module

public import proofs.«01_k».proof.Proof.Body

@[expose] public section

set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.Tactic

variable {F : FTy → Type} [FloatOps F]

/-- The vector of zeros and the vector of ones. -/
def zeros (S : Shape) : FVec F S .f32 := broadcast S (Scalar.ofBits .f32 0x00000000#32)
def ones (S : Shape) : FVec F S .f32 := broadcast S (Scalar.ofBits .f32 0x3F800000#32)

/-- `log σ` of the scores, as the kernel writes it: `min z 0 − log (1 + exp (0 − |z|))`. -/
def logBeta (S : Shape) (z : FVec F S .f32) : FVec F S .f32 :=
  subf (minimumf z (zeros S)) (log (addf (ones S) (exp (subf (zeros S) (absf z)))))

/-- The logits' gradient from the weights' one, `log σ`, and the sum of those of the earlier keys. -/
def logitGrad (S : Shape) (dl lb pre : FVec F S .f32) : FVec F S .f32 :=
  subf (mulf dl (subf (ones S) (exp lb))) (mulf pre (exp lb))

/-- The scores of a tile of 512 keys against the stacked queries. -/
def scores (x : FVec F S1024x128 .bf16) (k : Vec F S1x512x128 .bf16) : FVec F S512x1024 .f32 :=
  matmul dot_S512x128_S1024x128_S512x1024_1_1_0_0_n_n none (shapeCast S512x128 k shapeCasts_S1x512x128_S512x128) x
    (constant S512x1024 .f32 0x00000000#32)

/-- The sums over a block's earlier keys: a product with the strictly lower triangle. The first takes the summands in
    two halves of half the precision, the second rounds them once. -/
def below2 (tri2 : FVec F S128x256 .bf16) (y : FVec F S128x1024 .f32) : FVec F S128x1024 .f32 :=
  matmul dot_S128x256_S256x1024_S128x1024_1_0_0_1_n_n none tri2
    (concatenate S256x1024 0 [⟨S128x1024, truncf .bf16 y bitsLt_bf16_f32⟩,
      ⟨S128x1024, truncf .bf16 (subf y (extf .f32 (truncf .bf16 y bitsLt_bf16_f32) bitsLt_bf16_f32)) bitsLt_bf16_f32⟩]
      concatenates_S128x1024_S128x1024_S256x1024_d0) (constant S128x1024 .f32 0x00000000#32)

def below1 (tri2 : FVec F S128x256 .bf16) (y : FVec F S128x1024 .f32) : FVec F S128x1024 .f32 :=
  matmul dot_S128x128_S128x1024_S128x1024_1_0_0_1_n_n none
    (extractStridedSlice S128x128 ![0, 0] tri2 slices_S128x256_o0_0_S128x128) (truncf .bf16 y bitsLt_bf16_f32)
    (constant S128x1024 .f32 0x00000000#32)

/-- The last row of a block, and the running total past a block. -/
def lastRow (y : FVec F S128x1024 .f32) : FVec F S1x1024 .f32 :=
  extractStridedSlice S1x1024 ![127, 0] y slices_S128x1024_o127_0_S1x1024
def past (below : FVec F S128x1024 .f32 → FVec F S128x1024 .f32) (y : FVec F S128x1024 .f32) (tot : FVec F S1x1024 .f32) :
    FVec F S1x1024 .f32 := addf tot (addf (lastRow (below y)) (lastRow y))
def within (below : FVec F S128x1024 .f32 → FVec F S128x1024 .f32) (y : FVec F S128x1024 .f32) (tot : FVec F S1x1024 .f32) :
    FVec F S128x1024 .f32 := addf (below y) (broadcastTo S128x1024 tot broadcasts_S1x1024_S128x1024)

/-- The four blocks of a tile. -/
def blk0 (x : FVec F S512x1024 .f32) : FVec F S128x1024 .f32 := extractStridedSlice S128x1024 ![0, 0] x slices_S512x1024_o0_0_S128x1024
def blk1 (x : FVec F S512x1024 .f32) : FVec F S128x1024 .f32 := extractStridedSlice S128x1024 ![128, 0] x slices_S512x1024_o128_0_S128x1024
def blk2 (x : FVec F S512x1024 .f32) : FVec F S128x1024 .f32 := extractStridedSlice S128x1024 ![256, 0] x slices_S512x1024_o256_0_S128x1024
def blk3 (x : FVec F S512x1024 .f32) : FVec F S128x1024 .f32 := extractStridedSlice S128x1024 ![384, 0] x slices_S512x1024_o384_0_S128x1024

section scan
variable (below : FVec F S128x1024 .f32 → FVec F S128x1024 .f32) (x : FVec F S512x1024 .f32)
/-- The tile's sums before its blocks 1, 2, 3 and past its last. -/
def sum1 : FVec F S1x1024 .f32 := past below (blk0 x) (zeros S1x1024)
def sum2 : FVec F S1x1024 .f32 := past below (blk1 x) (sum1 below x)
def sum3 : FVec F S1x1024 .f32 := past below (blk2 x) (sum2 below x)
def sum4 : FVec F S1x1024 .f32 := past below (blk3 x) (sum3 below x)
/-- The sums over the tile's earlier keys. -/
def before : FVec F S512x1024 .f32 :=
  concatenate S512x1024 0 [⟨S128x1024, within below (blk0 x) (zeros S1x1024)⟩, ⟨S128x1024, within below (blk1 x) (sum1 below x)⟩,
    ⟨S128x1024, within below (blk2 x) (sum2 below x)⟩, ⟨S128x1024, within below (blk3 x) (sum3 below x)⟩]
    concatenates_S128x1024_S128x1024_S128x1024_S128x1024_S512x1024_d0
end scan

section tile
variable (qs dos : FVec F S1024x128 .bf16) (totv : FVec F S1x1024 .f32) (tri2 : FVec F S128x256 .bf16)
  (k v : Vec F S1x512x128 .bf16) (kt0 kt1 kt2 kt3 : Vec F S1x1x1x128x128 .bf16) (acc : Carry F)

/-- `log (1 − σ)` of the tile's scores. -/
def keep : FVec F S512x1024 .f32 := subf (logBeta S512x1024 (scores qs k)) (scores qs k)
/-- The tile's weights. -/
def weights : FVec F S512x1024 .f32 :=
  exp (addf (scores qs k) (subf (broadcastTo S512x1024 (subf totv acc.1) broadcasts_S1x1024_S512x1024) (before (below2 tri2) (keep qs k))))
/-- The gradient of the weights' logarithms. -/
def weightGrad : FVec F S512x1024 .f32 :=
  mulf (scores dos v) (weights qs totv tri2 k acc)
/-- The gradient of the scores. -/
def scoreGrad : FVec F S512x1024 .bf16 :=
  truncf .bf16 (logitGrad S512x1024 (weightGrad qs dos totv tri2 k v acc) (logBeta S512x1024 (scores qs k))
    (addf (broadcastTo S512x1024 acc.2.1 broadcasts_S1x1024_S512x1024) (before (below1 tri2) (weightGrad qs dos totv tri2 k v acc))))
    bitsLt_bf16_f32

/-- A block of keys' part of the queries' gradient. -/
def queryPart (kt : Vec F S1x1x1x128x128 .bf16) (dz : FVec F S128x1024 .bf16) : FVec F S128x1024 .f32 :=
  matmul dot_S128x128_S128x1024_S128x1024_1_0_0_1_n_n none (shapeCast S128x128 kt shapeCasts_S1x1x1x128x128_S128x128) dz
    (constant S128x1024 .f32 0x00000000#32)
def queryStep (dz : FVec F S512x1024 .bf16) (g : FVec F S128x1024 .f32) : FVec F S128x1024 .f32 :=
  addf (addf (addf (addf g
    (queryPart kt0 (extractStridedSlice S128x1024 ![0, 0] dz slices_S512x1024_o0_0_S128x1024)))
    (queryPart kt1 (extractStridedSlice S128x1024 ![128, 0] dz slices_S512x1024_o128_0_S128x1024)))
    (queryPart kt2 (extractStridedSlice S128x1024 ![256, 0] dz slices_S512x1024_o256_0_S128x1024)))
    (queryPart kt3 (extractStridedSlice S128x1024 ![384, 0] dz slices_S512x1024_o384_0_S128x1024))

/-- What is carried past the tile. -/
def tileCarry : Carry F :=
  (addf acc.1 (sum4 (below2 tri2) (keep qs k)), addf acc.2.1 (sum4 (below1 tri2) (weightGrad qs dos totv tri2 k v acc)),
    queryStep kt0 kt1 kt2 kt3 (scoreGrad qs dos totv tri2 k v acc) acc.2.2)

/-- The rows a tile's keys add: `w` against the stacked queries (or output gradients) `x`. -/
def rowsOf (w : FVec F S512x1024 .bf16) (x : FVec F S1024x128 .bf16) : FVec F S512x128 .f32 :=
  matmul dot_S512x1024_S1024x128_S512x128_1_0_0_1_n_n none w x (constant S512x128 .f32 0x00000000#32)
def addRows (old : Vec F S1x512x128 .f32) (w : FVec F S512x1024 .bf16) (x : FVec F S1024x128 .bf16) : Vec F S1x512x128 .f32 :=
  shapeCast S1x512x128 (addf (shapeCast S512x128 old shapeCasts_S1x512x128_S512x128) (rowsOf w x)) shapeCasts_S512x128_S1x512x128
def keyRows (old : Vec F S1x512x128 .f32) : Vec F S1x512x128 .f32 := addRows old (scoreGrad qs dos totv tri2 k v acc) qs
def valueRows (old : Vec F S1x512x128 .f32) : Vec F S1x512x128 .f32 :=
  addRows old (truncf .bf16 (weights qs totv tri2 k acc) bitsLt_bf16_f32) dos
end tile

section
variable (𝒱 : Variants) (c : Dev nD) (bd : Option 𝒱.V) (i : grid0.Coords) (arg3 : Memref sig .tc .vmem S1x512x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x1x16x128x128 .bf16) (harg6 : arg6.IsWhole) (arg7 : Memref sig .tc .vmem S1x512x128 .bf16) (harg7 : arg7.IsWhole) (arg8 : Memref sig .tc .vmem S1x1x1x1x1024 .f32) (harg8 : arg8.IsWhole) (arg9 : Memref sig .tc .vmem S1x512x128 .bf16) (harg9 : arg9.IsWhole) (arg10 : Memref sig .tc .vmem S1x2048x128 .f32) (harg10 : arg10.IsWhole) (arg11 : Memref sig .tc .vmem S1x2048x128 .f32) (harg11 : arg11.IsWhole)
  (v44 v83 : FVec F S1024x128 .bf16) (v85 : FVec F S1x1024 .f32) (v92 : FVec F S128x256 .bf16) (v93 : FVec F S1x1024 .f32) (v110 v111 : BitVec 32) (v122 : BitVec 1) (v123 : BitVec 32)
  (X4 : BufTy.Contents (Elt F) arg4.view.ty) (X5 : BufTy.Contents (Elt F) arg5.view.ty) (X6 : BufTy.Contents (Elt F) arg6.view.ty)
  (acc : Carry F) (f10 : BufTy.Contents (Elt F) arg10.view.ty) (f11 : BufTy.Contents (Elt F) arg11.view.ty)

/-- The single-tile loop's trip is the tile's step, at the tile's rows. -/
theorem trip3_carry (k : Fin (k0_t3_loop i).trips) :
    tripR_k0_t3 (F := F) 𝒱 c bd i arg3 harg3 arg4 harg4 arg5 harg5 arg6 harg6 arg7 harg7 arg8 harg8 arg9 harg9 arg10 harg10 arg11 harg11 v44 v83 v85 v92 v93 v110 v111 v122 v123 X4 X5 X6 k acc f10 f11
      = tileCarry v44 v83 v85 v92
          (View.readAt (Elt F) arg4.view (Rect.unit (s := S1x2048x128) (k0_off9 i) S1x512x128.size (k0_off9_inb i k)).toLoadRect X4)
          (View.readAt (Elt F) arg5.view (Rect.unit (s := S1x2048x128) (k0_off9 i) S1x512x128.size (k0_off9_inb i k)).toLoadRect X5)
          (View.readAt (Elt F) arg6.view (Rect.unit (s := S1x1x16x128x128) (k0_off10 i 0#32) S1x1x1x128x128.size (k0_off10_inb i k 0)).toLoadRect X6)
          (View.readAt (Elt F) arg6.view (Rect.unit (s := S1x1x16x128x128) (k0_off10 i 1#32) S1x1x1x128x128.size (k0_off10_inb i k 1)).toLoadRect X6)
          (View.readAt (Elt F) arg6.view (Rect.unit (s := S1x1x16x128x128) (k0_off10 i 2#32) S1x1x1x128x128.size (k0_off10_inb i k 2)).toLoadRect X6)
          (View.readAt (Elt F) arg6.view (Rect.unit (s := S1x1x16x128x128) (k0_off10 i 3#32) S1x1x1x128x128.size (k0_off10_inb i k 3)).toLoadRect X6)
          acc := by
  unfold tripR_k0_t3 trip_k0_t3
  rfl

/-- Its pieces: the tile's rows of the two gradients of keys and values, each read, added to and put back. -/
theorem trip3_pieces (k : Fin (k0_t3_loop i).trips) :
    tripL_k0_t3 (F := F) 𝒱 c bd i arg3 harg3 arg4 harg4 arg5 harg5 arg6 harg6 arg7 harg7 arg8 harg8 arg9 harg9 arg10 harg10 arg11 harg11 v44 v83 v85 v92 v93 v110 v111 v122 v123 X4 X5 X6 k acc f10 f11
      = ([⟨Rect.unit (s := S1x2048x128) (k0_off9 i) S1x512x128.size (k0_off9_inb i k), keyRows v44 v83 v85 v92 (View.readAt (Elt F) arg4.view (Rect.unit (s := S1x2048x128) (k0_off9 i) S1x512x128.size (k0_off9_inb i k)).toLoadRect X4) (View.readAt (Elt F) arg5.view (Rect.unit (s := S1x2048x128) (k0_off9 i) S1x512x128.size (k0_off9_inb i k)).toLoadRect X5) acc (View.readAt (Elt F) arg10.view (Rect.unit (s := S1x2048x128) (k0_off9 i) S1x512x128.size (k0_off9_inb i k)).toLoadRect f10)⟩],
         [⟨Rect.unit (s := S1x2048x128) (k0_off9 i) S1x512x128.size (k0_off9_inb i k), valueRows v44 v83 v85 v92 (View.readAt (Elt F) arg4.view (Rect.unit (s := S1x2048x128) (k0_off9 i) S1x512x128.size (k0_off9_inb i k)).toLoadRect X4) acc (View.readAt (Elt F) arg11.view (Rect.unit (s := S1x2048x128) (k0_off9 i) S1x512x128.size (k0_off9_inb i k)).toLoadRect f11)⟩]) := by
  unfold tripL_k0_t3 trip_k0_t3
  rfl

/-- The pair loop's trip is the step of its two tiles, one after the other. -/
theorem trip1_carry (k : Fin (k0_t1_loop i).trips) :
    trip1R (F := F) c i arg3 harg3 arg4 harg4 arg5 harg5 arg6 harg6 arg7 harg7 arg8 harg8 arg9 harg9 arg10 harg10 arg11 harg11 v44 v83 v85 v92 v93 v110 v111 v122 v123 X4 X5 X6 k acc f10 f11
      = tileCarry v44 v83 v85 v92 (View.readAt (Elt F) arg4.view (Rect.unit (s := S1x2048x128) (k0_off2 i k) S1x512x128.size (k0_off2_inb i k)).toLoadRect X4) (View.readAt (Elt F) arg5.view (Rect.unit (s := S1x2048x128) (k0_off2 i k) S1x512x128.size (k0_off2_inb i k)).toLoadRect X5) (View.readAt (Elt F) arg6.view (Rect.unit (s := S1x1x16x128x128) (k0_off4 i k 0#32) S1x1x1x128x128.size (k0_off4_inb i k 0)).toLoadRect X6) (View.readAt (Elt F) arg6.view (Rect.unit (s := S1x1x16x128x128) (k0_off4 i k 1#32) S1x1x1x128x128.size (k0_off4_inb i k 1)).toLoadRect X6) (View.readAt (Elt F) arg6.view (Rect.unit (s := S1x1x16x128x128) (k0_off4 i k 2#32) S1x1x1x128x128.size (k0_off4_inb i k 2)).toLoadRect X6) (View.readAt (Elt F) arg6.view (Rect.unit (s := S1x1x16x128x128) (k0_off4 i k 3#32) S1x1x1x128x128.size (k0_off4_inb i k 3)).toLoadRect X6) (tileCarry v44 v83 v85 v92 (View.readAt (Elt F) arg4.view (Rect.unit (s := S1x2048x128) (k0_off1 i k) S1x512x128.size (k0_off1_inb i k)).toLoadRect X4) (View.readAt (Elt F) arg5.view (Rect.unit (s := S1x2048x128) (k0_off1 i k) S1x512x128.size (k0_off1_inb i k)).toLoadRect X5) (View.readAt (Elt F) arg6.view (Rect.unit (s := S1x1x16x128x128) (k0_off3 i k 0#32) S1x1x1x128x128.size (k0_off3_inb i k 0)).toLoadRect X6) (View.readAt (Elt F) arg6.view (Rect.unit (s := S1x1x16x128x128) (k0_off3 i k 1#32) S1x1x1x128x128.size (k0_off3_inb i k 1)).toLoadRect X6) (View.readAt (Elt F) arg6.view (Rect.unit (s := S1x1x16x128x128) (k0_off3 i k 2#32) S1x1x1x128x128.size (k0_off3_inb i k 2)).toLoadRect X6) (View.readAt (Elt F) arg6.view (Rect.unit (s := S1x1x16x128x128) (k0_off3 i k 3#32) S1x1x1x128x128.size (k0_off3_inb i k 3)).toLoadRect X6) acc) := by
  unfold trip1R trip1
  rfl

theorem trip1_pieces10 (k : Fin (k0_t1_loop i).trips) :
    trip1L10 (F := F) c i arg3 harg3 arg4 harg4 arg5 harg5 arg6 harg6 arg7 harg7 arg8 harg8 arg9 harg9 arg10 harg10 arg11 harg11 v44 v83 v85 v92 v93 v110 v111 v122 v123 X4 X5 X6 k acc f10 f11
      = [⟨Rect.unit (s := S1x2048x128) (k0_off2 i k) S1x512x128.size (k0_off2_inb i k), keyRows v44 v83 v85 v92 (View.readAt (Elt F) arg4.view (Rect.unit (s := S1x2048x128) (k0_off2 i k) S1x512x128.size (k0_off2_inb i k)).toLoadRect X4) (View.readAt (Elt F) arg5.view (Rect.unit (s := S1x2048x128) (k0_off2 i k) S1x512x128.size (k0_off2_inb i k)).toLoadRect X5) (tileCarry v44 v83 v85 v92 (View.readAt (Elt F) arg4.view (Rect.unit (s := S1x2048x128) (k0_off1 i k) S1x512x128.size (k0_off1_inb i k)).toLoadRect X4) (View.readAt (Elt F) arg5.view (Rect.unit (s := S1x2048x128) (k0_off1 i k) S1x512x128.size (k0_off1_inb i k)).toLoadRect X5) (View.readAt (Elt F) arg6.view (Rect.unit (s := S1x1x16x128x128) (k0_off3 i k 0#32) S1x1x1x128x128.size (k0_off3_inb i k 0)).toLoadRect X6) (View.readAt (Elt F) arg6.view (Rect.unit (s := S1x1x16x128x128) (k0_off3 i k 1#32) S1x1x1x128x128.size (k0_off3_inb i k 1)).toLoadRect X6) (View.readAt (Elt F) arg6.view (Rect.unit (s := S1x1x16x128x128) (k0_off3 i k 2#32) S1x1x1x128x128.size (k0_off3_inb i k 2)).toLoadRect X6) (View.readAt (Elt F) arg6.view (Rect.unit (s := S1x1x16x128x128) (k0_off3 i k 3#32) S1x1x1x128x128.size (k0_off3_inb i k 3)).toLoadRect X6) acc) (View.readAt (Elt F) arg10.view (Rect.unit (s := S1x2048x128) (k0_off2 i k) S1x512x128.size (k0_off2_inb i k)).toLoadRect f10)⟩,
         ⟨Rect.unit (s := S1x2048x128) (k0_off1 i k) S1x512x128.size (k0_off1_inb i k), keyRows v44 v83 v85 v92 (View.readAt (Elt F) arg4.view (Rect.unit (s := S1x2048x128) (k0_off1 i k) S1x512x128.size (k0_off1_inb i k)).toLoadRect X4) (View.readAt (Elt F) arg5.view (Rect.unit (s := S1x2048x128) (k0_off1 i k) S1x512x128.size (k0_off1_inb i k)).toLoadRect X5) acc (View.readAt (Elt F) arg10.view (Rect.unit (s := S1x2048x128) (k0_off1 i k) S1x512x128.size (k0_off1_inb i k)).toLoadRect f10)⟩] := by
  unfold trip1L10 trip1
  rfl

theorem trip1_pieces11 (k : Fin (k0_t1_loop i).trips) :
    trip1L11 (F := F) c i arg3 harg3 arg4 harg4 arg5 harg5 arg6 harg6 arg7 harg7 arg8 harg8 arg9 harg9 arg10 harg10 arg11 harg11 v44 v83 v85 v92 v93 v110 v111 v122 v123 X4 X5 X6 k acc f10 f11
      = [⟨Rect.unit (s := S1x2048x128) (k0_off2 i k) S1x512x128.size (k0_off2_inb i k), valueRows v44 v83 v85 v92 (View.readAt (Elt F) arg4.view (Rect.unit (s := S1x2048x128) (k0_off2 i k) S1x512x128.size (k0_off2_inb i k)).toLoadRect X4) (tileCarry v44 v83 v85 v92 (View.readAt (Elt F) arg4.view (Rect.unit (s := S1x2048x128) (k0_off1 i k) S1x512x128.size (k0_off1_inb i k)).toLoadRect X4) (View.readAt (Elt F) arg5.view (Rect.unit (s := S1x2048x128) (k0_off1 i k) S1x512x128.size (k0_off1_inb i k)).toLoadRect X5) (View.readAt (Elt F) arg6.view (Rect.unit (s := S1x1x16x128x128) (k0_off3 i k 0#32) S1x1x1x128x128.size (k0_off3_inb i k 0)).toLoadRect X6) (View.readAt (Elt F) arg6.view (Rect.unit (s := S1x1x16x128x128) (k0_off3 i k 1#32) S1x1x1x128x128.size (k0_off3_inb i k 1)).toLoadRect X6) (View.readAt (Elt F) arg6.view (Rect.unit (s := S1x1x16x128x128) (k0_off3 i k 2#32) S1x1x1x128x128.size (k0_off3_inb i k 2)).toLoadRect X6) (View.readAt (Elt F) arg6.view (Rect.unit (s := S1x1x16x128x128) (k0_off3 i k 3#32) S1x1x1x128x128.size (k0_off3_inb i k 3)).toLoadRect X6) acc) (View.readAt (Elt F) arg11.view (Rect.unit (s := S1x2048x128) (k0_off2 i k) S1x512x128.size (k0_off2_inb i k)).toLoadRect f11)⟩,
         ⟨Rect.unit (s := S1x2048x128) (k0_off1 i k) S1x512x128.size (k0_off1_inb i k), valueRows v44 v83 v85 v92 (View.readAt (Elt F) arg4.view (Rect.unit (s := S1x2048x128) (k0_off1 i k) S1x512x128.size (k0_off1_inb i k)).toLoadRect X4) acc (View.readAt (Elt F) arg11.view (Rect.unit (s := S1x2048x128) (k0_off1 i k) S1x512x128.size (k0_off1_inb i k)).toLoadRect f11)⟩] := by
  unfold trip1L11 trip1
  rfl

end

end Cert.KernelIdeal.Hand

end
-- ==== Proof.TileValue.lean ====
/-
  What one tile of keys computes over the extended reals, where everything it reads is real: the carried sums of the
  earlier keys' `log (1 − σ)` and of their logits' gradients move on by the tile's keys, and the weights and the
  scores' gradients are the real ones.
-/
module

public import proofs.«01_k».proof.Proof.Tile
public import proofs.«01_k».proof.Proof.Stick
public import Idealize.ShloMosaic.Lib.Pointwise

@[expose] public section

set_option maxRecDepth 16384
set_option maxHeartbeats 4000000

noncomputable section

namespace Cert.KernelIdeal.Hand

open Cert.KernelIdeal Cert.KernelIdeal.Gen Cert.Stick
open Idealize.ShloMosaic Idealize.ShloMosaic.TcCoe Idealize.ShloMosaic.Tactic
open Finset (range)

/-- A matrix of reals. -/
abbrev Is {m n : ℕ} {t : FTy} (x : FVec Ideal (⟨2, ![m, n]⟩ : Shape) t) (f : ℕ → ℕ → ℝ) : Prop :=
  ∀ (r : Fin m) (c : Fin n), x (ix2 r c) = ((f r.val c.val : ℝ) : EReal)

/-- A matrix of reals whose rows are given by their entries over the 128 lanes. -/
abbrev IsRows {m : ℕ} {t : FTy} (x : FVec Ideal (⟨2, ![m, 128]⟩ : Shape) t) (f : ℕ → Fin 128 → ℝ) : Prop :=
  ∀ (r : Fin m) (d : Fin 128), x (ix2 r d) = ((f r.val d : ℝ) : EReal)

theorem coe_max (a b : ℝ) : max (a : EReal) (b : EReal) = ((max a b : ℝ) : EReal) :=
  (Monotone.map_max (f := fun r : ℝ => (r : EReal)) (fun _ _ h => EReal.coe_le_coe_iff.mpr h)).symm
theorem coe_min (a b : ℝ) : min (a : EReal) (b : EReal) = ((min a b : ℝ) : EReal) :=
  (Monotone.map_min (f := fun r : ℝ => (r : EReal)) (fun _ _ h => EReal.coe_le_coe_iff.mpr h)).symm

theorem absf_coe (x : ℝ) : FloatOps.absf (F := Ideal) (φ := .f32) (x : EReal) = ((|x| : ℝ) : EReal) := by
  show max (x : EReal) (-(x : EReal)) = _
  rw [← EReal.coe_neg, coe_max]
  rfl

/-! ## `log σ` and the scores' gradient, entry by entry -/

theorem logBeta_apply {S : Shape} {z : FVec Ideal S .f32} {j : S.Idx} {x : ℝ} (h : z j = (x : EReal)) :
    logBeta S z j = ((-sp (-x) : ℝ) : EReal) := by
  unfold logBeta zeros ones
  pointwise
  rw [h, absf_coe, sp_neg, ← EReal.coe_zero, ← EReal.coe_one, ← EReal.coe_sub, Ideal.exp_coe, ← EReal.coe_add, Ideal.log_coe,
    if_neg (not_le.mpr (by positivity)), coe_min, ← EReal.coe_sub, zero_sub]

theorem logitGrad_apply {S : Shape} {dl lb pre : FVec Ideal S .f32} {j : S.Idx} {a x p : ℝ} (hd : dl j = (a : EReal))
    (hl : lb j = ((-sp (-x) : ℝ) : EReal)) (hp : pre j = (p : EReal)) :
    logitGrad S dl lb pre j = ((a * (1 - sg x) - p * sg x : ℝ) : EReal) := by
  unfold logitGrad ones
  pointwise
  rw [hd, hl, hp, Ideal.exp_coe, ← EReal.coe_one, ← EReal.coe_sub, ← EReal.coe_mul, ← EReal.coe_mul, ← EReal.coe_sub]
  rfl

/-! ## The prefix sums -/

/-- The strictly lower triangle, twice side by side. -/
abbrev IsTri2 (tri2 : FVec Ideal S128x256 .bf16) : Prop :=
  ∀ (r : Fin 128) (c : Fin 256), tri2 (ix2 r c) = if c.val % 128 < r.val then 1 else 0

theorem tri_coe (f : ℕ → ℝ) (r : Fin 128) :
    ∑ j : Fin 128, (if j.val < r.val then (1 : EReal) else 0) * ((f j.val : ℝ) : EReal) = ((∑ j ∈ range r.val, f j : ℝ) : EReal) := by
  rw [← tri_sum f r.isLt.le, ← coe_sum]
  refine Finset.sum_congr rfl fun j _ => ?_
  split <;> simp

/-- What a block's triangular product must do. -/
abbrev Sums (below : FVec Ideal S128x1024 .f32 → FVec Ideal S128x1024 .f32) : Prop :=
  ∀ (y : FVec Ideal S128x1024 .f32) (f : ℕ → ℕ → ℝ), Is y f → Is (below y) (fun r c => ∑ j ∈ range r, f j c)

theorem below2_sums {tri2 : FVec Ideal S128x256 .bf16} (ht : IsTri2 tri2) : Sums (below2 tri2) := by
  intro y f hy r c
  unfold below2
  pointwise
  simp only [ht, hy]
  have e : ∀ x : Fin 128, ((f x.val c.val : ℝ) : EReal) - ((f x.val c.val : ℝ) : EReal) = 0 := fun x => by
    rw [← EReal.coe_sub, sub_self, EReal.coe_zero]
  simp only [e, mul_zero, Finset.sum_const_zero, add_zero]
  rw [← tri_coe (fun j => f j c.val) r]
  refine Finset.sum_congr rfl fun j _ => ?_
  rw [Nat.mod_eq_of_lt j.isLt]

theorem below1_sums {tri2 : FVec Ideal S128x256 .bf16} (ht : IsTri2 tri2) : Sums (below1 tri2) := by
  intro y f hy r c
  unfold below1
  pointwise
  simp only [ht, hy]
  rw [← tri_coe (fun j => f j c.val) r]
  refine Finset.sum_congr rfl fun j _ => ?_
  congr 1
  simp [Nat.mod_eq_of_lt j.isLt]

section scan
variable {below : FVec Ideal S128x1024 .f32 → FVec Ideal S128x1024 .f32} (hb : Sums below)

include hb in
theorem past_apply {y : FVec Ideal S128x1024 .f32} {f : ℕ → ℕ → ℝ} (hy : Is y f) {tot : FVec Ideal S1x1024 .f32} {T : ℕ → ℝ}
    (h : Is tot (fun _ c => T c)) : Is (past below y tot) (fun _ c => T c + ∑ j ∈ range 128, f j c) := by
  intro r c
  unfold past lastRow
  pointwise
  rw [hb y f hy, hy, h, ← EReal.coe_add, ← EReal.coe_add]
  congr 1
  rw [Finset.sum_range_succ (fun j => f j c.val) 127]
  rfl

include hb in
theorem within_apply {y : FVec Ideal S128x1024 .f32} {f : ℕ → ℕ → ℝ} (hy : Is y f) {tot : FVec Ideal S1x1024 .f32} {T : ℕ → ℝ}
    (h : Is tot (fun _ c => T c)) : Is (within below y tot) (fun r c => T c + ∑ j ∈ range r, f j c) := by
  intro r c
  unfold within
  pointwise
  rw [hb y f hy, h, ← EReal.coe_add, add_comm]

variable {x : FVec Ideal S512x1024 .f32} {f : ℕ → ℕ → ℝ} (hx : Is x f)
include hx
theorem blk0_apply : Is (blk0 x) f := by
  intro r c; unfold blk0; pointwise; exact hx _ _
theorem blk1_apply : Is (blk1 x) (fun r c => f (128 + r) c) := by
  intro r c; unfold blk1; pointwise; exact hx _ _
theorem blk2_apply : Is (blk2 x) (fun r c => f (256 + r) c) := by
  intro r c; unfold blk2; pointwise; exact hx _ _
theorem blk3_apply : Is (blk3 x) (fun r c => f (384 + r) c) := by
  intro r c; unfold blk3; pointwise; exact hx _ _

theorem zeros_apply (S : Shape) (j : S.Idx) : zeros (F := Ideal) S j = ((0 : ℝ) : EReal) := by
  unfold zeros; pointwise; rfl

include hb
theorem sum1_apply : Is (sum1 below x) (fun _ c => ∑ j ∈ range 128, f j c) := by
  have h := past_apply hb (blk0_apply hx) (T := fun _ => 0) (fun r c => zeros_apply hx _ _)
  simp only [zero_add] at h
  exact h
theorem sum2_apply : Is (sum2 below x) (fun _ c => ∑ j ∈ range 256, f j c) := by
  have h := past_apply hb (blk1_apply hx) (sum1_apply hb hx)
  simp only [← sum_range_split] at h
  exact h
theorem sum3_apply : Is (sum3 below x) (fun _ c => ∑ j ∈ range 384, f j c) := by
  have h := past_apply hb (blk2_apply hx) (sum2_apply hb hx)
  simp only [← sum_range_split] at h
  exact h
theorem sum4_apply : Is (sum4 below x) (fun _ c => ∑ j ∈ range 512, f j c) := by
  have h := past_apply hb (blk3_apply hx) (sum3_apply hb hx)
  simp only [← sum_range_split] at h
  exact h

theorem before_apply : Is (before below x) (fun r c => ∑ j ∈ range r, f j c) := by
  have h0 := within_apply hb (blk0_apply hx) (T := fun _ => 0) (fun r c => zeros_apply hx _ _)
  have h1 := within_apply hb (blk1_apply hx) (sum1_apply hb hx)
  have h2 := within_apply hb (blk2_apply hx) (sum2_apply hb hx)
  have h3 := within_apply hb (blk3_apply hx) (sum3_apply hb hx)
  simp only [← sum_range_split, zero_add] at h0 h1 h2 h3
  intro r c
  unfold before
  pointwise
  simp only [h0 _ _, h1 _ _, h2 _ _, h3 _ _]
  split_ifs with a b d
  · rfl
  · congr 3; omega
  · congr 3; omega
  · congr 3; omega
end scan

/-! ## A tile -/

section tile
variable {qs dos : FVec Ideal S1024x128 .bf16} {totv : FVec Ideal S1x1024 .f32} {tri2 : FVec Ideal S128x256 .bf16}
  {k v : Vec Ideal S1x512x128 .bf16} {kt0 kt1 kt2 kt3 : Vec Ideal S1x1x1x128x128 .bf16} {acc : Carry Ideal}
  {K V : ℕ → Fin 128 → ℝ} {X : ℕ → Query} {B : ℕ}

theorem scores_apply {Q : ℕ → Fin 128 → ℝ} (hq : IsRows qs Q)
    (hk : ∀ (r : Fin 512) (d : Fin 128), k (ix3 0 r d) = ((K (B + r) d : ℝ) : EReal)) :
    Is (scores qs k) (fun r c => ∑ d, K (B + r) d * Q c d) := by
  intro r c
  unfold scores
  pointwise
  simp only [hq c, hk]
  exact coe_sum_mul _ _ _

/-- What is carried into the keys from `n` on. -/
def CarryIs (K V : ℕ → Fin 128 → ℝ) (X : ℕ → Query) (acc : Carry Ideal) (n : ℕ) : Prop :=
  Is acc.1 (fun _ c => lkSum K (X c) n) ∧ Is acc.2.1 (fun _ c => dlSum K V (X c) n)
    ∧ ∀ (d : Fin 128) (c : Fin 1024), acc.2.2 (ix2 d c) = ((dq K V (X c) n d : ℝ) : EReal)

variable (hq : IsRows qs (fun c => (X c).q)) (ho : IsRows dos (fun c => (X c).o))
  (htot : Is totv (fun _ c => (X c).tot)) (ht : IsTri2 tri2)
  (hk : ∀ (r : Fin 512) (d : Fin 128), k (ix3 0 r d) = ((K (B + r) d : ℝ) : EReal))
  (hv : ∀ (r : Fin 512) (d : Fin 128), v (ix3 0 r d) = ((V (B + r) d : ℝ) : EReal))
  (hm : ∀ c, c < 1024 → B + 512 ≤ (X c).t) (ha : CarryIs K V X acc B)

include hq hk hm in
theorem keep_apply : Is (keep qs k) (fun r c => lk K (X c) (B + r)) := by
  intro r c
  unfold keep
  have hz := scores_apply hq hk r c
  have hl := logBeta_apply hz
  pointwise
  rw [hl, hz, ← EReal.coe_sub]
  show _ = ((lk K (X c) (B + r) : ℝ) : EReal)
  rw [lk, if_pos (by have := hm c.val c.isLt; omega)]
  congr 1
  rw [← add_sp_neg (z K (X c) (B + r))]
  show -sp (-z K (X c) (B + r)) - z K (X c) (B + r) = -(z K (X c) (B + r) + sp (-z K (X c) (B + r)))
  ring

include hq htot ht hk hm ha in
theorem weights_apply : Is (weights qs totv tri2 k acc) (fun r c => w K (X c) (B + r)) := by
  intro r c
  unfold weights
  have hz := scores_apply hq hk r c
  have hbf := before_apply (below2_sums ht) (keep_apply hq hk hm) r c
  pointwise
  rw [hz, hbf, htot, ha.1, ← EReal.coe_sub, ← EReal.coe_sub, ← EReal.coe_add, Ideal.exp_coe, w,
    if_pos (by have := hm c.val c.isLt; omega), lkSum_add, ← sub_sub]
  rfl

include hq ho htot ht hk hv hm ha in
theorem weightGrad_apply : Is (weightGrad qs dos totv tri2 k v acc) (fun r c => dl K V (X c) (B + r)) := by
  intro r c
  unfold weightGrad
  have hz := scores_apply ho hv r c
  have hw := weights_apply hq htot ht hk hm ha r c
  pointwise
  rw [hz, hw, ← EReal.coe_mul]
  rfl

include hq ho htot ht hk hv hm ha in
theorem scoreGrad_apply : Is (scoreGrad qs dos totv tri2 k v acc) (fun r c => dz K V (X c) (B + r)) := by
  intro r c
  unfold scoreGrad
  have hg := weightGrad_apply hq ho htot ht hk hv hm ha
  have hbf := before_apply (below1_sums ht) hg r c
  have hp : addf (broadcastTo S512x1024 acc.2.1 broadcasts_S1x1024_S512x1024) (before (below1 tri2) (weightGrad qs dos totv tri2 k v acc)) (ix2 r c)
      = ((dlSum K V (X c) (B + r) : ℝ) : EReal) := by
    pointwise
    rw [hbf, ha.2.1, ← EReal.coe_add, dlSum_add]
  have h := logitGrad_apply (hg r c) (logBeta_apply (scores_apply hq hk r c)) hp
  pointwise
  rw [h, dz, if_pos (by have := hm c.val c.isLt; omega)]
  rfl

theorem queryPart_apply {kt : Vec Ideal S1x1x1x128x128 .bf16} {dzb : FVec Ideal S128x1024 .bf16} {n : ℕ} {f : ℕ → ℕ → ℝ}
    (hkt : ∀ d r : Fin 128, kt (ix5 0 0 0 d r) = ((K (n + r) d : ℝ) : EReal)) (hz : Is dzb f) (d : Fin 128) (c : Fin 1024) :
    queryPart kt dzb (ix2 d c) = ((∑ r ∈ range 128, K (n + r) d * f r c : ℝ) : EReal) := by
  unfold queryPart
  pointwise
  simp only [hkt, hz _ c]
  rw [coe_sum_mul, Fin.sum_univ_eq_sum_range (fun r => K (n + r) d * f r c.val) 128]

variable (hkt0 : ∀ d r : Fin 128, kt0 (ix5 0 0 0 d r) = ((K (B + r) d : ℝ) : EReal))
  (hkt1 : ∀ d r : Fin 128, kt1 (ix5 0 0 0 d r) = ((K (B + 128 + r) d : ℝ) : EReal))
  (hkt2 : ∀ d r : Fin 128, kt2 (ix5 0 0 0 d r) = ((K (B + 256 + r) d : ℝ) : EReal))
  (hkt3 : ∀ d r : Fin 128, kt3 (ix5 0 0 0 d r) = ((K (B + 384 + r) d : ℝ) : EReal))

include hq ho htot ht hk hv hm ha hkt0 hkt1 hkt2 hkt3 in
theorem tileCarry_is : CarryIs K V X (tileCarry qs dos totv tri2 k v kt0 kt1 kt2 kt3 acc) (B + 512) := by
  have hg := weightGrad_apply hq ho htot ht hk hv hm ha
  have hz := scoreGrad_apply hq ho htot ht hk hv hm ha
  refine ⟨fun r c => ?_, fun r c => ?_, fun d c => ?_⟩
  · have h := sum4_apply (below2_sums ht) (keep_apply hq hk hm) r c
    show addf acc.1 (sum4 (below2 tri2) (keep qs k)) (ix2 r c) = _
    pointwise
    rw [h, ha.1, ← EReal.coe_add, lkSum_add]
  · have h := sum4_apply (below1_sums ht) hg r c
    show addf acc.2.1 (sum4 (below1 tri2) (weightGrad qs dos totv tri2 k v acc)) (ix2 r c) = _
    pointwise
    rw [h, ha.2.1, ← EReal.coe_add, dlSum_add]
  · show queryStep kt0 kt1 kt2 kt3 (scoreGrad qs dos totv tri2 k v acc) acc.2.2 (ix2 d c) = _
    have z0 : Is (extractStridedSlice S128x1024 ![0, 0] (scoreGrad qs dos totv tri2 k v acc) slices_S512x1024_o0_0_S128x1024)
        (fun r c => dz K V (X c) (B + r)) := by intro r c; pointwise; exact hz _ _
    have z1 : Is (extractStridedSlice S128x1024 ![128, 0] (scoreGrad qs dos totv tri2 k v acc) slices_S512x1024_o128_0_S128x1024)
        (fun r c => dz K V (X c) (B + 128 + r)) := by intro r c; pointwise; rw [hz, add_assoc]
    have z2 : Is (extractStridedSlice S128x1024 ![256, 0] (scoreGrad qs dos totv tri2 k v acc) slices_S512x1024_o256_0_S128x1024)
        (fun r c => dz K V (X c) (B + 256 + r)) := by intro r c; pointwise; rw [hz, add_assoc]
    have z3 : Is (extractStridedSlice S128x1024 ![384, 0] (scoreGrad qs dos totv tri2 k v acc) slices_S512x1024_o384_0_S128x1024)
        (fun r c => dz K V (X c) (B + 384 + r)) := by intro r c; pointwise; rw [hz, add_assoc]
    have q0 := queryPart_apply hkt0 z0 d c
    have q1 := queryPart_apply hkt1 z1 d c
    have q2 := queryPart_apply hkt2 z2 d c
    have q3 := queryPart_apply hkt3 z3 d c
    unfold queryStep
    pointwise
    rw [q0, q1, q2, q3, ha.2.2, ← EReal.coe_add, ← EReal.coe_add, ← EReal.coe_add, ← EReal.coe_add]
    rw [show B + 512 = B + 128 + 128 + 128 + 128 from rfl, dq_add, dq_add, dq_add, dq_add]

/-- The rows a tile's keys add to a gradient of keys or values. -/
theorem addRows_apply {old : Vec Ideal S1x512x128 .f32} {wb : FVec Ideal S512x1024 .bf16} {x : FVec Ideal S1024x128 .bf16}
    {f : ℕ → ℕ → ℝ} {Q : ℕ → Fin 128 → ℝ} (hw : Is wb f) (hx : IsRows x Q) (r : Fin 512) (d : Fin 128) :
    addRows old wb x (ix3 0 r d) = old (ix3 0 r d) + ((∑ c ∈ range 1024, f r c * Q c d : ℝ) : EReal) := by
  unfold addRows rowsOf
  pointwise
  simp only [hw r, hx _ d]
  rw [coe_sum_mul, Fin.sum_univ_eq_sum_range (fun c => f r.val c * Q c d) 1024]

end tile

end Cert.KernelIdeal.Hand

end
-- ==== Proof.Rows.lean ====
/-
  Rows of a block of 2048: what a load of some of them reads, and what is held once to the rows below some row
  something real has been added.
-/
module

public import proofs.«01_k».proof.Proof.TileValue
public import Idealize.ShloMosaic.Lib.VecWindow

@[expose] public section

set_option maxRecDepth 16384
set_option maxHeartbeats 1000000

noncomputable section

namespace Cert.KernelIdeal.Hand

open Cert.KernelIdeal Cert.KernelIdeal.Gen Cert.Stick
open Idealize.ShloMosaic Idealize.ShloMosaic.TcCoe Idealize.ShloMosaic.Tactic
open Finset (range)

/-- Over the contents held before, `g` has been added to the rows below `n`. -/
def Added (v : View sig .tc .vmem S1x2048x128 .f32) (f : v.ty.Contents (Elt Ideal)) (L : List (View.Piece (Elt Ideal) S1x2048x128 .f32))
    (a : Vec Ideal S1x2048x128 .f32) (g : ℕ → Fin 128 → ℝ) (n : ℕ) : Prop :=
  ∀ (R : Fin 2048) (d : Fin 128), View.read (Elt Ideal) v (v.writes (Elt Ideal) f L) (ix3 0 R d)
    = if R.val < n then a (ix3 0 R d) + ((g R.val d : ℝ) : EReal) else a (ix3 0 R d)

section n512
variable {B : ℕ}

theorem emb512 (inb : ∀ a, (![0, B, 0] : Fin 3 → ℕ) a + S1x512x128.size a ≤ S1x2048x128.size a) (r : Fin 512) (d : Fin 128) (h : B + r.val < 2048) :
    (Rect.unit (s := S1x2048x128) ![0, B, 0] S1x512x128.size inb).emb (ix3 0 r d) = ix3 0 ⟨B + r.val, h⟩ d := by
  funext a
  refine Fin.ext ?_
  match a with
  | ⟨0, _⟩ => rfl
  | ⟨1, _⟩ => show B + 1 * r.val = B + r.val; omega
  | ⟨2, _⟩ => show 0 + 1 * d.val = d.val; omega

/-- 512 rows read from row `B` on. -/
theorem read512 {t : EltTy} (v : View sig .tc .vmem S1x2048x128 t) (f : v.ty.Contents (Elt Ideal)) {off : Fin 3 → ℕ}
    (inb : ∀ a, off a + S1x512x128.size a ≤ S1x2048x128.size a) (h : off = ![0, B, 0]) (r : Fin 512) (d : Fin 128) (hB : B + r.val < 2048) :
    View.readAt (Elt Ideal) v (Rect.unit (s := S1x2048x128) off S1x512x128.size inb).toLoadRect f (ix3 0 r d)
      = View.read (Elt Ideal) v f (ix3 0 ⟨B + r.val, hB⟩ d) := by
  subst h
  exact congrArg (View.read (Elt Ideal) v f) (emb512 inb r d hB)

theorem put512 (x : Vec Ideal S1x2048x128 .f32) (w : Vec Ideal S1x512x128 .f32) (R : Fin 2048) (d : Fin 128) :
    VecWindow.put x ![0, B, 0] S1x512x128.size w (ix3 0 R d)
      = if h : B ≤ R.val ∧ R.val < B + 512 then w (ix3 0 ⟨R.val - B, by omega⟩ d) else x (ix3 0 R d) := by
  unfold VecWindow.put
  by_cases h : B ≤ R.val ∧ R.val < B + 512
  · have h' : ∀ a : Fin 3, (![0, B, 0] : Fin 3 → ℕ) a ≤ ((ix3 0 R d : S1x2048x128.Idx) a).val
        ∧ ((ix3 0 R d : S1x2048x128.Idx) a).val < (![0, B, 0] : Fin 3 → ℕ) a + S1x512x128.size a := fun a =>
      match a with
      | ⟨0, _⟩ => ⟨Nat.le_refl 0, Nat.one_pos⟩
      | ⟨1, _⟩ => h
      | ⟨2, _⟩ => ⟨Nat.zero_le _, (show d.val < 0 + 128 by omega)⟩
    rw [dif_pos h]
    refine (dif_pos h').trans (congrArg w ?_)
    funext a
    refine Fin.ext ?_
    match a with
    | ⟨0, _⟩ => rfl
    | ⟨1, _⟩ => rfl
    | ⟨2, _⟩ => rfl
  · rw [dif_neg h]
    exact dif_neg fun h' => h (h' 1)

/-- Adding to the next 512 rows. -/
theorem Added.rows512 {v : View sig .tc .vmem S1x2048x128 .f32} {f : v.ty.Contents (Elt Ideal)} {L : List (View.Piece (Elt Ideal) S1x2048x128 .f32)}
    {a : Vec Ideal S1x2048x128 .f32} {g : ℕ → Fin 128 → ℝ} (hA : Added v f L a g B) {off : Fin 3 → ℕ}
    (inb : ∀ a, off a + S1x512x128.size a ≤ S1x2048x128.size a) (h : off = ![0, B, 0]) (w : Vec Ideal S1x512x128 .f32)
    (hw : ∀ (r : Fin 512) (d : Fin 128), w (ix3 0 r d)
      = View.readAt (Elt Ideal) v (Rect.unit (s := S1x2048x128) off S1x512x128.size inb).toLoadRect (v.writes (Elt Ideal) f L) (ix3 0 r d) + ((g (B + r.val) d : ℝ) : EReal)) :
    Added v f (⟨Rect.unit (s := S1x2048x128) off S1x512x128.size inb, w⟩ :: L) a g (B + 512) := by
  intro R d
  rw [View.read_writes_cons_put v f inb w L h]
  refine (put512 _ w R d).trans ?_
  by_cases h1 : B ≤ R.val ∧ R.val < B + 512
  · rw [dif_pos h1, if_pos h1.2, hw, read512 v _ inb h _ d (by show B + (R.val - B) < 2048; omega)]
    have e : (⟨B + (R.val - B), by omega⟩ : Fin 2048) = R := Fin.ext (by show B + (R.val - B) = R.val; omega)
    show View.read (Elt Ideal) v (v.writes (Elt Ideal) f L) (ix3 0 (⟨B + (R.val - B), by omega⟩ : Fin 2048) d) + ((g (B + (R.val - B)) d : ℝ) : EReal) = _
    rw [e, hA R d, if_neg (by omega), Nat.add_sub_cancel' h1.1]
  · rw [dif_neg h1, hA R d]
    by_cases h2 : R.val < B
    · rw [if_pos h2, if_pos (by omega)]
    · rw [if_neg h2, if_neg (by omega)]

/-- The same, where what is added to was read before the last rows below `B` were written. -/
theorem Added.rows512_early {v : View sig .tc .vmem S1x2048x128 .f32} {f : v.ty.Contents (Elt Ideal)} {L L' : List (View.Piece (Elt Ideal) S1x2048x128 .f32)}
    {a : Vec Ideal S1x2048x128 .f32} {g : ℕ → Fin 128 → ℝ} {B' : ℕ} (hA : Added v f L a g B) (hA' : Added v f L' a g B') (hB : B' ≤ B) {off : Fin 3 → ℕ}
    (inb : ∀ a, off a + S1x512x128.size a ≤ S1x2048x128.size a) (h : off = ![0, B, 0]) (hr : B + 512 ≤ 2048) (w : Vec Ideal S1x512x128 .f32)
    (hw : ∀ (r : Fin 512) (d : Fin 128), w (ix3 0 r d)
      = View.readAt (Elt Ideal) v (Rect.unit (s := S1x2048x128) off S1x512x128.size inb).toLoadRect (v.writes (Elt Ideal) f L') (ix3 0 r d) + ((g (B + r.val) d : ℝ) : EReal)) :
    Added v f (⟨Rect.unit (s := S1x2048x128) off S1x512x128.size inb, w⟩ :: L) a g (B + 512) := by
  refine hA.rows512 inb h w fun r d => ?_
  have hr' := r.isLt
  rw [hw r d, read512 v _ inb h r d (by omega), read512 v _ inb h r d (by omega), hA, hA']
  show (if B + r.val < B' then _ else _) + _ = (if B + r.val < B then _ else _) + _
  rw [if_neg (by omega), if_neg (by omega)]

end n512

section n128
variable {B : ℕ}

theorem emb128 (inb : ∀ a, (![0, B, 0] : Fin 3 → ℕ) a + S1x128x128.size a ≤ S1x2048x128.size a) (r : Fin 128) (d : Fin 128) (h : B + r.val < 2048) :
    (Rect.unit (s := S1x2048x128) ![0, B, 0] S1x128x128.size inb).emb (ix3 0 r d) = ix3 0 ⟨B + r.val, h⟩ d := by
  funext a
  refine Fin.ext ?_
  match a with
  | ⟨0, _⟩ => rfl
  | ⟨1, _⟩ => show B + 1 * r.val = B + r.val; omega
  | ⟨2, _⟩ => show 0 + 1 * d.val = d.val; omega

/-- 128 rows read from row `B` on. -/
theorem read128 {t : EltTy} (v : View sig .tc .vmem S1x2048x128 t) (f : v.ty.Contents (Elt Ideal)) {off : Fin 3 → ℕ}
    (inb : ∀ a, off a + S1x128x128.size a ≤ S1x2048x128.size a) (h : off = ![0, B, 0]) (r : Fin 128) (d : Fin 128) (hB : B + r.val < 2048) :
    View.readAt (Elt Ideal) v (Rect.unit (s := S1x2048x128) off S1x128x128.size inb).toLoadRect f (ix3 0 r d)
      = View.read (Elt Ideal) v f (ix3 0 ⟨B + r.val, hB⟩ d) := by
  subst h
  exact congrArg (View.read (Elt Ideal) v f) (emb128 inb r d hB)

theorem put128 (x : Vec Ideal S1x2048x128 .f32) (w : Vec Ideal S1x128x128 .f32) (R : Fin 2048) (d : Fin 128) :
    VecWindow.put x ![0, B, 0] S1x128x128.size w (ix3 0 R d)
      = if h : B ≤ R.val ∧ R.val < B + 128 then w (ix3 0 ⟨R.val - B, by omega⟩ d) else x (ix3 0 R d) := by
  unfold VecWindow.put
  by_cases h : B ≤ R.val ∧ R.val < B + 128
  · have h' : ∀ a : Fin 3, (![0, B, 0] : Fin 3 → ℕ) a ≤ ((ix3 0 R d : S1x2048x128.Idx) a).val
        ∧ ((ix3 0 R d : S1x2048x128.Idx) a).val < (![0, B, 0] : Fin 3 → ℕ) a + S1x128x128.size a := fun a =>
      match a with
      | ⟨0, _⟩ => ⟨Nat.le_refl 0, Nat.one_pos⟩
      | ⟨1, _⟩ => h
      | ⟨2, _⟩ => ⟨Nat.zero_le _, (show d.val < 0 + 128 by omega)⟩
    rw [dif_pos h]
    refine (dif_pos h').trans (congrArg w ?_)
    funext a
    refine Fin.ext ?_
    match a with
    | ⟨0, _⟩ => rfl
    | ⟨1, _⟩ => rfl
    | ⟨2, _⟩ => rfl
  · rw [dif_neg h]
    exact dif_neg fun h' => h (h' 1)

/-- Adding to the next 128 rows. -/
theorem Added.rows128 {v : View sig .tc .vmem S1x2048x128 .f32} {f : v.ty.Contents (Elt Ideal)} {L : List (View.Piece (Elt Ideal) S1x2048x128 .f32)}
    {a : Vec Ideal S1x2048x128 .f32} {g : ℕ → Fin 128 → ℝ} (hA : Added v f L a g B) {off : Fin 3 → ℕ}
    (inb : ∀ a, off a + S1x128x128.size a ≤ S1x2048x128.size a) (h : off = ![0, B, 0]) (w : Vec Ideal S1x128x128 .f32)
    (hw : ∀ (r : Fin 128) (d : Fin 128), w (ix3 0 r d)
      = View.readAt (Elt Ideal) v (Rect.unit (s := S1x2048x128) off S1x128x128.size inb).toLoadRect (v.writes (Elt Ideal) f L) (ix3 0 r d) + ((g (B + r.val) d : ℝ) : EReal)) :
    Added v f (⟨Rect.unit (s := S1x2048x128) off S1x128x128.size inb, w⟩ :: L) a g (B + 128) := by
  intro R d
  rw [View.read_writes_cons_put v f inb w L h]
  refine (put128 _ w R d).trans ?_
  by_cases h1 : B ≤ R.val ∧ R.val < B + 128
  · rw [dif_pos h1, if_pos h1.2, hw, read128 v _ inb h _ d (by show B + (R.val - B) < 2048; omega)]
    have e : (⟨B + (R.val - B), by omega⟩ : Fin 2048) = R := Fin.ext (by show B + (R.val - B) = R.val; omega)
    show View.read (Elt Ideal) v (v.writes (Elt Ideal) f L) (ix3 0 (⟨B + (R.val - B), by omega⟩ : Fin 2048) d) + ((g (B + (R.val - B)) d : ℝ) : EReal) = _
    rw [e, hA R d, if_neg (by omega), Nat.add_sub_cancel' h1.1]
  · rw [dif_neg h1, hA R d]
    by_cases h2 : R.val < B
    · rw [if_pos h2, if_pos (by omega)]
    · rw [if_neg h2, if_neg (by omega)]

/-- The same, where what is added to was read before the last rows below `B` were written. -/
theorem Added.rows128_early {v : View sig .tc .vmem S1x2048x128 .f32} {f : v.ty.Contents (Elt Ideal)} {L L' : List (View.Piece (Elt Ideal) S1x2048x128 .f32)}
    {a : Vec Ideal S1x2048x128 .f32} {g : ℕ → Fin 128 → ℝ} {B' : ℕ} (hA : Added v f L a g B) (hA' : Added v f L' a g B') (hB : B' ≤ B) {off : Fin 3 → ℕ}
    (inb : ∀ a, off a + S1x128x128.size a ≤ S1x2048x128.size a) (h : off = ![0, B, 0]) (hr : B + 128 ≤ 2048) (w : Vec Ideal S1x128x128 .f32)
    (hw : ∀ (r : Fin 128) (d : Fin 128), w (ix3 0 r d)
      = View.readAt (Elt Ideal) v (Rect.unit (s := S1x2048x128) off S1x128x128.size inb).toLoadRect (v.writes (Elt Ideal) f L') (ix3 0 r d) + ((g (B + r.val) d : ℝ) : EReal)) :
    Added v f (⟨Rect.unit (s := S1x2048x128) off S1x128x128.size inb, w⟩ :: L) a g (B + 128) := by
  refine hA.rows128 inb h w fun r d => ?_
  have hr' := r.isLt
  rw [hw r d, read128 v _ inb h r d (by omega), read128 v _ inb h r d (by omega), hA, hA']
  show (if B + r.val < B' then _ else _) + _ = (if B + r.val < B then _ else _) + _
  rw [if_neg (by omega), if_neg (by omega)]

end n128

/-- A block of the transposed keys. -/
theorem readT (v : View sig .tc .vmem S1x1x16x128x128 .bf16) (f : v.ty.Contents (Elt Ideal)) {b : ℕ} {off : Fin 5 → ℕ}
    (inb : ∀ a, off a + S1x1x1x128x128.size a ≤ S1x1x16x128x128.size a) (h : off = ![0, 0, b, 0, 0]) (hb : b < 16) (d r : Fin 128) :
    View.readAt (Elt Ideal) v (Rect.unit (s := S1x1x16x128x128) off S1x1x1x128x128.size inb).toLoadRect f (ix5 0 0 0 d r)
      = View.read (Elt Ideal) v f (ix5 0 0 ⟨b, hb⟩ d r) := by
  subst h
  refine congrArg (View.read (Elt Ideal) v f) (funext fun a => Fin.ext ?_)
  match a with
  | ⟨0, _⟩ => rfl
  | ⟨1, _⟩ => rfl
  | ⟨2, _⟩ => rfl
  | ⟨3, _⟩ => show 0 + 1 * d.val = d.val; omega
  | ⟨4, _⟩ => show 0 + 1 * r.val = r.val; omega

end Cert.KernelIdeal.Hand

end
-- ==== Proof.Top.lean ====
/-
  The tile at the diagonal, as the kernel computes it: four blocks of 128 keys, each against only those stacked queries
  that see one of its keys (the last 1024, 768, 512, 256 columns), masked on the first 256 of them. The definitions are
  written once per width, over any float values.
-/
module

public import proofs.«01_k».proof.Proof.Tile

@[expose] public section

set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.Tactic

variable {F : FTy → Type} [FloatOps F]

/-- A column's row of its block of queries: the column modulo 128, as the kernel writes it. -/
def wide : BitVec 32 := Scalar.select (Scalar.cmpi .eq 128#32 0#32) 1#32 128#32
def colRem : IVec S128x256 32 := remsi (iota .tc S128x256 32 [1] iota_S128x256_d1_w32) (broadcast S128x256 wide)
def colMod : IVec S128x256 32 :=
  select (andi (xori (cmpi .slt colRem (broadcast S128x256 0#32))
      (broadcastTo S128x256 (broadcast S128x256 (Scalar.cmpi .slt wide 0#32)) broadcasts_S128x256_S128x256))
      (cmpi .ne colRem (broadcast S128x256 0#32)))
    (addi colRem (broadcast S128x256 wide)) colRem
/-- Whether a key of a block comes before a query of the same block. -/
def diagMask : IVec S128x256 1 := cmpi .slt (iota .tc S128x256 32 [0] iota_S128x256_d0_w32) colMod

/-! ## The block that the last 1024 columns see -/

/-- Those columns of the queries, of a row of totals, of the queries' gradient; and adding to them. -/
def cutRows1024 (x : FVec F S1024x128 .bf16) : FVec F S1024x128 .bf16 := x
def cutRow1024 (x : FVec F S1x1024 .f32) : FVec F S1x1024 .f32 := x
def addRow1024 (x : FVec F S1x1024 .f32) (y : FVec F S1x1024 .f32) : FVec F S1x1024 .f32 := addf x y
def addCols1024 (x : FVec F S128x1024 .f32) (y : FVec F S128x1024 .f32) : FVec F S128x1024 .f32 := addf x y
/-- Keeping, of the first 256 columns, what comes before the query. -/
def diag1024 (y : FVec F S128x1024 .f32) : FVec F S128x1024 .f32 :=
  concatenate S128x1024 1 [⟨S128x256, select diagMask (extractStridedSlice S128x256 ![0, 0] y slices_S128x1024_o0_0_S128x256) (zeros S128x256)⟩,
    ⟨S128x768, extractStridedSlice S128x768 ![0, 256] y slices_S128x1024_o0_256_S128x768⟩] concatenates_S128x256_S128x768_S128x1024_d1
def scores1024 (x : FVec F S1024x128 .bf16) (k : Vec F S1x128x128 .bf16) : FVec F S128x1024 .f32 :=
  matmul dot_S128x128_S1024x128_S128x1024_1_1_0_0_n_n none (shapeCast S128x128 k shapeCasts_S1x128x128_S128x128) x
    (constant S128x1024 .f32 0x00000000#32)
def under2_1024 (tri2 : FVec F S128x256 .bf16) (y : FVec F S128x1024 .f32) : FVec F S128x1024 .f32 :=
  matmul dot_S128x256_S256x1024_S128x1024_1_0_0_1_n_n none tri2
    (concatenate S256x1024 0 [⟨S128x1024, truncf .bf16 y bitsLt_bf16_f32⟩,
      ⟨S128x1024, truncf .bf16 (subf y (extf .f32 (truncf .bf16 y bitsLt_bf16_f32) bitsLt_bf16_f32)) bitsLt_bf16_f32⟩]
      concatenates_S128x1024_S128x1024_S256x1024_d0) (constant S128x1024 .f32 0x00000000#32)
def under1_1024 (tri2 : FVec F S128x256 .bf16) (y : FVec F S128x1024 .f32) : FVec F S128x1024 .f32 :=
  matmul dot_S128x128_S128x1024_S128x1024_1_0_0_1_n_n none
    (extractStridedSlice S128x128 ![0, 0] tri2 slices_S128x256_o0_0_S128x128) (truncf .bf16 y bitsLt_bf16_f32)
    (constant S128x1024 .f32 0x00000000#32)
def last1024 (y : FVec F S128x1024 .f32) : FVec F S1x1024 .f32 :=
  extractStridedSlice S1x1024 ![127, 0] y slices_S128x1024_o127_0_S1x1024

section
variable (qs dos : FVec F S1024x128 .bf16) (tri2 : FVec F S128x256 .bf16) (k v : Vec F S1x128x128 .bf16)
  (kt : Vec F S1x1x1x128x128 .bf16) (acc : Carry F)
def keep1024 : FVec F S128x1024 .f32 :=
  diag1024 (subf (logBeta S128x1024 (scores1024 (cutRows1024 qs) k)) (scores1024 (cutRows1024 qs) k))
def weights1024 : FVec F S128x1024 .f32 :=
  diag1024 (exp (addf (scores1024 (cutRows1024 qs) k)
    (subf (broadcastTo S128x1024 (cutRow1024 acc.1) broadcasts_S1x1024_S128x1024) (under2_1024 tri2 (keep1024 qs k)))))
def weightGrad1024 : FVec F S128x1024 .f32 := mulf (scores1024 (cutRows1024 dos) v) (weights1024 qs tri2 k acc)
def scoreGrad1024 : FVec F S128x1024 .bf16 :=
  truncf .bf16 (diag1024 (logitGrad S128x1024 (weightGrad1024 qs dos tri2 k v acc) (logBeta S128x1024 (scores1024 (cutRows1024 qs) k))
    (addf (broadcastTo S128x1024 (cutRow1024 acc.2.1) broadcasts_S1x1024_S128x1024) (under1_1024 tri2 (weightGrad1024 qs dos tri2 k v acc)))))
    bitsLt_bf16_f32
def queryPart1024 : FVec F S128x1024 .f32 :=
  matmul dot_S128x128_S128x1024_S128x1024_1_0_0_1_n_n none (shapeCast S128x128 kt shapeCasts_S1x1x1x128x128_S128x128)
    (scoreGrad1024 qs dos tri2 k v acc) (constant S128x1024 .f32 0x00000000#32)
/-- What is carried past the block. -/
def carry1024 : Carry F :=
  (addRow1024 acc.1 (subf (zeros S1x1024) (addf (last1024 (under2_1024 tri2 (keep1024 qs k))) (last1024 (keep1024 qs k)))),
    addRow1024 acc.2.1 (addf (last1024 (under1_1024 tri2 (weightGrad1024 qs dos tri2 k v acc))) (last1024 (weightGrad1024 qs dos tri2 k v acc))),
    addCols1024 acc.2.2 (queryPart1024 qs dos tri2 k v kt acc))
def addBlock1024 (old : Vec F S1x128x128 .f32) (w : FVec F S128x1024 .bf16) (x : FVec F S1024x128 .bf16) : Vec F S1x128x128 .f32 :=
  shapeCast S1x128x128 (addf (shapeCast S128x128 old shapeCasts_S1x128x128_S128x128)
    (matmul dot_S128x1024_S1024x128_S128x128_1_0_0_1_n_n none w x (constant S128x128 .f32 0x00000000#32))) shapeCasts_S128x128_S1x128x128
def keyBlock1024 (old : Vec F S1x128x128 .f32) : Vec F S1x128x128 .f32 :=
  addBlock1024 old (scoreGrad1024 qs dos tri2 k v acc) (cutRows1024 qs)
def valueBlock1024 (old : Vec F S1x128x128 .f32) : Vec F S1x128x128 .f32 :=
  addBlock1024 old (truncf .bf16 (weights1024 qs tri2 k acc) bitsLt_bf16_f32) (cutRows1024 dos)
end

/-! ## The block that the last 768 columns see -/

/-- Those columns of the queries, of a row of totals, of the queries' gradient; and adding to them. -/
def cutRows768 (x : FVec F S1024x128 .bf16) : FVec F S768x128 .bf16 := extractStridedSlice S768x128 ![256, 0] x slices_S1024x128_o256_0_S768x128
def cutRow768 (x : FVec F S1x1024 .f32) : FVec F S1x768 .f32 := extractStridedSlice S1x768 ![0, 256] x slices_S1x1024_o0_256_S1x768
def addRow768 (x : FVec F S1x1024 .f32) (y : FVec F S1x768 .f32) : FVec F S1x1024 .f32 :=
  concatenate S1x1024 1 [⟨S1x256, extractStridedSlice S1x256 ![0, 0] x slices_S1x1024_o0_0_S1x256⟩,
    ⟨S1x768, addf (extractStridedSlice S1x768 ![0, 256] x slices_S1x1024_o0_256_S1x768) y⟩] concatenates_S1x256_S1x768_S1x1024_d1
def addCols768 (x : FVec F S128x1024 .f32) (y : FVec F S128x768 .f32) : FVec F S128x1024 .f32 :=
  concatenate S128x1024 1 [⟨S128x256, extractStridedSlice S128x256 ![0, 0] x slices_S128x1024_o0_0_S128x256⟩,
    ⟨S128x768, addf (extractStridedSlice S128x768 ![0, 256] x slices_S128x1024_o0_256_S128x768) y⟩] concatenates_S128x256_S128x768_S128x1024_d1
/-- Keeping, of the first 256 columns, what comes before the query. -/
def diag768 (y : FVec F S128x768 .f32) : FVec F S128x768 .f32 :=
  concatenate S128x768 1 [⟨S128x256, select diagMask (extractStridedSlice S128x256 ![0, 0] y slices_S128x768_o0_0_S128x256) (zeros S128x256)⟩,
    ⟨S128x512, extractStridedSlice S128x512 ![0, 256] y slices_S128x768_o0_256_S128x512⟩] concatenates_S128x256_S128x512_S128x768_d1
def scores768 (x : FVec F S768x128 .bf16) (k : Vec F S1x128x128 .bf16) : FVec F S128x768 .f32 :=
  matmul dot_S128x128_S768x128_S128x768_1_1_0_0_n_n none (shapeCast S128x128 k shapeCasts_S1x128x128_S128x128) x
    (constant S128x768 .f32 0x00000000#32)
def under2_768 (tri2 : FVec F S128x256 .bf16) (y : FVec F S128x768 .f32) : FVec F S128x768 .f32 :=
  matmul dot_S128x256_S256x768_S128x768_1_0_0_1_n_n none tri2
    (concatenate S256x768 0 [⟨S128x768, truncf .bf16 y bitsLt_bf16_f32⟩,
      ⟨S128x768, truncf .bf16 (subf y (extf .f32 (truncf .bf16 y bitsLt_bf16_f32) bitsLt_bf16_f32)) bitsLt_bf16_f32⟩]
      concatenates_S128x768_S128x768_S256x768_d0) (constant S128x768 .f32 0x00000000#32)
def under1_768 (tri2 : FVec F S128x256 .bf16) (y : FVec F S128x768 .f32) : FVec F S128x768 .f32 :=
  matmul dot_S128x128_S128x768_S128x768_1_0_0_1_n_n none
    (extractStridedSlice S128x128 ![0, 0] tri2 slices_S128x256_o0_0_S128x128) (truncf .bf16 y bitsLt_bf16_f32)
    (constant S128x768 .f32 0x00000000#32)
def last768 (y : FVec F S128x768 .f32) : FVec F S1x768 .f32 :=
  extractStridedSlice S1x768 ![127, 0] y slices_S128x768_o127_0_S1x768

section
variable (qs dos : FVec F S1024x128 .bf16) (tri2 : FVec F S128x256 .bf16) (k v : Vec F S1x128x128 .bf16)
  (kt : Vec F S1x1x1x128x128 .bf16) (acc : Carry F)
def keep768 : FVec F S128x768 .f32 :=
  diag768 (subf (logBeta S128x768 (scores768 (cutRows768 qs) k)) (scores768 (cutRows768 qs) k))
def weights768 : FVec F S128x768 .f32 :=
  diag768 (exp (addf (scores768 (cutRows768 qs) k)
    (subf (broadcastTo S128x768 (cutRow768 acc.1) broadcasts_S1x768_S128x768) (under2_768 tri2 (keep768 qs k)))))
def weightGrad768 : FVec F S128x768 .f32 := mulf (scores768 (cutRows768 dos) v) (weights768 qs tri2 k acc)
def scoreGrad768 : FVec F S128x768 .bf16 :=
  truncf .bf16 (diag768 (logitGrad S128x768 (weightGrad768 qs dos tri2 k v acc) (logBeta S128x768 (scores768 (cutRows768 qs) k))
    (addf (broadcastTo S128x768 (cutRow768 acc.2.1) broadcasts_S1x768_S128x768) (under1_768 tri2 (weightGrad768 qs dos tri2 k v acc)))))
    bitsLt_bf16_f32
def queryPart768 : FVec F S128x768 .f32 :=
  matmul dot_S128x128_S128x768_S128x768_1_0_0_1_n_n none (shapeCast S128x128 kt shapeCasts_S1x1x1x128x128_S128x128)
    (scoreGrad768 qs dos tri2 k v acc) (constant S128x768 .f32 0x00000000#32)
/-- What is carried past the block. -/
def carry768 : Carry F :=
  (addRow768 acc.1 (subf (zeros S1x768) (addf (last768 (under2_768 tri2 (keep768 qs k))) (last768 (keep768 qs k)))),
    addRow768 acc.2.1 (addf (last768 (under1_768 tri2 (weightGrad768 qs dos tri2 k v acc))) (last768 (weightGrad768 qs dos tri2 k v acc))),
    addCols768 acc.2.2 (queryPart768 qs dos tri2 k v kt acc))
def addBlock768 (old : Vec F S1x128x128 .f32) (w : FVec F S128x768 .bf16) (x : FVec F S768x128 .bf16) : Vec F S1x128x128 .f32 :=
  shapeCast S1x128x128 (addf (shapeCast S128x128 old shapeCasts_S1x128x128_S128x128)
    (matmul dot_S128x768_S768x128_S128x128_1_0_0_1_n_n none w x (constant S128x128 .f32 0x00000000#32))) shapeCasts_S128x128_S1x128x128
def keyBlock768 (old : Vec F S1x128x128 .f32) : Vec F S1x128x128 .f32 :=
  addBlock768 old (scoreGrad768 qs dos tri2 k v acc) (cutRows768 qs)
def valueBlock768 (old : Vec F S1x128x128 .f32) : Vec F S1x128x128 .f32 :=
  addBlock768 old (truncf .bf16 (weights768 qs tri2 k acc) bitsLt_bf16_f32) (cutRows768 dos)
end

/-! ## The block that the last 512 columns see -/

/-- Those columns of the queries, of a row of totals, of the queries' gradient; and adding to them. -/
def cutRows512 (x : FVec F S1024x128 .bf16) : FVec F S512x128 .bf16 := extractStridedSlice S512x128 ![512, 0] x slices_S1024x128_o512_0_S512x128
def cutRow512 (x : FVec F S1x1024 .f32) : FVec F S1x512 .f32 := extractStridedSlice S1x512 ![0, 512] x slices_S1x1024_o0_512_S1x512
def addRow512 (x : FVec F S1x1024 .f32) (y : FVec F S1x512 .f32) : FVec F S1x1024 .f32 :=
  concatenate S1x1024 1 [⟨S1x512, extractStridedSlice S1x512 ![0, 0] x slices_S1x1024_o0_0_S1x512⟩,
    ⟨S1x512, addf (extractStridedSlice S1x512 ![0, 512] x slices_S1x1024_o0_512_S1x512) y⟩] concatenates_S1x512_S1x512_S1x1024_d1
def addCols512 (x : FVec F S128x1024 .f32) (y : FVec F S128x512 .f32) : FVec F S128x1024 .f32 :=
  concatenate S128x1024 1 [⟨S128x512, extractStridedSlice S128x512 ![0, 0] x slices_S128x1024_o0_0_S128x512⟩,
    ⟨S128x512, addf (extractStridedSlice S128x512 ![0, 512] x slices_S128x1024_o0_512_S128x512) y⟩] concatenates_S128x512_S128x512_S128x1024_d1
/-- Keeping, of the first 256 columns, what comes before the query. -/
def diag512 (y : FVec F S128x512 .f32) : FVec F S128x512 .f32 :=
  concatenate S128x512 1 [⟨S128x256, select diagMask (extractStridedSlice S128x256 ![0, 0] y slices_S128x512_o0_0_S128x256) (zeros S128x256)⟩,
    ⟨S128x256, extractStridedSlice S128x256 ![0, 256] y slices_S128x512_o0_256_S128x256⟩] concatenates_S128x256_S128x256_S128x512_d1
def scores512 (x : FVec F S512x128 .bf16) (k : Vec F S1x128x128 .bf16) : FVec F S128x512 .f32 :=
  matmul dot_S128x128_S512x128_S128x512_1_1_0_0_n_n none (shapeCast S128x128 k shapeCasts_S1x128x128_S128x128) x
    (constant S128x512 .f32 0x00000000#32)
def under2_512 (tri2 : FVec F S128x256 .bf16) (y : FVec F S128x512 .f32) : FVec F S128x512 .f32 :=
  matmul dot_S128x256_S256x512_S128x512_1_0_0_1_n_n none tri2
    (concatenate S256x512 0 [⟨S128x512, truncf .bf16 y bitsLt_bf16_f32⟩,
      ⟨S128x512, truncf .bf16 (subf y (extf .f32 (truncf .bf16 y bitsLt_bf16_f32) bitsLt_bf16_f32)) bitsLt_bf16_f32⟩]
      concatenates_S128x512_S128x512_S256x512_d0) (constant S128x512 .f32 0x00000000#32)
def under1_512 (tri2 : FVec F S128x256 .bf16) (y : FVec F S128x512 .f32) : FVec F S128x512 .f32 :=
  matmul dot_S128x128_S128x512_S128x512_1_0_0_1_n_n none
    (extractStridedSlice S128x128 ![0, 0] tri2 slices_S128x256_o0_0_S128x128) (truncf .bf16 y bitsLt_bf16_f32)
    (constant S128x512 .f32 0x00000000#32)
def last512 (y : FVec F S128x512 .f32) : FVec F S1x512 .f32 :=
  extractStridedSlice S1x512 ![127, 0] y slices_S128x512_o127_0_S1x512

section
variable (qs dos : FVec F S1024x128 .bf16) (tri2 : FVec F S128x256 .bf16) (k v : Vec F S1x128x128 .bf16)
  (kt : Vec F S1x1x1x128x128 .bf16) (acc : Carry F)
def keep512 : FVec F S128x512 .f32 :=
  diag512 (subf (logBeta S128x512 (scores512 (cutRows512 qs) k)) (scores512 (cutRows512 qs) k))
def weights512 : FVec F S128x512 .f32 :=
  diag512 (exp (addf (scores512 (cutRows512 qs) k)
    (subf (broadcastTo S128x512 (cutRow512 acc.1) broadcasts_S1x512_S128x512) (under2_512 tri2 (keep512 qs k)))))
def weightGrad512 : FVec F S128x512 .f32 := mulf (scores512 (cutRows512 dos) v) (weights512 qs tri2 k acc)
def scoreGrad512 : FVec F S128x512 .bf16 :=
  truncf .bf16 (diag512 (logitGrad S128x512 (weightGrad512 qs dos tri2 k v acc) (logBeta S128x512 (scores512 (cutRows512 qs) k))
    (addf (broadcastTo S128x512 (cutRow512 acc.2.1) broadcasts_S1x512_S128x512) (under1_512 tri2 (weightGrad512 qs dos tri2 k v acc)))))
    bitsLt_bf16_f32
def queryPart512 : FVec F S128x512 .f32 :=
  matmul dot_S128x128_S128x512_S128x512_1_0_0_1_n_n none (shapeCast S128x128 kt shapeCasts_S1x1x1x128x128_S128x128)
    (scoreGrad512 qs dos tri2 k v acc) (constant S128x512 .f32 0x00000000#32)
/-- What is carried past the block. -/
def carry512 : Carry F :=
  (addRow512 acc.1 (subf (zeros S1x512) (addf (last512 (under2_512 tri2 (keep512 qs k))) (last512 (keep512 qs k)))),
    addRow512 acc.2.1 (addf (last512 (under1_512 tri2 (weightGrad512 qs dos tri2 k v acc))) (last512 (weightGrad512 qs dos tri2 k v acc))),
    addCols512 acc.2.2 (queryPart512 qs dos tri2 k v kt acc))
def addBlock512 (old : Vec F S1x128x128 .f32) (w : FVec F S128x512 .bf16) (x : FVec F S512x128 .bf16) : Vec F S1x128x128 .f32 :=
  shapeCast S1x128x128 (addf (shapeCast S128x128 old shapeCasts_S1x128x128_S128x128)
    (matmul dot_S128x512_S512x128_S128x128_1_0_0_1_n_n none w x (constant S128x128 .f32 0x00000000#32))) shapeCasts_S128x128_S1x128x128
def keyBlock512 (old : Vec F S1x128x128 .f32) : Vec F S1x128x128 .f32 :=
  addBlock512 old (scoreGrad512 qs dos tri2 k v acc) (cutRows512 qs)
def valueBlock512 (old : Vec F S1x128x128 .f32) : Vec F S1x128x128 .f32 :=
  addBlock512 old (truncf .bf16 (weights512 qs tri2 k acc) bitsLt_bf16_f32) (cutRows512 dos)
end

/-! ## The block that the last 256 columns see -/

/-- Those columns of the queries, of a row of totals, of the queries' gradient; and adding to them. -/
def cutRows256 (x : FVec F S1024x128 .bf16) : FVec F S256x128 .bf16 := extractStridedSlice S256x128 ![768, 0] x slices_S1024x128_o768_0_S256x128
def cutRow256 (x : FVec F S1x1024 .f32) : FVec F S1x256 .f32 := extractStridedSlice S1x256 ![0, 768] x slices_S1x1024_o0_768_S1x256
def addCols256 (x : FVec F S128x1024 .f32) (y : FVec F S128x256 .f32) : FVec F S128x1024 .f32 :=
  concatenate S128x1024 1 [⟨S128x768, extractStridedSlice S128x768 ![0, 0] x slices_S128x1024_o0_0_S128x768⟩,
    ⟨S128x256, addf (extractStridedSlice S128x256 ![0, 768] x slices_S128x1024_o0_768_S128x256) y⟩] concatenates_S128x768_S128x256_S128x1024_d1
/-- Keeping, of the first 256 columns, what comes before the query. -/
def diag256 (y : FVec F S128x256 .f32) : FVec F S128x256 .f32 := select diagMask y (zeros S128x256)
def scores256 (x : FVec F S256x128 .bf16) (k : Vec F S1x128x128 .bf16) : FVec F S128x256 .f32 :=
  matmul dot_S128x128_S256x128_S128x256_1_1_0_0_n_n none (shapeCast S128x128 k shapeCasts_S1x128x128_S128x128) x
    (constant S128x256 .f32 0x00000000#32)
def under2_256 (tri2 : FVec F S128x256 .bf16) (y : FVec F S128x256 .f32) : FVec F S128x256 .f32 :=
  matmul dot_S128x256_S256x256_S128x256_1_0_0_1_n_n none tri2
    (concatenate S256x256 0 [⟨S128x256, truncf .bf16 y bitsLt_bf16_f32⟩,
      ⟨S128x256, truncf .bf16 (subf y (extf .f32 (truncf .bf16 y bitsLt_bf16_f32) bitsLt_bf16_f32)) bitsLt_bf16_f32⟩]
      concatenates_S128x256_S128x256_S256x256_d0) (constant S128x256 .f32 0x00000000#32)
def under1_256 (tri2 : FVec F S128x256 .bf16) (y : FVec F S128x256 .f32) : FVec F S128x256 .f32 :=
  matmul dot_S128x128_S128x256_S128x256_1_0_0_1_n_n none
    (extractStridedSlice S128x128 ![0, 0] tri2 slices_S128x256_o0_0_S128x128) (truncf .bf16 y bitsLt_bf16_f32)
    (constant S128x256 .f32 0x00000000#32)
section
variable (qs dos : FVec F S1024x128 .bf16) (tri2 : FVec F S128x256 .bf16) (k v : Vec F S1x128x128 .bf16)
  (kt : Vec F S1x1x1x128x128 .bf16) (acc : Carry F)
def keep256 : FVec F S128x256 .f32 :=
  diag256 (subf (logBeta S128x256 (scores256 (cutRows256 qs) k)) (scores256 (cutRows256 qs) k))
def weights256 : FVec F S128x256 .f32 :=
  diag256 (exp (addf (scores256 (cutRows256 qs) k)
    (subf (broadcastTo S128x256 (cutRow256 acc.1) broadcasts_S1x256_S128x256) (under2_256 tri2 (keep256 qs k)))))
def weightGrad256 : FVec F S128x256 .f32 := mulf (scores256 (cutRows256 dos) v) (weights256 qs tri2 k acc)
def scoreGrad256 : FVec F S128x256 .bf16 :=
  truncf .bf16 (diag256 (logitGrad S128x256 (weightGrad256 qs dos tri2 k v acc) (logBeta S128x256 (scores256 (cutRows256 qs) k))
    (addf (broadcastTo S128x256 (cutRow256 acc.2.1) broadcasts_S1x256_S128x256) (under1_256 tri2 (weightGrad256 qs dos tri2 k v acc)))))
    bitsLt_bf16_f32
def queryPart256 : FVec F S128x256 .f32 :=
  matmul dot_S128x128_S128x256_S128x256_1_0_0_1_n_n none (shapeCast S128x128 kt shapeCasts_S1x1x1x128x128_S128x128)
    (scoreGrad256 qs dos tri2 k v acc) (constant S128x256 .f32 0x00000000#32)
/-- The queries' gradient past the block, the last one. -/
def queries256 : FVec F S128x1024 .f32 := addCols256 acc.2.2 (queryPart256 qs dos tri2 k v kt acc)
def addBlock256 (old : Vec F S1x128x128 .f32) (w : FVec F S128x256 .bf16) (x : FVec F S256x128 .bf16) : Vec F S1x128x128 .f32 :=
  shapeCast S1x128x128 (addf (shapeCast S128x128 old shapeCasts_S1x128x128_S128x128)
    (matmul dot_S128x256_S256x128_S128x128_1_0_0_1_n_n none w x (constant S128x128 .f32 0x00000000#32))) shapeCasts_S128x128_S1x128x128
def keyBlock256 (old : Vec F S1x128x128 .f32) : Vec F S1x128x128 .f32 :=
  addBlock256 old (scoreGrad256 qs dos tri2 k v acc) (cutRows256 qs)
def valueBlock256 (old : Vec F S1x128x128 .f32) : Vec F S1x128x128 .f32 :=
  addBlock256 old (truncf .bf16 (weights256 qs tri2 k acc) bitsLt_bf16_f32) (cutRows256 dos)
end

end Cert.KernelIdeal.Hand

end
-- ==== Proof.BodyEq.lean ====
/-
  What the body's run leaves, in the tiles' terms: the loops' state, and over it the diagonal tile's four blocks. Every
  piece it writes into the gradients of the keys and the values is read, added to and put back.
-/
module

public import proofs.«01_k».proof.Proof.Top

@[expose] public section

set_option maxRecDepth 16384
set_option maxHeartbeats 400000

noncomputable section

namespace Cert.KernelIdeal.Hand

open Cert.KernelIdeal Cert.KernelIdeal.Gen
open Idealize.ShloMosaic Idealize.ShloMosaic.TcCoe Idealize.ShloMosaic.Tactic

variable {F : FTy → Type} [FloatOps F]

/-- One head's lanes of 128 queries: the lower and the upper 64, the others zero. -/
def lower (x : FVec F S128x128 .bf16) : FVec F S128x128 .bf16 :=
  select (cmpi .slt (iota .tc S128x128 32 [1] iota_S128x128_d1_w32) (broadcast S128x128 64#32)) x (broadcast S128x128 (Scalar.ofBits .bf16 0x0000#16))
def upper (x : FVec F S128x128 .bf16) : FVec F S128x128 .bf16 :=
  select (cmpi .sge (iota .tc S128x128 32 [1] iota_S128x128_d1_w32) (broadcast S128x128 64#32)) x (broadcast S128x128 (Scalar.ofBits .bf16 0x0000#16))
/-- 512 queries stacked head by head: each block of 128 once for its lower head and once for its upper. -/
def stack (x : FVec F S512x128 .bf16) : FVec F S1024x128 .bf16 :=
  concatenate S1024x128 0 [⟨S128x128, lower (extractStridedSlice S128x128 ![0, 0] x slices_S512x128_o0_0_S128x128)⟩, ⟨S128x128, upper (extractStridedSlice S128x128 ![0, 0] x slices_S512x128_o0_0_S128x128)⟩, ⟨S128x128, lower (extractStridedSlice S128x128 ![128, 0] x slices_S512x128_o128_0_S128x128)⟩, ⟨S128x128, upper (extractStridedSlice S128x128 ![128, 0] x slices_S512x128_o128_0_S128x128)⟩, ⟨S128x128, lower (extractStridedSlice S128x128 ![256, 0] x slices_S512x128_o256_0_S128x128)⟩, ⟨S128x128, upper (extractStridedSlice S128x128 ![256, 0] x slices_S512x128_o256_0_S128x128)⟩, ⟨S128x128, lower (extractStridedSlice S128x128 ![384, 0] x slices_S512x128_o384_0_S128x128)⟩, ⟨S128x128, upper (extractStridedSlice S128x128 ![384, 0] x slices_S512x128_o384_0_S128x128)⟩]
    concatenates_S128x128_S128x128_S128x128_S128x128_S128x128_S128x128_S128x128_S128x128_S1024x128_d0
/-- The queries, scaled; the gradients of the outputs; the totals. -/
def stackQ (x0 : Vec F S1x512x128 .bf16) : FVec F S1024x128 .bf16 :=
  stack (mulf (shapeCast S512x128 x0 shapeCasts_S1x512x128_S512x128) (broadcast S512x128 (Scalar.ofBits .bf16 0x3E00#16)))
def stackO (x4 : Vec F S1x512x128 .bf16) : FVec F S1024x128 .bf16 := stack (shapeCast S512x128 x4 shapeCasts_S1x512x128_S512x128)
def totals (x5 : Vec F S1x1x1x1x1024 .f32) : FVec F S1x1024 .f32 := shapeCast S1x1024 x5 shapeCasts_S1x1x1x1x1024_S1x1024

section
variable (i : grid0.Coords) (arg4 : Memref sig .tc .vmem S1x2048x128 .bf16) (arg5 : Memref sig .tc .vmem S1x2048x128 .bf16)
  (arg6 : Memref sig .tc .vmem S1x1x16x128x128 .bf16) (arg10 : Memref sig .tc .vmem S1x2048x128 .f32) (arg11 : Memref sig .tc .vmem S1x2048x128 .f32)
  (qs dos : FVec F S1024x128 .bf16) (totv : FVec F S1x1024 .f32)
  (X4 : BufTy.Contents (Elt F) arg4.view.ty) (X5 : BufTy.Contents (Elt F) arg5.view.ty) (X6 : BufTy.Contents (Elt F) arg6.view.ty)
  (G10 : BufTy.Contents (Elt F) arg10.view.ty) (G11 : BufTy.Contents (Elt F) arg11.view.ty) (s : State F)

/-- The carried values before each block of the diagonal tile. The first is what remains of the totals. -/
def top0 : Carry F := (subf totv s.1.1, s.1.2.1, s.1.2.2)
def top1 : Carry F := carry1024 qs dos k0_pay311 (View.readAt (Elt F) arg4.view (Rect.unit (s := S1x2048x128) (k0_off13 i 0#32) S1x128x128.size (k0_off13_inb i 0)).toLoadRect X4) (View.readAt (Elt F) arg5.view (Rect.unit (s := S1x2048x128) (k0_off13 i 0#32) S1x128x128.size (k0_off13_inb i 0)).toLoadRect X5)
  (View.readAt (Elt F) arg6.view (Rect.unit (s := S1x1x16x128x128) (k0_off14 i 0#32) S1x1x1x128x128.size (k0_off14_inb i 0)).toLoadRect X6) (top0 totv s)
def top2 : Carry F := carry768 qs dos k0_pay311 (View.readAt (Elt F) arg4.view (Rect.unit (s := S1x2048x128) (k0_off13 i 1#32) S1x128x128.size (k0_off13_inb i 1)).toLoadRect X4) (View.readAt (Elt F) arg5.view (Rect.unit (s := S1x2048x128) (k0_off13 i 1#32) S1x128x128.size (k0_off13_inb i 1)).toLoadRect X5)
  (View.readAt (Elt F) arg6.view (Rect.unit (s := S1x1x16x128x128) (k0_off14 i 1#32) S1x1x1x128x128.size (k0_off14_inb i 1)).toLoadRect X6) (top1 i arg4 arg5 arg6 qs dos totv X4 X5 X6 s)
def top3 : Carry F := carry512 qs dos k0_pay311 (View.readAt (Elt F) arg4.view (Rect.unit (s := S1x2048x128) (k0_off13 i 2#32) S1x128x128.size (k0_off13_inb i 2)).toLoadRect X4) (View.readAt (Elt F) arg5.view (Rect.unit (s := S1x2048x128) (k0_off13 i 2#32) S1x128x128.size (k0_off13_inb i 2)).toLoadRect X5)
  (View.readAt (Elt F) arg6.view (Rect.unit (s := S1x1x16x128x128) (k0_off14 i 2#32) S1x1x1x128x128.size (k0_off14_inb i 2)).toLoadRect X6) (top2 i arg4 arg5 arg6 qs dos totv X4 X5 X6 s)
/-- The queries' gradient, stacked and transposed. -/
def topQueries : FVec F S128x1024 .f32 := queries256 qs dos k0_pay311 (View.readAt (Elt F) arg4.view (Rect.unit (s := S1x2048x128) (k0_off13 i 3#32) S1x128x128.size (k0_off13_inb i 3)).toLoadRect X4) (View.readAt (Elt F) arg5.view (Rect.unit (s := S1x2048x128) (k0_off13 i 3#32) S1x128x128.size (k0_off13_inb i 3)).toLoadRect X5)
  (View.readAt (Elt F) arg6.view (Rect.unit (s := S1x1x16x128x128) (k0_off14 i 3#32) S1x1x1x128x128.size (k0_off14_inb i 3)).toLoadRect X6) (top3 i arg4 arg5 arg6 qs dos totv X4 X5 X6 s)

/-- The pieces written, last first: before the diagonal tile, and past each of its blocks. -/
def keys0 : List (View.Piece (Elt F) S1x2048x128 .f32) := s.2.1
def keys1 : List (View.Piece (Elt F) S1x2048x128 .f32) :=
  ⟨Rect.unit (s := S1x2048x128) (k0_off13 i 0#32) S1x128x128.size (k0_off13_inb i 0), keyBlock1024 qs dos k0_pay311 (View.readAt (Elt F) arg4.view (Rect.unit (s := S1x2048x128) (k0_off13 i 0#32) S1x128x128.size (k0_off13_inb i 0)).toLoadRect X4) (View.readAt (Elt F) arg5.view (Rect.unit (s := S1x2048x128) (k0_off13 i 0#32) S1x128x128.size (k0_off13_inb i 0)).toLoadRect X5) (top0 totv s)
    (View.readAt (Elt F) arg10.view (Rect.unit (s := S1x2048x128) (k0_off13 i 0#32) S1x128x128.size (k0_off13_inb i 0)).toLoadRect (arg10.view.writes (Elt F) G10 (keys0 s)))⟩ :: (keys0 s)
def keys2 : List (View.Piece (Elt F) S1x2048x128 .f32) :=
  ⟨Rect.unit (s := S1x2048x128) (k0_off13 i 1#32) S1x128x128.size (k0_off13_inb i 1), keyBlock768 qs dos k0_pay311 (View.readAt (Elt F) arg4.view (Rect.unit (s := S1x2048x128) (k0_off13 i 1#32) S1x128x128.size (k0_off13_inb i 1)).toLoadRect X4) (View.readAt (Elt F) arg5.view (Rect.unit (s := S1x2048x128) (k0_off13 i 1#32) S1x128x128.size (k0_off13_inb i 1)).toLoadRect X5) (top1 i arg4 arg5 arg6 qs dos totv X4 X5 X6 s)
    (View.readAt (Elt F) arg10.view (Rect.unit (s := S1x2048x128) (k0_off13 i 1#32) S1x128x128.size (k0_off13_inb i 1)).toLoadRect (arg10.view.writes (Elt F) G10 (keys1 i arg4 arg5 arg10 qs dos totv X4 X5 G10 s)))⟩ :: (keys1 i arg4 arg5 arg10 qs dos totv X4 X5 G10 s)
def keys3 : List (View.Piece (Elt F) S1x2048x128 .f32) :=
  ⟨Rect.unit (s := S1x2048x128) (k0_off13 i 2#32) S1x128x128.size (k0_off13_inb i 2), keyBlock512 qs dos k0_pay311 (View.readAt (Elt F) arg4.view (Rect.unit (s := S1x2048x128) (k0_off13 i 2#32) S1x128x128.size (k0_off13_inb i 2)).toLoadRect X4) (View.readAt (Elt F) arg5.view (Rect.unit (s := S1x2048x128) (k0_off13 i 2#32) S1x128x128.size (k0_off13_inb i 2)).toLoadRect X5) (top2 i arg4 arg5 arg6 qs dos totv X4 X5 X6 s)
    (View.readAt (Elt F) arg10.view (Rect.unit (s := S1x2048x128) (k0_off13 i 2#32) S1x128x128.size (k0_off13_inb i 2)).toLoadRect (arg10.view.writes (Elt F) G10 (keys2 i arg4 arg5 arg6 arg10 qs dos totv X4 X5 X6 G10 s)))⟩ :: (keys2 i arg4 arg5 arg6 arg10 qs dos totv X4 X5 X6 G10 s)
def keys4 : List (View.Piece (Elt F) S1x2048x128 .f32) :=
  ⟨Rect.unit (s := S1x2048x128) (k0_off13 i 3#32) S1x128x128.size (k0_off13_inb i 3), keyBlock256 qs dos k0_pay311 (View.readAt (Elt F) arg4.view (Rect.unit (s := S1x2048x128) (k0_off13 i 3#32) S1x128x128.size (k0_off13_inb i 3)).toLoadRect X4) (View.readAt (Elt F) arg5.view (Rect.unit (s := S1x2048x128) (k0_off13 i 3#32) S1x128x128.size (k0_off13_inb i 3)).toLoadRect X5) (top3 i arg4 arg5 arg6 qs dos totv X4 X5 X6 s)
    (View.readAt (Elt F) arg10.view (Rect.unit (s := S1x2048x128) (k0_off13 i 3#32) S1x128x128.size (k0_off13_inb i 3)).toLoadRect (arg10.view.writes (Elt F) G10 (keys3 i arg4 arg5 arg6 arg10 qs dos totv X4 X5 X6 G10 s)))⟩ :: (keys3 i arg4 arg5 arg6 arg10 qs dos totv X4 X5 X6 G10 s)
def values0 : List (View.Piece (Elt F) S1x2048x128 .f32) := s.2.2
def values1 : List (View.Piece (Elt F) S1x2048x128 .f32) :=
  ⟨Rect.unit (s := S1x2048x128) (k0_off13 i 0#32) S1x128x128.size (k0_off13_inb i 0), valueBlock1024 qs dos k0_pay311 (View.readAt (Elt F) arg4.view (Rect.unit (s := S1x2048x128) (k0_off13 i 0#32) S1x128x128.size (k0_off13_inb i 0)).toLoadRect X4)  (top0 totv s)
    (View.readAt (Elt F) arg11.view (Rect.unit (s := S1x2048x128) (k0_off13 i 0#32) S1x128x128.size (k0_off13_inb i 0)).toLoadRect (arg11.view.writes (Elt F) G11 (values0 s)))⟩ :: (values0 s)
def values2 : List (View.Piece (Elt F) S1x2048x128 .f32) :=
  ⟨Rect.unit (s := S1x2048x128) (k0_off13 i 1#32) S1x128x128.size (k0_off13_inb i 1), valueBlock768 qs dos k0_pay311 (View.readAt (Elt F) arg4.view (Rect.unit (s := S1x2048x128) (k0_off13 i 1#32) S1x128x128.size (k0_off13_inb i 1)).toLoadRect X4)  (top1 i arg4 arg5 arg6 qs dos totv X4 X5 X6 s)
    (View.readAt (Elt F) arg11.view (Rect.unit (s := S1x2048x128) (k0_off13 i 1#32) S1x128x128.size (k0_off13_inb i 1)).toLoadRect (arg11.view.writes (Elt F) G11 (values1 i arg4 arg11 qs dos totv X4 G11 s)))⟩ :: (values1 i arg4 arg11 qs dos totv X4 G11 s)
def values3 : List (View.Piece (Elt F) S1x2048x128 .f32) :=
  ⟨Rect.unit (s := S1x2048x128) (k0_off13 i 2#32) S1x128x128.size (k0_off13_inb i 2), valueBlock512 qs dos k0_pay311 (View.readAt (Elt F) arg4.view (Rect.unit (s := S1x2048x128) (k0_off13 i 2#32) S1x128x128.size (k0_off13_inb i 2)).toLoadRect X4)  (top2 i arg4 arg5 arg6 qs dos totv X4 X5 X6 s)
    (View.readAt (Elt F) arg11.view (Rect.unit (s := S1x2048x128) (k0_off13 i 2#32) S1x128x128.size (k0_off13_inb i 2)).toLoadRect (arg11.view.writes (Elt F) G11 (values2 i arg4 arg5 arg6 arg11 qs dos totv X4 X5 X6 G11 s)))⟩ :: (values2 i arg4 arg5 arg6 arg11 qs dos totv X4 X5 X6 G11 s)
def values4 : List (View.Piece (Elt F) S1x2048x128 .f32) :=
  ⟨Rect.unit (s := S1x2048x128) (k0_off13 i 3#32) S1x128x128.size (k0_off13_inb i 3), valueBlock256 qs dos k0_pay311 (View.readAt (Elt F) arg4.view (Rect.unit (s := S1x2048x128) (k0_off13 i 3#32) S1x128x128.size (k0_off13_inb i 3)).toLoadRect X4)  (top3 i arg4 arg5 arg6 qs dos totv X4 X5 X6 s)
    (View.readAt (Elt F) arg11.view (Rect.unit (s := S1x2048x128) (k0_off13 i 3#32) S1x128x128.size (k0_off13_inb i 3)).toLoadRect (arg11.view.writes (Elt F) G11 (values3 i arg4 arg5 arg6 arg11 qs dos totv X4 X5 X6 G11 s)))⟩ :: (values3 i arg4 arg5 arg6 arg11 qs dos totv X4 X5 X6 G11 s)
end

section
variable (c : Dev nD) (i : grid0.Coords) (arg3 : Memref sig .tc .vmem S1x512x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x1x16x128x128 .bf16) (harg6 : arg6.IsWhole) (arg7 : Memref sig .tc .vmem S1x512x128 .bf16) (harg7 : arg7.IsWhole) (arg8 : Memref sig .tc .vmem S1x1x1x1x1024 .f32) (harg8 : arg8.IsWhole) (arg9 : Memref sig .tc .vmem S1x512x128 .bf16) (harg9 : arg9.IsWhole) (arg10 : Memref sig .tc .vmem S1x2048x128 .f32) (harg10 : arg10.IsWhole) (arg11 : Memref sig .tc .vmem S1x2048x128 .f32) (harg11 : arg11.IsWhole)
  (x0 : Vec F S1x512x128 .bf16) (x1 x2 : Vec F S1x2048x128 .bf16) (x3 : Vec F S1x1x16x128x128 .bf16)
  (x4 : Vec F S1x512x128 .bf16) (x5 : Vec F S1x1x1x1x1024 .f32) (s10 s11 : Vec F S1x2048x128 .f32)

/-- The states past the pair loop, the single-tile loop, and its remainder. -/
def pairs : State F :=
  st1 c i arg3 harg3 arg4 harg4 arg5 harg5 arg6 harg6 arg7 harg7 arg8 harg8 arg9 harg9 arg10 harg10 arg11 harg11 (stackQ x0) (stackO (View.readAt (Elt F) arg7.view (Rect.unit (s := S1x512x128) ![0, 0, 0] S1x512x128.size inb_S1x512x128_S1x512x128_0_0_0).toLoadRect (harg7.unread x4))) (totals (View.readAt (Elt F) arg8.view (Rect.unit (s := S1x1x1x1x1024) ![0, 0, 0, 0, 0] S1x1x1x1x1024.size inb_S1x1x1x1x1024_S1x1x1x1x1024_0_0_0_0_0).toLoadRect (harg8.unread x5))) k0_pay311 k0_pay312 (bodyRun.sl.v110 i) (bodyRun.sl.v111 i) (bodyRun.sl.v122 i) (bodyRun.sl.v123 i) (harg4.unread x1) (harg5.unread x2) (harg6.unread x3) (harg10.unread s10) (harg11.unread s11) (k0_pay312, k0_pay312, k0_pay313) (Scf.trips (k0_t1_loop i).lb (k0_t1_loop i).ub (k0_t1_loop i).st)
def single : State F :=
  st_k0_t3 Variants.none c none i arg3 harg3 arg4 harg4 arg5 harg5 arg6 harg6 arg7 harg7 arg8 harg8 arg9 harg9 arg10 harg10 arg11 harg11 (stackQ x0) (stackO (View.readAt (Elt F) arg7.view (Rect.unit (s := S1x512x128) ![0, 0, 0] S1x512x128.size inb_S1x512x128_S1x512x128_0_0_0).toLoadRect (harg7.unread x4))) (totals (View.readAt (Elt F) arg8.view (Rect.unit (s := S1x1x1x1x1024) ![0, 0, 0, 0, 0] S1x1x1x1x1024.size inb_S1x1x1x1x1024_S1x1x1x1x1024_0_0_0_0_0).toLoadRect (harg8.unread x5))) k0_pay311 k0_pay312 (bodyRun.sl.v110 i) (bodyRun.sl.v111 i) (bodyRun.sl.v122 i) (bodyRun.sl.v123 i) (harg4.unread x1) (harg5.unread x2) (harg6.unread x3)
    (arg10.view.writes (Elt F) (harg10.unread s10) (pairs c i arg3 harg3 arg4 harg4 arg5 harg5 arg6 harg6 arg7 harg7 arg8 harg8 arg9 harg9 arg10 harg10 arg11 harg11 x0 x1 x2 x3 x4 x5 s10 s11).2.1) (arg11.view.writes (Elt F) (harg11.unread s11) (pairs c i arg3 harg3 arg4 harg4 arg5 harg5 arg6 harg6 arg7 harg7 arg8 harg8 arg9 harg9 arg10 harg10 arg11 harg11 x0 x1 x2 x3 x4 x5 s10 s11).2.2)
    ((pairs c i arg3 harg3 arg4 harg4 arg5 harg5 arg6 harg6 arg7 harg7 arg8 harg8 arg9 harg9 arg10 harg10 arg11 harg11 x0 x1 x2 x3 x4 x5 s10 s11).1.1, (pairs c i arg3 harg3 arg4 harg4 arg5 harg5 arg6 harg6 arg7 harg7 arg8 harg8 arg9 harg9 arg10 harg10 arg11 harg11 x0 x1 x2 x3 x4 x5 s10 s11).1.2.1, (pairs c i arg3 harg3 arg4 harg4 arg5 harg5 arg6 harg6 arg7 harg7 arg8 harg8 arg9 harg9 arg10 harg10 arg11 harg11 x0 x1 x2 x3 x4 x5 s10 s11).1.2.2) (Scf.trips (k0_t3_loop i).lb (k0_t3_loop i).ub (k0_t3_loop i).st)
def rest : State F :=
  st_k0_t4 Variants.none c none i arg3 harg3 arg4 harg4 arg5 harg5 arg6 harg6 arg7 harg7 arg8 harg8 arg9 harg9 arg10 harg10 arg11 harg11 (stackQ x0) (stackO (View.readAt (Elt F) arg7.view (Rect.unit (s := S1x512x128) ![0, 0, 0] S1x512x128.size inb_S1x512x128_S1x512x128_0_0_0).toLoadRect (harg7.unread x4))) (totals (View.readAt (Elt F) arg8.view (Rect.unit (s := S1x1x1x1x1024) ![0, 0, 0, 0, 0] S1x1x1x1x1024.size inb_S1x1x1x1x1024_S1x1x1x1x1024_0_0_0_0_0).toLoadRect (harg8.unread x5))) k0_pay311 k0_pay312 (bodyRun.sl.v110 i) (bodyRun.sl.v111 i) (bodyRun.sl.v122 i) (bodyRun.sl.v123 i) (bodyRun.sl.v150 i) (harg4.unread x1) (harg5.unread x2) (harg6.unread x3)
    (arg10.view.writes (Elt F) (harg10.unread s10) ((single c i arg3 harg3 arg4 harg4 arg5 harg5 arg6 harg6 arg7 harg7 arg8 harg8 arg9 harg9 arg10 harg10 arg11 harg11 x0 x1 x2 x3 x4 x5 s10 s11).2.1 ++ (pairs c i arg3 harg3 arg4 harg4 arg5 harg5 arg6 harg6 arg7 harg7 arg8 harg8 arg9 harg9 arg10 harg10 arg11 harg11 x0 x1 x2 x3 x4 x5 s10 s11).2.1))
    (arg11.view.writes (Elt F) (harg11.unread s11) ((single c i arg3 harg3 arg4 harg4 arg5 harg5 arg6 harg6 arg7 harg7 arg8 harg8 arg9 harg9 arg10 harg10 arg11 harg11 x0 x1 x2 x3 x4 x5 s10 s11).2.2 ++ (pairs c i arg3 harg3 arg4 harg4 arg5 harg5 arg6 harg6 arg7 harg7 arg8 harg8 arg9 harg9 arg10 harg10 arg11 harg11 x0 x1 x2 x3 x4 x5 s10 s11).2.2))
    ((single c i arg3 harg3 arg4 harg4 arg5 harg5 arg6 harg6 arg7 harg7 arg8 harg8 arg9 harg9 arg10 harg10 arg11 harg11 x0 x1 x2 x3 x4 x5 s10 s11).1.1, (single c i arg3 harg3 arg4 harg4 arg5 harg5 arg6 harg6 arg7 harg7 arg8 harg8 arg9 harg9 arg10 harg10 arg11 harg11 x0 x1 x2 x3 x4 x5 s10 s11).1.2.1, (single c i arg3 harg3 arg4 harg4 arg5 harg5 arg6 harg6 arg7 harg7 arg8 harg8 arg9 harg9 arg10 harg10 arg11 harg11 x0 x1 x2 x3 x4 x5 s10 s11).1.2.2) (Scf.trips (k0_t4_loop i).lb (k0_t4_loop i).ub (k0_t4_loop i).st)
def loops : State F :=
  ((rest c i arg3 harg3 arg4 harg4 arg5 harg5 arg6 harg6 arg7 harg7 arg8 harg8 arg9 harg9 arg10 harg10 arg11 harg11 x0 x1 x2 x3 x4 x5 s10 s11).1, (rest c i arg3 harg3 arg4 harg4 arg5 harg5 arg6 harg6 arg7 harg7 arg8 harg8 arg9 harg9 arg10 harg10 arg11 harg11 x0 x1 x2 x3 x4 x5 s10 s11).2.1 ++ ((single c i arg3 harg3 arg4 harg4 arg5 harg5 arg6 harg6 arg7 harg7 arg8 harg8 arg9 harg9 arg10 harg10 arg11 harg11 x0 x1 x2 x3 x4 x5 s10 s11).2.1 ++ (pairs c i arg3 harg3 arg4 harg4 arg5 harg5 arg6 harg6 arg7 harg7 arg8 harg8 arg9 harg9 arg10 harg10 arg11 harg11 x0 x1 x2 x3 x4 x5 s10 s11).2.1), (rest c i arg3 harg3 arg4 harg4 arg5 harg5 arg6 harg6 arg7 harg7 arg8 harg8 arg9 harg9 arg10 harg10 arg11 harg11 x0 x1 x2 x3 x4 x5 s10 s11).2.2 ++ ((single c i arg3 harg3 arg4 harg4 arg5 harg5 arg6 harg6 arg7 harg7 arg8 harg8 arg9 harg9 arg10 harg10 arg11 harg11 x0 x1 x2 x3 x4 x5 s10 s11).2.2 ++ (pairs c i arg3 harg3 arg4 harg4 arg5 harg5 arg6 harg6 arg7 harg7 arg8 harg8 arg9 harg9 arg10 harg10 arg11 harg11 x0 x1 x2 x3 x4 x5 s10 s11).2.2))

theorem at_r : bodyRun.sl.r x0 = (stackQ x0) := by
  unfold bodyRun.sl.r
  rfl
theorem at_r_9 : bodyRun.sl.r_9 arg7 harg7 x4 = (stackO (View.readAt (Elt F) arg7.view (Rect.unit (s := S1x512x128) ![0, 0, 0] S1x512x128.size inb_S1x512x128_S1x512x128_0_0_0).toLoadRect (harg7.unread x4))) := by
  unfold bodyRun.sl.r_9 bodyRun.sl.r_1 bodyRun.sl.r_2 bodyRun.sl.r_3 bodyRun.sl.r_4 bodyRun.sl.r_5 bodyRun.sl.r_6 bodyRun.sl.r_7 bodyRun.sl.r_8
  rfl
theorem at_r_10 : bodyRun.sl.r_10 arg8 harg8 x5 = (totals (View.readAt (Elt F) arg8.view (Rect.unit (s := S1x1x1x1x1024) ![0, 0, 0, 0, 0] S1x1x1x1x1024.size inb_S1x1x1x1x1024_S1x1x1x1x1024_0_0_0_0_0).toLoadRect (harg8.unread x5))) := by
  unfold bodyRun.sl.r_10
  rfl
theorem at_r_11 : bodyRun.sl.r_11 c i arg3 harg3 arg4 harg4 arg5 harg5 arg6 harg6 arg7 harg7 arg8 harg8 arg9 harg9 arg10 harg10 arg11 harg11 x0 x1 x2 x3 x4 x5 s10 s11 = (loops c i arg3 harg3 arg4 harg4 arg5 harg5 arg6 harg6 arg7 harg7 arg8 harg8 arg9 harg9 arg10 harg10 arg11 harg11 x0 x1 x2 x3 x4 x5 s10 s11).1.2.1 := by
  unfold bodyRun.sl.r_11
  simp only [at_r, at_r_9, at_r_10]
  rfl
theorem at_r_12 : bodyRun.sl.r_12 c i arg3 harg3 arg4 harg4 arg5 harg5 arg6 harg6 arg7 harg7 arg8 harg8 arg9 harg9 arg10 harg10 arg11 harg11 x0 x1 x2 x3 x4 x5 s10 s11 = (loops c i arg3 harg3 arg4 harg4 arg5 harg5 arg6 harg6 arg7 harg7 arg8 harg8 arg9 harg9 arg10 harg10 arg11 harg11 x0 x1 x2 x3 x4 x5 s10 s11).1.2.2 := by
  unfold bodyRun.sl.r_12
  simp only [at_r, at_r_9, at_r_10]
  rfl
theorem at_r_13 : bodyRun.sl.r_13 c i arg3 harg3 arg4 harg4 arg5 harg5 arg6 harg6 arg7 harg7 arg8 harg8 arg9 harg9 arg10 harg10 arg11 harg11 x0 x1 x2 x3 x4 x5 s10 s11 = (top0 (totals (View.readAt (Elt F) arg8.view (Rect.unit (s := S1x1x1x1x1024) ![0, 0, 0, 0, 0] S1x1x1x1x1024.size inb_S1x1x1x1x1024_S1x1x1x1x1024_0_0_0_0_0).toLoadRect (harg8.unread x5))) (loops c i arg3 harg3 arg4 harg4 arg5 harg5 arg6 harg6 arg7 harg7 arg8 harg8 arg9 harg9 arg10 harg10 arg11 harg11 x0 x1 x2 x3 x4 x5 s10 s11)).1 := by
  unfold bodyRun.sl.r_13
  simp only [at_r_10, at_r, at_r_9]
  rfl
theorem at_r_14 : bodyRun.sl.r_14 i arg4 harg4 x1 = shapeCast S128x128 (View.readAt (Elt F) arg4.view (Rect.unit (s := S1x2048x128) (k0_off13 i 0#32) S1x128x128.size (k0_off13_inb i 0)).toLoadRect (harg4.unread x1)) shapeCasts_S1x128x128_S128x128 := by
  unfold bodyRun.sl.r_14
  rfl
theorem at_r_15 : bodyRun.sl.r_15 i arg4 harg4 x0 x1 = (scores1024 (cutRows1024 (stackQ x0)) (View.readAt (Elt F) arg4.view (Rect.unit (s := S1x2048x128) (k0_off13 i 0#32) S1x128x128.size (k0_off13_inb i 0)).toLoadRect (harg4.unread x1))) := by
  unfold bodyRun.sl.r_15
  simp only [at_r, at_r_14]
  rfl
theorem at_r_16 : bodyRun.sl.r_16 i arg4 harg4 x0 x1 = (logBeta S128x1024 (scores1024 (cutRows1024 (stackQ x0)) (View.readAt (Elt F) arg4.view (Rect.unit (s := S1x2048x128) (k0_off13 i 0#32) S1x128x128.size (k0_off13_inb i 0)).toLoadRect (harg4.unread x1)))) := by
  unfold bodyRun.sl.r_16
  simp only [at_r, at_r_14]
  rfl
theorem at_r_17 : bodyRun.sl.r_17 i arg4 harg4 x0 x1 = (keep1024 (stackQ x0) (View.readAt (Elt F) arg4.view (Rect.unit (s := S1x2048x128) (k0_off13 i 0#32) S1x128x128.size (k0_off13_inb i 0)).toLoadRect (harg4.unread x1))) := by
  unfold bodyRun.sl.r_17
  simp only [at_r, at_r_14]
  rfl
theorem at_r_18 : bodyRun.sl.r_18 x0 = cutRows768 (stackQ x0) := by
  unfold bodyRun.sl.r_18
  simp only [at_r]
  rfl
theorem at_r_19 : bodyRun.sl.r_19 arg7 harg7 x4 = cutRows768 (stackO (View.readAt (Elt F) arg7.view (Rect.unit (s := S1x512x128) ![0, 0, 0] S1x512x128.size inb_S1x512x128_S1x512x128_0_0_0).toLoadRect (harg7.unread x4))) := by
  unfold bodyRun.sl.r_19
  simp only [at_r_9]
  rfl
theorem at_r_20 : bodyRun.sl.r_20 i arg4 harg4 x1 = shapeCast S128x128 (View.readAt (Elt F) arg4.view (Rect.unit (s := S1x2048x128) (k0_off13 i 1#32) S1x128x128.size (k0_off13_inb i 1)).toLoadRect (harg4.unread x1)) shapeCasts_S1x128x128_S128x128 := by
  unfold bodyRun.sl.r_20
  rfl
theorem at_r_21 : bodyRun.sl.r_21 i arg4 harg4 x0 x1 = (scores768 (cutRows768 (stackQ x0)) (View.readAt (Elt F) arg4.view (Rect.unit (s := S1x2048x128) (k0_off13 i 1#32) S1x128x128.size (k0_off13_inb i 1)).toLoadRect (harg4.unread x1))) := by
  unfold bodyRun.sl.r_21
  simp only [at_r_18, at_r_20]
  rfl
theorem at_r_22 : bodyRun.sl.r_22 i arg4 harg4 x0 x1 = (logBeta S128x768 (scores768 (cutRows768 (stackQ x0)) (View.readAt (Elt F) arg4.view (Rect.unit (s := S1x2048x128) (k0_off13 i 1#32) S1x128x128.size (k0_off13_inb i 1)).toLoadRect (harg4.unread x1)))) := by
  unfold bodyRun.sl.r_22
  simp only [at_r_18, at_r_20]
  rfl
theorem at_r_23 : bodyRun.sl.r_23 i arg4 harg4 x0 x1 = (keep768 (stackQ x0) (View.readAt (Elt F) arg4.view (Rect.unit (s := S1x2048x128) (k0_off13 i 1#32) S1x128x128.size (k0_off13_inb i 1)).toLoadRect (harg4.unread x1))) := by
  unfold bodyRun.sl.r_23
  simp only [at_r_18, at_r_20]
  rfl
theorem at_r_24 : bodyRun.sl.r_24 x0 = cutRows512 (stackQ x0) := by
  unfold bodyRun.sl.r_24
  simp only [at_r]
  rfl
theorem at_r_25 : bodyRun.sl.r_25 arg7 harg7 x4 = cutRows512 (stackO (View.readAt (Elt F) arg7.view (Rect.unit (s := S1x512x128) ![0, 0, 0] S1x512x128.size inb_S1x512x128_S1x512x128_0_0_0).toLoadRect (harg7.unread x4))) := by
  unfold bodyRun.sl.r_25
  simp only [at_r_9]
  rfl
theorem at_r_26 : bodyRun.sl.r_26 i arg4 harg4 x1 = (View.readAt (Elt F) arg4.view (Rect.unit (s := S1x2048x128) (k0_off13 i 2#32) S1x128x128.size (k0_off13_inb i 2)).toLoadRect (harg4.unread x1)) := by
  unfold bodyRun.sl.r_26
  rfl
theorem at_r_27 : bodyRun.sl.r_27 i arg4 harg4 x0 x1 = (scores512 (cutRows512 (stackQ x0)) (View.readAt (Elt F) arg4.view (Rect.unit (s := S1x2048x128) (k0_off13 i 2#32) S1x128x128.size (k0_off13_inb i 2)).toLoadRect (harg4.unread x1))) := by
  unfold bodyRun.sl.r_27
  simp only [at_r_24, at_r_26]
  rfl
theorem at_r_28 : bodyRun.sl.r_28 i arg4 harg4 x0 x1 = (logBeta S128x512 (scores512 (cutRows512 (stackQ x0)) (View.readAt (Elt F) arg4.view (Rect.unit (s := S1x2048x128) (k0_off13 i 2#32) S1x128x128.size (k0_off13_inb i 2)).toLoadRect (harg4.unread x1)))) := by
  unfold bodyRun.sl.r_28
  simp only [at_r_24, at_r_26]
  rfl
theorem at_r_29 : bodyRun.sl.r_29 i arg4 harg4 x0 x1 = (keep512 (stackQ x0) (View.readAt (Elt F) arg4.view (Rect.unit (s := S1x2048x128) (k0_off13 i 2#32) S1x128x128.size (k0_off13_inb i 2)).toLoadRect (harg4.unread x1))) := by
  unfold bodyRun.sl.r_29
  simp only [at_r_24, at_r_26]
  rfl
theorem at_r_30 : bodyRun.sl.r_30 x0 = cutRows256 (stackQ x0) := by
  unfold bodyRun.sl.r_30
  simp only [at_r]
  rfl
theorem at_r_31 : bodyRun.sl.r_31 arg7 harg7 x4 = cutRows256 (stackO (View.readAt (Elt F) arg7.view (Rect.unit (s := S1x512x128) ![0, 0, 0] S1x512x128.size inb_S1x512x128_S1x512x128_0_0_0).toLoadRect (harg7.unread x4))) := by
  unfold bodyRun.sl.r_31
  simp only [at_r_9]
  rfl
theorem at_r_32 : bodyRun.sl.r_32 i arg4 harg4 x0 x1 = (scores256 (cutRows256 (stackQ x0)) (View.readAt (Elt F) arg4.view (Rect.unit (s := S1x2048x128) (k0_off13 i 3#32) S1x128x128.size (k0_off13_inb i 3)).toLoadRect (harg4.unread x1))) := by
  unfold bodyRun.sl.r_32
  simp only [at_r_30]
  rfl
theorem at_r_33 : bodyRun.sl.r_33 i arg4 harg4 x0 x1 = (logBeta S128x256 (scores256 (cutRows256 (stackQ x0)) (View.readAt (Elt F) arg4.view (Rect.unit (s := S1x2048x128) (k0_off13 i 3#32) S1x128x128.size (k0_off13_inb i 3)).toLoadRect (harg4.unread x1)))) := by
  unfold bodyRun.sl.r_33
  simp only [at_r_30]
  rfl
theorem at_r_34 : bodyRun.sl.r_34 i arg4 harg4 x0 x1 = (keep256 (stackQ x0) (View.readAt (Elt F) arg4.view (Rect.unit (s := S1x2048x128) (k0_off13 i 3#32) S1x128x128.size (k0_off13_inb i 3)).toLoadRect (harg4.unread x1))) := by
  unfold bodyRun.sl.r_34
  simp only [at_r_30]
  rfl
theorem at_r_35 : bodyRun.sl.r_35 i arg4 harg4 x0 x1 = (under2_1024 k0_pay311 (keep1024 (stackQ x0) (View.readAt (Elt F) arg4.view (Rect.unit (s := S1x2048x128) (k0_off13 i 0#32) S1x128x128.size (k0_off13_inb i 0)).toLoadRect (harg4.unread x1)))) := by
  unfold bodyRun.sl.r_35
  simp only [at_r_17]
  rfl
theorem at_r_36 : bodyRun.sl.r_36 i arg4 harg4 x0 x1 = (under2_768 k0_pay311 (keep768 (stackQ x0) (View.readAt (Elt F) arg4.view (Rect.unit (s := S1x2048x128) (k0_off13 i 1#32) S1x128x128.size (k0_off13_inb i 1)).toLoadRect (harg4.unread x1)))) := by
  unfold bodyRun.sl.r_36
  simp only [at_r_23]
  rfl
theorem at_r_37 : bodyRun.sl.r_37 i arg4 harg4 x0 x1 = (under2_512 k0_pay311 (keep512 (stackQ x0) (View.readAt (Elt F) arg4.view (Rect.unit (s := S1x2048x128) (k0_off13 i 2#32) S1x128x128.size (k0_off13_inb i 2)).toLoadRect (harg4.unread x1)))) := by
  unfold bodyRun.sl.r_37
  simp only [at_r_29]
  rfl
theorem at_r_38 : bodyRun.sl.r_38 i arg4 harg4 x0 x1 = (under2_256 k0_pay311 (keep256 (stackQ x0) (View.readAt (Elt F) arg4.view (Rect.unit (s := S1x2048x128) (k0_off13 i 3#32) S1x128x128.size (k0_off13_inb i 3)).toLoadRect (harg4.unread x1)))) := by
  unfold bodyRun.sl.r_38
  simp only [at_r_34]
  rfl
theorem at_r_39 : bodyRun.sl.r_39 c i arg3 harg3 arg4 harg4 arg5 harg5 arg6 harg6 arg7 harg7 arg8 harg8 arg9 harg9 arg10 harg10 arg11 harg11 x0 x1 x2 x3 x4 x5 s10 s11 = (weights1024 (stackQ x0) k0_pay311 (View.readAt (Elt F) arg4.view (Rect.unit (s := S1x2048x128) (k0_off13 i 0#32) S1x128x128.size (k0_off13_inb i 0)).toLoadRect (harg4.unread x1)) (top0 (totals (View.readAt (Elt F) arg8.view (Rect.unit (s := S1x1x1x1x1024) ![0, 0, 0, 0, 0] S1x1x1x1x1024.size inb_S1x1x1x1x1024_S1x1x1x1x1024_0_0_0_0_0).toLoadRect (harg8.unread x5))) (loops c i arg3 harg3 arg4 harg4 arg5 harg5 arg6 harg6 arg7 harg7 arg8 harg8 arg9 harg9 arg10 harg10 arg11 harg11 x0 x1 x2 x3 x4 x5 s10 s11))) := by
  unfold bodyRun.sl.r_39
  simp only [at_r_13, at_r_15, at_r_35]
  rfl
theorem at_r_40 : bodyRun.sl.r_40 c i arg3 harg3 arg4 harg4 arg5 harg5 arg6 harg6 arg7 harg7 arg8 harg8 arg9 harg9 arg10 harg10 arg11 harg11 x0 x1 x2 x3 x4 x5 s10 s11 = (top1 i arg4 arg5 arg6 (stackQ x0) (stackO (View.readAt (Elt F) arg7.view (Rect.unit (s := S1x512x128) ![0, 0, 0] S1x512x128.size inb_S1x512x128_S1x512x128_0_0_0).toLoadRect (harg7.unread x4))) (totals (View.readAt (Elt F) arg8.view (Rect.unit (s := S1x1x1x1x1024) ![0, 0, 0, 0, 0] S1x1x1x1x1024.size inb_S1x1x1x1x1024_S1x1x1x1x1024_0_0_0_0_0).toLoadRect (harg8.unread x5))) (harg4.unread x1) (harg5.unread x2) (harg6.unread x3) (loops c i arg3 harg3 arg4 harg4 arg5 harg5 arg6 harg6 arg7 harg7 arg8 harg8 arg9 harg9 arg10 harg10 arg11 harg11 x0 x1 x2 x3 x4 x5 s10 s11)).1 := by
  unfold bodyRun.sl.r_40
  simp only [at_r_13, at_r_17, at_r_35]
  rfl
theorem at_r_41 : bodyRun.sl.r_41 i arg5 harg5 x2 = (View.readAt (Elt F) arg5.view (Rect.unit (s := S1x2048x128) (k0_off13 i 0#32) S1x128x128.size (k0_off13_inb i 0)).toLoadRect (harg5.unread x2)) := by
  unfold bodyRun.sl.r_41
  rfl
theorem at_r_42 : bodyRun.sl.r_42 c i arg3 harg3 arg4 harg4 arg5 harg5 arg6 harg6 arg7 harg7 arg8 harg8 arg9 harg9 arg10 harg10 arg11 harg11 x0 x1 x2 x3 x4 x5 s10 s11 = (weightGrad1024 (stackQ x0) (stackO (View.readAt (Elt F) arg7.view (Rect.unit (s := S1x512x128) ![0, 0, 0] S1x512x128.size inb_S1x512x128_S1x512x128_0_0_0).toLoadRect (harg7.unread x4))) k0_pay311 (View.readAt (Elt F) arg4.view (Rect.unit (s := S1x2048x128) (k0_off13 i 0#32) S1x128x128.size (k0_off13_inb i 0)).toLoadRect (harg4.unread x1)) (View.readAt (Elt F) arg5.view (Rect.unit (s := S1x2048x128) (k0_off13 i 0#32) S1x128x128.size (k0_off13_inb i 0)).toLoadRect (harg5.unread x2)) (top0 (totals (View.readAt (Elt F) arg8.view (Rect.unit (s := S1x1x1x1x1024) ![0, 0, 0, 0, 0] S1x1x1x1x1024.size inb_S1x1x1x1x1024_S1x1x1x1x1024_0_0_0_0_0).toLoadRect (harg8.unread x5))) (loops c i arg3 harg3 arg4 harg4 arg5 harg5 arg6 harg6 arg7 harg7 arg8 harg8 arg9 harg9 arg10 harg10 arg11 harg11 x0 x1 x2 x3 x4 x5 s10 s11))) := by
  unfold bodyRun.sl.r_42
  simp only [at_r_9, at_r_39, at_r_41]
  rfl
theorem at_r_43 : bodyRun.sl.r_43 c i arg3 harg3 arg4 harg4 arg5 harg5 arg6 harg6 arg7 harg7 arg8 harg8 arg9 harg9 arg10 harg10 arg11 harg11 x0 x1 x2 x3 x4 x5 s10 s11 = (weights768 (stackQ x0) k0_pay311 (View.readAt (Elt F) arg4.view (Rect.unit (s := S1x2048x128) (k0_off13 i 1#32) S1x128x128.size (k0_off13_inb i 1)).toLoadRect (harg4.unread x1)) (top1 i arg4 arg5 arg6 (stackQ x0) (stackO (View.readAt (Elt F) arg7.view (Rect.unit (s := S1x512x128) ![0, 0, 0] S1x512x128.size inb_S1x512x128_S1x512x128_0_0_0).toLoadRect (harg7.unread x4))) (totals (View.readAt (Elt F) arg8.view (Rect.unit (s := S1x1x1x1x1024) ![0, 0, 0, 0, 0] S1x1x1x1x1024.size inb_S1x1x1x1x1024_S1x1x1x1x1024_0_0_0_0_0).toLoadRect (harg8.unread x5))) (harg4.unread x1) (harg5.unread x2) (harg6.unread x3) (loops c i arg3 harg3 arg4 harg4 arg5 harg5 arg6 harg6 arg7 harg7 arg8 harg8 arg9 harg9 arg10 harg10 arg11 harg11 x0 x1 x2 x3 x4 x5 s10 s11))) := by
  unfold bodyRun.sl.r_43
  simp only [at_r_21, at_r_36, at_r_40]
  rfl
theorem at_r_44 : bodyRun.sl.r_44 c i arg3 harg3 arg4 harg4 arg5 harg5 arg6 harg6 arg7 harg7 arg8 harg8 arg9 harg9 arg10 harg10 arg11 harg11 x0 x1 x2 x3 x4 x5 s10 s11 = (top2 i arg4 arg5 arg6 (stackQ x0) (stackO (View.readAt (Elt F) arg7.view (Rect.unit (s := S1x512x128) ![0, 0, 0] S1x512x128.size inb_S1x512x128_S1x512x128_0_0_0).toLoadRect (harg7.unread x4))) (totals (View.readAt (Elt F) arg8.view (Rect.unit (s := S1x1x1x1x1024) ![0, 0, 0, 0, 0] S1x1x1x1x1024.size inb_S1x1x1x1x1024_S1x1x1x1x1024_0_0_0_0_0).toLoadRect (harg8.unread x5))) (harg4.unread x1) (harg5.unread x2) (harg6.unread x3) (loops c i arg3 harg3 arg4 harg4 arg5 harg5 arg6 harg6 arg7 harg7 arg8 harg8 arg9 harg9 arg10 harg10 arg11 harg11 x0 x1 x2 x3 x4 x5 s10 s11)).1 := by
  unfold bodyRun.sl.r_44
  simp only [at_r_23, at_r_36, at_r_40]
  rfl
theorem at_r_45 : bodyRun.sl.r_45 c i arg3 harg3 arg4 harg4 arg5 harg5 arg6 harg6 arg7 harg7 arg8 harg8 arg9 harg9 arg10 harg10 arg11 harg11 x0 x1 x2 x3 x4 x5 s10 s11 = (weightGrad768 (stackQ x0) (stackO (View.readAt (Elt F) arg7.view (Rect.unit (s := S1x512x128) ![0, 0, 0] S1x512x128.size inb_S1x512x128_S1x512x128_0_0_0).toLoadRect (harg7.unread x4))) k0_pay311 (View.readAt (Elt F) arg4.view (Rect.unit (s := S1x2048x128) (k0_off13 i 1#32) S1x128x128.size (k0_off13_inb i 1)).toLoadRect (harg4.unread x1)) (View.readAt (Elt F) arg5.view (Rect.unit (s := S1x2048x128) (k0_off13 i 1#32) S1x128x128.size (k0_off13_inb i 1)).toLoadRect (harg5.unread x2)) (top1 i arg4 arg5 arg6 (stackQ x0) (stackO (View.readAt (Elt F) arg7.view (Rect.unit (s := S1x512x128) ![0, 0, 0] S1x512x128.size inb_S1x512x128_S1x512x128_0_0_0).toLoadRect (harg7.unread x4))) (totals (View.readAt (Elt F) arg8.view (Rect.unit (s := S1x1x1x1x1024) ![0, 0, 0, 0, 0] S1x1x1x1x1024.size inb_S1x1x1x1x1024_S1x1x1x1x1024_0_0_0_0_0).toLoadRect (harg8.unread x5))) (harg4.unread x1) (harg5.unread x2) (harg6.unread x3) (loops c i arg3 harg3 arg4 harg4 arg5 harg5 arg6 harg6 arg7 harg7 arg8 harg8 arg9 harg9 arg10 harg10 arg11 harg11 x0 x1 x2 x3 x4 x5 s10 s11))) := by
  unfold bodyRun.sl.r_45
  simp only [at_r_19, at_r_21, at_r_36, at_r_40]
  rfl
theorem at_r_46 : bodyRun.sl.r_46 c i arg3 harg3 arg4 harg4 arg5 harg5 arg6 harg6 arg7 harg7 arg8 harg8 arg9 harg9 arg10 harg10 arg11 harg11 x0 x1 x2 x3 x4 x5 s10 s11 = broadcastTo S128x512 (cutRow512 (top2 i arg4 arg5 arg6 (stackQ x0) (stackO (View.readAt (Elt F) arg7.view (Rect.unit (s := S1x512x128) ![0, 0, 0] S1x512x128.size inb_S1x512x128_S1x512x128_0_0_0).toLoadRect (harg7.unread x4))) (totals (View.readAt (Elt F) arg8.view (Rect.unit (s := S1x1x1x1x1024) ![0, 0, 0, 0, 0] S1x1x1x1x1024.size inb_S1x1x1x1x1024_S1x1x1x1x1024_0_0_0_0_0).toLoadRect (harg8.unread x5))) (harg4.unread x1) (harg5.unread x2) (harg6.unread x3) (loops c i arg3 harg3 arg4 harg4 arg5 harg5 arg6 harg6 arg7 harg7 arg8 harg8 arg9 harg9 arg10 harg10 arg11 harg11 x0 x1 x2 x3 x4 x5 s10 s11)).1) broadcasts_S1x512_S128x512 := by
  unfold bodyRun.sl.r_46
  simp only [at_r_23, at_r_36, at_r_40]
  rfl
theorem at_r_47 : bodyRun.sl.r_47 c i arg3 harg3 arg4 harg4 arg5 harg5 arg6 harg6 arg7 harg7 arg8 harg8 arg9 harg9 arg10 harg10 arg11 harg11 x0 x1 x2 x3 x4 x5 s10 s11 = (weights512 (stackQ x0) k0_pay311 (View.readAt (Elt F) arg4.view (Rect.unit (s := S1x2048x128) (k0_off13 i 2#32) S1x128x128.size (k0_off13_inb i 2)).toLoadRect (harg4.unread x1)) (top2 i arg4 arg5 arg6 (stackQ x0) (stackO (View.readAt (Elt F) arg7.view (Rect.unit (s := S1x512x128) ![0, 0, 0] S1x512x128.size inb_S1x512x128_S1x512x128_0_0_0).toLoadRect (harg7.unread x4))) (totals (View.readAt (Elt F) arg8.view (Rect.unit (s := S1x1x1x1x1024) ![0, 0, 0, 0, 0] S1x1x1x1x1024.size inb_S1x1x1x1x1024_S1x1x1x1x1024_0_0_0_0_0).toLoadRect (harg8.unread x5))) (harg4.unread x1) (harg5.unread x2) (harg6.unread x3) (loops c i arg3 harg3 arg4 harg4 arg5 harg5 arg6 harg6 arg7 harg7 arg8 harg8 arg9 harg9 arg10 harg10 arg11 harg11 x0 x1 x2 x3 x4 x5 s10 s11))) := by
  unfold bodyRun.sl.r_47
  simp only [at_r_27, at_r_37, at_r_46]
  rfl
theorem at_r_48 : bodyRun.sl.r_48 c i arg3 harg3 arg4 harg4 arg5 harg5 arg6 harg6 arg7 harg7 arg8 harg8 arg9 harg9 arg10 harg10 arg11 harg11 x0 x1 x2 x3 x4 x5 s10 s11 = (weightGrad512 (stackQ x0) (stackO (View.readAt (Elt F) arg7.view (Rect.unit (s := S1x512x128) ![0, 0, 0] S1x512x128.size inb_S1x512x128_S1x512x128_0_0_0).toLoadRect (harg7.unread x4))) k0_pay311 (View.readAt (Elt F) arg4.view (Rect.unit (s := S1x2048x128) (k0_off13 i 2#32) S1x128x128.size (k0_off13_inb i 2)).toLoadRect (harg4.unread x1)) (View.readAt (Elt F) arg5.view (Rect.unit (s := S1x2048x128) (k0_off13 i 2#32) S1x128x128.size (k0_off13_inb i 2)).toLoadRect (harg5.unread x2)) (top2 i arg4 arg5 arg6 (stackQ x0) (stackO (View.readAt (Elt F) arg7.view (Rect.unit (s := S1x512x128) ![0, 0, 0] S1x512x128.size inb_S1x512x128_S1x512x128_0_0_0).toLoadRect (harg7.unread x4))) (totals (View.readAt (Elt F) arg8.view (Rect.unit (s := S1x1x1x1x1024) ![0, 0, 0, 0, 0] S1x1x1x1x1024.size inb_S1x1x1x1x1024_S1x1x1x1x1024_0_0_0_0_0).toLoadRect (harg8.unread x5))) (harg4.unread x1) (harg5.unread x2) (harg6.unread x3) (loops c i arg3 harg3 arg4 harg4 arg5 harg5 arg6 harg6 arg7 harg7 arg8 harg8 arg9 harg9 arg10 harg10 arg11 harg11 x0 x1 x2 x3 x4 x5 s10 s11))) := by
  unfold bodyRun.sl.r_48
  simp only [at_r_25, at_r_27, at_r_37, at_r_46]
  rfl
theorem at_r_49 : bodyRun.sl.r_49 c i arg3 harg3 arg4 harg4 arg5 harg5 arg6 harg6 arg7 harg7 arg8 harg8 arg9 harg9 arg10 harg10 arg11 harg11 x0 x1 x2 x3 x4 x5 s10 s11 = exp (addf (scores256 (cutRows256 (stackQ x0)) (View.readAt (Elt F) arg4.view (Rect.unit (s := S1x2048x128) (k0_off13 i 3#32) S1x128x128.size (k0_off13_inb i 3)).toLoadRect (harg4.unread x1))) (subf (broadcastTo S128x256 (cutRow256 (top3 i arg4 arg5 arg6 (stackQ x0) (stackO (View.readAt (Elt F) arg7.view (Rect.unit (s := S1x512x128) ![0, 0, 0] S1x512x128.size inb_S1x512x128_S1x512x128_0_0_0).toLoadRect (harg7.unread x4))) (totals (View.readAt (Elt F) arg8.view (Rect.unit (s := S1x1x1x1x1024) ![0, 0, 0, 0, 0] S1x1x1x1x1024.size inb_S1x1x1x1x1024_S1x1x1x1x1024_0_0_0_0_0).toLoadRect (harg8.unread x5))) (harg4.unread x1) (harg5.unread x2) (harg6.unread x3) (loops c i arg3 harg3 arg4 harg4 arg5 harg5 arg6 harg6 arg7 harg7 arg8 harg8 arg9 harg9 arg10 harg10 arg11 harg11 x0 x1 x2 x3 x4 x5 s10 s11)).1) broadcasts_S1x256_S128x256) (under2_256 k0_pay311 (keep256 (stackQ x0) (View.readAt (Elt F) arg4.view (Rect.unit (s := S1x2048x128) (k0_off13 i 3#32) S1x128x128.size (k0_off13_inb i 3)).toLoadRect (harg4.unread x1)))))) := by
  unfold bodyRun.sl.r_49
  simp only [at_r_29, at_r_32, at_r_37, at_r_38, at_r_44]
  rfl
theorem at_r_50 : bodyRun.sl.r_50 c i arg3 harg3 arg4 harg4 arg5 harg5 arg6 harg6 arg7 harg7 arg8 harg8 arg9 harg9 arg10 harg10 arg11 harg11 x0 x1 x2 x3 x4 x5 s10 s11 = (weights256 (stackQ x0) k0_pay311 (View.readAt (Elt F) arg4.view (Rect.unit (s := S1x2048x128) (k0_off13 i 3#32) S1x128x128.size (k0_off13_inb i 3)).toLoadRect (harg4.unread x1)) (top3 i arg4 arg5 arg6 (stackQ x0) (stackO (View.readAt (Elt F) arg7.view (Rect.unit (s := S1x512x128) ![0, 0, 0] S1x512x128.size inb_S1x512x128_S1x512x128_0_0_0).toLoadRect (harg7.unread x4))) (totals (View.readAt (Elt F) arg8.view (Rect.unit (s := S1x1x1x1x1024) ![0, 0, 0, 0, 0] S1x1x1x1x1024.size inb_S1x1x1x1x1024_S1x1x1x1x1024_0_0_0_0_0).toLoadRect (harg8.unread x5))) (harg4.unread x1) (harg5.unread x2) (harg6.unread x3) (loops c i arg3 harg3 arg4 harg4 arg5 harg5 arg6 harg6 arg7 harg7 arg8 harg8 arg9 harg9 arg10 harg10 arg11 harg11 x0 x1 x2 x3 x4 x5 s10 s11))) := by
  unfold bodyRun.sl.r_50
  simp only [at_r_49]
  rfl
theorem at_r_51 : bodyRun.sl.r_51 c i arg3 harg3 arg4 harg4 arg5 harg5 arg6 harg6 arg7 harg7 arg8 harg8 arg9 harg9 arg10 harg10 arg11 harg11 x0 x1 x2 x3 x4 x5 s10 s11 = (weightGrad256 (stackQ x0) (stackO (View.readAt (Elt F) arg7.view (Rect.unit (s := S1x512x128) ![0, 0, 0] S1x512x128.size inb_S1x512x128_S1x512x128_0_0_0).toLoadRect (harg7.unread x4))) k0_pay311 (View.readAt (Elt F) arg4.view (Rect.unit (s := S1x2048x128) (k0_off13 i 3#32) S1x128x128.size (k0_off13_inb i 3)).toLoadRect (harg4.unread x1)) (View.readAt (Elt F) arg5.view (Rect.unit (s := S1x2048x128) (k0_off13 i 3#32) S1x128x128.size (k0_off13_inb i 3)).toLoadRect (harg5.unread x2)) (top3 i arg4 arg5 arg6 (stackQ x0) (stackO (View.readAt (Elt F) arg7.view (Rect.unit (s := S1x512x128) ![0, 0, 0] S1x512x128.size inb_S1x512x128_S1x512x128_0_0_0).toLoadRect (harg7.unread x4))) (totals (View.readAt (Elt F) arg8.view (Rect.unit (s := S1x1x1x1x1024) ![0, 0, 0, 0, 0] S1x1x1x1x1024.size inb_S1x1x1x1x1024_S1x1x1x1x1024_0_0_0_0_0).toLoadRect (harg8.unread x5))) (harg4.unread x1) (harg5.unread x2) (harg6.unread x3) (loops c i arg3 harg3 arg4 harg4 arg5 harg5 arg6 harg6 arg7 harg7 arg8 harg8 arg9 harg9 arg10 harg10 arg11 harg11 x0 x1 x2 x3 x4 x5 s10 s11))) := by
  unfold bodyRun.sl.r_51
  simp only [at_r_31, at_r_49]
  rfl
theorem at_r_52 : bodyRun.sl.r_52 c i arg3 harg3 arg4 harg4 arg5 harg5 arg6 harg6 arg7 harg7 arg8 harg8 arg9 harg9 arg10 harg10 arg11 harg11 x0 x1 x2 x3 x4 x5 s10 s11 = (under1_1024 k0_pay311 (weightGrad1024 (stackQ x0) (stackO (View.readAt (Elt F) arg7.view (Rect.unit (s := S1x512x128) ![0, 0, 0] S1x512x128.size inb_S1x512x128_S1x512x128_0_0_0).toLoadRect (harg7.unread x4))) k0_pay311 (View.readAt (Elt F) arg4.view (Rect.unit (s := S1x2048x128) (k0_off13 i 0#32) S1x128x128.size (k0_off13_inb i 0)).toLoadRect (harg4.unread x1)) (View.readAt (Elt F) arg5.view (Rect.unit (s := S1x2048x128) (k0_off13 i 0#32) S1x128x128.size (k0_off13_inb i 0)).toLoadRect (harg5.unread x2)) (top0 (totals (View.readAt (Elt F) arg8.view (Rect.unit (s := S1x1x1x1x1024) ![0, 0, 0, 0, 0] S1x1x1x1x1024.size inb_S1x1x1x1x1024_S1x1x1x1x1024_0_0_0_0_0).toLoadRect (harg8.unread x5))) (loops c i arg3 harg3 arg4 harg4 arg5 harg5 arg6 harg6 arg7 harg7 arg8 harg8 arg9 harg9 arg10 harg10 arg11 harg11 x0 x1 x2 x3 x4 x5 s10 s11)))) := by
  unfold bodyRun.sl.r_52
  simp only [at_r_42]
  rfl
theorem at_r_53 : bodyRun.sl.r_53 c i arg3 harg3 arg4 harg4 arg5 harg5 arg6 harg6 arg7 harg7 arg8 harg8 arg9 harg9 arg10 harg10 arg11 harg11 x0 x1 x2 x3 x4 x5 s10 s11 = (under1_768 k0_pay311 (weightGrad768 (stackQ x0) (stackO (View.readAt (Elt F) arg7.view (Rect.unit (s := S1x512x128) ![0, 0, 0] S1x512x128.size inb_S1x512x128_S1x512x128_0_0_0).toLoadRect (harg7.unread x4))) k0_pay311 (View.readAt (Elt F) arg4.view (Rect.unit (s := S1x2048x128) (k0_off13 i 1#32) S1x128x128.size (k0_off13_inb i 1)).toLoadRect (harg4.unread x1)) (View.readAt (Elt F) arg5.view (Rect.unit (s := S1x2048x128) (k0_off13 i 1#32) S1x128x128.size (k0_off13_inb i 1)).toLoadRect (harg5.unread x2)) (top1 i arg4 arg5 arg6 (stackQ x0) (stackO (View.readAt (Elt F) arg7.view (Rect.unit (s := S1x512x128) ![0, 0, 0] S1x512x128.size inb_S1x512x128_S1x512x128_0_0_0).toLoadRect (harg7.unread x4))) (totals (View.readAt (Elt F) arg8.view (Rect.unit (s := S1x1x1x1x1024) ![0, 0, 0, 0, 0] S1x1x1x1x1024.size inb_S1x1x1x1x1024_S1x1x1x1x1024_0_0_0_0_0).toLoadRect (harg8.unread x5))) (harg4.unread x1) (harg5.unread x2) (harg6.unread x3) (loops c i arg3 harg3 arg4 harg4 arg5 harg5 arg6 harg6 arg7 harg7 arg8 harg8 arg9 harg9 arg10 harg10 arg11 harg11 x0 x1 x2 x3 x4 x5 s10 s11)))) := by
  unfold bodyRun.sl.r_53
  simp only [at_r_45]
  rfl
theorem at_r_54 : bodyRun.sl.r_54 c i arg3 harg3 arg4 harg4 arg5 harg5 arg6 harg6 arg7 harg7 arg8 harg8 arg9 harg9 arg10 harg10 arg11 harg11 x0 x1 x2 x3 x4 x5 s10 s11 = (under1_512 k0_pay311 (weightGrad512 (stackQ x0) (stackO (View.readAt (Elt F) arg7.view (Rect.unit (s := S1x512x128) ![0, 0, 0] S1x512x128.size inb_S1x512x128_S1x512x128_0_0_0).toLoadRect (harg7.unread x4))) k0_pay311 (View.readAt (Elt F) arg4.view (Rect.unit (s := S1x2048x128) (k0_off13 i 2#32) S1x128x128.size (k0_off13_inb i 2)).toLoadRect (harg4.unread x1)) (View.readAt (Elt F) arg5.view (Rect.unit (s := S1x2048x128) (k0_off13 i 2#32) S1x128x128.size (k0_off13_inb i 2)).toLoadRect (harg5.unread x2)) (top2 i arg4 arg5 arg6 (stackQ x0) (stackO (View.readAt (Elt F) arg7.view (Rect.unit (s := S1x512x128) ![0, 0, 0] S1x512x128.size inb_S1x512x128_S1x512x128_0_0_0).toLoadRect (harg7.unread x4))) (totals (View.readAt (Elt F) arg8.view (Rect.unit (s := S1x1x1x1x1024) ![0, 0, 0, 0, 0] S1x1x1x1x1024.size inb_S1x1x1x1x1024_S1x1x1x1x1024_0_0_0_0_0).toLoadRect (harg8.unread x5))) (harg4.unread x1) (harg5.unread x2) (harg6.unread x3) (loops c i arg3 harg3 arg4 harg4 arg5 harg5 arg6 harg6 arg7 harg7 arg8 harg8 arg9 harg9 arg10 harg10 arg11 harg11 x0 x1 x2 x3 x4 x5 s10 s11)))) := by
  unfold bodyRun.sl.r_54
  simp only [at_r_48]
  rfl
theorem at_r_55 : bodyRun.sl.r_55 c i arg3 harg3 arg4 harg4 arg5 harg5 arg6 harg6 arg7 harg7 arg8 harg8 arg9 harg9 arg10 harg10 arg11 harg11 x0 x1 x2 x3 x4 x5 s10 s11 = (under1_256 k0_pay311 (weightGrad256 (stackQ x0) (stackO (View.readAt (Elt F) arg7.view (Rect.unit (s := S1x512x128) ![0, 0, 0] S1x512x128.size inb_S1x512x128_S1x512x128_0_0_0).toLoadRect (harg7.unread x4))) k0_pay311 (View.readAt (Elt F) arg4.view (Rect.unit (s := S1x2048x128) (k0_off13 i 3#32) S1x128x128.size (k0_off13_inb i 3)).toLoadRect (harg4.unread x1)) (View.readAt (Elt F) arg5.view (Rect.unit (s := S1x2048x128) (k0_off13 i 3#32) S1x128x128.size (k0_off13_inb i 3)).toLoadRect (harg5.unread x2)) (top3 i arg4 arg5 arg6 (stackQ x0) (stackO (View.readAt (Elt F) arg7.view (Rect.unit (s := S1x512x128) ![0, 0, 0] S1x512x128.size inb_S1x512x128_S1x512x128_0_0_0).toLoadRect (harg7.unread x4))) (totals (View.readAt (Elt F) arg8.view (Rect.unit (s := S1x1x1x1x1024) ![0, 0, 0, 0, 0] S1x1x1x1x1024.size inb_S1x1x1x1x1024_S1x1x1x1x1024_0_0_0_0_0).toLoadRect (harg8.unread x5))) (harg4.unread x1) (harg5.unread x2) (harg6.unread x3) (loops c i arg3 harg3 arg4 harg4 arg5 harg5 arg6 harg6 arg7 harg7 arg8 harg8 arg9 harg9 arg10 harg10 arg11 harg11 x0 x1 x2 x3 x4 x5 s10 s11)))) := by
  unfold bodyRun.sl.r_55
  simp only [at_r_31, at_r_49]
  rfl
theorem at_r_56 : bodyRun.sl.r_56 c i arg3 harg3 arg4 harg4 arg5 harg5 arg6 harg6 arg7 harg7 arg8 harg8 arg9 harg9 arg10 harg10 arg11 harg11 x0 x1 x2 x3 x4 x5 s10 s11 = (logitGrad S128x1024 (weightGrad1024 (stackQ x0) (stackO (View.readAt (Elt F) arg7.view (Rect.unit (s := S1x512x128) ![0, 0, 0] S1x512x128.size inb_S1x512x128_S1x512x128_0_0_0).toLoadRect (harg7.unread x4))) k0_pay311 (View.readAt (Elt F) arg4.view (Rect.unit (s := S1x2048x128) (k0_off13 i 0#32) S1x128x128.size (k0_off13_inb i 0)).toLoadRect (harg4.unread x1)) (View.readAt (Elt F) arg5.view (Rect.unit (s := S1x2048x128) (k0_off13 i 0#32) S1x128x128.size (k0_off13_inb i 0)).toLoadRect (harg5.unread x2)) (top0 (totals (View.readAt (Elt F) arg8.view (Rect.unit (s := S1x1x1x1x1024) ![0, 0, 0, 0, 0] S1x1x1x1x1024.size inb_S1x1x1x1x1024_S1x1x1x1x1024_0_0_0_0_0).toLoadRect (harg8.unread x5))) (loops c i arg3 harg3 arg4 harg4 arg5 harg5 arg6 harg6 arg7 harg7 arg8 harg8 arg9 harg9 arg10 harg10 arg11 harg11 x0 x1 x2 x3 x4 x5 s10 s11))) (logBeta S128x1024 (scores1024 (cutRows1024 (stackQ x0)) (View.readAt (Elt F) arg4.view (Rect.unit (s := S1x2048x128) (k0_off13 i 0#32) S1x128x128.size (k0_off13_inb i 0)).toLoadRect (harg4.unread x1)))) (addf (broadcastTo S128x1024 (cutRow1024 (top0 (totals (View.readAt (Elt F) arg8.view (Rect.unit (s := S1x1x1x1x1024) ![0, 0, 0, 0, 0] S1x1x1x1x1024.size inb_S1x1x1x1x1024_S1x1x1x1x1024_0_0_0_0_0).toLoadRect (harg8.unread x5))) (loops c i arg3 harg3 arg4 harg4 arg5 harg5 arg6 harg6 arg7 harg7 arg8 harg8 arg9 harg9 arg10 harg10 arg11 harg11 x0 x1 x2 x3 x4 x5 s10 s11)).2.1) broadcasts_S1x1024_S128x1024) (under1_1024 k0_pay311 (weightGrad1024 (stackQ x0) (stackO (View.readAt (Elt F) arg7.view (Rect.unit (s := S1x512x128) ![0, 0, 0] S1x512x128.size inb_S1x512x128_S1x512x128_0_0_0).toLoadRect (harg7.unread x4))) k0_pay311 (View.readAt (Elt F) arg4.view (Rect.unit (s := S1x2048x128) (k0_off13 i 0#32) S1x128x128.size (k0_off13_inb i 0)).toLoadRect (harg4.unread x1)) (View.readAt (Elt F) arg5.view (Rect.unit (s := S1x2048x128) (k0_off13 i 0#32) S1x128x128.size (k0_off13_inb i 0)).toLoadRect (harg5.unread x2)) (top0 (totals (View.readAt (Elt F) arg8.view (Rect.unit (s := S1x1x1x1x1024) ![0, 0, 0, 0, 0] S1x1x1x1x1024.size inb_S1x1x1x1x1024_S1x1x1x1x1024_0_0_0_0_0).toLoadRect (harg8.unread x5))) (loops c i arg3 harg3 arg4 harg4 arg5 harg5 arg6 harg6 arg7 harg7 arg8 harg8 arg9 harg9 arg10 harg10 arg11 harg11 x0 x1 x2 x3 x4 x5 s10 s11)))))) := by
  unfold bodyRun.sl.r_56
  simp only [at_r_11, at_r_16, at_r_42]
  rfl
theorem at_r_57 : bodyRun.sl.r_57 c i arg3 harg3 arg4 harg4 arg5 harg5 arg6 harg6 arg7 harg7 arg8 harg8 arg9 harg9 arg10 harg10 arg11 harg11 x0 x1 x2 x3 x4 x5 s10 s11 = (scoreGrad1024 (stackQ x0) (stackO (View.readAt (Elt F) arg7.view (Rect.unit (s := S1x512x128) ![0, 0, 0] S1x512x128.size inb_S1x512x128_S1x512x128_0_0_0).toLoadRect (harg7.unread x4))) k0_pay311 (View.readAt (Elt F) arg4.view (Rect.unit (s := S1x2048x128) (k0_off13 i 0#32) S1x128x128.size (k0_off13_inb i 0)).toLoadRect (harg4.unread x1)) (View.readAt (Elt F) arg5.view (Rect.unit (s := S1x2048x128) (k0_off13 i 0#32) S1x128x128.size (k0_off13_inb i 0)).toLoadRect (harg5.unread x2)) (top0 (totals (View.readAt (Elt F) arg8.view (Rect.unit (s := S1x1x1x1x1024) ![0, 0, 0, 0, 0] S1x1x1x1x1024.size inb_S1x1x1x1x1024_S1x1x1x1x1024_0_0_0_0_0).toLoadRect (harg8.unread x5))) (loops c i arg3 harg3 arg4 harg4 arg5 harg5 arg6 harg6 arg7 harg7 arg8 harg8 arg9 harg9 arg10 harg10 arg11 harg11 x0 x1 x2 x3 x4 x5 s10 s11))) := by
  unfold bodyRun.sl.r_57
  simp only [at_r_56]
  rfl
theorem at_r_58 : bodyRun.sl.r_58 c i arg3 harg3 arg4 harg4 arg5 harg5 arg6 harg6 arg7 harg7 arg8 harg8 arg9 harg9 arg10 harg10 arg11 harg11 x0 x1 x2 x3 x4 x5 s10 s11 = (top1 i arg4 arg5 arg6 (stackQ x0) (stackO (View.readAt (Elt F) arg7.view (Rect.unit (s := S1x512x128) ![0, 0, 0] S1x512x128.size inb_S1x512x128_S1x512x128_0_0_0).toLoadRect (harg7.unread x4))) (totals (View.readAt (Elt F) arg8.view (Rect.unit (s := S1x1x1x1x1024) ![0, 0, 0, 0, 0] S1x1x1x1x1024.size inb_S1x1x1x1x1024_S1x1x1x1x1024_0_0_0_0_0).toLoadRect (harg8.unread x5))) (harg4.unread x1) (harg5.unread x2) (harg6.unread x3) (loops c i arg3 harg3 arg4 harg4 arg5 harg5 arg6 harg6 arg7 harg7 arg8 harg8 arg9 harg9 arg10 harg10 arg11 harg11 x0 x1 x2 x3 x4 x5 s10 s11)).2.1 := by
  unfold bodyRun.sl.r_58
  simp only [at_r_11, at_r_42, at_r_52]
  rfl
theorem at_r_59 : bodyRun.sl.r_59 c i arg3 harg3 arg4 harg4 arg5 harg5 arg6 harg6 arg7 harg7 arg8 harg8 arg9 harg9 arg10 harg10 arg11 harg11 x0 x1 x2 x3 x4 x5 s10 s11 = (logitGrad S128x768 (weightGrad768 (stackQ x0) (stackO (View.readAt (Elt F) arg7.view (Rect.unit (s := S1x512x128) ![0, 0, 0] S1x512x128.size inb_S1x512x128_S1x512x128_0_0_0).toLoadRect (harg7.unread x4))) k0_pay311 (View.readAt (Elt F) arg4.view (Rect.unit (s := S1x2048x128) (k0_off13 i 1#32) S1x128x128.size (k0_off13_inb i 1)).toLoadRect (harg4.unread x1)) (View.readAt (Elt F) arg5.view (Rect.unit (s := S1x2048x128) (k0_off13 i 1#32) S1x128x128.size (k0_off13_inb i 1)).toLoadRect (harg5.unread x2)) (top1 i arg4 arg5 arg6 (stackQ x0) (stackO (View.readAt (Elt F) arg7.view (Rect.unit (s := S1x512x128) ![0, 0, 0] S1x512x128.size inb_S1x512x128_S1x512x128_0_0_0).toLoadRect (harg7.unread x4))) (totals (View.readAt (Elt F) arg8.view (Rect.unit (s := S1x1x1x1x1024) ![0, 0, 0, 0, 0] S1x1x1x1x1024.size inb_S1x1x1x1x1024_S1x1x1x1x1024_0_0_0_0_0).toLoadRect (harg8.unread x5))) (harg4.unread x1) (harg5.unread x2) (harg6.unread x3) (loops c i arg3 harg3 arg4 harg4 arg5 harg5 arg6 harg6 arg7 harg7 arg8 harg8 arg9 harg9 arg10 harg10 arg11 harg11 x0 x1 x2 x3 x4 x5 s10 s11))) (logBeta S128x768 (scores768 (cutRows768 (stackQ x0)) (View.readAt (Elt F) arg4.view (Rect.unit (s := S1x2048x128) (k0_off13 i 1#32) S1x128x128.size (k0_off13_inb i 1)).toLoadRect (harg4.unread x1)))) (addf (broadcastTo S128x768 (cutRow768 (top1 i arg4 arg5 arg6 (stackQ x0) (stackO (View.readAt (Elt F) arg7.view (Rect.unit (s := S1x512x128) ![0, 0, 0] S1x512x128.size inb_S1x512x128_S1x512x128_0_0_0).toLoadRect (harg7.unread x4))) (totals (View.readAt (Elt F) arg8.view (Rect.unit (s := S1x1x1x1x1024) ![0, 0, 0, 0, 0] S1x1x1x1x1024.size inb_S1x1x1x1x1024_S1x1x1x1x1024_0_0_0_0_0).toLoadRect (harg8.unread x5))) (harg4.unread x1) (harg5.unread x2) (harg6.unread x3) (loops c i arg3 harg3 arg4 harg4 arg5 harg5 arg6 harg6 arg7 harg7 arg8 harg8 arg9 harg9 arg10 harg10 arg11 harg11 x0 x1 x2 x3 x4 x5 s10 s11)).2.1) broadcasts_S1x768_S128x768) (under1_768 k0_pay311 (weightGrad768 (stackQ x0) (stackO (View.readAt (Elt F) arg7.view (Rect.unit (s := S1x512x128) ![0, 0, 0] S1x512x128.size inb_S1x512x128_S1x512x128_0_0_0).toLoadRect (harg7.unread x4))) k0_pay311 (View.readAt (Elt F) arg4.view (Rect.unit (s := S1x2048x128) (k0_off13 i 1#32) S1x128x128.size (k0_off13_inb i 1)).toLoadRect (harg4.unread x1)) (View.readAt (Elt F) arg5.view (Rect.unit (s := S1x2048x128) (k0_off13 i 1#32) S1x128x128.size (k0_off13_inb i 1)).toLoadRect (harg5.unread x2)) (top1 i arg4 arg5 arg6 (stackQ x0) (stackO (View.readAt (Elt F) arg7.view (Rect.unit (s := S1x512x128) ![0, 0, 0] S1x512x128.size inb_S1x512x128_S1x512x128_0_0_0).toLoadRect (harg7.unread x4))) (totals (View.readAt (Elt F) arg8.view (Rect.unit (s := S1x1x1x1x1024) ![0, 0, 0, 0, 0] S1x1x1x1x1024.size inb_S1x1x1x1x1024_S1x1x1x1x1024_0_0_0_0_0).toLoadRect (harg8.unread x5))) (harg4.unread x1) (harg5.unread x2) (harg6.unread x3) (loops c i arg3 harg3 arg4 harg4 arg5 harg5 arg6 harg6 arg7 harg7 arg8 harg8 arg9 harg9 arg10 harg10 arg11 harg11 x0 x1 x2 x3 x4 x5 s10 s11)))))) := by
  unfold bodyRun.sl.r_59
  simp only [at_r_11, at_r_22, at_r_42, at_r_45, at_r_52, at_r_53]
  rfl
theorem at_r_60 : bodyRun.sl.r_60 c i arg3 harg3 arg4 harg4 arg5 harg5 arg6 harg6 arg7 harg7 arg8 harg8 arg9 harg9 arg10 harg10 arg11 harg11 x0 x1 x2 x3 x4 x5 s10 s11 = (scoreGrad768 (stackQ x0) (stackO (View.readAt (Elt F) arg7.view (Rect.unit (s := S1x512x128) ![0, 0, 0] S1x512x128.size inb_S1x512x128_S1x512x128_0_0_0).toLoadRect (harg7.unread x4))) k0_pay311 (View.readAt (Elt F) arg4.view (Rect.unit (s := S1x2048x128) (k0_off13 i 1#32) S1x128x128.size (k0_off13_inb i 1)).toLoadRect (harg4.unread x1)) (View.readAt (Elt F) arg5.view (Rect.unit (s := S1x2048x128) (k0_off13 i 1#32) S1x128x128.size (k0_off13_inb i 1)).toLoadRect (harg5.unread x2)) (top1 i arg4 arg5 arg6 (stackQ x0) (stackO (View.readAt (Elt F) arg7.view (Rect.unit (s := S1x512x128) ![0, 0, 0] S1x512x128.size inb_S1x512x128_S1x512x128_0_0_0).toLoadRect (harg7.unread x4))) (totals (View.readAt (Elt F) arg8.view (Rect.unit (s := S1x1x1x1x1024) ![0, 0, 0, 0, 0] S1x1x1x1x1024.size inb_S1x1x1x1x1024_S1x1x1x1x1024_0_0_0_0_0).toLoadRect (harg8.unread x5))) (harg4.unread x1) (harg5.unread x2) (harg6.unread x3) (loops c i arg3 harg3 arg4 harg4 arg5 harg5 arg6 harg6 arg7 harg7 arg8 harg8 arg9 harg9 arg10 harg10 arg11 harg11 x0 x1 x2 x3 x4 x5 s10 s11))) := by
  unfold bodyRun.sl.r_60
  simp only [at_r_59]
  rfl
theorem at_r_61 : bodyRun.sl.r_61 c i arg3 harg3 arg4 harg4 arg5 harg5 arg6 harg6 arg7 harg7 arg8 harg8 arg9 harg9 arg10 harg10 arg11 harg11 x0 x1 x2 x3 x4 x5 s10 s11 = (top2 i arg4 arg5 arg6 (stackQ x0) (stackO (View.readAt (Elt F) arg7.view (Rect.unit (s := S1x512x128) ![0, 0, 0] S1x512x128.size inb_S1x512x128_S1x512x128_0_0_0).toLoadRect (harg7.unread x4))) (totals (View.readAt (Elt F) arg8.view (Rect.unit (s := S1x1x1x1x1024) ![0, 0, 0, 0, 0] S1x1x1x1x1024.size inb_S1x1x1x1x1024_S1x1x1x1x1024_0_0_0_0_0).toLoadRect (harg8.unread x5))) (harg4.unread x1) (harg5.unread x2) (harg6.unread x3) (loops c i arg3 harg3 arg4 harg4 arg5 harg5 arg6 harg6 arg7 harg7 arg8 harg8 arg9 harg9 arg10 harg10 arg11 harg11 x0 x1 x2 x3 x4 x5 s10 s11)).2.1 := by
  unfold bodyRun.sl.r_61
  simp only [at_r_45, at_r_53, at_r_58]
  rfl
theorem at_r_62 : bodyRun.sl.r_62 c i arg3 harg3 arg4 harg4 arg5 harg5 arg6 harg6 arg7 harg7 arg8 harg8 arg9 harg9 arg10 harg10 arg11 harg11 x0 x1 x2 x3 x4 x5 s10 s11 = (logitGrad S128x512 (weightGrad512 (stackQ x0) (stackO (View.readAt (Elt F) arg7.view (Rect.unit (s := S1x512x128) ![0, 0, 0] S1x512x128.size inb_S1x512x128_S1x512x128_0_0_0).toLoadRect (harg7.unread x4))) k0_pay311 (View.readAt (Elt F) arg4.view (Rect.unit (s := S1x2048x128) (k0_off13 i 2#32) S1x128x128.size (k0_off13_inb i 2)).toLoadRect (harg4.unread x1)) (View.readAt (Elt F) arg5.view (Rect.unit (s := S1x2048x128) (k0_off13 i 2#32) S1x128x128.size (k0_off13_inb i 2)).toLoadRect (harg5.unread x2)) (top2 i arg4 arg5 arg6 (stackQ x0) (stackO (View.readAt (Elt F) arg7.view (Rect.unit (s := S1x512x128) ![0, 0, 0] S1x512x128.size inb_S1x512x128_S1x512x128_0_0_0).toLoadRect (harg7.unread x4))) (totals (View.readAt (Elt F) arg8.view (Rect.unit (s := S1x1x1x1x1024) ![0, 0, 0, 0, 0] S1x1x1x1x1024.size inb_S1x1x1x1x1024_S1x1x1x1x1024_0_0_0_0_0).toLoadRect (harg8.unread x5))) (harg4.unread x1) (harg5.unread x2) (harg6.unread x3) (loops c i arg3 harg3 arg4 harg4 arg5 harg5 arg6 harg6 arg7 harg7 arg8 harg8 arg9 harg9 arg10 harg10 arg11 harg11 x0 x1 x2 x3 x4 x5 s10 s11))) (logBeta S128x512 (scores512 (cutRows512 (stackQ x0)) (View.readAt (Elt F) arg4.view (Rect.unit (s := S1x2048x128) (k0_off13 i 2#32) S1x128x128.size (k0_off13_inb i 2)).toLoadRect (harg4.unread x1)))) (addf (broadcastTo S128x512 (cutRow512 (top2 i arg4 arg5 arg6 (stackQ x0) (stackO (View.readAt (Elt F) arg7.view (Rect.unit (s := S1x512x128) ![0, 0, 0] S1x512x128.size inb_S1x512x128_S1x512x128_0_0_0).toLoadRect (harg7.unread x4))) (totals (View.readAt (Elt F) arg8.view (Rect.unit (s := S1x1x1x1x1024) ![0, 0, 0, 0, 0] S1x1x1x1x1024.size inb_S1x1x1x1x1024_S1x1x1x1x1024_0_0_0_0_0).toLoadRect (harg8.unread x5))) (harg4.unread x1) (harg5.unread x2) (harg6.unread x3) (loops c i arg3 harg3 arg4 harg4 arg5 harg5 arg6 harg6 arg7 harg7 arg8 harg8 arg9 harg9 arg10 harg10 arg11 harg11 x0 x1 x2 x3 x4 x5 s10 s11)).2.1) broadcasts_S1x512_S128x512) (under1_512 k0_pay311 (weightGrad512 (stackQ x0) (stackO (View.readAt (Elt F) arg7.view (Rect.unit (s := S1x512x128) ![0, 0, 0] S1x512x128.size inb_S1x512x128_S1x512x128_0_0_0).toLoadRect (harg7.unread x4))) k0_pay311 (View.readAt (Elt F) arg4.view (Rect.unit (s := S1x2048x128) (k0_off13 i 2#32) S1x128x128.size (k0_off13_inb i 2)).toLoadRect (harg4.unread x1)) (View.readAt (Elt F) arg5.view (Rect.unit (s := S1x2048x128) (k0_off13 i 2#32) S1x128x128.size (k0_off13_inb i 2)).toLoadRect (harg5.unread x2)) (top2 i arg4 arg5 arg6 (stackQ x0) (stackO (View.readAt (Elt F) arg7.view (Rect.unit (s := S1x512x128) ![0, 0, 0] S1x512x128.size inb_S1x512x128_S1x512x128_0_0_0).toLoadRect (harg7.unread x4))) (totals (View.readAt (Elt F) arg8.view (Rect.unit (s := S1x1x1x1x1024) ![0, 0, 0, 0, 0] S1x1x1x1x1024.size inb_S1x1x1x1x1024_S1x1x1x1x1024_0_0_0_0_0).toLoadRect (harg8.unread x5))) (harg4.unread x1) (harg5.unread x2) (harg6.unread x3) (loops c i arg3 harg3 arg4 harg4 arg5 harg5 arg6 harg6 arg7 harg7 arg8 harg8 arg9 harg9 arg10 harg10 arg11 harg11 x0 x1 x2 x3 x4 x5 s10 s11)))))) := by
  unfold bodyRun.sl.r_62
  simp only [at_r_28, at_r_45, at_r_48, at_r_53, at_r_54, at_r_58]
  rfl
theorem at_r_63 : bodyRun.sl.r_63 c i arg3 harg3 arg4 harg4 arg5 harg5 arg6 harg6 arg7 harg7 arg8 harg8 arg9 harg9 arg10 harg10 arg11 harg11 x0 x1 x2 x3 x4 x5 s10 s11 = extractStridedSlice S128x256 ![0, 0] (logitGrad S128x512 (weightGrad512 (stackQ x0) (stackO (View.readAt (Elt F) arg7.view (Rect.unit (s := S1x512x128) ![0, 0, 0] S1x512x128.size inb_S1x512x128_S1x512x128_0_0_0).toLoadRect (harg7.unread x4))) k0_pay311 (View.readAt (Elt F) arg4.view (Rect.unit (s := S1x2048x128) (k0_off13 i 2#32) S1x128x128.size (k0_off13_inb i 2)).toLoadRect (harg4.unread x1)) (View.readAt (Elt F) arg5.view (Rect.unit (s := S1x2048x128) (k0_off13 i 2#32) S1x128x128.size (k0_off13_inb i 2)).toLoadRect (harg5.unread x2)) (top2 i arg4 arg5 arg6 (stackQ x0) (stackO (View.readAt (Elt F) arg7.view (Rect.unit (s := S1x512x128) ![0, 0, 0] S1x512x128.size inb_S1x512x128_S1x512x128_0_0_0).toLoadRect (harg7.unread x4))) (totals (View.readAt (Elt F) arg8.view (Rect.unit (s := S1x1x1x1x1024) ![0, 0, 0, 0, 0] S1x1x1x1x1024.size inb_S1x1x1x1x1024_S1x1x1x1x1024_0_0_0_0_0).toLoadRect (harg8.unread x5))) (harg4.unread x1) (harg5.unread x2) (harg6.unread x3) (loops c i arg3 harg3 arg4 harg4 arg5 harg5 arg6 harg6 arg7 harg7 arg8 harg8 arg9 harg9 arg10 harg10 arg11 harg11 x0 x1 x2 x3 x4 x5 s10 s11))) (logBeta S128x512 (scores512 (cutRows512 (stackQ x0)) (View.readAt (Elt F) arg4.view (Rect.unit (s := S1x2048x128) (k0_off13 i 2#32) S1x128x128.size (k0_off13_inb i 2)).toLoadRect (harg4.unread x1)))) (addf (broadcastTo S128x512 (cutRow512 (top2 i arg4 arg5 arg6 (stackQ x0) (stackO (View.readAt (Elt F) arg7.view (Rect.unit (s := S1x512x128) ![0, 0, 0] S1x512x128.size inb_S1x512x128_S1x512x128_0_0_0).toLoadRect (harg7.unread x4))) (totals (View.readAt (Elt F) arg8.view (Rect.unit (s := S1x1x1x1x1024) ![0, 0, 0, 0, 0] S1x1x1x1x1024.size inb_S1x1x1x1x1024_S1x1x1x1x1024_0_0_0_0_0).toLoadRect (harg8.unread x5))) (harg4.unread x1) (harg5.unread x2) (harg6.unread x3) (loops c i arg3 harg3 arg4 harg4 arg5 harg5 arg6 harg6 arg7 harg7 arg8 harg8 arg9 harg9 arg10 harg10 arg11 harg11 x0 x1 x2 x3 x4 x5 s10 s11)).2.1) broadcasts_S1x512_S128x512) (under1_512 k0_pay311 (weightGrad512 (stackQ x0) (stackO (View.readAt (Elt F) arg7.view (Rect.unit (s := S1x512x128) ![0, 0, 0] S1x512x128.size inb_S1x512x128_S1x512x128_0_0_0).toLoadRect (harg7.unread x4))) k0_pay311 (View.readAt (Elt F) arg4.view (Rect.unit (s := S1x2048x128) (k0_off13 i 2#32) S1x128x128.size (k0_off13_inb i 2)).toLoadRect (harg4.unread x1)) (View.readAt (Elt F) arg5.view (Rect.unit (s := S1x2048x128) (k0_off13 i 2#32) S1x128x128.size (k0_off13_inb i 2)).toLoadRect (harg5.unread x2)) (top2 i arg4 arg5 arg6 (stackQ x0) (stackO (View.readAt (Elt F) arg7.view (Rect.unit (s := S1x512x128) ![0, 0, 0] S1x512x128.size inb_S1x512x128_S1x512x128_0_0_0).toLoadRect (harg7.unread x4))) (totals (View.readAt (Elt F) arg8.view (Rect.unit (s := S1x1x1x1x1024) ![0, 0, 0, 0, 0] S1x1x1x1x1024.size inb_S1x1x1x1x1024_S1x1x1x1x1024_0_0_0_0_0).toLoadRect (harg8.unread x5))) (harg4.unread x1) (harg5.unread x2) (harg6.unread x3) (loops c i arg3 harg3 arg4 harg4 arg5 harg5 arg6 harg6 arg7 harg7 arg8 harg8 arg9 harg9 arg10 harg10 arg11 harg11 x0 x1 x2 x3 x4 x5 s10 s11)))))) slices_S128x512_o0_0_S128x256 := by
  unfold bodyRun.sl.r_63
  simp only [at_r_28, at_r_45, at_r_48, at_r_53, at_r_54, at_r_58]
  rfl
theorem at_r_64 : bodyRun.sl.r_64 c i arg3 harg3 arg4 harg4 arg5 harg5 arg6 harg6 arg7 harg7 arg8 harg8 arg9 harg9 arg10 harg10 arg11 harg11 x0 x1 x2 x3 x4 x5 s10 s11 = (scoreGrad512 (stackQ x0) (stackO (View.readAt (Elt F) arg7.view (Rect.unit (s := S1x512x128) ![0, 0, 0] S1x512x128.size inb_S1x512x128_S1x512x128_0_0_0).toLoadRect (harg7.unread x4))) k0_pay311 (View.readAt (Elt F) arg4.view (Rect.unit (s := S1x2048x128) (k0_off13 i 2#32) S1x128x128.size (k0_off13_inb i 2)).toLoadRect (harg4.unread x1)) (View.readAt (Elt F) arg5.view (Rect.unit (s := S1x2048x128) (k0_off13 i 2#32) S1x128x128.size (k0_off13_inb i 2)).toLoadRect (harg5.unread x2)) (top2 i arg4 arg5 arg6 (stackQ x0) (stackO (View.readAt (Elt F) arg7.view (Rect.unit (s := S1x512x128) ![0, 0, 0] S1x512x128.size inb_S1x512x128_S1x512x128_0_0_0).toLoadRect (harg7.unread x4))) (totals (View.readAt (Elt F) arg8.view (Rect.unit (s := S1x1x1x1x1024) ![0, 0, 0, 0, 0] S1x1x1x1x1024.size inb_S1x1x1x1x1024_S1x1x1x1x1024_0_0_0_0_0).toLoadRect (harg8.unread x5))) (harg4.unread x1) (harg5.unread x2) (harg6.unread x3) (loops c i arg3 harg3 arg4 harg4 arg5 harg5 arg6 harg6 arg7 harg7 arg8 harg8 arg9 harg9 arg10 harg10 arg11 harg11 x0 x1 x2 x3 x4 x5 s10 s11))) := by
  unfold bodyRun.sl.r_64
  simp only [at_r_62, at_r_63]
  rfl
theorem at_r_65 : bodyRun.sl.r_65 c i arg3 harg3 arg4 harg4 arg5 harg5 arg6 harg6 arg7 harg7 arg8 harg8 arg9 harg9 arg10 harg10 arg11 harg11 x0 x1 x2 x3 x4 x5 s10 s11 = (scoreGrad256 (stackQ x0) (stackO (View.readAt (Elt F) arg7.view (Rect.unit (s := S1x512x128) ![0, 0, 0] S1x512x128.size inb_S1x512x128_S1x512x128_0_0_0).toLoadRect (harg7.unread x4))) k0_pay311 (View.readAt (Elt F) arg4.view (Rect.unit (s := S1x2048x128) (k0_off13 i 3#32) S1x128x128.size (k0_off13_inb i 3)).toLoadRect (harg4.unread x1)) (View.readAt (Elt F) arg5.view (Rect.unit (s := S1x2048x128) (k0_off13 i 3#32) S1x128x128.size (k0_off13_inb i 3)).toLoadRect (harg5.unread x2)) (top3 i arg4 arg5 arg6 (stackQ x0) (stackO (View.readAt (Elt F) arg7.view (Rect.unit (s := S1x512x128) ![0, 0, 0] S1x512x128.size inb_S1x512x128_S1x512x128_0_0_0).toLoadRect (harg7.unread x4))) (totals (View.readAt (Elt F) arg8.view (Rect.unit (s := S1x1x1x1x1024) ![0, 0, 0, 0, 0] S1x1x1x1x1024.size inb_S1x1x1x1x1024_S1x1x1x1x1024_0_0_0_0_0).toLoadRect (harg8.unread x5))) (harg4.unread x1) (harg5.unread x2) (harg6.unread x3) (loops c i arg3 harg3 arg4 harg4 arg5 harg5 arg6 harg6 arg7 harg7 arg8 harg8 arg9 harg9 arg10 harg10 arg11 harg11 x0 x1 x2 x3 x4 x5 s10 s11))) := by
  unfold bodyRun.sl.r_65
  simp only [at_r_33, at_r_48, at_r_51, at_r_54, at_r_55, at_r_61]
  rfl
theorem at_r_66 : bodyRun.sl.r_66 c i arg3 harg3 arg4 harg4 arg5 harg5 arg6 harg6 arg7 harg7 arg8 harg8 arg9 harg9 arg10 harg10 arg11 harg11 x0 x1 x2 x3 x4 x5 s10 s11 = (top2 i arg4 arg5 arg6 (stackQ x0) (stackO (View.readAt (Elt F) arg7.view (Rect.unit (s := S1x512x128) ![0, 0, 0] S1x512x128.size inb_S1x512x128_S1x512x128_0_0_0).toLoadRect (harg7.unread x4))) (totals (View.readAt (Elt F) arg8.view (Rect.unit (s := S1x1x1x1x1024) ![0, 0, 0, 0, 0] S1x1x1x1x1024.size inb_S1x1x1x1x1024_S1x1x1x1x1024_0_0_0_0_0).toLoadRect (harg8.unread x5))) (harg4.unread x1) (harg5.unread x2) (harg6.unread x3) (loops c i arg3 harg3 arg4 harg4 arg5 harg5 arg6 harg6 arg7 harg7 arg8 harg8 arg9 harg9 arg10 harg10 arg11 harg11 x0 x1 x2 x3 x4 x5 s10 s11)).2.2 := by
  unfold bodyRun.sl.r_66
  simp only [at_r_12, at_r_57, at_r_60]
  rfl
theorem at_v679 : bodyRun.sl.v679 c i arg3 harg3 arg4 harg4 arg5 harg5 arg6 harg6 arg7 harg7 arg8 harg8 arg9 harg9 arg10 harg10 arg11 harg11 x0 x1 x2 x3 x4 x5 s10 s11 = (View.readAt (Elt F) arg10.view (Rect.unit (s := S1x2048x128) (k0_off13 i 0#32) S1x128x128.size (k0_off13_inb i 0)).toLoadRect (arg10.view.writes (Elt F) (harg10.unread s10) (keys0 (loops c i arg3 harg3 arg4 harg4 arg5 harg5 arg6 harg6 arg7 harg7 arg8 harg8 arg9 harg9 arg10 harg10 arg11 harg11 x0 x1 x2 x3 x4 x5 s10 s11)))) := by
  unfold bodyRun.sl.v679
  simp only [at_r, at_r_9, at_r_10]
  rfl
theorem at_v688 : bodyRun.sl.v688 c i arg3 harg3 arg4 harg4 arg5 harg5 arg6 harg6 arg7 harg7 arg8 harg8 arg9 harg9 arg10 harg10 arg11 harg11 x0 x1 x2 x3 x4 x5 s10 s11 = (View.readAt (Elt F) arg11.view (Rect.unit (s := S1x2048x128) (k0_off13 i 0#32) S1x128x128.size (k0_off13_inb i 0)).toLoadRect (arg11.view.writes (Elt F) (harg11.unread s11) (values0 (loops c i arg3 harg3 arg4 harg4 arg5 harg5 arg6 harg6 arg7 harg7 arg8 harg8 arg9 harg9 arg10 harg10 arg11 harg11 x0 x1 x2 x3 x4 x5 s10 s11)))) := by
  unfold bodyRun.sl.v688
  simp only [at_r, at_r_9, at_r_10]
  rfl
theorem at_H10_1 : bodyRun.sl.H10_1 c i arg3 harg3 arg4 harg4 arg5 harg5 arg6 harg6 arg7 harg7 arg8 harg8 arg9 harg9 arg10 harg10 arg11 harg11 x0 x1 x2 x3 x4 x5 s10 s11 = (keys1 i arg4 arg5 arg10 (stackQ x0) (stackO (View.readAt (Elt F) arg7.view (Rect.unit (s := S1x512x128) ![0, 0, 0] S1x512x128.size inb_S1x512x128_S1x512x128_0_0_0).toLoadRect (harg7.unread x4))) (totals (View.readAt (Elt F) arg8.view (Rect.unit (s := S1x1x1x1x1024) ![0, 0, 0, 0, 0] S1x1x1x1x1024.size inb_S1x1x1x1x1024_S1x1x1x1x1024_0_0_0_0_0).toLoadRect (harg8.unread x5))) (harg4.unread x1) (harg5.unread x2) (harg10.unread s10) (loops c i arg3 harg3 arg4 harg4 arg5 harg5 arg6 harg6 arg7 harg7 arg8 harg8 arg9 harg9 arg10 harg10 arg11 harg11 x0 x1 x2 x3 x4 x5 s10 s11)) := by
  unfold bodyRun.sl.H10_1
  simp only [at_r, at_r_57, at_v679, at_r_9, at_r_10]
  rfl
theorem at_H11_1 : bodyRun.sl.H11_1 c i arg3 harg3 arg4 harg4 arg5 harg5 arg6 harg6 arg7 harg7 arg8 harg8 arg9 harg9 arg10 harg10 arg11 harg11 x0 x1 x2 x3 x4 x5 s10 s11 = (values1 i arg4 arg11 (stackQ x0) (stackO (View.readAt (Elt F) arg7.view (Rect.unit (s := S1x512x128) ![0, 0, 0] S1x512x128.size inb_S1x512x128_S1x512x128_0_0_0).toLoadRect (harg7.unread x4))) (totals (View.readAt (Elt F) arg8.view (Rect.unit (s := S1x1x1x1x1024) ![0, 0, 0, 0, 0] S1x1x1x1x1024.size inb_S1x1x1x1x1024_S1x1x1x1x1024_0_0_0_0_0).toLoadRect (harg8.unread x5))) (harg4.unread x1) (harg11.unread s11) (loops c i arg3 harg3 arg4 harg4 arg5 harg5 arg6 harg6 arg7 harg7 arg8 harg8 arg9 harg9 arg10 harg10 arg11 harg11 x0 x1 x2 x3 x4 x5 s10 s11)) := by
  unfold bodyRun.sl.H11_1
  simp only [at_r_9, at_r_39, at_v688, at_r, at_r_10]
  rfl
theorem at_r_67 : bodyRun.sl.r_67 c i arg3 harg3 arg4 harg4 arg5 harg5 arg6 harg6 arg7 harg7 arg8 harg8 arg9 harg9 arg10 harg10 arg11 harg11 x0 x1 x2 x3 x4 x5 s10 s11 = shapeCast S128x128 (View.readAt (Elt F) arg10.view (Rect.unit (s := S1x2048x128) (k0_off13 i 1#32) S1x128x128.size (k0_off13_inb i 1)).toLoadRect (arg10.view.writes (Elt F) (harg10.unread s10) (keys1 i arg4 arg5 arg10 (stackQ x0) (stackO (View.readAt (Elt F) arg7.view (Rect.unit (s := S1x512x128) ![0, 0, 0] S1x512x128.size inb_S1x512x128_S1x512x128_0_0_0).toLoadRect (harg7.unread x4))) (totals (View.readAt (Elt F) arg8.view (Rect.unit (s := S1x1x1x1x1024) ![0, 0, 0, 0, 0] S1x1x1x1x1024.size inb_S1x1x1x1x1024_S1x1x1x1x1024_0_0_0_0_0).toLoadRect (harg8.unread x5))) (harg4.unread x1) (harg5.unread x2) (harg10.unread s10) (loops c i arg3 harg3 arg4 harg4 arg5 harg5 arg6 harg6 arg7 harg7 arg8 harg8 arg9 harg9 arg10 harg10 arg11 harg11 x0 x1 x2 x3 x4 x5 s10 s11)))) shapeCasts_S1x128x128_S128x128 := by
  unfold bodyRun.sl.r_67
  simp only [at_H10_1]
  rfl
theorem at_r_68 : bodyRun.sl.r_68 c i arg3 harg3 arg4 harg4 arg5 harg5 arg6 harg6 arg7 harg7 arg8 harg8 arg9 harg9 arg10 harg10 arg11 harg11 x0 x1 x2 x3 x4 x5 s10 s11 = matmul dot_S128x768_S768x128_S128x128_1_0_0_1_n_n none (scoreGrad768 (stackQ x0) (stackO (View.readAt (Elt F) arg7.view (Rect.unit (s := S1x512x128) ![0, 0, 0] S1x512x128.size inb_S1x512x128_S1x512x128_0_0_0).toLoadRect (harg7.unread x4))) k0_pay311 (View.readAt (Elt F) arg4.view (Rect.unit (s := S1x2048x128) (k0_off13 i 1#32) S1x128x128.size (k0_off13_inb i 1)).toLoadRect (harg4.unread x1)) (View.readAt (Elt F) arg5.view (Rect.unit (s := S1x2048x128) (k0_off13 i 1#32) S1x128x128.size (k0_off13_inb i 1)).toLoadRect (harg5.unread x2)) (top1 i arg4 arg5 arg6 (stackQ x0) (stackO (View.readAt (Elt F) arg7.view (Rect.unit (s := S1x512x128) ![0, 0, 0] S1x512x128.size inb_S1x512x128_S1x512x128_0_0_0).toLoadRect (harg7.unread x4))) (totals (View.readAt (Elt F) arg8.view (Rect.unit (s := S1x1x1x1x1024) ![0, 0, 0, 0, 0] S1x1x1x1x1024.size inb_S1x1x1x1x1024_S1x1x1x1x1024_0_0_0_0_0).toLoadRect (harg8.unread x5))) (harg4.unread x1) (harg5.unread x2) (harg6.unread x3) (loops c i arg3 harg3 arg4 harg4 arg5 harg5 arg6 harg6 arg7 harg7 arg8 harg8 arg9 harg9 arg10 harg10 arg11 harg11 x0 x1 x2 x3 x4 x5 s10 s11))) (cutRows768 (stackQ x0)) (constant S128x128 .f32 0x00000000#32) := by
  unfold bodyRun.sl.r_68
  simp only [at_r_18, at_r_60]
  rfl
theorem at_H10_2 : bodyRun.sl.H10_2 c i arg3 harg3 arg4 harg4 arg5 harg5 arg6 harg6 arg7 harg7 arg8 harg8 arg9 harg9 arg10 harg10 arg11 harg11 x0 x1 x2 x3 x4 x5 s10 s11 = (keys2 i arg4 arg5 arg6 arg10 (stackQ x0) (stackO (View.readAt (Elt F) arg7.view (Rect.unit (s := S1x512x128) ![0, 0, 0] S1x512x128.size inb_S1x512x128_S1x512x128_0_0_0).toLoadRect (harg7.unread x4))) (totals (View.readAt (Elt F) arg8.view (Rect.unit (s := S1x1x1x1x1024) ![0, 0, 0, 0, 0] S1x1x1x1x1024.size inb_S1x1x1x1x1024_S1x1x1x1x1024_0_0_0_0_0).toLoadRect (harg8.unread x5))) (harg4.unread x1) (harg5.unread x2) (harg6.unread x3) (harg10.unread s10) (loops c i arg3 harg3 arg4 harg4 arg5 harg5 arg6 harg6 arg7 harg7 arg8 harg8 arg9 harg9 arg10 harg10 arg11 harg11 x0 x1 x2 x3 x4 x5 s10 s11)) := by
  unfold bodyRun.sl.H10_2
  simp only [at_r_67, at_r_68, at_H10_1]
  rfl
theorem at_H11_2 : bodyRun.sl.H11_2 c i arg3 harg3 arg4 harg4 arg5 harg5 arg6 harg6 arg7 harg7 arg8 harg8 arg9 harg9 arg10 harg10 arg11 harg11 x0 x1 x2 x3 x4 x5 s10 s11 = (values2 i arg4 arg5 arg6 arg11 (stackQ x0) (stackO (View.readAt (Elt F) arg7.view (Rect.unit (s := S1x512x128) ![0, 0, 0] S1x512x128.size inb_S1x512x128_S1x512x128_0_0_0).toLoadRect (harg7.unread x4))) (totals (View.readAt (Elt F) arg8.view (Rect.unit (s := S1x1x1x1x1024) ![0, 0, 0, 0, 0] S1x1x1x1x1024.size inb_S1x1x1x1x1024_S1x1x1x1x1024_0_0_0_0_0).toLoadRect (harg8.unread x5))) (harg4.unread x1) (harg5.unread x2) (harg6.unread x3) (harg11.unread s11) (loops c i arg3 harg3 arg4 harg4 arg5 harg5 arg6 harg6 arg7 harg7 arg8 harg8 arg9 harg9 arg10 harg10 arg11 harg11 x0 x1 x2 x3 x4 x5 s10 s11)) := by
  unfold bodyRun.sl.H11_2
  simp only [at_r_19, at_r_43, at_H11_1]
  rfl
theorem at_r_69 : bodyRun.sl.r_69 c i arg3 harg3 arg4 harg4 arg5 harg5 arg6 harg6 arg7 harg7 arg8 harg8 arg9 harg9 arg10 harg10 arg11 harg11 x0 x1 x2 x3 x4 x5 s10 s11 = (top3 i arg4 arg5 arg6 (stackQ x0) (stackO (View.readAt (Elt F) arg7.view (Rect.unit (s := S1x512x128) ![0, 0, 0] S1x512x128.size inb_S1x512x128_S1x512x128_0_0_0).toLoadRect (harg7.unread x4))) (totals (View.readAt (Elt F) arg8.view (Rect.unit (s := S1x1x1x1x1024) ![0, 0, 0, 0, 0] S1x1x1x1x1024.size inb_S1x1x1x1x1024_S1x1x1x1x1024_0_0_0_0_0).toLoadRect (harg8.unread x5))) (harg4.unread x1) (harg5.unread x2) (harg6.unread x3) (loops c i arg3 harg3 arg4 harg4 arg5 harg5 arg6 harg6 arg7 harg7 arg8 harg8 arg9 harg9 arg10 harg10 arg11 harg11 x0 x1 x2 x3 x4 x5 s10 s11)).2.2 := by
  unfold bodyRun.sl.r_69
  simp only [at_r_64, at_r_66]
  rfl
theorem at_r_70 : bodyRun.sl.r_70 c i arg3 harg3 arg4 harg4 arg5 harg5 arg6 harg6 arg7 harg7 arg8 harg8 arg9 harg9 arg10 harg10 arg11 harg11 x0 x1 x2 x3 x4 x5 s10 s11 = (View.readAt (Elt F) arg11.view (Rect.unit (s := S1x2048x128) (k0_off13 i 2#32) S1x128x128.size (k0_off13_inb i 2)).toLoadRect (arg11.view.writes (Elt F) (harg11.unread s11) (values2 i arg4 arg5 arg6 arg11 (stackQ x0) (stackO (View.readAt (Elt F) arg7.view (Rect.unit (s := S1x512x128) ![0, 0, 0] S1x512x128.size inb_S1x512x128_S1x512x128_0_0_0).toLoadRect (harg7.unread x4))) (totals (View.readAt (Elt F) arg8.view (Rect.unit (s := S1x1x1x1x1024) ![0, 0, 0, 0, 0] S1x1x1x1x1024.size inb_S1x1x1x1x1024_S1x1x1x1x1024_0_0_0_0_0).toLoadRect (harg8.unread x5))) (harg4.unread x1) (harg5.unread x2) (harg6.unread x3) (harg11.unread s11) (loops c i arg3 harg3 arg4 harg4 arg5 harg5 arg6 harg6 arg7 harg7 arg8 harg8 arg9 harg9 arg10 harg10 arg11 harg11 x0 x1 x2 x3 x4 x5 s10 s11)))) := by
  unfold bodyRun.sl.r_70
  simp only [at_H11_2]
theorem at_H10_3 : bodyRun.sl.H10_3 c i arg3 harg3 arg4 harg4 arg5 harg5 arg6 harg6 arg7 harg7 arg8 harg8 arg9 harg9 arg10 harg10 arg11 harg11 x0 x1 x2 x3 x4 x5 s10 s11 = (keys3 i arg4 arg5 arg6 arg10 (stackQ x0) (stackO (View.readAt (Elt F) arg7.view (Rect.unit (s := S1x512x128) ![0, 0, 0] S1x512x128.size inb_S1x512x128_S1x512x128_0_0_0).toLoadRect (harg7.unread x4))) (totals (View.readAt (Elt F) arg8.view (Rect.unit (s := S1x1x1x1x1024) ![0, 0, 0, 0, 0] S1x1x1x1x1024.size inb_S1x1x1x1x1024_S1x1x1x1x1024_0_0_0_0_0).toLoadRect (harg8.unread x5))) (harg4.unread x1) (harg5.unread x2) (harg6.unread x3) (harg10.unread s10) (loops c i arg3 harg3 arg4 harg4 arg5 harg5 arg6 harg6 arg7 harg7 arg8 harg8 arg9 harg9 arg10 harg10 arg11 harg11 x0 x1 x2 x3 x4 x5 s10 s11)) := by
  unfold bodyRun.sl.H10_3
  simp only [at_r_24, at_r_64, at_H10_2]
  rfl
theorem at_H11_3 : bodyRun.sl.H11_3 c i arg3 harg3 arg4 harg4 arg5 harg5 arg6 harg6 arg7 harg7 arg8 harg8 arg9 harg9 arg10 harg10 arg11 harg11 x0 x1 x2 x3 x4 x5 s10 s11 = (values3 i arg4 arg5 arg6 arg11 (stackQ x0) (stackO (View.readAt (Elt F) arg7.view (Rect.unit (s := S1x512x128) ![0, 0, 0] S1x512x128.size inb_S1x512x128_S1x512x128_0_0_0).toLoadRect (harg7.unread x4))) (totals (View.readAt (Elt F) arg8.view (Rect.unit (s := S1x1x1x1x1024) ![0, 0, 0, 0, 0] S1x1x1x1x1024.size inb_S1x1x1x1x1024_S1x1x1x1x1024_0_0_0_0_0).toLoadRect (harg8.unread x5))) (harg4.unread x1) (harg5.unread x2) (harg6.unread x3) (harg11.unread s11) (loops c i arg3 harg3 arg4 harg4 arg5 harg5 arg6 harg6 arg7 harg7 arg8 harg8 arg9 harg9 arg10 harg10 arg11 harg11 x0 x1 x2 x3 x4 x5 s10 s11)) := by
  unfold bodyRun.sl.H11_3
  simp only [at_r_25, at_r_47, at_r_70, at_H11_2]
  rfl
theorem at_r_71 : bodyRun.sl.r_71 c i arg3 harg3 arg4 harg4 arg5 harg5 arg6 harg6 arg7 harg7 arg8 harg8 arg9 harg9 arg10 harg10 arg11 harg11 x0 x1 x2 x3 x4 x5 s10 s11 = topQueries i arg4 arg5 arg6 (stackQ x0) (stackO (View.readAt (Elt F) arg7.view (Rect.unit (s := S1x512x128) ![0, 0, 0] S1x512x128.size inb_S1x512x128_S1x512x128_0_0_0).toLoadRect (harg7.unread x4))) (totals (View.readAt (Elt F) arg8.view (Rect.unit (s := S1x1x1x1x1024) ![0, 0, 0, 0, 0] S1x1x1x1x1024.size inb_S1x1x1x1x1024_S1x1x1x1x1024_0_0_0_0_0).toLoadRect (harg8.unread x5))) (harg4.unread x1) (harg5.unread x2) (harg6.unread x3) (loops c i arg3 harg3 arg4 harg4 arg5 harg5 arg6 harg6 arg7 harg7 arg8 harg8 arg9 harg9 arg10 harg10 arg11 harg11 x0 x1 x2 x3 x4 x5 s10 s11) := by
  unfold bodyRun.sl.r_71
  simp only [at_r_65, at_r_69]
  rfl

/-- The body's run in these terms. -/
theorem bodyRun_queries : (bodyRun c i arg3 harg3 arg4 harg4 arg5 harg5 arg6 harg6 arg7 harg7 arg8 harg8 arg9 harg9 arg10 harg10 arg11 harg11 x0 x1 x2 x3 x4 x5).1 s10 s11
    = [⟨Rect.unit (s := S1x512x128) ![0, 0, 0] S1x512x128.size inb_S1x512x128_S1x512x128_0_0_0, k0_pay1 (topQueries i arg4 arg5 arg6 (stackQ x0) (stackO (View.readAt (Elt F) arg7.view (Rect.unit (s := S1x512x128) ![0, 0, 0] S1x512x128.size inb_S1x512x128_S1x512x128_0_0_0).toLoadRect (harg7.unread x4))) (totals (View.readAt (Elt F) arg8.view (Rect.unit (s := S1x1x1x1x1024) ![0, 0, 0, 0, 0] S1x1x1x1x1024.size inb_S1x1x1x1x1024_S1x1x1x1x1024_0_0_0_0_0).toLoadRect (harg8.unread x5))) (harg4.unread x1) (harg5.unread x2) (harg6.unread x3) (loops c i arg3 harg3 arg4 harg4 arg5 harg5 arg6 harg6 arg7 harg7 arg8 harg8 arg9 harg9 arg10 harg10 arg11 harg11 x0 x1 x2 x3 x4 x5 s10 s11))⟩] := by
  rw [← at_r_71]
  unfold bodyRun
  rfl
theorem bodyRun_keys : (bodyRun c i arg3 harg3 arg4 harg4 arg5 harg5 arg6 harg6 arg7 harg7 arg8 harg8 arg9 harg9 arg10 harg10 arg11 harg11 x0 x1 x2 x3 x4 x5).2.1 s10 s11
    = View.read (Elt F) arg10.view (arg10.view.writes (Elt F) (harg10.unread s10) (keys4 i arg4 arg5 arg6 arg10 (stackQ x0) (stackO (View.readAt (Elt F) arg7.view (Rect.unit (s := S1x512x128) ![0, 0, 0] S1x512x128.size inb_S1x512x128_S1x512x128_0_0_0).toLoadRect (harg7.unread x4))) (totals (View.readAt (Elt F) arg8.view (Rect.unit (s := S1x1x1x1x1024) ![0, 0, 0, 0, 0] S1x1x1x1x1024.size inb_S1x1x1x1x1024_S1x1x1x1x1024_0_0_0_0_0).toLoadRect (harg8.unread x5))) (harg4.unread x1) (harg5.unread x2) (harg6.unread x3) (harg10.unread s10) (loops c i arg3 harg3 arg4 harg4 arg5 harg5 arg6 harg6 arg7 harg7 arg8 harg8 arg9 harg9 arg10 harg10 arg11 harg11 x0 x1 x2 x3 x4 x5 s10 s11))) := by
  unfold bodyRun keys4 keyBlock256
  rw [← at_H10_3, ← at_r_65, ← at_r_30]
  rfl
theorem bodyRun_values : (bodyRun c i arg3 harg3 arg4 harg4 arg5 harg5 arg6 harg6 arg7 harg7 arg8 harg8 arg9 harg9 arg10 harg10 arg11 harg11 x0 x1 x2 x3 x4 x5).2.2.1 s10 s11
    = View.read (Elt F) arg11.view (arg11.view.writes (Elt F) (harg11.unread s11) (values4 i arg4 arg5 arg6 arg11 (stackQ x0) (stackO (View.readAt (Elt F) arg7.view (Rect.unit (s := S1x512x128) ![0, 0, 0] S1x512x128.size inb_S1x512x128_S1x512x128_0_0_0).toLoadRect (harg7.unread x4))) (totals (View.readAt (Elt F) arg8.view (Rect.unit (s := S1x1x1x1x1024) ![0, 0, 0, 0, 0] S1x1x1x1x1024.size inb_S1x1x1x1x1024_S1x1x1x1x1024_0_0_0_0_0).toLoadRect (harg8.unread x5))) (harg4.unread x1) (harg5.unread x2) (harg6.unread x3) (harg11.unread s11) (loops c i arg3 harg3 arg4 harg4 arg5 harg5 arg6 harg6 arg7 harg7 arg8 harg8 arg9 harg9 arg10 harg10 arg11 harg11 x0 x1 x2 x3 x4 x5 s10 s11))) := by
  unfold bodyRun values4 valueBlock256
  rw [← at_H11_3, ← at_r_50, ← at_r_31]
  rfl

end

end Cert.KernelIdeal.Hand

end
-- ==== Proof.TopValue.lean ====
/-
  What the diagonal tile computes over the extended reals, where everything it reads is real: a block of 128 keys moves
  on what is carried by its keys, for every column — the columns it leaves out see none of its keys.
-/
module

public import proofs.«01_k».proof.Proof.Top
public import proofs.«01_k».proof.Proof.TileValue

@[expose] public section

set_option maxRecDepth 16384
set_option maxHeartbeats 4000000

noncomputable section

namespace Cert.KernelIdeal.Hand

open Cert.KernelIdeal Cert.KernelIdeal.Gen Cert.Stick
open Idealize.ShloMosaic Idealize.ShloMosaic.TcCoe Idealize.ShloMosaic.Tactic
open Finset (range)

theorem lkSum_masked {K : ℕ → Fin 128 → ℝ} {x : Query} {B : ℕ} (n : ℕ) (h : x.t ≤ B) : lkSum K x (B + n) = lkSum K x B := by
  rw [lkSum_add, Finset.sum_eq_zero, add_zero]
  intro j _
  rw [lk, if_neg (by omega)]
theorem dl_masked {K V : ℕ → Fin 128 → ℝ} {x : Query} {s : ℕ} (h : x.t ≤ s) : dl K V x s = 0 := by
  rw [dl, w, if_neg (by omega), mul_zero]
theorem dz_masked {K V : ℕ → Fin 128 → ℝ} {x : Query} {s : ℕ} (h : x.t ≤ s) : dz K V x s = 0 := by
  rw [dz, if_neg (by omega)]
theorem w_masked {K : ℕ → Fin 128 → ℝ} {x : Query} {s : ℕ} (h : x.t ≤ s) : w K x s = 0 := by
  rw [w, if_neg (by omega)]
theorem dlSum_masked {K V : ℕ → Fin 128 → ℝ} {x : Query} {B : ℕ} (n : ℕ) (h : x.t ≤ B) : dlSum K V x (B + n) = dlSum K V x B := by
  rw [dlSum_add, Finset.sum_eq_zero, add_zero]
  intro j _
  exact dl_masked (by omega)
theorem dq_masked {K V : ℕ → Fin 128 → ℝ} {x : Query} {B : ℕ} (n : ℕ) (d : Fin 128) (h : x.t ≤ B) : dq K V x (B + n) d = dq K V x B d := by
  rw [dq_add, Finset.sum_eq_zero, add_zero]
  intro j _
  rw [dz_masked (by omega), mul_zero]

theorem sum_from (l n : ℕ) (g : ℕ → ℝ) (h : ∀ c, c < l → g c = 0) : ∑ c ∈ range (l + n), g c = ∑ c ∈ range n, g (l + c) := by
  rw [Finset.sum_range_add, Finset.sum_eq_zero (s := range l) (fun c hc => h c (Finset.mem_range.mp hc)), zero_add]

/-! ## The mask -/

theorem colMod_apply (r : Fin 128) (c : Fin 256) : colMod (ix2 r c) = BitVec.ofNat 32 (c.val % 128) := by
  have h : colMod (ix2 r c) = colMod (ix2 0 c) := by
    unfold colMod colRem wide
    pointwise
  rw [h]
  clear h
  revert c
  decide +kernel

theorem slt_small : ∀ a b : Fin 128, Scalar.cmpi .slt (BitVec.ofNat 32 a.val) (BitVec.ofNat 32 b.val) = if a.val < b.val then 1#1 else 0#1 := by
  decide +kernel

theorem diagMask_apply (r : Fin 128) (c : Fin 256) : diagMask (ix2 r c) = if r.val < c.val % 128 then 1#1 else 0#1 := by
  have h := slt_small r ⟨c.val % 128, Nat.mod_lt _ (by norm_num)⟩
  have e : diagMask (ix2 r c) = Scalar.cmpi .slt (BitVec.ofNat 32 r.val) (colMod (ix2 r c)) := by
    unfold diagMask
    pointwise
    rfl
  rw [e, colMod_apply]
  exact h

/-- What is carried into the diagonal tile's keys from `n` on: the first is what remains of the totals. -/
def TopIs (K V : ℕ → Fin 128 → ℝ) (X : ℕ → Query) (acc : Carry Ideal) (n : ℕ) : Prop :=
  Is acc.1 (fun _ c => (X c).tot - lkSum K (X c) n) ∧ Is acc.2.1 (fun _ c => dlSum K V (X c) n)
    ∧ ∀ (d : Fin 128) (c : Fin 1024), acc.2.2 (ix2 d c) = ((dq K V (X c) n d : ℝ) : EReal)

theorem Is.congr {m n : ℕ} {t : FTy} {x : FVec Ideal (⟨2, ![m, n]⟩ : Shape) t} {f g : ℕ → ℕ → ℝ} (h : Is x f)
    (e : ∀ r c, r < m → c < n → f r c = g r c) : Is x g := fun r c => by rw [h r c, e r c r.isLt c.isLt]

section block
variable {qs dos : FVec Ideal S1024x128 .bf16} {tri2 : FVec Ideal S128x256 .bf16} {k v : Vec Ideal S1x128x128 .bf16}
  {kt : Vec Ideal S1x1x1x128x128 .bf16} {acc : Carry Ideal} {K V : ℕ → Fin 128 → ℝ} {X : ℕ → Query} {B : ℕ}
  (hq : IsRows qs (fun c => (X c).q)) (ho : IsRows dos (fun c => (X c).o)) (ht : IsTri2 tri2)
  (hk : ∀ (r : Fin 128) (d : Fin 128), k (ix3 0 r d) = ((K (B + r) d : ℝ) : EReal))
  (hv : ∀ (r : Fin 128) (d : Fin 128), v (ix3 0 r d) = ((V (B + r) d : ℝ) : EReal))
  (hkt : ∀ d r : Fin 128, kt (ix5 0 0 0 d r) = ((K (B + r) d : ℝ) : EReal))
  (ha : TopIs K V X acc B)

/-! ## The block that the last 1024 columns see -/

section w1024
variable (hd : ∀ c, c < 256 → (X c).t = B + c % 128) (hp : ∀ c, 256 ≤ c → c < 1024 → B + 128 ≤ (X c).t)
  (hl : ∀ c, c < 0 → (X c).t ≤ B)

theorem diag1024_apply {y : FVec Ideal S128x1024 .f32} {f : ℕ → ℕ → ℝ} (hy : Is y f) :
    Is (diag1024 y) (fun r c => if c < 256 ∧ ¬ r < c % 128 then 0 else f r c) := by
  intro r c
  have hr : r.val < 128 := r.isLt
  generalize hR : (fun r c => if c < 256 ∧ ¬ r < c % 128 then 0 else f r c) r.val c.val = R
  unfold diag1024 zeros
  pointwise
  split_ifs with h
  · rw [diagMask_apply, hy, ← hR]
    have hc : c.val < 256 := h
    by_cases h' : r.val < c.val % 128 <;> simp [h', hc, Scalar.select]
  all_goals
    have h' : ¬ (c.val < 256) := h
    have h2 : 256 + (c.val - 256) = c.val := by omega
    have h4 : f r.val (256 + (c.val - 256)) = R := by
      rw [h2, ← hR]
      exact (if_neg (fun h3 => h' h3.1)).symm
    rw [← h4]
    exact hy r _

include hd hp in
theorem seen1024 {r c : ℕ} (hr : r < 128) (hc : c < 1024) : B + r < (X c).t ↔ ¬ (c < 256 ∧ ¬ r < c % 128) := by
  by_cases h : c < 256
  · rw [hd c h]; omega
  · have := hp c (by omega) hc
    omega

theorem cutRows1024_apply {y : FVec Ideal S1024x128 .bf16} {Q : ℕ → Fin 128 → ℝ} (hy : IsRows y Q) : IsRows (cutRows1024 y) (fun c => Q c) := by
  intro r d
  unfold cutRows1024
  show y _ = _
  rw [hy]

theorem cutRow1024_apply {y : FVec Ideal S1x1024 .f32} {f : ℕ → ℕ → ℝ} (hy : Is y f) : Is (cutRow1024 y) (fun r c => f r c) := by
  intro r c
  unfold cutRow1024
  show y _ = _
  rw [hy]

theorem scores1024_apply {x : FVec Ideal S1024x128 .bf16} {Q : ℕ → Fin 128 → ℝ} (hx : IsRows x Q) {k : Vec Ideal S1x128x128 .bf16} {K : ℕ → Fin 128 → ℝ}
    (hk : ∀ (r : Fin 128) (d : Fin 128), k (ix3 0 r d) = ((K (B + r) d : ℝ) : EReal)) :
    Is (scores1024 x k) (fun r c => ∑ d, K (B + r) d * Q c d) := by
  intro r c
  unfold scores1024
  pointwise
  simp only [hx c, hk]
  exact coe_sum_mul _ _ _

theorem under2_1024_apply (ht : IsTri2 tri2) {y : FVec Ideal S128x1024 .f32} {f : ℕ → ℕ → ℝ} (hy : Is y f) :
    Is (under2_1024 tri2 y) (fun r c => ∑ j ∈ range r, f j c) := by
  intro r c
  unfold under2_1024
  pointwise
  simp only [ht, hy]
  have e : ∀ x : Fin 128, ((f x.val c.val : ℝ) : EReal) - ((f x.val c.val : ℝ) : EReal) = 0 := fun x => by
    rw [← EReal.coe_sub, sub_self, EReal.coe_zero]
  simp only [e, mul_zero, Finset.sum_const_zero, add_zero]
  rw [← tri_coe (fun j => f j c.val) r]
  refine Finset.sum_congr rfl fun j _ => ?_
  rw [Nat.mod_eq_of_lt j.isLt]

theorem under1_1024_apply (ht : IsTri2 tri2) {y : FVec Ideal S128x1024 .f32} {f : ℕ → ℕ → ℝ} (hy : Is y f) :
    Is (under1_1024 tri2 y) (fun r c => ∑ j ∈ range r, f j c) := by
  intro r c
  unfold under1_1024
  pointwise
  simp only [ht, hy]
  rw [← tri_coe (fun j => f j c.val) r]
  refine Finset.sum_congr rfl fun j _ => ?_
  congr 1
  simp [Nat.mod_eq_of_lt j.isLt]

include hq hk hd hp in
theorem keep1024_apply : Is (keep1024 qs k) (fun r c => lk K (X c) (B + r)) := by
  have hz := scores1024_apply (cutRows1024_apply hq) hk
  have h : Is (subf (logBeta S128x1024 (scores1024 (cutRows1024 qs) k)) (scores1024 (cutRows1024 qs) k))
      (fun r c => -sp (z K (X c) (B + r))) := by
    intro r c
    have hl := logBeta_apply (hz r c)
    pointwise
    rw [hl, hz, ← EReal.coe_sub]
    congr 1
    rw [← add_sp_neg (z K (X c) (B + r))]
    show -sp (-z K (X c) (B + r)) - z K (X c) (B + r) = -(z K (X c) (B + r) + sp (-z K (X c) (B + r)))
    ring
  unfold keep1024
  refine (diag1024_apply h).congr fun r c hr hc => ?_
  have := seen1024 hd hp hr hc
  unfold lk
  split_ifs <;> first | rfl | (exfalso; tauto)

include hq ht hk ha hd hp in
theorem exponent1024_apply : Is (exp (addf (scores1024 (cutRows1024 qs) k)
    (subf (broadcastTo S128x1024 (cutRow1024 acc.1) broadcasts_S1x1024_S128x1024) (under2_1024 tri2 (keep1024 qs k)))))
    (fun r c => Real.exp (z K (X c) (B + r) + ((X c).tot - lkSum K (X c) (B + r)))) := by
  intro r c
  have hz := scores1024_apply (cutRows1024_apply hq) hk r c
  have hu := under2_1024_apply ht (keep1024_apply hq hk hd hp) r c
  have hr := cutRow1024_apply ha.1 0 c
  pointwise
  rw [hz, hu, hr, ← EReal.coe_sub, ← EReal.coe_add, Ideal.exp_coe, lkSum_add, ← sub_sub]
  rfl

include hq ht hk ha hd hp in
theorem weights1024_apply : Is (weights1024 qs tri2 k acc) (fun r c => w K (X c) (B + r)) := by
  unfold weights1024
  refine (diag1024_apply (exponent1024_apply hq ht hk ha hd hp)).congr fun r c hr hc => ?_
  have := seen1024 hd hp hr hc
  unfold w
  split_ifs <;> first | rfl | (exfalso; tauto)

include hq ho ht hk hv ha hd hp in
theorem weightGrad1024_apply : Is (weightGrad1024 qs dos tri2 k v acc) (fun r c => dl K V (X c) (B + r)) := by
  intro r c
  unfold weightGrad1024
  have hz := scores1024_apply (cutRows1024_apply ho) hv r c
  have hw := weights1024_apply hq ht hk ha hd hp r c
  pointwise
  rw [hz, hw, ← EReal.coe_mul]
  rfl

include hq ho ht hk hv ha hd hp in
theorem scoreGrad1024_apply : Is (scoreGrad1024 qs dos tri2 k v acc) (fun r c => dz K V (X c) (B + r)) := by
  have hg := weightGrad1024_apply hq ho ht hk hv ha hd hp
  have hpre : Is (addf (broadcastTo S128x1024 (cutRow1024 acc.2.1) broadcasts_S1x1024_S128x1024) (under1_1024 tri2 (weightGrad1024 qs dos tri2 k v acc)))
      (fun r c => dlSum K V (X c) (B + r)) := by
    intro r c
    have hu := under1_1024_apply ht hg r c
    have hr := cutRow1024_apply ha.2.1 0 c
    pointwise
    rw [hu, hr, ← EReal.coe_add, dlSum_add]
  have h : Is (logitGrad S128x1024 (weightGrad1024 qs dos tri2 k v acc) (logBeta S128x1024 (scores1024 (cutRows1024 qs) k))
      (addf (broadcastTo S128x1024 (cutRow1024 acc.2.1) broadcasts_S1x1024_S128x1024) (under1_1024 tri2 (weightGrad1024 qs dos tri2 k v acc))))
      (fun r c => dl K V (X c) (B + r) * (1 - sg (z K (X c) (B + r))) - dlSum K V (X c) (B + r) * sg (z K (X c) (B + r))) := by
    intro r c
    exact logitGrad_apply (hg r c) (logBeta_apply (scores1024_apply (cutRows1024_apply hq) hk r c)) (hpre r c)
  have h' := (diag1024_apply h).congr (g := fun r c => dz K V (X c) (B + r)) fun r c hr hc => by
    have := seen1024 hd hp hr hc
    unfold dz
    split_ifs <;> first | rfl | (exfalso; tauto)
  intro r c
  unfold scoreGrad1024
  pointwise
  exact h' r c

include hq ho ht hk hv hkt ha hd hp hl in
theorem queries1024_apply (d : Fin 128) (c : Fin 1024) :
    addCols1024 acc.2.2 (queryPart1024 qs dos tri2 k v kt acc) (ix2 d c) = ((dq K V (X c) (B + 128) d : ℝ) : EReal) := by
  have hz := scoreGrad1024_apply hq ho ht hk hv ha hd hp
  have hqp : ∀ (c : Fin 1024), queryPart1024 qs dos tri2 k v kt acc (ix2 d c) = ((∑ r ∈ range 128, K (B + r) d * dz K V (X c) (B + r) : ℝ) : EReal) := by
    intro c
    unfold queryPart1024
    pointwise
    simp only [hkt, hz _ c]
    rw [coe_sum_mul, Fin.sum_univ_eq_sum_range (fun r => K (B + r) d * dz K V (X c.val) (B + r)) 128]
  unfold addCols1024
  pointwise
  rw [hqp, ha.2.2, ← EReal.coe_add, dq_add]

include hq ho ht hk hv hkt ha hd hp hl in
theorem carry1024_is : TopIs K V X (carry1024 qs dos tri2 k v kt acc) (B + 128) := by
  refine ⟨fun r c => ?_, fun r c => ?_, fun d c => queries1024_apply hq ho ht hk hv hkt ha hd hp hl d c⟩
  · have hk' := keep1024_apply hq hk hd hp
    have hu := under2_1024_apply ht hk'
    unfold carry1024 addRow1024 last1024 zeros
    pointwise
    rw [hu, hk', ha.1, ← EReal.coe_add, zero_sub, ← EReal.coe_neg, ← EReal.coe_add, lkSum_add]
    congr 1
    simp only [Finset.sum_range_succ (fun j => lk K (X c.val) (B + j)) 127]
    show _ - _ + -(∑ j ∈ range 127, lk K (X c.val) (B + j) + lk K (X c.val) (B + 127)) = _
    ring
  · have hg' := weightGrad1024_apply hq ho ht hk hv ha hd hp
    have hu := under1_1024_apply ht hg'
    unfold carry1024 addRow1024 last1024
    pointwise
    rw [hu, hg', ha.2.1, ← EReal.coe_add, ← EReal.coe_add, dlSum_add]
    congr 1
    simp only [Finset.sum_range_succ (fun j => dl K V (X c.val) (B + j)) 127]
    rfl

theorem addBlock1024_apply {old : Vec Ideal S1x128x128 .f32} {wb : FVec Ideal S128x1024 .bf16} {x : FVec Ideal S1024x128 .bf16}
    {f : ℕ → ℕ → ℝ} {Q : ℕ → Fin 128 → ℝ} (hw : Is wb (fun r c => f r c)) (hx : IsRows x (fun c => Q c))
    (hf : ∀ r c, r < 128 → c < 0 → f r c = 0) (r d : Fin 128) :
    addBlock1024 old wb x (ix3 0 r d) = old (ix3 0 r d) + ((∑ c ∈ range 1024, f r c * Q c d : ℝ) : EReal) := by
  unfold addBlock1024
  pointwise
  simp only [hw r, hx _ d]
  rw [coe_sum_mul, Fin.sum_univ_eq_sum_range (fun c => f r.val c * Q c d) 1024]

include hq ho ht hk hv ha hd hp hl in
theorem keyBlock1024_apply (old : Vec Ideal S1x128x128 .f32) (r d : Fin 128) :
    keyBlock1024 qs dos tri2 k v acc old (ix3 0 r d) = old (ix3 0 r d) + ((∑ c ∈ range 1024, dz K V (X c) (B + r) * (X c).q d : ℝ) : EReal) := by
  unfold keyBlock1024
  exact addBlock1024_apply (f := fun r c => dz K V (X c) (B + r)) (Q := fun c => (X c).q)
    (scoreGrad1024_apply hq ho ht hk hv ha hd hp) (cutRows1024_apply hq) (fun r c _ hc => dz_masked (by have := hl c hc; omega)) r d

include hq ho ht hk ha hd hp hl in
theorem valueBlock1024_apply (old : Vec Ideal S1x128x128 .f32) (r d : Fin 128) :
    valueBlock1024 qs dos tri2 k acc old (ix3 0 r d) = old (ix3 0 r d) + ((∑ c ∈ range 1024, w K (X c) (B + r) * (X c).o d : ℝ) : EReal) := by
  unfold valueBlock1024
  refine addBlock1024_apply (f := fun r c => w K (X c) (B + r)) (Q := fun c => (X c).o)
    (fun r c => ?_) (cutRows1024_apply ho) (fun r c _ hc => w_masked (by have := hl c hc; omega)) r d
  pointwise
  exact weights1024_apply hq ht hk ha hd hp r c
end w1024

/-! ## The block that the last 768 columns see -/

section w768
variable (hd : ∀ c, c < 256 → (X (256 + c)).t = B + c % 128) (hp : ∀ c, 256 ≤ c → c < 768 → B + 128 ≤ (X (256 + c)).t)
  (hl : ∀ c, c < 256 → (X c).t ≤ B)

theorem diag768_apply {y : FVec Ideal S128x768 .f32} {f : ℕ → ℕ → ℝ} (hy : Is y f) :
    Is (diag768 y) (fun r c => if c < 256 ∧ ¬ r < c % 128 then 0 else f r c) := by
  intro r c
  have hr : r.val < 128 := r.isLt
  generalize hR : (fun r c => if c < 256 ∧ ¬ r < c % 128 then 0 else f r c) r.val c.val = R
  unfold diag768 zeros
  pointwise
  split_ifs with h
  · rw [diagMask_apply, hy, ← hR]
    have hc : c.val < 256 := h
    by_cases h' : r.val < c.val % 128 <;> simp [h', hc, Scalar.select]
  all_goals
    have h' : ¬ (c.val < 256) := h
    have h2 : 256 + (c.val - 256) = c.val := by omega
    have h4 : f r.val (256 + (c.val - 256)) = R := by
      rw [h2, ← hR]
      exact (if_neg (fun h3 => h' h3.1)).symm
    rw [← h4]
    exact hy r _

include hd hp in
theorem seen768 {r c : ℕ} (hr : r < 128) (hc : c < 768) : B + r < (X (256 + c)).t ↔ ¬ (c < 256 ∧ ¬ r < c % 128) := by
  by_cases h : c < 256
  · rw [hd c h]; omega
  · have := hp c (by omega) hc
    omega

theorem cutRows768_apply {y : FVec Ideal S1024x128 .bf16} {Q : ℕ → Fin 128 → ℝ} (hy : IsRows y Q) : IsRows (cutRows768 y) (fun c => Q (256 + c)) := by
  intro r d
  unfold cutRows768
  pointwise
  rw [hy]

theorem cutRow768_apply {y : FVec Ideal S1x1024 .f32} {f : ℕ → ℕ → ℝ} (hy : Is y f) : Is (cutRow768 y) (fun r c => f r (256 + c)) := by
  intro r c
  unfold cutRow768
  pointwise
  rw [hy]; first | done | rfl

theorem scores768_apply {x : FVec Ideal S768x128 .bf16} {Q : ℕ → Fin 128 → ℝ} (hx : IsRows x Q) {k : Vec Ideal S1x128x128 .bf16} {K : ℕ → Fin 128 → ℝ}
    (hk : ∀ (r : Fin 128) (d : Fin 128), k (ix3 0 r d) = ((K (B + r) d : ℝ) : EReal)) :
    Is (scores768 x k) (fun r c => ∑ d, K (B + r) d * Q c d) := by
  intro r c
  unfold scores768
  pointwise
  simp only [hx c, hk]
  exact coe_sum_mul _ _ _

theorem under2_768_apply (ht : IsTri2 tri2) {y : FVec Ideal S128x768 .f32} {f : ℕ → ℕ → ℝ} (hy : Is y f) :
    Is (under2_768 tri2 y) (fun r c => ∑ j ∈ range r, f j c) := by
  intro r c
  unfold under2_768
  pointwise
  simp only [ht, hy]
  have e : ∀ x : Fin 128, ((f x.val c.val : ℝ) : EReal) - ((f x.val c.val : ℝ) : EReal) = 0 := fun x => by
    rw [← EReal.coe_sub, sub_self, EReal.coe_zero]
  simp only [e, mul_zero, Finset.sum_const_zero, add_zero]
  rw [← tri_coe (fun j => f j c.val) r]
  refine Finset.sum_congr rfl fun j _ => ?_
  rw [Nat.mod_eq_of_lt j.isLt]

theorem under1_768_apply (ht : IsTri2 tri2) {y : FVec Ideal S128x768 .f32} {f : ℕ → ℕ → ℝ} (hy : Is y f) :
    Is (under1_768 tri2 y) (fun r c => ∑ j ∈ range r, f j c) := by
  intro r c
  unfold under1_768
  pointwise
  simp only [ht, hy]
  rw [← tri_coe (fun j => f j c.val) r]
  refine Finset.sum_congr rfl fun j _ => ?_
  congr 1
  simp [Nat.mod_eq_of_lt j.isLt]

include hq hk hd hp in
theorem keep768_apply : Is (keep768 qs k) (fun r c => lk K (X (256 + c)) (B + r)) := by
  have hz := scores768_apply (cutRows768_apply hq) hk
  have h : Is (subf (logBeta S128x768 (scores768 (cutRows768 qs) k)) (scores768 (cutRows768 qs) k))
      (fun r c => -sp (z K (X (256 + c)) (B + r))) := by
    intro r c
    have hl := logBeta_apply (hz r c)
    pointwise
    rw [hl, hz, ← EReal.coe_sub]
    congr 1
    rw [← add_sp_neg (z K (X (256 + c)) (B + r))]
    show -sp (-z K (X (256 + c)) (B + r)) - z K (X (256 + c)) (B + r) = -(z K (X (256 + c)) (B + r) + sp (-z K (X (256 + c)) (B + r)))
    ring
  unfold keep768
  refine (diag768_apply h).congr fun r c hr hc => ?_
  have := seen768 hd hp hr hc
  unfold lk
  split_ifs <;> first | rfl | (exfalso; tauto)

include hq ht hk ha hd hp in
theorem exponent768_apply : Is (exp (addf (scores768 (cutRows768 qs) k)
    (subf (broadcastTo S128x768 (cutRow768 acc.1) broadcasts_S1x768_S128x768) (under2_768 tri2 (keep768 qs k)))))
    (fun r c => Real.exp (z K (X (256 + c)) (B + r) + ((X (256 + c)).tot - lkSum K (X (256 + c)) (B + r)))) := by
  intro r c
  have hz := scores768_apply (cutRows768_apply hq) hk r c
  have hu := under2_768_apply ht (keep768_apply hq hk hd hp) r c
  have hr := cutRow768_apply ha.1 0 c
  pointwise
  rw [hz, hu, hr, ← EReal.coe_sub, ← EReal.coe_add, Ideal.exp_coe, lkSum_add, ← sub_sub]
  rfl

include hq ht hk ha hd hp in
theorem weights768_apply : Is (weights768 qs tri2 k acc) (fun r c => w K (X (256 + c)) (B + r)) := by
  unfold weights768
  refine (diag768_apply (exponent768_apply hq ht hk ha hd hp)).congr fun r c hr hc => ?_
  have := seen768 hd hp hr hc
  unfold w
  split_ifs <;> first | rfl | (exfalso; tauto)

include hq ho ht hk hv ha hd hp in
theorem weightGrad768_apply : Is (weightGrad768 qs dos tri2 k v acc) (fun r c => dl K V (X (256 + c)) (B + r)) := by
  intro r c
  unfold weightGrad768
  have hz := scores768_apply (cutRows768_apply ho) hv r c
  have hw := weights768_apply hq ht hk ha hd hp r c
  pointwise
  rw [hz, hw, ← EReal.coe_mul]
  rfl

include hq ho ht hk hv ha hd hp in
theorem scoreGrad768_apply : Is (scoreGrad768 qs dos tri2 k v acc) (fun r c => dz K V (X (256 + c)) (B + r)) := by
  have hg := weightGrad768_apply hq ho ht hk hv ha hd hp
  have hpre : Is (addf (broadcastTo S128x768 (cutRow768 acc.2.1) broadcasts_S1x768_S128x768) (under1_768 tri2 (weightGrad768 qs dos tri2 k v acc)))
      (fun r c => dlSum K V (X (256 + c)) (B + r)) := by
    intro r c
    have hu := under1_768_apply ht hg r c
    have hr := cutRow768_apply ha.2.1 0 c
    pointwise
    rw [hu, hr, ← EReal.coe_add, dlSum_add]
  have h : Is (logitGrad S128x768 (weightGrad768 qs dos tri2 k v acc) (logBeta S128x768 (scores768 (cutRows768 qs) k))
      (addf (broadcastTo S128x768 (cutRow768 acc.2.1) broadcasts_S1x768_S128x768) (under1_768 tri2 (weightGrad768 qs dos tri2 k v acc))))
      (fun r c => dl K V (X (256 + c)) (B + r) * (1 - sg (z K (X (256 + c)) (B + r))) - dlSum K V (X (256 + c)) (B + r) * sg (z K (X (256 + c)) (B + r))) := by
    intro r c
    exact logitGrad_apply (hg r c) (logBeta_apply (scores768_apply (cutRows768_apply hq) hk r c)) (hpre r c)
  have h' := (diag768_apply h).congr (g := fun r c => dz K V (X (256 + c)) (B + r)) fun r c hr hc => by
    have := seen768 hd hp hr hc
    unfold dz
    split_ifs <;> first | rfl | (exfalso; tauto)
  intro r c
  unfold scoreGrad768
  pointwise
  exact h' r c

include hq ho ht hk hv hkt ha hd hp hl in
theorem queries768_apply (d : Fin 128) (c : Fin 1024) :
    addCols768 acc.2.2 (queryPart768 qs dos tri2 k v kt acc) (ix2 d c) = ((dq K V (X c) (B + 128) d : ℝ) : EReal) := by
  have hz := scoreGrad768_apply hq ho ht hk hv ha hd hp
  have hqp : ∀ (c : Fin 768), queryPart768 qs dos tri2 k v kt acc (ix2 d c) = ((∑ r ∈ range 128, K (B + r) d * dz K V (X (256 + c)) (B + r) : ℝ) : EReal) := by
    intro c
    unfold queryPart768
    pointwise
    simp only [hkt, hz _ c]
    rw [coe_sum_mul, Fin.sum_univ_eq_sum_range (fun r => K (B + r) d * dz K V (X (256 + c.val)) (B + r)) 128]
  unfold addCols768
  pointwise
  split_ifs with h
  · rw [ha.2.2, dq_masked _ _ (hl c.val h)]
  all_goals
    have h' : 256 ≤ c.val := not_lt.mp h
    have hc := c.isLt
    rw [hqp, ha.2.2, ← EReal.coe_add, dq_add]
    simp only [Nat.add_sub_cancel' h']

include hq ho ht hk hv hkt ha hd hp hl in
theorem carry768_is : TopIs K V X (carry768 qs dos tri2 k v kt acc) (B + 128) := by
  refine ⟨fun r c => ?_, fun r c => ?_, fun d c => queries768_apply hq ho ht hk hv hkt ha hd hp hl d c⟩
  · have hk' := keep768_apply hq hk hd hp
    have hu := under2_768_apply ht hk'
    unfold carry768 addRow768 last768 zeros
    pointwise
    split_ifs with h
    · rw [ha.1, lkSum_masked _ (hl c.val h)]
    all_goals
      have h' : 256 ≤ c.val := not_lt.mp h
      have hc := c.isLt
      rw [hu, hk', ha.1, ← EReal.coe_add, zero_sub, ← EReal.coe_neg, ← EReal.coe_add, lkSum_add]
      congr 1
      simp only [Nat.add_sub_cancel' h', Finset.sum_range_succ (fun j => lk K (X c.val) (B + j)) 127]
      show _ - _ + -(∑ j ∈ range 127, lk K (X c.val) (B + j) + lk K (X c.val) (B + 127)) = _
      ring
  · have hg' := weightGrad768_apply hq ho ht hk hv ha hd hp
    have hu := under1_768_apply ht hg'
    unfold carry768 addRow768 last768
    pointwise
    split_ifs with h
    · rw [ha.2.1, dlSum_masked _ (hl c.val h)]
    all_goals
      have h' : 256 ≤ c.val := not_lt.mp h
      have hc := c.isLt
      rw [hu, hg', ha.2.1, ← EReal.coe_add, ← EReal.coe_add, dlSum_add]
      congr 1
      simp only [Nat.add_sub_cancel' h', Finset.sum_range_succ (fun j => dl K V (X c.val) (B + j)) 127]
      rfl

theorem addBlock768_apply {old : Vec Ideal S1x128x128 .f32} {wb : FVec Ideal S128x768 .bf16} {x : FVec Ideal S768x128 .bf16}
    {f : ℕ → ℕ → ℝ} {Q : ℕ → Fin 128 → ℝ} (hw : Is wb (fun r c => f r (256 + c))) (hx : IsRows x (fun c => Q (256 + c)))
    (hf : ∀ r c, r < 128 → c < 256 → f r c = 0) (r d : Fin 128) :
    addBlock768 old wb x (ix3 0 r d) = old (ix3 0 r d) + ((∑ c ∈ range 1024, f r c * Q c d : ℝ) : EReal) := by
  unfold addBlock768
  pointwise
  simp only [hw r, hx _ d]
  rw [coe_sum_mul, Fin.sum_univ_eq_sum_range (fun c => f r.val (256 + c) * Q (256 + c) d) 768,
    ← sum_from 256 768 (fun c => f r.val c * Q c d) (fun c hc => by rw [hf r c r.isLt hc, zero_mul])]

include hq ho ht hk hv ha hd hp hl in
theorem keyBlock768_apply (old : Vec Ideal S1x128x128 .f32) (r d : Fin 128) :
    keyBlock768 qs dos tri2 k v acc old (ix3 0 r d) = old (ix3 0 r d) + ((∑ c ∈ range 1024, dz K V (X c) (B + r) * (X c).q d : ℝ) : EReal) := by
  unfold keyBlock768
  exact addBlock768_apply (f := fun r c => dz K V (X c) (B + r)) (Q := fun c => (X c).q)
    (scoreGrad768_apply hq ho ht hk hv ha hd hp) (cutRows768_apply hq) (fun r c _ hc => dz_masked (by have := hl c hc; omega)) r d

include hq ho ht hk ha hd hp hl in
theorem valueBlock768_apply (old : Vec Ideal S1x128x128 .f32) (r d : Fin 128) :
    valueBlock768 qs dos tri2 k acc old (ix3 0 r d) = old (ix3 0 r d) + ((∑ c ∈ range 1024, w K (X c) (B + r) * (X c).o d : ℝ) : EReal) := by
  unfold valueBlock768
  refine addBlock768_apply (f := fun r c => w K (X c) (B + r)) (Q := fun c => (X c).o)
    (fun r c => ?_) (cutRows768_apply ho) (fun r c _ hc => w_masked (by have := hl c hc; omega)) r d
  pointwise
  exact weights768_apply hq ht hk ha hd hp r c
end w768

/-! ## The block that the last 512 columns see -/

section w512
variable (hd : ∀ c, c < 256 → (X (512 + c)).t = B + c % 128) (hp : ∀ c, 256 ≤ c → c < 512 → B + 128 ≤ (X (512 + c)).t)
  (hl : ∀ c, c < 512 → (X c).t ≤ B)

theorem diag512_apply {y : FVec Ideal S128x512 .f32} {f : ℕ → ℕ → ℝ} (hy : Is y f) :
    Is (diag512 y) (fun r c => if c < 256 ∧ ¬ r < c % 128 then 0 else f r c) := by
  intro r c
  have hr : r.val < 128 := r.isLt
  generalize hR : (fun r c => if c < 256 ∧ ¬ r < c % 128 then 0 else f r c) r.val c.val = R
  unfold diag512 zeros
  pointwise
  split_ifs with h
  · rw [diagMask_apply, hy, ← hR]
    have hc : c.val < 256 := h
    by_cases h' : r.val < c.val % 128 <;> simp [h', hc, Scalar.select]
  all_goals
    have h' : ¬ (c.val < 256) := h
    have h2 : 256 + (c.val - 256) = c.val := by omega
    have h4 : f r.val (256 + (c.val - 256)) = R := by
      rw [h2, ← hR]
      exact (if_neg (fun h3 => h' h3.1)).symm
    rw [← h4]
    exact hy r _

include hd hp in
theorem seen512 {r c : ℕ} (hr : r < 128) (hc : c < 512) : B + r < (X (512 + c)).t ↔ ¬ (c < 256 ∧ ¬ r < c % 128) := by
  by_cases h : c < 256
  · rw [hd c h]; omega
  · have := hp c (by omega) hc
    omega

theorem cutRows512_apply {y : FVec Ideal S1024x128 .bf16} {Q : ℕ → Fin 128 → ℝ} (hy : IsRows y Q) : IsRows (cutRows512 y) (fun c => Q (512 + c)) := by
  intro r d
  unfold cutRows512
  pointwise
  rw [hy]

theorem cutRow512_apply {y : FVec Ideal S1x1024 .f32} {f : ℕ → ℕ → ℝ} (hy : Is y f) : Is (cutRow512 y) (fun r c => f r (512 + c)) := by
  intro r c
  unfold cutRow512
  pointwise
  rw [hy]; first | done | rfl

theorem scores512_apply {x : FVec Ideal S512x128 .bf16} {Q : ℕ → Fin 128 → ℝ} (hx : IsRows x Q) {k : Vec Ideal S1x128x128 .bf16} {K : ℕ → Fin 128 → ℝ}
    (hk : ∀ (r : Fin 128) (d : Fin 128), k (ix3 0 r d) = ((K (B + r) d : ℝ) : EReal)) :
    Is (scores512 x k) (fun r c => ∑ d, K (B + r) d * Q c d) := by
  intro r c
  unfold scores512
  pointwise
  simp only [hx c, hk]
  exact coe_sum_mul _ _ _

theorem under2_512_apply (ht : IsTri2 tri2) {y : FVec Ideal S128x512 .f32} {f : ℕ → ℕ → ℝ} (hy : Is y f) :
    Is (under2_512 tri2 y) (fun r c => ∑ j ∈ range r, f j c) := by
  intro r c
  unfold under2_512
  pointwise
  simp only [ht, hy]
  have e : ∀ x : Fin 128, ((f x.val c.val : ℝ) : EReal) - ((f x.val c.val : ℝ) : EReal) = 0 := fun x => by
    rw [← EReal.coe_sub, sub_self, EReal.coe_zero]
  simp only [e, mul_zero, Finset.sum_const_zero, add_zero]
  rw [← tri_coe (fun j => f j c.val) r]
  refine Finset.sum_congr rfl fun j _ => ?_
  rw [Nat.mod_eq_of_lt j.isLt]

theorem under1_512_apply (ht : IsTri2 tri2) {y : FVec Ideal S128x512 .f32} {f : ℕ → ℕ → ℝ} (hy : Is y f) :
    Is (under1_512 tri2 y) (fun r c => ∑ j ∈ range r, f j c) := by
  intro r c
  unfold under1_512
  pointwise
  simp only [ht, hy]
  rw [← tri_coe (fun j => f j c.val) r]
  refine Finset.sum_congr rfl fun j _ => ?_
  congr 1
  simp [Nat.mod_eq_of_lt j.isLt]

include hq hk hd hp in
theorem keep512_apply : Is (keep512 qs k) (fun r c => lk K (X (512 + c)) (B + r)) := by
  have hz := scores512_apply (cutRows512_apply hq) hk
  have h : Is (subf (logBeta S128x512 (scores512 (cutRows512 qs) k)) (scores512 (cutRows512 qs) k))
      (fun r c => -sp (z K (X (512 + c)) (B + r))) := by
    intro r c
    have hl := logBeta_apply (hz r c)
    pointwise
    rw [hl, hz, ← EReal.coe_sub]
    congr 1
    rw [← add_sp_neg (z K (X (512 + c)) (B + r))]
    show -sp (-z K (X (512 + c)) (B + r)) - z K (X (512 + c)) (B + r) = -(z K (X (512 + c)) (B + r) + sp (-z K (X (512 + c)) (B + r)))
    ring
  unfold keep512
  refine (diag512_apply h).congr fun r c hr hc => ?_
  have := seen512 hd hp hr hc
  unfold lk
  split_ifs <;> first | rfl | (exfalso; tauto)

include hq ht hk ha hd hp in
theorem exponent512_apply : Is (exp (addf (scores512 (cutRows512 qs) k)
    (subf (broadcastTo S128x512 (cutRow512 acc.1) broadcasts_S1x512_S128x512) (under2_512 tri2 (keep512 qs k)))))
    (fun r c => Real.exp (z K (X (512 + c)) (B + r) + ((X (512 + c)).tot - lkSum K (X (512 + c)) (B + r)))) := by
  intro r c
  have hz := scores512_apply (cutRows512_apply hq) hk r c
  have hu := under2_512_apply ht (keep512_apply hq hk hd hp) r c
  have hr := cutRow512_apply ha.1 0 c
  pointwise
  rw [hz, hu, hr, ← EReal.coe_sub, ← EReal.coe_add, Ideal.exp_coe, lkSum_add, ← sub_sub]
  rfl

include hq ht hk ha hd hp in
theorem weights512_apply : Is (weights512 qs tri2 k acc) (fun r c => w K (X (512 + c)) (B + r)) := by
  unfold weights512
  refine (diag512_apply (exponent512_apply hq ht hk ha hd hp)).congr fun r c hr hc => ?_
  have := seen512 hd hp hr hc
  unfold w
  split_ifs <;> first | rfl | (exfalso; tauto)

include hq ho ht hk hv ha hd hp in
theorem weightGrad512_apply : Is (weightGrad512 qs dos tri2 k v acc) (fun r c => dl K V (X (512 + c)) (B + r)) := by
  intro r c
  unfold weightGrad512
  have hz := scores512_apply (cutRows512_apply ho) hv r c
  have hw := weights512_apply hq ht hk ha hd hp r c
  pointwise
  rw [hz, hw, ← EReal.coe_mul]
  rfl

include hq ho ht hk hv ha hd hp in
theorem scoreGrad512_apply : Is (scoreGrad512 qs dos tri2 k v acc) (fun r c => dz K V (X (512 + c)) (B + r)) := by
  have hg := weightGrad512_apply hq ho ht hk hv ha hd hp
  have hpre : Is (addf (broadcastTo S128x512 (cutRow512 acc.2.1) broadcasts_S1x512_S128x512) (under1_512 tri2 (weightGrad512 qs dos tri2 k v acc)))
      (fun r c => dlSum K V (X (512 + c)) (B + r)) := by
    intro r c
    have hu := under1_512_apply ht hg r c
    have hr := cutRow512_apply ha.2.1 0 c
    pointwise
    rw [hu, hr, ← EReal.coe_add, dlSum_add]
  have h : Is (logitGrad S128x512 (weightGrad512 qs dos tri2 k v acc) (logBeta S128x512 (scores512 (cutRows512 qs) k))
      (addf (broadcastTo S128x512 (cutRow512 acc.2.1) broadcasts_S1x512_S128x512) (under1_512 tri2 (weightGrad512 qs dos tri2 k v acc))))
      (fun r c => dl K V (X (512 + c)) (B + r) * (1 - sg (z K (X (512 + c)) (B + r))) - dlSum K V (X (512 + c)) (B + r) * sg (z K (X (512 + c)) (B + r))) := by
    intro r c
    exact logitGrad_apply (hg r c) (logBeta_apply (scores512_apply (cutRows512_apply hq) hk r c)) (hpre r c)
  have h' := (diag512_apply h).congr (g := fun r c => dz K V (X (512 + c)) (B + r)) fun r c hr hc => by
    have := seen512 hd hp hr hc
    unfold dz
    split_ifs <;> first | rfl | (exfalso; tauto)
  intro r c
  unfold scoreGrad512
  pointwise
  exact h' r c

include hq ho ht hk hv hkt ha hd hp hl in
theorem queries512_apply (d : Fin 128) (c : Fin 1024) :
    addCols512 acc.2.2 (queryPart512 qs dos tri2 k v kt acc) (ix2 d c) = ((dq K V (X c) (B + 128) d : ℝ) : EReal) := by
  have hz := scoreGrad512_apply hq ho ht hk hv ha hd hp
  have hqp : ∀ (c : Fin 512), queryPart512 qs dos tri2 k v kt acc (ix2 d c) = ((∑ r ∈ range 128, K (B + r) d * dz K V (X (512 + c)) (B + r) : ℝ) : EReal) := by
    intro c
    unfold queryPart512
    pointwise
    simp only [hkt, hz _ c]
    rw [coe_sum_mul, Fin.sum_univ_eq_sum_range (fun r => K (B + r) d * dz K V (X (512 + c.val)) (B + r)) 128]
  unfold addCols512
  pointwise
  split_ifs with h
  · rw [ha.2.2, dq_masked _ _ (hl c.val h)]
  all_goals
    have h' : 512 ≤ c.val := not_lt.mp h
    have hc := c.isLt
    rw [hqp, ha.2.2, ← EReal.coe_add, dq_add]
    simp only [Nat.add_sub_cancel' h']

include hq ho ht hk hv hkt ha hd hp hl in
theorem carry512_is : TopIs K V X (carry512 qs dos tri2 k v kt acc) (B + 128) := by
  refine ⟨fun r c => ?_, fun r c => ?_, fun d c => queries512_apply hq ho ht hk hv hkt ha hd hp hl d c⟩
  · have hk' := keep512_apply hq hk hd hp
    have hu := under2_512_apply ht hk'
    unfold carry512 addRow512 last512 zeros
    pointwise
    split_ifs with h
    · rw [ha.1, lkSum_masked _ (hl c.val h)]
    all_goals
      have h' : 512 ≤ c.val := not_lt.mp h
      have hc := c.isLt
      rw [hu, hk', ha.1, ← EReal.coe_add, zero_sub, ← EReal.coe_neg, ← EReal.coe_add, lkSum_add]
      congr 1
      simp only [Nat.add_sub_cancel' h', Finset.sum_range_succ (fun j => lk K (X c.val) (B + j)) 127]
      show _ - _ + -(∑ j ∈ range 127, lk K (X c.val) (B + j) + lk K (X c.val) (B + 127)) = _
      ring
  · have hg' := weightGrad512_apply hq ho ht hk hv ha hd hp
    have hu := under1_512_apply ht hg'
    unfold carry512 addRow512 last512
    pointwise
    split_ifs with h
    · rw [ha.2.1, dlSum_masked _ (hl c.val h)]
    all_goals
      have h' : 512 ≤ c.val := not_lt.mp h
      have hc := c.isLt
      rw [hu, hg', ha.2.1, ← EReal.coe_add, ← EReal.coe_add, dlSum_add]
      congr 1
      simp only [Nat.add_sub_cancel' h', Finset.sum_range_succ (fun j => dl K V (X c.val) (B + j)) 127]
      rfl

theorem addBlock512_apply {old : Vec Ideal S1x128x128 .f32} {wb : FVec Ideal S128x512 .bf16} {x : FVec Ideal S512x128 .bf16}
    {f : ℕ → ℕ → ℝ} {Q : ℕ → Fin 128 → ℝ} (hw : Is wb (fun r c => f r (512 + c))) (hx : IsRows x (fun c => Q (512 + c)))
    (hf : ∀ r c, r < 128 → c < 512 → f r c = 0) (r d : Fin 128) :
    addBlock512 old wb x (ix3 0 r d) = old (ix3 0 r d) + ((∑ c ∈ range 1024, f r c * Q c d : ℝ) : EReal) := by
  unfold addBlock512
  pointwise
  simp only [hw r, hx _ d]
  rw [coe_sum_mul, Fin.sum_univ_eq_sum_range (fun c => f r.val (512 + c) * Q (512 + c) d) 512,
    ← sum_from 512 512 (fun c => f r.val c * Q c d) (fun c hc => by rw [hf r c r.isLt hc, zero_mul])]

include hq ho ht hk hv ha hd hp hl in
theorem keyBlock512_apply (old : Vec Ideal S1x128x128 .f32) (r d : Fin 128) :
    keyBlock512 qs dos tri2 k v acc old (ix3 0 r d) = old (ix3 0 r d) + ((∑ c ∈ range 1024, dz K V (X c) (B + r) * (X c).q d : ℝ) : EReal) := by
  unfold keyBlock512
  exact addBlock512_apply (f := fun r c => dz K V (X c) (B + r)) (Q := fun c => (X c).q)
    (scoreGrad512_apply hq ho ht hk hv ha hd hp) (cutRows512_apply hq) (fun r c _ hc => dz_masked (by have := hl c hc; omega)) r d

include hq ho ht hk ha hd hp hl in
theorem valueBlock512_apply (old : Vec Ideal S1x128x128 .f32) (r d : Fin 128) :
    valueBlock512 qs dos tri2 k acc old (ix3 0 r d) = old (ix3 0 r d) + ((∑ c ∈ range 1024, w K (X c) (B + r) * (X c).o d : ℝ) : EReal) := by
  unfold valueBlock512
  refine addBlock512_apply (f := fun r c => w K (X c) (B + r)) (Q := fun c => (X c).o)
    (fun r c => ?_) (cutRows512_apply ho) (fun r c _ hc => w_masked (by have := hl c hc; omega)) r d
  pointwise
  exact weights512_apply hq ht hk ha hd hp r c
end w512

/-! ## The block that the last 256 columns see -/

section w256
variable (hd : ∀ c, c < 256 → (X (768 + c)).t = B + c % 128) (hp : ∀ c, 256 ≤ c → c < 256 → B + 128 ≤ (X (768 + c)).t)
  (hl : ∀ c, c < 768 → (X c).t ≤ B)

theorem diag256_apply {y : FVec Ideal S128x256 .f32} {f : ℕ → ℕ → ℝ} (hy : Is y f) :
    Is (diag256 y) (fun r c => if c < 256 ∧ ¬ r < c % 128 then 0 else f r c) := by
  intro r c
  have hr : r.val < 128 := r.isLt
  generalize hR : (fun r c => if c < 256 ∧ ¬ r < c % 128 then 0 else f r c) r.val c.val = R
  unfold diag256 zeros
  pointwise
  rw [diagMask_apply, hy, ← hR]
  have hc : c.val < 256 := c.isLt
  by_cases h : r.val < c.val % 128 <;> simp [h, hc, Scalar.select]

include hd hp in
theorem seen256 {r c : ℕ} (hr : r < 128) (hc : c < 256) : B + r < (X (768 + c)).t ↔ ¬ (c < 256 ∧ ¬ r < c % 128) := by
  by_cases h : c < 256
  · rw [hd c h]; omega
  · have := hp c (by omega) hc
    omega

theorem cutRows256_apply {y : FVec Ideal S1024x128 .bf16} {Q : ℕ → Fin 128 → ℝ} (hy : IsRows y Q) : IsRows (cutRows256 y) (fun c => Q (768 + c)) := by
  intro r d
  unfold cutRows256
  pointwise
  rw [hy]

theorem cutRow256_apply {y : FVec Ideal S1x1024 .f32} {f : ℕ → ℕ → ℝ} (hy : Is y f) : Is (cutRow256 y) (fun r c => f r (768 + c)) := by
  intro r c
  unfold cutRow256
  pointwise
  rw [hy]; first | done | rfl

theorem scores256_apply {x : FVec Ideal S256x128 .bf16} {Q : ℕ → Fin 128 → ℝ} (hx : IsRows x Q) {k : Vec Ideal S1x128x128 .bf16} {K : ℕ → Fin 128 → ℝ}
    (hk : ∀ (r : Fin 128) (d : Fin 128), k (ix3 0 r d) = ((K (B + r) d : ℝ) : EReal)) :
    Is (scores256 x k) (fun r c => ∑ d, K (B + r) d * Q c d) := by
  intro r c
  unfold scores256
  pointwise
  simp only [hx c, hk]
  exact coe_sum_mul _ _ _

theorem under2_256_apply (ht : IsTri2 tri2) {y : FVec Ideal S128x256 .f32} {f : ℕ → ℕ → ℝ} (hy : Is y f) :
    Is (under2_256 tri2 y) (fun r c => ∑ j ∈ range r, f j c) := by
  intro r c
  unfold under2_256
  pointwise
  simp only [ht, hy]
  have e : ∀ x : Fin 128, ((f x.val c.val : ℝ) : EReal) - ((f x.val c.val : ℝ) : EReal) = 0 := fun x => by
    rw [← EReal.coe_sub, sub_self, EReal.coe_zero]
  simp only [e, mul_zero, Finset.sum_const_zero, add_zero]
  rw [← tri_coe (fun j => f j c.val) r]
  refine Finset.sum_congr rfl fun j _ => ?_
  rw [Nat.mod_eq_of_lt j.isLt]

theorem under1_256_apply (ht : IsTri2 tri2) {y : FVec Ideal S128x256 .f32} {f : ℕ → ℕ → ℝ} (hy : Is y f) :
    Is (under1_256 tri2 y) (fun r c => ∑ j ∈ range r, f j c) := by
  intro r c
  unfold under1_256
  pointwise
  simp only [ht, hy]
  rw [← tri_coe (fun j => f j c.val) r]
  refine Finset.sum_congr rfl fun j _ => ?_
  congr 1
  simp [Nat.mod_eq_of_lt j.isLt]

include hq hk hd hp in
theorem keep256_apply : Is (keep256 qs k) (fun r c => lk K (X (768 + c)) (B + r)) := by
  have hz := scores256_apply (cutRows256_apply hq) hk
  have h : Is (subf (logBeta S128x256 (scores256 (cutRows256 qs) k)) (scores256 (cutRows256 qs) k))
      (fun r c => -sp (z K (X (768 + c)) (B + r))) := by
    intro r c
    have hl := logBeta_apply (hz r c)
    pointwise
    rw [hl, hz, ← EReal.coe_sub]
    congr 1
    rw [← add_sp_neg (z K (X (768 + c)) (B + r))]
    show -sp (-z K (X (768 + c)) (B + r)) - z K (X (768 + c)) (B + r) = -(z K (X (768 + c)) (B + r) + sp (-z K (X (768 + c)) (B + r)))
    ring
  unfold keep256
  refine (diag256_apply h).congr fun r c hr hc => ?_
  have := seen256 hd hp hr hc
  unfold lk
  split_ifs <;> first | rfl | (exfalso; tauto)

include hq ht hk ha hd hp in
theorem exponent256_apply : Is (exp (addf (scores256 (cutRows256 qs) k)
    (subf (broadcastTo S128x256 (cutRow256 acc.1) broadcasts_S1x256_S128x256) (under2_256 tri2 (keep256 qs k)))))
    (fun r c => Real.exp (z K (X (768 + c)) (B + r) + ((X (768 + c)).tot - lkSum K (X (768 + c)) (B + r)))) := by
  intro r c
  have hz := scores256_apply (cutRows256_apply hq) hk r c
  have hu := under2_256_apply ht (keep256_apply hq hk hd hp) r c
  have hr := cutRow256_apply ha.1 0 c
  pointwise
  rw [hz, hu, hr, ← EReal.coe_sub, ← EReal.coe_add, Ideal.exp_coe, lkSum_add, ← sub_sub]
  rfl

include hq ht hk ha hd hp in
theorem weights256_apply : Is (weights256 qs tri2 k acc) (fun r c => w K (X (768 + c)) (B + r)) := by
  unfold weights256
  refine (diag256_apply (exponent256_apply hq ht hk ha hd hp)).congr fun r c hr hc => ?_
  have := seen256 hd hp hr hc
  unfold w
  split_ifs <;> first | rfl | (exfalso; tauto)

include hq ho ht hk hv ha hd hp in
theorem weightGrad256_apply : Is (weightGrad256 qs dos tri2 k v acc) (fun r c => dl K V (X (768 + c)) (B + r)) := by
  intro r c
  unfold weightGrad256
  have hz := scores256_apply (cutRows256_apply ho) hv r c
  have hw := weights256_apply hq ht hk ha hd hp r c
  pointwise
  rw [hz, hw, ← EReal.coe_mul]
  rfl

include hq ho ht hk hv ha hd hp in
theorem scoreGrad256_apply : Is (scoreGrad256 qs dos tri2 k v acc) (fun r c => dz K V (X (768 + c)) (B + r)) := by
  have hg := weightGrad256_apply hq ho ht hk hv ha hd hp
  have hpre : Is (addf (broadcastTo S128x256 (cutRow256 acc.2.1) broadcasts_S1x256_S128x256) (under1_256 tri2 (weightGrad256 qs dos tri2 k v acc)))
      (fun r c => dlSum K V (X (768 + c)) (B + r)) := by
    intro r c
    have hu := under1_256_apply ht hg r c
    have hr := cutRow256_apply ha.2.1 0 c
    pointwise
    rw [hu, hr, ← EReal.coe_add, dlSum_add]
  have h : Is (logitGrad S128x256 (weightGrad256 qs dos tri2 k v acc) (logBeta S128x256 (scores256 (cutRows256 qs) k))
      (addf (broadcastTo S128x256 (cutRow256 acc.2.1) broadcasts_S1x256_S128x256) (under1_256 tri2 (weightGrad256 qs dos tri2 k v acc))))
      (fun r c => dl K V (X (768 + c)) (B + r) * (1 - sg (z K (X (768 + c)) (B + r))) - dlSum K V (X (768 + c)) (B + r) * sg (z K (X (768 + c)) (B + r))) := by
    intro r c
    exact logitGrad_apply (hg r c) (logBeta_apply (scores256_apply (cutRows256_apply hq) hk r c)) (hpre r c)
  have h' := (diag256_apply h).congr (g := fun r c => dz K V (X (768 + c)) (B + r)) fun r c hr hc => by
    have := seen256 hd hp hr hc
    unfold dz
    split_ifs <;> first | rfl | (exfalso; tauto)
  intro r c
  unfold scoreGrad256
  pointwise
  exact h' r c

include hq ho ht hk hv hkt ha hd hp hl in
theorem queries256_apply (d : Fin 128) (c : Fin 1024) :
    addCols256 acc.2.2 (queryPart256 qs dos tri2 k v kt acc) (ix2 d c) = ((dq K V (X c) (B + 128) d : ℝ) : EReal) := by
  have hz := scoreGrad256_apply hq ho ht hk hv ha hd hp
  have hqp : ∀ (c : Fin 256), queryPart256 qs dos tri2 k v kt acc (ix2 d c) = ((∑ r ∈ range 128, K (B + r) d * dz K V (X (768 + c)) (B + r) : ℝ) : EReal) := by
    intro c
    unfold queryPart256
    pointwise
    simp only [hkt, hz _ c]
    rw [coe_sum_mul, Fin.sum_univ_eq_sum_range (fun r => K (B + r) d * dz K V (X (768 + c.val)) (B + r)) 128]
  unfold addCols256
  pointwise
  split_ifs with h
  · rw [ha.2.2, dq_masked _ _ (hl c.val h)]
  all_goals
    have h' : 768 ≤ c.val := not_lt.mp h
    have hc := c.isLt
    rw [hqp, ha.2.2, ← EReal.coe_add, dq_add]
    simp only [Nat.add_sub_cancel' h']

include hq ho ht hk hv hkt ha hd hp hl in
theorem queries256_is (d : Fin 128) (c : Fin 1024) :
    queries256 qs dos tri2 k v kt acc (ix2 d c) = ((dq K V (X c) (B + 128) d : ℝ) : EReal) :=
  queries256_apply hq ho ht hk hv hkt ha hd hp hl d c

theorem addBlock256_apply {old : Vec Ideal S1x128x128 .f32} {wb : FVec Ideal S128x256 .bf16} {x : FVec Ideal S256x128 .bf16}
    {f : ℕ → ℕ → ℝ} {Q : ℕ → Fin 128 → ℝ} (hw : Is wb (fun r c => f r (768 + c))) (hx : IsRows x (fun c => Q (768 + c)))
    (hf : ∀ r c, r < 128 → c < 768 → f r c = 0) (r d : Fin 128) :
    addBlock256 old wb x (ix3 0 r d) = old (ix3 0 r d) + ((∑ c ∈ range 1024, f r c * Q c d : ℝ) : EReal) := by
  unfold addBlock256
  pointwise
  simp only [hw r, hx _ d]
  rw [coe_sum_mul, Fin.sum_univ_eq_sum_range (fun c => f r.val (768 + c) * Q (768 + c) d) 256,
    ← sum_from 768 256 (fun c => f r.val c * Q c d) (fun c hc => by rw [hf r c r.isLt hc, zero_mul])]

include hq ho ht hk hv ha hd hp hl in
theorem keyBlock256_apply (old : Vec Ideal S1x128x128 .f32) (r d : Fin 128) :
    keyBlock256 qs dos tri2 k v acc old (ix3 0 r d) = old (ix3 0 r d) + ((∑ c ∈ range 1024, dz K V (X c) (B + r) * (X c).q d : ℝ) : EReal) := by
  unfold keyBlock256
  exact addBlock256_apply (f := fun r c => dz K V (X c) (B + r)) (Q := fun c => (X c).q)
    (scoreGrad256_apply hq ho ht hk hv ha hd hp) (cutRows256_apply hq) (fun r c _ hc => dz_masked (by have := hl c hc; omega)) r d

include hq ho ht hk ha hd hp hl in
theorem valueBlock256_apply (old : Vec Ideal S1x128x128 .f32) (r d : Fin 128) :
    valueBlock256 qs dos tri2 k acc old (ix3 0 r d) = old (ix3 0 r d) + ((∑ c ∈ range 1024, w K (X c) (B + r) * (X c).o d : ℝ) : EReal) := by
  unfold valueBlock256
  refine addBlock256_apply (f := fun r c => w K (X c) (B + r)) (Q := fun c => (X c).o)
    (fun r c => ?_) (cutRows256_apply ho) (fun r c _ hc => w_masked (by have := hl c hc; omega)) r d
  pointwise
  exact weights256_apply hq ht hk ha hd hp r c
end w256

end block

end Cert.KernelIdeal.Hand

end
-- ==== Proof.BodyArgs.lean ====
/-
  What the body makes of its blocks before its loops, and of the queries' gradient past them, over the extended reals
  where the blocks are real: the queries stacked head by head, and unstacked.
-/
module

public import proofs.«01_k».proof.Proof.BodyEq
public import proofs.«01_k».proof.Proof.TopValue
public import Idealize.ShloMosaic.Lib.ValueIdx

@[expose] public section

set_option maxRecDepth 16384
set_option maxHeartbeats 4000000

noncomputable section

namespace Cert.KernelIdeal.Hand

open Cert.KernelIdeal Cert.KernelIdeal.Gen Cert.Stick
open Idealize.ShloMosaic Idealize.ShloMosaic.TcCoe Idealize.ShloMosaic.Tactic
open Finset (range)

/-- The column `c` of 1024: the query 128 (c / 256) + c % 128 of the tile `u` of 512, in its head c / 128 % 2, the other
    head's lanes zero; scaled. -/
def column (Q O : ℕ → Fin 128 → ℝ) (T : ℕ → ℝ) (u c : ℕ) : Query where
  q d := if d.val / 64 = c / 128 % 2 then Q (c / 256 * 128 + c % 128) d * (1 / 8) else 0
  o d := if d.val / 64 = c / 128 % 2 then O (c / 256 * 128 + c % 128) d else 0
  t := 512 * u + c / 256 * 128 + c % 128
  tot := T c

theorem lane_slt : ∀ d : Fin 128, Scalar.cmpi .slt (BitVec.ofNat 32 d.val) 64#32 = if d.val / 64 = 0 then 1#1 else 0#1 := by
  decide +kernel
theorem lane_sge : ∀ d : Fin 128, Scalar.cmpi .sge (BitVec.ofNat 32 d.val) 64#32 = if d.val / 64 = 1 then 1#1 else 0#1 := by
  decide +kernel

theorem lower_apply {x : FVec Ideal S128x128 .bf16} {f : ℕ → Fin 128 → ℝ} (hx : IsRows x f) :
    IsRows (lower x) (fun r d => if d.val / 64 = 0 then f r d else 0) := by
  intro r d
  have e : lower x (ix2 r d) = Scalar.select (Scalar.cmpi .slt (BitVec.ofNat 32 d.val) 64#32) (x (ix2 r d)) 0 := by
    unfold lower
    pointwise
    rfl
  rw [e, lane_slt, hx]
  by_cases h : d.val / 64 = 0 <;> simp [h, Scalar.select]
theorem upper_apply {x : FVec Ideal S128x128 .bf16} {f : ℕ → Fin 128 → ℝ} (hx : IsRows x f) :
    IsRows (upper x) (fun r d => if d.val / 64 = 1 then f r d else 0) := by
  intro r d
  have e : upper x (ix2 r d) = Scalar.select (Scalar.cmpi .sge (BitVec.ofNat 32 d.val) 64#32) (x (ix2 r d)) 0 := by
    unfold upper
    pointwise
    rfl
  rw [e, lane_sge, hx]
  by_cases h : d.val / 64 = 1 <;> simp [h, Scalar.select]

theorem stack_apply {x : FVec Ideal S512x128 .bf16} {f : ℕ → Fin 128 → ℝ} (hx : IsRows x f) :
    IsRows (stack x) (fun c d => if d.val / 64 = c / 128 % 2 then f (c / 256 * 128 + c % 128) d else 0) := by
  have hs0 : IsRows (extractStridedSlice S128x128 ![0, 0] x slices_S512x128_o0_0_S128x128) (fun r d => f r d) := by
    intro r d; pointwise; exact hx _ _
  have hs1 : IsRows (extractStridedSlice S128x128 ![128, 0] x slices_S512x128_o128_0_S128x128) (fun r d => f (128 + r) d) := by
    intro r d; pointwise; exact hx _ _
  have hs2 : IsRows (extractStridedSlice S128x128 ![256, 0] x slices_S512x128_o256_0_S128x128) (fun r d => f (256 + r) d) := by
    intro r d; pointwise; exact hx _ _
  have hs3 : IsRows (extractStridedSlice S128x128 ![384, 0] x slices_S512x128_o384_0_S128x128) (fun r d => f (384 + r) d) := by
    intro r d; pointwise; exact hx _ _
  have l0 := lower_apply hs0; have u0 := upper_apply hs0
  have l1 := lower_apply hs1; have u1 := upper_apply hs1
  have l2 := lower_apply hs2; have u2 := upper_apply hs2
  have l3 := lower_apply hs3; have u3 := upper_apply hs3
  intro c d
  have hc := c.isLt
  generalize hR : (fun c (d : Fin 128) => if d.val / 64 = c / 128 % 2 then f (c / 256 * 128 + c % 128) d else 0) c.val d = R
  unfold stack
  pointwise
  by_cases c1 : c.val < 128
  · refine (dif_pos c1).trans ((l0 _ d).trans ?_)
    rw [← hR]
    have e1 : c.val / 128 % 2 = 0 := by omega
    have e2 : c.val / 256 * 128 + c.val % 128 = (c.val) := by omega
    show (((if d.val / 64 = 0 then f ((c.val)) d else 0 : ℝ)) : EReal) = ((if d.val / 64 = c.val / 128 % 2 then f (c.val / 256 * 128 + c.val % 128) d else 0 : ℝ) : EReal)
    rw [e1, e2]
  refine (dif_neg c1).trans ?_
  by_cases c2 : c.val - 128 < 128
  · refine (dif_pos c2).trans ((u0 _ d).trans ?_)
    rw [← hR]
    have e1 : c.val / 128 % 2 = 1 := by omega
    have e2 : c.val / 256 * 128 + c.val % 128 = (c.val - 128) := by omega
    show (((if d.val / 64 = 1 then f ((c.val - 128)) d else 0 : ℝ)) : EReal) = ((if d.val / 64 = c.val / 128 % 2 then f (c.val / 256 * 128 + c.val % 128) d else 0 : ℝ) : EReal)
    rw [e1, e2]
  refine (dif_neg c2).trans ?_
  by_cases c3 : c.val - 128 - 128 < 128
  · refine (dif_pos c3).trans ((l1 _ d).trans ?_)
    rw [← hR]
    have e1 : c.val / 128 % 2 = 0 := by omega
    have e2 : c.val / 256 * 128 + c.val % 128 = 128 + (c.val - 128 - 128) := by omega
    show (((if d.val / 64 = 0 then f (128 + (c.val - 128 - 128)) d else 0 : ℝ)) : EReal) = ((if d.val / 64 = c.val / 128 % 2 then f (c.val / 256 * 128 + c.val % 128) d else 0 : ℝ) : EReal)
    rw [e1, e2]
  refine (dif_neg c3).trans ?_
  by_cases c4 : c.val - 128 - 128 - 128 < 128
  · refine (dif_pos c4).trans ((u1 _ d).trans ?_)
    rw [← hR]
    have e1 : c.val / 128 % 2 = 1 := by omega
    have e2 : c.val / 256 * 128 + c.val % 128 = 128 + (c.val - 128 - 128 - 128) := by omega
    show (((if d.val / 64 = 1 then f (128 + (c.val - 128 - 128 - 128)) d else 0 : ℝ)) : EReal) = ((if d.val / 64 = c.val / 128 % 2 then f (c.val / 256 * 128 + c.val % 128) d else 0 : ℝ) : EReal)
    rw [e1, e2]
  refine (dif_neg c4).trans ?_
  by_cases c5 : c.val - 128 - 128 - 128 - 128 < 128
  · refine (dif_pos c5).trans ((l2 _ d).trans ?_)
    rw [← hR]
    have e1 : c.val / 128 % 2 = 0 := by omega
    have e2 : c.val / 256 * 128 + c.val % 128 = 256 + (c.val - 128 - 128 - 128 - 128) := by omega
    show (((if d.val / 64 = 0 then f (256 + (c.val - 128 - 128 - 128 - 128)) d else 0 : ℝ)) : EReal) = ((if d.val / 64 = c.val / 128 % 2 then f (c.val / 256 * 128 + c.val % 128) d else 0 : ℝ) : EReal)
    rw [e1, e2]
  refine (dif_neg c5).trans ?_
  by_cases c6 : c.val - 128 - 128 - 128 - 128 - 128 < 128
  · refine (dif_pos c6).trans ((u2 _ d).trans ?_)
    rw [← hR]
    have e1 : c.val / 128 % 2 = 1 := by omega
    have e2 : c.val / 256 * 128 + c.val % 128 = 256 + (c.val - 128 - 128 - 128 - 128 - 128) := by omega
    show (((if d.val / 64 = 1 then f (256 + (c.val - 128 - 128 - 128 - 128 - 128)) d else 0 : ℝ)) : EReal) = ((if d.val / 64 = c.val / 128 % 2 then f (c.val / 256 * 128 + c.val % 128) d else 0 : ℝ) : EReal)
    rw [e1, e2]
  refine (dif_neg c6).trans ?_
  by_cases c7 : c.val - 128 - 128 - 128 - 128 - 128 - 128 < 128
  · refine (dif_pos c7).trans ((l3 _ d).trans ?_)
    rw [← hR]
    have e1 : c.val / 128 % 2 = 0 := by omega
    have e2 : c.val / 256 * 128 + c.val % 128 = 384 + (c.val - 128 - 128 - 128 - 128 - 128 - 128) := by omega
    show (((if d.val / 64 = 0 then f (384 + (c.val - 128 - 128 - 128 - 128 - 128 - 128)) d else 0 : ℝ)) : EReal) = ((if d.val / 64 = c.val / 128 % 2 then f (c.val / 256 * 128 + c.val % 128) d else 0 : ℝ) : EReal)
    rw [e1, e2]
  refine (dif_neg c7).trans ?_
  · refine (u3 _ d).trans ?_
    rw [← hR]
    have e1 : c.val / 128 % 2 = 1 := by omega
    have e2 : c.val / 256 * 128 + c.val % 128 = 384 + (c.val - 128 - 128 - 128 - 128 - 128 - 128 - 128) := by omega
    show (((if d.val / 64 = 1 then f (384 + (c.val - 128 - 128 - 128 - 128 - 128 - 128 - 128)) d else 0 : ℝ)) : EReal) = ((if d.val / 64 = c.val / 128 % 2 then f (c.val / 256 * 128 + c.val % 128) d else 0 : ℝ) : EReal)
    rw [e1, e2]

theorem eighth : Ideal.ofBits .bf16 0x3E00#16 = ((1 / 8 : ℝ) : EReal) := by
  simp [Ideal.ofBits, Ideal.ieee, -EReal.coe_mul]; norm_num
theorem eighth_f32 : Ideal.ofBits .f32 0x3E000000#32 = ((1 / 8 : ℝ) : EReal) := by
  simp [Ideal.ofBits, Ideal.ieee, -EReal.coe_mul]; norm_num

theorem stackQ_apply {x0 : Vec Ideal S1x512x128 .bf16} {f : ℕ → Fin 128 → ℝ} (hx : ∀ (r : Fin 512) (d : Fin 128), x0 (ix3 0 r d) = ((f r d : ℝ) : EReal)) :
    IsRows (stackQ x0) (fun c d => if d.val / 64 = c / 128 % 2 then f (c / 256 * 128 + c % 128) d * (1 / 8) else 0) := by
  refine stack_apply (f := fun r d => f r d * (1 / 8)) fun r d => ?_
  pointwise
  rw [hx, eighth, ← EReal.coe_mul]

theorem stackO_apply {x4 : Vec Ideal S1x512x128 .bf16} {f : ℕ → Fin 128 → ℝ} (hx : ∀ (r : Fin 512) (d : Fin 128), x4 (ix3 0 r d) = ((f r d : ℝ) : EReal)) :
    IsRows (stackO x4) (fun c d => if d.val / 64 = c / 128 % 2 then f (c / 256 * 128 + c % 128) d else 0) := by
  refine stack_apply fun r d => ?_
  pointwise
  exact hx r d

theorem totals_apply {x5 : Vec Ideal S1x1x1x1x1024 .f32} {f : ℕ → ℝ} (hx : ∀ c : Fin 1024, x5 (ix5 0 0 0 0 c) = ((f c : ℝ) : EReal)) :
    Is (totals x5) (fun _ c => f c) := by
  intro r c
  unfold totals
  pointwise
  exact hx c

theorem zeroRow_apply (r : Fin 1) (c : Fin 1024) : (k0_pay312 (F := Ideal)) (ix2 r c) = 0 := by
  unfold k0_pay312
  pointwise
theorem zeroCols_apply (r : Fin 128) (c : Fin 1024) : (k0_pay313 (F := Ideal)) (ix2 r c) = 0 := by
  unfold k0_pay313
  pointwise

theorem bit_sgt : ∀ a b : Fin 128, BitVec.setWidth 32 (IntOp.cmpi .sgt (BitVec.ofNat 32 a.val) (BitVec.ofNat 32 b.val)) = if b.val < a.val then 1#32 else 0#32 := by
  decide +kernel
theorem one_f32 : (FloatOps.sitofp .f32 1#32 : Ideal .f32) = 1 := by
  show (((1#32 : BitVec 32).toInt : ℝ) : EReal) = 1
  simp
theorem zero_f32 : (FloatOps.sitofp .f32 0#32 : Ideal .f32) = 0 := by
  show (((0#32 : BitVec 32).toInt : ℝ) : EReal) = 0
  simp
theorem bit_apply (a b : Fin 128) : (FloatOps.sitofp .f32 (BitVec.setWidth 32 (IntOp.cmpi .sgt (BitVec.ofNat 32 a.val) (BitVec.ofNat 32 b.val))) : Ideal .f32)
    = if b.val < a.val then 1 else 0 := by
  rw [bit_sgt]
  split
  · exact one_f32
  · exact zero_f32
theorem tri_apply : IsTri2 (k0_pay311 (F := Ideal)) := by
  intro r c
  have hc := c.isLt
  unfold k0_pay311
  pointwise
  by_cases h : c.val < 128
  · refine (dif_pos h).trans ((bit_apply r ⟨c.val, h⟩).trans ?_)
    show (if c.val < r.val then _ else _) = _
    rw [Nat.mod_eq_of_lt h]
  · refine (dif_neg h).trans ((bit_apply r ⟨c.val - 128, by omega⟩).trans ?_)
    show (if c.val - 128 < r.val then _ else _) = _
    have e : c.val % 128 = c.val - 128 := by omega
    rw [e]

/-- 128 queries' gradients back from their two heads' columns. -/
def unstack (lo hi : FVec Ideal S128x128 .f32) : FVec Ideal S128x128 .f32 :=
  transpose S128x128 [1, 0] (select (cmpi .slt (iota .tc S128x128 32 [0] iota_S128x128_d0_w32) (broadcast S128x128 64#32)) lo hi) transposes_S128x128_p1_0_S128x128

theorem unstack_half {lo hi : FVec Ideal S128x128 .f32} {f g : ℕ → Fin 128 → ℝ}
    (hl : ∀ d r : Fin 128, lo (ix2 d r) = ((f r d : ℝ) : EReal)) (hh : ∀ d r : Fin 128, hi (ix2 d r) = ((g r d : ℝ) : EReal)) :
    IsRows (unstack lo hi) (fun r d => if d.val / 64 = 0 then f r d else g r d) := by
  intro r d
  have e : unstack lo hi (ix2 r d) = Scalar.select (Scalar.cmpi .slt (BitVec.ofNat 32 d.val) 64#32) (lo (ix2 d r)) (hi (ix2 d r)) := by
    unfold unstack
    pointwise
    rfl
  rw [e, lane_slt, hl, hh]
  by_cases h : d.val / 64 = 0 <;> simp [h, Scalar.select]

/-- The body's last store, in these terms. -/
theorem pay1_eq (x : FVec Ideal S128x1024 .f32) : k0_pay1 x = shapeCast S1x512x128 (truncf .bf16 (mulf
    (concatenate S512x128 0 [⟨S128x128, unstack (extractStridedSlice S128x128 ![0, 0] x slices_S128x1024_o0_0_S128x128) (extractStridedSlice S128x128 ![0, 128] x slices_S128x1024_o0_128_S128x128)⟩,
      ⟨S128x128, unstack (extractStridedSlice S128x128 ![0, 256] x slices_S128x1024_o0_256_S128x128) (extractStridedSlice S128x128 ![0, 384] x slices_S128x1024_o0_384_S128x128)⟩,
      ⟨S128x128, unstack (extractStridedSlice S128x128 ![0, 512] x slices_S128x1024_o0_512_S128x128) (extractStridedSlice S128x128 ![0, 640] x slices_S128x1024_o0_640_S128x128)⟩,
      ⟨S128x128, unstack (extractStridedSlice S128x128 ![0, 768] x slices_S128x1024_o0_768_S128x128) (extractStridedSlice S128x128 ![0, 896] x slices_S128x1024_o0_896_S128x128)⟩]
      concatenates_S128x128_S128x128_S128x128_S128x128_S512x128_d0)
    (broadcast S512x128 (Scalar.ofBits .f32 0x3E000000#32))) bitsLt_bf16_f32) shapeCasts_S512x128_S1x512x128 := by
  unfold k0_pay1 unstack
  rfl

theorem unstack_apply {x : FVec Ideal S128x1024 .f32} {D : ℕ → Fin 128 → ℝ}
    (hx : ∀ (d : Fin 128) (c : Fin 1024), x (ix2 d c) = ((D c d : ℝ) : EReal)) (r : Fin 512) (d : Fin 128) :
    k0_pay1 x (ix3 0 r d) = ((D (r.val / 128 * 256 + d.val / 64 * 128 + r.val % 128) d * (1 / 8) : ℝ) : EReal) := by
  have hd := d.isLt
  have hr := r.isLt
  have b0 : IsRows (unstack (extractStridedSlice S128x128 ![0, 0] x slices_S128x1024_o0_0_S128x128) (extractStridedSlice S128x128 ![0, 128] x slices_S128x1024_o0_128_S128x128))
      (fun r d => if d.val / 64 = 0 then D r d else D (128 + r) d) :=
    unstack_half (fun d r => by pointwise; exact hx _ _) (fun d r => by pointwise; exact hx _ _)
  have b1 : IsRows (unstack (extractStridedSlice S128x128 ![0, 256] x slices_S128x1024_o0_256_S128x128) (extractStridedSlice S128x128 ![0, 384] x slices_S128x1024_o0_384_S128x128))
      (fun r d => if d.val / 64 = 0 then D (256 + r) d else D (384 + r) d) :=
    unstack_half (fun d r => by pointwise; exact hx _ _) (fun d r => by pointwise; exact hx _ _)
  have b2 : IsRows (unstack (extractStridedSlice S128x128 ![0, 512] x slices_S128x1024_o0_512_S128x128) (extractStridedSlice S128x128 ![0, 640] x slices_S128x1024_o0_640_S128x128))
      (fun r d => if d.val / 64 = 0 then D (512 + r) d else D (640 + r) d) :=
    unstack_half (fun d r => by pointwise; exact hx _ _) (fun d r => by pointwise; exact hx _ _)
  have b3 : IsRows (unstack (extractStridedSlice S128x128 ![0, 768] x slices_S128x1024_o0_768_S128x128) (extractStridedSlice S128x128 ![0, 896] x slices_S128x1024_o0_896_S128x128))
      (fun r d => if d.val / 64 = 0 then D (768 + r) d else D (896 + r) d) :=
    unstack_half (fun d r => by pointwise; exact hx _ _) (fun d r => by pointwise; exact hx _ _)
  rw [pay1_eq]
  pointwise
  rw [eighth_f32, EReal.coe_mul]
  congr 1
  by_cases c1 : r.val < 128
  · refine (dif_pos c1).trans ((b0 _ d).trans ?_)
    show ((if d.val / 64 = 0 then D r.val d else D (128 + (r.val)) d : ℝ) : EReal) = _
    split
    · congr 2; omega
    · congr 2; omega
  refine (dif_neg c1).trans ?_
  by_cases c2 : r.val - 128 < 128
  · refine (dif_pos c2).trans ((b1 _ d).trans ?_)
    show ((if d.val / 64 = 0 then D (256 + (r.val - 128)) d else D (384 + (r.val - 128)) d : ℝ) : EReal) = _
    split
    · congr 2; omega
    · congr 2; omega
  refine (dif_neg c2).trans ?_
  by_cases c3 : r.val - 128 - 128 < 128
  · refine (dif_pos c3).trans ((b2 _ d).trans ?_)
    show ((if d.val / 64 = 0 then D (512 + (r.val - 128 - 128)) d else D (640 + (r.val - 128 - 128)) d : ℝ) : EReal) = _
    split
    · congr 2; omega
    · congr 2; omega
  refine (dif_neg c3).trans ?_
  · refine (b3 _ d).trans ?_
    show ((if d.val / 64 = 0 then D (768 + (r.val - 128 - 128 - 128)) d else D (896 + (r.val - 128 - 128 - 128)) d : ℝ) : EReal) = _
    split
    · congr 2; omega
    · congr 2; omega

end Cert.KernelIdeal.Hand

end
-- ==== Proof.BodyValue.lean ====
/-
  What the body's run adds and stores over the extended reals, where its blocks are real: the tiles below the diagonal
  by the loops, the diagonal tile block by block. What it adds to the gradients of the keys and the values is the sum
  over its 1024 columns of every key's part, and the queries' gradient is the sum over all keys.
-/
module

public import proofs.«01_k».proof.Proof.Rows
public import proofs.«01_k».proof.Proof.BodyArgs

@[expose] public section

set_option maxRecDepth 16384
set_option maxHeartbeats 1000000

noncomputable section

namespace Cert.KernelIdeal.Hand

open Cert.KernelIdeal Cert.KernelIdeal.Gen Cert.Stick
open Idealize.ShloMosaic Idealize.ShloMosaic.TcCoe Idealize.ShloMosaic.Tactic
open Finset (range)

theorem off13_eq : ∀ (i : grid0.Coords) (x : Fin 4), k0_off13 i (BitVec.ofNat 32 x.val) = ![0, 512 * (i 2).val + 128 * x.val, 0] := by
  decide +kernel
theorem off14_eq : ∀ (i : grid0.Coords) (x : Fin 4), k0_off14 i (BitVec.ofNat 32 x.val) = ![0, 0, 4 * (i 2).val + x.val, 0, 0] := by
  decide +kernel
theorem coord_lt : ∀ i : grid0.Coords, (i 2).val < 4 := by decide +kernel

/-- What the 1024 columns add to the row `R` of the keys' gradient, and of the values'. -/
def keyGrad (K V : ℕ → Fin 128 → ℝ) (X : ℕ → Query) (R : ℕ) (d : Fin 128) : ℝ := ∑ c ∈ range 1024, dz K V (X c) R * (X c).q d
def valueGrad (K : ℕ → Fin 128 → ℝ) (X : ℕ → Query) (R : ℕ) (d : Fin 128) : ℝ := ∑ c ∈ range 1024, w K (X c) R * (X c).o d

section tile
variable {qs dos : FVec Ideal S1024x128 .bf16} {totv : FVec Ideal S1x1024 .f32} {tri2 : FVec Ideal S128x256 .bf16}
  {k v : Vec Ideal S1x512x128 .bf16} {acc : Carry Ideal}
  {K V : ℕ → Fin 128 → ℝ} {X : ℕ → Query} {B : ℕ}
  (hq : IsRows qs (fun c => (X c).q)) (ho : IsRows dos (fun c => (X c).o))
  (htot : Is totv (fun _ c => (X c).tot)) (ht : IsTri2 tri2)
  (hk : ∀ (r : Fin 512) (d : Fin 128), k (ix3 0 r d) = ((K (B + r) d : ℝ) : EReal))
  (hv : ∀ (r : Fin 512) (d : Fin 128), v (ix3 0 r d) = ((V (B + r) d : ℝ) : EReal))
  (hm : ∀ c, c < 1024 → B + 512 ≤ (X c).t) (ha : CarryIs K V X acc B)

include hq ho htot ht hk hv hm ha in
theorem keyRows_apply (old : Vec Ideal S1x512x128 .f32) (r : Fin 512) (d : Fin 128) :
    keyRows qs dos totv tri2 k v acc old (ix3 0 r d) = old (ix3 0 r d) + ((keyGrad K V X (B + r.val) d : ℝ) : EReal) :=
  addRows_apply (f := fun r c => dz K V (X c) (B + r)) (scoreGrad_apply hq ho htot ht hk hv hm ha) hq r d

include hq ho htot ht hk hm ha in
theorem valueRows_apply (old : Vec Ideal S1x512x128 .f32) (r : Fin 512) (d : Fin 128) :
    valueRows qs dos totv tri2 k acc old (ix3 0 r d) = old (ix3 0 r d) + ((valueGrad K X (B + r.val) d : ℝ) : EReal) := by
  unfold valueRows
  refine addRows_apply (f := fun r c => w K (X c) (B + r)) (fun r c => ?_) ho r d
  pointwise
  exact weights_apply hq htot ht hk hm ha r c
end tile

/-- A state of the loops past the keys below `n`: what is carried, and what has been added. -/
def Good (arg10 arg11 : Memref sig .tc .vmem S1x2048x128 .f32) (K V : ℕ → Fin 128 → ℝ) (X : ℕ → Query)
    (G10 : BufTy.Contents (Elt Ideal) arg10.view.ty) (G11 : BufTy.Contents (Elt Ideal) arg11.view.ty) (a10 a11 : Vec Ideal S1x2048x128 .f32)
    (s : State Ideal) (n : ℕ) : Prop :=
  CarryIs K V X s.1 n ∧ Added arg10.view G10 s.2.1 a10 (keyGrad K V X) n ∧ Added arg11.view G11 s.2.2 a11 (valueGrad K X) n

section
variable (c : Dev nD) (i : grid0.Coords) {arg3 : Memref sig .tc .vmem S1x512x128 .bf16} {harg3 : arg3.IsWhole} {arg4 : Memref sig .tc .vmem S1x2048x128 .bf16} {harg4 : arg4.IsWhole} {arg5 : Memref sig .tc .vmem S1x2048x128 .bf16} {harg5 : arg5.IsWhole} {arg6 : Memref sig .tc .vmem S1x1x16x128x128 .bf16} {harg6 : arg6.IsWhole} {arg7 : Memref sig .tc .vmem S1x512x128 .bf16} {harg7 : arg7.IsWhole} {arg8 : Memref sig .tc .vmem S1x1x1x1x1024 .f32} {harg8 : arg8.IsWhole} {arg9 : Memref sig .tc .vmem S1x512x128 .bf16} {harg9 : arg9.IsWhole} {arg10 : Memref sig .tc .vmem S1x2048x128 .f32} {harg10 : arg10.IsWhole} {arg11 : Memref sig .tc .vmem S1x2048x128 .f32} {harg11 : arg11.IsWhole}
  {v44 v83 : FVec Ideal S1024x128 .bf16} {v85 : FVec Ideal S1x1024 .f32} {v92 : FVec Ideal S128x256 .bf16} {v93 : FVec Ideal S1x1024 .f32} {v110 v111 : BitVec 32} {v122 : BitVec 1} {v123 v150 : BitVec 32}
  {x1 x2 : Vec Ideal S1x2048x128 .bf16} {x3 : Vec Ideal S1x1x16x128x128 .bf16} {a10 a11 : Vec Ideal S1x2048x128 .f32}
  {G10 : BufTy.Contents (Elt Ideal) arg10.view.ty} {G11 : BufTy.Contents (Elt Ideal) arg11.view.ty}
  {K V : ℕ → Fin 128 → ℝ} {X : ℕ → Query}
  (hq : IsRows v44 (fun c => (X c).q)) (ho : IsRows v83 (fun c => (X c).o)) (htot : Is v85 (fun _ c => (X c).tot)) (ht : IsTri2 v92)
  (hk : ∀ (R : Fin 2048) (d : Fin 128), x1 (ix3 0 R d) = ((K R.val d : ℝ) : EReal))
  (hv : ∀ (R : Fin 2048) (d : Fin 128), x2 (ix3 0 R d) = ((V R.val d : ℝ) : EReal))
  (hkt : ∀ (b : Fin 16) (d r : Fin 128), x3 (ix5 0 0 b d r) = ((K (128 * b.val + r.val) d : ℝ) : EReal))
  (hX : ∀ c, c < 1024 → (X c).t = 512 * (i 2).val + c / 256 * 128 + c % 128)

include hk in
theorem keys512 {B : ℕ} {off : Fin 3 → ℕ} (inb : ∀ a, off a + S1x512x128.size a ≤ S1x2048x128.size a) (h : off = ![0, B, 0]) (hB : B + 512 ≤ 2048) (r : Fin 512) (d : Fin 128) :
    View.readAt (Elt Ideal) arg4.view (Rect.unit (s := S1x2048x128) off S1x512x128.size inb).toLoadRect (harg4.unread x1) (ix3 0 r d) = ((K (B + r.val) d : ℝ) : EReal) := by
  rw [read512 arg4.view _ inb h r d (by have := r.isLt; omega), harg4.read_unread, hk]
include hk in
theorem keys128 {B : ℕ} {off : Fin 3 → ℕ} (inb : ∀ a, off a + S1x128x128.size a ≤ S1x2048x128.size a) (h : off = ![0, B, 0]) (hB : B + 128 ≤ 2048) (r d : Fin 128) :
    View.readAt (Elt Ideal) arg4.view (Rect.unit (s := S1x2048x128) off S1x128x128.size inb).toLoadRect (harg4.unread x1) (ix3 0 r d) = ((K (B + r.val) d : ℝ) : EReal) := by
  rw [read128 arg4.view _ inb h r d (by have := r.isLt; omega), harg4.read_unread, hk]
include hkt in
theorem blockT {b : ℕ} {off : Fin 5 → ℕ} (inb : ∀ a, off a + S1x1x1x128x128.size a ≤ S1x1x16x128x128.size a) (h : off = ![0, 0, b, 0, 0]) (hb : b < 16) {B : ℕ} (hB : B = 128 * b) (d r : Fin 128) :
    View.readAt (Elt Ideal) arg6.view (Rect.unit (s := S1x1x16x128x128) off S1x1x1x128x128.size inb).toLoadRect (harg6.unread x3) (ix5 0 0 0 d r) = ((K (B + r.val) d : ℝ) : EReal) := by
  rw [readT arg6.view _ inb h hb d r, harg6.read_unread, hkt, hB]

include hq ho htot ht hk hv hkt hX in
/-- The pair loop. -/
theorem pairs_good {init : Carry Ideal} (h0 : Good arg10 arg11 K V X G10 G11 a10 a11 (init, [], []) 0) (n : ℕ) (hn : n ≤ (k0_t1_loop i).trips) :
    Good arg10 arg11 K V X G10 G11 a10 a11 (st1 c i arg3 harg3 arg4 harg4 arg5 harg5 arg6 harg6 arg7 harg7 arg8 harg8 arg9 harg9 arg10 harg10 arg11 harg11 v44 v83 v85 v92 v93 v110 v111 v122 v123 (harg4.unread x1) (harg5.unread x2) (harg6.unread x3) G10 G11 init n) (1024 * n) := by
  cases n with
  | zero => exact h0
  | succ n =>
    have hu := coord_lt i
    have htr := trips1 i
    have hn0 : n = 0 := by omega
    have hi : 2 ≤ (i 2).val := by omega
    subst hn0
    let k : Fin (k0_t1_loop i).trips := ⟨0, by omega⟩
    have ho1 := off1_eq i k
    have ho2 := off2_eq i k
    show Good arg10 arg11 K V X G10 G11 a10 a11 (st1Step c i arg3 harg3 arg4 harg4 arg5 harg5 arg6 harg6 arg7 harg7 arg8 harg8 arg9 harg9 arg10 harg10 arg11 harg11 v44 v83 v85 v92 v93 v110 v111 v122 v123 (harg4.unread x1) (harg5.unread x2) (harg6.unread x3) G10 G11 k.val (init, [], [])) 1024
    rw [st1_succ, trip1_carry, trip1_pieces10, trip1_pieces11]
    have hk1 := keys512 (arg4 := arg4) (harg4 := harg4) hk (B := 0) (k0_off1_inb i k) ho1 (by norm_num)
    have hv1 := keys512 (arg4 := arg5) (harg4 := harg5) hv (B := 0) (k0_off1_inb i k) ho1 (by norm_num)
    have hk2 := keys512 (arg4 := arg4) (harg4 := harg4) hk (B := 0 + 512) (k0_off2_inb i k) ho2 (by norm_num)
    have hv2 := keys512 (arg4 := arg5) (harg4 := harg5) hv (B := 0 + 512) (k0_off2_inb i k) ho2 (by norm_num)
    have hm1 : ∀ c, c < 1024 → 0 + 512 ≤ (X c).t := fun c hc => by rw [hX c hc]; omega
    have hm2 : ∀ c, c < 1024 → 0 + 512 + 512 ≤ (X c).t := fun c hc => by rw [hX c hc]; omega
    have hc1 := tileCarry_is (B := 0) hq ho htot ht hk1 hv1 hm1 h0.1
      (blockT (arg6 := arg6) (harg6 := harg6) hkt (b := 0) (k0_off3_inb i k 0) (off3_eq i k 0) (by norm_num) rfl)
      (blockT (arg6 := arg6) (harg6 := harg6) hkt (b := 1) (k0_off3_inb i k 1) (off3_eq i k 1) (by norm_num) rfl)
      (blockT (arg6 := arg6) (harg6 := harg6) hkt (b := 2) (k0_off3_inb i k 2) (off3_eq i k 2) (by norm_num) rfl)
      (blockT (arg6 := arg6) (harg6 := harg6) hkt (b := 3) (k0_off3_inb i k 3) (off3_eq i k 3) (by norm_num) rfl)
    have hc2 := tileCarry_is (B := 0 + 512) hq ho htot ht hk2 hv2 hm2 hc1
      (blockT (arg6 := arg6) (harg6 := harg6) hkt (b := 4) (k0_off4_inb i k 0) (off4_eq i k 0) (by norm_num) rfl)
      (blockT (arg6 := arg6) (harg6 := harg6) hkt (b := 5) (k0_off4_inb i k 1) (off4_eq i k 1) (by norm_num) rfl)
      (blockT (arg6 := arg6) (harg6 := harg6) hkt (b := 6) (k0_off4_inb i k 2) (off4_eq i k 2) (by norm_num) rfl)
      (blockT (arg6 := arg6) (harg6 := harg6) hkt (b := 7) (k0_off4_inb i k 3) (off4_eq i k 3) (by norm_num) rfl)
    refine ⟨hc2, ?_, ?_⟩
    · refine Added.rows512_early (Added.rows512 h0.2.1 (k0_off1_inb i k) ho1 _ fun r d => ?_) h0.2.1 (Nat.zero_le _) (k0_off2_inb i k) ho2 (by norm_num) _ fun r d => ?_
      · exact keyRows_apply hq ho htot ht hk1 hv1 hm1 h0.1 _ r d
      · exact keyRows_apply hq ho htot ht hk2 hv2 hm2 hc1 _ r d
    · refine Added.rows512_early (Added.rows512 h0.2.2 (k0_off1_inb i k) ho1 _ fun r d => ?_) h0.2.2 (Nat.zero_le _) (k0_off2_inb i k) ho2 (by norm_num) _ fun r d => ?_
      · exact valueRows_apply hq ho htot ht hk1 hm1 h0.1 _ r d
      · exact valueRows_apply hq ho htot ht hk2 hm2 hc1 _ r d

include hq ho htot ht hk hv hkt hX in
/-- The loop over a last tile alone. -/
theorem single_good {init : Carry Ideal} {m : ℕ} (hmi : m = 1024 * ((i 2).val / 2)) (h0 : Good arg10 arg11 K V X G10 G11 a10 a11 (init, [], []) m) (n : ℕ) (hn : n ≤ (k0_t3_loop i).trips) :
    Good arg10 arg11 K V X G10 G11 a10 a11 (st_k0_t3 Variants.none c none i arg3 harg3 arg4 harg4 arg5 harg5 arg6 harg6 arg7 harg7 arg8 harg8 arg9 harg9 arg10 harg10 arg11 harg11 v44 v83 v85 v92 v93 v110 v111 v122 v123 (harg4.unread x1) (harg5.unread x2) (harg6.unread x3) G10 G11 init n) (m + 512 * n) := by
  cases n with
  | zero => exact h0
  | succ n =>
    have hu := coord_lt i
    have htr := trips3 i
    have hn0 : n = 0 := by omega
    have hm2 : m = 512 * ((i 2).val - 1) := by omega
    subst hn0
    let k : Fin (k0_t3_loop i).trips := ⟨0, by omega⟩
    have hpos : 0 < (k0_t3_loop i).trips := k.isLt
    have ho9 : k0_off9 i = ![0, m, 0] := by rw [off9_eq i hpos, hm2]
    have hk1 := keys512 (arg4 := arg4) (harg4 := harg4) hk (B := m) (k0_off9_inb i k) ho9 (by omega)
    have hv1 := keys512 (arg4 := arg5) (harg4 := harg5) hv (B := m) (k0_off9_inb i k) ho9 (by omega)
    have hm1 : ∀ c, c < 1024 → m + 512 ≤ (X c).t := fun c hc => by rw [hX c hc]; omega
    have hc1 := tileCarry_is (B := m) hq ho htot ht hk1 hv1 hm1 h0.1
      (blockT (arg6 := arg6) (harg6 := harg6) hkt (k0_off10_inb i k 0) (off10_eq i 0 hpos) (by show 4 * ((i 2).val - 1) + 0 < 16; omega) (by show m = 128 * (4 * ((i 2).val - 1) + 0); omega))
      (blockT (arg6 := arg6) (harg6 := harg6) hkt (k0_off10_inb i k 1) (off10_eq i 1 hpos) (by show 4 * ((i 2).val - 1) + 1 < 16; omega) (by show m + 128 = 128 * (4 * ((i 2).val - 1) + 1); omega))
      (blockT (arg6 := arg6) (harg6 := harg6) hkt (k0_off10_inb i k 2) (off10_eq i 2 hpos) (by show 4 * ((i 2).val - 1) + 2 < 16; omega) (by show m + 256 = 128 * (4 * ((i 2).val - 1) + 2); omega))
      (blockT (arg6 := arg6) (harg6 := harg6) hkt (k0_off10_inb i k 3) (off10_eq i 3 hpos) (by show 4 * ((i 2).val - 1) + 3 < 16; omega) (by show m + 384 = 128 * (4 * ((i 2).val - 1) + 3); omega))
    have e := st_k0_t3_succ (F := Ideal) Variants.none c none i arg3 harg3 arg4 harg4 arg5 harg5 arg6 harg6 arg7 harg7 arg8 harg8 arg9 harg9 arg10 harg10 arg11 harg11 v44 v83 v85 v92 v93 v110 v111 v122 v123 (harg4.unread x1) (harg5.unread x2) (harg6.unread x3) G10 G11 init k
    rw [trip3_carry, trip3_pieces] at e
    show Good arg10 arg11 K V X G10 G11 a10 a11 (st_k0_t3 Variants.none c none i arg3 harg3 arg4 harg4 arg5 harg5 arg6 harg6 arg7 harg7 arg8 harg8 arg9 harg9 arg10 harg10 arg11 harg11 v44 v83 v85 v92 v93 v110 v111 v122 v123 (harg4.unread x1) (harg5.unread x2) (harg6.unread x3) G10 G11 init (k.val + 1)) (m + 512)
    rw [e]
    refine ⟨hc1, ?_, ?_⟩
    · refine Added.rows512 h0.2.1 (k0_off9_inb i k) ho9 _ fun r d => ?_
      exact keyRows_apply hq ho htot ht hk1 hv1 hm1 h0.1 _ r d
    · refine Added.rows512 h0.2.2 (k0_off9_inb i k) ho9 _ fun r d => ?_
      exact valueRows_apply hq ho htot ht hk1 hm1 h0.1 _ r d

/-! ## The diagonal tile -/

section top
variable {s : State Ideal}
  (ht' : IsTri2 (k0_pay311 (F := Ideal)))
  (hs : Good arg10 arg11 K V X G10 G11 a10 a11 s (512 * (i 2).val))

include htot hs in
theorem top0_is : TopIs K V X (top0 v85 s) (512 * (i 2).val) := by
  refine ⟨fun r c => ?_, hs.1.2.1, hs.1.2.2⟩
  have e := hs.1.1 r c
  have e' := htot r c
  unfold top0
  pointwise
  rw [e, e', ← EReal.coe_sub]

theorem room0 (i : grid0.Coords) : 512 * (i 2).val + 128 * (0 : Fin 4).val + 128 ≤ 2048 := by
  have := coord_lt i
  show 512 * (i 2).val + 128 * 0 + 128 ≤ 2048
  omega
include hX in
theorem on0 : ∀ c, c < 256 → (X c).t = 512 * (i 2).val + 128 * (0 : Fin 4).val + c % 128 := fun c hc => by
  show _ = 512 * (i 2).val + 128 * 0 + c % 128
  rw [hX _ (by omega)]; omega
include hX in
theorem past0 : ∀ c, 256 ≤ c → c < 1024 → 512 * (i 2).val + 128 * (0 : Fin 4).val + 128 ≤ (X c).t := fun c hc hc' => by
  show 512 * (i 2).val + 128 * 0 + 128 ≤ _
  rw [hX _ (by omega)]; omega
include hX in
theorem out0 : ∀ c, c < 0 → (X c).t ≤ 512 * (i 2).val + 128 * (0 : Fin 4).val := fun c hc => by
  show _ ≤ 512 * (i 2).val + 128 * 0
  rw [hX _ (by omega)]; omega

include hq ho htot hk hv hkt hX ht' hs in
theorem top1_is : TopIs K V X (top1 i arg4 arg5 arg6 v44 v83 v85 (harg4.unread x1) (harg5.unread x2) (harg6.unread x3) s) (512 * (i 2).val + 128 * (1 : Fin 4).val) := by
  have hp : TopIs K V X (top0 v85 s) (512 * (i 2).val + 128 * (0 : Fin 4).val) := (top0_is (i := i) htot hs)
  exact carry1024_is hq ho ht' (keys128 (arg4 := arg4) (harg4 := harg4) hk (k0_off13_inb i 0) (off13_eq i 0) (room0 i)) (keys128 (arg4 := arg5) (harg4 := harg5) hv (k0_off13_inb i 0) (off13_eq i 0) (room0 i)) (blockT (arg6 := arg6) (harg6 := harg6) hkt (k0_off14_inb i 0) (off14_eq i 0) (by have := coord_lt i; show 4 * (i 2).val + 0 < 16; omega) (by show 512 * (i 2).val + 128 * 0 = 128 * (4 * (i 2).val + 0); omega)) hp (on0 i hX) (past0 i hX) (out0 i hX)

include hq ho htot hk hv hkt hX ht' hs in
theorem keys1_added : Added arg10.view G10 (keys1 i arg4 arg5 arg10 v44 v83 v85 (harg4.unread x1) (harg5.unread x2) G10 s) a10 (keyGrad K V X) (512 * (i 2).val + 128) := by
  have hp : TopIs K V X (top0 v85 s) (512 * (i 2).val + 128 * (0 : Fin 4).val) := (top0_is (i := i) htot hs)
  unfold keys1
  refine Added.rows128 (B := 512 * (i 2).val + 128 * (0 : Fin 4).val) hs.2.1 (k0_off13_inb i 0) (off13_eq i 0) _ fun r d => ?_
  exact keyBlock1024_apply hq ho ht' (keys128 (arg4 := arg4) (harg4 := harg4) hk (k0_off13_inb i 0) (off13_eq i 0) (room0 i)) (keys128 (arg4 := arg5) (harg4 := harg5) hv (k0_off13_inb i 0) (off13_eq i 0) (room0 i)) hp (on0 i hX) (past0 i hX) (out0 i hX) _ r d
include hq ho htot hk hv hkt hX ht' hs in
theorem values1_added : Added arg11.view G11 (values1 i arg4 arg11 v44 v83 v85 (harg4.unread x1) G11 s) a11 (valueGrad K X) (512 * (i 2).val + 128) := by
  have hp : TopIs K V X (top0 v85 s) (512 * (i 2).val + 128 * (0 : Fin 4).val) := (top0_is (i := i) htot hs)
  unfold values1
  refine Added.rows128 (B := 512 * (i 2).val + 128 * (0 : Fin 4).val) hs.2.2 (k0_off13_inb i 0) (off13_eq i 0) _ fun r d => ?_
  exact valueBlock1024_apply hq ho ht' (keys128 (arg4 := arg4) (harg4 := harg4) hk (k0_off13_inb i 0) (off13_eq i 0) (room0 i)) hp (on0 i hX) (past0 i hX) (out0 i hX) _ r d

theorem room1 (i : grid0.Coords) : 512 * (i 2).val + 128 * (1 : Fin 4).val + 128 ≤ 2048 := by
  have := coord_lt i
  show 512 * (i 2).val + 128 * 1 + 128 ≤ 2048
  omega
include hX in
theorem on1 : ∀ c, c < 256 → (X (256 + c)).t = 512 * (i 2).val + 128 * (1 : Fin 4).val + c % 128 := fun c hc => by
  show _ = 512 * (i 2).val + 128 * 1 + c % 128
  rw [hX _ (by omega)]; omega
include hX in
theorem past1 : ∀ c, 256 ≤ c → c < 768 → 512 * (i 2).val + 128 * (1 : Fin 4).val + 128 ≤ (X (256 + c)).t := fun c hc hc' => by
  show 512 * (i 2).val + 128 * 1 + 128 ≤ _
  rw [hX _ (by omega)]; omega
include hX in
theorem out1 : ∀ c, c < 256 → (X c).t ≤ 512 * (i 2).val + 128 * (1 : Fin 4).val := fun c hc => by
  show _ ≤ 512 * (i 2).val + 128 * 1
  rw [hX _ (by omega)]; omega

include hq ho htot hk hv hkt hX ht' hs in
theorem top2_is : TopIs K V X (top2 i arg4 arg5 arg6 v44 v83 v85 (harg4.unread x1) (harg5.unread x2) (harg6.unread x3) s) (512 * (i 2).val + 128 * (2 : Fin 4).val) := by
  have hp : TopIs K V X (top1 i arg4 arg5 arg6 v44 v83 v85 (harg4.unread x1) (harg5.unread x2) (harg6.unread x3) s) (512 * (i 2).val + 128 * (1 : Fin 4).val) := (top1_is (i := i) (arg4 := arg4) (harg4 := harg4) (arg5 := arg5) (harg5 := harg5) (arg6 := arg6) (harg6 := harg6) hq ho htot hk hv hkt hX ht' hs)
  exact carry768_is hq ho ht' (keys128 (arg4 := arg4) (harg4 := harg4) hk (k0_off13_inb i 1) (off13_eq i 1) (room1 i)) (keys128 (arg4 := arg5) (harg4 := harg5) hv (k0_off13_inb i 1) (off13_eq i 1) (room1 i)) (blockT (arg6 := arg6) (harg6 := harg6) hkt (k0_off14_inb i 1) (off14_eq i 1) (by have := coord_lt i; show 4 * (i 2).val + 1 < 16; omega) (by show 512 * (i 2).val + 128 * 1 = 128 * (4 * (i 2).val + 1); omega)) hp (on1 i hX) (past1 i hX) (out1 i hX)

include hq ho htot hk hv hkt hX ht' hs in
theorem keys2_added : Added arg10.view G10 (keys2 i arg4 arg5 arg6 arg10 v44 v83 v85 (harg4.unread x1) (harg5.unread x2) (harg6.unread x3) G10 s) a10 (keyGrad K V X) (512 * (i 2).val + 256) := by
  have hp : TopIs K V X (top1 i arg4 arg5 arg6 v44 v83 v85 (harg4.unread x1) (harg5.unread x2) (harg6.unread x3) s) (512 * (i 2).val + 128 * (1 : Fin 4).val) := (top1_is (i := i) (arg4 := arg4) (harg4 := harg4) (arg5 := arg5) (harg5 := harg5) (arg6 := arg6) (harg6 := harg6) hq ho htot hk hv hkt hX ht' hs)
  unfold keys2
  refine Added.rows128 (B := 512 * (i 2).val + 128 * (1 : Fin 4).val) (keys1_added i hq ho htot hk hv hkt hX ht' hs) (k0_off13_inb i 1) (off13_eq i 1) _ fun r d => ?_
  exact keyBlock768_apply hq ho ht' (keys128 (arg4 := arg4) (harg4 := harg4) hk (k0_off13_inb i 1) (off13_eq i 1) (room1 i)) (keys128 (arg4 := arg5) (harg4 := harg5) hv (k0_off13_inb i 1) (off13_eq i 1) (room1 i)) hp (on1 i hX) (past1 i hX) (out1 i hX) _ r d
include hq ho htot hk hv hkt hX ht' hs in
theorem values2_added : Added arg11.view G11 (values2 i arg4 arg5 arg6 arg11 v44 v83 v85 (harg4.unread x1) (harg5.unread x2) (harg6.unread x3) G11 s) a11 (valueGrad K X) (512 * (i 2).val + 256) := by
  have hp : TopIs K V X (top1 i arg4 arg5 arg6 v44 v83 v85 (harg4.unread x1) (harg5.unread x2) (harg6.unread x3) s) (512 * (i 2).val + 128 * (1 : Fin 4).val) := (top1_is (i := i) (arg4 := arg4) (harg4 := harg4) (arg5 := arg5) (harg5 := harg5) (arg6 := arg6) (harg6 := harg6) hq ho htot hk hv hkt hX ht' hs)
  unfold values2
  refine Added.rows128 (B := 512 * (i 2).val + 128 * (1 : Fin 4).val) (values1_added i hq ho htot hk hv hkt hX ht' hs) (k0_off13_inb i 1) (off13_eq i 1) _ fun r d => ?_
  exact valueBlock768_apply hq ho ht' (keys128 (arg4 := arg4) (harg4 := harg4) hk (k0_off13_inb i 1) (off13_eq i 1) (room1 i)) hp (on1 i hX) (past1 i hX) (out1 i hX) _ r d

theorem room2 (i : grid0.Coords) : 512 * (i 2).val + 128 * (2 : Fin 4).val + 128 ≤ 2048 := by
  have := coord_lt i
  show 512 * (i 2).val + 128 * 2 + 128 ≤ 2048
  omega
include hX in
theorem on2 : ∀ c, c < 256 → (X (512 + c)).t = 512 * (i 2).val + 128 * (2 : Fin 4).val + c % 128 := fun c hc => by
  show _ = 512 * (i 2).val + 128 * 2 + c % 128
  rw [hX _ (by omega)]; omega
include hX in
theorem past2 : ∀ c, 256 ≤ c → c < 512 → 512 * (i 2).val + 128 * (2 : Fin 4).val + 128 ≤ (X (512 + c)).t := fun c hc hc' => by
  show 512 * (i 2).val + 128 * 2 + 128 ≤ _
  rw [hX _ (by omega)]; omega
include hX in
theorem out2 : ∀ c, c < 512 → (X c).t ≤ 512 * (i 2).val + 128 * (2 : Fin 4).val := fun c hc => by
  show _ ≤ 512 * (i 2).val + 128 * 2
  rw [hX _ (by omega)]; omega

include hq ho htot hk hv hkt hX ht' hs in
theorem top3_is : TopIs K V X (top3 i arg4 arg5 arg6 v44 v83 v85 (harg4.unread x1) (harg5.unread x2) (harg6.unread x3) s) (512 * (i 2).val + 128 * (3 : Fin 4).val) := by
  have hp : TopIs K V X (top2 i arg4 arg5 arg6 v44 v83 v85 (harg4.unread x1) (harg5.unread x2) (harg6.unread x3) s) (512 * (i 2).val + 128 * (2 : Fin 4).val) := (top2_is (i := i) (arg4 := arg4) (harg4 := harg4) (arg5 := arg5) (harg5 := harg5) (arg6 := arg6) (harg6 := harg6) hq ho htot hk hv hkt hX ht' hs)
  exact carry512_is hq ho ht' (keys128 (arg4 := arg4) (harg4 := harg4) hk (k0_off13_inb i 2) (off13_eq i 2) (room2 i)) (keys128 (arg4 := arg5) (harg4 := harg5) hv (k0_off13_inb i 2) (off13_eq i 2) (room2 i)) (blockT (arg6 := arg6) (harg6 := harg6) hkt (k0_off14_inb i 2) (off14_eq i 2) (by have := coord_lt i; show 4 * (i 2).val + 2 < 16; omega) (by show 512 * (i 2).val + 128 * 2 = 128 * (4 * (i 2).val + 2); omega)) hp (on2 i hX) (past2 i hX) (out2 i hX)

include hq ho htot hk hv hkt hX ht' hs in
theorem keys3_added : Added arg10.view G10 (keys3 i arg4 arg5 arg6 arg10 v44 v83 v85 (harg4.unread x1) (harg5.unread x2) (harg6.unread x3) G10 s) a10 (keyGrad K V X) (512 * (i 2).val + 384) := by
  have hp : TopIs K V X (top2 i arg4 arg5 arg6 v44 v83 v85 (harg4.unread x1) (harg5.unread x2) (harg6.unread x3) s) (512 * (i 2).val + 128 * (2 : Fin 4).val) := (top2_is (i := i) (arg4 := arg4) (harg4 := harg4) (arg5 := arg5) (harg5 := harg5) (arg6 := arg6) (harg6 := harg6) hq ho htot hk hv hkt hX ht' hs)
  unfold keys3
  refine Added.rows128 (B := 512 * (i 2).val + 128 * (2 : Fin 4).val) (keys2_added i hq ho htot hk hv hkt hX ht' hs) (k0_off13_inb i 2) (off13_eq i 2) _ fun r d => ?_
  exact keyBlock512_apply hq ho ht' (keys128 (arg4 := arg4) (harg4 := harg4) hk (k0_off13_inb i 2) (off13_eq i 2) (room2 i)) (keys128 (arg4 := arg5) (harg4 := harg5) hv (k0_off13_inb i 2) (off13_eq i 2) (room2 i)) hp (on2 i hX) (past2 i hX) (out2 i hX) _ r d
include hq ho htot hk hv hkt hX ht' hs in
theorem values3_added : Added arg11.view G11 (values3 i arg4 arg5 arg6 arg11 v44 v83 v85 (harg4.unread x1) (harg5.unread x2) (harg6.unread x3) G11 s) a11 (valueGrad K X) (512 * (i 2).val + 384) := by
  have hp : TopIs K V X (top2 i arg4 arg5 arg6 v44 v83 v85 (harg4.unread x1) (harg5.unread x2) (harg6.unread x3) s) (512 * (i 2).val + 128 * (2 : Fin 4).val) := (top2_is (i := i) (arg4 := arg4) (harg4 := harg4) (arg5 := arg5) (harg5 := harg5) (arg6 := arg6) (harg6 := harg6) hq ho htot hk hv hkt hX ht' hs)
  unfold values3
  refine Added.rows128 (B := 512 * (i 2).val + 128 * (2 : Fin 4).val) (values2_added i hq ho htot hk hv hkt hX ht' hs) (k0_off13_inb i 2) (off13_eq i 2) _ fun r d => ?_
  exact valueBlock512_apply hq ho ht' (keys128 (arg4 := arg4) (harg4 := harg4) hk (k0_off13_inb i 2) (off13_eq i 2) (room2 i)) hp (on2 i hX) (past2 i hX) (out2 i hX) _ r d

theorem room3 (i : grid0.Coords) : 512 * (i 2).val + 128 * (3 : Fin 4).val + 128 ≤ 2048 := by
  have := coord_lt i
  show 512 * (i 2).val + 128 * 3 + 128 ≤ 2048
  omega
include hX in
theorem on3 : ∀ c, c < 256 → (X (768 + c)).t = 512 * (i 2).val + 128 * (3 : Fin 4).val + c % 128 := fun c hc => by
  show _ = 512 * (i 2).val + 128 * 3 + c % 128
  rw [hX _ (by omega)]; omega
include hX in
theorem past3 : ∀ c, 256 ≤ c → c < 256 → 512 * (i 2).val + 128 * (3 : Fin 4).val + 128 ≤ (X (768 + c)).t := fun c hc hc' => by
  show 512 * (i 2).val + 128 * 3 + 128 ≤ _
  rw [hX _ (by omega)]; omega
include hX in
theorem out3 : ∀ c, c < 768 → (X c).t ≤ 512 * (i 2).val + 128 * (3 : Fin 4).val := fun c hc => by
  show _ ≤ 512 * (i 2).val + 128 * 3
  rw [hX _ (by omega)]; omega

include hq ho htot hk hv hkt hX ht' hs in
/-- The queries' gradient, column by column. -/
theorem topQueries_is (d : Fin 128) (c : Fin 1024) : topQueries i arg4 arg5 arg6 v44 v83 v85 (harg4.unread x1) (harg5.unread x2) (harg6.unread x3) s (ix2 d c) = ((dq K V (X c) (512 * (i 2).val + 512) d : ℝ) : EReal) := by
  have hp : TopIs K V X (top3 i arg4 arg5 arg6 v44 v83 v85 (harg4.unread x1) (harg5.unread x2) (harg6.unread x3) s) (512 * (i 2).val + 128 * (3 : Fin 4).val) := (top3_is (i := i) (arg4 := arg4) (harg4 := harg4) (arg5 := arg5) (harg5 := harg5) (arg6 := arg6) (harg6 := harg6) hq ho htot hk hv hkt hX ht' hs)
  exact queries256_is hq ho ht' (keys128 (arg4 := arg4) (harg4 := harg4) hk (k0_off13_inb i 3) (off13_eq i 3) (room3 i)) (keys128 (arg4 := arg5) (harg4 := harg5) hv (k0_off13_inb i 3) (off13_eq i 3) (room3 i)) (blockT (arg6 := arg6) (harg6 := harg6) hkt (k0_off14_inb i 3) (off14_eq i 3) (by have := coord_lt i; show 4 * (i 2).val + 3 < 16; omega) (by show 512 * (i 2).val + 128 * 3 = 128 * (4 * (i 2).val + 3); omega)) hp (on3 i hX) (past3 i hX) (out3 i hX) d c

include hq ho htot hk hv hkt hX ht' hs in
theorem keys4_added : Added arg10.view G10 (keys4 i arg4 arg5 arg6 arg10 v44 v83 v85 (harg4.unread x1) (harg5.unread x2) (harg6.unread x3) G10 s) a10 (keyGrad K V X) (512 * (i 2).val + 512) := by
  have hp : TopIs K V X (top3 i arg4 arg5 arg6 v44 v83 v85 (harg4.unread x1) (harg5.unread x2) (harg6.unread x3) s) (512 * (i 2).val + 128 * (3 : Fin 4).val) := (top3_is (i := i) (arg4 := arg4) (harg4 := harg4) (arg5 := arg5) (harg5 := harg5) (arg6 := arg6) (harg6 := harg6) hq ho htot hk hv hkt hX ht' hs)
  unfold keys4
  refine Added.rows128 (B := 512 * (i 2).val + 128 * (3 : Fin 4).val) (keys3_added i hq ho htot hk hv hkt hX ht' hs) (k0_off13_inb i 3) (off13_eq i 3) _ fun r d => ?_
  exact keyBlock256_apply hq ho ht' (keys128 (arg4 := arg4) (harg4 := harg4) hk (k0_off13_inb i 3) (off13_eq i 3) (room3 i)) (keys128 (arg4 := arg5) (harg4 := harg5) hv (k0_off13_inb i 3) (off13_eq i 3) (room3 i)) hp (on3 i hX) (past3 i hX) (out3 i hX) _ r d
include hq ho htot hk hv hkt hX ht' hs in
theorem values4_added : Added arg11.view G11 (values4 i arg4 arg5 arg6 arg11 v44 v83 v85 (harg4.unread x1) (harg5.unread x2) (harg6.unread x3) G11 s) a11 (valueGrad K X) (512 * (i 2).val + 512) := by
  have hp : TopIs K V X (top3 i arg4 arg5 arg6 v44 v83 v85 (harg4.unread x1) (harg5.unread x2) (harg6.unread x3) s) (512 * (i 2).val + 128 * (3 : Fin 4).val) := (top3_is (i := i) (arg4 := arg4) (harg4 := harg4) (arg5 := arg5) (harg5 := harg5) (arg6 := arg6) (harg6 := harg6) hq ho htot hk hv hkt hX ht' hs)
  unfold values4
  refine Added.rows128 (B := 512 * (i 2).val + 128 * (3 : Fin 4).val) (values3_added i hq ho htot hk hv hkt hX ht' hs) (k0_off13_inb i 3) (off13_eq i 3) _ fun r d => ?_
  exact valueBlock256_apply hq ho ht' (keys128 (arg4 := arg4) (harg4 := harg4) hk (k0_off13_inb i 3) (off13_eq i 3) (room3 i)) hp (on3 i hX) (past3 i hX) (out3 i hX) _ r d

end top
end

end Cert.KernelIdeal.Hand

end
-- ==== Proof.BodyOut.lean ====
/-
  One grid point of the kernel over the extended reals, where its blocks are real: its 512 queries against the keys up
  to them.
-/
module

public import proofs.«01_k».proof.Proof.BodyValue

@[expose] public section

set_option maxRecDepth 16384
set_option maxHeartbeats 1000000

noncomputable section

namespace Cert.KernelIdeal.Hand

open Cert.KernelIdeal Cert.KernelIdeal.Gen Cert.Stick
open Idealize.ShloMosaic Idealize.ShloMosaic.TcCoe Idealize.ShloMosaic.Tactic
open Finset (range)

theorem keyGrad_masked {K V : ℕ → Fin 128 → ℝ} {X : ℕ → Query} {R : ℕ} (h : ∀ c, c < 1024 → (X c).t ≤ R) (d : Fin 128) : keyGrad K V X R d = 0 :=
  Finset.sum_eq_zero fun c hc => by rw [dz_masked (h c (Finset.mem_range.mp hc)), zero_mul]
theorem valueGrad_masked {K : ℕ → Fin 128 → ℝ} {X : ℕ → Query} {R : ℕ} (h : ∀ c, c < 1024 → (X c).t ≤ R) (d : Fin 128) : valueGrad K X R d = 0 :=
  Finset.sum_eq_zero fun c hc => by rw [w_masked (h c (Finset.mem_range.mp hc)), zero_mul]

theorem Added.all {v : View sig .tc .vmem S1x2048x128 .f32} {f : v.ty.Contents (Elt Ideal)} {L : List (View.Piece (Elt Ideal) S1x2048x128 .f32)}
    {a : Vec Ideal S1x2048x128 .f32} {g : ℕ → Fin 128 → ℝ} {n : ℕ} (hA : Added v f L a g n) (hg : ∀ R d, n ≤ R → g R d = 0) (R : Fin 2048) (d : Fin 128) :
    View.read (Elt Ideal) v (v.writes (Elt Ideal) f L) (ix3 0 R d) = a (ix3 0 R d) + ((g R.val d : ℝ) : EReal) := by
  rw [hA R d]
  split
  · rfl
  · rw [hg R.val d (by omega), EReal.coe_zero, add_zero]

theorem start_carry {K V : ℕ → Fin 128 → ℝ} {X : ℕ → Query} : CarryIs K V X (k0_pay312 (F := Ideal), k0_pay312 (F := Ideal), k0_pay313 (F := Ideal)) 0 := by
  refine ⟨fun r c => ?_, fun r c => ?_, fun d c => ?_⟩
  · refine (zeroRow_apply r c).trans ?_
    simp [lkSum]
  · refine (zeroRow_apply r c).trans ?_
    simp [dlSum]
  · refine (zeroCols_apply d c).trans ?_
    simp [dq]

section
variable (c : Dev nD) (i : grid0.Coords) (arg3 : Memref sig .tc .vmem S1x512x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x1x16x128x128 .bf16) (harg6 : arg6.IsWhole) (arg7 : Memref sig .tc .vmem S1x512x128 .bf16) (harg7 : arg7.IsWhole) (arg8 : Memref sig .tc .vmem S1x1x1x1x1024 .f32) (harg8 : arg8.IsWhole) (arg9 : Memref sig .tc .vmem S1x512x128 .bf16) (harg9 : arg9.IsWhole) (arg10 : Memref sig .tc .vmem S1x2048x128 .f32) (harg10 : arg10.IsWhole) (arg11 : Memref sig .tc .vmem S1x2048x128 .f32) (harg11 : arg11.IsWhole)
  (x0 : Vec Ideal S1x512x128 .bf16) (x1 x2 : Vec Ideal S1x2048x128 .bf16) (x3 : Vec Ideal S1x1x16x128x128 .bf16)
  (x4 : Vec Ideal S1x512x128 .bf16) (x5 : Vec Ideal S1x1x1x1x1024 .f32) (s10 s11 : Vec Ideal S1x2048x128 .f32)

theorem outGrads_eq : View.readAt (Elt Ideal) arg7.view (Rect.unit (s := S1x512x128) ![0, 0, 0] S1x512x128.size inb_S1x512x128_S1x512x128_0_0_0).toLoadRect (harg7.unread x4) = x4 := by
  rw [View.readAt_full, harg7.read_unread]
theorem totals_eq : View.readAt (Elt Ideal) arg8.view (Rect.unit (s := S1x1x1x1x1024) ![0, 0, 0, 0, 0] S1x1x1x1x1024.size inb_S1x1x1x1x1024_S1x1x1x1x1024_0_0_0_0_0).toLoadRect (harg8.unread x5) = x5 := by
  rw [View.readAt_full, harg8.read_unread]

variable {K V Q O : ℕ → Fin 128 → ℝ} {T : ℕ → ℝ}
  (hq : ∀ (r : Fin 512) (d : Fin 128), x0 (ix3 0 r d) = ((Q r.val d : ℝ) : EReal))
  (hk : ∀ (R : Fin 2048) (d : Fin 128), x1 (ix3 0 R d) = ((K R.val d : ℝ) : EReal))
  (hv : ∀ (R : Fin 2048) (d : Fin 128), x2 (ix3 0 R d) = ((V R.val d : ℝ) : EReal))
  (hkt : ∀ (b : Fin 16) (d r : Fin 128), x3 (ix5 0 0 b d r) = ((K (128 * b.val + r.val) d : ℝ) : EReal))
  (ho : ∀ (r : Fin 512) (d : Fin 128), x4 (ix3 0 r d) = ((O r.val d : ℝ) : EReal))
  (htot : ∀ c : Fin 1024, x5 (ix5 0 0 0 0 c) = ((T c.val : ℝ) : EReal))

include hq hk hv hkt ho htot in
theorem pairs_is : Good arg10 arg11 K V (column Q O T (i 2).val) (harg10.unread s10) (harg11.unread s11) s10 s11 (pairs c i arg3 harg3 arg4 harg4 arg5 harg5 arg6 harg6 arg7 harg7 arg8 harg8 arg9 harg9 arg10 harg10 arg11 harg11 x0 x1 x2 x3 x4 x5 s10 s11) (1024 * ((i 2).val / 2)) := by
  have e : Scf.trips (k0_t1_loop i).lb (k0_t1_loop i).ub (k0_t1_loop i).st = (i 2).val / 2 := trips1 i
  rw [← e]
  unfold pairs
  rw [outGrads_eq, totals_eq]
  exact pairs_good c i (stackQ_apply hq) (stackO_apply ho) (totals_apply htot) tri_apply hk hv hkt (fun _ _ => rfl)
    ⟨start_carry, fun R d => by rw [if_neg (Nat.not_lt_zero _), View.writes_nil, harg10.read_unread], fun R d => by rw [if_neg (Nat.not_lt_zero _), View.writes_nil, harg11.read_unread]⟩
    _ (le_refl _)

include hq hk hv hkt ho htot in
theorem single_is : Good arg10 arg11 K V (column Q O T (i 2).val) (arg10.view.writes (Elt Ideal) (harg10.unread s10) (pairs c i arg3 harg3 arg4 harg4 arg5 harg5 arg6 harg6 arg7 harg7 arg8 harg8 arg9 harg9 arg10 harg10 arg11 harg11 x0 x1 x2 x3 x4 x5 s10 s11).2.1) (arg11.view.writes (Elt Ideal) (harg11.unread s11) (pairs c i arg3 harg3 arg4 harg4 arg5 harg5 arg6 harg6 arg7 harg7 arg8 harg8 arg9 harg9 arg10 harg10 arg11 harg11 x0 x1 x2 x3 x4 x5 s10 s11).2.2)
    s10 s11 (single c i arg3 harg3 arg4 harg4 arg5 harg5 arg6 harg6 arg7 harg7 arg8 harg8 arg9 harg9 arg10 harg10 arg11 harg11 x0 x1 x2 x3 x4 x5 s10 s11) (512 * (i 2).val) := by
  have hp := pairs_is c i arg3 harg3 arg4 harg4 arg5 harg5 arg6 harg6 arg7 harg7 arg8 harg8 arg9 harg9 arg10 harg10 arg11 harg11 x0 x1 x2 x3 x4 x5 s10 s11 hq hk hv hkt ho htot
  have e : Scf.trips (k0_t3_loop i).lb (k0_t3_loop i).ub (k0_t3_loop i).st = (i 2).val % 2 := trips3 i
  have e2 : 512 * (i 2).val = 1024 * ((i 2).val / 2) + 512 * Scf.trips (k0_t3_loop i).lb (k0_t3_loop i).ub (k0_t3_loop i).st := by rw [e]; omega
  rw [e2]
  unfold single
  rw [outGrads_eq, totals_eq]
  exact single_good c i (stackQ_apply hq) (stackO_apply ho) (totals_apply htot) tri_apply hk hv hkt (fun _ _ => rfl) rfl ⟨hp.1, hp.2.1, hp.2.2⟩ _ (le_refl _)

include hq hk hv hkt ho htot in
theorem loops_is : Good arg10 arg11 K V (column Q O T (i 2).val) (harg10.unread s10) (harg11.unread s11) s10 s11 (loops c i arg3 harg3 arg4 harg4 arg5 harg5 arg6 harg6 arg7 harg7 arg8 harg8 arg9 harg9 arg10 harg10 arg11 harg11 x0 x1 x2 x3 x4 x5 s10 s11) (512 * (i 2).val) := by
  have hs := single_is c i arg3 harg3 arg4 harg4 arg5 harg5 arg6 harg6 arg7 harg7 arg8 harg8 arg9 harg9 arg10 harg10 arg11 harg11 x0 x1 x2 x3 x4 x5 s10 s11 hq hk hv hkt ho htot
  have e : Scf.trips (k0_t4_loop i).lb (k0_t4_loop i).ub (k0_t4_loop i).st = 0 := trips4 i
  have er : (rest c i arg3 harg3 arg4 harg4 arg5 harg5 arg6 harg6 arg7 harg7 arg8 harg8 arg9 harg9 arg10 harg10 arg11 harg11 x0 x1 x2 x3 x4 x5 s10 s11) = ((single c i arg3 harg3 arg4 harg4 arg5 harg5 arg6 harg6 arg7 harg7 arg8 harg8 arg9 harg9 arg10 harg10 arg11 harg11 x0 x1 x2 x3 x4 x5 s10 s11).1, [], []) := by
    unfold rest
    rw [e]
    rfl
  unfold loops
  rw [er]
  refine ⟨hs.1, ?_, ?_⟩
  · intro R d
    have h := hs.2.1 R d
    rw [← View.writes_append] at h
    exact h
  · intro R d
    have h := hs.2.2 R d
    rw [← View.writes_append] at h
    exact h

include hq hk hv hkt ho htot in
/-- What the point adds to the gradient of the keys, -/
theorem keys_out (R : Fin 2048) (d : Fin 128) :
    (bodyRun (F := Ideal) c i arg3 harg3 arg4 harg4 arg5 harg5 arg6 harg6 arg7 harg7 arg8 harg8 arg9 harg9 arg10 harg10 arg11 harg11 x0 x1 x2 x3 x4 x5).2.1 s10 s11 (ix3 0 R d) = s10 (ix3 0 R d) + ((keyGrad K V (column Q O T (i 2).val) R.val d : ℝ) : EReal) := by
  have hs := loops_is c i arg3 harg3 arg4 harg4 arg5 harg5 arg6 harg6 arg7 harg7 arg8 harg8 arg9 harg9 arg10 harg10 arg11 harg11 x0 x1 x2 x3 x4 x5 s10 s11 hq hk hv hkt ho htot
  rw [bodyRun_keys, outGrads_eq, totals_eq]
  refine (keys4_added i (stackQ_apply hq) (stackO_apply ho) (totals_apply htot) hk hv hkt (fun _ _ => rfl) tri_apply hs).all (fun R d h => keyGrad_masked (fun c hc => ?_) d) R d
  show 512 * (i 2).val + c / 256 * 128 + c % 128 ≤ R
  omega

include hq hk hv hkt ho htot in
/-- to the gradient of the values, -/
theorem values_out (R : Fin 2048) (d : Fin 128) :
    (bodyRun (F := Ideal) c i arg3 harg3 arg4 harg4 arg5 harg5 arg6 harg6 arg7 harg7 arg8 harg8 arg9 harg9 arg10 harg10 arg11 harg11 x0 x1 x2 x3 x4 x5).2.2.1 s10 s11 (ix3 0 R d) = s11 (ix3 0 R d) + ((valueGrad K (column Q O T (i 2).val) R.val d : ℝ) : EReal) := by
  have hs := loops_is c i arg3 harg3 arg4 harg4 arg5 harg5 arg6 harg6 arg7 harg7 arg8 harg8 arg9 harg9 arg10 harg10 arg11 harg11 x0 x1 x2 x3 x4 x5 s10 s11 hq hk hv hkt ho htot
  rw [bodyRun_values, outGrads_eq, totals_eq]
  refine (values4_added i (stackQ_apply hq) (stackO_apply ho) (totals_apply htot) hk hv hkt (fun _ _ => rfl) tri_apply hs).all (fun R d h => valueGrad_masked (fun c hc => ?_) d) R d
  show 512 * (i 2).val + c / 256 * 128 + c % 128 ≤ R
  omega

include hq hk hv hkt ho htot in
/-- and what it stores of the gradient of its queries. -/
theorem queries_out (v : View sig .tc .vmem S1x512x128 .bf16) (f : v.ty.Contents (Elt Ideal)) (r : Fin 512) (d : Fin 128) :
    View.read (Elt Ideal) v (v.writes (Elt Ideal) f ((bodyRun (F := Ideal) c i arg3 harg3 arg4 harg4 arg5 harg5 arg6 harg6 arg7 harg7 arg8 harg8 arg9 harg9 arg10 harg10 arg11 harg11 x0 x1 x2 x3 x4 x5).1 s10 s11)) (ix3 0 r d)
      = ((dq K V (column Q O T (i 2).val (r.val / 128 * 256 + d.val / 64 * 128 + r.val % 128)) (512 * (i 2).val + 512) d * (1 / 8) : ℝ) : EReal) := by
  have hs := loops_is c i arg3 harg3 arg4 harg4 arg5 harg5 arg6 harg6 arg7 harg7 arg8 harg8 arg9 harg9 arg10 harg10 arg11 harg11 x0 x1 x2 x3 x4 x5 s10 s11 hq hk hv hkt ho htot
  rw [bodyRun_queries, View.read_writes_full, outGrads_eq, totals_eq]
  exact unstack_apply (D := fun c d => dq K V (column Q O T (i 2).val c) (512 * (i 2).val + 512) d)
    (topQueries_is i (stackQ_apply hq) (stackO_apply ho) (totals_apply htot) hk hv hkt (fun _ _ => rfl) tri_apply hs) r d
end

end Cert.KernelIdeal.Hand

end
-- ==== Proof.Pairs.lean ====
/-
  The queries of a tile, as the kernel's columns hold them, and what the columns of the tiles of a head pair sum to.
-/
module

public import proofs.«01_k».proof.Proof.Problem
public import proofs.«01_k».proof.Proof.BodyOut

@[expose] public section

noncomputable section

namespace Cert.KernelIdeal.Hand

open Cert.Stick
open Finset (range)

variable (A : Args) (b p u : ℕ)

/-- The rows of a query tile, -/
abbrev rowsQ : ℕ → Fin 128 → ℝ := fun r d => A.q b (512 * u + r) (128 * p + d.val)
abbrev rowsO : ℕ → Fin 128 → ℝ := fun r d => A.o b (512 * u + r) (128 * p + d.val)
/-- and its columns' totals. -/
abbrev colsT : ℕ → ℝ := fun c => (A.query b p (c / 128 % 2) (512 * u + (c / 256 * 128 + c % 128))).tot

theorem query_ext {x y : Query} (hq : x.q = y.q) (ho : x.o = y.o) (ht : x.t = y.t) (htot : x.tot = y.tot) : x = y := by
  cases x; cases y; cases hq; cases ho; cases ht; cases htot; rfl

/-- A column is a query of one head of the pair. -/
theorem column_eq (c : ℕ) : column (rowsQ A b p u) (rowsO A b p u) (colsT A b p u) u c = A.query b p (c / 128 % 2) (512 * u + (c / 256 * 128 + c % 128)) :=
  query_ext rfl rfl (Nat.add_assoc _ _ _) rfl

/-- A sum over the columns is one over the rows and the two heads. -/
theorem columns_sum (g : ℕ → ℕ → ℝ) : ∑ c ∈ range 1024, g (c / 128 % 2) (c / 256 * 128 + c % 128) = ∑ r ∈ range 512, (g 0 r + g 1 r) := by
  have e : ∑ x ∈ range 512 ×ˢ range 2, g x.2 x.1 = ∑ r ∈ range 512, (g 0 r + g 1 r) := by
    rw [Finset.sum_product]
    exact Finset.sum_congr rfl fun r _ => by rw [Finset.sum_range_succ, Finset.sum_range_one]
  rw [← e]
  refine Finset.sum_nbij' (fun c => (c / 256 * 128 + c % 128, c / 128 % 2)) (fun x => x.1 / 128 * 256 + x.2 * 128 + x.1 % 128) ?_ ?_ ?_ ?_ ?_
  · intro c hc
    have := Finset.mem_range.mp hc
    exact Finset.mem_product.mpr ⟨Finset.mem_range.mpr (show c / 256 * 128 + c % 128 < 512 by omega), Finset.mem_range.mpr (show c / 128 % 2 < 2 by omega)⟩
  · rintro ⟨r, h⟩ hx
    obtain ⟨h1, h2⟩ := Finset.mem_product.mp hx
    have h1 : r < 512 := Finset.mem_range.mp h1
    have h2 : h < 2 := Finset.mem_range.mp h2
    exact Finset.mem_range.mpr (show r / 128 * 256 + h * 128 + r % 128 < 1024 by omega)
  · intro c hc
    have := Finset.mem_range.mp hc
    show (c / 256 * 128 + c % 128) / 128 * 256 + c / 128 % 2 * 128 + (c / 256 * 128 + c % 128) % 128 = c
    omega
  · rintro ⟨r, h⟩ hx
    obtain ⟨h1, h2⟩ := Finset.mem_product.mp hx
    have h1 : r < 512 := Finset.mem_range.mp h1
    have h2 : h < 2 := Finset.mem_range.mp h2
    refine Prod.ext ?_ ?_
    · show (r / 128 * 256 + h * 128 + r % 128) / 256 * 128 + (r / 128 * 256 + h * 128 + r % 128) % 128 = r
      omega
    · show (r / 128 * 256 + h * 128 + r % 128) / 128 % 2 = h
      omega
  · intro c _
    rfl

/-- The gradients of the keys and of the values from the queries before the `n`-th. -/
def keyPart (n R : ℕ) (d : Fin 128) : ℝ :=
  ∑ t ∈ range n, dz (A.keys b p) (A.values b p) (A.query b p (d.val / 64) t) R * (A.q b t (128 * p + d.val) * (1 / 8))
def valuePart (n R : ℕ) (d : Fin 128) : ℝ :=
  ∑ t ∈ range n, w (A.keys b p) (A.query b p (d.val / 64) t) R * A.o b t (128 * p + d.val)

theorem two_heads {e : ℕ} (he : e < 2) (f : ℕ → ℝ) (y : ℝ) : f 0 * (if e = 0 then y else 0) + f 1 * (if e = 1 then y else 0) = f e * y := by
  rcases (by omega : e = 0 ∨ e = 1) with rfl | rfl
  · simp
  · simp

theorem keyPart_tile (R : ℕ) (d : Fin 128) :
    keyPart A b p (512 * u) R d + keyGrad (A.keys b p) (A.values b p) (column (rowsQ A b p u) (rowsO A b p u) (colsT A b p u) u) R d = keyPart A b p (512 * u + 512) R d := by
  unfold keyPart keyGrad
  rw [Finset.sum_range_add]
  congr 1
  simp only [column_eq]
  rw [columns_sum fun h r => dz (A.keys b p) (A.values b p) (A.query b p h (512 * u + r)) R * (A.query b p h (512 * u + r)).q d]
  refine Finset.sum_congr rfl fun r _ => ?_
  exact two_heads (e := d.val / 64) (by omega) (fun h => dz (A.keys b p) (A.values b p) (A.query b p h (512 * u + r)) R) _

theorem valuePart_tile (R : ℕ) (d : Fin 128) :
    valuePart A b p (512 * u) R d + valueGrad (A.keys b p) (column (rowsQ A b p u) (rowsO A b p u) (colsT A b p u) u) R d = valuePart A b p (512 * u + 512) R d := by
  unfold valuePart valueGrad
  rw [Finset.sum_range_add]
  congr 1
  simp only [column_eq]
  rw [columns_sum fun h r => w (A.keys b p) (A.query b p h (512 * u + r)) R * (A.query b p h (512 * u + r)).o d]
  refine Finset.sum_congr rfl fun r _ => ?_
  exact two_heads (e := d.val / 64) (by omega) (fun h => w (A.keys b p) (A.query b p h (512 * u + r)) R) _

/-- A query's gradient, from all keys. -/
theorem query_all (hu : u < 4) (r : Fin 512) (d : Fin 128) :
    dq (A.keys b p) (A.values b p) (column (rowsQ A b p u) (rowsO A b p u) (colsT A b p u) u (r.val / 128 * 256 + d.val / 64 * 128 + r.val % 128)) (512 * u + 512) d
      = dq (A.keys b p) (A.values b p) (A.query b p (d.val / 64) (512 * u + r.val)) 2048 d := by
  rw [column_eq, show (r.val / 128 * 256 + d.val / 64 * 128 + r.val % 128) / 128 % 2 = d.val / 64 by omega,
    show (r.val / 128 * 256 + d.val / 64 * 128 + r.val % 128) / 256 * 128 + (r.val / 128 * 256 + d.val / 64 * 128 + r.val % 128) % 128 = r.val by omega]
  have e : dq (A.keys b p) (A.values b p) (A.query b p (d.val / 64) (512 * u + r.val)) ((512 * u + 512) + (2048 - (512 * u + 512))) d
      = dq (A.keys b p) (A.values b p) (A.query b p (d.val / 64) (512 * u + r.val)) (512 * u + 512) d :=
    dq_masked _ d (show 512 * u + r.val ≤ 512 * u + 512 by omega)
  rw [← e]
  congr 1
  omega

end Cert.KernelIdeal.Hand

end
-- ==== Proof.HostValue.lean ====
/-
  The blocks the pipeline brings the body at a grid point, over the extended reals, where the arguments are real: the queries',
  keys', values' and output gradients' lanes of a head pair, the keys by blocks of 128, and the log weights' totals, which the
  host sums over all keys.
-/
module

public import proofs.«01_k».proof.Proof.Frame
public import proofs.«01_k».proof.Proof.RefValue
public import Idealize.ShloMosaic.Lib.Pipeline.ValueKit.Point
public import Idealize.ShloMosaic.Lib.StableHlo.Run
public import Idealize.ShloMosaic.Lib.ValueIdxRank6

@[expose] public section

set_option maxRecDepth 16384
set_option maxHeartbeats 1000000

noncomputable section

namespace Cert.KernelIdeal.Hand

open Cert.KernelIdeal Cert.KernelIdeal.Gen Cert.Stick
open Idealize.ShloMosaic Idealize.ShloMosaic.TcCoe
open Idealize.ShloMosaic.StableHlo
open Idealize.SL.Sem
open Finset (range)

variable (m : (ℓ : Loc nD τ sig) → Buf (Elt Ideal) ℓ)

/-! ## The operands the host prepares -/

theorem keys_operand (c : Dev nD) : V m c main_v1 = transpose S4x16x16x128x128 [0, 3, 1, 4, 2]
    (shapeCast S4x16x128x16x128 (m ((c : Thread nD τ).loc main_arg1)) shapeCasts_S4x2048x2048_S4x16x128x16x128) transposes_S4x16x128x16x128_S4x16x16x128x128_0_3_1_4_2 := by
  unfold V hostOps0 hostOps0_1 hostOps0_2 hostOps0_3 hostOps0_4
  after_results
  rfl

/-- The log weights' totals: the log weights summed over all keys. -/
def allTotals (x0 : (⟨S4x2048x1024, .bf16⟩ : BufTy).Contents (Elt Ideal)) (x1 : (⟨S4x2048x2048, .bf16⟩ : BufTy).Contents (Elt Ideal)) :
    (⟨S4x16x2048, .f32⟩ : BufTy).Contents (Elt Ideal) :=
  Host.reduceAdd (F := Ideal) (φ := .f32) (Cert.ReferenceIdeal.Read.val_main_v21_0 (F := Ideal) x0 x1) (Cert.ReferenceIdeal.Read.val_main_cst_0 (F := Ideal)) reducesTo_S4x16x2048x2048_S4x16x2048_d3 h_S_

theorem totals_operand (c : Dev nD) : V m c main_v23 = (shapeCast S4x8x4x1x1024
    (transpose S4x8x4x4x2x128 [0, 1, 3, 4, 2, 5] (shapeCast S4x8x2x4x4x128
      (allTotals (m ((c : Thread nD τ).loc main_arg0)) (m ((c : Thread nD τ).loc main_arg1)))
      shapeCasts_S4x16x2048_S4x8x2x4x4x128) transposes_S4x8x2x4x4x128_S4x8x4x4x2x128_0_1_3_4_2_5) shapeCasts_S4x8x4x4x2x128_S4x8x4x1x1024
      : (⟨S4x8x4x1x1024, .f32⟩ : BufTy).Contents (Elt Ideal)) := by
  unfold V hostOps0 hostOps0_1 hostOps0_2 hostOps0_3 hostOps0_4
  after_results
  rfl

/-! ## The windows' places -/

theorem place0 : ∀ t : Fin cfg0.N, win0_0.index t = ![t.val / 32, t.val % 4, t.val / 4 % 8] := (by decide +kernel : ∀ t : Fin grid0.N, _)
theorem place1 : ∀ t : Fin cfg0.N, win0_1.index t = ![t.val / 32, 0, t.val / 4 % 8] := (by decide +kernel : ∀ t : Fin grid0.N, _)
theorem place2 : ∀ t : Fin cfg0.N, win0_2.index t = ![t.val / 32, 0, 8 + t.val / 4 % 8] := (by decide +kernel : ∀ t : Fin grid0.N, _)
theorem place3 : ∀ t : Fin cfg0.N, win0_3.index t = ![t.val / 32, t.val / 4 % 8, 0, 0, 0] := (by decide +kernel : ∀ t : Fin grid0.N, _)
theorem place4 : ∀ t : Fin cfg0.N, win0_4.index t = ![t.val / 32, t.val % 4, t.val / 4 % 8] := (by decide +kernel : ∀ t : Fin grid0.N, _)
theorem place5 : ∀ t : Fin cfg0.N, win0_5.index t = ![t.val / 32, t.val / 4 % 8, t.val % 4, 0, 0] := (by decide +kernel : ∀ t : Fin grid0.N, _)
theorem place6 : ∀ t : Fin cfg0.N, win0_6.index t = ![t.val / 32, t.val % 4, t.val / 4 % 8] := (by decide +kernel : ∀ t : Fin grid0.N, _)
theorem place7 : ∀ t : Fin cfg0.N, win0_7.index t = ![t.val / 32, 0, t.val / 4 % 8] := (by decide +kernel : ∀ t : Fin grid0.N, _)
theorem place8 : ∀ t : Fin cfg0.N, win0_8.index t = ![t.val / 32, 0, t.val / 4 % 8] := (by decide +kernel : ∀ t : Fin grid0.N, _)

/-! ## The blocks -/

section
variable {m} {c : Dev nD} {A : Args}
  (hq : ∀ i : S4x2048x1024.Idx, (m ((c : Thread nD τ).loc main_arg0) : S4x2048x1024.Idx → EReal) i = ((A.q (i 0).val (i 1).val (i 2).val : ℝ) : EReal))
  (hk : ∀ i : S4x2048x2048.Idx, (i 2).val < 1024 → (m ((c : Thread nD τ).loc main_arg1) : S4x2048x2048.Idx → EReal) i = ((A.k (i 0).val (i 1).val (i 2).val : ℝ) : EReal))
  (hv : ∀ i : S4x2048x2048.Idx, 1024 ≤ (i 2).val → (m ((c : Thread nD τ).loc main_arg1) : S4x2048x2048.Idx → EReal) i = ((A.v (i 0).val (i 1).val ((i 2).val - 1024) : ℝ) : EReal))
  (ho : ∀ i : S4x2048x1024.Idx, (m ((c : Thread nD τ).loc main_arg2) : S4x2048x1024.Idx → EReal) i = ((A.o (i 0).val (i 1).val (i 2).val : ℝ) : EReal))

include hq in
theorem block0 (t : Fin cfg0.N) (r : Fin 512) (d : Fin 128) :
    (iblk m c 0 t : S1x512x128.Idx → EReal) (ix3 0 r d) = ((A.q (t.val / 32) (512 * (t.val % 4) + r.val) (128 * (t.val / 4 % 8) + d.val) : ℝ) : EReal) := by
  have e0 : ((win0_0.blk t).view.emb (ix3 0 r d) 0 : ℕ) = t.val / 32 := by blk_simp [place0 t]; simp
  have e1 : ((win0_0.blk t).view.emb (ix3 0 r d) 1 : ℕ) = 512 * (t.val % 4) + r.val := by blk_simp [place0 t]; simp; omega
  have e2 : ((win0_0.blk t).view.emb (ix3 0 r d) 2 : ℕ) = 128 * (t.val / 4 % 8) + d.val := by blk_simp [place0 t]; simp; omega
  show V m c main_arg0 ((win0_0.blk t).view.emb (ix3 0 r d)) = _
  rw [V_main_arg0]
  refine (hq _).trans ?_
  rw [e0, e1, e2]

include ho in
theorem block4 (t : Fin cfg0.N) (r : Fin 512) (d : Fin 128) :
    (iblk m c 4 t : S1x512x128.Idx → EReal) (ix3 0 r d) = ((A.o (t.val / 32) (512 * (t.val % 4) + r.val) (128 * (t.val / 4 % 8) + d.val) : ℝ) : EReal) := by
  have e0 : ((win0_4.blk t).view.emb (ix3 0 r d) 0 : ℕ) = t.val / 32 := by blk_simp [place4 t]; simp
  have e1 : ((win0_4.blk t).view.emb (ix3 0 r d) 1 : ℕ) = 512 * (t.val % 4) + r.val := by blk_simp [place4 t]; simp; omega
  have e2 : ((win0_4.blk t).view.emb (ix3 0 r d) 2 : ℕ) = 128 * (t.val / 4 % 8) + d.val := by blk_simp [place4 t]; simp; omega
  show V m c main_arg2 ((win0_4.blk t).view.emb (ix3 0 r d)) = _
  rw [V_main_arg2]
  refine (ho _).trans ?_
  rw [e0, e1, e2]

include hk in
theorem block1 (t : Fin cfg0.N) (r : Fin 2048) (d : Fin 128) :
    (iblk m c 1 t : S1x2048x128.Idx → EReal) (ix3 0 r d) = ((A.keys (t.val / 32) (t.val / 4 % 8) r.val d : ℝ) : EReal) := by
  have e0 : ((win0_1.blk t).view.emb (ix3 0 r d) 0 : ℕ) = t.val / 32 := by blk_simp [place1 t]; simp
  have e1 : ((win0_1.blk t).view.emb (ix3 0 r d) 1 : ℕ) = r.val := by blk_simp [place1 t]
  have e2 : ((win0_1.blk t).view.emb (ix3 0 r d) 2 : ℕ) = 128 * (t.val / 4 % 8) + d.val := by blk_simp [place1 t]; simp; omega
  show V m c main_arg1 ((win0_1.blk t).view.emb (ix3 0 r d)) = _
  rw [V_main_arg1]
  refine (hk _ (by rw [e2]; omega)).trans ?_
  rw [e0, e1, e2]
  rfl

include hv in
theorem block2 (t : Fin cfg0.N) (r : Fin 2048) (d : Fin 128) :
    (iblk m c 2 t : S1x2048x128.Idx → EReal) (ix3 0 r d) = ((A.values (t.val / 32) (t.val / 4 % 8) r.val d : ℝ) : EReal) := by
  have e0 : ((win0_2.blk t).view.emb (ix3 0 r d) 0 : ℕ) = t.val / 32 := by blk_simp [place2 t]; simp
  have e1 : ((win0_2.blk t).view.emb (ix3 0 r d) 1 : ℕ) = r.val := by blk_simp [place2 t]
  have e2 : ((win0_2.blk t).view.emb (ix3 0 r d) 2 : ℕ) = 1024 + (128 * (t.val / 4 % 8) + d.val) := by blk_simp [place2 t]; omega
  show V m c main_arg1 ((win0_2.blk t).view.emb (ix3 0 r d)) = _
  rw [V_main_arg1]
  refine (hv _ (by rw [e2]; omega)).trans ?_
  rw [e0, e1, e2, Nat.add_sub_cancel_left]
  rfl

include hk in
theorem block3 (t : Fin cfg0.N) (b : Fin 16) (d r : Fin 128) :
    (iblk m c 3 t : S1x1x16x128x128.Idx → EReal) (ix5 0 0 b d r) = ((A.keys (t.val / 32) (t.val / 4 % 8) (128 * b.val + r.val) d : ℝ) : EReal) := by
  have ht : t.val < 128 := lt_of_lt_of_eq t.isLt (show cfg0.N = 128 from N_0)
  have e : (win0_3.blk t).view.emb (ix5 0 0 b d r) = ix5 (⟨t.val / 32, by omega⟩ : Fin 4) (⟨t.val / 4 % 8, by omega⟩ : Fin 16) b d r := by
    blk_ext [place3 t]
  show V m c main_v1 ((win0_3.blk t).view.emb (ix5 0 0 b d r)) = _
  rw [keys_operand, e]
  refine (transpose_apply _ _ _ _ (ix5 (⟨t.val / 32, by omega⟩ : Fin 4) b r (⟨t.val / 4 % 8, by omega⟩ : Fin 16) d) fun a => ?_).trans ?_
  · match a with
    | ⟨0, _⟩ => rfl
    | ⟨1, _⟩ => rfl
    | ⟨2, _⟩ => rfl
    | ⟨3, _⟩ => rfl
    | ⟨4, _⟩ => rfl
  refine (shapeCast_apply _ _ _ (ix3 (⟨t.val / 32, by omega⟩ : Fin 4) (⟨128 * b.val + r.val, by omega⟩ : Fin 2048) (⟨128 * (t.val / 4 % 8) + d.val, by omega⟩ : Fin 2048)) ?_).trans ?_
  · rw [Shape.rowMajor_val_three, Shape.rowMajor_val_five]
    show (t.val / 32 * 2048 + (128 * b.val + r.val)) * 2048 + (128 * (t.val / 4 % 8) + d.val)
      = (((t.val / 32 * 16 + b.val) * 128 + r.val) * 16 + t.val / 4 % 8) * 128 + d.val
    omega
  refine (hk _ ?_).trans ?_
  · show 128 * (t.val / 4 % 8) + d.val < 1024
    omega
  rfl

include hq hk in
/-- A total is its query's. -/
theorem allTotals_is (j : S4x16x2048.Idx) :
    (allTotals (m ((c : Thread nD τ).loc main_arg0)) (m ((c : Thread nD τ).loc main_arg1)) : S4x16x2048.Idx → EReal) j
      = (((A.query (j 0).val ((j 1).val / 2) ((j 1).val % 2) (j 2).val).tot : ℝ) : EReal) := by
  have hz : (Cert.ReferenceIdeal.Read.val_main_cst_0 (F := Ideal)) (Shape.Idx.first h_S_) = (0 : EReal) := by
    rw [Cert.ReferenceIdeal.Read.val_main_cst_0_apply]
    exact Cert.ReferenceIdeal.Hand.zero_word
  show Ideal.hostReduceAdd reducesTo_S4x16x2048x2048_S4x16x2048_d3
    (Cert.ReferenceIdeal.Read.val_main_v21_0 (F := Ideal) (m ((c : Thread nD τ).loc main_arg0)) (m ((c : Thread nD τ).loc main_arg1)))
    ((Cert.ReferenceIdeal.Read.val_main_cst_0 (F := Ideal)) (Shape.Idx.first h_S_)) j = _
  rw [hz, Ideal.hostReduceAdd_r4_a3, zero_add, A.query_tot]
  unfold lkSum
  rw [← Fin.sum_univ_eq_sum_range (fun s => lk (A.keys (j 0).val ((j 1).val / 2)) (A.query (j 0).val ((j 1).val / 2) ((j 1).val % 2) (j 2).val) s) 2048, ← coe_sum]
  exact Finset.sum_congr rfl fun s _ => Cert.ReferenceIdeal.Hand.v21_0_is (A := A) hq hk _

include hq hk in
theorem block5 (t : Fin cfg0.N) (q : Fin 1024) :
    (iblk m c 5 t : S1x1x1x1x1024.Idx → EReal) (ix5 0 0 0 0 q)
      = (((A.query (t.val / 32) (t.val / 4 % 8) (q.val / 128 % 2) (512 * (t.val % 4) + (q.val / 256 * 128 + q.val % 128))).tot : ℝ) : EReal) := by
  have ht : t.val < 128 := lt_of_lt_of_eq t.isLt (show cfg0.N = 128 from N_0)
  have e : (win0_5.blk t).view.emb (ix5 0 0 0 0 q) = ix5 (⟨t.val / 32, by omega⟩ : Fin 4) (⟨t.val / 4 % 8, by omega⟩ : Fin 8) (⟨t.val % 4, by omega⟩ : Fin 4) (0 : Fin 1) q := by
    blk_ext [place5 t]
  show V m c main_v23 ((win0_5.blk t).view.emb (ix5 0 0 0 0 q)) = _
  rw [totals_operand, e]
  refine (shapeCast_apply _ _ _ (ValueIdx.ix6 (⟨t.val / 32, by omega⟩ : Fin 4) (⟨t.val / 4 % 8, by omega⟩ : Fin 8) (⟨t.val % 4, by omega⟩ : Fin 4)
    (⟨q.val / 256, by omega⟩ : Fin 4) (⟨q.val / 128 % 2, by omega⟩ : Fin 2) (⟨q.val % 128, by omega⟩ : Fin 128)) ?_).trans ?_
  · rw [Shape.rowMajor_val_six, Shape.rowMajor_val_five]
    show ((((t.val / 32 * 8 + t.val / 4 % 8) * 4 + t.val % 4) * 4 + q.val / 256) * 2 + q.val / 128 % 2) * 128 + q.val % 128
      = (((t.val / 32 * 8 + t.val / 4 % 8) * 4 + t.val % 4) * 1 + 0) * 1024 + q.val
    omega
  refine (transpose_apply _ _ _ _ (ValueIdx.ix6 (⟨t.val / 32, by omega⟩ : Fin 4) (⟨t.val / 4 % 8, by omega⟩ : Fin 8) (⟨q.val / 128 % 2, by omega⟩ : Fin 2) (⟨t.val % 4, by omega⟩ : Fin 4)
    (⟨q.val / 256, by omega⟩ : Fin 4) (⟨q.val % 128, by omega⟩ : Fin 128)) fun a => ?_).trans ?_
  · match a with
    | ⟨0, _⟩ => rfl
    | ⟨1, _⟩ => rfl
    | ⟨2, _⟩ => rfl
    | ⟨3, _⟩ => rfl
    | ⟨4, _⟩ => rfl
    | ⟨5, _⟩ => rfl
  refine (shapeCast_apply _ _ _ (ix3 (⟨t.val / 32, by omega⟩ : Fin 4) (⟨2 * (t.val / 4 % 8) + q.val / 128 % 2, by omega⟩ : Fin 16)
    (⟨512 * (t.val % 4) + (q.val / 256 * 128 + q.val % 128), by omega⟩ : Fin 2048)) ?_).trans ?_
  · rw [Shape.rowMajor_val_six, Shape.rowMajor_val_three]
    show (t.val / 32 * 16 + (2 * (t.val / 4 % 8) + q.val / 128 % 2)) * 2048 + (512 * (t.val % 4) + (q.val / 256 * 128 + q.val % 128))
      = ((((t.val / 32 * 8 + t.val / 4 % 8) * 2 + q.val / 128 % 2) * 4 + t.val % 4) * 4 + q.val / 256) * 128 + q.val % 128
    omega
  refine (allTotals_is hq hk _).trans ?_
  show (((A.query (t.val / 32) ((2 * (t.val / 4 % 8) + q.val / 128 % 2) / 2) ((2 * (t.val / 4 % 8) + q.val / 128 % 2) % 2) (512 * (t.val % 4) + (q.val / 256 * 128 + q.val % 128))).tot : ℝ) : EReal) = _
  rw [show (2 * (t.val / 4 % 8) + q.val / 128 % 2) / 2 = t.val / 4 % 8 by omega, show (2 * (t.val / 4 % 8) + q.val / 128 % 2) % 2 = q.val / 128 % 2 by omega]

end

end Cert.KernelIdeal.Hand

end
-- ==== Proof.Grad.lean ====
/-
  What the kernel leaves in its three result arrays, over the extended reals, where its arguments are real: the running
  gradients of a head pair's keys and values hold, after each query tile, the parts of the queries up to it; written back
  after the last tile they are the sums over all queries. They are the reference's results.
-/
module

public import proofs.«01_k».proof.Proof.Pairs
public import proofs.«01_k».proof.Proof.HostValue

@[expose] public section

set_option maxRecDepth 16384
set_option maxHeartbeats 1000000

noncomputable section

namespace Cert.KernelIdeal.Hand

open Cert.KernelIdeal Cert.KernelIdeal.Gen Cert.Stick
open Idealize.ShloMosaic Idealize.ShloMosaic.TcCoe
open Idealize.ShloMosaic.Pipeline (Dat)
open Idealize.SL.Sem
open Finset (range)

theorem zeros10 (y : S1x2048x128.Idx) : (k0_pay274 (F := Ideal) : S1x2048x128.Idx → EReal) y = 0 := by
  unfold k0_pay274
  exact Cert.ReferenceIdeal.Hand.zero_word
theorem zeros11 (y : S1x2048x128.Idx) : (k0_pay275 (F := Ideal) : S1x2048x128.Idx → EReal) y = 0 := by
  unfold k0_pay275
  exact Cert.ReferenceIdeal.Hand.zero_word

section
variable {m : (ℓ : Loc nD τ sig) → Buf (Elt Ideal) ℓ} {c : Dev nD} {A : Args}
  (hq : ∀ i : S4x2048x1024.Idx, (m ((c : Thread nD τ).loc main_arg0) : S4x2048x1024.Idx → EReal) i = ((A.q (i 0).val (i 1).val (i 2).val : ℝ) : EReal))
  (hk : ∀ i : S4x2048x2048.Idx, (i 2).val < 1024 → (m ((c : Thread nD τ).loc main_arg1) : S4x2048x2048.Idx → EReal) i = ((A.k (i 0).val (i 1).val (i 2).val : ℝ) : EReal))
  (hv : ∀ i : S4x2048x2048.Idx, 1024 ≤ (i 2).val → (m ((c : Thread nD τ).loc main_arg1) : S4x2048x2048.Idx → EReal) i = ((A.v (i 0).val (i 1).val ((i 2).val - 1024) : ℝ) : EReal))
  (ho : ∀ i : S4x2048x1024.Idx, (m ((c : Thread nD τ).loc main_arg2) : S4x2048x1024.Idx → EReal) i = ((A.o (i 0).val (i 1).val (i 2).val : ℝ) : EReal))

include hq hk hv ho

/-- A point adds its queries' parts. -/
theorem keys_step (t : Fin cfg0.N) (s10 s11 : Vec Ideal S1x2048x128 .f32) (R : Fin 2048) (d : Fin 128) :
    (runAt m c t).2.1 s10 s11 (ix3 0 R d) = s10 (ix3 0 R d) + ((keyGrad (A.keys (t.val / 32) (t.val / 4 % 8)) (A.values (t.val / 32) (t.val / 4 % 8))
      (column (rowsQ A (t.val / 32) (t.val / 4 % 8) (t.val % 4)) (rowsO A (t.val / 32) (t.val / 4 % 8) (t.val % 4)) (colsT A (t.val / 32) (t.val / 4 % 8) (t.val % 4)) (t.val % 4)) R.val d : ℝ) : EReal) := by
  have h := keys_out c (grid0.coords t) (mem0 t) (hmem0 t) (mem1 t) (hmem1 t) (mem2 t) (hmem2 t) (mem3 t) (hmem3 t) (mem4 t) (hmem4 t) (mem5 t) (hmem5 t) (mem6 t) (hmem6 t) (mem7 t) (hmem7 t) (mem8 t) (hmem8 t)
    (iblk m c 0 t) (iblk m c 1 t) (iblk m c 2 t) (iblk m c 3 t) (iblk m c 4 t) (iblk m c 5 t) s10 s11
    (Q := rowsQ A (t.val / 32) (t.val / 4 % 8) (t.val % 4)) (O := rowsO A (t.val / 32) (t.val / 4 % 8) (t.val % 4)) (T := colsT A (t.val / 32) (t.val / 4 % 8) (t.val % 4))
    (block0 hq t) (block1 hk t) (block2 hv t) (block3 hk t) (block4 ho t) (block5 hq hk t) R d
  rw [coord2] at h
  exact h

theorem values_step (t : Fin cfg0.N) (s10 s11 : Vec Ideal S1x2048x128 .f32) (R : Fin 2048) (d : Fin 128) :
    (runAt m c t).2.2.1 s10 s11 (ix3 0 R d) = s11 (ix3 0 R d) + ((valueGrad (A.keys (t.val / 32) (t.val / 4 % 8))
      (column (rowsQ A (t.val / 32) (t.val / 4 % 8) (t.val % 4)) (rowsO A (t.val / 32) (t.val / 4 % 8) (t.val % 4)) (colsT A (t.val / 32) (t.val / 4 % 8) (t.val % 4)) (t.val % 4)) R.val d : ℝ) : EReal) := by
  have h := values_out c (grid0.coords t) (mem0 t) (hmem0 t) (mem1 t) (hmem1 t) (mem2 t) (hmem2 t) (mem3 t) (hmem3 t) (mem4 t) (hmem4 t) (mem5 t) (hmem5 t) (mem6 t) (hmem6 t) (mem7 t) (hmem7 t) (mem8 t) (hmem8 t)
    (iblk m c 0 t) (iblk m c 1 t) (iblk m c 2 t) (iblk m c 3 t) (iblk m c 4 t) (iblk m c 5 t) s10 s11
    (Q := rowsQ A (t.val / 32) (t.val / 4 % 8) (t.val % 4)) (O := rowsO A (t.val / 32) (t.val / 4 % 8) (t.val % 4)) (T := colsT A (t.val / 32) (t.val / 4 % 8) (t.val % 4))
    (block0 hq t) (block1 hk t) (block2 hv t) (block3 hk t) (block4 ho t) (block5 hq hk t) R d
  rw [coord2] at h
  exact h

/-- The queries' gradient's block after a point. -/
theorem queries_at (t : Fin cfg0.N) (r : Fin 512) (d : Fin 128) :
    queryAt m c t (ix3 0 r d) = ((dq (A.keys (t.val / 32) (t.val / 4 % 8)) (A.values (t.val / 32) (t.val / 4 % 8))
      (A.query (t.val / 32) (t.val / 4 % 8) (d.val / 64) (512 * (t.val % 4) + r.val)) 2048 d * (1 / 8) : ℝ) : EReal) := by
  have h := queries_out c (grid0.coords t) (mem0 t) (hmem0 t) (mem1 t) (hmem1 t) (mem2 t) (hmem2 t) (mem3 t) (hmem3 t) (mem4 t) (hmem4 t) (mem5 t) (hmem5 t) (mem6 t) (hmem6 t) (mem7 t) (hmem7 t) (mem8 t) (hmem8 t)
    (iblk m c 0 t) (iblk m c 1 t) (iblk m c 2 t) (iblk m c 3 t) (iblk m c 4 t) (iblk m c 5 t) (start10 (grid0.coords t) (gradBefore m c t).1) (start11 (grid0.coords t) (gradBefore m c t).2)
    (Q := rowsQ A (t.val / 32) (t.val / 4 % 8) (t.val % 4)) (O := rowsO A (t.val / 32) (t.val / 4 % 8) (t.val % 4)) (T := colsT A (t.val / 32) (t.val / 4 % 8) (t.val % 4))
    (block0 hq t) (block1 hk t) (block2 hv t) (block3 hk t) (block4 ho t) (block5 hq hk t) base9 base9.junk r d
  rw [coord2, query_all A _ _ _ (Nat.mod_lt _ (by norm_num))] at h
  exact h

theorem grad_next (t : Fin cfg0.N) (s : Vec Ideal S1x2048x128 .f32 × Vec Ideal S1x2048x128 .f32) (R : Fin 2048) (d : Fin 128)
    (h : t.val % 4 ≠ 0 → s.1 (ix3 0 R d) = ((keyPart A (t.val / 32) (t.val / 4 % 8) (512 * (t.val % 4)) R.val d : ℝ) : EReal)
      ∧ s.2 (ix3 0 R d) = ((valuePart A (t.val / 32) (t.val / 4 % 8) (512 * (t.val % 4)) R.val d : ℝ) : EReal)) :
    (gradStep m c t s).1 (ix3 0 R d) = ((keyPart A (t.val / 32) (t.val / 4 % 8) (512 * (t.val % 4) + 512) R.val d : ℝ) : EReal)
      ∧ (gradStep m c t s).2 (ix3 0 R d) = ((valuePart A (t.val / 32) (t.val / 4 % 8) (512 * (t.val % 4) + 512) R.val d : ℝ) : EReal) := by
  have h10 : start10 (F := Ideal) (grid0.coords t) s.1 (ix3 0 R d) = ((keyPart A (t.val / 32) (t.val / 4 % 8) (512 * (t.val % 4)) R.val d : ℝ) : EReal) := by
    unfold start10
    by_cases h0 : t.val % 4 = 0
    · rw [if_pos ((isFirst_at t).mpr h0), zeros10, h0, keyPart, mul_zero, Finset.range_zero, Finset.sum_empty, EReal.coe_zero]
    · rw [if_neg fun e => h0 ((isFirst_at t).mp e), (h h0).1]
  have h11 : start11 (F := Ideal) (grid0.coords t) s.2 (ix3 0 R d) = ((valuePart A (t.val / 32) (t.val / 4 % 8) (512 * (t.val % 4)) R.val d : ℝ) : EReal) := by
    unfold start11
    by_cases h0 : t.val % 4 = 0
    · rw [if_pos ((isFirst_at t).mpr h0), zeros11, h0, valuePart, mul_zero, Finset.range_zero, Finset.sum_empty, EReal.coe_zero]
    · rw [if_neg fun e => h0 ((isFirst_at t).mp e), (h h0).2]
  unfold gradStep
  dsimp only
  rw [keys_step hq hk hv ho, values_step hq hk hv ho, h10, h11, ← EReal.coe_add, ← EReal.coe_add, keyPart_tile, valuePart_tile]
  exact ⟨rfl, rfl⟩

/-- The running gradients after a point. -/
theorem grads_at (R : Fin 2048) (d : Fin 128) : ∀ (n : ℕ) (hn : n < cfg0.N),
    (gradAt m c n hn).1 (ix3 0 R d) = ((keyPart A (n / 32) (n / 4 % 8) (512 * (n % 4) + 512) R.val d : ℝ) : EReal)
      ∧ (gradAt m c n hn).2 (ix3 0 R d) = ((valuePart A (n / 32) (n / 4 % 8) (512 * (n % 4) + 512) R.val d : ℝ) : EReal)
  | 0, hn => grad_next hq hk hv ho ⟨0, hn⟩ _ R d fun h => absurd rfl h
  | n + 1, hn => grad_next hq hk hv ho ⟨n + 1, hn⟩ _ R d fun h => by
    have h : (n + 1) % 4 ≠ 0 := h
    have ih := grads_at R d n (Nat.lt_of_succ_lt hn)
    rw [show n / 32 = (n + 1) / 32 by omega, show n / 4 % 8 = (n + 1) / 4 % 8 by omega, show 512 * (n % 4) + 512 = 512 * ((n + 1) % 4) by omega] at ih
    exact ih

/-! ## The arrays -/

theorem result_queries : (dats m 0 c).arrAt 6 cfg0.N
    = Cert.ReferenceIdeal.Read.val_main_v52 (F := Ideal) (m ((c : Thread nD τ).loc main_arg0)) (m ((c : Thread nD τ).loc main_arg1)) (m ((c : Thread nD τ).loc main_arg2)) := by
  refine (dats m 0 c).arrAt_eq_of_covers 6 _ (by decide +kernel) fun t hf y => ?_
  have ht : t.val < 128 := lt_of_lt_of_eq t.isLt (show cfg0.N = 128 from N_0)
  obtain ⟨r, d, rfl⟩ : ∃ (r : Fin 512) (d : Fin 128), y = ix3 0 r d := ⟨y 1, y 2, by
    funext a
    match a with
    | ⟨0, _⟩ => exact Subsingleton.elim (α := Fin 1) _ _
    | ⟨1, _⟩ => rfl
    | ⟨2, _⟩ => rfl⟩
  have e0 : ((win0_6.blk t).view.emb (ix3 0 r d) 0 : ℕ) = t.val / 32 := by blk_simp [place6 t]; simp
  have e1 : ((win0_6.blk t).view.emb (ix3 0 r d) 1 : ℕ) = 512 * (t.val % 4) + r.val := by blk_simp [place6 t]; simp; omega
  have e2 : ((win0_6.blk t).view.emb (ix3 0 r d) 2 : ℕ) = 128 * (t.val / 4 % 8) + d.val := by blk_simp [place6 t]; simp; omega
  refine Eq.trans ?_ (Cert.ReferenceIdeal.Hand.queries_result (A := A) hq hk hv ho ((win0_6.blk t).view.emb (ix3 0 r d))).symm
  rw [e0, e1, e2, show (128 * (t.val / 4 % 8) + d.val) / 128 = t.val / 4 % 8 by omega, show (128 * (t.val / 4 % 8) + d.val) / 64 % 2 = d.val / 64 by omega]
  show (dats m 0 c).after 6 t (ix3 0 r d) = _
  rw [after6, queries_at hq hk hv ho]
  rfl

theorem result_keys : (dats m 0 c).arrAt 7 cfg0.N
    = Cert.ReferenceIdeal.Read.val_main_v53 (F := Ideal) (m ((c : Thread nD τ).loc main_arg0)) (m ((c : Thread nD τ).loc main_arg1)) (m ((c : Thread nD τ).loc main_arg2)) := by
  refine (dats m 0 c).arrAt_eq_of_covers 7 _ (by decide +kernel) fun t hf y => ?_
  have ht : t.val < 128 := lt_of_lt_of_eq t.isLt (show cfg0.N = 128 from N_0)
  have h3 : t.val % 4 = 3 := (flush0_7 t).mp hf
  obtain ⟨r, d, rfl⟩ : ∃ (r : Fin 2048) (d : Fin 128), y = ix3 0 r d := ⟨y 1, y 2, by
    funext a
    match a with
    | ⟨0, _⟩ => exact Subsingleton.elim (α := Fin 1) _ _
    | ⟨1, _⟩ => rfl
    | ⟨2, _⟩ => rfl⟩
  have e0 : ((win0_7.blk t).view.emb (ix3 0 r d) 0 : ℕ) = t.val / 32 := by blk_simp [place7 t]; simp
  have e1 : ((win0_7.blk t).view.emb (ix3 0 r d) 1 : ℕ) = r.val := by blk_simp [place7 t]
  have e2 : ((win0_7.blk t).view.emb (ix3 0 r d) 2 : ℕ) = 128 * (t.val / 4 % 8) + d.val := by blk_simp [place7 t]; simp; omega
  refine Eq.trans ?_ (Cert.ReferenceIdeal.Hand.keys_result (A := A) hq hk hv ho ((win0_7.blk t).view.emb (ix3 0 r d))).symm
  rw [e0, e1, e2, show (128 * (t.val / 4 % 8) + d.val) / 128 = t.val / 4 % 8 by omega, show (128 * (t.val / 4 % 8) + d.val) / 64 % 2 = d.val / 64 by omega]
  show (dats m 0 c).after 7 t (ix3 0 r d) = _
  rw [after7, (grads_at hq hk hv ho r d t.val t.isLt).1, h3]
  rfl

theorem result_values : (dats m 0 c).arrAt 8 cfg0.N
    = Cert.ReferenceIdeal.Read.val_main_v54 (F := Ideal) (m ((c : Thread nD τ).loc main_arg0)) (m ((c : Thread nD τ).loc main_arg1)) (m ((c : Thread nD τ).loc main_arg2)) := by
  refine (dats m 0 c).arrAt_eq_of_covers 8 _ (by decide +kernel) fun t hf y => ?_
  have ht : t.val < 128 := lt_of_lt_of_eq t.isLt (show cfg0.N = 128 from N_0)
  have h3 : t.val % 4 = 3 := (flush0_8 t).mp hf
  obtain ⟨r, d, rfl⟩ : ∃ (r : Fin 2048) (d : Fin 128), y = ix3 0 r d := ⟨y 1, y 2, by
    funext a
    match a with
    | ⟨0, _⟩ => exact Subsingleton.elim (α := Fin 1) _ _
    | ⟨1, _⟩ => rfl
    | ⟨2, _⟩ => rfl⟩
  have e0 : ((win0_8.blk t).view.emb (ix3 0 r d) 0 : ℕ) = t.val / 32 := by blk_simp [place8 t]; simp
  have e1 : ((win0_8.blk t).view.emb (ix3 0 r d) 1 : ℕ) = r.val := by blk_simp [place8 t]
  have e2 : ((win0_8.blk t).view.emb (ix3 0 r d) 2 : ℕ) = 128 * (t.val / 4 % 8) + d.val := by blk_simp [place8 t]; simp; omega
  refine Eq.trans ?_ (Cert.ReferenceIdeal.Hand.values_result (A := A) hq hk hv ho ((win0_8.blk t).view.emb (ix3 0 r d))).symm
  rw [e0, e1, e2, show (128 * (t.val / 4 % 8) + d.val) / 128 = t.val / 4 % 8 by omega, show (128 * (t.val / 4 % 8) + d.val) / 64 % 2 = d.val / 64 by omega]
  show (dats m 0 c).after 8 t (ix3 0 r d) = _
  rw [after8, (grads_at hq hk hv ho r d t.val t.isLt).2, h3]
  rfl

end

end Cert.KernelIdeal.Hand

end
-- ==== Proof.Finite.lean ====
/-
  The precondition, read: the arguments are finite, hence real.
-/
module

public import proofs.«01_k».proof.Defs
public import proofs.«01_k».proof.Proof.Problem
public import Idealize.ShloMosaic.Lib.Pointwise
public import Idealize.ShloMosaic.Lib.Pipeline.Value

@[expose] public section

set_option maxRecDepth 16384

noncomputable section

namespace Cert.Finite

open Idealize.ShloMosaic Cert.Pre_finite_args Cert.Stick

theorem facts : Cert.Pre_finite_args.Facts where
  bitsLt_bf16_f32 := by decide
  bcast_S_S4x2048x1024 := by decide
  slices_S4x2048x2048_S4x2048x1024_0_0_0 := by decide
  slices_S4x2048x2048_S4x2048x1024_0_0_1024 := by decide

theorem and_ones {a b : BitVec 1} (h : IntOp.andi a b = 1#1) : a = 1#1 ∧ b = 1#1 := by
  revert a b
  decide

/-- What lies below the infinity in absolute value is real. -/
theorem real_of_below {x : EReal} (h : FloatOps.cmpf (F := Ideal) (φ := .f32) .olt (FloatOps.hostAbsf (F := Ideal) (φ := .f32) x) (FloatOps.ofBits (F := Ideal) .f32 0x7F800000#32) = 1#1) :
    x = ((x.toReal : ℝ) : EReal) := by
  have ht : (FloatOps.ofBits (F := Ideal) .f32 0x7F800000#32 : EReal) = ⊤ := by
    show Ideal.ofBits .f32 0x7F800000#32 = ⊤
    simp [Ideal.ofBits, Ideal.ieee, -EReal.coe_mul]
  rw [ht] at h
  have h : BitVec.ofBool (decide (max x (-x) < ⊤)) = 1#1 := h
  have hlt : max x (-x) < ⊤ := by
    by_contra hn
    rw [decide_eq_false hn] at h
    exact absurd h (by decide)
  obtain ⟨h1, h2⟩ := max_lt_iff.mp hlt
  refine (EReal.coe_toReal h1.ne ?_).symm
  rintro rfl
  simp at h2

section
variable (x0 : S4x2048x1024.Idx → EReal) (x1 : S4x2048x2048.Idx → EReal) (x2 : S4x2048x1024.Idx → EReal)

/-- The arguments' reals. -/
def args : Args where
  q b s l := (x0 (ix3 (Fin.ofNat 4 b) (Fin.ofNat 2048 s) (Fin.ofNat 1024 l))).toReal
  k b s l := (x1 (ix3 (Fin.ofNat 4 b) (Fin.ofNat 2048 s) (Fin.ofNat 2048 l))).toReal
  v b s l := (x1 (ix3 (Fin.ofNat 4 b) (Fin.ofNat 2048 s) (Fin.ofNat 2048 (1024 + l)))).toReal
  o b s l := (x2 (ix3 (Fin.ofNat 4 b) (Fin.ofNat 2048 s) (Fin.ofNat 1024 l))).toReal

theorem place_of {n0 n1 n2 : ℕ} [NeZero n0] [NeZero n1] [NeZero n2] (i : (⟨3, ![n0, n1, n2]⟩ : Shape).Idx) {a b c : ℕ}
    (ha : a = (i 0).val) (hb : b = (i 1).val) (hc : c = (i 2).val) : ix3 (Fin.ofNat n0 a) (Fin.ofNat n1 b) (Fin.ofNat n2 c) = i := by
  subst ha; subst hb; subst hc
  funext d
  match d with
  | ⟨0, _⟩ => exact Fin.ext (Nat.mod_eq_of_lt (i 0).isLt)
  | ⟨1, _⟩ => exact Fin.ext (Nat.mod_eq_of_lt (i 1).isLt)
  | ⟨2, _⟩ => exact Fin.ext (Nat.mod_eq_of_lt (i 2).isLt)

variable {x0 x1 x2} [Facts] (h : ∀ i : S4x2048x1024.Idx, (fn (F := Ideal) x0 x1 x2 : S4x2048x1024.Idx → BitVec 1) i = 1#1)
include h

theorem below (i : S4x2048x1024.Idx) :
    (x0 i = ((x0 i).toReal : ℝ) ∧ x1 (ix3 (i 0) (i 1) ((i 2).castLE (by decide : 1024 ≤ 2048))) = ((x1 (ix3 (i 0) (i 1) ((i 2).castLE (by decide : 1024 ≤ 2048)))).toReal : ℝ))
      ∧ x1 (ix3 (i 0) (i 1) (⟨1024 + (i 2).val, by have : (i 2).val < 1024 := (i 2).isLt; omega⟩ : Fin 2048)) = ((x1 (ix3 (i 0) (i 1) (⟨1024 + (i 2).val, by have : (i 2).val < 1024 := (i 2).isLt; omega⟩ : Fin 2048))).toReal : ℝ)
      ∧ x2 i = ((x2 i).toReal : ℝ) := by
  have hi := h i
  unfold fn fn_part1 at hi
  obtain ⟨h123, h4⟩ := and_ones hi
  obtain ⟨h12, h3⟩ := and_ones h123
  obtain ⟨h1, h2⟩ := and_ones h12
  have e2 : (extractStridedSlice S4x2048x1024 ![0, 0, 0] x1 Facts.slices_S4x2048x2048_S4x2048x1024_0_0_0 i : EReal) = ((extractStridedSlice S4x2048x1024 ![0, 0, 0] x1 Facts.slices_S4x2048x2048_S4x2048x1024_0_0_0 i : EReal).toReal : ℝ) := real_of_below h2
  have e3 : (extractStridedSlice S4x2048x1024 ![0, 0, 1024] x1 Facts.slices_S4x2048x2048_S4x2048x1024_0_0_1024 i : EReal) = ((extractStridedSlice S4x2048x1024 ![0, 0, 1024] x1 Facts.slices_S4x2048x2048_S4x2048x1024_0_0_1024 i : EReal).toReal : ℝ) := real_of_below h3
  have q2 : extractStridedSlice S4x2048x1024 ![0, 0, 0] x1 Facts.slices_S4x2048x2048_S4x2048x1024_0_0_0 i = x1 (ix3 (i 0) (i 1) ((i 2).castLE (by decide : 1024 ≤ 2048))) := extractStridedSlice_apply _ _ _ _ (ix3 (i 0) (i 1) ((i 2).castLE (by decide : 1024 ≤ 2048))) (fun a => by
    match a with
    | ⟨0, _⟩ => exact (Nat.zero_add _).symm
    | ⟨1, _⟩ => exact (Nat.zero_add _).symm
    | ⟨2, _⟩ => exact (Nat.zero_add _).symm)
  rw [q2] at e2
  have q3 : extractStridedSlice S4x2048x1024 ![0, 0, 1024] x1 Facts.slices_S4x2048x2048_S4x2048x1024_0_0_1024 i = x1 (ix3 (i 0) (i 1) (⟨1024 + (i 2).val, by have : (i 2).val < 1024 := (i 2).isLt; omega⟩ : Fin 2048)) := extractStridedSlice_apply _ _ _ _ (ix3 (i 0) (i 1) (⟨1024 + (i 2).val, by have : (i 2).val < 1024 := (i 2).isLt; omega⟩ : Fin 2048)) (fun a => by
    match a with
    | ⟨0, _⟩ => exact (Nat.zero_add _).symm
    | ⟨1, _⟩ => exact (Nat.zero_add _).symm
    | ⟨2, _⟩ => rfl)
  rw [q3] at e3
  exact ⟨⟨real_of_below h1, e2⟩, e3, real_of_below h4⟩

theorem args_q (i : S4x2048x1024.Idx) : x0 i = (((args x0 x1 x2).q (i 0).val (i 1).val (i 2).val : ℝ) : EReal) := by
  show _ = ((x0 (ix3 (Fin.ofNat 4 (i 0).val) (Fin.ofNat 2048 (i 1).val) (Fin.ofNat 1024 (i 2).val))).toReal : EReal)
  rw [place_of i rfl rfl rfl]
  exact (below h i).1.1

theorem args_o (i : S4x2048x1024.Idx) : x2 i = (((args x0 x1 x2).o (i 0).val (i 1).val (i 2).val : ℝ) : EReal) := by
  show _ = ((x2 (ix3 (Fin.ofNat 4 (i 0).val) (Fin.ofNat 2048 (i 1).val) (Fin.ofNat 1024 (i 2).val))).toReal : EReal)
  rw [place_of i rfl rfl rfl]
  exact (below h i).2.2

theorem args_k (i : S4x2048x2048.Idx) (hi : (i 2).val < 1024) : x1 i = (((args x0 x1 x2).k (i 0).val (i 1).val (i 2).val : ℝ) : EReal) := by
  show _ = ((x1 (ix3 (Fin.ofNat 4 (i 0).val) (Fin.ofNat 2048 (i 1).val) (Fin.ofNat 2048 (i 2).val))).toReal : EReal)
  have e := (below h (ix3 (i 0) (i 1) (⟨(i 2).val, hi⟩ : Fin 1024))).1.2
  have ei : ix3 (i 0) (i 1) (Fin.castLE (by decide : 1024 ≤ 2048) (⟨(i 2).val, hi⟩ : Fin 1024)) = i := by
    funext d
    match d with
    | ⟨0, _⟩ => rfl
    | ⟨1, _⟩ => rfl
    | ⟨2, _⟩ => rfl
  rw [place_of i rfl rfl rfl]
  exact (congrArg (fun y => x1 y = ((x1 y).toReal : EReal)) ei).mp e

theorem args_v (i : S4x2048x2048.Idx) (hi : 1024 ≤ (i 2).val) : x1 i = (((args x0 x1 x2).v (i 0).val (i 1).val ((i 2).val - 1024) : ℝ) : EReal) := by
  show _ = ((x1 (ix3 (Fin.ofNat 4 (i 0).val) (Fin.ofNat 2048 (i 1).val) (Fin.ofNat 2048 (1024 + ((i 2).val - 1024))))).toReal : EReal)
  have hb : (i 2).val < 2048 := (i 2).isLt
  have e := (below h (ix3 (i 0) (i 1) (⟨(i 2).val - 1024, by omega⟩ : Fin 1024))).2.1
  have ei : ix3 (i 0) (i 1) (⟨1024 + ((i 2).val - 1024), by omega⟩ : Fin 2048) = i := by
    funext d
    match d with
    | ⟨0, _⟩ => rfl
    | ⟨1, _⟩ => rfl
    | ⟨2, _⟩ => exact Fin.ext (by show 1024 + ((i 2).val - 1024) = (i 2).val; omega)
  rw [place_of i rfl rfl (by omega)]
  exact (congrArg (fun y => x1 y = ((x1 y).toReal : EReal)) ei).mp e

end

end Cert.Finite

end
-- ==== Proof.Products.DownDw.lean ====
/-
  The gradient of the down projection with respect to its weights, over the extended reals: the sum over the eight blocks
  of tokens is the sum over the tokens.
-/
module

public import proofs.«01_k».proof.Proof.Gen.DownDwIdeal.Frame
public import proofs.«01_k».proof.Proof.Gen.DownDwReferenceIdeal.Read
public import Idealize.ShloMosaic.Lib.Pipeline.ValueKit
public import Idealize.ShloMosaic.Lib.Pointwise

@[expose] public section

set_option maxRecDepth 16384

noncomputable section

namespace Cert.DownDwIdeal.Hand

open Cert.DownDwIdeal Cert.DownDwIdeal.Gen
open Cert.DownDwReferenceIdeal.Read (val_main_v5 val_main_v4 val_main_v1 val_main_v3)
open Idealize.ShloMosaic Idealize.ShloMosaic.TcCoe Idealize.ShloMosaic.Tactic

variable (m : (ℓ : Loc nD τ sig) → Buf (Elt Ideal) ℓ) (c : Dev nD)

/-- Where the windows' blocks lie at a point. -/
theorem idx : ∀ t : Fin cfg0.N, win0_0.index t = ![t.val % 8, t.val / 8] ∧ win0_1.index t = ![t.val % 8, 0] ∧ win0_2.index t = ![t.val / 8, 0] :=
  (by decide +kernel : ∀ t : Fin grid0.N, _)

theorem zero_at (j : S1408x1024.Idx) : k0_pay1 (F := Ideal) j = 0 := by pointwise [k0_pay1]

/-- One point adds the product of its two blocks. -/
theorem add_at (a : Vec Ideal S1408x1024 .f32) (x : Vec Ideal S1024x1408 .bf16) (w : Vec Ideal S1024x1024 .bf16) (j : S1408x1024.Idx) :
    k0_pay2 (F := Ideal) a x w j = a j + ∑ k : Fin 1024, x (ix2 k (j 0)) * w (ix2 k (j 1)) := by
  pointwise [k0_pay2]

theorem reference_at (x : Vec Ideal S8192x2816 .bf16) (w : Vec Ideal S8192x1024 .bf16) (j : S2816x1024.Idx) :
    val_main_v5 (F := Ideal) x w j = ∑ k : Fin 8192, x (ix2 k (j 0)) * w (ix2 k (j 1)) := by
  pointwise [val_main_v5, val_main_v4, val_main_v1, val_main_v3]
  exact Finset.sum_congr rfl fun k _ => mul_comm _ _

theorem held (x : Vec Ideal S1408x1024 .f32) : View.read (Elt Ideal) (View.whole cc0_scratch0) ((Memref.isWhole_whole cc0_scratch0).unread x) = x :=
  (Memref.isWhole_whole cc0_scratch0).read_unread x

/-- The last of a run's points writes out what it has accumulated. -/
theorem written (t : Fin cfg0.N) (h : t.val % 8 = 7) : (outsAt0 m c t.val t.isLt).1 = (outsAt0 m c t.val t.isLt).2 := by
  rw [outsAt0_C m c t (by omega) h]
  frame_out

theorem result : (dats m 0 c).arrAt 2 cfg0.N = val_main_v5 (F := Ideal) (m ((c : Thread nD τ).loc main_arg0)) (m ((c : Thread nD τ).loc main_arg1)) := by
  refine (dats m 0 c).arrAt_eq_of_covers 2 _ (by decide +kernel) fun t hf y => ?_
  have hl : t.val % 8 = 7 := (flush0_2 t).mp hf
  blk_simp
  rw [after0_2, written m c t hl, Pipeline.eq_sum_fin_of_reset_step_apply_of_flush (fun n h => (outsAt0 m c n h).2) 8 (fun _ => 0) _
    (fun t h j => by rw [outsAt0_A m c t h (by omega)]; frame_out; rw [add_at, zero_at])
    (fun t h j => by
      by_cases hl : t.val % 8 = 7
      · rw [outsAt0_C m c t h hl]; frame_out; rw [add_at, held]
      · rw [outsAt0_B m c t h hl]; frame_out; rw [add_at, held]) t hl _, zero_add, reference_at]
  refine Fin.sum_mul_add_congr fun s k hk => ?_
  blk_point [iblk, V, idx t, idx ⟨_, Pipeline.run_point_lt_of_flush t hl s⟩]

end Cert.DownDwIdeal.Hand

end
-- ==== Proof.Products.DownDx.lean ====
/-
  The gradient of the down projection with respect to its input, over the extended reals.
-/
module

public import proofs.«01_k».proof.Proof.Gen.DownDxIdeal.Frame
public import proofs.«01_k».proof.Proof.Gen.DownDxReferenceIdeal.Read
public import Idealize.ShloMosaic.Lib.Pipeline.ValueKit
public import Idealize.ShloMosaic.Lib.Pointwise

@[expose] public section

set_option maxRecDepth 16384

noncomputable section

namespace Cert.DownDxIdeal.Hand

open Cert.DownDxIdeal Cert.DownDxIdeal.Gen
open Cert.DownDxReferenceIdeal.Read (val_main_v4 val_main_v1 val_main_v3)
open Idealize.ShloMosaic Idealize.ShloMosaic.TcCoe Idealize.ShloMosaic.Tactic

variable (m : (ℓ : Loc nD τ sig) → Buf (Elt Ideal) ℓ) (c : Dev nD)

/-- Where the windows' blocks lie at a point. -/
theorem idx : ∀ t : Fin cfg0.N, win0_0.index t = ![t.val / 2, 0] ∧ win0_1.index t = ![t.val % 2, 0] ∧ win0_2.index t = ![t.val / 2, t.val % 2] :=
  (by decide +kernel : ∀ t : Fin grid0.N, _)

theorem result : (dats m 0 c).arrAt 2 cfg0.N = val_main_v4 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  unfold outsAt0
  frame_out
  pointwise [k0_pay2, k0_pay1, val_main_v4, val_main_v1, val_main_v3]
  blk_point [iblk, V, idx t]

end Cert.DownDxIdeal.Hand

end
-- ==== Proof.Products.UpDw.lean ====
/-
  The gradient of a half of the up projection with respect to its weights, over the extended reals: the sum over the eight
  blocks of tokens is the sum over the tokens.
-/
module

public import proofs.«01_k».proof.Proof.Gen.UpDwIdeal.Frame
public import proofs.«01_k».proof.Proof.Gen.UpDwReferenceIdeal.Read
public import Idealize.ShloMosaic.Lib.Pipeline.ValueKit
public import Idealize.ShloMosaic.Lib.Pointwise

@[expose] public section

set_option maxRecDepth 16384

noncomputable section

namespace Cert.UpDwIdeal.Hand

open Cert.UpDwIdeal Cert.UpDwIdeal.Gen
open Cert.UpDwReferenceIdeal.Read (val_main_v5 val_main_v4 val_main_v1 val_main_v3)
open Idealize.ShloMosaic Idealize.ShloMosaic.TcCoe Idealize.ShloMosaic.Tactic

variable (m : (ℓ : Loc nD τ sig) → Buf (Elt Ideal) ℓ) (c : Dev nD)

/-- Where the windows' blocks lie at a point. -/
theorem idx : ∀ t : Fin cfg0.N, win0_0.index t = ![t.val % 8, 0] ∧ win0_1.index t = ![t.val % 8, t.val / 8] ∧ win0_2.index t = ![0, t.val / 8] :=
  (by decide +kernel : ∀ t : Fin grid0.N, _)

theorem zero_at (j : S1024x1408.Idx) : k0_pay1 (F := Ideal) j = 0 := by pointwise [k0_pay1]

/-- One point adds the product of its two blocks. -/
theorem add_at (a : Vec Ideal S1024x1408 .f32) (x : Vec Ideal S1024x1024 .bf16) (w : Vec Ideal S1024x1408 .bf16) (j : S1024x1408.Idx) :
    k0_pay2 (F := Ideal) a x w j = a j + ∑ k : Fin 1024, x (ix2 k (j 0)) * w (ix2 k (j 1)) := by
  pointwise [k0_pay2]

theorem reference_at (x : Vec Ideal S8192x1024 .bf16) (w : Vec Ideal S8192x2816 .bf16) (j : S1024x2816.Idx) :
    val_main_v5 (F := Ideal) x w j = ∑ k : Fin 8192, x (ix2 k (j 0)) * w (ix2 k (j 1)) := by
  pointwise [val_main_v5, val_main_v4, val_main_v1, val_main_v3]
  exact Finset.sum_congr rfl fun k _ => mul_comm _ _

theorem held (x : Vec Ideal S1024x1408 .f32) : View.read (Elt Ideal) (View.whole cc0_scratch0) ((Memref.isWhole_whole cc0_scratch0).unread x) = x :=
  (Memref.isWhole_whole cc0_scratch0).read_unread x

/-- The last of a run's points writes out what it has accumulated. -/
theorem written (t : Fin cfg0.N) (h : t.val % 8 = 7) : (outsAt0 m c t.val t.isLt).1 = (outsAt0 m c t.val t.isLt).2 := by
  rw [outsAt0_C m c t (by omega) h]
  frame_out

theorem result : (dats m 0 c).arrAt 2 cfg0.N = val_main_v5 (F := Ideal) (m ((c : Thread nD τ).loc main_arg0)) (m ((c : Thread nD τ).loc main_arg1)) := by
  refine (dats m 0 c).arrAt_eq_of_covers 2 _ (by decide +kernel) fun t hf y => ?_
  have hl : t.val % 8 = 7 := (flush0_2 t).mp hf
  blk_simp
  rw [after0_2, written m c t hl, Pipeline.eq_sum_fin_of_reset_step_apply_of_flush (fun n h => (outsAt0 m c n h).2) 8 (fun _ => 0) _
    (fun t h j => by rw [outsAt0_A m c t h (by omega)]; frame_out; rw [add_at, zero_at])
    (fun t h j => by
      by_cases hl : t.val % 8 = 7
      · rw [outsAt0_C m c t h hl]; frame_out; rw [add_at, held]
      · rw [outsAt0_B m c t h hl]; frame_out; rw [add_at, held]) t hl _, zero_add, reference_at]
  refine Fin.sum_mul_add_congr fun s k hk => ?_
  blk_point [iblk, V, idx t, idx ⟨_, Pipeline.run_point_lt_of_flush t hl s⟩]

end Cert.UpDwIdeal.Hand

end
-- ==== Proof.Products.UpDx.lean ====
/-
  The gradient of the up projection's gate half with respect to its input, over the extended reals.
-/
module

public import proofs.«01_k».proof.Proof.Gen.UpDxIdeal.Frame
public import proofs.«01_k».proof.Proof.Gen.UpDxReferenceIdeal.Read
public import Idealize.ShloMosaic.Lib.Pipeline.ValueKit
public import Idealize.ShloMosaic.Lib.Pointwise

@[expose] public section

set_option maxRecDepth 16384

noncomputable section

namespace Cert.UpDxIdeal.Hand

open Cert.UpDxIdeal Cert.UpDxIdeal.Gen
open Cert.UpDxReferenceIdeal.Read (val_main_v5 val_main_v2 val_main_v1 val_main_v4)
open Idealize.ShloMosaic Idealize.ShloMosaic.TcCoe Idealize.ShloMosaic.Tactic

variable (m : (ℓ : Loc nD τ sig) → Buf (Elt Ideal) ℓ) (c : Dev nD)

/-- Where the windows' blocks lie at a point. -/
theorem idx : ∀ t : Fin cfg0.N, win0_0.index t = ![t.val, 0] ∧ win0_1.index t = ![0, 0] ∧ win0_2.index t = ![t.val, 0] :=
  (by decide +kernel : ∀ t : Fin grid0.N, _)

theorem result : (dats m 0 c).arrAt 2 cfg0.N = val_main_v5 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  unfold outsAt0
  frame_out
  pointwise [k0_pay2, k0_pay1, val_main_v5, val_main_v2, val_main_v1, val_main_v4]
  blk_point [iblk, V, idx t]

end Cert.UpDxIdeal.Hand

end
-- ==== Proof.Products.Up.lean ====
/-
  The forward product of a layer's normed activations with its up projection, over the extended reals.
-/
module

public import proofs.«01_k».proof.Proof.Gen.UpIdeal.Frame
public import proofs.«01_k».proof.Proof.Gen.UpReferenceIdeal.Read
public import Idealize.ShloMosaic.Lib.Pipeline.ValueKit
public import Idealize.ShloMosaic.Lib.Pointwise

@[expose] public section

set_option maxRecDepth 16384

noncomputable section

namespace Cert.UpIdeal.Hand

open Cert.UpIdeal Cert.UpIdeal.Gen
open Cert.UpReferenceIdeal.Read (val_main_v2 val_main_v1 val_main_v0)
open Idealize.ShloMosaic Idealize.ShloMosaic.TcCoe Idealize.ShloMosaic.Tactic

variable (m : (ℓ : Loc nD τ sig) → Buf (Elt Ideal) ℓ) (c : Dev nD)

/-- Where the windows' blocks lie at a point. -/
theorem idx : ∀ t : Fin cfg0.N, win0_0.index t = ![t.val / 4, 0] ∧ win0_1.index t = ![0, t.val % 4] ∧ win0_2.index t = ![t.val / 4, t.val % 4] :=
  (by decide +kernel : ∀ t : Fin grid0.N, _)

theorem result : (dats m 0 c).arrAt 2 cfg0.N = val_main_v2 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  unfold outsAt0
  frame_out
  pointwise [k0_pay2, k0_pay1, val_main_v2, val_main_v1, val_main_v0]
  blk_point [iblk, V, idx t]

end Cert.UpIdeal.Hand

end
-- ==== Proof.Products.Down.lean ====
/-
  The forward product of a layer's gated activations with its down projection, and the residual, over the extended reals.
-/
module

public import proofs.«01_k».proof.Proof.Gen.DownIdeal.Frame
public import proofs.«01_k».proof.Proof.Gen.DownReferenceIdeal.Read
public import Idealize.ShloMosaic.Lib.Pipeline.ValueKit
public import Idealize.ShloMosaic.Lib.Pointwise

@[expose] public section

set_option maxRecDepth 16384

noncomputable section

namespace Cert.DownIdeal.Hand

open Cert.DownIdeal Cert.DownIdeal.Gen
open Cert.DownReferenceIdeal.Read (val_main_v3 val_main_v2 val_main_v1 val_main_v0)
open Idealize.ShloMosaic Idealize.ShloMosaic.TcCoe Idealize.ShloMosaic.Tactic

variable (m : (ℓ : Loc nD τ sig) → Buf (Elt Ideal) ℓ) (c : Dev nD)

/-- Where the windows' blocks lie at a point. -/
theorem idx : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

theorem result : (dats m 0 c).arrAt 3 cfg0.N = val_main_v3 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  unfold outsAt0
  frame_out
  pointwise [k0_pay3, k0_pay2, k0_pay1, val_main_v3, val_main_v2, val_main_v1, val_main_v0]
  refine (add_comm (G := EReal) _ _).trans ?_
  blk_point [iblk, V, idx t]

end Cert.DownIdeal.Hand

end
-- ==== Proof.Products.SquareDw.lean ====
/-
  The gradient of a square product with respect to its weights, over the extended reals: the sum over the eight
  blocks of tokens is the sum over the tokens.
-/
module

public import proofs.«01_k».proof.Proof.Gen.SquareDwIdeal.Frame
public import proofs.«01_k».proof.Proof.Gen.SquareDwReferenceIdeal.Read
public import Idealize.ShloMosaic.Lib.Pipeline.ValueKit
public import Idealize.ShloMosaic.Lib.Pointwise

@[expose] public section

set_option maxRecDepth 16384

noncomputable section

namespace Cert.SquareDwIdeal.Hand

open Cert.SquareDwIdeal Cert.SquareDwIdeal.Gen
open Cert.SquareDwReferenceIdeal.Read (val_main_v5 val_main_v4 val_main_v1 val_main_v3)
open Idealize.ShloMosaic Idealize.ShloMosaic.TcCoe Idealize.ShloMosaic.Tactic

variable (m : (ℓ : Loc nD τ sig) → Buf (Elt Ideal) ℓ) (c : Dev nD)

/-- Where the windows' blocks lie at a point. -/
theorem idx : ∀ t : Fin cfg0.N, win0_0.index t = ![t.val, 0] ∧ win0_1.index t = ![t.val, 0] ∧ win0_2.index t = ![0, 0] :=
  (by decide +kernel : ∀ t : Fin grid0.N, _)

theorem zero_at (j : S1024x1024.Idx) : k0_pay1 (F := Ideal) j = 0 := by pointwise [k0_pay1]

/-- One point adds the product of its two blocks. -/
theorem add_at (a : Vec Ideal S1024x1024 .f32) (x : Vec Ideal S1024x1024 .bf16) (w : Vec Ideal S1024x1024 .bf16) (j : S1024x1024.Idx) :
    k0_pay2 (F := Ideal) a x w j = a j + ∑ k : Fin 1024, x (ix2 k (j 0)) * w (ix2 k (j 1)) := by
  pointwise [k0_pay2]

theorem reference_at (x : Vec Ideal S8192x1024 .bf16) (w : Vec Ideal S8192x1024 .bf16) (j : S1024x1024.Idx) :
    val_main_v5 (F := Ideal) x w j = ∑ k : Fin 8192, x (ix2 k (j 0)) * w (ix2 k (j 1)) := by
  pointwise [val_main_v5, val_main_v4, val_main_v1, val_main_v3]
  exact Finset.sum_congr rfl fun k _ => mul_comm _ _

theorem held (x : Vec Ideal S1024x1024 .f32) : View.read (Elt Ideal) (View.whole cc0_scratch0) ((Memref.isWhole_whole cc0_scratch0).unread x) = x :=
  (Memref.isWhole_whole cc0_scratch0).read_unread x

/-- The last of a run's points writes out what it has accumulated. -/
theorem written (t : Fin cfg0.N) (h : t.val % 8 = 7) : (outsAt0 m c t.val t.isLt).1 = (outsAt0 m c t.val t.isLt).2 := by
  rw [outsAt0_C m c t (by omega) h]
  frame_out

theorem result : (dats m 0 c).arrAt 2 cfg0.N = val_main_v5 (F := Ideal) (m ((c : Thread nD τ).loc main_arg0)) (m ((c : Thread nD τ).loc main_arg1)) := by
  refine (dats m 0 c).arrAt_eq_of_covers 2 _ (by decide +kernel) fun t hf y => ?_
  have hl : t.val % 8 = 7 := (flush0_2 t).mp hf
  blk_simp
  rw [after0_2, written m c t hl, Pipeline.eq_sum_fin_of_reset_step_apply_of_flush (fun n h => (outsAt0 m c n h).2) 8 (fun _ => 0) _
    (fun t h j => by rw [outsAt0_A m c t h (by omega)]; frame_out; rw [add_at, zero_at])
    (fun t h j => by
      by_cases hl : t.val % 8 = 7
      · rw [outsAt0_C m c t h hl]; frame_out; rw [add_at, held]
      · rw [outsAt0_B m c t h hl]; frame_out; rw [add_at, held]) t hl _, zero_add, reference_at]
  refine Fin.sum_mul_add_congr fun s k hk => ?_
  blk_point [iblk, V, idx t, idx ⟨_, Pipeline.run_point_lt_of_flush t hl s⟩]

end Cert.SquareDwIdeal.Hand

end
-- ==== Proof.Products.KvDw.lean ====
/-
  The gradient of the keys' and values' projection with respect to its weights, over the extended reals: the sum over the eight
  blocks of tokens is the sum over the tokens.
-/
module

public import proofs.«01_k».proof.Proof.Gen.KvDwIdeal.Frame
public import proofs.«01_k».proof.Proof.Gen.KvDwReferenceIdeal.Read
public import Idealize.ShloMosaic.Lib.Pipeline.ValueKit
public import Idealize.ShloMosaic.Lib.Pointwise

@[expose] public section

set_option maxRecDepth 16384

noncomputable section

namespace Cert.KvDwIdeal.Hand

open Cert.KvDwIdeal Cert.KvDwIdeal.Gen
open Cert.KvDwReferenceIdeal.Read (val_main_v4 val_main_v3 val_main_v1)
open Idealize.ShloMosaic Idealize.ShloMosaic.TcCoe Idealize.ShloMosaic.Tactic

variable (m : (ℓ : Loc nD τ sig) → Buf (Elt Ideal) ℓ) (c : Dev nD)

/-- Where the windows' blocks lie at a point. -/
theorem idx : ∀ t : Fin cfg0.N, win0_0.index t = ![t.val % 8, 0] ∧ win0_1.index t = ![t.val % 8, t.val / 8] ∧ win0_2.index t = ![0, t.val / 8] :=
  (by decide +kernel : ∀ t : Fin grid0.N, _)

theorem zero_at (j : S1024x1024.Idx) : k0_pay1 (F := Ideal) j = 0 := by pointwise [k0_pay1]

/-- One point adds the product of its two blocks. -/
theorem add_at (a : Vec Ideal S1024x1024 .f32) (x : Vec Ideal S1024x1024 .bf16) (w : Vec Ideal S1024x1024 .f32) (j : S1024x1024.Idx) :
    k0_pay2 (F := Ideal) a x w j = a j + ∑ k : Fin 1024, x (ix2 k (j 0)) * w (ix2 k (j 1)) := by
  pointwise [k0_pay2]

theorem reference_at (x : Vec Ideal S8192x1024 .bf16) (w : Vec Ideal S8192x2048 .f32) (j : S1024x2048.Idx) :
    val_main_v4 (F := Ideal) x w j = ∑ k : Fin 8192, x (ix2 k (j 0)) * w (ix2 k (j 1)) := by
  pointwise [val_main_v4, val_main_v3, val_main_v1]
  exact Finset.sum_congr rfl fun k _ => mul_comm _ _

theorem held (x : Vec Ideal S1024x1024 .f32) : View.read (Elt Ideal) (View.whole cc0_scratch0) ((Memref.isWhole_whole cc0_scratch0).unread x) = x :=
  (Memref.isWhole_whole cc0_scratch0).read_unread x

/-- The last of a run's points writes out what it has accumulated. -/
theorem written (t : Fin cfg0.N) (h : t.val % 8 = 7) : (outsAt0 m c t.val t.isLt).1 = (outsAt0 m c t.val t.isLt).2 := by
  rw [outsAt0_C m c t (by omega) h]
  frame_out

theorem result : (dats m 0 c).arrAt 2 cfg0.N = val_main_v4 (F := Ideal) (m ((c : Thread nD τ).loc main_arg0)) (m ((c : Thread nD τ).loc main_arg1)) := by
  refine (dats m 0 c).arrAt_eq_of_covers 2 _ (by decide +kernel) fun t hf y => ?_
  have hl : t.val % 8 = 7 := (flush0_2 t).mp hf
  blk_simp
  rw [after0_2, written m c t hl, Pipeline.eq_sum_fin_of_reset_step_apply_of_flush (fun n h => (outsAt0 m c n h).2) 8 (fun _ => 0) _
    (fun t h j => by rw [outsAt0_A m c t h (by omega)]; frame_out; rw [add_at, zero_at])
    (fun t h j => by
      by_cases hl : t.val % 8 = 7
      · rw [outsAt0_C m c t h hl]; frame_out; rw [add_at, held]
      · rw [outsAt0_B m c t h hl]; frame_out; rw [add_at, held]) t hl _, zero_add, reference_at]
  refine Fin.sum_mul_add_congr fun s k hk => ?_
  blk_point [iblk, V, idx t, idx ⟨_, Pipeline.run_point_lt_of_flush t hl s⟩]

end Cert.KvDwIdeal.Hand

end
-- ==== Proof.Products.PleProjDw.lean ====
/-
  The gradient of the per-layer embeddings' projection with respect to its weights, over the extended reals: the sum over the eight
  blocks of tokens is the sum over the tokens.
-/
module

public import proofs.«01_k».proof.Proof.Gen.PleProjDwIdeal.Frame
public import proofs.«01_k».proof.Proof.Gen.PleProjDwReferenceIdeal.Read
public import Idealize.ShloMosaic.Lib.Pipeline.ValueKit
public import Idealize.ShloMosaic.Lib.Pointwise

@[expose] public section

set_option maxRecDepth 16384

noncomputable section

namespace Cert.PleProjDwIdeal.Hand

open Cert.PleProjDwIdeal Cert.PleProjDwIdeal.Gen
open Cert.PleProjDwReferenceIdeal.Read (val_main_v4 val_main_v3 val_main_v2)
open Idealize.ShloMosaic Idealize.ShloMosaic.TcCoe Idealize.ShloMosaic.Tactic

variable (m : (ℓ : Loc nD τ sig) → Buf (Elt Ideal) ℓ) (c : Dev nD)

/-- Where the windows' blocks lie at a point. -/
theorem idx : ∀ t : Fin cfg0.N, win0_0.index t = ![t.val, 0] ∧ win0_1.index t = ![t.val, 0] ∧ win0_2.index t = ![0, 0] :=
  (by decide +kernel : ∀ t : Fin grid0.N, _)

theorem zero_at (j : S256x1024.Idx) : k0_pay1 (F := Ideal) j = 0 := by pointwise [k0_pay1]

/-- One point adds the product of its two blocks. -/
theorem add_at (a : Vec Ideal S256x1024 .f32) (x : Vec Ideal S1024x256 .f32) (w : Vec Ideal S1024x1024 .bf16) (j : S256x1024.Idx) :
    k0_pay2 (F := Ideal) a x w j = a j + ∑ k : Fin 1024, x (ix2 k (j 0)) * w (ix2 k (j 1)) := by
  pointwise [k0_pay2]

theorem reference_at (x : Vec Ideal S8192x256 .f32) (w : Vec Ideal S8192x1024 .bf16) (j : S256x1024.Idx) :
    val_main_v4 (F := Ideal) x w j = ∑ k : Fin 8192, x (ix2 k (j 0)) * w (ix2 k (j 1)) := by
  pointwise [val_main_v4, val_main_v3, val_main_v2]
  exact Finset.sum_congr rfl fun k _ => mul_comm _ _

theorem held (x : Vec Ideal S256x1024 .f32) : View.read (Elt Ideal) (View.whole cc0_scratch0) ((Memref.isWhole_whole cc0_scratch0).unread x) = x :=
  (Memref.isWhole_whole cc0_scratch0).read_unread x

/-- The last of a run's points writes out what it has accumulated. -/
theorem written (t : Fin cfg0.N) (h : t.val % 8 = 7) : (outsAt0 m c t.val t.isLt).1 = (outsAt0 m c t.val t.isLt).2 := by
  rw [outsAt0_C m c t (by omega) h]
  frame_out

theorem result : (dats m 0 c).arrAt 2 cfg0.N = val_main_v4 (F := Ideal) (m ((c : Thread nD τ).loc main_arg0)) (m ((c : Thread nD τ).loc main_arg1)) := by
  refine (dats m 0 c).arrAt_eq_of_covers 2 _ (by decide +kernel) fun t hf y => ?_
  have hl : t.val % 8 = 7 := (flush0_2 t).mp hf
  blk_simp
  rw [after0_2, written m c t hl, Pipeline.eq_sum_fin_of_reset_step_apply_of_flush (fun n h => (outsAt0 m c n h).2) 8 (fun _ => 0) _
    (fun t h j => by rw [outsAt0_A m c t h (by omega)]; frame_out; rw [add_at, zero_at])
    (fun t h j => by
      by_cases hl : t.val % 8 = 7
      · rw [outsAt0_C m c t h hl]; frame_out; rw [add_at, held]
      · rw [outsAt0_B m c t h hl]; frame_out; rw [add_at, held]) t hl _, zero_add, reference_at]
  refine Fin.sum_mul_add_congr fun s k hk => ?_
  blk_point [iblk, V, idx t, idx ⟨_, Pipeline.run_point_lt_of_flush t hl s⟩]

end Cert.PleProjDwIdeal.Hand

end
-- ==== Proof.Products.AttnOutDx.lean ====
/-
  The gradient of the attention's output projection with respect to its input, over the extended reals.
-/
module

public import proofs.«01_k».proof.Proof.Gen.AttnOutDxIdeal.Frame
public import proofs.«01_k».proof.Proof.Gen.AttnOutDxReferenceIdeal.Read
public import Idealize.ShloMosaic.Lib.Pipeline.ValueKit
public import Idealize.ShloMosaic.Lib.Pointwise

@[expose] public section

set_option maxRecDepth 16384

noncomputable section

namespace Cert.AttnOutDxIdeal.Hand

open Cert.AttnOutDxIdeal Cert.AttnOutDxIdeal.Gen
open Cert.AttnOutDxReferenceIdeal.Read (val_main_v5 val_main_v4 val_main_v1 val_main_v3)
open Idealize.ShloMosaic Idealize.ShloMosaic.TcCoe Idealize.ShloMosaic.Tactic

variable (m : (ℓ : Loc nD τ sig) → Buf (Elt Ideal) ℓ) (c : Dev nD)

/-- Where the windows' blocks lie at a point. -/
theorem idx : ∀ t : Fin cfg0.N, win0_0.index t = ![t.val, 0] ∧ win0_1.index t = ![0, 0] ∧ win0_2.index t = ![t.val, 0] :=
  (by decide +kernel : ∀ t : Fin grid0.N, _)

theorem result : (dats m 0 c).arrAt 2 cfg0.N = val_main_v5 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  unfold outsAt0
  frame_out
  pointwise [k0_pay3, k0_pay2, k0_pay1, val_main_v5, val_main_v4, val_main_v1, val_main_v3]
  blk_point [iblk, V, idx t]

end Cert.AttnOutDxIdeal.Hand

end
-- ==== Proof.Products.SsmOutDw.lean ====
/-
  The gradient of a Mamba-2 layer's output projection with respect to its weights, over the extended reals: the sum over the eight
  blocks of tokens is the sum over the tokens.
-/
module

public import proofs.«01_k».proof.Proof.Gen.SsmOutDwIdeal.Frame
public import proofs.«01_k».proof.Proof.Gen.SsmOutDwReferenceIdeal.Read
public import Idealize.ShloMosaic.Lib.Pipeline.ValueKit
public import Idealize.ShloMosaic.Lib.Pointwise

@[expose] public section

set_option maxRecDepth 16384

noncomputable section

namespace Cert.SsmOutDwIdeal.Hand

open Cert.SsmOutDwIdeal Cert.SsmOutDwIdeal.Gen
open Cert.SsmOutDwReferenceIdeal.Read (val_main_v5 val_main_v4 val_main_v1 val_main_v3)
open Idealize.ShloMosaic Idealize.ShloMosaic.TcCoe Idealize.ShloMosaic.Tactic

variable (m : (ℓ : Loc nD τ sig) → Buf (Elt Ideal) ℓ) (c : Dev nD)

/-- Where the windows' blocks lie at a point. -/
theorem idx : ∀ t : Fin cfg0.N, win0_0.index t = ![t.val % 8, t.val / 8] ∧ win0_1.index t = ![t.val % 8, 0] ∧ win0_2.index t = ![t.val / 8, 0] :=
  (by decide +kernel : ∀ t : Fin grid0.N, _)

theorem zero_at (j : S1024x1024.Idx) : k0_pay1 (F := Ideal) j = 0 := by pointwise [k0_pay1]

/-- One point adds the product of its two blocks. -/
theorem add_at (a : Vec Ideal S1024x1024 .f32) (x : Vec Ideal S1024x1024 .bf16) (w : Vec Ideal S1024x1024 .bf16) (j : S1024x1024.Idx) :
    k0_pay2 (F := Ideal) a x w j = a j + ∑ k : Fin 1024, x (ix2 k (j 0)) * w (ix2 k (j 1)) := by
  pointwise [k0_pay2]

theorem reference_at (x : Vec Ideal S8192x2048 .bf16) (w : Vec Ideal S8192x1024 .bf16) (j : S2048x1024.Idx) :
    val_main_v5 (F := Ideal) x w j = ∑ k : Fin 8192, x (ix2 k (j 0)) * w (ix2 k (j 1)) := by
  pointwise [val_main_v5, val_main_v4, val_main_v1, val_main_v3]
  exact Finset.sum_congr rfl fun k _ => mul_comm _ _

theorem held (x : Vec Ideal S1024x1024 .f32) : View.read (Elt Ideal) (View.whole cc0_scratch0) ((Memref.isWhole_whole cc0_scratch0).unread x) = x :=
  (Memref.isWhole_whole cc0_scratch0).read_unread x

/-- The last of a run's points writes out what it has accumulated. -/
theorem written (t : Fin cfg0.N) (h : t.val % 8 = 7) : (outsAt0 m c t.val t.isLt).1 = (outsAt0 m c t.val t.isLt).2 := by
  rw [outsAt0_C m c t (by omega) h]
  frame_out

theorem result : (dats m 0 c).arrAt 2 cfg0.N = val_main_v5 (F := Ideal) (m ((c : Thread nD τ).loc main_arg0)) (m ((c : Thread nD τ).loc main_arg1)) := by
  refine (dats m 0 c).arrAt_eq_of_covers 2 _ (by decide +kernel) fun t hf y => ?_
  have hl : t.val % 8 = 7 := (flush0_2 t).mp hf
  blk_simp
  rw [after0_2, written m c t hl, Pipeline.eq_sum_fin_of_reset_step_apply_of_flush (fun n h => (outsAt0 m c n h).2) 8 (fun _ => 0) _
    (fun t h j => by rw [outsAt0_A m c t h (by omega)]; frame_out; rw [add_at, zero_at])
    (fun t h j => by
      by_cases hl : t.val % 8 = 7
      · rw [outsAt0_C m c t h hl]; frame_out; rw [add_at, held]
      · rw [outsAt0_B m c t h hl]; frame_out; rw [add_at, held]) t hl _, zero_add, reference_at]
  refine Fin.sum_mul_add_congr fun s k hk => ?_
  blk_point [iblk, V, idx t, idx ⟨_, Pipeline.run_point_lt_of_flush t hl s⟩]

end Cert.SsmOutDwIdeal.Hand

end
-- ==== Proof.Products.SsmOutDx.lean ====
/-
  The gradient of a Mamba-2 layer's output projection with respect to its input, over the extended reals.
-/
module

public import proofs.«01_k».proof.Proof.Gen.SsmOutDxIdeal.Frame
public import proofs.«01_k».proof.Proof.Gen.SsmOutDxReferenceIdeal.Read
public import Idealize.ShloMosaic.Lib.Pipeline.ValueKit
public import Idealize.ShloMosaic.Lib.Pointwise

@[expose] public section

set_option maxRecDepth 16384

noncomputable section

namespace Cert.SsmOutDxIdeal.Hand

open Cert.SsmOutDxIdeal Cert.SsmOutDxIdeal.Gen
open Cert.SsmOutDxReferenceIdeal.Read (val_main_v4 val_main_v1 val_main_v3)
open Idealize.ShloMosaic Idealize.ShloMosaic.TcCoe Idealize.ShloMosaic.Tactic

variable (m : (ℓ : Loc nD τ sig) → Buf (Elt Ideal) ℓ) (c : Dev nD)

/-- Where the windows' blocks lie at a point. -/
theorem idx : ∀ t : Fin cfg0.N, win0_0.index t = ![t.val / 2, 0] ∧ win0_1.index t = ![t.val % 2, 0] ∧ win0_2.index t = ![t.val / 2, t.val % 2] :=
  (by decide +kernel : ∀ t : Fin grid0.N, _)

theorem result : (dats m 0 c).arrAt 2 cfg0.N = val_main_v4 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  unfold outsAt0
  frame_out
  pointwise [k0_pay2, k0_pay1, val_main_v4, val_main_v1, val_main_v3]
  blk_point [iblk, V, idx t]

end Cert.SsmOutDxIdeal.Hand

end
-- ==== Proof.Products.SsmZDw.lean ====
/-
  The gradient of a Mamba-2 layer's first projection (gate columns) with respect to its weights, over the extended reals: the sum over the eight
  blocks of tokens is the sum over the tokens.
-/
module

public import proofs.«01_k».proof.Proof.Gen.SsmZDwIdeal.Frame
public import proofs.«01_k».proof.Proof.Gen.SsmZDwReferenceIdeal.Read
public import Idealize.ShloMosaic.Lib.Pipeline.ValueKit
public import Idealize.ShloMosaic.Lib.Pointwise

@[expose] public section

set_option maxRecDepth 16384

noncomputable section

namespace Cert.SsmZDwIdeal.Hand

open Cert.SsmZDwIdeal Cert.SsmZDwIdeal.Gen
open Cert.SsmZDwReferenceIdeal.Read (val_main_v5 val_main_v4 val_main_v1 val_main_v3)
open Idealize.ShloMosaic Idealize.ShloMosaic.TcCoe Idealize.ShloMosaic.Tactic

variable (m : (ℓ : Loc nD τ sig) → Buf (Elt Ideal) ℓ) (c : Dev nD)

/-- Where the windows' blocks lie at a point. -/
theorem idx : ∀ t : Fin cfg0.N, win0_0.index t = ![t.val % 8, 0] ∧ win0_1.index t = ![t.val % 8, t.val / 8] ∧ win0_2.index t = ![0, t.val / 8] :=
  (by decide +kernel : ∀ t : Fin grid0.N, _)

theorem zero_at (j : S1024x1024.Idx) : k0_pay1 (F := Ideal) j = 0 := by pointwise [k0_pay1]

/-- One point adds the product of its two blocks. -/
theorem add_at (a : Vec Ideal S1024x1024 .f32) (x : Vec Ideal S1024x1024 .bf16) (w : Vec Ideal S1024x1024 .bf16) (j : S1024x1024.Idx) :
    k0_pay2 (F := Ideal) a x w j = a j + ∑ k : Fin 1024, x (ix2 k (j 0)) * w (ix2 k (j 1)) := by
  pointwise [k0_pay2]

theorem reference_at (x : Vec Ideal S8192x1024 .bf16) (w : Vec Ideal S8192x2048 .bf16) (j : S1024x2048.Idx) :
    val_main_v5 (F := Ideal) x w j = ∑ k : Fin 8192, x (ix2 k (j 0)) * w (ix2 k (j 1)) := by
  pointwise [val_main_v5, val_main_v4, val_main_v1, val_main_v3]
  exact Finset.sum_congr rfl fun k _ => mul_comm _ _

theorem held (x : Vec Ideal S1024x1024 .f32) : View.read (Elt Ideal) (View.whole cc0_scratch0) ((Memref.isWhole_whole cc0_scratch0).unread x) = x :=
  (Memref.isWhole_whole cc0_scratch0).read_unread x

/-- The last of a run's points writes out what it has accumulated. -/
theorem written (t : Fin cfg0.N) (h : t.val % 8 = 7) : (outsAt0 m c t.val t.isLt).1 = (outsAt0 m c t.val t.isLt).2 := by
  rw [outsAt0_C m c t (by omega) h]
  frame_out

theorem result : (dats m 0 c).arrAt 2 cfg0.N = val_main_v5 (F := Ideal) (m ((c : Thread nD τ).loc main_arg0)) (m ((c : Thread nD τ).loc main_arg1)) := by
  refine (dats m 0 c).arrAt_eq_of_covers 2 _ (by decide +kernel) fun t hf y => ?_
  have hl : t.val % 8 = 7 := (flush0_2 t).mp hf
  blk_simp
  rw [after0_2, written m c t hl, Pipeline.eq_sum_fin_of_reset_step_apply_of_flush (fun n h => (outsAt0 m c n h).2) 8 (fun _ => 0) _
    (fun t h j => by rw [outsAt0_A m c t h (by omega)]; frame_out; rw [add_at, zero_at])
    (fun t h j => by
      by_cases hl : t.val % 8 = 7
      · rw [outsAt0_C m c t h hl]; frame_out; rw [add_at, held]
      · rw [outsAt0_B m c t h hl]; frame_out; rw [add_at, held]) t hl _, zero_add, reference_at]
  refine Fin.sum_mul_add_congr fun s k hk => ?_
  blk_point [iblk, V, idx t, idx ⟨_, Pipeline.run_point_lt_of_flush t hl s⟩]

end Cert.SsmZDwIdeal.Hand

end
-- ==== Proof.Products.SsmZDx.lean ====
/-
  The gradient of a Mamba-2 layer's first projection (gate columns) with respect to its input, over the extended reals.
-/
module

public import proofs.«01_k».proof.Proof.Gen.SsmZDxIdeal.Frame
public import proofs.«01_k».proof.Proof.Gen.SsmZDxReferenceIdeal.Read
public import Idealize.ShloMosaic.Lib.Pipeline.ValueKit
public import Idealize.ShloMosaic.Lib.Pointwise

@[expose] public section

set_option maxRecDepth 16384

noncomputable section

namespace Cert.SsmZDxIdeal.Hand

open Cert.SsmZDxIdeal Cert.SsmZDxIdeal.Gen
open Cert.SsmZDxReferenceIdeal.Read (val_main_v5 val_main_v2 val_main_v0 val_main_v4)
open Idealize.ShloMosaic Idealize.ShloMosaic.TcCoe Idealize.ShloMosaic.Tactic

variable (m : (ℓ : Loc nD τ sig) → Buf (Elt Ideal) ℓ) (c : Dev nD)

/-- Where the windows' blocks lie at a point. -/
theorem idx : ∀ t : Fin cfg0.N, win0_0.index t = ![t.val, 0] ∧ win0_1.index t = ![0, 0] ∧ win0_2.index t = ![t.val, 0] :=
  (by decide +kernel : ∀ t : Fin grid0.N, _)

theorem result : (dats m 0 c).arrAt 2 cfg0.N = val_main_v5 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  unfold outsAt0
  frame_out
  pointwise [k0_pay2, k0_pay1, val_main_v5, val_main_v2, val_main_v0, val_main_v4]
  blk_point [iblk, V, idx t]

end Cert.SsmZDxIdeal.Hand

end
-- ==== Proof.Products.SsmDtDw.lean ====
/-
  The gradient of a Mamba-2 layer's first projection (step columns) with respect to its weights, over the extended reals: the sum over the eight
  blocks of tokens is the sum over the tokens.
-/
module

public import proofs.«01_k».proof.Proof.Gen.SsmDtDwIdeal.Frame
public import proofs.«01_k».proof.Proof.Gen.SsmDtDwReferenceIdeal.Read
public import Idealize.ShloMosaic.Lib.Pipeline.ValueKit
public import Idealize.ShloMosaic.Lib.Pointwise

@[expose] public section

set_option maxRecDepth 16384

noncomputable section

namespace Cert.SsmDtDwIdeal.Hand

open Cert.SsmDtDwIdeal Cert.SsmDtDwIdeal.Gen
open Cert.SsmDtDwReferenceIdeal.Read (val_main_v5 val_main_v4 val_main_v1 val_main_v3)
open Idealize.ShloMosaic Idealize.ShloMosaic.TcCoe Idealize.ShloMosaic.Tactic

variable (m : (ℓ : Loc nD τ sig) → Buf (Elt Ideal) ℓ) (c : Dev nD)

/-- Where the windows' blocks lie at a point. -/
theorem idx : ∀ t : Fin cfg0.N, win0_0.index t = ![t.val, 0] ∧ win0_1.index t = ![t.val, 0] ∧ win0_2.index t = ![0, 0] :=
  (by decide +kernel : ∀ t : Fin grid0.N, _)

theorem zero_at (j : S1024x512.Idx) : k0_pay1 (F := Ideal) j = 0 := by pointwise [k0_pay1]

/-- One point adds the product of its two blocks. -/
theorem add_at (a : Vec Ideal S1024x512 .f32) (x : Vec Ideal S1024x1024 .bf16) (w : Vec Ideal S1024x512 .bf16) (j : S1024x512.Idx) :
    k0_pay2 (F := Ideal) a x w j = a j + ∑ k : Fin 1024, x (ix2 k (j 0)) * w (ix2 k (j 1)) := by
  pointwise [k0_pay2]

theorem reference_at (x : Vec Ideal S8192x1024 .bf16) (w : Vec Ideal S8192x512 .bf16) (j : S1024x512.Idx) :
    val_main_v5 (F := Ideal) x w j = ∑ k : Fin 8192, x (ix2 k (j 0)) * w (ix2 k (j 1)) := by
  pointwise [val_main_v5, val_main_v4, val_main_v1, val_main_v3]
  exact Finset.sum_congr rfl fun k _ => mul_comm _ _

theorem held (x : Vec Ideal S1024x512 .f32) : View.read (Elt Ideal) (View.whole cc0_scratch0) ((Memref.isWhole_whole cc0_scratch0).unread x) = x :=
  (Memref.isWhole_whole cc0_scratch0).read_unread x

/-- The last of a run's points writes out what it has accumulated. -/
theorem written (t : Fin cfg0.N) (h : t.val % 8 = 7) : (outsAt0 m c t.val t.isLt).1 = (outsAt0 m c t.val t.isLt).2 := by
  rw [outsAt0_C m c t (by omega) h]
  frame_out

theorem result : (dats m 0 c).arrAt 2 cfg0.N = val_main_v5 (F := Ideal) (m ((c : Thread nD τ).loc main_arg0)) (m ((c : Thread nD τ).loc main_arg1)) := by
  refine (dats m 0 c).arrAt_eq_of_covers 2 _ (by decide +kernel) fun t hf y => ?_
  have hl : t.val % 8 = 7 := (flush0_2 t).mp hf
  blk_simp
  rw [after0_2, written m c t hl, Pipeline.eq_sum_fin_of_reset_step_apply_of_flush (fun n h => (outsAt0 m c n h).2) 8 (fun _ => 0) _
    (fun t h j => by rw [outsAt0_A m c t h (by omega)]; frame_out; rw [add_at, zero_at])
    (fun t h j => by
      by_cases hl : t.val % 8 = 7
      · rw [outsAt0_C m c t h hl]; frame_out; rw [add_at, held]
      · rw [outsAt0_B m c t h hl]; frame_out; rw [add_at, held]) t hl _, zero_add, reference_at]
  refine Fin.sum_mul_add_congr fun s k hk => ?_
  blk_point [iblk, V, idx t, idx ⟨_, Pipeline.run_point_lt_of_flush t hl s⟩]

end Cert.SsmDtDwIdeal.Hand

end
-- ==== Proof.Products.SsmDtDx.lean ====
/-
  The gradient of a Mamba-2 layer's first projection (step columns) with respect to its input, added to the gate's, over
  the extended reals.
-/
module

public import proofs.«01_k».proof.Proof.Gen.SsmDtDxIdeal.Frame
public import proofs.«01_k».proof.Proof.Gen.SsmDtDxReferenceIdeal.Read
public import Idealize.ShloMosaic.Lib.Pipeline.ValueKit
public import Idealize.ShloMosaic.Lib.Pointwise

@[expose] public section

set_option maxRecDepth 16384

noncomputable section

namespace Cert.SsmDtDxIdeal.Hand

open Cert.SsmDtDxIdeal Cert.SsmDtDxIdeal.Gen
open Cert.SsmDtDxReferenceIdeal.Read (val_main_v6 val_main_v5 val_main_v2 val_main_v0 val_main_v4)
open Idealize.ShloMosaic Idealize.ShloMosaic.TcCoe Idealize.ShloMosaic.Tactic

variable (m : (ℓ : Loc nD τ sig) → Buf (Elt Ideal) ℓ) (c : Dev nD)

/-- Where the windows' blocks lie at a point. -/
theorem idx : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

theorem result : (dats m 0 c).arrAt 3 cfg0.N = val_main_v6 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  unfold outsAt0
  frame_out
  pointwise [k0_pay3, k0_pay2, k0_pay1, val_main_v6, val_main_v5, val_main_v2, val_main_v0, val_main_v4]
  refine (add_comm (G := EReal) _ _).trans ?_
  blk_point [iblk, V, idx t]

end Cert.SsmDtDxIdeal.Hand

end
-- ==== Proof.Products.SsmXbcDw.lean ====
/-
  The gradient of a Mamba-2 layer's first projection (convolved columns) with respect to its weights, over the extended reals: the sum over the eight
  blocks of tokens is the sum over the tokens.
-/
module

public import proofs.«01_k».proof.Proof.Gen.SsmXbcDwIdeal.Frame
public import proofs.«01_k».proof.Proof.Gen.SsmXbcDwReferenceIdeal.Read
public import Idealize.ShloMosaic.Lib.Pipeline.ValueKit
public import Idealize.ShloMosaic.Lib.Pointwise

@[expose] public section

set_option maxRecDepth 16384

noncomputable section

namespace Cert.SsmXbcDwIdeal.Hand

open Cert.SsmXbcDwIdeal Cert.SsmXbcDwIdeal.Gen
open Cert.SsmXbcDwReferenceIdeal.Read (val_main_v5 val_main_v4 val_main_v1 val_main_v3)
open Idealize.ShloMosaic Idealize.ShloMosaic.TcCoe Idealize.ShloMosaic.Tactic

variable (m : (ℓ : Loc nD τ sig) → Buf (Elt Ideal) ℓ) (c : Dev nD)

/-- Where the windows' blocks lie at a point. -/
theorem idx : ∀ t : Fin cfg0.N, win0_0.index t = ![t.val % 8, 0] ∧ win0_1.index t = ![t.val % 8, t.val / 8] ∧ win0_2.index t = ![0, t.val / 8] :=
  (by decide +kernel : ∀ t : Fin grid0.N, _)

theorem zero_at (j : S1024x1024.Idx) : k0_pay1 (F := Ideal) j = 0 := by pointwise [k0_pay1]

/-- One point adds the product of its two blocks. -/
theorem add_at (a : Vec Ideal S1024x1024 .f32) (x : Vec Ideal S1024x1024 .bf16) (w : Vec Ideal S1024x1024 .bf16) (j : S1024x1024.Idx) :
    k0_pay2 (F := Ideal) a x w j = a j + ∑ k : Fin 1024, x (ix2 k (j 0)) * w (ix2 k (j 1)) := by
  pointwise [k0_pay2]

theorem reference_at (x : Vec Ideal S8192x1024 .bf16) (w : Vec Ideal S8192x3072 .bf16) (j : S1024x3072.Idx) :
    val_main_v5 (F := Ideal) x w j = ∑ k : Fin 8192, x (ix2 k (j 0)) * w (ix2 k (j 1)) := by
  pointwise [val_main_v5, val_main_v4, val_main_v1, val_main_v3]
  exact Finset.sum_congr rfl fun k _ => mul_comm _ _

theorem held (x : Vec Ideal S1024x1024 .f32) : View.read (Elt Ideal) (View.whole cc0_scratch0) ((Memref.isWhole_whole cc0_scratch0).unread x) = x :=
  (Memref.isWhole_whole cc0_scratch0).read_unread x

/-- The last of a run's points writes out what it has accumulated. -/
theorem written (t : Fin cfg0.N) (h : t.val % 8 = 7) : (outsAt0 m c t.val t.isLt).1 = (outsAt0 m c t.val t.isLt).2 := by
  rw [outsAt0_C m c t (by omega) h]
  frame_out

theorem result : (dats m 0 c).arrAt 2 cfg0.N = val_main_v5 (F := Ideal) (m ((c : Thread nD τ).loc main_arg0)) (m ((c : Thread nD τ).loc main_arg1)) := by
  refine (dats m 0 c).arrAt_eq_of_covers 2 _ (by decide +kernel) fun t hf y => ?_
  have hl : t.val % 8 = 7 := (flush0_2 t).mp hf
  blk_simp
  rw [after0_2, written m c t hl, Pipeline.eq_sum_fin_of_reset_step_apply_of_flush (fun n h => (outsAt0 m c n h).2) 8 (fun _ => 0) _
    (fun t h j => by rw [outsAt0_A m c t h (by omega)]; frame_out; rw [add_at, zero_at])
    (fun t h j => by
      by_cases hl : t.val % 8 = 7
      · rw [outsAt0_C m c t h hl]; frame_out; rw [add_at, held]
      · rw [outsAt0_B m c t h hl]; frame_out; rw [add_at, held]) t hl _, zero_add, reference_at]
  refine Fin.sum_mul_add_congr fun s k hk => ?_
  blk_point [iblk, V, idx t, idx ⟨_, Pipeline.run_point_lt_of_flush t hl s⟩]

end Cert.SsmXbcDwIdeal.Hand

end
-- ==== Proof.Products.SsmOut.lean ====
/-
  The output projection of a Mamba-2 layer, and the residual, over the extended reals.
-/
module

public import proofs.«01_k».proof.Proof.Gen.SsmOutIdeal.Frame
public import proofs.«01_k».proof.Proof.Gen.SsmOutReferenceIdeal.Read
public import Idealize.ShloMosaic.Lib.Pipeline.ValueKit
public import Idealize.ShloMosaic.Lib.Pointwise

@[expose] public section

set_option maxRecDepth 16384

noncomputable section

namespace Cert.SsmOutIdeal.Hand

open Cert.SsmOutIdeal Cert.SsmOutIdeal.Gen
open Cert.SsmOutReferenceIdeal.Read (val_main_v3 val_main_v2 val_main_v1 val_main_v0)
open Idealize.ShloMosaic Idealize.ShloMosaic.TcCoe Idealize.ShloMosaic.Tactic

variable (m : (ℓ : Loc nD τ sig) → Buf (Elt Ideal) ℓ) (c : Dev nD)

/-- Where the windows' blocks lie at a point. -/
theorem idx : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

theorem result : (dats m 0 c).arrAt 3 cfg0.N = val_main_v3 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  unfold outsAt0
  frame_out
  pointwise [k0_pay3, k0_pay2, k0_pay1, val_main_v3, val_main_v2, val_main_v1, val_main_v0]
  refine (add_comm (G := EReal) _ _).trans ?_
  blk_point [iblk, V, idx t]

end Cert.SsmOutIdeal.Hand

end
-- ==== Proof.Products.AttnQ.lean ====
/-
  The queries' projection, over the extended reals.
-/
module

public import proofs.«01_k».proof.Proof.Gen.AttnQIdeal.Frame
public import proofs.«01_k».proof.Proof.Gen.AttnQReferenceIdeal.Read
public import Idealize.ShloMosaic.Lib.Pipeline.ValueKit
public import Idealize.ShloMosaic.Lib.Pointwise

@[expose] public section

set_option maxRecDepth 16384

noncomputable section

namespace Cert.AttnQIdeal.Hand

open Cert.AttnQIdeal Cert.AttnQIdeal.Gen
open Cert.AttnQReferenceIdeal.Read (val_main_v3 val_main_v2 val_main_v1 val_main_v0)
open Idealize.ShloMosaic Idealize.ShloMosaic.TcCoe Idealize.ShloMosaic.Tactic

variable (m : (ℓ : Loc nD τ sig) → Buf (Elt Ideal) ℓ) (c : Dev nD)

/-- Where the windows' blocks lie at a point. -/
theorem idx : ∀ t : Fin cfg0.N, win0_0.index t = ![t.val, 0] ∧ win0_1.index t = ![0, 0] ∧ win0_2.index t = ![t.val, 0] :=
  (by decide +kernel : ∀ t : Fin grid0.N, _)

theorem result : (dats m 0 c).arrAt 2 cfg0.N = val_main_v3 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  unfold outsAt0
  frame_out
  pointwise [k0_pay3, k0_pay2, k0_pay1, val_main_v3, val_main_v2, val_main_v1, val_main_v0]
  blk_point [iblk, V, idx t]

end Cert.AttnQIdeal.Hand

end
-- ==== Proof.Products.AttnOut.lean ====
/-
  The attention's output projection, and the residual, over the extended reals.
-/
module

public import proofs.«01_k».proof.Proof.Gen.AttnOutIdeal.Frame
public import proofs.«01_k».proof.Proof.Gen.AttnOutReferenceIdeal.Read
public import Idealize.ShloMosaic.Lib.Pipeline.ValueKit
public import Idealize.ShloMosaic.Lib.Pointwise

@[expose] public section

set_option maxRecDepth 16384

noncomputable section

namespace Cert.AttnOutIdeal.Hand

open Cert.AttnOutIdeal Cert.AttnOutIdeal.Gen
open Cert.AttnOutReferenceIdeal.Read (val_main_v3 val_main_v2 val_main_v1 val_main_v0)
open Idealize.ShloMosaic Idealize.ShloMosaic.TcCoe Idealize.ShloMosaic.Tactic

variable (m : (ℓ : Loc nD τ sig) → Buf (Elt Ideal) ℓ) (c : Dev nD)

/-- Where the windows' blocks lie at a point. -/
theorem idx : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

theorem result : (dats m 0 c).arrAt 3 cfg0.N = val_main_v3 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  unfold outsAt0
  frame_out
  pointwise [k0_pay3, k0_pay2, k0_pay1, val_main_v3, val_main_v2, val_main_v1, val_main_v0]
  refine (add_comm (G := EReal) _ _).trans ?_
  blk_point [iblk, V, idx t]

end Cert.AttnOutIdeal.Hand

end
-- ==== Proof.Products.Kv.lean ====
/-
  The keys' and values' projection, over the extended reals.
-/
module

public import proofs.«01_k».proof.Proof.Gen.KvIdeal.Frame
public import proofs.«01_k».proof.Proof.Gen.KvReferenceIdeal.Read
public import Idealize.ShloMosaic.Lib.Pipeline.ValueKit
public import Idealize.ShloMosaic.Lib.Pointwise

@[expose] public section

set_option maxRecDepth 16384

noncomputable section

namespace Cert.KvIdeal.Hand

open Cert.KvIdeal Cert.KvIdeal.Gen
open Cert.KvReferenceIdeal.Read (val_main_v3 val_main_v2 val_main_v1 val_main_v0)
open Idealize.ShloMosaic Idealize.ShloMosaic.TcCoe Idealize.ShloMosaic.Tactic

variable (m : (ℓ : Loc nD τ sig) → Buf (Elt Ideal) ℓ) (c : Dev nD)

/-- Where the windows' blocks lie at a point. -/
theorem idx : ∀ t : Fin cfg0.N, win0_0.index t = ![t.val / 2, 0] ∧ win0_1.index t = ![0, t.val % 2] ∧ win0_2.index t = ![t.val / 2, t.val % 2] :=
  (by decide +kernel : ∀ t : Fin grid0.N, _)

theorem result : (dats m 0 c).arrAt 2 cfg0.N = val_main_v3 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  unfold outsAt0
  frame_out
  pointwise [k0_pay3, k0_pay2, k0_pay1, val_main_v3, val_main_v2, val_main_v1, val_main_v0]
  blk_point [iblk, V, idx t]

end Cert.KvIdeal.Hand

end
-- ==== Proof.Products.PleGate.lean ====
/-
  The gate's projection of a per-layer embedding, over the extended reals.
-/
module

public import proofs.«01_k».proof.Proof.Gen.PleGateIdeal.Frame
public import proofs.«01_k».proof.Proof.Gen.PleGateReferenceIdeal.Read
public import Idealize.ShloMosaic.Lib.Pipeline.ValueKit
public import Idealize.ShloMosaic.Lib.Pointwise

@[expose] public section

set_option maxRecDepth 16384

noncomputable section

namespace Cert.PleGateIdeal.Hand

open Cert.PleGateIdeal Cert.PleGateIdeal.Gen
open Cert.PleGateReferenceIdeal.Read (val_main_v2 val_main_v1 val_main_v0)
open Idealize.ShloMosaic Idealize.ShloMosaic.TcCoe Idealize.ShloMosaic.Tactic

variable (m : (ℓ : Loc nD τ sig) → Buf (Elt Ideal) ℓ) (c : Dev nD)

/-- Where the windows' blocks lie at a point. -/
theorem idx : ∀ t : Fin cfg0.N, win0_0.index t = ![t.val, 0] ∧ win0_1.index t = ![0, 0] ∧ win0_2.index t = ![t.val, 0] :=
  (by decide +kernel : ∀ t : Fin grid0.N, _)

theorem result : (dats m 0 c).arrAt 2 cfg0.N = val_main_v2 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  unfold outsAt0
  frame_out
  pointwise [k0_pay2, k0_pay1, val_main_v2, val_main_v1, val_main_v0]
  blk_point [iblk, V, idx t]

end Cert.PleGateIdeal.Hand

end
-- ==== Proof.Products.PleProj.lean ====
/-
  The projection of a per-layer embedding, over the extended reals.
-/
module

public import proofs.«01_k».proof.Proof.Gen.PleProjIdeal.Frame
public import proofs.«01_k».proof.Proof.Gen.PleProjReferenceIdeal.Read
public import Idealize.ShloMosaic.Lib.Pipeline.ValueKit
public import Idealize.ShloMosaic.Lib.Pointwise

@[expose] public section

set_option maxRecDepth 16384

noncomputable section

namespace Cert.PleProjIdeal.Hand

open Cert.PleProjIdeal Cert.PleProjIdeal.Gen
open Cert.PleProjReferenceIdeal.Read (val_main_v1 val_main_v0)
open Idealize.ShloMosaic Idealize.ShloMosaic.TcCoe Idealize.ShloMosaic.Tactic

variable (m : (ℓ : Loc nD τ sig) → Buf (Elt Ideal) ℓ) (c : Dev nD)

/-- Where the windows' blocks lie at a point. -/
theorem idx : ∀ t : Fin cfg0.N, win0_0.index t = ![t.val, 0] ∧ win0_1.index t = ![0, 0] ∧ win0_2.index t = ![t.val, 0] :=
  (by decide +kernel : ∀ t : Fin grid0.N, _)

theorem result : (dats m 0 c).arrAt 2 cfg0.N = val_main_v1 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  unfold outsAt0
  frame_out
  pointwise [k0_pay2, k0_pay1, val_main_v1, val_main_v0]
  blk_point [iblk, V, idx t]

end Cert.PleProjIdeal.Hand

end
-- ==== Proof.Products.lean ====
/- The products' claims: the frames of the references and that the results are the same. -/
module

public import proofs.«01_k».proof.Defs
public import proofs.«01_k».proof.Proof.Gen.DownDw
public import proofs.«01_k».proof.Proof.Gen.DownDwIdeal
public import proofs.«01_k».proof.Proof.Gen.DownDwReferenceIdeal
public import proofs.«01_k».proof.Proof.Gen.DownDw.Frame
public import proofs.«01_k».proof.Proof.Gen.DownDwReferenceIdeal.Run
public import proofs.«01_k».proof.Proof.Products.DownDw
public import proofs.«01_k».proof.Proof.Gen.DownDx
public import proofs.«01_k».proof.Proof.Gen.DownDxIdeal
public import proofs.«01_k».proof.Proof.Gen.DownDxReferenceIdeal
public import proofs.«01_k».proof.Proof.Gen.DownDx.Frame
public import proofs.«01_k».proof.Proof.Gen.DownDxReferenceIdeal.Run
public import proofs.«01_k».proof.Proof.Products.DownDx
public import proofs.«01_k».proof.Proof.Gen.UpDw
public import proofs.«01_k».proof.Proof.Gen.UpDwIdeal
public import proofs.«01_k».proof.Proof.Gen.UpDwReferenceIdeal
public import proofs.«01_k».proof.Proof.Gen.UpDw.Frame
public import proofs.«01_k».proof.Proof.Gen.UpDwReferenceIdeal.Run
public import proofs.«01_k».proof.Proof.Products.UpDw
public import proofs.«01_k».proof.Proof.Gen.UpDx
public import proofs.«01_k».proof.Proof.Gen.UpDxIdeal
public import proofs.«01_k».proof.Proof.Gen.UpDxReferenceIdeal
public import proofs.«01_k».proof.Proof.Gen.UpDx.Frame
public import proofs.«01_k».proof.Proof.Gen.UpDxReferenceIdeal.Run
public import proofs.«01_k».proof.Proof.Products.UpDx
public import proofs.«01_k».proof.Proof.Gen.Up
public import proofs.«01_k».proof.Proof.Gen.UpIdeal
public import proofs.«01_k».proof.Proof.Gen.UpReferenceIdeal
public import proofs.«01_k».proof.Proof.Gen.Up.Frame
public import proofs.«01_k».proof.Proof.Gen.UpReferenceIdeal.Run
public import proofs.«01_k».proof.Proof.Products.Up
public import proofs.«01_k».proof.Proof.Gen.Down
public import proofs.«01_k».proof.Proof.Gen.DownIdeal
public import proofs.«01_k».proof.Proof.Gen.DownReferenceIdeal
public import proofs.«01_k».proof.Proof.Gen.Down.Frame
public import proofs.«01_k».proof.Proof.Gen.DownReferenceIdeal.Run
public import proofs.«01_k».proof.Proof.Products.Down
public import proofs.«01_k».proof.Proof.Gen.SquareDw
public import proofs.«01_k».proof.Proof.Gen.SquareDwIdeal
public import proofs.«01_k».proof.Proof.Gen.SquareDwReferenceIdeal
public import proofs.«01_k».proof.Proof.Gen.SquareDw.Frame
public import proofs.«01_k».proof.Proof.Gen.SquareDwReferenceIdeal.Run
public import proofs.«01_k».proof.Proof.Products.SquareDw
public import proofs.«01_k».proof.Proof.Gen.KvDw
public import proofs.«01_k».proof.Proof.Gen.KvDwIdeal
public import proofs.«01_k».proof.Proof.Gen.KvDwReferenceIdeal
public import proofs.«01_k».proof.Proof.Gen.KvDw.Frame
public import proofs.«01_k».proof.Proof.Gen.KvDwReferenceIdeal.Run
public import proofs.«01_k».proof.Proof.Products.KvDw
public import proofs.«01_k».proof.Proof.Gen.PleProjDw
public import proofs.«01_k».proof.Proof.Gen.PleProjDwIdeal
public import proofs.«01_k».proof.Proof.Gen.PleProjDwReferenceIdeal
public import proofs.«01_k».proof.Proof.Gen.PleProjDw.Frame
public import proofs.«01_k».proof.Proof.Gen.PleProjDwReferenceIdeal.Run
public import proofs.«01_k».proof.Proof.Products.PleProjDw
public import proofs.«01_k».proof.Proof.Gen.AttnOutDx
public import proofs.«01_k».proof.Proof.Gen.AttnOutDxIdeal
public import proofs.«01_k».proof.Proof.Gen.AttnOutDxReferenceIdeal
public import proofs.«01_k».proof.Proof.Gen.AttnOutDx.Frame
public import proofs.«01_k».proof.Proof.Gen.AttnOutDxReferenceIdeal.Run
public import proofs.«01_k».proof.Proof.Products.AttnOutDx
public import proofs.«01_k».proof.Proof.Gen.SsmOutDw
public import proofs.«01_k».proof.Proof.Gen.SsmOutDwIdeal
public import proofs.«01_k».proof.Proof.Gen.SsmOutDwReferenceIdeal
public import proofs.«01_k».proof.Proof.Gen.SsmOutDw.Frame
public import proofs.«01_k».proof.Proof.Gen.SsmOutDwReferenceIdeal.Run
public import proofs.«01_k».proof.Proof.Products.SsmOutDw
public import proofs.«01_k».proof.Proof.Gen.SsmOutDx
public import proofs.«01_k».proof.Proof.Gen.SsmOutDxIdeal
public import proofs.«01_k».proof.Proof.Gen.SsmOutDxReferenceIdeal
public import proofs.«01_k».proof.Proof.Gen.SsmOutDx.Frame
public import proofs.«01_k».proof.Proof.Gen.SsmOutDxReferenceIdeal.Run
public import proofs.«01_k».proof.Proof.Products.SsmOutDx
public import proofs.«01_k».proof.Proof.Gen.SsmZDw
public import proofs.«01_k».proof.Proof.Gen.SsmZDwIdeal
public import proofs.«01_k».proof.Proof.Gen.SsmZDwReferenceIdeal
public import proofs.«01_k».proof.Proof.Gen.SsmZDw.Frame
public import proofs.«01_k».proof.Proof.Gen.SsmZDwReferenceIdeal.Run
public import proofs.«01_k».proof.Proof.Products.SsmZDw
public import proofs.«01_k».proof.Proof.Gen.SsmZDx
public import proofs.«01_k».proof.Proof.Gen.SsmZDxIdeal
public import proofs.«01_k».proof.Proof.Gen.SsmZDxReferenceIdeal
public import proofs.«01_k».proof.Proof.Gen.SsmZDx.Frame
public import proofs.«01_k».proof.Proof.Gen.SsmZDxReferenceIdeal.Run
public import proofs.«01_k».proof.Proof.Products.SsmZDx
public import proofs.«01_k».proof.Proof.Gen.SsmDtDw
public import proofs.«01_k».proof.Proof.Gen.SsmDtDwIdeal
public import proofs.«01_k».proof.Proof.Gen.SsmDtDwReferenceIdeal
public import proofs.«01_k».proof.Proof.Gen.SsmDtDw.Frame
public import proofs.«01_k».proof.Proof.Gen.SsmDtDwReferenceIdeal.Run
public import proofs.«01_k».proof.Proof.Products.SsmDtDw
public import proofs.«01_k».proof.Proof.Gen.SsmDtDx
public import proofs.«01_k».proof.Proof.Gen.SsmDtDxIdeal
public import proofs.«01_k».proof.Proof.Gen.SsmDtDxReferenceIdeal
public import proofs.«01_k».proof.Proof.Gen.SsmDtDx.Frame
public import proofs.«01_k».proof.Proof.Gen.SsmDtDxReferenceIdeal.Run
public import proofs.«01_k».proof.Proof.Products.SsmDtDx
public import proofs.«01_k».proof.Proof.Gen.SsmXbcDw
public import proofs.«01_k».proof.Proof.Gen.SsmXbcDwIdeal
public import proofs.«01_k».proof.Proof.Gen.SsmXbcDwReferenceIdeal
public import proofs.«01_k».proof.Proof.Gen.SsmXbcDw.Frame
public import proofs.«01_k».proof.Proof.Gen.SsmXbcDwReferenceIdeal.Run
public import proofs.«01_k».proof.Proof.Products.SsmXbcDw
public import proofs.«01_k».proof.Proof.Gen.SsmOut
public import proofs.«01_k».proof.Proof.Gen.SsmOutIdeal
public import proofs.«01_k».proof.Proof.Gen.SsmOutReferenceIdeal
public import proofs.«01_k».proof.Proof.Gen.SsmOut.Frame
public import proofs.«01_k».proof.Proof.Gen.SsmOutReferenceIdeal.Run
public import proofs.«01_k».proof.Proof.Products.SsmOut
public import proofs.«01_k».proof.Proof.Gen.AttnQ
public import proofs.«01_k».proof.Proof.Gen.AttnQIdeal
public import proofs.«01_k».proof.Proof.Gen.AttnQReferenceIdeal
public import proofs.«01_k».proof.Proof.Gen.AttnQ.Frame
public import proofs.«01_k».proof.Proof.Gen.AttnQReferenceIdeal.Run
public import proofs.«01_k».proof.Proof.Products.AttnQ
public import proofs.«01_k».proof.Proof.Gen.AttnOut
public import proofs.«01_k».proof.Proof.Gen.AttnOutIdeal
public import proofs.«01_k».proof.Proof.Gen.AttnOutReferenceIdeal
public import proofs.«01_k».proof.Proof.Gen.AttnOut.Frame
public import proofs.«01_k».proof.Proof.Gen.AttnOutReferenceIdeal.Run
public import proofs.«01_k».proof.Proof.Products.AttnOut
public import proofs.«01_k».proof.Proof.Gen.Kv
public import proofs.«01_k».proof.Proof.Gen.KvIdeal
public import proofs.«01_k».proof.Proof.Gen.KvReferenceIdeal
public import proofs.«01_k».proof.Proof.Gen.Kv.Frame
public import proofs.«01_k».proof.Proof.Gen.KvReferenceIdeal.Run
public import proofs.«01_k».proof.Proof.Products.Kv
public import proofs.«01_k».proof.Proof.Gen.PleGate
public import proofs.«01_k».proof.Proof.Gen.PleGateIdeal
public import proofs.«01_k».proof.Proof.Gen.PleGateReferenceIdeal
public import proofs.«01_k».proof.Proof.Gen.PleGate.Frame
public import proofs.«01_k».proof.Proof.Gen.PleGateReferenceIdeal.Run
public import proofs.«01_k».proof.Proof.Products.PleGate
public import proofs.«01_k».proof.Proof.Gen.PleProj
public import proofs.«01_k».proof.Proof.Gen.PleProjIdeal
public import proofs.«01_k».proof.Proof.Gen.PleProjReferenceIdeal
public import proofs.«01_k».proof.Proof.Gen.PleProj.Frame
public import proofs.«01_k».proof.Proof.Gen.PleProjReferenceIdeal.Run
public import proofs.«01_k».proof.Proof.Products.PleProj
public import Idealize.ShloMosaic.Adequacy
public import Idealize.ShloMosaic.Init

@[expose] public section

set_option maxRecDepth 16384

noncomputable section

namespace Cert.Proof

open Idealize.ShloMosaic Idealize.SL.Sem

theorem downDw_reference : Cert.quiescent_DownDwReferenceIdeal (hDownDwReferenceIdeal := Cert.DownDwReferenceIdeal.Gen.facts) := fun m ρ _ =>
  (θ_run Cert.DownDwReferenceIdeal.defs _ _).mono (fun r h => ⟨fun c => (h c).2, sem_eq_zero_of_no_sems (by decide) r.2⟩)
    (Cert.DownDwReferenceIdeal.Value.run m ρ)

theorem downDw_same : Cert.algebraic_DownDwIdeal_DownDwReferenceIdeal (hDownDwIdeal := Cert.DownDwIdeal.Gen.facts) (hDownDwReferenceIdeal := Cert.DownDwReferenceIdeal.Gen.facts) :=
    fun m g m' g' _ hagree => by
  refine ⟨fun c => Cert.DownDwReferenceIdeal.Read.val_main_v5 (F := Ideal) (m (c.tc.loc Cert.DownDwIdeal.main_arg0)) (m (c.tc.loc Cert.DownDwIdeal.main_arg1)), ?_, ?_⟩
  · refine (θ_run Cert.DownDwIdeal.defs _ _).mono (fun r h c => ?_) (Idealize.ShloMosaic.θ_run_and (Cert.DownDwIdeal.Gen.run_main m g) (Cert.DownDwIdeal.Gen.unchanged m g))
    exact ⟨((h.1 c).1 2).trans (Cert.DownDwIdeal.Hand.result m c), h.2 c⟩
  · refine (θ_run Cert.DownDwReferenceIdeal.defs _ _).mono (fun r h c => ?_) (Cert.DownDwReferenceIdeal.Value.run m' g')
    obtain ⟨hr, ha⟩ := h c
    obtain ⟨e0, e1⟩ := hagree c
    exact ⟨hr.trans (by rw [Cert.DownDwReferenceIdeal.Read.val_main_v5_eq, e0, e1]), ha⟩

theorem downDx_reference : Cert.quiescent_DownDxReferenceIdeal (hDownDxReferenceIdeal := Cert.DownDxReferenceIdeal.Gen.facts) := fun m ρ _ =>
  (θ_run Cert.DownDxReferenceIdeal.defs _ _).mono (fun r h => ⟨fun c => (h c).2, sem_eq_zero_of_no_sems (by decide) r.2⟩)
    (Cert.DownDxReferenceIdeal.Value.run m ρ)

theorem downDx_same : Cert.algebraic_DownDxIdeal_DownDxReferenceIdeal (hDownDxIdeal := Cert.DownDxIdeal.Gen.facts) (hDownDxReferenceIdeal := Cert.DownDxReferenceIdeal.Gen.facts) :=
    fun m g m' g' _ hagree => by
  refine ⟨fun c => Cert.DownDxReferenceIdeal.Read.val_main_v4 (F := Ideal) (m (c.tc.loc Cert.DownDxIdeal.main_arg0)) (m (c.tc.loc Cert.DownDxIdeal.main_arg1)), ?_, ?_⟩
  · refine (θ_run Cert.DownDxIdeal.defs _ _).mono (fun r h c => ?_) (Idealize.ShloMosaic.θ_run_and (Cert.DownDxIdeal.Gen.run_main m g) (Cert.DownDxIdeal.Gen.unchanged m g))
    exact ⟨((h.1 c).1 2).trans (Cert.DownDxIdeal.Hand.result m c), h.2 c⟩
  · refine (θ_run Cert.DownDxReferenceIdeal.defs _ _).mono (fun r h c => ?_) (Cert.DownDxReferenceIdeal.Value.run m' g')
    obtain ⟨hr, ha⟩ := h c
    obtain ⟨e0, e1⟩ := hagree c
    exact ⟨hr.trans (by rw [Cert.DownDxReferenceIdeal.Read.val_main_v4_eq, e0, e1]), ha⟩

theorem upDw_reference : Cert.quiescent_UpDwReferenceIdeal (hUpDwReferenceIdeal := Cert.UpDwReferenceIdeal.Gen.facts) := fun m ρ _ =>
  (θ_run Cert.UpDwReferenceIdeal.defs _ _).mono (fun r h => ⟨fun c => (h c).2, sem_eq_zero_of_no_sems (by decide) r.2⟩)
    (Cert.UpDwReferenceIdeal.Value.run m ρ)

theorem upDw_same : Cert.algebraic_UpDwIdeal_UpDwReferenceIdeal (hUpDwIdeal := Cert.UpDwIdeal.Gen.facts) (hUpDwReferenceIdeal := Cert.UpDwReferenceIdeal.Gen.facts) :=
    fun m g m' g' _ hagree => by
  refine ⟨fun c => Cert.UpDwReferenceIdeal.Read.val_main_v5 (F := Ideal) (m (c.tc.loc Cert.UpDwIdeal.main_arg0)) (m (c.tc.loc Cert.UpDwIdeal.main_arg1)), ?_, ?_⟩
  · refine (θ_run Cert.UpDwIdeal.defs _ _).mono (fun r h c => ?_) (Idealize.ShloMosaic.θ_run_and (Cert.UpDwIdeal.Gen.run_main m g) (Cert.UpDwIdeal.Gen.unchanged m g))
    exact ⟨((h.1 c).1 2).trans (Cert.UpDwIdeal.Hand.result m c), h.2 c⟩
  · refine (θ_run Cert.UpDwReferenceIdeal.defs _ _).mono (fun r h c => ?_) (Cert.UpDwReferenceIdeal.Value.run m' g')
    obtain ⟨hr, ha⟩ := h c
    obtain ⟨e0, e1⟩ := hagree c
    exact ⟨hr.trans (by rw [Cert.UpDwReferenceIdeal.Read.val_main_v5_eq, e0, e1]), ha⟩

theorem upDx_reference : Cert.quiescent_UpDxReferenceIdeal (hUpDxReferenceIdeal := Cert.UpDxReferenceIdeal.Gen.facts) := fun m ρ _ =>
  (θ_run Cert.UpDxReferenceIdeal.defs _ _).mono (fun r h => ⟨fun c => (h c).2, sem_eq_zero_of_no_sems (by decide) r.2⟩)
    (Cert.UpDxReferenceIdeal.Value.run m ρ)

theorem upDx_same : Cert.algebraic_UpDxIdeal_UpDxReferenceIdeal (hUpDxIdeal := Cert.UpDxIdeal.Gen.facts) (hUpDxReferenceIdeal := Cert.UpDxReferenceIdeal.Gen.facts) :=
    fun m g m' g' _ hagree => by
  refine ⟨fun c => Cert.UpDxReferenceIdeal.Read.val_main_v5 (F := Ideal) (m (c.tc.loc Cert.UpDxIdeal.main_arg0)) (m (c.tc.loc Cert.UpDxIdeal.main_arg1)), ?_, ?_⟩
  · refine (θ_run Cert.UpDxIdeal.defs _ _).mono (fun r h c => ?_) (Idealize.ShloMosaic.θ_run_and (Cert.UpDxIdeal.Gen.run_main m g) (Cert.UpDxIdeal.Gen.unchanged m g))
    exact ⟨((h.1 c).1 2).trans (Cert.UpDxIdeal.Hand.result m c), h.2 c⟩
  · refine (θ_run Cert.UpDxReferenceIdeal.defs _ _).mono (fun r h c => ?_) (Cert.UpDxReferenceIdeal.Value.run m' g')
    obtain ⟨hr, ha⟩ := h c
    obtain ⟨e0, e1⟩ := hagree c
    exact ⟨hr.trans (by rw [Cert.UpDxReferenceIdeal.Read.val_main_v5_eq, e0, e1]), ha⟩

theorem up_reference : Cert.quiescent_UpReferenceIdeal (hUpReferenceIdeal := Cert.UpReferenceIdeal.Gen.facts) := fun m ρ _ =>
  (θ_run Cert.UpReferenceIdeal.defs _ _).mono (fun r h => ⟨fun c => (h c).2, sem_eq_zero_of_no_sems (by decide) r.2⟩)
    (Cert.UpReferenceIdeal.Value.run m ρ)

theorem up_same : Cert.algebraic_UpIdeal_UpReferenceIdeal (hUpIdeal := Cert.UpIdeal.Gen.facts) (hUpReferenceIdeal := Cert.UpReferenceIdeal.Gen.facts) :=
    fun m g m' g' _ hagree => by
  refine ⟨fun c => Cert.UpReferenceIdeal.Read.val_main_v2 (F := Ideal) (m (c.tc.loc Cert.UpIdeal.main_arg0)) (m (c.tc.loc Cert.UpIdeal.main_arg1)), ?_, ?_⟩
  · refine (θ_run Cert.UpIdeal.defs _ _).mono (fun r h c => ?_) (Idealize.ShloMosaic.θ_run_and (Cert.UpIdeal.Gen.run_main m g) (Cert.UpIdeal.Gen.unchanged m g))
    exact ⟨((h.1 c).1 2).trans (Cert.UpIdeal.Hand.result m c), h.2 c⟩
  · refine (θ_run Cert.UpReferenceIdeal.defs _ _).mono (fun r h c => ?_) (Cert.UpReferenceIdeal.Value.run m' g')
    obtain ⟨hr, ha⟩ := h c
    obtain ⟨e0, e1⟩ := hagree c
    exact ⟨hr.trans (by rw [Cert.UpReferenceIdeal.Read.val_main_v2_eq, e0, e1]), ha⟩

theorem down_reference : Cert.quiescent_DownReferenceIdeal (hDownReferenceIdeal := Cert.DownReferenceIdeal.Gen.facts) := fun m ρ _ =>
  (θ_run Cert.DownReferenceIdeal.defs _ _).mono (fun r h => ⟨fun c => (h c).2, sem_eq_zero_of_no_sems (by decide) r.2⟩)
    (Cert.DownReferenceIdeal.Value.run m ρ)

theorem down_same : Cert.algebraic_DownIdeal_DownReferenceIdeal (hDownIdeal := Cert.DownIdeal.Gen.facts) (hDownReferenceIdeal := Cert.DownReferenceIdeal.Gen.facts) :=
    fun m g m' g' _ hagree => by
  refine ⟨fun c => Cert.DownReferenceIdeal.Read.val_main_v3 (F := Ideal) (m (c.tc.loc Cert.DownIdeal.main_arg0)) (m (c.tc.loc Cert.DownIdeal.main_arg1)) (m (c.tc.loc Cert.DownIdeal.main_arg2)), ?_, ?_⟩
  · refine (θ_run Cert.DownIdeal.defs _ _).mono (fun r h c => ?_) (Idealize.ShloMosaic.θ_run_and (Cert.DownIdeal.Gen.run_main m g) (Cert.DownIdeal.Gen.unchanged m g))
    exact ⟨((h.1 c).1 3).trans (Cert.DownIdeal.Hand.result m c), h.2 c⟩
  · refine (θ_run Cert.DownReferenceIdeal.defs _ _).mono (fun r h c => ?_) (Cert.DownReferenceIdeal.Value.run m' g')
    obtain ⟨hr, ha⟩ := h c
    obtain ⟨e0, e1, e2⟩ := hagree c
    exact ⟨hr.trans (by rw [Cert.DownReferenceIdeal.Read.val_main_v3_eq, e0, e1, e2]), ha⟩

theorem squareDw_reference : Cert.quiescent_SquareDwReferenceIdeal (hSquareDwReferenceIdeal := Cert.SquareDwReferenceIdeal.Gen.facts) := fun m ρ _ =>
  (θ_run Cert.SquareDwReferenceIdeal.defs _ _).mono (fun r h => ⟨fun c => (h c).2, sem_eq_zero_of_no_sems (by decide) r.2⟩)
    (Cert.SquareDwReferenceIdeal.Value.run m ρ)

theorem squareDw_same : Cert.algebraic_SquareDwIdeal_SquareDwReferenceIdeal (hSquareDwIdeal := Cert.SquareDwIdeal.Gen.facts) (hSquareDwReferenceIdeal := Cert.SquareDwReferenceIdeal.Gen.facts) :=
    fun m g m' g' _ hagree => by
  refine ⟨fun c => Cert.SquareDwReferenceIdeal.Read.val_main_v5 (F := Ideal) (m (c.tc.loc Cert.SquareDwIdeal.main_arg0)) (m (c.tc.loc Cert.SquareDwIdeal.main_arg1)), ?_, ?_⟩
  · refine (θ_run Cert.SquareDwIdeal.defs _ _).mono (fun r h c => ?_) (Idealize.ShloMosaic.θ_run_and (Cert.SquareDwIdeal.Gen.run_main m g) (Cert.SquareDwIdeal.Gen.unchanged m g))
    exact ⟨((h.1 c).1 2).trans (Cert.SquareDwIdeal.Hand.result m c), h.2 c⟩
  · refine (θ_run Cert.SquareDwReferenceIdeal.defs _ _).mono (fun r h c => ?_) (Cert.SquareDwReferenceIdeal.Value.run m' g')
    obtain ⟨hr, ha⟩ := h c
    obtain ⟨e0, e1⟩ := hagree c
    exact ⟨hr.trans (by rw [Cert.SquareDwReferenceIdeal.Read.val_main_v5_eq, e0, e1]), ha⟩

theorem kvDw_reference : Cert.quiescent_KvDwReferenceIdeal (hKvDwReferenceIdeal := Cert.KvDwReferenceIdeal.Gen.facts) := fun m ρ _ =>
  (θ_run Cert.KvDwReferenceIdeal.defs _ _).mono (fun r h => ⟨fun c => (h c).2, sem_eq_zero_of_no_sems (by decide) r.2⟩)
    (Cert.KvDwReferenceIdeal.Value.run m ρ)

theorem kvDw_same : Cert.algebraic_KvDwIdeal_KvDwReferenceIdeal (hKvDwIdeal := Cert.KvDwIdeal.Gen.facts) (hKvDwReferenceIdeal := Cert.KvDwReferenceIdeal.Gen.facts) :=
    fun m g m' g' _ hagree => by
  refine ⟨fun c => Cert.KvDwReferenceIdeal.Read.val_main_v4 (F := Ideal) (m (c.tc.loc Cert.KvDwIdeal.main_arg0)) (m (c.tc.loc Cert.KvDwIdeal.main_arg1)), ?_, ?_⟩
  · refine (θ_run Cert.KvDwIdeal.defs _ _).mono (fun r h c => ?_) (Idealize.ShloMosaic.θ_run_and (Cert.KvDwIdeal.Gen.run_main m g) (Cert.KvDwIdeal.Gen.unchanged m g))
    exact ⟨((h.1 c).1 2).trans (Cert.KvDwIdeal.Hand.result m c), h.2 c⟩
  · refine (θ_run Cert.KvDwReferenceIdeal.defs _ _).mono (fun r h c => ?_) (Cert.KvDwReferenceIdeal.Value.run m' g')
    obtain ⟨hr, ha⟩ := h c
    obtain ⟨e0, e1⟩ := hagree c
    exact ⟨hr.trans (by rw [Cert.KvDwReferenceIdeal.Read.val_main_v4_eq, e0, e1]), ha⟩

theorem pleProjDw_reference : Cert.quiescent_PleProjDwReferenceIdeal (hPleProjDwReferenceIdeal := Cert.PleProjDwReferenceIdeal.Gen.facts) := fun m ρ _ =>
  (θ_run Cert.PleProjDwReferenceIdeal.defs _ _).mono (fun r h => ⟨fun c => (h c).2, sem_eq_zero_of_no_sems (by decide) r.2⟩)
    (Cert.PleProjDwReferenceIdeal.Value.run m ρ)

theorem pleProjDw_same : Cert.algebraic_PleProjDwIdeal_PleProjDwReferenceIdeal (hPleProjDwIdeal := Cert.PleProjDwIdeal.Gen.facts) (hPleProjDwReferenceIdeal := Cert.PleProjDwReferenceIdeal.Gen.facts) :=
    fun m g m' g' _ hagree => by
  refine ⟨fun c => Cert.PleProjDwReferenceIdeal.Read.val_main_v4 (F := Ideal) (m (c.tc.loc Cert.PleProjDwIdeal.main_arg0)) (m (c.tc.loc Cert.PleProjDwIdeal.main_arg1)), ?_, ?_⟩
  · refine (θ_run Cert.PleProjDwIdeal.defs _ _).mono (fun r h c => ?_) (Idealize.ShloMosaic.θ_run_and (Cert.PleProjDwIdeal.Gen.run_main m g) (Cert.PleProjDwIdeal.Gen.unchanged m g))
    exact ⟨((h.1 c).1 2).trans (Cert.PleProjDwIdeal.Hand.result m c), h.2 c⟩
  · refine (θ_run Cert.PleProjDwReferenceIdeal.defs _ _).mono (fun r h c => ?_) (Cert.PleProjDwReferenceIdeal.Value.run m' g')
    obtain ⟨hr, ha⟩ := h c
    obtain ⟨e0, e1⟩ := hagree c
    exact ⟨hr.trans (by rw [Cert.PleProjDwReferenceIdeal.Read.val_main_v4_eq, e0, e1]), ha⟩

theorem attnOutDx_reference : Cert.quiescent_AttnOutDxReferenceIdeal (hAttnOutDxReferenceIdeal := Cert.AttnOutDxReferenceIdeal.Gen.facts) := fun m ρ _ =>
  (θ_run Cert.AttnOutDxReferenceIdeal.defs _ _).mono (fun r h => ⟨fun c => (h c).2, sem_eq_zero_of_no_sems (by decide) r.2⟩)
    (Cert.AttnOutDxReferenceIdeal.Value.run m ρ)

theorem attnOutDx_same : Cert.algebraic_AttnOutDxIdeal_AttnOutDxReferenceIdeal (hAttnOutDxIdeal := Cert.AttnOutDxIdeal.Gen.facts) (hAttnOutDxReferenceIdeal := Cert.AttnOutDxReferenceIdeal.Gen.facts) :=
    fun m g m' g' _ hagree => by
  refine ⟨fun c => Cert.AttnOutDxReferenceIdeal.Read.val_main_v5 (F := Ideal) (m (c.tc.loc Cert.AttnOutDxIdeal.main_arg0)) (m (c.tc.loc Cert.AttnOutDxIdeal.main_arg1)), ?_, ?_⟩
  · refine (θ_run Cert.AttnOutDxIdeal.defs _ _).mono (fun r h c => ?_) (Idealize.ShloMosaic.θ_run_and (Cert.AttnOutDxIdeal.Gen.run_main m g) (Cert.AttnOutDxIdeal.Gen.unchanged m g))
    exact ⟨((h.1 c).1 2).trans (Cert.AttnOutDxIdeal.Hand.result m c), h.2 c⟩
  · refine (θ_run Cert.AttnOutDxReferenceIdeal.defs _ _).mono (fun r h c => ?_) (Cert.AttnOutDxReferenceIdeal.Value.run m' g')
    obtain ⟨hr, ha⟩ := h c
    obtain ⟨e0, e1⟩ := hagree c
    exact ⟨hr.trans (by rw [Cert.AttnOutDxReferenceIdeal.Read.val_main_v5_eq, e0, e1]), ha⟩

theorem ssmOutDw_reference : Cert.quiescent_SsmOutDwReferenceIdeal (hSsmOutDwReferenceIdeal := Cert.SsmOutDwReferenceIdeal.Gen.facts) := fun m ρ _ =>
  (θ_run Cert.SsmOutDwReferenceIdeal.defs _ _).mono (fun r h => ⟨fun c => (h c).2, sem_eq_zero_of_no_sems (by decide) r.2⟩)
    (Cert.SsmOutDwReferenceIdeal.Value.run m ρ)

theorem ssmOutDw_same : Cert.algebraic_SsmOutDwIdeal_SsmOutDwReferenceIdeal (hSsmOutDwIdeal := Cert.SsmOutDwIdeal.Gen.facts) (hSsmOutDwReferenceIdeal := Cert.SsmOutDwReferenceIdeal.Gen.facts) :=
    fun m g m' g' _ hagree => by
  refine ⟨fun c => Cert.SsmOutDwReferenceIdeal.Read.val_main_v5 (F := Ideal) (m (c.tc.loc Cert.SsmOutDwIdeal.main_arg0)) (m (c.tc.loc Cert.SsmOutDwIdeal.main_arg1)), ?_, ?_⟩
  · refine (θ_run Cert.SsmOutDwIdeal.defs _ _).mono (fun r h c => ?_) (Idealize.ShloMosaic.θ_run_and (Cert.SsmOutDwIdeal.Gen.run_main m g) (Cert.SsmOutDwIdeal.Gen.unchanged m g))
    exact ⟨((h.1 c).1 2).trans (Cert.SsmOutDwIdeal.Hand.result m c), h.2 c⟩
  · refine (θ_run Cert.SsmOutDwReferenceIdeal.defs _ _).mono (fun r h c => ?_) (Cert.SsmOutDwReferenceIdeal.Value.run m' g')
    obtain ⟨hr, ha⟩ := h c
    obtain ⟨e0, e1⟩ := hagree c
    exact ⟨hr.trans (by rw [Cert.SsmOutDwReferenceIdeal.Read.val_main_v5_eq, e0, e1]), ha⟩

theorem ssmOutDx_reference : Cert.quiescent_SsmOutDxReferenceIdeal (hSsmOutDxReferenceIdeal := Cert.SsmOutDxReferenceIdeal.Gen.facts) := fun m ρ _ =>
  (θ_run Cert.SsmOutDxReferenceIdeal.defs _ _).mono (fun r h => ⟨fun c => (h c).2, sem_eq_zero_of_no_sems (by decide) r.2⟩)
    (Cert.SsmOutDxReferenceIdeal.Value.run m ρ)

theorem ssmOutDx_same : Cert.algebraic_SsmOutDxIdeal_SsmOutDxReferenceIdeal (hSsmOutDxIdeal := Cert.SsmOutDxIdeal.Gen.facts) (hSsmOutDxReferenceIdeal := Cert.SsmOutDxReferenceIdeal.Gen.facts) :=
    fun m g m' g' _ hagree => by
  refine ⟨fun c => Cert.SsmOutDxReferenceIdeal.Read.val_main_v4 (F := Ideal) (m (c.tc.loc Cert.SsmOutDxIdeal.main_arg0)) (m (c.tc.loc Cert.SsmOutDxIdeal.main_arg1)), ?_, ?_⟩
  · refine (θ_run Cert.SsmOutDxIdeal.defs _ _).mono (fun r h c => ?_) (Idealize.ShloMosaic.θ_run_and (Cert.SsmOutDxIdeal.Gen.run_main m g) (Cert.SsmOutDxIdeal.Gen.unchanged m g))
    exact ⟨((h.1 c).1 2).trans (Cert.SsmOutDxIdeal.Hand.result m c), h.2 c⟩
  · refine (θ_run Cert.SsmOutDxReferenceIdeal.defs _ _).mono (fun r h c => ?_) (Cert.SsmOutDxReferenceIdeal.Value.run m' g')
    obtain ⟨hr, ha⟩ := h c
    obtain ⟨e0, e1⟩ := hagree c
    exact ⟨hr.trans (by rw [Cert.SsmOutDxReferenceIdeal.Read.val_main_v4_eq, e0, e1]), ha⟩

theorem ssmZDw_reference : Cert.quiescent_SsmZDwReferenceIdeal (hSsmZDwReferenceIdeal := Cert.SsmZDwReferenceIdeal.Gen.facts) := fun m ρ _ =>
  (θ_run Cert.SsmZDwReferenceIdeal.defs _ _).mono (fun r h => ⟨fun c => (h c).2, sem_eq_zero_of_no_sems (by decide) r.2⟩)
    (Cert.SsmZDwReferenceIdeal.Value.run m ρ)

theorem ssmZDw_same : Cert.algebraic_SsmZDwIdeal_SsmZDwReferenceIdeal (hSsmZDwIdeal := Cert.SsmZDwIdeal.Gen.facts) (hSsmZDwReferenceIdeal := Cert.SsmZDwReferenceIdeal.Gen.facts) :=
    fun m g m' g' _ hagree => by
  refine ⟨fun c => Cert.SsmZDwReferenceIdeal.Read.val_main_v5 (F := Ideal) (m (c.tc.loc Cert.SsmZDwIdeal.main_arg0)) (m (c.tc.loc Cert.SsmZDwIdeal.main_arg1)), ?_, ?_⟩
  · refine (θ_run Cert.SsmZDwIdeal.defs _ _).mono (fun r h c => ?_) (Idealize.ShloMosaic.θ_run_and (Cert.SsmZDwIdeal.Gen.run_main m g) (Cert.SsmZDwIdeal.Gen.unchanged m g))
    exact ⟨((h.1 c).1 2).trans (Cert.SsmZDwIdeal.Hand.result m c), h.2 c⟩
  · refine (θ_run Cert.SsmZDwReferenceIdeal.defs _ _).mono (fun r h c => ?_) (Cert.SsmZDwReferenceIdeal.Value.run m' g')
    obtain ⟨hr, ha⟩ := h c
    obtain ⟨e0, e1⟩ := hagree c
    exact ⟨hr.trans (by rw [Cert.SsmZDwReferenceIdeal.Read.val_main_v5_eq, e0, e1]), ha⟩

theorem ssmZDx_reference : Cert.quiescent_SsmZDxReferenceIdeal (hSsmZDxReferenceIdeal := Cert.SsmZDxReferenceIdeal.Gen.facts) := fun m ρ _ =>
  (θ_run Cert.SsmZDxReferenceIdeal.defs _ _).mono (fun r h => ⟨fun c => (h c).2, sem_eq_zero_of_no_sems (by decide) r.2⟩)
    (Cert.SsmZDxReferenceIdeal.Value.run m ρ)

theorem ssmZDx_same : Cert.algebraic_SsmZDxIdeal_SsmZDxReferenceIdeal (hSsmZDxIdeal := Cert.SsmZDxIdeal.Gen.facts) (hSsmZDxReferenceIdeal := Cert.SsmZDxReferenceIdeal.Gen.facts) :=
    fun m g m' g' _ hagree => by
  refine ⟨fun c => Cert.SsmZDxReferenceIdeal.Read.val_main_v5 (F := Ideal) (m (c.tc.loc Cert.SsmZDxIdeal.main_arg0)) (m (c.tc.loc Cert.SsmZDxIdeal.main_arg1)), ?_, ?_⟩
  · refine (θ_run Cert.SsmZDxIdeal.defs _ _).mono (fun r h c => ?_) (Idealize.ShloMosaic.θ_run_and (Cert.SsmZDxIdeal.Gen.run_main m g) (Cert.SsmZDxIdeal.Gen.unchanged m g))
    exact ⟨((h.1 c).1 2).trans (Cert.SsmZDxIdeal.Hand.result m c), h.2 c⟩
  · refine (θ_run Cert.SsmZDxReferenceIdeal.defs _ _).mono (fun r h c => ?_) (Cert.SsmZDxReferenceIdeal.Value.run m' g')
    obtain ⟨hr, ha⟩ := h c
    obtain ⟨e0, e1⟩ := hagree c
    exact ⟨hr.trans (by rw [Cert.SsmZDxReferenceIdeal.Read.val_main_v5_eq, e0, e1]), ha⟩

theorem ssmDtDw_reference : Cert.quiescent_SsmDtDwReferenceIdeal (hSsmDtDwReferenceIdeal := Cert.SsmDtDwReferenceIdeal.Gen.facts) := fun m ρ _ =>
  (θ_run Cert.SsmDtDwReferenceIdeal.defs _ _).mono (fun r h => ⟨fun c => (h c).2, sem_eq_zero_of_no_sems (by decide) r.2⟩)
    (Cert.SsmDtDwReferenceIdeal.Value.run m ρ)

theorem ssmDtDw_same : Cert.algebraic_SsmDtDwIdeal_SsmDtDwReferenceIdeal (hSsmDtDwIdeal := Cert.SsmDtDwIdeal.Gen.facts) (hSsmDtDwReferenceIdeal := Cert.SsmDtDwReferenceIdeal.Gen.facts) :=
    fun m g m' g' _ hagree => by
  refine ⟨fun c => Cert.SsmDtDwReferenceIdeal.Read.val_main_v5 (F := Ideal) (m (c.tc.loc Cert.SsmDtDwIdeal.main_arg0)) (m (c.tc.loc Cert.SsmDtDwIdeal.main_arg1)), ?_, ?_⟩
  · refine (θ_run Cert.SsmDtDwIdeal.defs _ _).mono (fun r h c => ?_) (Idealize.ShloMosaic.θ_run_and (Cert.SsmDtDwIdeal.Gen.run_main m g) (Cert.SsmDtDwIdeal.Gen.unchanged m g))
    exact ⟨((h.1 c).1 2).trans (Cert.SsmDtDwIdeal.Hand.result m c), h.2 c⟩
  · refine (θ_run Cert.SsmDtDwReferenceIdeal.defs _ _).mono (fun r h c => ?_) (Cert.SsmDtDwReferenceIdeal.Value.run m' g')
    obtain ⟨hr, ha⟩ := h c
    obtain ⟨e0, e1⟩ := hagree c
    exact ⟨hr.trans (by rw [Cert.SsmDtDwReferenceIdeal.Read.val_main_v5_eq, e0, e1]), ha⟩

theorem ssmDtDx_reference : Cert.quiescent_SsmDtDxReferenceIdeal (hSsmDtDxReferenceIdeal := Cert.SsmDtDxReferenceIdeal.Gen.facts) := fun m ρ _ =>
  (θ_run Cert.SsmDtDxReferenceIdeal.defs _ _).mono (fun r h => ⟨fun c => (h c).2, sem_eq_zero_of_no_sems (by decide) r.2⟩)
    (Cert.SsmDtDxReferenceIdeal.Value.run m ρ)

theorem ssmDtDx_same : Cert.algebraic_SsmDtDxIdeal_SsmDtDxReferenceIdeal (hSsmDtDxIdeal := Cert.SsmDtDxIdeal.Gen.facts) (hSsmDtDxReferenceIdeal := Cert.SsmDtDxReferenceIdeal.Gen.facts) :=
    fun m g m' g' _ hagree => by
  refine ⟨fun c => Cert.SsmDtDxReferenceIdeal.Read.val_main_v6 (F := Ideal) (m (c.tc.loc Cert.SsmDtDxIdeal.main_arg0)) (m (c.tc.loc Cert.SsmDtDxIdeal.main_arg1)) (m (c.tc.loc Cert.SsmDtDxIdeal.main_arg2)), ?_, ?_⟩
  · refine (θ_run Cert.SsmDtDxIdeal.defs _ _).mono (fun r h c => ?_) (Idealize.ShloMosaic.θ_run_and (Cert.SsmDtDxIdeal.Gen.run_main m g) (Cert.SsmDtDxIdeal.Gen.unchanged m g))
    exact ⟨((h.1 c).1 3).trans (Cert.SsmDtDxIdeal.Hand.result m c), h.2 c⟩
  · refine (θ_run Cert.SsmDtDxReferenceIdeal.defs _ _).mono (fun r h c => ?_) (Cert.SsmDtDxReferenceIdeal.Value.run m' g')
    obtain ⟨hr, ha⟩ := h c
    obtain ⟨e0, e1, e2⟩ := hagree c
    exact ⟨hr.trans (by rw [Cert.SsmDtDxReferenceIdeal.Read.val_main_v6_eq, e0, e1, e2]), ha⟩

theorem ssmXbcDw_reference : Cert.quiescent_SsmXbcDwReferenceIdeal (hSsmXbcDwReferenceIdeal := Cert.SsmXbcDwReferenceIdeal.Gen.facts) := fun m ρ _ =>
  (θ_run Cert.SsmXbcDwReferenceIdeal.defs _ _).mono (fun r h => ⟨fun c => (h c).2, sem_eq_zero_of_no_sems (by decide) r.2⟩)
    (Cert.SsmXbcDwReferenceIdeal.Value.run m ρ)

theorem ssmXbcDw_same : Cert.algebraic_SsmXbcDwIdeal_SsmXbcDwReferenceIdeal (hSsmXbcDwIdeal := Cert.SsmXbcDwIdeal.Gen.facts) (hSsmXbcDwReferenceIdeal := Cert.SsmXbcDwReferenceIdeal.Gen.facts) :=
    fun m g m' g' _ hagree => by
  refine ⟨fun c => Cert.SsmXbcDwReferenceIdeal.Read.val_main_v5 (F := Ideal) (m (c.tc.loc Cert.SsmXbcDwIdeal.main_arg0)) (m (c.tc.loc Cert.SsmXbcDwIdeal.main_arg1)), ?_, ?_⟩
  · refine (θ_run Cert.SsmXbcDwIdeal.defs _ _).mono (fun r h c => ?_) (Idealize.ShloMosaic.θ_run_and (Cert.SsmXbcDwIdeal.Gen.run_main m g) (Cert.SsmXbcDwIdeal.Gen.unchanged m g))
    exact ⟨((h.1 c).1 2).trans (Cert.SsmXbcDwIdeal.Hand.result m c), h.2 c⟩
  · refine (θ_run Cert.SsmXbcDwReferenceIdeal.defs _ _).mono (fun r h c => ?_) (Cert.SsmXbcDwReferenceIdeal.Value.run m' g')
    obtain ⟨hr, ha⟩ := h c
    obtain ⟨e0, e1⟩ := hagree c
    exact ⟨hr.trans (by rw [Cert.SsmXbcDwReferenceIdeal.Read.val_main_v5_eq, e0, e1]), ha⟩

theorem ssmOut_reference : Cert.quiescent_SsmOutReferenceIdeal (hSsmOutReferenceIdeal := Cert.SsmOutReferenceIdeal.Gen.facts) := fun m ρ _ =>
  (θ_run Cert.SsmOutReferenceIdeal.defs _ _).mono (fun r h => ⟨fun c => (h c).2, sem_eq_zero_of_no_sems (by decide) r.2⟩)
    (Cert.SsmOutReferenceIdeal.Value.run m ρ)

theorem ssmOut_same : Cert.algebraic_SsmOutIdeal_SsmOutReferenceIdeal (hSsmOutIdeal := Cert.SsmOutIdeal.Gen.facts) (hSsmOutReferenceIdeal := Cert.SsmOutReferenceIdeal.Gen.facts) :=
    fun m g m' g' _ hagree => by
  refine ⟨fun c => Cert.SsmOutReferenceIdeal.Read.val_main_v3 (F := Ideal) (m (c.tc.loc Cert.SsmOutIdeal.main_arg0)) (m (c.tc.loc Cert.SsmOutIdeal.main_arg1)) (m (c.tc.loc Cert.SsmOutIdeal.main_arg2)), ?_, ?_⟩
  · refine (θ_run Cert.SsmOutIdeal.defs _ _).mono (fun r h c => ?_) (Idealize.ShloMosaic.θ_run_and (Cert.SsmOutIdeal.Gen.run_main m g) (Cert.SsmOutIdeal.Gen.unchanged m g))
    exact ⟨((h.1 c).1 3).trans (Cert.SsmOutIdeal.Hand.result m c), h.2 c⟩
  · refine (θ_run Cert.SsmOutReferenceIdeal.defs _ _).mono (fun r h c => ?_) (Cert.SsmOutReferenceIdeal.Value.run m' g')
    obtain ⟨hr, ha⟩ := h c
    obtain ⟨e0, e1, e2⟩ := hagree c
    exact ⟨hr.trans (by rw [Cert.SsmOutReferenceIdeal.Read.val_main_v3_eq, e0, e1, e2]), ha⟩

theorem attnQ_reference : Cert.quiescent_AttnQReferenceIdeal (hAttnQReferenceIdeal := Cert.AttnQReferenceIdeal.Gen.facts) := fun m ρ _ =>
  (θ_run Cert.AttnQReferenceIdeal.defs _ _).mono (fun r h => ⟨fun c => (h c).2, sem_eq_zero_of_no_sems (by decide) r.2⟩)
    (Cert.AttnQReferenceIdeal.Value.run m ρ)

theorem attnQ_same : Cert.algebraic_AttnQIdeal_AttnQReferenceIdeal (hAttnQIdeal := Cert.AttnQIdeal.Gen.facts) (hAttnQReferenceIdeal := Cert.AttnQReferenceIdeal.Gen.facts) :=
    fun m g m' g' _ hagree => by
  refine ⟨fun c => Cert.AttnQReferenceIdeal.Read.val_main_v3 (F := Ideal) (m (c.tc.loc Cert.AttnQIdeal.main_arg0)) (m (c.tc.loc Cert.AttnQIdeal.main_arg1)), ?_, ?_⟩
  · refine (θ_run Cert.AttnQIdeal.defs _ _).mono (fun r h c => ?_) (Idealize.ShloMosaic.θ_run_and (Cert.AttnQIdeal.Gen.run_main m g) (Cert.AttnQIdeal.Gen.unchanged m g))
    exact ⟨((h.1 c).1 2).trans (Cert.AttnQIdeal.Hand.result m c), h.2 c⟩
  · refine (θ_run Cert.AttnQReferenceIdeal.defs _ _).mono (fun r h c => ?_) (Cert.AttnQReferenceIdeal.Value.run m' g')
    obtain ⟨hr, ha⟩ := h c
    obtain ⟨e0, e1⟩ := hagree c
    exact ⟨hr.trans (by rw [Cert.AttnQReferenceIdeal.Read.val_main_v3_eq, e0, e1]), ha⟩

theorem attnOut_reference : Cert.quiescent_AttnOutReferenceIdeal (hAttnOutReferenceIdeal := Cert.AttnOutReferenceIdeal.Gen.facts) := fun m ρ _ =>
  (θ_run Cert.AttnOutReferenceIdeal.defs _ _).mono (fun r h => ⟨fun c => (h c).2, sem_eq_zero_of_no_sems (by decide) r.2⟩)
    (Cert.AttnOutReferenceIdeal.Value.run m ρ)

theorem attnOut_same : Cert.algebraic_AttnOutIdeal_AttnOutReferenceIdeal (hAttnOutIdeal := Cert.AttnOutIdeal.Gen.facts) (hAttnOutReferenceIdeal := Cert.AttnOutReferenceIdeal.Gen.facts) :=
    fun m g m' g' _ hagree => by
  refine ⟨fun c => Cert.AttnOutReferenceIdeal.Read.val_main_v3 (F := Ideal) (m (c.tc.loc Cert.AttnOutIdeal.main_arg0)) (m (c.tc.loc Cert.AttnOutIdeal.main_arg1)) (m (c.tc.loc Cert.AttnOutIdeal.main_arg2)), ?_, ?_⟩
  · refine (θ_run Cert.AttnOutIdeal.defs _ _).mono (fun r h c => ?_) (Idealize.ShloMosaic.θ_run_and (Cert.AttnOutIdeal.Gen.run_main m g) (Cert.AttnOutIdeal.Gen.unchanged m g))
    exact ⟨((h.1 c).1 3).trans (Cert.AttnOutIdeal.Hand.result m c), h.2 c⟩
  · refine (θ_run Cert.AttnOutReferenceIdeal.defs _ _).mono (fun r h c => ?_) (Cert.AttnOutReferenceIdeal.Value.run m' g')
    obtain ⟨hr, ha⟩ := h c
    obtain ⟨e0, e1, e2⟩ := hagree c
    exact ⟨hr.trans (by rw [Cert.AttnOutReferenceIdeal.Read.val_main_v3_eq, e0, e1, e2]), ha⟩

theorem kv_reference : Cert.quiescent_KvReferenceIdeal (hKvReferenceIdeal := Cert.KvReferenceIdeal.Gen.facts) := fun m ρ _ =>
  (θ_run Cert.KvReferenceIdeal.defs _ _).mono (fun r h => ⟨fun c => (h c).2, sem_eq_zero_of_no_sems (by decide) r.2⟩)
    (Cert.KvReferenceIdeal.Value.run m ρ)

theorem kv_same : Cert.algebraic_KvIdeal_KvReferenceIdeal (hKvIdeal := Cert.KvIdeal.Gen.facts) (hKvReferenceIdeal := Cert.KvReferenceIdeal.Gen.facts) :=
    fun m g m' g' _ hagree => by
  refine ⟨fun c => Cert.KvReferenceIdeal.Read.val_main_v3 (F := Ideal) (m (c.tc.loc Cert.KvIdeal.main_arg0)) (m (c.tc.loc Cert.KvIdeal.main_arg1)), ?_, ?_⟩
  · refine (θ_run Cert.KvIdeal.defs _ _).mono (fun r h c => ?_) (Idealize.ShloMosaic.θ_run_and (Cert.KvIdeal.Gen.run_main m g) (Cert.KvIdeal.Gen.unchanged m g))
    exact ⟨((h.1 c).1 2).trans (Cert.KvIdeal.Hand.result m c), h.2 c⟩
  · refine (θ_run Cert.KvReferenceIdeal.defs _ _).mono (fun r h c => ?_) (Cert.KvReferenceIdeal.Value.run m' g')
    obtain ⟨hr, ha⟩ := h c
    obtain ⟨e0, e1⟩ := hagree c
    exact ⟨hr.trans (by rw [Cert.KvReferenceIdeal.Read.val_main_v3_eq, e0, e1]), ha⟩

theorem pleGate_reference : Cert.quiescent_PleGateReferenceIdeal (hPleGateReferenceIdeal := Cert.PleGateReferenceIdeal.Gen.facts) := fun m ρ _ =>
  (θ_run Cert.PleGateReferenceIdeal.defs _ _).mono (fun r h => ⟨fun c => (h c).2, sem_eq_zero_of_no_sems (by decide) r.2⟩)
    (Cert.PleGateReferenceIdeal.Value.run m ρ)

theorem pleGate_same : Cert.algebraic_PleGateIdeal_PleGateReferenceIdeal (hPleGateIdeal := Cert.PleGateIdeal.Gen.facts) (hPleGateReferenceIdeal := Cert.PleGateReferenceIdeal.Gen.facts) :=
    fun m g m' g' _ hagree => by
  refine ⟨fun c => Cert.PleGateReferenceIdeal.Read.val_main_v2 (F := Ideal) (m (c.tc.loc Cert.PleGateIdeal.main_arg0)) (m (c.tc.loc Cert.PleGateIdeal.main_arg1)), ?_, ?_⟩
  · refine (θ_run Cert.PleGateIdeal.defs _ _).mono (fun r h c => ?_) (Idealize.ShloMosaic.θ_run_and (Cert.PleGateIdeal.Gen.run_main m g) (Cert.PleGateIdeal.Gen.unchanged m g))
    exact ⟨((h.1 c).1 2).trans (Cert.PleGateIdeal.Hand.result m c), h.2 c⟩
  · refine (θ_run Cert.PleGateReferenceIdeal.defs _ _).mono (fun r h c => ?_) (Cert.PleGateReferenceIdeal.Value.run m' g')
    obtain ⟨hr, ha⟩ := h c
    obtain ⟨e0, e1⟩ := hagree c
    exact ⟨hr.trans (by rw [Cert.PleGateReferenceIdeal.Read.val_main_v2_eq, e0, e1]), ha⟩

theorem pleProj_reference : Cert.quiescent_PleProjReferenceIdeal (hPleProjReferenceIdeal := Cert.PleProjReferenceIdeal.Gen.facts) := fun m ρ _ =>
  (θ_run Cert.PleProjReferenceIdeal.defs _ _).mono (fun r h => ⟨fun c => (h c).2, sem_eq_zero_of_no_sems (by decide) r.2⟩)
    (Cert.PleProjReferenceIdeal.Value.run m ρ)

theorem pleProj_same : Cert.algebraic_PleProjIdeal_PleProjReferenceIdeal (hPleProjIdeal := Cert.PleProjIdeal.Gen.facts) (hPleProjReferenceIdeal := Cert.PleProjReferenceIdeal.Gen.facts) :=
    fun m g m' g' _ hagree => by
  refine ⟨fun c => Cert.PleProjReferenceIdeal.Read.val_main_v1 (F := Ideal) (m (c.tc.loc Cert.PleProjIdeal.main_arg0)) (m (c.tc.loc Cert.PleProjIdeal.main_arg1)), ?_, ?_⟩
  · refine (θ_run Cert.PleProjIdeal.defs _ _).mono (fun r h c => ?_) (Idealize.ShloMosaic.θ_run_and (Cert.PleProjIdeal.Gen.run_main m g) (Cert.PleProjIdeal.Gen.unchanged m g))
    exact ⟨((h.1 c).1 2).trans (Cert.PleProjIdeal.Hand.result m c), h.2 c⟩
  · refine (θ_run Cert.PleProjReferenceIdeal.defs _ _).mono (fun r h c => ?_) (Cert.PleProjReferenceIdeal.Value.run m' g')
    obtain ⟨hr, ha⟩ := h c
    obtain ⟨e0, e1⟩ := hagree c
    exact ⟨hr.trans (by rw [Cert.PleProjReferenceIdeal.Read.val_main_v1_eq, e0, e1]), ha⟩

end Cert.Proof

end
-- ==== Proof.Norms.Row.lean ====
/-
  The gradient of the root-mean-square norm at one row, over the extended reals: the form the kernel computes, in the
  normalised row, is the form the chain rule gives. No value need be finite: the mean of squares plus the small constant is
  positive, so its reciprocal root is a positive real, or is zero when the mean is infinite.
-/
module

public import Idealize.ShloMosaic.PureOps.Ideal
public import Idealize.ShloMosaic.Lib.Pointwise

@[expose] public section

noncomputable section

namespace Cert.Norms

open Idealize.ShloMosaic

theorem width_word : (Ideal.ofBits .f32 0x44800000#32 : EReal) = ((1024 : ℝ) : EReal) := by
  simp [Ideal.ofBits, Ideal.ieee, -EReal.coe_mul]; norm_num

theorem half_word : (Ideal.ofBits .f32 0xBF000000#32 : EReal) = ((-(1 / 2) : ℝ) : EReal) := by
  simp [Ideal.ofBits, Ideal.ieee, -EReal.coe_mul]; norm_num

theorem one_word : (Ideal.ofBits .f32 0x3F800000#32 : EReal) = ((1 : ℝ) : EReal) := by
  simp [Ideal.ofBits, Ideal.ieee, -EReal.coe_mul]; norm_num

/-- The small constant is a positive real. -/
theorem small_word : ∃ e : ℝ, 0 < e ∧ (Ideal.ofBits .f32 0x358637BD#32 : EReal) = (e : EReal) := by
  refine ⟨8796093 * (2 : ℝ) ^ (-43 : ℤ), by positivity, ?_⟩
  simp [Ideal.ofBits, Ideal.ieee, -EReal.coe_mul]

/-- The mean of a row's squares, plus the small constant. -/
def mean (x : Fin 1024 → EReal) : EReal :=
  Ideal.div (∑ k, x k * x k) (Ideal.ofBits .f32 0x44800000#32 : EReal) + (Ideal.ofBits .f32 0x358637BD#32 : EReal)

theorem square_nonneg (y : EReal) : 0 ≤ y * y := by
  rcases le_total 0 y with h | h
  · exact mul_nonneg h h
  · have := EReal.mul_nonneg_iff.mpr (Or.inr ⟨h, h⟩)
    exact this

/-- The mean is infinite or a positive real. -/
theorem mean_cases (x : Fin 1024 → EReal) : mean x = ⊤ ∨ ∃ u : ℝ, 0 < u ∧ mean x = (u : EReal) := by
  obtain ⟨e, he, hw⟩ := small_word
  have hs : 0 ≤ ∑ k, x k * x k := Finset.sum_nonneg fun k _ => square_nonneg (x k)
  unfold mean
  rw [hw, width_word, Ideal.div_coe (by norm_num)]
  generalize ∑ k, x k * x k = s at hs
  induction s using EReal.rec with
  | bot => exact absurd hs (by simp)
  | top => left; rw [EReal.top_mul_coe_of_pos (by norm_num)]; exact EReal.top_add_coe e
  | coe s =>
    have hs' : 0 ≤ s := EReal.coe_nonneg.mp hs
    right
    exact ⟨s * (1 / 1024) + e, by positivity, by push_cast; rfl⟩

/-- A positive real factor goes through a sum. -/
theorem factor_sum {n : ℕ} (f : Fin n → EReal) {r : ℝ} (hr : 0 ≤ r) : ∑ k, (r : EReal) * f k = (r : EReal) * ∑ k, f k := by
  classical
  induction (Finset.univ : Finset (Fin n)) using Finset.induction_on with
  | empty => simp
  | insert a s ha ih =>
    rw [Finset.sum_insert ha, Finset.sum_insert ha, ih,
      EReal.left_distrib_of_nonneg_of_ne_top (EReal.coe_nonneg.mpr hr) (EReal.coe_ne_top r)]

theorem twice (y : EReal) (c : ℝ) : y * (c : EReal) + y * (c : EReal) = y * ((2 * c : ℝ) : EReal) := by
  rcases lt_trichotomy c 0 with h | h | h
  · induction y using EReal.rec with
    | bot => rw [EReal.bot_mul_coe_of_neg h, EReal.bot_mul_coe_of_neg (by linarith)]; rfl
    | top => rw [EReal.top_mul_coe_of_neg h, EReal.top_mul_coe_of_neg (by linarith)]; rfl
    | coe y => norm_cast; ring
  · subst h; simp
  · induction y using EReal.rec with
    | bot => rw [EReal.bot_mul_coe_of_pos h, EReal.bot_mul_coe_of_pos (by linarith)]; rfl
    | top => rw [EReal.top_mul_coe_of_pos h, EReal.top_mul_coe_of_pos (by linarith)]; rfl
    | coe y => norm_cast; ring

/-- The gradient as the kernel computes it: in the normalised row. -/
def byRow (a x : Fin 1024 → EReal) (j : Fin 1024) : EReal :=
  Ideal.rsqrt (mean x) * (a j - x j * Ideal.rsqrt (mean x)
    * Ideal.div (∑ k, a k * (x k * Ideal.rsqrt (mean x))) (Ideal.ofBits .f32 0x44800000#32 : EReal))

/-- What the chain rule gives for half of a square's share. -/
def share (a x : Fin 1024 → EReal) : EReal :=
  Ideal.div ((∑ k, x k * a k) * ((Ideal.ofBits .f32 0xBF000000#32 : EReal) * Ideal.div (Ideal.rsqrt (mean x)) (mean x)))
    (Ideal.ofBits .f32 0x44800000#32 : EReal)

theorem root_cube {u : ℝ} (h : 0 < u) : (Real.sqrt u)⁻¹ * (1 / u) = (Real.sqrt u)⁻¹ * (Real.sqrt u)⁻¹ * (Real.sqrt u)⁻¹ := by
  have h2 : Real.sqrt u * Real.sqrt u = u := Real.mul_self_sqrt h.le
  have h3 : (Real.sqrt u)⁻¹ * (Real.sqrt u)⁻¹ = 1 / u := by rw [← mul_inv, h2, one_div]
  rw [mul_assoc, h3]

theorem byRow_eq (a x : Fin 1024 → EReal) (j : Fin 1024) :
    byRow a x j = (a j * Ideal.rsqrt (mean x) + x j * share a x) + share a x * x j := by
  rcases mean_cases x with h | ⟨u, hu, h⟩
  · unfold byRow share
    have d : Ideal.div (0 : EReal) ⊤ = 0 := by rw [Ideal.div, if_neg EReal.top_ne_zero, zero_mul]
    rw [h, Ideal.rsqrt_top, d, width_word, Ideal.div_coe (by norm_num), Ideal.div_coe (by norm_num)]
    simp only [mul_zero, zero_mul, add_zero]
  · have hne : u ≠ 0 := hu.ne'
    have hr : Ideal.rsqrt (mean x) = (((Real.sqrt u)⁻¹ : ℝ) : EReal) := by
      rw [h, Ideal.rsqrt_coe, if_neg (not_lt.mpr hu.le), if_neg hne]
    have hp : 0 ≤ (Real.sqrt u)⁻¹ := inv_nonneg.mpr (Real.sqrt_nonneg u)
    have hs : ∑ k, a k * (x k * (((Real.sqrt u)⁻¹ : ℝ) : EReal)) = (((Real.sqrt u)⁻¹ : ℝ) : EReal) * ∑ k, x k * a k := by
      rw [← factor_sum _ hp]
      exact Finset.sum_congr rfl fun k _ => by rw [← mul_assoc, mul_comm, mul_comm (a k)]
    unfold byRow share
    rw [hr, hs, h, width_word, half_word, Ideal.div_coe hne, Ideal.div_coe (by norm_num), Ideal.div_coe (by norm_num)]
    have hc := root_cube hu
    generalize (Real.sqrt u)⁻¹ = r at hp hc ⊢
    generalize ∑ k, x k * a k = s
    rw [sub_eq_add_neg, EReal.left_distrib_of_nonneg_of_ne_top (EReal.coe_nonneg.mpr hp) (EReal.coe_ne_top r), add_assoc]
    congr 1
    · exact mul_comm _ _
    · have e : s * (((-(1 / 2) : ℝ) : EReal) * ((r : EReal) * ((1 / u : ℝ) : EReal))) * ((1 / 1024 : ℝ) : EReal)
          = s * ((-(1 / 2) * (r * r * r) * (1 / 1024) : ℝ) : EReal) := by
        rw [← hc]; push_cast; simp only [mul_assoc]
      have q : (2 * (-(1 / 2) * (r * r * r) * (1 / 1024)) : ℝ) = -(r * r * r * (1 / 1024)) := by ring
      rw [e, mul_comm (s * _) (x j), ← mul_assoc (x j), twice, q, EReal.coe_neg, mul_neg, mul_neg, EReal.coe_mul, EReal.coe_mul, EReal.coe_mul]
      congr 1
      ac_rfl

end Cert.Norms

end
-- ==== Proof.Norms.FfnNormBwd.lean ====
/-
  The value half of the up projection's gradient, carried through the MLP's norm, over the extended reals.
-/
module

public import proofs.«01_k».proof.Proof.Gen.FfnNormBwdIdeal.Frame
public import proofs.«01_k».proof.Proof.Gen.FfnNormBwdReferenceIdeal.Read
public import proofs.«01_k».proof.Proof.Norms.Row
public import Idealize.ShloMosaic.Lib.Pipeline.ValueKit
public import Idealize.ShloMosaic.Lib.Pointwise

@[expose] public section

set_option maxRecDepth 16384

noncomputable section

namespace Cert.FfnNormBwdIdeal.Hand

open Cert.FfnNormBwdIdeal Cert.FfnNormBwdIdeal.Gen
open Cert.FfnNormBwdReferenceIdeal.Read (val_main_v43 val_main_v44 val_main_v45 val_main_v6 val_main_v42 val_main_v40 val_main_v41 val_main_v33 val_main_v39 val_main_v38 val_main_v27 val_main_v32 val_main_v37 val_main_v26 val_main_v14 val_main_v36 val_main_cst_8 val_main_v20 val_main_v13 val_main_v34 val_main_v35 val_main_v11 val_main_v12 val_main_v31 val_main_v17 val_main_cst_7 val_main_v9 val_main_v10 val_main_cst_2 val_main_v30 val_main_v16 val_main_v15 val_main_v8 val_main_cst_1 val_main_v29 val_main_cst_6 val_main_cst_3 val_main_v7 val_main_cst_0 val_main_v28 val_main_v25 val_main_cst_5 val_main_v24 val_main_v23 val_main_cst_4 val_main_v19 val_main_v18 val_main_v5 val_main_v4 val_main_v2 val_main_v0)
open Idealize.ShloMosaic Idealize.ShloMosaic.TcCoe Idealize.ShloMosaic.Tactic

variable (m : (ℓ : Loc nD τ sig) → Buf (Elt Ideal) ℓ) (c : Dev nD)

/-- Where the windows' blocks lie at a point. -/
theorem idx : ∀ t : Fin cfg0.N, win0_0.index t = ![t.val, 0] ∧ win0_1.index t = ![0, 0] ∧ win0_2.index t = ![t.val, 0] ∧ win0_3.index t = ![t.val, 0] ∧ win0_4.index t = ![0, 0] ∧ win0_5.index t = ![t.val, 0] ∧ win0_6.index t = ![t.val, 0] ∧ win0_7.index t = ![t.val, 0] ∧ win0_8.index t = ![0, 0] :=
  (by decide +kernel : ∀ t : Fin grid0.N, _)

theorem grad_at (a d x r : Vec Ideal S512x1024 .f32) (g : Vec Ideal S1x1024 .f32) (p : Fin 512) (q : Fin 1024) :
    k0_pay7 (F := Ideal) a d x g r (ix2 p q) = r (ix2 p q) + Norms.byRow (fun k => (a (ix2 p k) + d (ix2 p k)) * g (ix2 0 k)) (fun k => x (ix2 p k)) q := by
  unfold Norms.byRow Norms.mean
  pointwise [k0_pay7, k0_pay5, k0_pay6, k0_pay4]

theorem reference_at (x0 : Vec Ideal S8192x2816 .bf16) (x1 : Vec Ideal S1024x5632 .bf16) (x2 x4 x5 : Vec Ideal S8192x1024 .f32) (x3 : Vec Ideal S1024 .f32) (p : Fin 8192) (q : Fin 1024) :
    val_main_v43 (F := Ideal) x0 x1 x2 x3 x4 x5 (ix2 p q) = x4 (ix2 p q) + Norms.byRow (fun k => val_main_v6 x0 x1 x5 (ix2 p k) * x3 (ix1 k)) (fun k => x2 (ix2 p k)) q := by
  rw [Norms.byRow_eq]
  unfold Norms.share Norms.mean
  pointwise [val_main_v43, val_main_v42, val_main_v40, val_main_v41, val_main_v33, val_main_v39, val_main_v38, val_main_v27, val_main_v32, val_main_v37, val_main_v26, val_main_v14, val_main_v36, val_main_cst_8, val_main_v20, val_main_v13, val_main_v34, val_main_v35, val_main_v11, val_main_v12, val_main_v31, val_main_v17, val_main_cst_7, val_main_v9, val_main_v10, val_main_cst_2, val_main_v30, val_main_v16, val_main_v15, val_main_v8, val_main_cst_1, val_main_v29, val_main_cst_6, val_main_cst_3, val_main_v7, val_main_cst_0]
  simp only [Fin.sum_univ_one]

/-- A point's part of the gain's gradient: the sum over its rows. -/
theorem part_at (a d x : Vec Ideal S512x1024 .f32) (q : Fin 1024) :
    k0_pay9 (F := Ideal) a d x (ix2 0 q) = ∑ p : Fin 512, (a (ix2 p q) + d (ix2 p q)) * (x (ix2 p q) * Ideal.rsqrt (Norms.mean fun k => x (ix2 p k))) := by
  unfold Norms.mean
  pointwise [k0_pay9, k0_pay5, k0_pay6, k0_pay4]

theorem add_at (a b : Vec Ideal S1x1024 .f32) (j : S1x1024.Idx) : k0_pay3 (F := Ideal) a b j = b j + a j := by
  pointwise [k0_pay3]

theorem reference_gain_at (x0 : Vec Ideal S8192x2816 .bf16) (x1 : Vec Ideal S1024x5632 .bf16) (x2 x5 : Vec Ideal S8192x1024 .f32) (q : Fin 1024) :
    val_main_v45 (F := Ideal) x0 x1 x2 x5 (ix2 0 q) = ∑ p : Fin 8192, val_main_v6 x0 x1 x5 (ix2 p q) * (x2 (ix2 p q) * Ideal.rsqrt (Norms.mean fun k => x2 (ix2 p k))) := by
  unfold Norms.mean
  pointwise [val_main_v45, val_main_v28, val_main_v25, val_main_cst_5, val_main_v24, val_main_v23, val_main_cst_4, val_main_v19, val_main_v18, val_main_v14, val_main_v13, val_main_v11, val_main_v12, val_main_v9, val_main_v10, val_main_cst_2, val_main_v8, val_main_cst_1, val_main_v7, val_main_cst_0]
  simp only [Fin.sum_univ_one]
  refine Finset.sum_congr rfl fun k _ => ?_
  exact mul_comm (G := EReal) _ _

/-- The gradient a point carries through the norm: the product of its blocks. -/
theorem product_at (x : Vec Ideal S512x2816 .bf16) (w : Vec Ideal S1024x2816 .bf16) (p : Fin 512) (q : Fin 1024) :
    k0_pay2 (F := Ideal) (k0_pay1 (F := Ideal)) x w (ix2 p q) = ∑ k : Fin 2816, x (ix2 p k) * w (ix2 q k) := by
  pointwise [k0_pay2, k0_pay1]

theorem reference_product_at (x0 : Vec Ideal S8192x2816 .bf16) (x1 : Vec Ideal S1024x5632 .bf16) (x5 : Vec Ideal S8192x1024 .f32) (p : Fin 8192) (q : Fin 1024) :
    val_main_v6 (F := Ideal) x0 x1 x5 (ix2 p q) = x5 (ix2 p q) + ∑ k : Fin 2816, x0 (ix2 p k) * x1 (ix2 q (⟨2816 + k.val, by omega⟩ : Fin 5632)) := by
  pointwise [val_main_v6, val_main_v5, val_main_v4, val_main_v2, val_main_v0]

theorem out_dx (t : Fin cfg0.N) : (outsAt0 m c t.val t.isLt).1 = k0_pay7 (F := Ideal) (k0_pay2 (F := Ideal) (k0_pay1 (F := Ideal)) (iblk m c 0 t) (iblk m c 1 t)) (iblk m c 2 t) (iblk m c 3 t) (iblk m c 4 t) (iblk m c 5 t) := by
  by_cases h : t.val % 16 = 0
  · rw [outsAt0_A m c t h (by have := t.isLt; have : cfg0.N = 16 := N_0; omega)]
    frame_out
  · rw [outsAt0_B m c t h (by omega)]
    frame_out

theorem out_dxb (t : Fin cfg0.N) : (outsAt0 m c t.val t.isLt).2.1 = k0_pay8 (F := Ideal) (k0_pay2 (F := Ideal) (k0_pay1 (F := Ideal)) (iblk m c 0 t) (iblk m c 1 t)) (iblk m c 2 t) (iblk m c 3 t) (iblk m c 4 t) (iblk m c 5 t) := by
  by_cases h : t.val % 16 = 0
  · rw [outsAt0_A m c t h (by have := t.isLt; have : cfg0.N = 16 := N_0; omega)]
    frame_out
  · rw [outsAt0_B m c t h (by omega)]
    frame_out

/-- A block's rows of the gradient, and of the norm's argument, are the array's. -/
theorem gradient (t : Fin cfg0.N) (p : Fin 512) (q : Fin 1024) (P : Fin 8192) (hP : P.val = t.val * 512 + p.val) :
    (k0_pay2 (F := Ideal) (k0_pay1 (F := Ideal)) (iblk m c 0 t) (iblk m c 1 t)) (ix2 p q) + iblk m c 2 t (ix2 p q) = val_main_v6 (F := Ideal) (m ((c : Thread nD τ).loc main_arg0)) (m ((c : Thread nD τ).loc main_arg1)) (m ((c : Thread nD τ).loc main_arg5)) (ix2 P q) := by
  rw [product_at, reference_product_at]
  refine (add_comm (G := EReal) _ _).trans ?_
  congr 1
  · blk_point [iblk, V, idx t, hP]
  · refine Finset.sum_congr rfl fun l _ => ?_
    blk_point [iblk, V, idx t, hP]

theorem rows (t : Fin cfg0.N) (p : Fin 512) (q : Fin 1024) (P : Fin 8192) (hP : P.val = t.val * 512 + p.val) :
    (iblk m c 3 t (ix2 p q) : EReal) = m ((c : Thread nD τ).loc main_arg2) (ix2 P q) := by
  blk_point [iblk, V, idx t, hP]

/-- The kernel's gradient at an entry of a block is the reference's. -/
theorem value (t : Fin cfg0.N) (p : Fin 512) (q : Fin 1024) (P : Fin 8192) (hP : P.val = t.val * 512 + p.val) :
    k0_pay7 (F := Ideal) (k0_pay2 (F := Ideal) (k0_pay1 (F := Ideal)) (iblk m c 0 t) (iblk m c 1 t)) (iblk m c 2 t) (iblk m c 3 t) (iblk m c 4 t) (iblk m c 5 t) (ix2 p q)
      = val_main_v43 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 P q) := by
  rw [grad_at, reference_at]
  congr 1
  · blk_point [iblk, V, idx t, hP]
  · congr 1
    · funext k
      congr 1
      · exact gradient m c t p k P hP
      · blk_point [iblk, V, idx t, hP]
    · funext k
      exact rows m c t p k P hP

theorem result_dx : (dats m 0 c).arrAt 6 cfg0.N = val_main_v43 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 6 _ (by decide +kernel) fun t hf y => ?_
  blk_simp
  rw [after0_6, out_dx]
  obtain ⟨p, q, rfl⟩ : ∃ (p : Fin 512) (q : Fin 1024), y = ix2 p q := ⟨y 0, y 1, eq_ix2 y⟩
  have ht : t.val < 16 := t.isLt
  refine (value m c t p q ⟨t.val * 512 + p.val, by omega⟩ rfl).trans ?_
  blk_point [idx t]

theorem result_dxb : (dats m 0 c).arrAt 7 cfg0.N = val_main_v44 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 7 _ (by decide +kernel) fun t hf y => ?_
  blk_simp
  rw [after0_7, out_dxb]
  obtain ⟨p, q, rfl⟩ : ∃ (p : Fin 512) (q : Fin 1024), y = ix2 p q := ⟨y 0, y 1, eq_ix2 y⟩
  have ht : t.val < 16 := t.isLt
  refine (value m c t p q ⟨t.val * 512 + p.val, by omega⟩ rfl).trans ?_
  blk_point [idx t, val_main_v44]

/-- The parts add up in the result's window to the sum over all rows. -/
theorem result_gain : (dats m 0 c).arrAt 8 cfg0.N = val_main_v45 (F := Ideal) (m ((c : Thread nD τ).loc main_arg0)) (m ((c : Thread nD τ).loc main_arg1)) (m ((c : Thread nD τ).loc main_arg2)) (m ((c : Thread nD τ).loc main_arg5)) := by
  refine (dats m 0 c).arrAt_eq_of_covers 8 _ (by decide +kernel) fun t hf y => ?_
  have hl : t.val % 16 = 15 := (flush0_8 t).mp hf
  have hN : cfg0.N = 16 := N_0
  blk_simp
  rw [after0_8, Pipeline.eq_sum_fin_of_reset_step_apply_of_flush (fun n h => (outsAt0 m c n h).2.2) 16 (fun _ => 0)
    (fun t => k0_pay9 (F := Ideal) (k0_pay2 (F := Ideal) (k0_pay1 (F := Ideal)) (iblk m c 0 t) (iblk m c 1 t)) (iblk m c 2 t) (iblk m c 3 t))
    (fun t h j => by have := t.isLt; rw [outsAt0_A m c t h (by omega)]; frame_out; exact (zero_add (M := EReal) _).symm)
    (fun t h j => by rw [outsAt0_B m c t h (by omega)]; frame_out; rw [add_at]) t hl _]
  obtain ⟨o, q, rfl⟩ : ∃ (o : Fin 1) (q : Fin 1024), y = ix2 o q := ⟨y 0, y 1, eq_ix2 y⟩
  have e : (win0_8.blk t).view.emb (ix2 o q) = (ix2 0 q : S1x1024.Idx) := by
    blk_point [idx t]
  obtain rfl : o = 0 := Subsingleton.elim _ _
  rw [zero_add, e, reference_gain_at]
  simp only [part_at]
  refine Fin.sum_mul_add_congr fun s k hk => ?_
  have ht : t.val / 16 = 0 := by have := t.isLt; have h : cfg0.grid.N = 16 := N_0; omega
  have hP : s.val * 512 + k.val = (16 * (t.val / 16) + s.val) * 512 + k.val := by rw [ht]; omega
  have hr := fun l => rows m c ⟨16 * (t.val / 16) + s.val, Pipeline.run_point_lt_of_flush t hl s⟩ k l ⟨s.val * 512 + k.val, hk⟩ hP
  have hg := gradient m c ⟨16 * (t.val / 16) + s.val, Pipeline.run_point_lt_of_flush t hl s⟩ k q ⟨s.val * 512 + k.val, hk⟩ hP
  exact congrArg₂ (· * ·) hg (congrArg₂ (· * ·) (hr q) (congrArg (fun f => Ideal.rsqrt (Norms.mean f)) (funext hr)))

end Cert.FfnNormBwdIdeal.Hand

end
-- ==== Proof.Norms.GateNormBwd.lean ====
/-
  A square product's gradient, carried through the norm before it, over the extended reals.
-/
module

public import proofs.«01_k».proof.Proof.Gen.GateNormBwdIdeal.Frame
public import proofs.«01_k».proof.Proof.Gen.GateNormBwdReferenceIdeal.Read
public import proofs.«01_k».proof.Proof.Norms.Row
public import Idealize.ShloMosaic.Lib.Pipeline.ValueKit
public import Idealize.ShloMosaic.Lib.Pointwise

@[expose] public section

set_option maxRecDepth 16384

noncomputable section

namespace Cert.GateNormBwdIdeal.Hand

open Cert.GateNormBwdIdeal Cert.GateNormBwdIdeal.Gen
open Cert.GateNormBwdReferenceIdeal.Read (val_main_v41 val_main_v42 val_main_v43 val_main_v4 val_main_v40 val_main_v38 val_main_v39 val_main_v31 val_main_v37 val_main_v36 val_main_v25 val_main_v30 val_main_v35 val_main_v24 val_main_v12 val_main_v34 val_main_cst_8 val_main_v18 val_main_v11 val_main_v32 val_main_v33 val_main_v9 val_main_v10 val_main_v29 val_main_v15 val_main_cst_7 val_main_v7 val_main_v8 val_main_cst_2 val_main_v28 val_main_v14 val_main_v13 val_main_v6 val_main_cst_1 val_main_v27 val_main_cst_6 val_main_cst_3 val_main_v5 val_main_cst_0 val_main_v26 val_main_v23 val_main_cst_5 val_main_v22 val_main_v21 val_main_cst_4 val_main_v17 val_main_v16 val_main_v3 val_main_v1)
open Idealize.ShloMosaic Idealize.ShloMosaic.TcCoe Idealize.ShloMosaic.Tactic

variable (m : (ℓ : Loc nD τ sig) → Buf (Elt Ideal) ℓ) (c : Dev nD)

/-- Where the windows' blocks lie at a point. -/
theorem idx : ∀ t : Fin cfg0.N, win0_0.index t = ![t.val, 0] ∧ win0_1.index t = ![0, 0] ∧ win0_2.index t = ![t.val, 0] ∧ win0_3.index t = ![0, 0] ∧ win0_4.index t = ![t.val, 0] ∧ win0_5.index t = ![t.val, 0] ∧ win0_6.index t = ![t.val, 0] ∧ win0_7.index t = ![0, 0] :=
  (by decide +kernel : ∀ t : Fin grid0.N, _)

theorem grad_at (a x r : Vec Ideal S1024x1024 .f32) (g : Vec Ideal S1x1024 .f32) (p : Fin 1024) (q : Fin 1024) :
    k0_pay6 (F := Ideal) a x g r (ix2 p q) = r (ix2 p q) + Norms.byRow (fun k => a (ix2 p k) * g (ix2 0 k)) (fun k => x (ix2 p k)) q := by
  unfold Norms.byRow Norms.mean
  pointwise [k0_pay6, k0_pay4, k0_pay5]

theorem reference_at (x0 : Vec Ideal S8192x1024 .bf16) (x1 : Vec Ideal S1024x1024 .bf16) (x2 x4 : Vec Ideal S8192x1024 .f32) (x3 : Vec Ideal S1024 .f32) (p : Fin 8192) (q : Fin 1024) :
    val_main_v41 (F := Ideal) x0 x1 x2 x3 x4 (ix2 p q) = x4 (ix2 p q) + Norms.byRow (fun k => val_main_v4 x0 x1 (ix2 p k) * x3 (ix1 k)) (fun k => x2 (ix2 p k)) q := by
  rw [Norms.byRow_eq]
  unfold Norms.share Norms.mean
  pointwise [val_main_v41, val_main_v40, val_main_v38, val_main_v39, val_main_v31, val_main_v37, val_main_v36, val_main_v25, val_main_v30, val_main_v35, val_main_v24, val_main_v12, val_main_v34, val_main_cst_8, val_main_v18, val_main_v11, val_main_v32, val_main_v33, val_main_v9, val_main_v10, val_main_v29, val_main_v15, val_main_cst_7, val_main_v7, val_main_v8, val_main_cst_2, val_main_v28, val_main_v14, val_main_v13, val_main_v6, val_main_cst_1, val_main_v27, val_main_cst_6, val_main_cst_3, val_main_v5, val_main_cst_0]
  simp only [Fin.sum_univ_one]

/-- A point's part of the gain's gradient: the sum over its rows. -/
theorem part_at (a x : Vec Ideal S1024x1024 .f32) (q : Fin 1024) :
    k0_pay8 (F := Ideal) a x (ix2 0 q) = ∑ p : Fin 1024, a (ix2 p q) * (x (ix2 p q) * Ideal.rsqrt (Norms.mean fun k => x (ix2 p k))) := by
  unfold Norms.mean
  pointwise [k0_pay8, k0_pay4, k0_pay5]

theorem add_at (a b : Vec Ideal S1x1024 .f32) (j : S1x1024.Idx) : k0_pay3 (F := Ideal) a b j = b j + a j := by
  pointwise [k0_pay3]

theorem reference_gain_at (x0 : Vec Ideal S8192x1024 .bf16) (x1 : Vec Ideal S1024x1024 .bf16) (x2 : Vec Ideal S8192x1024 .f32) (q : Fin 1024) :
    val_main_v43 (F := Ideal) x0 x1 x2 (ix2 0 q) = ∑ p : Fin 8192, val_main_v4 x0 x1 (ix2 p q) * (x2 (ix2 p q) * Ideal.rsqrt (Norms.mean fun k => x2 (ix2 p k))) := by
  unfold Norms.mean
  pointwise [val_main_v43, val_main_v26, val_main_v23, val_main_cst_5, val_main_v22, val_main_v21, val_main_cst_4, val_main_v17, val_main_v16, val_main_v12, val_main_v11, val_main_v9, val_main_v10, val_main_v7, val_main_v8, val_main_cst_2, val_main_v6, val_main_cst_1, val_main_v5, val_main_cst_0]
  simp only [Fin.sum_univ_one]
  refine Finset.sum_congr rfl fun k _ => ?_
  exact mul_comm (G := EReal) _ _

/-- The gradient a point carries through the norm: the product of its blocks. -/
theorem product_at (x : Vec Ideal S1024x1024 .bf16) (w : Vec Ideal S1024x1024 .bf16) (p : Fin 1024) (q : Fin 1024) :
    k0_pay2 (F := Ideal) (k0_pay1 (F := Ideal)) x w (ix2 p q) = ∑ k : Fin 1024, x (ix2 p k) * w (ix2 q k) := by
  pointwise [k0_pay2, k0_pay1]

theorem reference_product_at (x0 : Vec Ideal S8192x1024 .bf16) (x1 : Vec Ideal S1024x1024 .bf16) (p : Fin 8192) (q : Fin 1024) :
    val_main_v4 (F := Ideal) x0 x1 (ix2 p q) = ∑ k : Fin 1024, x0 (ix2 p k) * x1 (ix2 q k) := by
  pointwise [val_main_v4, val_main_v3, val_main_v1]

theorem out_dx (t : Fin cfg0.N) : (outsAt0 m c t.val t.isLt).1 = k0_pay6 (F := Ideal) (k0_pay2 (F := Ideal) (k0_pay1 (F := Ideal)) (iblk m c 0 t) (iblk m c 1 t)) (iblk m c 2 t) (iblk m c 3 t) (iblk m c 4 t) := by
  by_cases h : t.val % 8 = 0
  · rw [outsAt0_A m c t h (by have := t.isLt; have : cfg0.N = 8 := N_0; omega)]
    frame_out
  · rw [outsAt0_B m c t h (by omega)]
    frame_out

theorem out_dxb (t : Fin cfg0.N) : (outsAt0 m c t.val t.isLt).2.1 = k0_pay7 (F := Ideal) (k0_pay2 (F := Ideal) (k0_pay1 (F := Ideal)) (iblk m c 0 t) (iblk m c 1 t)) (iblk m c 2 t) (iblk m c 3 t) (iblk m c 4 t) := by
  by_cases h : t.val % 8 = 0
  · rw [outsAt0_A m c t h (by have := t.isLt; have : cfg0.N = 8 := N_0; omega)]
    frame_out
  · rw [outsAt0_B m c t h (by omega)]
    frame_out

/-- A block's rows of the gradient, and of the norm's argument, are the array's. -/
theorem gradient (t : Fin cfg0.N) (p : Fin 1024) (q : Fin 1024) (P : Fin 8192) (hP : P.val = t.val * 1024 + p.val) :
    (k0_pay2 (F := Ideal) (k0_pay1 (F := Ideal)) (iblk m c 0 t) (iblk m c 1 t)) (ix2 p q) = val_main_v4 (F := Ideal) (m ((c : Thread nD τ).loc main_arg0)) (m ((c : Thread nD τ).loc main_arg1)) (ix2 P q) := by
  rw [product_at, reference_product_at]
  refine Finset.sum_congr rfl fun l _ => ?_
  blk_point [iblk, V, idx t, hP]

theorem rows (t : Fin cfg0.N) (p : Fin 1024) (q : Fin 1024) (P : Fin 8192) (hP : P.val = t.val * 1024 + p.val) :
    (iblk m c 2 t (ix2 p q) : EReal) = m ((c : Thread nD τ).loc main_arg2) (ix2 P q) := by
  blk_point [iblk, V, idx t, hP]

/-- The kernel's gradient at an entry of a block is the reference's. -/
theorem value (t : Fin cfg0.N) (p : Fin 1024) (q : Fin 1024) (P : Fin 8192) (hP : P.val = t.val * 1024 + p.val) :
    k0_pay6 (F := Ideal) (k0_pay2 (F := Ideal) (k0_pay1 (F := Ideal)) (iblk m c 0 t) (iblk m c 1 t)) (iblk m c 2 t) (iblk m c 3 t) (iblk m c 4 t) (ix2 p q)
      = val_main_v41 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 P q) := by
  rw [grad_at, reference_at]
  congr 1
  · blk_point [iblk, V, idx t, hP]
  · congr 1
    · funext k
      congr 1
      · exact gradient m c t p k P hP
      · blk_point [iblk, V, idx t, hP]
    · funext k
      exact rows m c t p k P hP

theorem result_dx : (dats m 0 c).arrAt 5 cfg0.N = val_main_v41 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp
  rw [after0_5, out_dx]
  obtain ⟨p, q, rfl⟩ : ∃ (p : Fin 1024) (q : Fin 1024), y = ix2 p q := ⟨y 0, y 1, eq_ix2 y⟩
  have ht : t.val < 8 := t.isLt
  refine (value m c t p q ⟨t.val * 1024 + p.val, by omega⟩ rfl).trans ?_
  blk_point [idx t]

theorem result_dxb : (dats m 0 c).arrAt 6 cfg0.N = val_main_v42 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6, out_dxb]
  obtain ⟨p, q, rfl⟩ : ∃ (p : Fin 1024) (q : Fin 1024), y = ix2 p q := ⟨y 0, y 1, eq_ix2 y⟩
  have ht : t.val < 8 := t.isLt
  refine (value m c t p q ⟨t.val * 1024 + p.val, by omega⟩ rfl).trans ?_
  blk_point [idx t, val_main_v42]

/-- The parts add up in the result's window to the sum over all rows. -/
theorem result_gain : (dats m 0 c).arrAt 7 cfg0.N = val_main_v43 (F := Ideal) (m ((c : Thread nD τ).loc main_arg0)) (m ((c : Thread nD τ).loc main_arg1)) (m ((c : Thread nD τ).loc main_arg2)) := by
  refine (dats m 0 c).arrAt_eq_of_covers 7 _ (by decide +kernel) fun t hf y => ?_
  have hl : t.val % 8 = 7 := (flush0_7 t).mp hf
  have hN : cfg0.N = 8 := N_0
  blk_simp
  rw [after0_7, Pipeline.eq_sum_fin_of_reset_step_apply_of_flush (fun n h => (outsAt0 m c n h).2.2) 8 (fun _ => 0)
    (fun t => k0_pay8 (F := Ideal) (k0_pay2 (F := Ideal) (k0_pay1 (F := Ideal)) (iblk m c 0 t) (iblk m c 1 t)) (iblk m c 2 t))
    (fun t h j => by have := t.isLt; rw [outsAt0_A m c t h (by omega)]; frame_out; exact (zero_add (M := EReal) _).symm)
    (fun t h j => by rw [outsAt0_B m c t h (by omega)]; frame_out; rw [add_at]) t hl _]
  obtain ⟨o, q, rfl⟩ : ∃ (o : Fin 1) (q : Fin 1024), y = ix2 o q := ⟨y 0, y 1, eq_ix2 y⟩
  have e : (win0_7.blk t).view.emb (ix2 o q) = (ix2 0 q : S1x1024.Idx) := by
    blk_point [idx t]
  obtain rfl : o = 0 := Subsingleton.elim _ _
  rw [zero_add, e, reference_gain_at]
  simp only [part_at]
  refine Fin.sum_mul_add_congr fun s k hk => ?_
  have ht : t.val / 8 = 0 := by have := t.isLt; have h : cfg0.grid.N = 8 := N_0; omega
  have hP : s.val * 1024 + k.val = (8 * (t.val / 8) + s.val) * 1024 + k.val := by rw [ht]; omega
  have hr := fun l => rows m c ⟨8 * (t.val / 8) + s.val, Pipeline.run_point_lt_of_flush t hl s⟩ k l ⟨s.val * 1024 + k.val, hk⟩ hP
  have hg := gradient m c ⟨8 * (t.val / 8) + s.val, Pipeline.run_point_lt_of_flush t hl s⟩ k q ⟨s.val * 1024 + k.val, hk⟩ hP
  exact congrArg₂ (· * ·) hg (congrArg₂ (· * ·) (hr q) (congrArg (fun f => Ideal.rsqrt (Norms.mean f)) (funext hr)))

end Cert.GateNormBwdIdeal.Hand

end
-- ==== Proof.Norms.KvNormBwd.lean ====
/-
  The keys' and values' gradient, carried through the norm before their projection, over the extended reals.
-/
module

public import proofs.«01_k».proof.Proof.Gen.KvNormBwdIdeal.Frame
public import proofs.«01_k».proof.Proof.Gen.KvNormBwdReferenceIdeal.Read
public import proofs.«01_k».proof.Proof.Norms.Row
public import Idealize.ShloMosaic.Lib.Pipeline.ValueKit
public import Idealize.ShloMosaic.Lib.Pointwise

@[expose] public section

set_option maxRecDepth 16384

noncomputable section

namespace Cert.KvNormBwdIdeal.Hand

open Cert.KvNormBwdIdeal Cert.KvNormBwdIdeal.Gen
open Cert.KvNormBwdReferenceIdeal.Read (val_main_v40 val_main_v41 val_main_v42 val_main_v3 val_main_v39 val_main_v37 val_main_v38 val_main_v30 val_main_v36 val_main_v35 val_main_v24 val_main_v29 val_main_v34 val_main_v23 val_main_v11 val_main_v33 val_main_cst_8 val_main_v17 val_main_v10 val_main_v31 val_main_v32 val_main_v8 val_main_v9 val_main_v28 val_main_v14 val_main_cst_7 val_main_v6 val_main_v7 val_main_cst_2 val_main_v27 val_main_v13 val_main_v12 val_main_v5 val_main_cst_1 val_main_v26 val_main_cst_6 val_main_cst_3 val_main_v4 val_main_cst_0 val_main_v25 val_main_v22 val_main_cst_5 val_main_v21 val_main_v20 val_main_cst_4 val_main_v16 val_main_v15 val_main_v1)
open Idealize.ShloMosaic Idealize.ShloMosaic.TcCoe Idealize.ShloMosaic.Tactic

variable (m : (ℓ : Loc nD τ sig) → Buf (Elt Ideal) ℓ) (c : Dev nD)

/-- Where the windows' blocks lie at a point. -/
theorem idx : ∀ t : Fin cfg0.N, win0_0.index t = ![t.val, 0] ∧ win0_1.index t = ![0, 0] ∧ win0_2.index t = ![t.val, 0] ∧ win0_3.index t = ![0, 0] ∧ win0_4.index t = ![t.val, 0] ∧ win0_5.index t = ![t.val, 0] ∧ win0_6.index t = ![t.val, 0] ∧ win0_7.index t = ![0, 0] :=
  (by decide +kernel : ∀ t : Fin grid0.N, _)

theorem grad_at (a x r : Vec Ideal S512x1024 .f32) (g : Vec Ideal S1x1024 .f32) (p : Fin 512) (q : Fin 1024) :
    k0_pay6 (F := Ideal) a x g r (ix2 p q) = r (ix2 p q) + Norms.byRow (fun k => a (ix2 p k) * g (ix2 0 k)) (fun k => x (ix2 p k)) q := by
  unfold Norms.byRow Norms.mean
  pointwise [k0_pay6, k0_pay4, k0_pay5]

theorem reference_at (x0 : Vec Ideal S8192x2048 .f32) (x1 : Vec Ideal S1024x2048 .bf16) (x2 x4 : Vec Ideal S8192x1024 .f32) (x3 : Vec Ideal S1024 .f32) (p : Fin 8192) (q : Fin 1024) :
    val_main_v40 (F := Ideal) x0 x1 x2 x3 x4 (ix2 p q) = x4 (ix2 p q) + Norms.byRow (fun k => val_main_v3 x0 x1 (ix2 p k) * x3 (ix1 k)) (fun k => x2 (ix2 p k)) q := by
  rw [Norms.byRow_eq]
  unfold Norms.share Norms.mean
  pointwise [val_main_v40, val_main_v39, val_main_v37, val_main_v38, val_main_v30, val_main_v36, val_main_v35, val_main_v24, val_main_v29, val_main_v34, val_main_v23, val_main_v11, val_main_v33, val_main_cst_8, val_main_v17, val_main_v10, val_main_v31, val_main_v32, val_main_v8, val_main_v9, val_main_v28, val_main_v14, val_main_cst_7, val_main_v6, val_main_v7, val_main_cst_2, val_main_v27, val_main_v13, val_main_v12, val_main_v5, val_main_cst_1, val_main_v26, val_main_cst_6, val_main_cst_3, val_main_v4, val_main_cst_0]
  simp only [Fin.sum_univ_one]

/-- A point's part of the gain's gradient: the sum over its rows. -/
theorem part_at (a x : Vec Ideal S512x1024 .f32) (q : Fin 1024) :
    k0_pay8 (F := Ideal) a x (ix2 0 q) = ∑ p : Fin 512, a (ix2 p q) * (x (ix2 p q) * Ideal.rsqrt (Norms.mean fun k => x (ix2 p k))) := by
  unfold Norms.mean
  pointwise [k0_pay8, k0_pay4, k0_pay5]

theorem add_at (a b : Vec Ideal S1x1024 .f32) (j : S1x1024.Idx) : k0_pay3 (F := Ideal) a b j = b j + a j := by
  pointwise [k0_pay3]

theorem reference_gain_at (x0 : Vec Ideal S8192x2048 .f32) (x1 : Vec Ideal S1024x2048 .bf16) (x2 : Vec Ideal S8192x1024 .f32) (q : Fin 1024) :
    val_main_v42 (F := Ideal) x0 x1 x2 (ix2 0 q) = ∑ p : Fin 8192, val_main_v3 x0 x1 (ix2 p q) * (x2 (ix2 p q) * Ideal.rsqrt (Norms.mean fun k => x2 (ix2 p k))) := by
  unfold Norms.mean
  pointwise [val_main_v42, val_main_v25, val_main_v22, val_main_cst_5, val_main_v21, val_main_v20, val_main_cst_4, val_main_v16, val_main_v15, val_main_v11, val_main_v10, val_main_v8, val_main_v9, val_main_v6, val_main_v7, val_main_cst_2, val_main_v5, val_main_cst_1, val_main_v4, val_main_cst_0]
  simp only [Fin.sum_univ_one]
  refine Finset.sum_congr rfl fun k _ => ?_
  exact mul_comm (G := EReal) _ _

/-- The gradient a point carries through the norm: the product of its blocks. -/
theorem product_at (x : Vec Ideal S512x2048 .f32) (w : Vec Ideal S1024x2048 .bf16) (p : Fin 512) (q : Fin 1024) :
    k0_pay2 (F := Ideal) (k0_pay1 (F := Ideal)) x w (ix2 p q) = ∑ k : Fin 2048, x (ix2 p k) * w (ix2 q k) := by
  pointwise [k0_pay2, k0_pay1]

theorem reference_product_at (x0 : Vec Ideal S8192x2048 .f32) (x1 : Vec Ideal S1024x2048 .bf16) (p : Fin 8192) (q : Fin 1024) :
    val_main_v3 (F := Ideal) x0 x1 (ix2 p q) = ∑ k : Fin 2048, x0 (ix2 p k) * x1 (ix2 q k) := by
  pointwise [val_main_v3, val_main_v1]

theorem out_dx (t : Fin cfg0.N) : (outsAt0 m c t.val t.isLt).1 = k0_pay6 (F := Ideal) (k0_pay2 (F := Ideal) (k0_pay1 (F := Ideal)) (iblk m c 0 t) (iblk m c 1 t)) (iblk m c 2 t) (iblk m c 3 t) (iblk m c 4 t) := by
  by_cases h : t.val % 16 = 0
  · rw [outsAt0_A m c t h (by have := t.isLt; have : cfg0.N = 16 := N_0; omega)]
    frame_out
  · rw [outsAt0_B m c t h (by omega)]
    frame_out

theorem out_dxb (t : Fin cfg0.N) : (outsAt0 m c t.val t.isLt).2.1 = k0_pay7 (F := Ideal) (k0_pay2 (F := Ideal) (k0_pay1 (F := Ideal)) (iblk m c 0 t) (iblk m c 1 t)) (iblk m c 2 t) (iblk m c 3 t) (iblk m c 4 t) := by
  by_cases h : t.val % 16 = 0
  · rw [outsAt0_A m c t h (by have := t.isLt; have : cfg0.N = 16 := N_0; omega)]
    frame_out
  · rw [outsAt0_B m c t h (by omega)]
    frame_out

/-- A block's rows of the gradient, and of the norm's argument, are the array's. -/
theorem gradient (t : Fin cfg0.N) (p : Fin 512) (q : Fin 1024) (P : Fin 8192) (hP : P.val = t.val * 512 + p.val) :
    (k0_pay2 (F := Ideal) (k0_pay1 (F := Ideal)) (iblk m c 0 t) (iblk m c 1 t)) (ix2 p q) = val_main_v3 (F := Ideal) (m ((c : Thread nD τ).loc main_arg0)) (m ((c : Thread nD τ).loc main_arg1)) (ix2 P q) := by
  rw [product_at, reference_product_at]
  refine Finset.sum_congr rfl fun l _ => ?_
  blk_point [iblk, V, idx t, hP]

theorem rows (t : Fin cfg0.N) (p : Fin 512) (q : Fin 1024) (P : Fin 8192) (hP : P.val = t.val * 512 + p.val) :
    (iblk m c 2 t (ix2 p q) : EReal) = m ((c : Thread nD τ).loc main_arg2) (ix2 P q) := by
  blk_point [iblk, V, idx t, hP]

/-- The kernel's gradient at an entry of a block is the reference's. -/
theorem value (t : Fin cfg0.N) (p : Fin 512) (q : Fin 1024) (P : Fin 8192) (hP : P.val = t.val * 512 + p.val) :
    k0_pay6 (F := Ideal) (k0_pay2 (F := Ideal) (k0_pay1 (F := Ideal)) (iblk m c 0 t) (iblk m c 1 t)) (iblk m c 2 t) (iblk m c 3 t) (iblk m c 4 t) (ix2 p q)
      = val_main_v40 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 P q) := by
  rw [grad_at, reference_at]
  congr 1
  · blk_point [iblk, V, idx t, hP]
  · congr 1
    · funext k
      congr 1
      · exact gradient m c t p k P hP
      · blk_point [iblk, V, idx t, hP]
    · funext k
      exact rows m c t p k P hP

theorem result_dx : (dats m 0 c).arrAt 5 cfg0.N = val_main_v40 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp
  rw [after0_5, out_dx]
  obtain ⟨p, q, rfl⟩ : ∃ (p : Fin 512) (q : Fin 1024), y = ix2 p q := ⟨y 0, y 1, eq_ix2 y⟩
  have ht : t.val < 16 := t.isLt
  refine (value m c t p q ⟨t.val * 512 + p.val, by omega⟩ rfl).trans ?_
  blk_point [idx t]

theorem result_dxb : (dats m 0 c).arrAt 6 cfg0.N = val_main_v41 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6, out_dxb]
  obtain ⟨p, q, rfl⟩ : ∃ (p : Fin 512) (q : Fin 1024), y = ix2 p q := ⟨y 0, y 1, eq_ix2 y⟩
  have ht : t.val < 16 := t.isLt
  refine (value m c t p q ⟨t.val * 512 + p.val, by omega⟩ rfl).trans ?_
  blk_point [idx t, val_main_v41]

/-- The parts add up in the result's window to the sum over all rows. -/
theorem result_gain : (dats m 0 c).arrAt 7 cfg0.N = val_main_v42 (F := Ideal) (m ((c : Thread nD τ).loc main_arg0)) (m ((c : Thread nD τ).loc main_arg1)) (m ((c : Thread nD τ).loc main_arg2)) := by
  refine (dats m 0 c).arrAt_eq_of_covers 7 _ (by decide +kernel) fun t hf y => ?_
  have hl : t.val % 16 = 15 := (flush0_7 t).mp hf
  have hN : cfg0.N = 16 := N_0
  blk_simp
  rw [after0_7, Pipeline.eq_sum_fin_of_reset_step_apply_of_flush (fun n h => (outsAt0 m c n h).2.2) 16 (fun _ => 0)
    (fun t => k0_pay8 (F := Ideal) (k0_pay2 (F := Ideal) (k0_pay1 (F := Ideal)) (iblk m c 0 t) (iblk m c 1 t)) (iblk m c 2 t))
    (fun t h j => by have := t.isLt; rw [outsAt0_A m c t h (by omega)]; frame_out; exact (zero_add (M := EReal) _).symm)
    (fun t h j => by rw [outsAt0_B m c t h (by omega)]; frame_out; rw [add_at]) t hl _]
  obtain ⟨o, q, rfl⟩ : ∃ (o : Fin 1) (q : Fin 1024), y = ix2 o q := ⟨y 0, y 1, eq_ix2 y⟩
  have e : (win0_7.blk t).view.emb (ix2 o q) = (ix2 0 q : S1x1024.Idx) := by
    blk_point [idx t]
  obtain rfl : o = 0 := Subsingleton.elim _ _
  rw [zero_add, e, reference_gain_at]
  simp only [part_at]
  refine Fin.sum_mul_add_congr fun s k hk => ?_
  have ht : t.val / 16 = 0 := by have := t.isLt; have h : cfg0.grid.N = 16 := N_0; omega
  have hP : s.val * 512 + k.val = (16 * (t.val / 16) + s.val) * 512 + k.val := by rw [ht]; omega
  have hr := fun l => rows m c ⟨16 * (t.val / 16) + s.val, Pipeline.run_point_lt_of_flush t hl s⟩ k l ⟨s.val * 512 + k.val, hk⟩ hP
  have hg := gradient m c ⟨16 * (t.val / 16) + s.val, Pipeline.run_point_lt_of_flush t hl s⟩ k q ⟨s.val * 512 + k.val, hk⟩ hP
  exact congrArg₂ (· * ·) hg (congrArg₂ (· * ·) (hr q) (congrArg (fun f => Ideal.rsqrt (Norms.mean f)) (funext hr)))

end Cert.KvNormBwdIdeal.Hand

end
-- ==== Proof.Norms.SsmNormBwd.lean ====
/-
  The state-space branch's gradient, carried through the norm, over the extended reals.
-/
module

public import proofs.«01_k».proof.Proof.Gen.SsmNormBwdIdeal.Frame
public import proofs.«01_k».proof.Proof.Gen.SsmNormBwdReferenceIdeal.Read
public import proofs.«01_k».proof.Proof.Norms.Row
public import Idealize.ShloMosaic.Lib.Pipeline.ValueKit
public import Idealize.ShloMosaic.Lib.Pointwise

@[expose] public section

set_option maxRecDepth 16384

noncomputable section

namespace Cert.SsmNormBwdIdeal.Hand

open Cert.SsmNormBwdIdeal Cert.SsmNormBwdIdeal.Gen
open Cert.SsmNormBwdReferenceIdeal.Read (val_main_v43 val_main_v44 val_main_v45 val_main_v6 val_main_v42 val_main_v40 val_main_v41 val_main_v33 val_main_v39 val_main_v38 val_main_v27 val_main_v32 val_main_v37 val_main_v26 val_main_v14 val_main_v36 val_main_cst_8 val_main_v20 val_main_v13 val_main_v34 val_main_v35 val_main_v11 val_main_v12 val_main_v31 val_main_v17 val_main_cst_7 val_main_v9 val_main_v10 val_main_cst_2 val_main_v30 val_main_v16 val_main_v15 val_main_v8 val_main_cst_1 val_main_v29 val_main_cst_6 val_main_cst_3 val_main_v7 val_main_cst_0 val_main_v28 val_main_v25 val_main_cst_5 val_main_v24 val_main_v23 val_main_cst_4 val_main_v19 val_main_v18 val_main_v5 val_main_v4 val_main_v2 val_main_v0)
open Idealize.ShloMosaic Idealize.ShloMosaic.TcCoe Idealize.ShloMosaic.Tactic

variable (m : (ℓ : Loc nD τ sig) → Buf (Elt Ideal) ℓ) (c : Dev nD)

/-- Where the windows' blocks lie at a point. -/
theorem idx : ∀ t : Fin cfg0.N, win0_0.index t = ![t.val / 3, t.val % 3] ∧ win0_1.index t = ![0, t.val % 3] ∧ win0_2.index t = ![t.val / 3, 0] ∧ win0_3.index t = ![t.val / 3, 0] ∧ win0_4.index t = ![0, 0] ∧ win0_5.index t = ![t.val / 3, 0] ∧ win0_6.index t = ![t.val / 3, 0] ∧ win0_7.index t = ![t.val / 3, 0] ∧ win0_8.index t = ![0, 0] :=
  (by decide +kernel : ∀ t : Fin grid0.N, _)

theorem grad_at (a d x r : Vec Ideal S512x1024 .f32) (g : Vec Ideal S1x1024 .f32) (p : Fin 512) (q : Fin 1024) :
    k0_pay7 (F := Ideal) a d x g r (ix2 p q) = r (ix2 p q) + Norms.byRow (fun k => (a (ix2 p k) + d (ix2 p k)) * g (ix2 0 k)) (fun k => x (ix2 p k)) q := by
  unfold Norms.byRow Norms.mean
  pointwise [k0_pay7, k0_pay5, k0_pay6, k0_pay4]

theorem reference_at (x0 : Vec Ideal S8192x3072 .bf16) (x1 : Vec Ideal S1024x5632 .bf16) (x2 x4 x5 : Vec Ideal S8192x1024 .f32) (x3 : Vec Ideal S1024 .f32) (p : Fin 8192) (q : Fin 1024) :
    val_main_v43 (F := Ideal) x0 x1 x2 x3 x4 x5 (ix2 p q) = x4 (ix2 p q) + Norms.byRow (fun k => val_main_v6 x0 x1 x5 (ix2 p k) * x3 (ix1 k)) (fun k => x2 (ix2 p k)) q := by
  rw [Norms.byRow_eq]
  unfold Norms.share Norms.mean
  pointwise [val_main_v43, val_main_v42, val_main_v40, val_main_v41, val_main_v33, val_main_v39, val_main_v38, val_main_v27, val_main_v32, val_main_v37, val_main_v26, val_main_v14, val_main_v36, val_main_cst_8, val_main_v20, val_main_v13, val_main_v34, val_main_v35, val_main_v11, val_main_v12, val_main_v31, val_main_v17, val_main_cst_7, val_main_v9, val_main_v10, val_main_cst_2, val_main_v30, val_main_v16, val_main_v15, val_main_v8, val_main_cst_1, val_main_v29, val_main_cst_6, val_main_cst_3, val_main_v7, val_main_cst_0]
  simp only [Fin.sum_univ_one]

/-- A point's part of the gain's gradient: the sum over its rows. -/
theorem part_at (a d x : Vec Ideal S512x1024 .f32) (q : Fin 1024) :
    k0_pay9 (F := Ideal) a d x (ix2 0 q) = ∑ p : Fin 512, (a (ix2 p q) + d (ix2 p q)) * (x (ix2 p q) * Ideal.rsqrt (Norms.mean fun k => x (ix2 p k))) := by
  unfold Norms.mean
  pointwise [k0_pay9, k0_pay5, k0_pay6, k0_pay4]

theorem add_at (a b : Vec Ideal S1x1024 .f32) (j : S1x1024.Idx) : k0_pay3 (F := Ideal) a b j = b j + a j := by
  pointwise [k0_pay3]

theorem reference_gain_at (x0 : Vec Ideal S8192x3072 .bf16) (x1 : Vec Ideal S1024x5632 .bf16) (x2 x5 : Vec Ideal S8192x1024 .f32) (q : Fin 1024) :
    val_main_v45 (F := Ideal) x0 x1 x2 x5 (ix2 0 q) = ∑ p : Fin 8192, val_main_v6 x0 x1 x5 (ix2 p q) * (x2 (ix2 p q) * Ideal.rsqrt (Norms.mean fun k => x2 (ix2 p k))) := by
  unfold Norms.mean
  pointwise [val_main_v45, val_main_v28, val_main_v25, val_main_cst_5, val_main_v24, val_main_v23, val_main_cst_4, val_main_v19, val_main_v18, val_main_v14, val_main_v13, val_main_v11, val_main_v12, val_main_v9, val_main_v10, val_main_cst_2, val_main_v8, val_main_cst_1, val_main_v7, val_main_cst_0]
  simp only [Fin.sum_univ_one]
  refine Finset.sum_congr rfl fun k _ => ?_
  exact mul_comm (G := EReal) _ _

theorem zero_at (j : S512x1024.Idx) : k0_pay1 (F := Ideal) j = 0 := by pointwise [k0_pay1]

/-- One point adds the product of its two blocks. -/
theorem step_at (a : Vec Ideal S512x1024 .f32) (x : Vec Ideal S512x1024 .bf16) (w : Vec Ideal S1024x1024 .bf16) (p : Fin 512) (q : Fin 1024) :
    k0_pay2 (F := Ideal) a x w (ix2 p q) = a (ix2 p q) + ∑ k : Fin 1024, x (ix2 p k) * w (ix2 q k) := by
  pointwise [k0_pay2]

theorem held (x : Vec Ideal S512x1024 .f32) : View.read (Elt Ideal) (View.whole cc0_scratch0) ((Memref.isWhole_whole cc0_scratch0).unread x) = x :=
  (Memref.isWhole_whole cc0_scratch0).read_unread x

theorem reference_product_at (x0 : Vec Ideal S8192x3072 .bf16) (x1 : Vec Ideal S1024x5632 .bf16) (x5 : Vec Ideal S8192x1024 .f32) (p : Fin 8192) (q : Fin 1024) :
    val_main_v6 (F := Ideal) x0 x1 x5 (ix2 p q) = x5 (ix2 p q) + ∑ k : Fin 3072, x0 (ix2 p k) * x1 (ix2 q (⟨2048 + k.val, by omega⟩ : Fin 5632)) := by
  pointwise [val_main_v6, val_main_v5, val_main_v4, val_main_v2, val_main_v0]

theorem out_dx (t : Fin cfg0.N) (h : t.val % 3 = 2) : (outsAt0 m c t.val t.isLt).1 = k0_pay7 (F := Ideal) (outsAt0 m c t.val t.isLt).2.2.2 (iblk m c 2 t) (iblk m c 3 t) (iblk m c 4 t) (iblk m c 5 t) := by
  by_cases h2 : t.val < 3
  · rw [outsAt0_C m c t (by omega) h h2 (by omega)]
    frame_out
  · rw [outsAt0_D m c t (by omega) h h2 (by omega)]
    frame_out

theorem out_dxb (t : Fin cfg0.N) (h : t.val % 3 = 2) : (outsAt0 m c t.val t.isLt).2.1 = k0_pay8 (F := Ideal) (outsAt0 m c t.val t.isLt).2.2.2 (iblk m c 2 t) (iblk m c 3 t) (iblk m c 4 t) (iblk m c 5 t) := by
  by_cases h2 : t.val < 3
  · rw [outsAt0_C m c t (by omega) h h2 (by omega)]
    frame_out
  · rw [outsAt0_D m c t (by omega) h h2 (by omega)]
    frame_out

/-- The product of two rows. -/
def dotted {n : ℕ} (a b : Fin n → EReal) : EReal := ∑ k, a k * b k

/-- What the last of three points has accumulated: the product's block. -/
theorem product_at (t : Fin cfg0.N) (h : t.val % 3 = 2) (p : Fin 512) (q : Fin 1024) (P : Fin 8192) (hP : P.val = t.val / 3 * 512 + p.val) :
    (outsAt0 m c t.val t.isLt).2.2.2 (ix2 p q) = dotted (n := 3072) (fun k => m ((c : Thread nD τ).loc main_arg0) (ix2 P k)) (fun k => m ((c : Thread nD τ).loc main_arg1) (ix2 q (⟨2048 + k.val, by omega⟩ : Fin 5632))) := by
  rw [Pipeline.eq_sum_fin_of_reset_step_apply_of_flush (fun n h => (outsAt0 m c n h).2.2.2) 3 (fun _ => 0)
    (fun t y => dotted (n := 1024) (fun k => iblk m c 0 t (ix2 (y 0) k)) (fun k => iblk m c 1 t (ix2 (y 1) k)))
    (fun t h y => by
      obtain ⟨p, q, rfl⟩ : ∃ (p : Fin 512) (q : Fin 1024), y = ix2 p q := ⟨y 0, y 1, eq_ix2 y⟩
      rw [outsAt0_A m c t h (by omega)]; frame_out; rw [step_at, zero_at]; rfl)
    (fun t h y => by
      obtain ⟨p, q, rfl⟩ : ∃ (p : Fin 512) (q : Fin 1024), y = ix2 p q := ⟨y 0, y 1, eq_ix2 y⟩
      by_cases h1 : t.val % 3 = 2
      · by_cases h2 : t.val < 3
        · rw [outsAt0_C m c t h h1 h2 (by omega)]; frame_out; rw [step_at, held]; rfl
        · rw [outsAt0_D m c t h h1 h2 (by omega)]; frame_out; rw [step_at, held]; rfl
      · rw [outsAt0_B m c t h h1]; frame_out; rw [step_at, held]; rfl) t h _, zero_add]
  unfold dotted
  refine Fin.sum_mul_add_congr fun s k hk => ?_
  refine congrArg₂ (fun x y : EReal => x * y) ?_ ?_
  · blk_point [iblk, V, idx t, idx ⟨_, Pipeline.run_point_lt_of_flush t h s⟩, hP]
  · blk_point [iblk, V, idx t, idx ⟨_, Pipeline.run_point_lt_of_flush t h s⟩, hP]

theorem gradient (t : Fin cfg0.N) (h : t.val % 3 = 2) (p : Fin 512) (q : Fin 1024) (P : Fin 8192) (hP : P.val = t.val / 3 * 512 + p.val) :
    (outsAt0 m c t.val t.isLt).2.2.2 (ix2 p q) + iblk m c 2 t (ix2 p q) = val_main_v6 (F := Ideal) (m ((c : Thread nD τ).loc main_arg0)) (m ((c : Thread nD τ).loc main_arg1)) (m ((c : Thread nD τ).loc main_arg5)) (ix2 P q) := by
  rw [product_at m c t h p q P hP, reference_product_at]
  refine (add_comm (G := EReal) _ _).trans ?_
  unfold dotted
  congr 1
  blk_point [iblk, V, idx t, hP]

theorem rows (t : Fin cfg0.N) (p : Fin 512) (q : Fin 1024) (P : Fin 8192) (hP : P.val = t.val / 3 * 512 + p.val) :
    (iblk m c 3 t (ix2 p q) : EReal) = m ((c : Thread nD τ).loc main_arg2) (ix2 P q) := by
  blk_point [iblk, V, idx t, hP]

/-- The kernel's gradient at an entry of a block is the reference's. -/
theorem value (t : Fin cfg0.N) (h : t.val % 3 = 2) (p : Fin 512) (q : Fin 1024) (P : Fin 8192) (hP : P.val = t.val / 3 * 512 + p.val) :
    k0_pay7 (F := Ideal) (outsAt0 m c t.val t.isLt).2.2.2 (iblk m c 2 t) (iblk m c 3 t) (iblk m c 4 t) (iblk m c 5 t) (ix2 p q)
      = val_main_v43 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 P q) := by
  rw [grad_at, reference_at]
  congr 1
  · blk_point [iblk, V, idx t, hP]
  · congr 1
    · funext k
      congr 1
      · exact gradient m c t h p k P hP
      · blk_point [iblk, V, idx t, hP]
    · funext k
      exact rows m c t p k P hP

theorem result_dx : (dats m 0 c).arrAt 6 cfg0.N = val_main_v43 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 6 _ (by decide +kernel) fun t hf y => ?_
  blk_simp
  have h : t.val % 3 = 2 := (flush0_6 t).mp hf
  rw [after0_6, out_dx m c t h]
  obtain ⟨p, q, rfl⟩ : ∃ (p : Fin 512) (q : Fin 1024), y = ix2 p q := ⟨y 0, y 1, eq_ix2 y⟩
  have ht : t.val < 48 := t.isLt
  refine (value m c t h p q ⟨t.val / 3 * 512 + p.val, by omega⟩ rfl).trans ?_
  blk_point [idx t]

theorem result_dxb : (dats m 0 c).arrAt 7 cfg0.N = val_main_v44 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 7 _ (by decide +kernel) fun t hf y => ?_
  blk_simp
  have h : t.val % 3 = 2 := (flush0_7 t).mp hf
  rw [after0_7, out_dxb m c t h]
  obtain ⟨p, q, rfl⟩ : ∃ (p : Fin 512) (q : Fin 1024), y = ix2 p q := ⟨y 0, y 1, eq_ix2 y⟩
  have ht : t.val < 48 := t.isLt
  refine (value m c t h p q ⟨t.val / 3 * 512 + p.val, by omega⟩ rfl).trans ?_
  blk_point [idx t, val_main_v44]

/-- The first block of rows sets the gain's gradient, -/
theorem gain_first (t : Fin cfg0.N) (h : t.val % 3 = 2) (h2 : t.val < 3) :
    (outsAt0 m c t.val t.isLt).2.2.1 = k0_pay9 (F := Ideal) (outsAt0 m c (t).val (t).isLt).2.2.2 (iblk m c 2 (t)) (iblk m c 3 (t)) := by
  rw [outsAt0_C m c t (by omega) h h2 (by omega)]
  frame_out

/-- each further one adds its part to it, -/
theorem gain_next (t : Fin cfg0.N) (h : t.val % 3 = 2) (h2 : 3 ≤ t.val) :
    (outsAt0 m c t.val t.isLt).2.2.1 = k0_pay3 (F := Ideal) (k0_pay9 (F := Ideal) (outsAt0 m c (t).val (t).isLt).2.2.2 (iblk m c 2 (t)) (iblk m c 3 (t))) (outsAt0 m c (t.val - 1) (Nat.lt_of_le_of_lt (Nat.sub_le _ _) t.isLt)).2.2.1 := by
  rw [outsAt0_D m c t (by omega) h (by omega) h2]
  frame_out

/-- and the points between keep it. -/
theorem gain_kept (t : Fin cfg0.N) (h : ¬t.val % 3 = 2) :
    (outsAt0 m c t.val t.isLt).2.2.1 = (outsAt0 m c (t.val - 1) (Nat.lt_of_le_of_lt (Nat.sub_le _ _) t.isLt)).2.2.1 := by
  by_cases h0 : t.val % 3 = 0
  · rw [outsAt0_A m c t h0 h]
    dsimp only
    unfold out0_A_8
    rfl
  · rw [outsAt0_B m c t h0 h]
    dsimp only
    unfold out0_B_8
    rfl

theorem same_point (a b : ℕ) (h : a = b) (ha : a < cfg0.N) (hb : b < cfg0.N) : outsAt0 m c a ha = outsAt0 m c b hb := by
  subst h
  rfl

/-- What a block of rows finds there is what the block before left. -/
theorem gain_before (n : Fin 16) (h : ¬n.val = 0) (h1 : 3 * n.val + 2 - 1 < cfg0.N) (h2 : 3 * (n.val - 1) + 2 < cfg0.N) :
    (outsAt0 m c (3 * n.val + 2 - 1) h1).2.2.1 = (outsAt0 m c (3 * (n.val - 1) + 2) h2).2.2.1 := by
  refine (gain_kept m c ⟨3 * n.val + 2 - 1, h1⟩ (by dsimp only; omega)).trans ?_
  refine (gain_kept m c ⟨3 * n.val + 2 - 1 - 1, by omega⟩ (by dsimp only; omega)).trans ?_
  rw [same_point m c _ (3 * (n.val - 1) + 2) (by dsimp only; omega) _ h2]

/-- A block of rows' part of the gain's gradient, at the last of its three points. -/
def part (n : Fin 16) : Vec Ideal S1x1024 .f32 :=
  k0_pay9 (F := Ideal) (outsAt0 m c ((⟨3 * n.val + 2, by have := n.isLt; have : cfg0.N = 48 := N_0; omega⟩ : Fin cfg0.N)).val ((⟨3 * n.val + 2, by have := n.isLt; have : cfg0.N = 48 := N_0; omega⟩ : Fin cfg0.N)).isLt).2.2.2 (iblk m c 2 ((⟨3 * n.val + 2, by have := n.isLt; have : cfg0.N = 48 := N_0; omega⟩ : Fin cfg0.N))) (iblk m c 3 ((⟨3 * n.val + 2, by have := n.isLt; have : cfg0.N = 48 := N_0; omega⟩ : Fin cfg0.N)))

/-- The gain's gradient as a block of rows leaves it. -/
def upTo (n : ℕ) (h : n < 16) : Vec Ideal S1x1024 .f32 :=
  (outsAt0 m c (3 * n + 2) (by have : cfg0.N = 48 := N_0; omega)).2.2.1

theorem upTo_first (n : Fin 16) (h : n.val % 16 = 0) (y : S1x1024.Idx) : upTo m c n.val n.isLt y = 0 + part m c n y := by
  rw [zero_add]
  have := n.isLt
  exact congrFun (gain_first m c (⟨3 * n.val + 2, by have := n.isLt; have : cfg0.N = 48 := N_0; omega⟩ : Fin cfg0.N) (by dsimp only; omega) (by dsimp only; omega)) y

theorem upTo_next (n : Fin 16) (h : ¬n.val % 16 = 0) (y : S1x1024.Idx) :
    upTo m c n.val n.isLt y = upTo m c (n.val - 1) (Nat.lt_of_le_of_lt (Nat.sub_le _ _) n.isLt) y + part m c n y := by
  have := n.isLt
  refine (congrFun (gain_next m c (⟨3 * n.val + 2, by have := n.isLt; have : cfg0.N = 48 := N_0; omega⟩ : Fin cfg0.N) (by dsimp only; omega) (by dsimp only; omega)) y).trans ?_
  rw [add_at]
  refine congrArg (· + part m c n y) ?_
  exact congrFun (gain_before m c n (by omega) _ _) y

theorem gain_total (y : S1x1024.Idx) : upTo m c 15 (by decide) y = ∑ n : Fin 16, part m c n y := by
  refine (Pipeline.eq_sum_fin_of_reset_step_apply_of_flush (upTo m c) 16 (fun _ => (0 : EReal)) (part m c) (upTo_first m c) (upTo_next m c) (15 : Fin 16) rfl y).trans ?_
  rw [zero_add]
  refine Finset.sum_congr rfl fun n _ => ?_
  exact congrArg (fun n : Fin 16 => part m c n y) (Fin.ext (Nat.zero_add n.val))

/-- The parts add up in the result's window to the sum over all rows. -/
theorem result_gain : (dats m 0 c).arrAt 8 cfg0.N = val_main_v45 (F := Ideal) (m ((c : Thread nD τ).loc main_arg0)) (m ((c : Thread nD τ).loc main_arg1)) (m ((c : Thread nD τ).loc main_arg2)) (m ((c : Thread nD τ).loc main_arg5)) := by
  refine (dats m 0 c).arrAt_eq_of_covers 8 _ (by decide +kernel) fun t hf y => ?_
  have hl : t.val % 48 = 47 := (flush0_8 t).mp hf
  have hN : cfg0.grid.N = 48 := N_0
  blk_simp
  have e47 : (outsAt0 m c t.val t.isLt).2.2.1 = upTo m c 15 (by decide) := by
    unfold upTo
    rw [same_point m c t.val (3 * 15 + 2) (by have := t.isLt; omega)]
  rw [after0_8, e47, gain_total]
  obtain ⟨o, q, rfl⟩ : ∃ (o : Fin 1) (q : Fin 1024), y = ix2 o q := ⟨y 0, y 1, eq_ix2 y⟩
  have e : (win0_8.blk t).view.emb (ix2 o q) = (ix2 0 q : S1x1024.Idx) := by
    blk_point [idx t]
  obtain rfl : o = 0 := Subsingleton.elim _ _
  rw [e, reference_gain_at]
  simp only [part, part_at]
  refine Fin.sum_mul_add_congr fun s k hk => ?_
  have hP : s.val * 512 + k.val = (3 * s.val + 2) / 3 * 512 + k.val := by omega
  have hr := fun l => rows m c (⟨3 * s.val + 2, by have := s.isLt; have : cfg0.N = 48 := N_0; omega⟩ : Fin cfg0.N) k l ⟨s.val * 512 + k.val, hk⟩ hP
  have hg := gradient m c (⟨3 * s.val + 2, by have := s.isLt; have : cfg0.N = 48 := N_0; omega⟩ : Fin cfg0.N) (by dsimp only; omega) k q ⟨s.val * 512 + k.val, hk⟩ hP
  exact congrArg₂ (· * ·) hg (congrArg₂ (· * ·) (hr q) (congrArg (fun f => Ideal.rsqrt (Norms.mean f)) (funext hr)))

end Cert.SsmNormBwdIdeal.Hand

end
-- ==== Proof.Norms.Sigmoid.lean ====
/-
  The logistic function by the hyperbolic tangent and by the exponential: the same over the extended reals.
-/
module

public import Idealize.ShloMosaic.PureOps.Ideal
public import Idealize.ShloMosaic.Lib.Pointwise

@[expose] public section

noncomputable section

namespace Cert.Norms

open Idealize.ShloMosaic

theorem half_is : (Ideal.ofBits .f32 0x3F000000#32 : EReal) = ((1 / 2 : ℝ) : EReal) := by
  simp [Ideal.ofBits, Ideal.ieee, -EReal.coe_mul]; norm_num

theorem one_is : (Ideal.ofBits .f32 0x3F800000#32 : EReal) = ((1 : ℝ) : EReal) := by
  simp [Ideal.ofBits, Ideal.ieee, -EReal.coe_mul]; norm_num

theorem sigmoid_real (x : ℝ) : 1 / 2 * Real.tanh (1 / 2 * x) + 1 / 2 = 1 / (1 + Real.exp (-x)) := by
  have h1 : Real.exp (-x) = Real.exp (-(1 / 2 * x)) * Real.exp (-(1 / 2 * x)) := by rw [← Real.exp_add]; ring_nf
  have h2 : Real.exp (-(1 / 2 * x)) * Real.exp (1 / 2 * x) = 1 := by rw [← Real.exp_add]; simp
  have hp := Real.exp_pos (1 / 2 * x)
  have hq := Real.exp_pos (-(1 / 2 * x))
  rw [Real.tanh_eq_sinh_div_cosh, Real.sinh_eq, Real.cosh_eq, h1]
  generalize Real.exp (1 / 2 * x) = e at *
  generalize Real.exp (-(1 / 2 * x)) = f at *
  have he : e = f⁻¹ := by field_simp; linarith
  subst he
  field_simp
  ring

/-- Half of the tangent of half, plus half, is the logistic function. -/
theorem sigmoid (x : EReal) : (Ideal.ofBits .f32 0x3F000000#32 : EReal) * Ideal.tanh ((Ideal.ofBits .f32 0x3F000000#32 : EReal) * x) + (Ideal.ofBits .f32 0x3F000000#32 : EReal)
    = Ideal.div (Ideal.ofBits .f32 0x3F800000#32 : EReal) ((Ideal.ofBits .f32 0x3F800000#32 : EReal) + Ideal.exp (-x)) := by
  rw [half_is, one_is]
  induction x using EReal.rec with
  | bot =>
    rw [EReal.coe_mul_bot_of_pos (by norm_num), Ideal.tanh_bot, EReal.neg_bot, Ideal.exp_top, EReal.coe_add_top, Ideal.div, if_neg EReal.top_ne_zero,
      EReal.inv_top, mul_zero, mul_neg_one, ← EReal.coe_neg, ← EReal.coe_add, neg_add_cancel]
    rfl
  | top =>
    rw [EReal.coe_mul_top_of_pos (by norm_num), Ideal.tanh_top, EReal.neg_top, Ideal.exp_bot, add_zero, Ideal.div_coe one_ne_zero]
    norm_cast
    norm_num
  | coe x =>
    have hp : (1 : ℝ) + Real.exp (-x) ≠ 0 := (add_pos one_pos (Real.exp_pos _)).ne'
    rw [← EReal.coe_mul, Ideal.tanh_coe, ← EReal.coe_neg, Ideal.exp_coe, ← EReal.coe_add, Ideal.div_coe hp]
    norm_cast
    rw [sigmoid_real, one_mul]

end Cert.Norms

end
-- ==== Proof.Norms.PleBwd.lean ====
/-
  The gradient of the mixing of a per-layer embedding, over the extended reals.
-/
module

public import proofs.«01_k».proof.Proof.Gen.PleBwdIdeal.Frame
public import proofs.«01_k».proof.Proof.Gen.PleBwdReferenceIdeal.Read
public import proofs.«01_k».proof.Proof.Norms.Sigmoid
public import Idealize.ShloMosaic.Lib.Pipeline.ValueKit
public import Idealize.ShloMosaic.Lib.Pointwise

@[expose] public section

set_option maxRecDepth 16384

noncomputable section

namespace Cert.PleBwdIdeal.Hand

open Cert.PleBwdIdeal Cert.PleBwdIdeal.Gen
open Cert.PleBwdReferenceIdeal.Read (val_main_v13 val_main_v12 val_main_v11 val_main_v8 val_main_v5 val_main_v7 val_main_v4 val_main_v3 val_main_v6 val_main_cst_0 val_main_v2 val_main_v1 val_main_cst_1 val_main_cst val_main_v0 val_main_v14 val_main_v10)
open Idealize.ShloMosaic Idealize.ShloMosaic.TcCoe Idealize.ShloMosaic.Tactic

variable (m : (ℓ : Loc nD τ sig) → Buf (Elt Ideal) ℓ) (c : Dev nD)

/-- Where the windows' blocks lie at a point. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] :=
  (by decide +kernel : ∀ t : Fin grid0.N, _)

/-- The gate's value. -/
theorem gate_at (a : Vec Ideal S512x1024 .f32) (p : Fin 512) (q : Fin 1024) :
    k0_pay1 (F := Ideal) a (ix2 p q) = Ideal.div (Ideal.ofBits .f32 0x3F800000#32 : EReal) ((Ideal.ofBits .f32 0x3F800000#32 : EReal) + Ideal.exp (-a (ix2 p q))) := by
  rw [← Norms.sigmoid]
  pointwise [k0_pay1]

theorem pay_gate_at (a d e : Vec Ideal S512x1024 .f32) (p : Fin 512) (q : Fin 1024) :
    k0_pay2 (F := Ideal) a d e (ix2 p q) = d (ix2 p q) * e (ix2 p q) * (Ideal.div (Ideal.ofBits .f32 0x3F800000#32 : EReal) ((Ideal.ofBits .f32 0x3F800000#32 : EReal) + Ideal.exp (-a (ix2 p q))) * ((Ideal.ofBits .f32 0x3F800000#32 : EReal) - Ideal.div (Ideal.ofBits .f32 0x3F800000#32 : EReal) ((Ideal.ofBits .f32 0x3F800000#32 : EReal) + Ideal.exp (-a (ix2 p q))))) := by
  rw [← gate_at]
  pointwise [k0_pay2]

theorem pay_embedding_at (a d : Vec Ideal S512x1024 .f32) (p : Fin 512) (q : Fin 1024) :
    k0_pay3 (F := Ideal) a d (ix2 p q) = Ideal.div (Ideal.ofBits .f32 0x3F800000#32 : EReal) ((Ideal.ofBits .f32 0x3F800000#32 : EReal) + Ideal.exp (-a (ix2 p q))) * d (ix2 p q) := by
  rw [← gate_at]
  pointwise [k0_pay3]
  exact mul_comm (G := EReal) _ _

theorem reference_gate_at (d a e : Vec Ideal S8192x1024 .f32) (p : Fin 8192) (q : Fin 1024) :
    val_main_v13 (F := Ideal) d a e (ix2 p q) = d (ix2 p q) * e (ix2 p q) * (Ideal.div (Ideal.ofBits .f32 0x3F800000#32 : EReal) ((Ideal.ofBits .f32 0x3F800000#32 : EReal) + Ideal.exp (-a (ix2 p q))) * ((Ideal.ofBits .f32 0x3F800000#32 : EReal) - Ideal.div (Ideal.ofBits .f32 0x3F800000#32 : EReal) ((Ideal.ofBits .f32 0x3F800000#32 : EReal) + Ideal.exp (-a (ix2 p q))))) := by
  pointwise [val_main_v13, val_main_v12, val_main_v11, val_main_v8, val_main_v5, val_main_v7, val_main_v4, val_main_v3, val_main_v6, val_main_cst_0, val_main_v2, val_main_v1, val_main_cst_1, val_main_cst, val_main_v0]

theorem reference_embedding_at (d a : Vec Ideal S8192x1024 .f32) (p : Fin 8192) (q : Fin 1024) :
    val_main_v14 (F := Ideal) d a (ix2 p q) = Ideal.div (Ideal.ofBits .f32 0x3F800000#32 : EReal) ((Ideal.ofBits .f32 0x3F800000#32 : EReal) + Ideal.exp (-a (ix2 p q))) * d (ix2 p q) := by
  pointwise [val_main_v14, val_main_v10, val_main_v5, val_main_v4, val_main_v3, val_main_cst_0, val_main_v2, val_main_v1, val_main_cst, val_main_v0]

theorem result_gate : (dats m 0 c).arrAt 3 cfg0.N = val_main_v13 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  obtain ⟨p, q, rfl⟩ : ∃ (p : Fin 512) (q : Fin 1024), y = ix2 p q := ⟨y 0, y 1, eq_ix2 y⟩
  have ht : t.val < 16 := t.isLt
  have e : (win0_3.blk t).view.emb (ix2 p q) = (ix2 ⟨t.val * 512 + p.val, by omega⟩ q : S8192x1024.Idx) := by
    blk_point [idx t]
  rw [e, reference_gate_at]
  refine (pay_gate_at _ _ _ p q).trans ?_
  blk_point [iblk, V, idx t]

theorem result_embedding : (dats m 0 c).arrAt 4 cfg0.N = val_main_v14 (F := Ideal) (m ((c : Thread nD τ).loc main_arg0)) (m ((c : Thread nD τ).loc main_arg1)) := by
  refine (dats m 0 c).arrAt_eq_of_covers 4 _ (by decide +kernel) fun t hf y => ?_
  blk_simp
  rw [after0_4]
  frame_out
  obtain ⟨p, q, rfl⟩ : ∃ (p : Fin 512) (q : Fin 1024), y = ix2 p q := ⟨y 0, y 1, eq_ix2 y⟩
  have ht : t.val < 16 := t.isLt
  have e : (win0_4.blk t).view.emb (ix2 p q) = (ix2 ⟨t.val * 512 + p.val, by omega⟩ q : S8192x1024.Idx) := by
    blk_point [idx t]
  rw [e, reference_embedding_at]
  refine (pay_embedding_at _ _ p q).trans ?_
  blk_point [iblk, V, idx t]

end Cert.PleBwdIdeal.Hand

end
-- ==== Proof.Norms.Ple.lean ====
/-
  The mixing of a per-layer embedding, over the extended reals: the gate is the logistic function.
-/
module

public import proofs.«01_k».proof.Proof.Gen.PleIdeal.Frame
public import proofs.«01_k».proof.Proof.Gen.PleReferenceIdeal.Read
public import proofs.«01_k».proof.Proof.Norms.Sigmoid
public import Idealize.ShloMosaic.Lib.Pipeline.ValueKit
public import Idealize.ShloMosaic.Lib.Pointwise

@[expose] public section

set_option maxRecDepth 16384

noncomputable section

namespace Cert.PleIdeal.Hand

open Cert.PleIdeal Cert.PleIdeal.Gen
open Cert.PleReferenceIdeal.Read (val_main_v7 val_main_v6 val_main_v5 val_main_v4 val_main_v3 val_main_cst_0 val_main_v2 val_main_v1 val_main_cst val_main_v0)
open Idealize.ShloMosaic Idealize.ShloMosaic.TcCoe Idealize.ShloMosaic.Tactic

variable (m : (ℓ : Loc nD τ sig) → Buf (Elt Ideal) ℓ) (c : Dev nD)

/-- Where the windows' blocks lie at a point. -/
theorem idx : ∀ t : Fin cfg0.N, win0_0.index t = ![t.val, 0] ∧ win0_1.index t = ![t.val, 0] ∧ win0_2.index t = ![t.val, 0] ∧ win0_3.index t = ![t.val, 0] :=
  (by decide +kernel : ∀ t : Fin grid0.N, _)

theorem pay_at (h a e : Vec Ideal S512x1024 .f32) (p : Fin 512) (q : Fin 1024) :
    k0_pay1 (F := Ideal) h a e (ix2 p q) = h (ix2 p q) + Ideal.div (Ideal.ofBits .f32 0x3F800000#32 : EReal) ((Ideal.ofBits .f32 0x3F800000#32 : EReal) + Ideal.exp (-a (ix2 p q))) * e (ix2 p q) := by
  rw [← Norms.sigmoid]
  pointwise [k0_pay1]

theorem reference_at (h a e : Vec Ideal S8192x1024 .f32) (p : Fin 8192) (q : Fin 1024) :
    val_main_v7 (F := Ideal) h a e (ix2 p q) = h (ix2 p q) + Ideal.div (Ideal.ofBits .f32 0x3F800000#32 : EReal) ((Ideal.ofBits .f32 0x3F800000#32 : EReal) + Ideal.exp (-a (ix2 p q))) * e (ix2 p q) := by
  pointwise [val_main_v7, val_main_v6, val_main_v5, val_main_v4, val_main_v3, val_main_cst_0, val_main_v2, val_main_v1, val_main_cst, val_main_v0]

theorem result : (dats m 0 c).arrAt 3 cfg0.N = val_main_v7 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  obtain ⟨p, q, rfl⟩ : ∃ (p : Fin 512) (q : Fin 1024), y = ix2 p q := ⟨y 0, y 1, eq_ix2 y⟩
  have ht : t.val < 16 := t.isLt
  have e : (win0_3.blk t).view.emb (ix2 p q) = (ix2 ⟨t.val * 512 + p.val, by omega⟩ q : S8192x1024.Idx) := by
    blk_point [idx t]
  rw [e, reference_at]
  refine (pay_at _ _ _ p q).trans ?_
  blk_point [iblk, V, idx t]

end Cert.PleIdeal.Hand

end
-- ==== Proof.Norms.Norm.lean ====
/-
  The root-mean-square norm, over the extended reals.
-/
module

public import proofs.«01_k».proof.Proof.Gen.NormIdeal.Frame
public import proofs.«01_k».proof.Proof.Gen.NormReferenceIdeal.Read
public import proofs.«01_k».proof.Proof.Norms.Row
public import Idealize.ShloMosaic.Lib.Pipeline.ValueKit
public import Idealize.ShloMosaic.Lib.Pointwise

@[expose] public section

set_option maxRecDepth 16384

noncomputable section

namespace Cert.NormIdeal.Hand

open Cert.NormIdeal Cert.NormIdeal.Gen
open Cert.NormReferenceIdeal.Read (val_main_v13 val_main_v12 val_main_v9 val_main_v11 val_main_v8 val_main_v10 val_main_v7 val_main_v6 val_main_v4 val_main_v5 val_main_v2 val_main_v3 val_main_cst_1 val_main_v1 val_main_cst_0 val_main_v0 val_main_cst)
open Idealize.ShloMosaic Idealize.ShloMosaic.TcCoe Idealize.ShloMosaic.Tactic

variable (m : (ℓ : Loc nD τ sig) → Buf (Elt Ideal) ℓ) (c : Dev nD)

/-- Where the windows' blocks lie at a point. -/
theorem idx : ∀ t : Fin cfg0.N, win0_0.index t = ![t.val, 0] ∧ win0_1.index t = ![0, 0] ∧ win0_2.index t = ![t.val, 0] :=
  (by decide +kernel : ∀ t : Fin grid0.N, _)

theorem pay_at (x : Vec Ideal S512x1024 .f32) (g : Vec Ideal S1x1024 .f32) (p : Fin 512) (q : Fin 1024) :
    k0_pay1 (F := Ideal) x g (ix2 p q) = x (ix2 p q) * Ideal.rsqrt (Norms.mean fun k => x (ix2 p k)) * g (ix2 0 q) := by
  unfold Norms.mean
  pointwise [k0_pay1]

theorem reference_at (x : Vec Ideal S8192x1024 .f32) (g : Vec Ideal S1024 .f32) (p : Fin 8192) (q : Fin 1024) :
    val_main_v13 (F := Ideal) x g (ix2 p q) = x (ix2 p q) * Ideal.rsqrt (Norms.mean fun k => x (ix2 p k)) * g (ix1 q) := by
  unfold Norms.mean
  pointwise [val_main_v13, val_main_v12, val_main_v9, val_main_v11, val_main_v8, val_main_v10, val_main_v7, val_main_v6, val_main_v4, val_main_v5, val_main_v2, val_main_v3, val_main_cst_1, val_main_v1, val_main_cst_0, val_main_v0, val_main_cst]

theorem result : (dats m 0 c).arrAt 2 cfg0.N = val_main_v13 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  obtain ⟨p, q, rfl⟩ : ∃ (p : Fin 512) (q : Fin 1024), y = ix2 p q := ⟨y 0, y 1, eq_ix2 y⟩
  have ht : t.val < 16 := t.isLt
  have e : (win0_2.blk t).view.emb (ix2 p q) = (ix2 ⟨t.val * 512 + p.val, by omega⟩ q : S8192x1024.Idx) := by
    blk_point [idx t]
  have hr : ∀ k : Fin 1024, (iblk m c 0 t (ix2 p k) : EReal) = m ((c : Thread nD τ).loc main_arg0) (ix2 ⟨t.val * 512 + p.val, by omega⟩ k) := fun k => by
    blk_point [iblk, V, idx t]
  rw [e, reference_at]
  refine (pay_at _ _ p q).trans ?_
  refine congrArg₂ (· * ·) (congrArg₂ (· * ·) (hr q) (congrArg (fun f => Ideal.rsqrt (Norms.mean f)) (funext hr))) ?_
  blk_point [iblk, V, idx t]

end Cert.NormIdeal.Hand

end
-- ==== Proof.Norms.lean ====
/- The claims of the calls that carry a gradient through a norm, of the norm itself and of the mixing of a per-layer embedding. -/
module

public import proofs.«01_k».proof.Defs
public import proofs.«01_k».proof.Proof.Gen.FfnNormBwd
public import proofs.«01_k».proof.Proof.Gen.FfnNormBwdIdeal
public import proofs.«01_k».proof.Proof.Gen.FfnNormBwdReferenceIdeal
public import proofs.«01_k».proof.Proof.Gen.FfnNormBwd.Frame
public import proofs.«01_k».proof.Proof.Gen.FfnNormBwdReferenceIdeal.Run
public import proofs.«01_k».proof.Proof.Norms.FfnNormBwd
public import proofs.«01_k».proof.Proof.Gen.GateNormBwd
public import proofs.«01_k».proof.Proof.Gen.GateNormBwdIdeal
public import proofs.«01_k».proof.Proof.Gen.GateNormBwdReferenceIdeal
public import proofs.«01_k».proof.Proof.Gen.GateNormBwd.Frame
public import proofs.«01_k».proof.Proof.Gen.GateNormBwdReferenceIdeal.Run
public import proofs.«01_k».proof.Proof.Norms.GateNormBwd
public import proofs.«01_k».proof.Proof.Gen.KvNormBwd
public import proofs.«01_k».proof.Proof.Gen.KvNormBwdIdeal
public import proofs.«01_k».proof.Proof.Gen.KvNormBwdReferenceIdeal
public import proofs.«01_k».proof.Proof.Gen.KvNormBwd.Frame
public import proofs.«01_k».proof.Proof.Gen.KvNormBwdReferenceIdeal.Run
public import proofs.«01_k».proof.Proof.Norms.KvNormBwd
public import proofs.«01_k».proof.Proof.Gen.SsmNormBwd
public import proofs.«01_k».proof.Proof.Gen.SsmNormBwdIdeal
public import proofs.«01_k».proof.Proof.Gen.SsmNormBwdReferenceIdeal
public import proofs.«01_k».proof.Proof.Gen.SsmNormBwd.Frame
public import proofs.«01_k».proof.Proof.Gen.SsmNormBwdReferenceIdeal.Run
public import proofs.«01_k».proof.Proof.Norms.SsmNormBwd
public import proofs.«01_k».proof.Proof.Gen.PleBwd
public import proofs.«01_k».proof.Proof.Gen.PleBwdIdeal
public import proofs.«01_k».proof.Proof.Gen.PleBwdReferenceIdeal
public import proofs.«01_k».proof.Proof.Gen.PleBwd.Frame
public import proofs.«01_k».proof.Proof.Gen.PleBwdReferenceIdeal.Run
public import proofs.«01_k».proof.Proof.Norms.PleBwd
public import proofs.«01_k».proof.Proof.Gen.Ple
public import proofs.«01_k».proof.Proof.Gen.PleIdeal
public import proofs.«01_k».proof.Proof.Gen.PleReferenceIdeal
public import proofs.«01_k».proof.Proof.Gen.Ple.Frame
public import proofs.«01_k».proof.Proof.Gen.PleReferenceIdeal.Run
public import proofs.«01_k».proof.Proof.Norms.Ple
public import proofs.«01_k».proof.Proof.Gen.Norm
public import proofs.«01_k».proof.Proof.Gen.NormIdeal
public import proofs.«01_k».proof.Proof.Gen.NormReferenceIdeal
public import proofs.«01_k».proof.Proof.Gen.Norm.Frame
public import proofs.«01_k».proof.Proof.Gen.NormReferenceIdeal.Run
public import proofs.«01_k».proof.Proof.Norms.Norm
public import Idealize.ShloMosaic.Adequacy
public import Idealize.ShloMosaic.Init

@[expose] public section

set_option maxRecDepth 16384

noncomputable section

namespace Cert.Proof

open Idealize.ShloMosaic Idealize.SL.Sem

theorem ffnNormBwd_reference : Cert.quiescent_FfnNormBwdReferenceIdeal (hFfnNormBwdReferenceIdeal := Cert.FfnNormBwdReferenceIdeal.Gen.facts) := fun m ρ _ =>
  (θ_run Cert.FfnNormBwdReferenceIdeal.defs _ _).mono (fun r h => ⟨fun c => (h c).2.2.2, sem_eq_zero_of_no_sems (by decide) r.2⟩)
    (Cert.FfnNormBwdReferenceIdeal.Value.run m ρ)

theorem ffnNormBwd_same : Cert.algebraic_FfnNormBwdIdeal_FfnNormBwdReferenceIdeal (hFfnNormBwdIdeal := Cert.FfnNormBwdIdeal.Gen.facts) (hFfnNormBwdReferenceIdeal := Cert.FfnNormBwdReferenceIdeal.Gen.facts) :=
    fun m g m' g' _ hagree => by
  refine ⟨fun c => Cert.FfnNormBwdReferenceIdeal.Read.val_main_v43 (F := Ideal) (m (c.tc.loc Cert.FfnNormBwdIdeal.main_arg0)) (m (c.tc.loc Cert.FfnNormBwdIdeal.main_arg1)) (m (c.tc.loc Cert.FfnNormBwdIdeal.main_arg2)) (m (c.tc.loc Cert.FfnNormBwdIdeal.main_arg3)) (m (c.tc.loc Cert.FfnNormBwdIdeal.main_arg4)) (m (c.tc.loc Cert.FfnNormBwdIdeal.main_arg5)),
    fun c => Cert.FfnNormBwdReferenceIdeal.Read.val_main_v44 (F := Ideal) (m (c.tc.loc Cert.FfnNormBwdIdeal.main_arg0)) (m (c.tc.loc Cert.FfnNormBwdIdeal.main_arg1)) (m (c.tc.loc Cert.FfnNormBwdIdeal.main_arg2)) (m (c.tc.loc Cert.FfnNormBwdIdeal.main_arg3)) (m (c.tc.loc Cert.FfnNormBwdIdeal.main_arg4)) (m (c.tc.loc Cert.FfnNormBwdIdeal.main_arg5)),
    fun c => Cert.FfnNormBwdReferenceIdeal.Read.val_main_v45 (F := Ideal) (m (c.tc.loc Cert.FfnNormBwdIdeal.main_arg0)) (m (c.tc.loc Cert.FfnNormBwdIdeal.main_arg1)) (m (c.tc.loc Cert.FfnNormBwdIdeal.main_arg2)) (m (c.tc.loc Cert.FfnNormBwdIdeal.main_arg5)), ?_, ?_⟩
  · refine (θ_run Cert.FfnNormBwdIdeal.defs _ _).mono (fun r h c => ?_) (Idealize.ShloMosaic.θ_run_and (Cert.FfnNormBwdIdeal.Gen.run_main m g) (Cert.FfnNormBwdIdeal.Gen.unchanged m g))
    exact ⟨((h.1 c).1 6).trans (Cert.FfnNormBwdIdeal.Hand.result_dx m c),
      ((h.1 c).1 7).trans (Cert.FfnNormBwdIdeal.Hand.result_dxb m c),
      ((h.1 c).1 8).trans (Cert.FfnNormBwdIdeal.Hand.result_gain m c), h.2 c⟩
  · refine (θ_run Cert.FfnNormBwdReferenceIdeal.defs _ _).mono (fun r h c => ?_) (Cert.FfnNormBwdReferenceIdeal.Value.run m' g')
    obtain ⟨h43, h44, h45, ha⟩ := h c
    obtain ⟨e0, e1, e2, e3, e4, e5⟩ := hagree c
    refine ⟨h43.trans ?_, h44.trans ?_, h45.trans ?_, ha⟩
    · rw [Cert.FfnNormBwdReferenceIdeal.Read.val_main_v43_eq, e0, e1, e2, e3, e4, e5]
    · rw [Cert.FfnNormBwdReferenceIdeal.Read.val_main_v44_eq, e0, e1, e2, e3, e4, e5]
    · rw [Cert.FfnNormBwdReferenceIdeal.Read.val_main_v45_eq, e0, e1, e2, e5]

theorem gateNormBwd_reference : Cert.quiescent_GateNormBwdReferenceIdeal (hGateNormBwdReferenceIdeal := Cert.GateNormBwdReferenceIdeal.Gen.facts) := fun m ρ _ =>
  (θ_run Cert.GateNormBwdReferenceIdeal.defs _ _).mono (fun r h => ⟨fun c => (h c).2.2.2, sem_eq_zero_of_no_sems (by decide) r.2⟩)
    (Cert.GateNormBwdReferenceIdeal.Value.run m ρ)

theorem gateNormBwd_same : Cert.algebraic_GateNormBwdIdeal_GateNormBwdReferenceIdeal (hGateNormBwdIdeal := Cert.GateNormBwdIdeal.Gen.facts) (hGateNormBwdReferenceIdeal := Cert.GateNormBwdReferenceIdeal.Gen.facts) :=
    fun m g m' g' _ hagree => by
  refine ⟨fun c => Cert.GateNormBwdReferenceIdeal.Read.val_main_v41 (F := Ideal) (m (c.tc.loc Cert.GateNormBwdIdeal.main_arg0)) (m (c.tc.loc Cert.GateNormBwdIdeal.main_arg1)) (m (c.tc.loc Cert.GateNormBwdIdeal.main_arg2)) (m (c.tc.loc Cert.GateNormBwdIdeal.main_arg3)) (m (c.tc.loc Cert.GateNormBwdIdeal.main_arg4)),
    fun c => Cert.GateNormBwdReferenceIdeal.Read.val_main_v42 (F := Ideal) (m (c.tc.loc Cert.GateNormBwdIdeal.main_arg0)) (m (c.tc.loc Cert.GateNormBwdIdeal.main_arg1)) (m (c.tc.loc Cert.GateNormBwdIdeal.main_arg2)) (m (c.tc.loc Cert.GateNormBwdIdeal.main_arg3)) (m (c.tc.loc Cert.GateNormBwdIdeal.main_arg4)),
    fun c => Cert.GateNormBwdReferenceIdeal.Read.val_main_v43 (F := Ideal) (m (c.tc.loc Cert.GateNormBwdIdeal.main_arg0)) (m (c.tc.loc Cert.GateNormBwdIdeal.main_arg1)) (m (c.tc.loc Cert.GateNormBwdIdeal.main_arg2)), ?_, ?_⟩
  · refine (θ_run Cert.GateNormBwdIdeal.defs _ _).mono (fun r h c => ?_) (Idealize.ShloMosaic.θ_run_and (Cert.GateNormBwdIdeal.Gen.run_main m g) (Cert.GateNormBwdIdeal.Gen.unchanged m g))
    exact ⟨((h.1 c).1 5).trans (Cert.GateNormBwdIdeal.Hand.result_dx m c),
      ((h.1 c).1 6).trans (Cert.GateNormBwdIdeal.Hand.result_dxb m c),
      ((h.1 c).1 7).trans (Cert.GateNormBwdIdeal.Hand.result_gain m c), h.2 c⟩
  · refine (θ_run Cert.GateNormBwdReferenceIdeal.defs _ _).mono (fun r h c => ?_) (Cert.GateNormBwdReferenceIdeal.Value.run m' g')
    obtain ⟨h41, h42, h43, ha⟩ := h c
    obtain ⟨e0, e1, e2, e3, e4⟩ := hagree c
    refine ⟨h41.trans ?_, h42.trans ?_, h43.trans ?_, ha⟩
    · rw [Cert.GateNormBwdReferenceIdeal.Read.val_main_v41_eq, e0, e1, e2, e3, e4]
    · rw [Cert.GateNormBwdReferenceIdeal.Read.val_main_v42_eq, e0, e1, e2, e3, e4]
    · rw [Cert.GateNormBwdReferenceIdeal.Read.val_main_v43_eq, e0, e1, e2]

theorem kvNormBwd_reference : Cert.quiescent_KvNormBwdReferenceIdeal (hKvNormBwdReferenceIdeal := Cert.KvNormBwdReferenceIdeal.Gen.facts) := fun m ρ _ =>
  (θ_run Cert.KvNormBwdReferenceIdeal.defs _ _).mono (fun r h => ⟨fun c => (h c).2.2.2, sem_eq_zero_of_no_sems (by decide) r.2⟩)
    (Cert.KvNormBwdReferenceIdeal.Value.run m ρ)

theorem kvNormBwd_same : Cert.algebraic_KvNormBwdIdeal_KvNormBwdReferenceIdeal (hKvNormBwdIdeal := Cert.KvNormBwdIdeal.Gen.facts) (hKvNormBwdReferenceIdeal := Cert.KvNormBwdReferenceIdeal.Gen.facts) :=
    fun m g m' g' _ hagree => by
  refine ⟨fun c => Cert.KvNormBwdReferenceIdeal.Read.val_main_v40 (F := Ideal) (m (c.tc.loc Cert.KvNormBwdIdeal.main_arg0)) (m (c.tc.loc Cert.KvNormBwdIdeal.main_arg1)) (m (c.tc.loc Cert.KvNormBwdIdeal.main_arg2)) (m (c.tc.loc Cert.KvNormBwdIdeal.main_arg3)) (m (c.tc.loc Cert.KvNormBwdIdeal.main_arg4)),
    fun c => Cert.KvNormBwdReferenceIdeal.Read.val_main_v41 (F := Ideal) (m (c.tc.loc Cert.KvNormBwdIdeal.main_arg0)) (m (c.tc.loc Cert.KvNormBwdIdeal.main_arg1)) (m (c.tc.loc Cert.KvNormBwdIdeal.main_arg2)) (m (c.tc.loc Cert.KvNormBwdIdeal.main_arg3)) (m (c.tc.loc Cert.KvNormBwdIdeal.main_arg4)),
    fun c => Cert.KvNormBwdReferenceIdeal.Read.val_main_v42 (F := Ideal) (m (c.tc.loc Cert.KvNormBwdIdeal.main_arg0)) (m (c.tc.loc Cert.KvNormBwdIdeal.main_arg1)) (m (c.tc.loc Cert.KvNormBwdIdeal.main_arg2)), ?_, ?_⟩
  · refine (θ_run Cert.KvNormBwdIdeal.defs _ _).mono (fun r h c => ?_) (Idealize.ShloMosaic.θ_run_and (Cert.KvNormBwdIdeal.Gen.run_main m g) (Cert.KvNormBwdIdeal.Gen.unchanged m g))
    exact ⟨((h.1 c).1 5).trans (Cert.KvNormBwdIdeal.Hand.result_dx m c),
      ((h.1 c).1 6).trans (Cert.KvNormBwdIdeal.Hand.result_dxb m c),
      ((h.1 c).1 7).trans (Cert.KvNormBwdIdeal.Hand.result_gain m c), h.2 c⟩
  · refine (θ_run Cert.KvNormBwdReferenceIdeal.defs _ _).mono (fun r h c => ?_) (Cert.KvNormBwdReferenceIdeal.Value.run m' g')
    obtain ⟨h40, h41, h42, ha⟩ := h c
    obtain ⟨e0, e1, e2, e3, e4⟩ := hagree c
    refine ⟨h40.trans ?_, h41.trans ?_, h42.trans ?_, ha⟩
    · rw [Cert.KvNormBwdReferenceIdeal.Read.val_main_v40_eq, e0, e1, e2, e3, e4]
    · rw [Cert.KvNormBwdReferenceIdeal.Read.val_main_v41_eq, e0, e1, e2, e3, e4]
    · rw [Cert.KvNormBwdReferenceIdeal.Read.val_main_v42_eq, e0, e1, e2]

theorem ssmNormBwd_reference : Cert.quiescent_SsmNormBwdReferenceIdeal (hSsmNormBwdReferenceIdeal := Cert.SsmNormBwdReferenceIdeal.Gen.facts) := fun m ρ _ =>
  (θ_run Cert.SsmNormBwdReferenceIdeal.defs _ _).mono (fun r h => ⟨fun c => (h c).2.2.2, sem_eq_zero_of_no_sems (by decide) r.2⟩)
    (Cert.SsmNormBwdReferenceIdeal.Value.run m ρ)

theorem ssmNormBwd_same : Cert.algebraic_SsmNormBwdIdeal_SsmNormBwdReferenceIdeal (hSsmNormBwdIdeal := Cert.SsmNormBwdIdeal.Gen.facts) (hSsmNormBwdReferenceIdeal := Cert.SsmNormBwdReferenceIdeal.Gen.facts) :=
    fun m g m' g' _ hagree => by
  refine ⟨fun c => Cert.SsmNormBwdReferenceIdeal.Read.val_main_v43 (F := Ideal) (m (c.tc.loc Cert.SsmNormBwdIdeal.main_arg0)) (m (c.tc.loc Cert.SsmNormBwdIdeal.main_arg1)) (m (c.tc.loc Cert.SsmNormBwdIdeal.main_arg2)) (m (c.tc.loc Cert.SsmNormBwdIdeal.main_arg3)) (m (c.tc.loc Cert.SsmNormBwdIdeal.main_arg4)) (m (c.tc.loc Cert.SsmNormBwdIdeal.main_arg5)),
    fun c => Cert.SsmNormBwdReferenceIdeal.Read.val_main_v44 (F := Ideal) (m (c.tc.loc Cert.SsmNormBwdIdeal.main_arg0)) (m (c.tc.loc Cert.SsmNormBwdIdeal.main_arg1)) (m (c.tc.loc Cert.SsmNormBwdIdeal.main_arg2)) (m (c.tc.loc Cert.SsmNormBwdIdeal.main_arg3)) (m (c.tc.loc Cert.SsmNormBwdIdeal.main_arg4)) (m (c.tc.loc Cert.SsmNormBwdIdeal.main_arg5)),
    fun c => Cert.SsmNormBwdReferenceIdeal.Read.val_main_v45 (F := Ideal) (m (c.tc.loc Cert.SsmNormBwdIdeal.main_arg0)) (m (c.tc.loc Cert.SsmNormBwdIdeal.main_arg1)) (m (c.tc.loc Cert.SsmNormBwdIdeal.main_arg2)) (m (c.tc.loc Cert.SsmNormBwdIdeal.main_arg5)), ?_, ?_⟩
  · refine (θ_run Cert.SsmNormBwdIdeal.defs _ _).mono (fun r h c => ?_) (Idealize.ShloMosaic.θ_run_and (Cert.SsmNormBwdIdeal.Gen.run_main m g) (Cert.SsmNormBwdIdeal.Gen.unchanged m g))
    exact ⟨((h.1 c).1 6).trans (Cert.SsmNormBwdIdeal.Hand.result_dx m c),
      ((h.1 c).1 7).trans (Cert.SsmNormBwdIdeal.Hand.result_dxb m c),
      ((h.1 c).1 8).trans (Cert.SsmNormBwdIdeal.Hand.result_gain m c), h.2 c⟩
  · refine (θ_run Cert.SsmNormBwdReferenceIdeal.defs _ _).mono (fun r h c => ?_) (Cert.SsmNormBwdReferenceIdeal.Value.run m' g')
    obtain ⟨h43, h44, h45, ha⟩ := h c
    obtain ⟨e0, e1, e2, e3, e4, e5⟩ := hagree c
    refine ⟨h43.trans ?_, h44.trans ?_, h45.trans ?_, ha⟩
    · rw [Cert.SsmNormBwdReferenceIdeal.Read.val_main_v43_eq, e0, e1, e2, e3, e4, e5]
    · rw [Cert.SsmNormBwdReferenceIdeal.Read.val_main_v44_eq, e0, e1, e2, e3, e4, e5]
    · rw [Cert.SsmNormBwdReferenceIdeal.Read.val_main_v45_eq, e0, e1, e2, e5]

theorem pleBwd_reference : Cert.quiescent_PleBwdReferenceIdeal (hPleBwdReferenceIdeal := Cert.PleBwdReferenceIdeal.Gen.facts) := fun m ρ _ =>
  (θ_run Cert.PleBwdReferenceIdeal.defs _ _).mono (fun r h => ⟨fun c => (h c).2.2, sem_eq_zero_of_no_sems (by decide) r.2⟩)
    (Cert.PleBwdReferenceIdeal.Value.run m ρ)

theorem pleBwd_same : Cert.algebraic_PleBwdIdeal_PleBwdReferenceIdeal (hPleBwdIdeal := Cert.PleBwdIdeal.Gen.facts) (hPleBwdReferenceIdeal := Cert.PleBwdReferenceIdeal.Gen.facts) :=
    fun m g m' g' _ hagree => by
  refine ⟨fun c => Cert.PleBwdReferenceIdeal.Read.val_main_v13 (F := Ideal) (m (c.tc.loc Cert.PleBwdIdeal.main_arg0)) (m (c.tc.loc Cert.PleBwdIdeal.main_arg1)) (m (c.tc.loc Cert.PleBwdIdeal.main_arg2)),
    fun c => Cert.PleBwdReferenceIdeal.Read.val_main_v14 (F := Ideal) (m (c.tc.loc Cert.PleBwdIdeal.main_arg0)) (m (c.tc.loc Cert.PleBwdIdeal.main_arg1)), ?_, ?_⟩
  · refine (θ_run Cert.PleBwdIdeal.defs _ _).mono (fun r h c => ?_) (Idealize.ShloMosaic.θ_run_and (Cert.PleBwdIdeal.Gen.run_main m g) (Cert.PleBwdIdeal.Gen.unchanged m g))
    exact ⟨((h.1 c).1 3).trans (Cert.PleBwdIdeal.Hand.result_gate m c),
      ((h.1 c).1 4).trans (Cert.PleBwdIdeal.Hand.result_embedding m c), h.2 c⟩
  · refine (θ_run Cert.PleBwdReferenceIdeal.defs _ _).mono (fun r h c => ?_) (Cert.PleBwdReferenceIdeal.Value.run m' g')
    obtain ⟨h13, h14, ha⟩ := h c
    obtain ⟨e0, e1, e2⟩ := hagree c
    refine ⟨h13.trans ?_, h14.trans ?_, ha⟩
    · rw [Cert.PleBwdReferenceIdeal.Read.val_main_v13_eq, e0, e1, e2]
    · rw [Cert.PleBwdReferenceIdeal.Read.val_main_v14_eq, e0, e1]

theorem ple_reference : Cert.quiescent_PleReferenceIdeal (hPleReferenceIdeal := Cert.PleReferenceIdeal.Gen.facts) := fun m ρ _ =>
  (θ_run Cert.PleReferenceIdeal.defs _ _).mono (fun r h => ⟨fun c => (h c).2, sem_eq_zero_of_no_sems (by decide) r.2⟩)
    (Cert.PleReferenceIdeal.Value.run m ρ)

theorem ple_same : Cert.algebraic_PleIdeal_PleReferenceIdeal (hPleIdeal := Cert.PleIdeal.Gen.facts) (hPleReferenceIdeal := Cert.PleReferenceIdeal.Gen.facts) :=
    fun m g m' g' _ hagree => by
  refine ⟨fun c => Cert.PleReferenceIdeal.Read.val_main_v7 (F := Ideal) (m (c.tc.loc Cert.PleIdeal.main_arg0)) (m (c.tc.loc Cert.PleIdeal.main_arg1)) (m (c.tc.loc Cert.PleIdeal.main_arg2)), ?_, ?_⟩
  · refine (θ_run Cert.PleIdeal.defs _ _).mono (fun r h c => ?_) (Idealize.ShloMosaic.θ_run_and (Cert.PleIdeal.Gen.run_main m g) (Cert.PleIdeal.Gen.unchanged m g))
    exact ⟨((h.1 c).1 3).trans (Cert.PleIdeal.Hand.result m c), h.2 c⟩
  · refine (θ_run Cert.PleReferenceIdeal.defs _ _).mono (fun r h c => ?_) (Cert.PleReferenceIdeal.Value.run m' g')
    obtain ⟨h7, ha⟩ := h c
    obtain ⟨e0, e1, e2⟩ := hagree c
    refine ⟨h7.trans ?_, ha⟩
    · rw [Cert.PleReferenceIdeal.Read.val_main_v7_eq, e0, e1, e2]

theorem norm_reference : Cert.quiescent_NormReferenceIdeal (hNormReferenceIdeal := Cert.NormReferenceIdeal.Gen.facts) := fun m ρ _ =>
  (θ_run Cert.NormReferenceIdeal.defs _ _).mono (fun r h => ⟨fun c => (h c).2, sem_eq_zero_of_no_sems (by decide) r.2⟩)
    (Cert.NormReferenceIdeal.Value.run m ρ)

theorem norm_same : Cert.algebraic_NormIdeal_NormReferenceIdeal (hNormIdeal := Cert.NormIdeal.Gen.facts) (hNormReferenceIdeal := Cert.NormReferenceIdeal.Gen.facts) :=
    fun m g m' g' _ hagree => by
  refine ⟨fun c => Cert.NormReferenceIdeal.Read.val_main_v13 (F := Ideal) (m (c.tc.loc Cert.NormIdeal.main_arg0)) (m (c.tc.loc Cert.NormIdeal.main_arg1)), ?_, ?_⟩
  · refine (θ_run Cert.NormIdeal.defs _ _).mono (fun r h c => ?_) (Idealize.ShloMosaic.θ_run_and (Cert.NormIdeal.Gen.run_main m g) (Cert.NormIdeal.Gen.unchanged m g))
    exact ⟨((h.1 c).1 2).trans (Cert.NormIdeal.Hand.result m c), h.2 c⟩
  · refine (θ_run Cert.NormReferenceIdeal.defs _ _).mono (fun r h c => ?_) (Cert.NormReferenceIdeal.Value.run m' g')
    obtain ⟨h13, ha⟩ := h c
    obtain ⟨e0, e1⟩ := hagree c
    refine ⟨h13.trans ?_, ha⟩
    · rw [Cert.NormReferenceIdeal.Read.val_main_v13_eq, e0, e1]

end Cert.Proof

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Frame
public import proofs.«01_k».proof.Proof.Same
public import proofs.«01_k».proof.Proof.RefValue
public import proofs.«01_k».proof.Proof.Grad
public import proofs.«01_k».proof.Proof.Finite
public import proofs.«01_k».proof.Proof.Gen.DownDw
public import proofs.«01_k».proof.Proof.Gen.DownDw.Frame
public import proofs.«01_k».proof.Proof.Gen.DownDwIdeal
public import proofs.«01_k».proof.Proof.Gen.DownDwIdeal.Frame
public import proofs.«01_k».proof.Proof.Gen.DownDwReferenceIdeal
public import proofs.«01_k».proof.Proof.Gen.DownDwReferenceIdeal.Run
public import proofs.«01_k».proof.Proof.Gen.DownDwReferenceIdeal.Read
public import proofs.«01_k».proof.Proof.Gen.DownDx
public import proofs.«01_k».proof.Proof.Gen.DownDx.Frame
public import proofs.«01_k».proof.Proof.Gen.DownDxIdeal
public import proofs.«01_k».proof.Proof.Gen.DownDxIdeal.Frame
public import proofs.«01_k».proof.Proof.Gen.DownDxReferenceIdeal
public import proofs.«01_k».proof.Proof.Gen.DownDxReferenceIdeal.Run
public import proofs.«01_k».proof.Proof.Gen.DownDxReferenceIdeal.Read
public import proofs.«01_k».proof.Proof.Gen.UpDw
public import proofs.«01_k».proof.Proof.Gen.UpDw.Frame
public import proofs.«01_k».proof.Proof.Gen.UpDwIdeal
public import proofs.«01_k».proof.Proof.Gen.UpDwIdeal.Frame
public import proofs.«01_k».proof.Proof.Gen.UpDwReferenceIdeal
public import proofs.«01_k».proof.Proof.Gen.UpDwReferenceIdeal.Run
public import proofs.«01_k».proof.Proof.Gen.UpDwReferenceIdeal.Read
public import proofs.«01_k».proof.Proof.Gen.UpDx
public import proofs.«01_k».proof.Proof.Gen.UpDx.Frame
public import proofs.«01_k».proof.Proof.Gen.UpDxIdeal
public import proofs.«01_k».proof.Proof.Gen.UpDxIdeal.Frame
public import proofs.«01_k».proof.Proof.Gen.UpDxReferenceIdeal
public import proofs.«01_k».proof.Proof.Gen.UpDxReferenceIdeal.Run
public import proofs.«01_k».proof.Proof.Gen.UpDxReferenceIdeal.Read
public import proofs.«01_k».proof.Proof.Gen.Up
public import proofs.«01_k».proof.Proof.Gen.Up.Frame
public import proofs.«01_k».proof.Proof.Gen.UpIdeal
public import proofs.«01_k».proof.Proof.Gen.UpIdeal.Frame
public import proofs.«01_k».proof.Proof.Gen.UpReferenceIdeal
public import proofs.«01_k».proof.Proof.Gen.UpReferenceIdeal.Run
public import proofs.«01_k».proof.Proof.Gen.UpReferenceIdeal.Read
public import proofs.«01_k».proof.Proof.Gen.Down
public import proofs.«01_k».proof.Proof.Gen.Down.Frame
public import proofs.«01_k».proof.Proof.Gen.DownIdeal
public import proofs.«01_k».proof.Proof.Gen.DownIdeal.Frame
public import proofs.«01_k».proof.Proof.Gen.DownReferenceIdeal
public import proofs.«01_k».proof.Proof.Gen.DownReferenceIdeal.Run
public import proofs.«01_k».proof.Proof.Gen.DownReferenceIdeal.Read
public import proofs.«01_k».proof.Proof.Gen.SquareDw
public import proofs.«01_k».proof.Proof.Gen.SquareDw.Frame
public import proofs.«01_k».proof.Proof.Gen.SquareDwIdeal
public import proofs.«01_k».proof.Proof.Gen.SquareDwIdeal.Frame
public import proofs.«01_k».proof.Proof.Gen.SquareDwReferenceIdeal
public import proofs.«01_k».proof.Proof.Gen.SquareDwReferenceIdeal.Run
public import proofs.«01_k».proof.Proof.Gen.SquareDwReferenceIdeal.Read
public import proofs.«01_k».proof.Proof.Gen.KvDw
public import proofs.«01_k».proof.Proof.Gen.KvDw.Frame
public import proofs.«01_k».proof.Proof.Gen.KvDwIdeal
public import proofs.«01_k».proof.Proof.Gen.KvDwIdeal.Frame
public import proofs.«01_k».proof.Proof.Gen.KvDwReferenceIdeal
public import proofs.«01_k».proof.Proof.Gen.KvDwReferenceIdeal.Run
public import proofs.«01_k».proof.Proof.Gen.KvDwReferenceIdeal.Read
public import proofs.«01_k».proof.Proof.Gen.PleProjDw
public import proofs.«01_k».proof.Proof.Gen.PleProjDw.Frame
public import proofs.«01_k».proof.Proof.Gen.PleProjDwIdeal
public import proofs.«01_k».proof.Proof.Gen.PleProjDwIdeal.Frame
public import proofs.«01_k».proof.Proof.Gen.PleProjDwReferenceIdeal
public import proofs.«01_k».proof.Proof.Gen.PleProjDwReferenceIdeal.Run
public import proofs.«01_k».proof.Proof.Gen.PleProjDwReferenceIdeal.Read
public import proofs.«01_k».proof.Proof.Gen.AttnOutDx
public import proofs.«01_k».proof.Proof.Gen.AttnOutDx.Frame
public import proofs.«01_k».proof.Proof.Gen.AttnOutDxIdeal
public import proofs.«01_k».proof.Proof.Gen.AttnOutDxIdeal.Frame
public import proofs.«01_k».proof.Proof.Gen.AttnOutDxReferenceIdeal
public import proofs.«01_k».proof.Proof.Gen.AttnOutDxReferenceIdeal.Run
public import proofs.«01_k».proof.Proof.Gen.AttnOutDxReferenceIdeal.Read
public import proofs.«01_k».proof.Proof.Gen.SsmOutDw
public import proofs.«01_k».proof.Proof.Gen.SsmOutDw.Frame
public import proofs.«01_k».proof.Proof.Gen.SsmOutDwIdeal
public import proofs.«01_k».proof.Proof.Gen.SsmOutDwIdeal.Frame
public import proofs.«01_k».proof.Proof.Gen.SsmOutDwReferenceIdeal
public import proofs.«01_k».proof.Proof.Gen.SsmOutDwReferenceIdeal.Run
public import proofs.«01_k».proof.Proof.Gen.SsmOutDwReferenceIdeal.Read
public import proofs.«01_k».proof.Proof.Gen.SsmOutDx
public import proofs.«01_k».proof.Proof.Gen.SsmOutDx.Frame
public import proofs.«01_k».proof.Proof.Gen.SsmOutDxIdeal
public import proofs.«01_k».proof.Proof.Gen.SsmOutDxIdeal.Frame
public import proofs.«01_k».proof.Proof.Gen.SsmOutDxReferenceIdeal
public import proofs.«01_k».proof.Proof.Gen.SsmOutDxReferenceIdeal.Run
public import proofs.«01_k».proof.Proof.Gen.SsmOutDxReferenceIdeal.Read
public import proofs.«01_k».proof.Proof.Gen.SsmZDw
public import proofs.«01_k».proof.Proof.Gen.SsmZDw.Frame
public import proofs.«01_k».proof.Proof.Gen.SsmZDwIdeal
public import proofs.«01_k».proof.Proof.Gen.SsmZDwIdeal.Frame
public import proofs.«01_k».proof.Proof.Gen.SsmZDwReferenceIdeal
public import proofs.«01_k».proof.Proof.Gen.SsmZDwReferenceIdeal.Run
public import proofs.«01_k».proof.Proof.Gen.SsmZDwReferenceIdeal.Read
public import proofs.«01_k».proof.Proof.Gen.SsmZDx
public import proofs.«01_k».proof.Proof.Gen.SsmZDx.Frame
public import proofs.«01_k».proof.Proof.Gen.SsmZDxIdeal
public import proofs.«01_k».proof.Proof.Gen.SsmZDxIdeal.Frame
public import proofs.«01_k».proof.Proof.Gen.SsmZDxReferenceIdeal
public import proofs.«01_k».proof.Proof.Gen.SsmZDxReferenceIdeal.Run
public import proofs.«01_k».proof.Proof.Gen.SsmZDxReferenceIdeal.Read
public import proofs.«01_k».proof.Proof.Gen.SsmDtDw
public import proofs.«01_k».proof.Proof.Gen.SsmDtDw.Frame
public import proofs.«01_k».proof.Proof.Gen.SsmDtDwIdeal
public import proofs.«01_k».proof.Proof.Gen.SsmDtDwIdeal.Frame
public import proofs.«01_k».proof.Proof.Gen.SsmDtDwReferenceIdeal
public import proofs.«01_k».proof.Proof.Gen.SsmDtDwReferenceIdeal.Run
public import proofs.«01_k».proof.Proof.Gen.SsmDtDwReferenceIdeal.Read
public import proofs.«01_k».proof.Proof.Gen.SsmDtDx
public import proofs.«01_k».proof.Proof.Gen.SsmDtDx.Frame
public import proofs.«01_k».proof.Proof.Gen.SsmDtDxIdeal
public import proofs.«01_k».proof.Proof.Gen.SsmDtDxIdeal.Frame
public import proofs.«01_k».proof.Proof.Gen.SsmDtDxReferenceIdeal
public import proofs.«01_k».proof.Proof.Gen.SsmDtDxReferenceIdeal.Run
public import proofs.«01_k».proof.Proof.Gen.SsmDtDxReferenceIdeal.Read
public import proofs.«01_k».proof.Proof.Gen.SsmXbcDw
public import proofs.«01_k».proof.Proof.Gen.SsmXbcDw.Frame
public import proofs.«01_k».proof.Proof.Gen.SsmXbcDwIdeal
public import proofs.«01_k».proof.Proof.Gen.SsmXbcDwIdeal.Frame
public import proofs.«01_k».proof.Proof.Gen.SsmXbcDwReferenceIdeal
public import proofs.«01_k».proof.Proof.Gen.SsmXbcDwReferenceIdeal.Run
public import proofs.«01_k».proof.Proof.Gen.SsmXbcDwReferenceIdeal.Read
public import proofs.«01_k».proof.Proof.Gen.SsmOut
public import proofs.«01_k».proof.Proof.Gen.SsmOut.Frame
public import proofs.«01_k».proof.Proof.Gen.SsmOutIdeal
public import proofs.«01_k».proof.Proof.Gen.SsmOutIdeal.Frame
public import proofs.«01_k».proof.Proof.Gen.SsmOutReferenceIdeal
public import proofs.«01_k».proof.Proof.Gen.SsmOutReferenceIdeal.Run
public import proofs.«01_k».proof.Proof.Gen.SsmOutReferenceIdeal.Read
public import proofs.«01_k».proof.Proof.Gen.AttnQ
public import proofs.«01_k».proof.Proof.Gen.AttnQ.Frame
public import proofs.«01_k».proof.Proof.Gen.AttnQIdeal
public import proofs.«01_k».proof.Proof.Gen.AttnQIdeal.Frame
public import proofs.«01_k».proof.Proof.Gen.AttnQReferenceIdeal
public import proofs.«01_k».proof.Proof.Gen.AttnQReferenceIdeal.Run
public import proofs.«01_k».proof.Proof.Gen.AttnQReferenceIdeal.Read
public import proofs.«01_k».proof.Proof.Gen.AttnOut
public import proofs.«01_k».proof.Proof.Gen.AttnOut.Frame
public import proofs.«01_k».proof.Proof.Gen.AttnOutIdeal
public import proofs.«01_k».proof.Proof.Gen.AttnOutIdeal.Frame
public import proofs.«01_k».proof.Proof.Gen.AttnOutReferenceIdeal
public import proofs.«01_k».proof.Proof.Gen.AttnOutReferenceIdeal.Run
public import proofs.«01_k».proof.Proof.Gen.AttnOutReferenceIdeal.Read
public import proofs.«01_k».proof.Proof.Gen.Kv
public import proofs.«01_k».proof.Proof.Gen.Kv.Frame
public import proofs.«01_k».proof.Proof.Gen.KvIdeal
public import proofs.«01_k».proof.Proof.Gen.KvIdeal.Frame
public import proofs.«01_k».proof.Proof.Gen.KvReferenceIdeal
public import proofs.«01_k».proof.Proof.Gen.KvReferenceIdeal.Run
public import proofs.«01_k».proof.Proof.Gen.KvReferenceIdeal.Read
public import proofs.«01_k».proof.Proof.Gen.PleGate
public import proofs.«01_k».proof.Proof.Gen.PleGate.Frame
public import proofs.«01_k».proof.Proof.Gen.PleGateIdeal
public import proofs.«01_k».proof.Proof.Gen.PleGateIdeal.Frame
public import proofs.«01_k».proof.Proof.Gen.PleGateReferenceIdeal
public import proofs.«01_k».proof.Proof.Gen.PleGateReferenceIdeal.Run
public import proofs.«01_k».proof.Proof.Gen.PleGateReferenceIdeal.Read
public import proofs.«01_k».proof.Proof.Gen.PleProj
public import proofs.«01_k».proof.Proof.Gen.PleProj.Frame
public import proofs.«01_k».proof.Proof.Gen.PleProjIdeal
public import proofs.«01_k».proof.Proof.Gen.PleProjIdeal.Frame
public import proofs.«01_k».proof.Proof.Gen.PleProjReferenceIdeal
public import proofs.«01_k».proof.Proof.Gen.PleProjReferenceIdeal.Run
public import proofs.«01_k».proof.Proof.Gen.PleProjReferenceIdeal.Read
public import proofs.«01_k».proof.Proof.Products
public import proofs.«01_k».proof.Proof.Gen.FfnNormBwd
public import proofs.«01_k».proof.Proof.Gen.FfnNormBwd.Frame
public import proofs.«01_k».proof.Proof.Gen.FfnNormBwdIdeal
public import proofs.«01_k».proof.Proof.Gen.FfnNormBwdIdeal.Frame
public import proofs.«01_k».proof.Proof.Gen.FfnNormBwdReferenceIdeal
public import proofs.«01_k».proof.Proof.Gen.FfnNormBwdReferenceIdeal.Run
public import proofs.«01_k».proof.Proof.Gen.FfnNormBwdReferenceIdeal.Read
public import proofs.«01_k».proof.Proof.Gen.GateNormBwd
public import proofs.«01_k».proof.Proof.Gen.GateNormBwd.Frame
public import proofs.«01_k».proof.Proof.Gen.GateNormBwdIdeal
public import proofs.«01_k».proof.Proof.Gen.GateNormBwdIdeal.Frame
public import proofs.«01_k».proof.Proof.Gen.GateNormBwdReferenceIdeal
public import proofs.«01_k».proof.Proof.Gen.GateNormBwdReferenceIdeal.Run
public import proofs.«01_k».proof.Proof.Gen.GateNormBwdReferenceIdeal.Read
public import proofs.«01_k».proof.Proof.Gen.KvNormBwd
public import proofs.«01_k».proof.Proof.Gen.KvNormBwd.Frame
public import proofs.«01_k».proof.Proof.Gen.KvNormBwdIdeal
public import proofs.«01_k».proof.Proof.Gen.KvNormBwdIdeal.Frame
public import proofs.«01_k».proof.Proof.Gen.KvNormBwdReferenceIdeal
public import proofs.«01_k».proof.Proof.Gen.KvNormBwdReferenceIdeal.Run
public import proofs.«01_k».proof.Proof.Gen.KvNormBwdReferenceIdeal.Read
public import proofs.«01_k».proof.Proof.Gen.SsmNormBwd
public import proofs.«01_k».proof.Proof.Gen.SsmNormBwd.Frame
public import proofs.«01_k».proof.Proof.Gen.SsmNormBwdIdeal
public import proofs.«01_k».proof.Proof.Gen.SsmNormBwdIdeal.Frame
public import proofs.«01_k».proof.Proof.Gen.SsmNormBwdReferenceIdeal
public import proofs.«01_k».proof.Proof.Gen.SsmNormBwdReferenceIdeal.Run
public import proofs.«01_k».proof.Proof.Gen.SsmNormBwdReferenceIdeal.Read
public import proofs.«01_k».proof.Proof.Gen.PleBwd
public import proofs.«01_k».proof.Proof.Gen.PleBwd.Frame
public import proofs.«01_k».proof.Proof.Gen.PleBwdIdeal
public import proofs.«01_k».proof.Proof.Gen.PleBwdIdeal.Frame
public import proofs.«01_k».proof.Proof.Gen.PleBwdReferenceIdeal
public import proofs.«01_k».proof.Proof.Gen.PleBwdReferenceIdeal.Run
public import proofs.«01_k».proof.Proof.Gen.PleBwdReferenceIdeal.Read
public import proofs.«01_k».proof.Proof.Gen.Ple
public import proofs.«01_k».proof.Proof.Gen.Ple.Frame
public import proofs.«01_k».proof.Proof.Gen.PleIdeal
public import proofs.«01_k».proof.Proof.Gen.PleIdeal.Frame
public import proofs.«01_k».proof.Proof.Gen.PleReferenceIdeal
public import proofs.«01_k».proof.Proof.Gen.PleReferenceIdeal.Run
public import proofs.«01_k».proof.Proof.Gen.PleReferenceIdeal.Read
public import proofs.«01_k».proof.Proof.Gen.Norm
public import proofs.«01_k».proof.Proof.Gen.Norm.Frame
public import proofs.«01_k».proof.Proof.Gen.NormIdeal
public import proofs.«01_k».proof.Proof.Gen.NormIdeal.Frame
public import proofs.«01_k».proof.Proof.Gen.NormReferenceIdeal
public import proofs.«01_k».proof.Proof.Gen.NormReferenceIdeal.Run
public import proofs.«01_k».proof.Proof.Gen.NormReferenceIdeal.Read
public import proofs.«01_k».proof.Proof.Norms
public import Idealize.ShloMosaic.Adequacy
public import Idealize.ShloMosaic.Init

@[expose] public section

set_option maxRecDepth 16384
set_option maxHeartbeats 4000000

noncomputable section

namespace Cert.Proof

open Idealize.ShloMosaic Idealize.SL.Sem

theorem frame_kernel : Cert.quiescent_Kernel (hKernel := Cert.Kernel.Gen.facts) := fun m ρ _ => by
  have h := Cert.KernelIdeal.Hand.frame_any (F := Bits) m ρ
  rw [← defs_same] at h
  exact h

theorem frame_kernelIdeal : Cert.quiescent_KernelIdeal (hKernelIdeal := Cert.KernelIdeal.Gen.facts) := fun m ρ _ =>
  Cert.KernelIdeal.Hand.frame_any m ρ

theorem frame_referenceIdeal : Cert.quiescent_ReferenceIdeal (hReferenceIdeal := Cert.ReferenceIdeal.Gen.facts) := fun m ρ _ =>
  (θ_run Cert.ReferenceIdeal.defs _ _).mono (fun r h => ⟨fun c => (h c).2.2.2, sem_eq_zero_of_no_sems (by decide) r.2⟩)
    (Cert.ReferenceIdeal.Value.run m ρ)

theorem frame_kernelIdeal_finite : Cert.quiescent_KernelIdeal_pre_finite_args (hKernelIdeal := Cert.KernelIdeal.Gen.facts) (hPre_finite_args := Cert.Finite.facts) :=
  fun m ρ _ => frame_kernelIdeal m ρ trivial

theorem frame_referenceIdeal_finite : Cert.quiescent_ReferenceIdeal_pre_finite_args (hReferenceIdeal := Cert.ReferenceIdeal.Gen.facts) (hPre_finite_args := Cert.Finite.facts) :=
  fun m ρ _ => frame_referenceIdeal m ρ trivial

/-- The kernel's results are the reference's. -/
theorem same_results : Cert.algebraic_KernelIdeal_ReferenceIdeal_pre_finite_args (hKernelIdeal := Cert.KernelIdeal.Gen.facts) (hReferenceIdeal := Cert.ReferenceIdeal.Gen.facts)
    (hPre_finite_args := Cert.Finite.facts) := fun m g m' g' hpre hagree => by
  letI : Cert.Pre_finite_args.Facts := Cert.Finite.facts
  have hf := fun c i => congrFun (hpre c) i
  refine ⟨fun c => Cert.ReferenceIdeal.Read.val_main_v52 (F := Ideal) (m (c.tc.loc Cert.KernelIdeal.main_arg0)) (m (c.tc.loc Cert.KernelIdeal.main_arg1)) (m (c.tc.loc Cert.KernelIdeal.main_arg2)),
    fun c => Cert.ReferenceIdeal.Read.val_main_v53 (F := Ideal) (m (c.tc.loc Cert.KernelIdeal.main_arg0)) (m (c.tc.loc Cert.KernelIdeal.main_arg1)) (m (c.tc.loc Cert.KernelIdeal.main_arg2)),
    fun c => Cert.ReferenceIdeal.Read.val_main_v54 (F := Ideal) (m (c.tc.loc Cert.KernelIdeal.main_arg0)) (m (c.tc.loc Cert.KernelIdeal.main_arg1)) (m (c.tc.loc Cert.KernelIdeal.main_arg2)),
    ?_, ?_⟩
  · refine (θ_run Cert.KernelIdeal.defs _ _).mono (fun r h c => ?_) (Idealize.ShloMosaic.θ_run_and (Cert.KernelIdeal.Hand.run_post m g) (Cert.KernelIdeal.Hand.frame_any m g))
    obtain ⟨h1, h2⟩ := h
    exact ⟨((h1 c).1 6).trans (Cert.KernelIdeal.Hand.result_queries (Cert.Finite.args_q (hf c)) (Cert.Finite.args_k (hf c)) (Cert.Finite.args_v (hf c)) (Cert.Finite.args_o (hf c))),
      ((h1 c).1 7).trans (Cert.KernelIdeal.Hand.result_keys (Cert.Finite.args_q (hf c)) (Cert.Finite.args_k (hf c)) (Cert.Finite.args_v (hf c)) (Cert.Finite.args_o (hf c))),
      ((h1 c).1 8).trans (Cert.KernelIdeal.Hand.result_values (Cert.Finite.args_q (hf c)) (Cert.Finite.args_k (hf c)) (Cert.Finite.args_v (hf c)) (Cert.Finite.args_o (hf c))),
      h2.1 c⟩
  · refine (θ_run Cert.ReferenceIdeal.defs _ _).mono (fun r h c => ?_) (Cert.ReferenceIdeal.Value.run m' g')
    obtain ⟨h52, h53, h54, ha⟩ := h c
    obtain ⟨e0, e1, e2⟩ := hagree c
    refine ⟨h52.trans ?_, h53.trans ?_, h54.trans ?_, ha⟩
    · rw [Cert.ReferenceIdeal.Read.val_main_v52_eq, e0, e1, e2]
    · rw [Cert.ReferenceIdeal.Read.val_main_v53_eq, e0, e1, e2]
    · rw [Cert.ReferenceIdeal.Read.val_main_v54_eq, e0, e1, e2]

theorem claim : Cert.Claim := ⟨Cert.Kernel.Gen.facts, Cert.KernelIdeal.Gen.facts, Cert.ReferenceIdeal.Gen.facts,
  Cert.DownDw.Gen.facts, Cert.DownDwIdeal.Gen.facts, Cert.DownDwReferenceIdeal.Gen.facts,
  Cert.DownDx.Gen.facts, Cert.DownDxIdeal.Gen.facts, Cert.DownDxReferenceIdeal.Gen.facts,
  Cert.UpDw.Gen.facts, Cert.UpDwIdeal.Gen.facts, Cert.UpDwReferenceIdeal.Gen.facts,
  Cert.UpDx.Gen.facts, Cert.UpDxIdeal.Gen.facts, Cert.UpDxReferenceIdeal.Gen.facts,
  Cert.Up.Gen.facts, Cert.UpIdeal.Gen.facts, Cert.UpReferenceIdeal.Gen.facts,
  Cert.Down.Gen.facts, Cert.DownIdeal.Gen.facts, Cert.DownReferenceIdeal.Gen.facts,
  Cert.SquareDw.Gen.facts, Cert.SquareDwIdeal.Gen.facts, Cert.SquareDwReferenceIdeal.Gen.facts,
  Cert.KvDw.Gen.facts, Cert.KvDwIdeal.Gen.facts, Cert.KvDwReferenceIdeal.Gen.facts,
  Cert.PleProjDw.Gen.facts, Cert.PleProjDwIdeal.Gen.facts, Cert.PleProjDwReferenceIdeal.Gen.facts,
  Cert.AttnOutDx.Gen.facts, Cert.AttnOutDxIdeal.Gen.facts, Cert.AttnOutDxReferenceIdeal.Gen.facts,
  Cert.SsmOutDw.Gen.facts, Cert.SsmOutDwIdeal.Gen.facts, Cert.SsmOutDwReferenceIdeal.Gen.facts,
  Cert.SsmOutDx.Gen.facts, Cert.SsmOutDxIdeal.Gen.facts, Cert.SsmOutDxReferenceIdeal.Gen.facts,
  Cert.SsmZDw.Gen.facts, Cert.SsmZDwIdeal.Gen.facts, Cert.SsmZDwReferenceIdeal.Gen.facts,
  Cert.SsmZDx.Gen.facts, Cert.SsmZDxIdeal.Gen.facts, Cert.SsmZDxReferenceIdeal.Gen.facts,
  Cert.SsmDtDw.Gen.facts, Cert.SsmDtDwIdeal.Gen.facts, Cert.SsmDtDwReferenceIdeal.Gen.facts,
  Cert.SsmDtDx.Gen.facts, Cert.SsmDtDxIdeal.Gen.facts, Cert.SsmDtDxReferenceIdeal.Gen.facts,
  Cert.SsmXbcDw.Gen.facts, Cert.SsmXbcDwIdeal.Gen.facts, Cert.SsmXbcDwReferenceIdeal.Gen.facts,
  Cert.SsmOut.Gen.facts, Cert.SsmOutIdeal.Gen.facts, Cert.SsmOutReferenceIdeal.Gen.facts,
  Cert.AttnQ.Gen.facts, Cert.AttnQIdeal.Gen.facts, Cert.AttnQReferenceIdeal.Gen.facts,
  Cert.AttnOut.Gen.facts, Cert.AttnOutIdeal.Gen.facts, Cert.AttnOutReferenceIdeal.Gen.facts,
  Cert.Kv.Gen.facts, Cert.KvIdeal.Gen.facts, Cert.KvReferenceIdeal.Gen.facts,
  Cert.PleGate.Gen.facts, Cert.PleGateIdeal.Gen.facts, Cert.PleGateReferenceIdeal.Gen.facts,
  Cert.PleProj.Gen.facts, Cert.PleProjIdeal.Gen.facts, Cert.PleProjReferenceIdeal.Gen.facts,
  Cert.FfnNormBwd.Gen.facts, Cert.FfnNormBwdIdeal.Gen.facts, Cert.FfnNormBwdReferenceIdeal.Gen.facts,
  Cert.GateNormBwd.Gen.facts, Cert.GateNormBwdIdeal.Gen.facts, Cert.GateNormBwdReferenceIdeal.Gen.facts,
  Cert.KvNormBwd.Gen.facts, Cert.KvNormBwdIdeal.Gen.facts, Cert.KvNormBwdReferenceIdeal.Gen.facts,
  Cert.SsmNormBwd.Gen.facts, Cert.SsmNormBwdIdeal.Gen.facts, Cert.SsmNormBwdReferenceIdeal.Gen.facts,
  Cert.PleBwd.Gen.facts, Cert.PleBwdIdeal.Gen.facts, Cert.PleBwdReferenceIdeal.Gen.facts,
  Cert.Ple.Gen.facts, Cert.PleIdeal.Gen.facts, Cert.PleReferenceIdeal.Gen.facts,
  Cert.Norm.Gen.facts, Cert.NormIdeal.Gen.facts, Cert.NormReferenceIdeal.Gen.facts,
  Cert.Finite.facts,
  frame_kernel, frame_kernelIdeal, frame_kernelIdeal_finite, frame_referenceIdeal, frame_referenceIdeal_finite,
  fun m ρ _ => Cert.DownDw.Gen.frame m ρ, fun m ρ _ => Cert.DownDwIdeal.Gen.frame m ρ, downDw_reference,
  fun m ρ _ => Cert.DownDx.Gen.frame m ρ, fun m ρ _ => Cert.DownDxIdeal.Gen.frame m ρ, downDx_reference,
  fun m ρ _ => Cert.UpDw.Gen.frame m ρ, fun m ρ _ => Cert.UpDwIdeal.Gen.frame m ρ, upDw_reference,
  fun m ρ _ => Cert.UpDx.Gen.frame m ρ, fun m ρ _ => Cert.UpDxIdeal.Gen.frame m ρ, upDx_reference,
  fun m ρ _ => Cert.Up.Gen.frame m ρ, fun m ρ _ => Cert.UpIdeal.Gen.frame m ρ, up_reference,
  fun m ρ _ => Cert.Down.Gen.frame m ρ, fun m ρ _ => Cert.DownIdeal.Gen.frame m ρ, down_reference,
  fun m ρ _ => Cert.SquareDw.Gen.frame m ρ, fun m ρ _ => Cert.SquareDwIdeal.Gen.frame m ρ, squareDw_reference,
  fun m ρ _ => Cert.KvDw.Gen.frame m ρ, fun m ρ _ => Cert.KvDwIdeal.Gen.frame m ρ, kvDw_reference,
  fun m ρ _ => Cert.PleProjDw.Gen.frame m ρ, fun m ρ _ => Cert.PleProjDwIdeal.Gen.frame m ρ, pleProjDw_reference,
  fun m ρ _ => Cert.AttnOutDx.Gen.frame m ρ, fun m ρ _ => Cert.AttnOutDxIdeal.Gen.frame m ρ, attnOutDx_reference,
  fun m ρ _ => Cert.SsmOutDw.Gen.frame m ρ, fun m ρ _ => Cert.SsmOutDwIdeal.Gen.frame m ρ, ssmOutDw_reference,
  fun m ρ _ => Cert.SsmOutDx.Gen.frame m ρ, fun m ρ _ => Cert.SsmOutDxIdeal.Gen.frame m ρ, ssmOutDx_reference,
  fun m ρ _ => Cert.SsmZDw.Gen.frame m ρ, fun m ρ _ => Cert.SsmZDwIdeal.Gen.frame m ρ, ssmZDw_reference,
  fun m ρ _ => Cert.SsmZDx.Gen.frame m ρ, fun m ρ _ => Cert.SsmZDxIdeal.Gen.frame m ρ, ssmZDx_reference,
  fun m ρ _ => Cert.SsmDtDw.Gen.frame m ρ, fun m ρ _ => Cert.SsmDtDwIdeal.Gen.frame m ρ, ssmDtDw_reference,
  fun m ρ _ => Cert.SsmDtDx.Gen.frame m ρ, fun m ρ _ => Cert.SsmDtDxIdeal.Gen.frame m ρ, ssmDtDx_reference,
  fun m ρ _ => Cert.SsmXbcDw.Gen.frame m ρ, fun m ρ _ => Cert.SsmXbcDwIdeal.Gen.frame m ρ, ssmXbcDw_reference,
  fun m ρ _ => Cert.SsmOut.Gen.frame m ρ, fun m ρ _ => Cert.SsmOutIdeal.Gen.frame m ρ, ssmOut_reference,
  fun m ρ _ => Cert.AttnQ.Gen.frame m ρ, fun m ρ _ => Cert.AttnQIdeal.Gen.frame m ρ, attnQ_reference,
  fun m ρ _ => Cert.AttnOut.Gen.frame m ρ, fun m ρ _ => Cert.AttnOutIdeal.Gen.frame m ρ, attnOut_reference,
  fun m ρ _ => Cert.Kv.Gen.frame m ρ, fun m ρ _ => Cert.KvIdeal.Gen.frame m ρ, kv_reference,
  fun m ρ _ => Cert.PleGate.Gen.frame m ρ, fun m ρ _ => Cert.PleGateIdeal.Gen.frame m ρ, pleGate_reference,
  fun m ρ _ => Cert.PleProj.Gen.frame m ρ, fun m ρ _ => Cert.PleProjIdeal.Gen.frame m ρ, pleProj_reference,
  fun m ρ _ => Cert.FfnNormBwd.Gen.frame m ρ, fun m ρ _ => Cert.FfnNormBwdIdeal.Gen.frame m ρ, ffnNormBwd_reference,
  fun m ρ _ => Cert.GateNormBwd.Gen.frame m ρ, fun m ρ _ => Cert.GateNormBwdIdeal.Gen.frame m ρ, gateNormBwd_reference,
  fun m ρ _ => Cert.KvNormBwd.Gen.frame m ρ, fun m ρ _ => Cert.KvNormBwdIdeal.Gen.frame m ρ, kvNormBwd_reference,
  fun m ρ _ => Cert.SsmNormBwd.Gen.frame m ρ, fun m ρ _ => Cert.SsmNormBwdIdeal.Gen.frame m ρ, ssmNormBwd_reference,
  fun m ρ _ => Cert.PleBwd.Gen.frame m ρ, fun m ρ _ => Cert.PleBwdIdeal.Gen.frame m ρ, pleBwd_reference,
  fun m ρ _ => Cert.Ple.Gen.frame m ρ, fun m ρ _ => Cert.PleIdeal.Gen.frame m ρ, ple_reference,
  fun m ρ _ => Cert.Norm.Gen.frame m ρ, fun m ρ _ => Cert.NormIdeal.Gen.frame m ρ, norm_reference,
  trivial, same_results, trivial, downDw_same,
  trivial, downDx_same, trivial, upDw_same,
  trivial, upDx_same, trivial, up_same,
  trivial, down_same, trivial, squareDw_same,
  trivial, kvDw_same, trivial, pleProjDw_same,
  trivial, attnOutDx_same, trivial, ssmOutDw_same,
  trivial, ssmOutDx_same, trivial, ssmZDw_same,
  trivial, ssmZDx_same, trivial, ssmDtDw_same,
  trivial, ssmDtDx_same, trivial, ssmXbcDw_same,
  trivial, ssmOut_same, trivial, attnQ_same,
  trivial, attnOut_same, trivial, kv_same,
  trivial, pleGate_same, trivial, pleProj_same,
  trivial, ffnNormBwd_same, trivial, gateNormBwd_same,
  trivial, kvNormBwd_same, trivial, ssmNormBwd_same,
  trivial, pleBwd_same, trivial, ple_same,
  trivial, norm_same⟩

end Cert.Proof

end
